-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_attn [hPre_finite_attn : Cert.Pre_finite_attn.Facts] (m : (ℓ : Loc Cert.KernelIdeal.nD Cert.KernelIdeal.τ Cert.KernelIdeal.sig) → Buf (Elt Ideal) ℓ) : Prop :=
  ∀ c : Dev Cert.KernelIdeal.nD,
    (Cert.Pre_finite_attn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_attn [hPre_finite_attn : Cert.Pre_finite_attn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_attn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_finite_dx [hPre_finite_dx : Cert.Pre_finite_dx.Facts] (m : (ℓ : Loc Cert.DxIdeal.nD Cert.DxIdeal.τ Cert.DxIdeal.sig) → Buf (Elt Ideal) ℓ) : Prop :=
  ∀ c : Dev Cert.DxIdeal.nD,
    (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4))) = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_finite_dx [hPre_finite_dx : Cert.Pre_finite_dx.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Nn (m : (ℓ : Loc Cert.Nn.nD Cert.Nn.τ Cert.Nn.sig) → Buf (Elt Bits) ℓ) : Prop :=
  True

def Pre_NnIdeal (m : (ℓ : Loc Cert.NnIdeal.nD Cert.NnIdeal.τ Cert.NnIdeal.sig) → Buf (Elt Ideal) ℓ) : Prop :=
  True

def Pre_NnRefIdeal (m : (ℓ : Loc Cert.NnRefIdeal.nD Cert.NnRefIdeal.τ Cert.NnRefIdeal.sig) → Buf (Elt Ideal) ℓ) : Prop :=
  True

def Pre_Nt (m : (ℓ : Loc Cert.Nt.nD Cert.Nt.τ Cert.Nt.sig) → Buf (Elt Bits) ℓ) : Prop :=
  True

def Pre_NtIdeal (m : (ℓ : Loc Cert.NtIdeal.nD Cert.NtIdeal.τ Cert.NtIdeal.sig) → Buf (Elt Ideal) ℓ) : Prop :=
  True

def Pre_NtRefIdeal (m : (ℓ : Loc Cert.NtRefIdeal.nD Cert.NtRefIdeal.τ Cert.NtRefIdeal.sig) → Buf (Elt Ideal) ℓ) : Prop :=
  True

def Pre_Sq (m : (ℓ : Loc Cert.Sq.nD Cert.Sq.τ Cert.Sq.sig) → Buf (Elt Bits) ℓ) : Prop :=
  True

def Pre_SqIdeal (m : (ℓ : Loc Cert.SqIdeal.nD Cert.SqIdeal.τ Cert.SqIdeal.sig) → Buf (Elt Ideal) ℓ) : Prop :=
  True

def Pre_SqRefIdeal (m : (ℓ : Loc Cert.SqRefIdeal.nD Cert.SqRefIdeal.τ Cert.SqRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Xf (m : (ℓ : Loc Cert.Xf.nD Cert.Xf.τ Cert.Xf.sig) → Buf (Elt Bits) ℓ) : Prop :=
  True

def Pre_XfIdeal (m : (ℓ : Loc Cert.XfIdeal.nD Cert.XfIdeal.τ Cert.XfIdeal.sig) → Buf (Elt Ideal) ℓ) : Prop :=
  True

def Pre_XfIdeal_finite_xf [hPre_finite_xf : Cert.Pre_finite_xf.Facts] (m : (ℓ : Loc Cert.XfIdeal.nD Cert.XfIdeal.τ Cert.XfIdeal.sig) → Buf (Elt Ideal) ℓ) : Prop :=
  ∀ c : Dev Cert.XfIdeal.nD,
    (Cert.Pre_finite_xf.fn (F := Ideal) (m ((c.tc : Thread Cert.XfIdeal.nD Cert.XfIdeal.τ).loc Cert.XfIdeal.main_arg0)) (m ((c.tc : Thread Cert.XfIdeal.nD Cert.XfIdeal.τ).loc Cert.XfIdeal.main_arg1)) (m ((c.tc : Thread Cert.XfIdeal.nD Cert.XfIdeal.τ).loc Cert.XfIdeal.main_arg2)) (m ((c.tc : Thread Cert.XfIdeal.nD Cert.XfIdeal.τ).loc Cert.XfIdeal.main_arg3))) = (fun _ => 1#1)

def Pre_XfRefIdeal (m : (ℓ : Loc Cert.XfRefIdeal.nD Cert.XfRefIdeal.τ Cert.XfRefIdeal.sig) → Buf (Elt Ideal) ℓ) : Prop :=
  True

def Pre_XfRefIdeal_finite_xf [hPre_finite_xf : Cert.Pre_finite_xf.Facts] (m : (ℓ : Loc Cert.XfRefIdeal.nD Cert.XfRefIdeal.τ Cert.XfRefIdeal.sig) → Buf (Elt Ideal) ℓ) : Prop :=
  ∀ c : Dev Cert.XfRefIdeal.nD,
    (Cert.Pre_finite_xf.fn (F := Ideal) (m ((c.tc : Thread Cert.XfRefIdeal.nD Cert.XfRefIdeal.τ).loc Cert.XfRefIdeal.main_arg0)) (m ((c.tc : Thread Cert.XfRefIdeal.nD Cert.XfRefIdeal.τ).loc Cert.XfRefIdeal.main_arg1)) (m ((c.tc : Thread Cert.XfRefIdeal.nD Cert.XfRefIdeal.τ).loc Cert.XfRefIdeal.main_arg2)) (m ((c.tc : Thread Cert.XfRefIdeal.nD Cert.XfRefIdeal.τ).loc Cert.XfRefIdeal.main_arg3))) = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_swa [hPre_finite_swa : Cert.Pre_finite_swa.Facts] (m : (ℓ : Loc Cert.SwaIdeal.nD Cert.SwaIdeal.τ Cert.SwaIdeal.sig) → Buf (Elt Ideal) ℓ) : Prop :=
  ∀ c : Dev Cert.SwaIdeal.nD,
    (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_swa [hPre_finite_swa : Cert.Pre_finite_swa.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))) = (fun _ => 1#1)

def Pre_TnEv (m : (ℓ : Loc Cert.TnEv.nD Cert.TnEv.τ Cert.TnEv.sig) → Buf (Elt Bits) ℓ) : Prop :=
  True

def Pre_TnEvIdeal (m : (ℓ : Loc Cert.TnEvIdeal.nD Cert.TnEvIdeal.τ Cert.TnEvIdeal.sig) → Buf (Elt Ideal) ℓ) : Prop :=
  True

def Pre_TnEvRefIdeal (m : (ℓ : Loc Cert.TnEvRefIdeal.nD Cert.TnEvRefIdeal.τ Cert.TnEvRefIdeal.sig) → Buf (Elt Ideal) ℓ) : Prop :=
  True

def Pre_TnOd (m : (ℓ : Loc Cert.TnOd.nD Cert.TnOd.τ Cert.TnOd.sig) → Buf (Elt Bits) ℓ) : Prop :=
  True

def Pre_TnOdIdeal (m : (ℓ : Loc Cert.TnOdIdeal.nD Cert.TnOdIdeal.τ Cert.TnOdIdeal.sig) → Buf (Elt Ideal) ℓ) : Prop :=
  True

def Pre_TnOdRefIdeal (m : (ℓ : Loc Cert.TnOdRefIdeal.nD Cert.TnOdRefIdeal.τ Cert.TnOdRefIdeal.sig) → Buf (Elt Ideal) ℓ) : Prop :=
  True

def Pre_TnQ (m : (ℓ : Loc Cert.TnQ.nD Cert.TnQ.τ Cert.TnQ.sig) → Buf (Elt Bits) ℓ) : Prop :=
  True

def Pre_TnQIdeal (m : (ℓ : Loc Cert.TnQIdeal.nD Cert.TnQIdeal.τ Cert.TnQIdeal.sig) → Buf (Elt Ideal) ℓ) : Prop :=
  True

def Pre_TnQRefIdeal (m : (ℓ : Loc Cert.TnQRefIdeal.nD Cert.TnQRefIdeal.τ Cert.TnQRefIdeal.sig) → Buf (Elt Ideal) ℓ) : Prop :=
  True

def Pre_TnKv (m : (ℓ : Loc Cert.TnKv.nD Cert.TnKv.τ Cert.TnKv.sig) → Buf (Elt Bits) ℓ) : Prop :=
  True

def Pre_TnKvIdeal (m : (ℓ : Loc Cert.TnKvIdeal.nD Cert.TnKvIdeal.τ Cert.TnKvIdeal.sig) → Buf (Elt Ideal) ℓ) : Prop :=
  True

def Pre_TnKvRefIdeal (m : (ℓ : Loc Cert.TnKvRefIdeal.nD Cert.TnKvRefIdeal.τ Cert.TnKvRefIdeal.sig) → Buf (Elt Ideal) ℓ) : Prop :=
  True

def Pre_NbEv (m : (ℓ : Loc Cert.NbEv.nD Cert.NbEv.τ Cert.NbEv.sig) → Buf (Elt Bits) ℓ) : Prop :=
  True

def Pre_NbEvIdeal (m : (ℓ : Loc Cert.NbEvIdeal.nD Cert.NbEvIdeal.τ Cert.NbEvIdeal.sig) → Buf (Elt Ideal) ℓ) : Prop :=
  True

def Pre_NbEvIdeal_finite_nbev [hPre_finite_nbev : Cert.Pre_finite_nbev.Facts] (m : (ℓ : Loc Cert.NbEvIdeal.nD Cert.NbEvIdeal.τ Cert.NbEvIdeal.sig) → Buf (Elt Ideal) ℓ) : Prop :=
  ∀ c : Dev Cert.NbEvIdeal.nD,
    (Cert.Pre_finite_nbev.fn (F := Ideal) (m ((c.tc : Thread Cert.NbEvIdeal.nD Cert.NbEvIdeal.τ).loc Cert.NbEvIdeal.main_arg0)) (m ((c.tc : Thread Cert.NbEvIdeal.nD Cert.NbEvIdeal.τ).loc Cert.NbEvIdeal.main_arg1)) (m ((c.tc : Thread Cert.NbEvIdeal.nD Cert.NbEvIdeal.τ).loc Cert.NbEvIdeal.main_arg2)) (m ((c.tc : Thread Cert.NbEvIdeal.nD Cert.NbEvIdeal.τ).loc Cert.NbEvIdeal.main_arg3)) (m ((c.tc : Thread Cert.NbEvIdeal.nD Cert.NbEvIdeal.τ).loc Cert.NbEvIdeal.main_arg4))) = (fun _ => 1#1)

def Pre_NbEvRefIdeal (m : (ℓ : Loc Cert.NbEvRefIdeal.nD Cert.NbEvRefIdeal.τ Cert.NbEvRefIdeal.sig) → Buf (Elt Ideal) ℓ) : Prop :=
  True

def Pre_NbEvRefIdeal_finite_nbev [hPre_finite_nbev : Cert.Pre_finite_nbev.Facts] (m : (ℓ : Loc Cert.NbEvRefIdeal.nD Cert.NbEvRefIdeal.τ Cert.NbEvRefIdeal.sig) → Buf (Elt Ideal) ℓ) : Prop :=
  ∀ c : Dev Cert.NbEvRefIdeal.nD,
    (Cert.Pre_finite_nbev.fn (F := Ideal) (m ((c.tc : Thread Cert.NbEvRefIdeal.nD Cert.NbEvRefIdeal.τ).loc Cert.NbEvRefIdeal.main_arg0)) (m ((c.tc : Thread Cert.NbEvRefIdeal.nD Cert.NbEvRefIdeal.τ).loc Cert.NbEvRefIdeal.main_arg1)) (m ((c.tc : Thread Cert.NbEvRefIdeal.nD Cert.NbEvRefIdeal.τ).loc Cert.NbEvRefIdeal.main_arg2)) (m ((c.tc : Thread Cert.NbEvRefIdeal.nD Cert.NbEvRefIdeal.τ).loc Cert.NbEvRefIdeal.main_arg3)) (m ((c.tc : Thread Cert.NbEvRefIdeal.nD Cert.NbEvRefIdeal.τ).loc Cert.NbEvRefIdeal.main_arg4))) = (fun _ => 1#1)

def Pre_NbOd (m : (ℓ : Loc Cert.NbOd.nD Cert.NbOd.τ Cert.NbOd.sig) → Buf (Elt Bits) ℓ) : Prop :=
  True

def Pre_NbOdIdeal (m : (ℓ : Loc Cert.NbOdIdeal.nD Cert.NbOdIdeal.τ Cert.NbOdIdeal.sig) → Buf (Elt Ideal) ℓ) : Prop :=
  True

def Pre_NbOdIdeal_finite_nbod [hPre_finite_nbod : Cert.Pre_finite_nbod.Facts] (m : (ℓ : Loc Cert.NbOdIdeal.nD Cert.NbOdIdeal.τ Cert.NbOdIdeal.sig) → Buf (Elt Ideal) ℓ) : Prop :=
  ∀ c : Dev Cert.NbOdIdeal.nD,
    (Cert.Pre_finite_nbod.fn (F := Ideal) (m ((c.tc : Thread Cert.NbOdIdeal.nD Cert.NbOdIdeal.τ).loc Cert.NbOdIdeal.main_arg0)) (m ((c.tc : Thread Cert.NbOdIdeal.nD Cert.NbOdIdeal.τ).loc Cert.NbOdIdeal.main_arg1)) (m ((c.tc : Thread Cert.NbOdIdeal.nD Cert.NbOdIdeal.τ).loc Cert.NbOdIdeal.main_arg2)) (m ((c.tc : Thread Cert.NbOdIdeal.nD Cert.NbOdIdeal.τ).loc Cert.NbOdIdeal.main_arg3)) (m ((c.tc : Thread Cert.NbOdIdeal.nD Cert.NbOdIdeal.τ).loc Cert.NbOdIdeal.main_arg4))) = (fun _ => 1#1)

def Pre_NbOdRefIdeal (m : (ℓ : Loc Cert.NbOdRefIdeal.nD Cert.NbOdRefIdeal.τ Cert.NbOdRefIdeal.sig) → Buf (Elt Ideal) ℓ) : Prop :=
  True

def Pre_NbOdRefIdeal_finite_nbod [hPre_finite_nbod : Cert.Pre_finite_nbod.Facts] (m : (ℓ : Loc Cert.NbOdRefIdeal.nD Cert.NbOdRefIdeal.τ Cert.NbOdRefIdeal.sig) → Buf (Elt Ideal) ℓ) : Prop :=
  ∀ c : Dev Cert.NbOdRefIdeal.nD,
    (Cert.Pre_finite_nbod.fn (F := Ideal) (m ((c.tc : Thread Cert.NbOdRefIdeal.nD Cert.NbOdRefIdeal.τ).loc Cert.NbOdRefIdeal.main_arg0)) (m ((c.tc : Thread Cert.NbOdRefIdeal.nD Cert.NbOdRefIdeal.τ).loc Cert.NbOdRefIdeal.main_arg1)) (m ((c.tc : Thread Cert.NbOdRefIdeal.nD Cert.NbOdRefIdeal.τ).loc Cert.NbOdRefIdeal.main_arg2)) (m ((c.tc : Thread Cert.NbOdRefIdeal.nD Cert.NbOdRefIdeal.τ).loc Cert.NbOdRefIdeal.main_arg3)) (m ((c.tc : Thread Cert.NbOdRefIdeal.nD Cert.NbOdRefIdeal.τ).loc Cert.NbOdRefIdeal.main_arg4))) = (fun _ => 1#1)

def Pre_NbXa (m : (ℓ : Loc Cert.NbXa.nD Cert.NbXa.τ Cert.NbXa.sig) → Buf (Elt Bits) ℓ) : Prop :=
  True

def Pre_NbXaIdeal (m : (ℓ : Loc Cert.NbXaIdeal.nD Cert.NbXaIdeal.τ Cert.NbXaIdeal.sig) → Buf (Elt Ideal) ℓ) : Prop :=
  True

def Pre_NbXaIdeal_finite_nbxa [hPre_finite_nbxa : Cert.Pre_finite_nbxa.Facts] (m : (ℓ : Loc Cert.NbXaIdeal.nD Cert.NbXaIdeal.τ Cert.NbXaIdeal.sig) → Buf (Elt Ideal) ℓ) : Prop :=
  ∀ c : Dev Cert.NbXaIdeal.nD,
    (Cert.Pre_finite_nbxa.fn (F := Ideal) (m ((c.tc : Thread Cert.NbXaIdeal.nD Cert.NbXaIdeal.τ).loc Cert.NbXaIdeal.main_arg0)) (m ((c.tc : Thread Cert.NbXaIdeal.nD Cert.NbXaIdeal.τ).loc Cert.NbXaIdeal.main_arg1)) (m ((c.tc : Thread Cert.NbXaIdeal.nD Cert.NbXaIdeal.τ).loc Cert.NbXaIdeal.main_arg2)) (m ((c.tc : Thread Cert.NbXaIdeal.nD Cert.NbXaIdeal.τ).loc Cert.NbXaIdeal.main_arg3)) (m ((c.tc : Thread Cert.NbXaIdeal.nD Cert.NbXaIdeal.τ).loc Cert.NbXaIdeal.main_arg4))) = (fun _ => 1#1)

def Pre_NbXaRefIdeal (m : (ℓ : Loc Cert.NbXaRefIdeal.nD Cert.NbXaRefIdeal.τ Cert.NbXaRefIdeal.sig) → Buf (Elt Ideal) ℓ) : Prop :=
  True

def Pre_NbXaRefIdeal_finite_nbxa [hPre_finite_nbxa : Cert.Pre_finite_nbxa.Facts] (m : (ℓ : Loc Cert.NbXaRefIdeal.nD Cert.NbXaRefIdeal.τ Cert.NbXaRefIdeal.sig) → Buf (Elt Ideal) ℓ) : Prop :=
  ∀ c : Dev Cert.NbXaRefIdeal.nD,
    (Cert.Pre_finite_nbxa.fn (F := Ideal) (m ((c.tc : Thread Cert.NbXaRefIdeal.nD Cert.NbXaRefIdeal.τ).loc Cert.NbXaRefIdeal.main_arg0)) (m ((c.tc : Thread Cert.NbXaRefIdeal.nD Cert.NbXaRefIdeal.τ).loc Cert.NbXaRefIdeal.main_arg1)) (m ((c.tc : Thread Cert.NbXaRefIdeal.nD Cert.NbXaRefIdeal.τ).loc Cert.NbXaRefIdeal.main_arg2)) (m ((c.tc : Thread Cert.NbXaRefIdeal.nD Cert.NbXaRefIdeal.τ).loc Cert.NbXaRefIdeal.main_arg3)) (m ((c.tc : Thread Cert.NbXaRefIdeal.nD Cert.NbXaRefIdeal.τ).loc Cert.NbXaRefIdeal.main_arg4))) = (fun _ => 1#1)

def Pre_NbMem (m : (ℓ : Loc Cert.NbMem.nD Cert.NbMem.τ Cert.NbMem.sig) → Buf (Elt Bits) ℓ) : Prop :=
  True

def Pre_NbMemIdeal (m : (ℓ : Loc Cert.NbMemIdeal.nD Cert.NbMemIdeal.τ Cert.NbMemIdeal.sig) → Buf (Elt Ideal) ℓ) : Prop :=
  True

def Pre_NbMemRefIdeal (m : (ℓ : Loc Cert.NbMemRefIdeal.nD Cert.NbMemRefIdeal.τ Cert.NbMemRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamEvIn (m : (ℓ : Loc Cert.AdamEvIn.nD Cert.AdamEvIn.τ Cert.AdamEvIn.sig) → Buf (Elt Bits) ℓ) : Prop :=
  True

def Pre_AdamEvInIdeal (m : (ℓ : Loc Cert.AdamEvInIdeal.nD Cert.AdamEvInIdeal.τ Cert.AdamEvInIdeal.sig) → Buf (Elt Ideal) ℓ) : Prop :=
  True

def Pre_AdamEvInRefIdeal (m : (ℓ : Loc Cert.AdamEvInRefIdeal.nD Cert.AdamEvInRefIdeal.τ Cert.AdamEvInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamOdIn (m : (ℓ : Loc Cert.AdamOdIn.nD Cert.AdamOdIn.τ Cert.AdamOdIn.sig) → Buf (Elt Bits) ℓ) : Prop :=
  True

def Pre_AdamOdInIdeal (m : (ℓ : Loc Cert.AdamOdInIdeal.nD Cert.AdamOdInIdeal.τ Cert.AdamOdInIdeal.sig) → Buf (Elt Ideal) ℓ) : Prop :=
  True

def Pre_AdamOdInRefIdeal (m : (ℓ : Loc Cert.AdamOdInRefIdeal.nD Cert.AdamOdInRefIdeal.τ Cert.AdamOdInRefIdeal.sig) → Buf (Elt Ideal) ℓ) : Prop :=
  True

def Pre_AdamXa (m : (ℓ : Loc Cert.AdamXa.nD Cert.AdamXa.τ Cert.AdamXa.sig) → Buf (Elt Bits) ℓ) : Prop :=
  True

def Pre_AdamXaIdeal (m : (ℓ : Loc Cert.AdamXaIdeal.nD Cert.AdamXaIdeal.τ Cert.AdamXaIdeal.sig) → Buf (Elt Ideal) ℓ) : Prop :=
  True

def Pre_AdamXaRefIdeal (m : (ℓ : Loc Cert.AdamXaRefIdeal.nD Cert.AdamXaRefIdeal.τ Cert.AdamXaRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_attn [hKernelIdeal : Cert.KernelIdeal.Facts] [hPre_finite_attn : Cert.Pre_finite_attn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_attn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_attn [hReferenceIdeal : Cert.ReferenceIdeal.Facts] [hPre_finite_attn : Cert.Pre_finite_attn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_attn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxIdeal_pre_finite_dx [hDxIdeal : Cert.DxIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg), Pre_DxIdeal_finite_dx m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_DxRefIdeal_pre_finite_dx [hDxRefIdeal : Cert.DxRefIdeal.Facts] [hPre_finite_dx : Cert.Pre_finite_dx.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_finite_dx m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Nn [hNn : Cert.Nn.Facts] : Prop :=
  ∀ (m : (ℓ : Loc Cert.Nn.nD Cert.Nn.τ Cert.Nn.sig) → Buf (Elt Bits) ℓ) (g : Dev Cert.Nn.nD → PrngReg), Pre_Nn m →
    θ_run (Cert.Nn.defs (F := Bits)) (onTc (τ := Cert.Nn.τ) (Cert.Nn.main (F := Bits))) ⟨m, fun _ => 0, g⟩ (fun r => (∀ c : Dev Cert.Nn.nD,
      r.2.mem ((c.tc : Thread Cert.Nn.nD Cert.Nn.τ).loc Cert.Nn.main_arg0) = m ((c.tc : Thread Cert.Nn.nD Cert.Nn.τ).loc Cert.Nn.main_arg0)
      ∧ r.2.mem ((c.tc : Thread Cert.Nn.nD Cert.Nn.τ).loc Cert.Nn.main_arg1) = m ((c.tc : Thread Cert.Nn.nD Cert.Nn.τ).loc Cert.Nn.main_arg1)
      ∧ r.2.mem ((c.tc : Thread Cert.Nn.nD Cert.Nn.τ).loc Cert.Nn.main_arg2) = m ((c.tc : Thread Cert.Nn.nD Cert.Nn.τ).loc Cert.Nn.main_arg2))
      ∧ r.2.sem = fun _ => 0)

def quiescent_NnIdeal [hNnIdeal : Cert.NnIdeal.Facts] : Prop :=
  ∀ (m : (ℓ : Loc Cert.NnIdeal.nD Cert.NnIdeal.τ Cert.NnIdeal.sig) → Buf (Elt Ideal) ℓ) (g : Dev Cert.NnIdeal.nD → PrngReg), Pre_NnIdeal m →
    θ_run (Cert.NnIdeal.defs (F := Ideal)) (onTc (τ := Cert.NnIdeal.τ) (Cert.NnIdeal.main (F := Ideal))) ⟨m, fun _ => 0, g⟩ (fun r => (∀ c : Dev Cert.NnIdeal.nD,
      r.2.mem ((c.tc : Thread Cert.NnIdeal.nD Cert.NnIdeal.τ).loc Cert.NnIdeal.main_arg0) = m ((c.tc : Thread Cert.NnIdeal.nD Cert.NnIdeal.τ).loc Cert.NnIdeal.main_arg0)
      ∧ r.2.mem ((c.tc : Thread Cert.NnIdeal.nD Cert.NnIdeal.τ).loc Cert.NnIdeal.main_arg1) = m ((c.tc : Thread Cert.NnIdeal.nD Cert.NnIdeal.τ).loc Cert.NnIdeal.main_arg1)
      ∧ r.2.mem ((c.tc : Thread Cert.NnIdeal.nD Cert.NnIdeal.τ).loc Cert.NnIdeal.main_arg2) = m ((c.tc : Thread Cert.NnIdeal.nD Cert.NnIdeal.τ).loc Cert.NnIdeal.main_arg2))
      ∧ r.2.sem = fun _ => 0)

def quiescent_NnRefIdeal [hNnRefIdeal : Cert.NnRefIdeal.Facts] : Prop :=
  ∀ (m : (ℓ : Loc Cert.NnRefIdeal.nD Cert.NnRefIdeal.τ Cert.NnRefIdeal.sig) → Buf (Elt Ideal) ℓ) (g : Dev Cert.NnRefIdeal.nD → PrngReg), Pre_NnRefIdeal m →
    θ_run (Cert.NnRefIdeal.defs (F := Ideal)) (onTc (τ := Cert.NnRefIdeal.τ) (Cert.NnRefIdeal.main (F := Ideal))) ⟨m, fun _ => 0, g⟩ (fun r => (∀ c : Dev Cert.NnRefIdeal.nD,
      r.2.mem ((c.tc : Thread Cert.NnRefIdeal.nD Cert.NnRefIdeal.τ).loc Cert.NnRefIdeal.main_arg0) = m ((c.tc : Thread Cert.NnRefIdeal.nD Cert.NnRefIdeal.τ).loc Cert.NnRefIdeal.main_arg0)
      ∧ r.2.mem ((c.tc : Thread Cert.NnRefIdeal.nD Cert.NnRefIdeal.τ).loc Cert.NnRefIdeal.main_arg1) = m ((c.tc : Thread Cert.NnRefIdeal.nD Cert.NnRefIdeal.τ).loc Cert.NnRefIdeal.main_arg1)
      ∧ r.2.mem ((c.tc : Thread Cert.NnRefIdeal.nD Cert.NnRefIdeal.τ).loc Cert.NnRefIdeal.main_arg2) = m ((c.tc : Thread Cert.NnRefIdeal.nD Cert.NnRefIdeal.τ).loc Cert.NnRefIdeal.main_arg2))
      ∧ r.2.sem = fun _ => 0)

def quiescent_Nt [hNt : Cert.Nt.Facts] : Prop :=
  ∀ (m : (ℓ : Loc Cert.Nt.nD Cert.Nt.τ Cert.Nt.sig) → Buf (Elt Bits) ℓ) (g : Dev Cert.Nt.nD → PrngReg), Pre_Nt m →
    θ_run (Cert.Nt.defs (F := Bits)) (onTc (τ := Cert.Nt.τ) (Cert.Nt.main (F := Bits))) ⟨m, fun _ => 0, g⟩ (fun r => (∀ c : Dev Cert.Nt.nD,
      r.2.mem ((c.tc : Thread Cert.Nt.nD Cert.Nt.τ).loc Cert.Nt.main_arg0) = m ((c.tc : Thread Cert.Nt.nD Cert.Nt.τ).loc Cert.Nt.main_arg0)
      ∧ r.2.mem ((c.tc : Thread Cert.Nt.nD Cert.Nt.τ).loc Cert.Nt.main_arg1) = m ((c.tc : Thread Cert.Nt.nD Cert.Nt.τ).loc Cert.Nt.main_arg1))
      ∧ r.2.sem = fun _ => 0)

def quiescent_NtIdeal [hNtIdeal : Cert.NtIdeal.Facts] : Prop :=
  ∀ (m : (ℓ : Loc Cert.NtIdeal.nD Cert.NtIdeal.τ Cert.NtIdeal.sig) → Buf (Elt Ideal) ℓ) (g : Dev Cert.NtIdeal.nD → PrngReg), Pre_NtIdeal m →
    θ_run (Cert.NtIdeal.defs (F := Ideal)) (onTc (τ := Cert.NtIdeal.τ) (Cert.NtIdeal.main (F := Ideal))) ⟨m, fun _ => 0, g⟩ (fun r => (∀ c : Dev Cert.NtIdeal.nD,
      r.2.mem ((c.tc : Thread Cert.NtIdeal.nD Cert.NtIdeal.τ).loc Cert.NtIdeal.main_arg0) = m ((c.tc : Thread Cert.NtIdeal.nD Cert.NtIdeal.τ).loc Cert.NtIdeal.main_arg0)
      ∧ r.2.mem ((c.tc : Thread Cert.NtIdeal.nD Cert.NtIdeal.τ).loc Cert.NtIdeal.main_arg1) = m ((c.tc : Thread Cert.NtIdeal.nD Cert.NtIdeal.τ).loc Cert.NtIdeal.main_arg1))
      ∧ r.2.sem = fun _ => 0)

def quiescent_NtRefIdeal [hNtRefIdeal : Cert.NtRefIdeal.Facts] : Prop :=
  ∀ (m : (ℓ : Loc Cert.NtRefIdeal.nD Cert.NtRefIdeal.τ Cert.NtRefIdeal.sig) → Buf (Elt Ideal) ℓ) (g : Dev Cert.NtRefIdeal.nD → PrngReg), Pre_NtRefIdeal m →
    θ_run (Cert.NtRefIdeal.defs (F := Ideal)) (onTc (τ := Cert.NtRefIdeal.τ) (Cert.NtRefIdeal.main (F := Ideal))) ⟨m, fun _ => 0, g⟩ (fun r => (∀ c : Dev Cert.NtRefIdeal.nD,
      r.2.mem ((c.tc : Thread Cert.NtRefIdeal.nD Cert.NtRefIdeal.τ).loc Cert.NtRefIdeal.main_arg0) = m ((c.tc : Thread Cert.NtRefIdeal.nD Cert.NtRefIdeal.τ).loc Cert.NtRefIdeal.main_arg0)
      ∧ r.2.mem ((c.tc : Thread Cert.NtRefIdeal.nD Cert.NtRefIdeal.τ).loc Cert.NtRefIdeal.main_arg1) = m ((c.tc : Thread Cert.NtRefIdeal.nD Cert.NtRefIdeal.τ).loc Cert.NtRefIdeal.main_arg1))
      ∧ r.2.sem = fun _ => 0)

def quiescent_Sq [hSq : Cert.Sq.Facts] : Prop :=
  ∀ (m : (ℓ : Loc Cert.Sq.nD Cert.Sq.τ Cert.Sq.sig) → Buf (Elt Bits) ℓ) (g : Dev Cert.Sq.nD → PrngReg), Pre_Sq m →
    θ_run (Cert.Sq.defs (F := Bits)) (onTc (τ := Cert.Sq.τ) (Cert.Sq.main (F := Bits))) ⟨m, fun _ => 0, g⟩ (fun r => (∀ c : Dev Cert.Sq.nD,
      r.2.mem ((c.tc : Thread Cert.Sq.nD Cert.Sq.τ).loc Cert.Sq.main_arg0) = m ((c.tc : Thread Cert.Sq.nD Cert.Sq.τ).loc Cert.Sq.main_arg0)
      ∧ r.2.mem ((c.tc : Thread Cert.Sq.nD Cert.Sq.τ).loc Cert.Sq.main_arg1) = m ((c.tc : Thread Cert.Sq.nD Cert.Sq.τ).loc Cert.Sq.main_arg1))
      ∧ r.2.sem = fun _ => 0)

def quiescent_SqIdeal [hSqIdeal : Cert.SqIdeal.Facts] : Prop :=
  ∀ (m : (ℓ : Loc Cert.SqIdeal.nD Cert.SqIdeal.τ Cert.SqIdeal.sig) → Buf (Elt Ideal) ℓ) (g : Dev Cert.SqIdeal.nD → PrngReg), Pre_SqIdeal m →
    θ_run (Cert.SqIdeal.defs (F := Ideal)) (onTc (τ := Cert.SqIdeal.τ) (Cert.SqIdeal.main (F := Ideal))) ⟨m, fun _ => 0, g⟩ (fun r => (∀ c : Dev Cert.SqIdeal.nD,
      r.2.mem ((c.tc : Thread Cert.SqIdeal.nD Cert.SqIdeal.τ).loc Cert.SqIdeal.main_arg0) = m ((c.tc : Thread Cert.SqIdeal.nD Cert.SqIdeal.τ).loc Cert.SqIdeal.main_arg0)
      ∧ r.2.mem ((c.tc : Thread Cert.SqIdeal.nD Cert.SqIdeal.τ).loc Cert.SqIdeal.main_arg1) = m ((c.tc : Thread Cert.SqIdeal.nD Cert.SqIdeal.τ).loc Cert.SqIdeal.main_arg1))
      ∧ r.2.sem = fun _ => 0)

def quiescent_SqRefIdeal [hSqRefIdeal : Cert.SqRefIdeal.Facts] : Prop :=
  ∀ (m : (ℓ : Loc Cert.SqRefIdeal.nD Cert.SqRefIdeal.τ Cert.SqRefIdeal.sig) → Buf (Elt Ideal) ℓ) (g : Dev Cert.SqRefIdeal.nD → PrngReg), Pre_SqRefIdeal m →
    θ_run (Cert.SqRefIdeal.defs (F := Ideal)) (onTc (τ := Cert.SqRefIdeal.τ) (Cert.SqRefIdeal.main (F := Ideal))) ⟨m, fun _ => 0, g⟩ (fun r => (∀ c : Dev Cert.SqRefIdeal.nD,
      r.2.mem ((c.tc : Thread Cert.SqRefIdeal.nD Cert.SqRefIdeal.τ).loc Cert.SqRefIdeal.main_arg0) = m ((c.tc : Thread Cert.SqRefIdeal.nD Cert.SqRefIdeal.τ).loc Cert.SqRefIdeal.main_arg0)
      ∧ r.2.mem ((c.tc : Thread Cert.SqRefIdeal.nD Cert.SqRefIdeal.τ).loc Cert.SqRefIdeal.main_arg1) = m ((c.tc : Thread Cert.SqRefIdeal.nD Cert.SqRefIdeal.τ).loc Cert.SqRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Xf [hXf : Cert.Xf.Facts] : Prop :=
  ∀ (m : (ℓ : Loc Cert.Xf.nD Cert.Xf.τ Cert.Xf.sig) → Buf (Elt Bits) ℓ) (g : Dev Cert.Xf.nD → PrngReg), Pre_Xf m →
    θ_run (Cert.Xf.defs (F := Bits)) (onTc (τ := Cert.Xf.τ) (Cert.Xf.main (F := Bits))) ⟨m, fun _ => 0, g⟩ (fun r => (∀ c : Dev Cert.Xf.nD,
      r.2.mem ((c.tc : Thread Cert.Xf.nD Cert.Xf.τ).loc Cert.Xf.main_arg0) = m ((c.tc : Thread Cert.Xf.nD Cert.Xf.τ).loc Cert.Xf.main_arg0)
      ∧ r.2.mem ((c.tc : Thread Cert.Xf.nD Cert.Xf.τ).loc Cert.Xf.main_arg1) = m ((c.tc : Thread Cert.Xf.nD Cert.Xf.τ).loc Cert.Xf.main_arg1)
      ∧ r.2.mem ((c.tc : Thread Cert.Xf.nD Cert.Xf.τ).loc Cert.Xf.main_arg2) = m ((c.tc : Thread Cert.Xf.nD Cert.Xf.τ).loc Cert.Xf.main_arg2)
      ∧ r.2.mem ((c.tc : Thread Cert.Xf.nD Cert.Xf.τ).loc Cert.Xf.main_arg3) = m ((c.tc : Thread Cert.Xf.nD Cert.Xf.τ).loc Cert.Xf.main_arg3))
      ∧ r.2.sem = fun _ => 0)

def quiescent_XfIdeal [hXfIdeal : Cert.XfIdeal.Facts] : Prop :=
  ∀ (m : (ℓ : Loc Cert.XfIdeal.nD Cert.XfIdeal.τ Cert.XfIdeal.sig) → Buf (Elt Ideal) ℓ) (g : Dev Cert.XfIdeal.nD → PrngReg), Pre_XfIdeal m →
    θ_run (Cert.XfIdeal.defs (F := Ideal)) (onTc (τ := Cert.XfIdeal.τ) (Cert.XfIdeal.main (F := Ideal))) ⟨m, fun _ => 0, g⟩ (fun r => (∀ c : Dev Cert.XfIdeal.nD,
      r.2.mem ((c.tc : Thread Cert.XfIdeal.nD Cert.XfIdeal.τ).loc Cert.XfIdeal.main_arg0) = m ((c.tc : Thread Cert.XfIdeal.nD Cert.XfIdeal.τ).loc Cert.XfIdeal.main_arg0)
      ∧ r.2.mem ((c.tc : Thread Cert.XfIdeal.nD Cert.XfIdeal.τ).loc Cert.XfIdeal.main_arg1) = m ((c.tc : Thread Cert.XfIdeal.nD Cert.XfIdeal.τ).loc Cert.XfIdeal.main_arg1)
      ∧ r.2.mem ((c.tc : Thread Cert.XfIdeal.nD Cert.XfIdeal.τ).loc Cert.XfIdeal.main_arg2) = m ((c.tc : Thread Cert.XfIdeal.nD Cert.XfIdeal.τ).loc Cert.XfIdeal.main_arg2)
      ∧ r.2.mem ((c.tc : Thread Cert.XfIdeal.nD Cert.XfIdeal.τ).loc Cert.XfIdeal.main_arg3) = m ((c.tc : Thread Cert.XfIdeal.nD Cert.XfIdeal.τ).loc Cert.XfIdeal.main_arg3))
      ∧ r.2.sem = fun _ => 0)

def quiescent_XfIdeal_pre_finite_xf [hXfIdeal : Cert.XfIdeal.Facts] [hPre_finite_xf : Cert.Pre_finite_xf.Facts] : Prop :=
  ∀ (m : (ℓ : Loc Cert.XfIdeal.nD Cert.XfIdeal.τ Cert.XfIdeal.sig) → Buf (Elt Ideal) ℓ) (g : Dev Cert.XfIdeal.nD → PrngReg), Pre_XfIdeal_finite_xf m →
    θ_run (Cert.XfIdeal.defs (F := Ideal)) (onTc (τ := Cert.XfIdeal.τ) (Cert.XfIdeal.main (F := Ideal))) ⟨m, fun _ => 0, g⟩ (fun r => (∀ c : Dev Cert.XfIdeal.nD,
      r.2.mem ((c.tc : Thread Cert.XfIdeal.nD Cert.XfIdeal.τ).loc Cert.XfIdeal.main_arg0) = m ((c.tc : Thread Cert.XfIdeal.nD Cert.XfIdeal.τ).loc Cert.XfIdeal.main_arg0)
      ∧ r.2.mem ((c.tc : Thread Cert.XfIdeal.nD Cert.XfIdeal.τ).loc Cert.XfIdeal.main_arg1) = m ((c.tc : Thread Cert.XfIdeal.nD Cert.XfIdeal.τ).loc Cert.XfIdeal.main_arg1)
      ∧ r.2.mem ((c.tc : Thread Cert.XfIdeal.nD Cert.XfIdeal.τ).loc Cert.XfIdeal.main_arg2) = m ((c.tc : Thread Cert.XfIdeal.nD Cert.XfIdeal.τ).loc Cert.XfIdeal.main_arg2)
      ∧ r.2.mem ((c.tc : Thread Cert.XfIdeal.nD Cert.XfIdeal.τ).loc Cert.XfIdeal.main_arg3) = m ((c.tc : Thread Cert.XfIdeal.nD Cert.XfIdeal.τ).loc Cert.XfIdeal.main_arg3))
      ∧ r.2.sem = fun _ => 0)

def quiescent_XfRefIdeal [hXfRefIdeal : Cert.XfRefIdeal.Facts] : Prop :=
  ∀ (m : (ℓ : Loc Cert.XfRefIdeal.nD Cert.XfRefIdeal.τ Cert.XfRefIdeal.sig) → Buf (Elt Ideal) ℓ) (g : Dev Cert.XfRefIdeal.nD → PrngReg), Pre_XfRefIdeal m →
    θ_run (Cert.XfRefIdeal.defs (F := Ideal)) (onTc (τ := Cert.XfRefIdeal.τ) (Cert.XfRefIdeal.main (F := Ideal))) ⟨m, fun _ => 0, g⟩ (fun r => (∀ c : Dev Cert.XfRefIdeal.nD,
      r.2.mem ((c.tc : Thread Cert.XfRefIdeal.nD Cert.XfRefIdeal.τ).loc Cert.XfRefIdeal.main_arg0) = m ((c.tc : Thread Cert.XfRefIdeal.nD Cert.XfRefIdeal.τ).loc Cert.XfRefIdeal.main_arg0)
      ∧ r.2.mem ((c.tc : Thread Cert.XfRefIdeal.nD Cert.XfRefIdeal.τ).loc Cert.XfRefIdeal.main_arg1) = m ((c.tc : Thread Cert.XfRefIdeal.nD Cert.XfRefIdeal.τ).loc Cert.XfRefIdeal.main_arg1)
      ∧ r.2.mem ((c.tc : Thread Cert.XfRefIdeal.nD Cert.XfRefIdeal.τ).loc Cert.XfRefIdeal.main_arg2) = m ((c.tc : Thread Cert.XfRefIdeal.nD Cert.XfRefIdeal.τ).loc Cert.XfRefIdeal.main_arg2)
      ∧ r.2.mem ((c.tc : Thread Cert.XfRefIdeal.nD Cert.XfRefIdeal.τ).loc Cert.XfRefIdeal.main_arg3) = m ((c.tc : Thread Cert.XfRefIdeal.nD Cert.XfRefIdeal.τ).loc Cert.XfRefIdeal.main_arg3))
      ∧ r.2.sem = fun _ => 0)

def quiescent_XfRefIdeal_pre_finite_xf [hXfRefIdeal : Cert.XfRefIdeal.Facts] [hPre_finite_xf : Cert.Pre_finite_xf.Facts] : Prop :=
  ∀ (m : (ℓ : Loc Cert.XfRefIdeal.nD Cert.XfRefIdeal.τ Cert.XfRefIdeal.sig) → Buf (Elt Ideal) ℓ) (g : Dev Cert.XfRefIdeal.nD → PrngReg), Pre_XfRefIdeal_finite_xf m →
    θ_run (Cert.XfRefIdeal.defs (F := Ideal)) (onTc (τ := Cert.XfRefIdeal.τ) (Cert.XfRefIdeal.main (F := Ideal))) ⟨m, fun _ => 0, g⟩ (fun r => (∀ c : Dev Cert.XfRefIdeal.nD,
      r.2.mem ((c.tc : Thread Cert.XfRefIdeal.nD Cert.XfRefIdeal.τ).loc Cert.XfRefIdeal.main_arg0) = m ((c.tc : Thread Cert.XfRefIdeal.nD Cert.XfRefIdeal.τ).loc Cert.XfRefIdeal.main_arg0)
      ∧ r.2.mem ((c.tc : Thread Cert.XfRefIdeal.nD Cert.XfRefIdeal.τ).loc Cert.XfRefIdeal.main_arg1) = m ((c.tc : Thread Cert.XfRefIdeal.nD Cert.XfRefIdeal.τ).loc Cert.XfRefIdeal.main_arg1)
      ∧ r.2.mem ((c.tc : Thread Cert.XfRefIdeal.nD Cert.XfRefIdeal.τ).loc Cert.XfRefIdeal.main_arg2) = m ((c.tc : Thread Cert.XfRefIdeal.nD Cert.XfRefIdeal.τ).loc Cert.XfRefIdeal.main_arg2)
      ∧ r.2.mem ((c.tc : Thread Cert.XfRefIdeal.nD Cert.XfRefIdeal.τ).loc Cert.XfRefIdeal.main_arg3) = m ((c.tc : Thread Cert.XfRefIdeal.nD Cert.XfRefIdeal.τ).loc Cert.XfRefIdeal.main_arg3))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_finite_swa [hSwaIdeal : Cert.SwaIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_swa m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_finite_swa [hSwaRefIdeal : Cert.SwaRefIdeal.Facts] [hPre_finite_swa : Cert.Pre_finite_swa.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_swa m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_TnEv [hTnEv : Cert.TnEv.Facts] : Prop :=
  ∀ (m : (ℓ : Loc Cert.TnEv.nD Cert.TnEv.τ Cert.TnEv.sig) → Buf (Elt Bits) ℓ) (g : Dev Cert.TnEv.nD → PrngReg), Pre_TnEv m →
    θ_run (Cert.TnEv.defs (F := Bits)) (onTc (τ := Cert.TnEv.τ) (Cert.TnEv.main (F := Bits))) ⟨m, fun _ => 0, g⟩ (fun r => (∀ c : Dev Cert.TnEv.nD,
      r.2.mem ((c.tc : Thread Cert.TnEv.nD Cert.TnEv.τ).loc Cert.TnEv.main_arg0) = m ((c.tc : Thread Cert.TnEv.nD Cert.TnEv.τ).loc Cert.TnEv.main_arg0)
      ∧ r.2.mem ((c.tc : Thread Cert.TnEv.nD Cert.TnEv.τ).loc Cert.TnEv.main_arg1) = m ((c.tc : Thread Cert.TnEv.nD Cert.TnEv.τ).loc Cert.TnEv.main_arg1))
      ∧ r.2.sem = fun _ => 0)

def quiescent_TnEvIdeal [hTnEvIdeal : Cert.TnEvIdeal.Facts] : Prop :=
  ∀ (m : (ℓ : Loc Cert.TnEvIdeal.nD Cert.TnEvIdeal.τ Cert.TnEvIdeal.sig) → Buf (Elt Ideal) ℓ) (g : Dev Cert.TnEvIdeal.nD → PrngReg), Pre_TnEvIdeal m →
    θ_run (Cert.TnEvIdeal.defs (F := Ideal)) (onTc (τ := Cert.TnEvIdeal.τ) (Cert.TnEvIdeal.main (F := Ideal))) ⟨m, fun _ => 0, g⟩ (fun r => (∀ c : Dev Cert.TnEvIdeal.nD,
      r.2.mem ((c.tc : Thread Cert.TnEvIdeal.nD Cert.TnEvIdeal.τ).loc Cert.TnEvIdeal.main_arg0) = m ((c.tc : Thread Cert.TnEvIdeal.nD Cert.TnEvIdeal.τ).loc Cert.TnEvIdeal.main_arg0)
      ∧ r.2.mem ((c.tc : Thread Cert.TnEvIdeal.nD Cert.TnEvIdeal.τ).loc Cert.TnEvIdeal.main_arg1) = m ((c.tc : Thread Cert.TnEvIdeal.nD Cert.TnEvIdeal.τ).loc Cert.TnEvIdeal.main_arg1))
      ∧ r.2.sem = fun _ => 0)

def quiescent_TnEvRefIdeal [hTnEvRefIdeal : Cert.TnEvRefIdeal.Facts] : Prop :=
  ∀ (m : (ℓ : Loc Cert.TnEvRefIdeal.nD Cert.TnEvRefIdeal.τ Cert.TnEvRefIdeal.sig) → Buf (Elt Ideal) ℓ) (g : Dev Cert.TnEvRefIdeal.nD → PrngReg), Pre_TnEvRefIdeal m →
    θ_run (Cert.TnEvRefIdeal.defs (F := Ideal)) (onTc (τ := Cert.TnEvRefIdeal.τ) (Cert.TnEvRefIdeal.main (F := Ideal))) ⟨m, fun _ => 0, g⟩ (fun r => (∀ c : Dev Cert.TnEvRefIdeal.nD,
      r.2.mem ((c.tc : Thread Cert.TnEvRefIdeal.nD Cert.TnEvRefIdeal.τ).loc Cert.TnEvRefIdeal.main_arg0) = m ((c.tc : Thread Cert.TnEvRefIdeal.nD Cert.TnEvRefIdeal.τ).loc Cert.TnEvRefIdeal.main_arg0)
      ∧ r.2.mem ((c.tc : Thread Cert.TnEvRefIdeal.nD Cert.TnEvRefIdeal.τ).loc Cert.TnEvRefIdeal.main_arg1) = m ((c.tc : Thread Cert.TnEvRefIdeal.nD Cert.TnEvRefIdeal.τ).loc Cert.TnEvRefIdeal.main_arg1))
      ∧ r.2.sem = fun _ => 0)

def quiescent_TnOd [hTnOd : Cert.TnOd.Facts] : Prop :=
  ∀ (m : (ℓ : Loc Cert.TnOd.nD Cert.TnOd.τ Cert.TnOd.sig) → Buf (Elt Bits) ℓ) (g : Dev Cert.TnOd.nD → PrngReg), Pre_TnOd m →
    θ_run (Cert.TnOd.defs (F := Bits)) (onTc (τ := Cert.TnOd.τ) (Cert.TnOd.main (F := Bits))) ⟨m, fun _ => 0, g⟩ (fun r => (∀ c : Dev Cert.TnOd.nD,
      r.2.mem ((c.tc : Thread Cert.TnOd.nD Cert.TnOd.τ).loc Cert.TnOd.main_arg0) = m ((c.tc : Thread Cert.TnOd.nD Cert.TnOd.τ).loc Cert.TnOd.main_arg0)
      ∧ r.2.mem ((c.tc : Thread Cert.TnOd.nD Cert.TnOd.τ).loc Cert.TnOd.main_arg1) = m ((c.tc : Thread Cert.TnOd.nD Cert.TnOd.τ).loc Cert.TnOd.main_arg1))
      ∧ r.2.sem = fun _ => 0)

def quiescent_TnOdIdeal [hTnOdIdeal : Cert.TnOdIdeal.Facts] : Prop :=
  ∀ (m : (ℓ : Loc Cert.TnOdIdeal.nD Cert.TnOdIdeal.τ Cert.TnOdIdeal.sig) → Buf (Elt Ideal) ℓ) (g : Dev Cert.TnOdIdeal.nD → PrngReg), Pre_TnOdIdeal m →
    θ_run (Cert.TnOdIdeal.defs (F := Ideal)) (onTc (τ := Cert.TnOdIdeal.τ) (Cert.TnOdIdeal.main (F := Ideal))) ⟨m, fun _ => 0, g⟩ (fun r => (∀ c : Dev Cert.TnOdIdeal.nD,
      r.2.mem ((c.tc : Thread Cert.TnOdIdeal.nD Cert.TnOdIdeal.τ).loc Cert.TnOdIdeal.main_arg0) = m ((c.tc : Thread Cert.TnOdIdeal.nD Cert.TnOdIdeal.τ).loc Cert.TnOdIdeal.main_arg0)
      ∧ r.2.mem ((c.tc : Thread Cert.TnOdIdeal.nD Cert.TnOdIdeal.τ).loc Cert.TnOdIdeal.main_arg1) = m ((c.tc : Thread Cert.TnOdIdeal.nD Cert.TnOdIdeal.τ).loc Cert.TnOdIdeal.main_arg1))
      ∧ r.2.sem = fun _ => 0)

def quiescent_TnOdRefIdeal [hTnOdRefIdeal : Cert.TnOdRefIdeal.Facts] : Prop :=
  ∀ (m : (ℓ : Loc Cert.TnOdRefIdeal.nD Cert.TnOdRefIdeal.τ Cert.TnOdRefIdeal.sig) → Buf (Elt Ideal) ℓ) (g : Dev Cert.TnOdRefIdeal.nD → PrngReg), Pre_TnOdRefIdeal m →
    θ_run (Cert.TnOdRefIdeal.defs (F := Ideal)) (onTc (τ := Cert.TnOdRefIdeal.τ) (Cert.TnOdRefIdeal.main (F := Ideal))) ⟨m, fun _ => 0, g⟩ (fun r => (∀ c : Dev Cert.TnOdRefIdeal.nD,
      r.2.mem ((c.tc : Thread Cert.TnOdRefIdeal.nD Cert.TnOdRefIdeal.τ).loc Cert.TnOdRefIdeal.main_arg0) = m ((c.tc : Thread Cert.TnOdRefIdeal.nD Cert.TnOdRefIdeal.τ).loc Cert.TnOdRefIdeal.main_arg0)
      ∧ r.2.mem ((c.tc : Thread Cert.TnOdRefIdeal.nD Cert.TnOdRefIdeal.τ).loc Cert.TnOdRefIdeal.main_arg1) = m ((c.tc : Thread Cert.TnOdRefIdeal.nD Cert.TnOdRefIdeal.τ).loc Cert.TnOdRefIdeal.main_arg1))
      ∧ r.2.sem = fun _ => 0)

def quiescent_TnQ [hTnQ : Cert.TnQ.Facts] : Prop :=
  ∀ (m : (ℓ : Loc Cert.TnQ.nD Cert.TnQ.τ Cert.TnQ.sig) → Buf (Elt Bits) ℓ) (g : Dev Cert.TnQ.nD → PrngReg), Pre_TnQ m →
    θ_run (Cert.TnQ.defs (F := Bits)) (onTc (τ := Cert.TnQ.τ) (Cert.TnQ.main (F := Bits))) ⟨m, fun _ => 0, g⟩ (fun r => (∀ c : Dev Cert.TnQ.nD,
      r.2.mem ((c.tc : Thread Cert.TnQ.nD Cert.TnQ.τ).loc Cert.TnQ.main_arg0) = m ((c.tc : Thread Cert.TnQ.nD Cert.TnQ.τ).loc Cert.TnQ.main_arg0)
      ∧ r.2.mem ((c.tc : Thread Cert.TnQ.nD Cert.TnQ.τ).loc Cert.TnQ.main_arg1) = m ((c.tc : Thread Cert.TnQ.nD Cert.TnQ.τ).loc Cert.TnQ.main_arg1))
      ∧ r.2.sem = fun _ => 0)

def quiescent_TnQIdeal [hTnQIdeal : Cert.TnQIdeal.Facts] : Prop :=
  ∀ (m : (ℓ : Loc Cert.TnQIdeal.nD Cert.TnQIdeal.τ Cert.TnQIdeal.sig) → Buf (Elt Ideal) ℓ) (g : Dev Cert.TnQIdeal.nD → PrngReg), Pre_TnQIdeal m →
    θ_run (Cert.TnQIdeal.defs (F := Ideal)) (onTc (τ := Cert.TnQIdeal.τ) (Cert.TnQIdeal.main (F := Ideal))) ⟨m, fun _ => 0, g⟩ (fun r => (∀ c : Dev Cert.TnQIdeal.nD,
      r.2.mem ((c.tc : Thread Cert.TnQIdeal.nD Cert.TnQIdeal.τ).loc Cert.TnQIdeal.main_arg0) = m ((c.tc : Thread Cert.TnQIdeal.nD Cert.TnQIdeal.τ).loc Cert.TnQIdeal.main_arg0)
      ∧ r.2.mem ((c.tc : Thread Cert.TnQIdeal.nD Cert.TnQIdeal.τ).loc Cert.TnQIdeal.main_arg1) = m ((c.tc : Thread Cert.TnQIdeal.nD Cert.TnQIdeal.τ).loc Cert.TnQIdeal.main_arg1))
      ∧ r.2.sem = fun _ => 0)

def quiescent_TnQRefIdeal [hTnQRefIdeal : Cert.TnQRefIdeal.Facts] : Prop :=
  ∀ (m : (ℓ : Loc Cert.TnQRefIdeal.nD Cert.TnQRefIdeal.τ Cert.TnQRefIdeal.sig) → Buf (Elt Ideal) ℓ) (g : Dev Cert.TnQRefIdeal.nD → PrngReg), Pre_TnQRefIdeal m →
    θ_run (Cert.TnQRefIdeal.defs (F := Ideal)) (onTc (τ := Cert.TnQRefIdeal.τ) (Cert.TnQRefIdeal.main (F := Ideal))) ⟨m, fun _ => 0, g⟩ (fun r => (∀ c : Dev Cert.TnQRefIdeal.nD,
      r.2.mem ((c.tc : Thread Cert.TnQRefIdeal.nD Cert.TnQRefIdeal.τ).loc Cert.TnQRefIdeal.main_arg0) = m ((c.tc : Thread Cert.TnQRefIdeal.nD Cert.TnQRefIdeal.τ).loc Cert.TnQRefIdeal.main_arg0)
      ∧ r.2.mem ((c.tc : Thread Cert.TnQRefIdeal.nD Cert.TnQRefIdeal.τ).loc Cert.TnQRefIdeal.main_arg1) = m ((c.tc : Thread Cert.TnQRefIdeal.nD Cert.TnQRefIdeal.τ).loc Cert.TnQRefIdeal.main_arg1))
      ∧ r.2.sem = fun _ => 0)

def quiescent_TnKv [hTnKv : Cert.TnKv.Facts] : Prop :=
  ∀ (m : (ℓ : Loc Cert.TnKv.nD Cert.TnKv.τ Cert.TnKv.sig) → Buf (Elt Bits) ℓ) (g : Dev Cert.TnKv.nD → PrngReg), Pre_TnKv m →
    θ_run (Cert.TnKv.defs (F := Bits)) (onTc (τ := Cert.TnKv.τ) (Cert.TnKv.main (F := Bits))) ⟨m, fun _ => 0, g⟩ (fun r => (∀ c : Dev Cert.TnKv.nD,
      r.2.mem ((c.tc : Thread Cert.TnKv.nD Cert.TnKv.τ).loc Cert.TnKv.main_arg0) = m ((c.tc : Thread Cert.TnKv.nD Cert.TnKv.τ).loc Cert.TnKv.main_arg0)
      ∧ r.2.mem ((c.tc : Thread Cert.TnKv.nD Cert.TnKv.τ).loc Cert.TnKv.main_arg1) = m ((c.tc : Thread Cert.TnKv.nD Cert.TnKv.τ).loc Cert.TnKv.main_arg1))
      ∧ r.2.sem = fun _ => 0)

def quiescent_TnKvIdeal [hTnKvIdeal : Cert.TnKvIdeal.Facts] : Prop :=
  ∀ (m : (ℓ : Loc Cert.TnKvIdeal.nD Cert.TnKvIdeal.τ Cert.TnKvIdeal.sig) → Buf (Elt Ideal) ℓ) (g : Dev Cert.TnKvIdeal.nD → PrngReg), Pre_TnKvIdeal m →
    θ_run (Cert.TnKvIdeal.defs (F := Ideal)) (onTc (τ := Cert.TnKvIdeal.τ) (Cert.TnKvIdeal.main (F := Ideal))) ⟨m, fun _ => 0, g⟩ (fun r => (∀ c : Dev Cert.TnKvIdeal.nD,
      r.2.mem ((c.tc : Thread Cert.TnKvIdeal.nD Cert.TnKvIdeal.τ).loc Cert.TnKvIdeal.main_arg0) = m ((c.tc : Thread Cert.TnKvIdeal.nD Cert.TnKvIdeal.τ).loc Cert.TnKvIdeal.main_arg0)
      ∧ r.2.mem ((c.tc : Thread Cert.TnKvIdeal.nD Cert.TnKvIdeal.τ).loc Cert.TnKvIdeal.main_arg1) = m ((c.tc : Thread Cert.TnKvIdeal.nD Cert.TnKvIdeal.τ).loc Cert.TnKvIdeal.main_arg1))
      ∧ r.2.sem = fun _ => 0)

def quiescent_TnKvRefIdeal [hTnKvRefIdeal : Cert.TnKvRefIdeal.Facts] : Prop :=
  ∀ (m : (ℓ : Loc Cert.TnKvRefIdeal.nD Cert.TnKvRefIdeal.τ Cert.TnKvRefIdeal.sig) → Buf (Elt Ideal) ℓ) (g : Dev Cert.TnKvRefIdeal.nD → PrngReg), Pre_TnKvRefIdeal m →
    θ_run (Cert.TnKvRefIdeal.defs (F := Ideal)) (onTc (τ := Cert.TnKvRefIdeal.τ) (Cert.TnKvRefIdeal.main (F := Ideal))) ⟨m, fun _ => 0, g⟩ (fun r => (∀ c : Dev Cert.TnKvRefIdeal.nD,
      r.2.mem ((c.tc : Thread Cert.TnKvRefIdeal.nD Cert.TnKvRefIdeal.τ).loc Cert.TnKvRefIdeal.main_arg0) = m ((c.tc : Thread Cert.TnKvRefIdeal.nD Cert.TnKvRefIdeal.τ).loc Cert.TnKvRefIdeal.main_arg0)
      ∧ r.2.mem ((c.tc : Thread Cert.TnKvRefIdeal.nD Cert.TnKvRefIdeal.τ).loc Cert.TnKvRefIdeal.main_arg1) = m ((c.tc : Thread Cert.TnKvRefIdeal.nD Cert.TnKvRefIdeal.τ).loc Cert.TnKvRefIdeal.main_arg1))
      ∧ r.2.sem = fun _ => 0)

def quiescent_NbEv [hNbEv : Cert.NbEv.Facts] : Prop :=
  ∀ (m : (ℓ : Loc Cert.NbEv.nD Cert.NbEv.τ Cert.NbEv.sig) → Buf (Elt Bits) ℓ) (g : Dev Cert.NbEv.nD → PrngReg), Pre_NbEv m →
    θ_run (Cert.NbEv.defs (F := Bits)) (onTc (τ := Cert.NbEv.τ) (Cert.NbEv.main (F := Bits))) ⟨m, fun _ => 0, g⟩ (fun r => (∀ c : Dev Cert.NbEv.nD,
      r.2.mem ((c.tc : Thread Cert.NbEv.nD Cert.NbEv.τ).loc Cert.NbEv.main_arg0) = m ((c.tc : Thread Cert.NbEv.nD Cert.NbEv.τ).loc Cert.NbEv.main_arg0)
      ∧ r.2.mem ((c.tc : Thread Cert.NbEv.nD Cert.NbEv.τ).loc Cert.NbEv.main_arg1) = m ((c.tc : Thread Cert.NbEv.nD Cert.NbEv.τ).loc Cert.NbEv.main_arg1)
      ∧ r.2.mem ((c.tc : Thread Cert.NbEv.nD Cert.NbEv.τ).loc Cert.NbEv.main_arg2) = m ((c.tc : Thread Cert.NbEv.nD Cert.NbEv.τ).loc Cert.NbEv.main_arg2)
      ∧ r.2.mem ((c.tc : Thread Cert.NbEv.nD Cert.NbEv.τ).loc Cert.NbEv.main_arg3) = m ((c.tc : Thread Cert.NbEv.nD Cert.NbEv.τ).loc Cert.NbEv.main_arg3)
      ∧ r.2.mem ((c.tc : Thread Cert.NbEv.nD Cert.NbEv.τ).loc Cert.NbEv.main_arg4) = m ((c.tc : Thread Cert.NbEv.nD Cert.NbEv.τ).loc Cert.NbEv.main_arg4))
      ∧ r.2.sem = fun _ => 0)

def quiescent_NbEvIdeal [hNbEvIdeal : Cert.NbEvIdeal.Facts] : Prop :=
  ∀ (m : (ℓ : Loc Cert.NbEvIdeal.nD Cert.NbEvIdeal.τ Cert.NbEvIdeal.sig) → Buf (Elt Ideal) ℓ) (g : Dev Cert.NbEvIdeal.nD → PrngReg), Pre_NbEvIdeal m →
    θ_run (Cert.NbEvIdeal.defs (F := Ideal)) (onTc (τ := Cert.NbEvIdeal.τ) (Cert.NbEvIdeal.main (F := Ideal))) ⟨m, fun _ => 0, g⟩ (fun r => (∀ c : Dev Cert.NbEvIdeal.nD,
      r.2.mem ((c.tc : Thread Cert.NbEvIdeal.nD Cert.NbEvIdeal.τ).loc Cert.NbEvIdeal.main_arg0) = m ((c.tc : Thread Cert.NbEvIdeal.nD Cert.NbEvIdeal.τ).loc Cert.NbEvIdeal.main_arg0)
      ∧ r.2.mem ((c.tc : Thread Cert.NbEvIdeal.nD Cert.NbEvIdeal.τ).loc Cert.NbEvIdeal.main_arg1) = m ((c.tc : Thread Cert.NbEvIdeal.nD Cert.NbEvIdeal.τ).loc Cert.NbEvIdeal.main_arg1)
      ∧ r.2.mem ((c.tc : Thread Cert.NbEvIdeal.nD Cert.NbEvIdeal.τ).loc Cert.NbEvIdeal.main_arg2) = m ((c.tc : Thread Cert.NbEvIdeal.nD Cert.NbEvIdeal.τ).loc Cert.NbEvIdeal.main_arg2)
      ∧ r.2.mem ((c.tc : Thread Cert.NbEvIdeal.nD Cert.NbEvIdeal.τ).loc Cert.NbEvIdeal.main_arg3) = m ((c.tc : Thread Cert.NbEvIdeal.nD Cert.NbEvIdeal.τ).loc Cert.NbEvIdeal.main_arg3)
      ∧ r.2.mem ((c.tc : Thread Cert.NbEvIdeal.nD Cert.NbEvIdeal.τ).loc Cert.NbEvIdeal.main_arg4) = m ((c.tc : Thread Cert.NbEvIdeal.nD Cert.NbEvIdeal.τ).loc Cert.NbEvIdeal.main_arg4))
      ∧ r.2.sem = fun _ => 0)

def quiescent_NbEvIdeal_pre_finite_nbev [hNbEvIdeal : Cert.NbEvIdeal.Facts] [hPre_finite_nbev : Cert.Pre_finite_nbev.Facts] : Prop :=
  ∀ (m : (ℓ : Loc Cert.NbEvIdeal.nD Cert.NbEvIdeal.τ Cert.NbEvIdeal.sig) → Buf (Elt Ideal) ℓ) (g : Dev Cert.NbEvIdeal.nD → PrngReg), Pre_NbEvIdeal_finite_nbev m →
    θ_run (Cert.NbEvIdeal.defs (F := Ideal)) (onTc (τ := Cert.NbEvIdeal.τ) (Cert.NbEvIdeal.main (F := Ideal))) ⟨m, fun _ => 0, g⟩ (fun r => (∀ c : Dev Cert.NbEvIdeal.nD,
      r.2.mem ((c.tc : Thread Cert.NbEvIdeal.nD Cert.NbEvIdeal.τ).loc Cert.NbEvIdeal.main_arg0) = m ((c.tc : Thread Cert.NbEvIdeal.nD Cert.NbEvIdeal.τ).loc Cert.NbEvIdeal.main_arg0)
      ∧ r.2.mem ((c.tc : Thread Cert.NbEvIdeal.nD Cert.NbEvIdeal.τ).loc Cert.NbEvIdeal.main_arg1) = m ((c.tc : Thread Cert.NbEvIdeal.nD Cert.NbEvIdeal.τ).loc Cert.NbEvIdeal.main_arg1)
      ∧ r.2.mem ((c.tc : Thread Cert.NbEvIdeal.nD Cert.NbEvIdeal.τ).loc Cert.NbEvIdeal.main_arg2) = m ((c.tc : Thread Cert.NbEvIdeal.nD Cert.NbEvIdeal.τ).loc Cert.NbEvIdeal.main_arg2)
      ∧ r.2.mem ((c.tc : Thread Cert.NbEvIdeal.nD Cert.NbEvIdeal.τ).loc Cert.NbEvIdeal.main_arg3) = m ((c.tc : Thread Cert.NbEvIdeal.nD Cert.NbEvIdeal.τ).loc Cert.NbEvIdeal.main_arg3)
      ∧ r.2.mem ((c.tc : Thread Cert.NbEvIdeal.nD Cert.NbEvIdeal.τ).loc Cert.NbEvIdeal.main_arg4) = m ((c.tc : Thread Cert.NbEvIdeal.nD Cert.NbEvIdeal.τ).loc Cert.NbEvIdeal.main_arg4))
      ∧ r.2.sem = fun _ => 0)

def quiescent_NbEvRefIdeal [hNbEvRefIdeal : Cert.NbEvRefIdeal.Facts] : Prop :=
  ∀ (m : (ℓ : Loc Cert.NbEvRefIdeal.nD Cert.NbEvRefIdeal.τ Cert.NbEvRefIdeal.sig) → Buf (Elt Ideal) ℓ) (g : Dev Cert.NbEvRefIdeal.nD → PrngReg), Pre_NbEvRefIdeal m →
    θ_run (Cert.NbEvRefIdeal.defs (F := Ideal)) (onTc (τ := Cert.NbEvRefIdeal.τ) (Cert.NbEvRefIdeal.main (F := Ideal))) ⟨m, fun _ => 0, g⟩ (fun r => (∀ c : Dev Cert.NbEvRefIdeal.nD,
      r.2.mem ((c.tc : Thread Cert.NbEvRefIdeal.nD Cert.NbEvRefIdeal.τ).loc Cert.NbEvRefIdeal.main_arg0) = m ((c.tc : Thread Cert.NbEvRefIdeal.nD Cert.NbEvRefIdeal.τ).loc Cert.NbEvRefIdeal.main_arg0)
      ∧ r.2.mem ((c.tc : Thread Cert.NbEvRefIdeal.nD Cert.NbEvRefIdeal.τ).loc Cert.NbEvRefIdeal.main_arg1) = m ((c.tc : Thread Cert.NbEvRefIdeal.nD Cert.NbEvRefIdeal.τ).loc Cert.NbEvRefIdeal.main_arg1)
      ∧ r.2.mem ((c.tc : Thread Cert.NbEvRefIdeal.nD Cert.NbEvRefIdeal.τ).loc Cert.NbEvRefIdeal.main_arg2) = m ((c.tc : Thread Cert.NbEvRefIdeal.nD Cert.NbEvRefIdeal.τ).loc Cert.NbEvRefIdeal.main_arg2)
      ∧ r.2.mem ((c.tc : Thread Cert.NbEvRefIdeal.nD Cert.NbEvRefIdeal.τ).loc Cert.NbEvRefIdeal.main_arg3) = m ((c.tc : Thread Cert.NbEvRefIdeal.nD Cert.NbEvRefIdeal.τ).loc Cert.NbEvRefIdeal.main_arg3)
      ∧ r.2.mem ((c.tc : Thread Cert.NbEvRefIdeal.nD Cert.NbEvRefIdeal.τ).loc Cert.NbEvRefIdeal.main_arg4) = m ((c.tc : Thread Cert.NbEvRefIdeal.nD Cert.NbEvRefIdeal.τ).loc Cert.NbEvRefIdeal.main_arg4))
      ∧ r.2.sem = fun _ => 0)

def quiescent_NbEvRefIdeal_pre_finite_nbev [hNbEvRefIdeal : Cert.NbEvRefIdeal.Facts] [hPre_finite_nbev : Cert.Pre_finite_nbev.Facts] : Prop :=
  ∀ (m : (ℓ : Loc Cert.NbEvRefIdeal.nD Cert.NbEvRefIdeal.τ Cert.NbEvRefIdeal.sig) → Buf (Elt Ideal) ℓ) (g : Dev Cert.NbEvRefIdeal.nD → PrngReg), Pre_NbEvRefIdeal_finite_nbev m →
    θ_run (Cert.NbEvRefIdeal.defs (F := Ideal)) (onTc (τ := Cert.NbEvRefIdeal.τ) (Cert.NbEvRefIdeal.main (F := Ideal))) ⟨m, fun _ => 0, g⟩ (fun r => (∀ c : Dev Cert.NbEvRefIdeal.nD,
      r.2.mem ((c.tc : Thread Cert.NbEvRefIdeal.nD Cert.NbEvRefIdeal.τ).loc Cert.NbEvRefIdeal.main_arg0) = m ((c.tc : Thread Cert.NbEvRefIdeal.nD Cert.NbEvRefIdeal.τ).loc Cert.NbEvRefIdeal.main_arg0)
      ∧ r.2.mem ((c.tc : Thread Cert.NbEvRefIdeal.nD Cert.NbEvRefIdeal.τ).loc Cert.NbEvRefIdeal.main_arg1) = m ((c.tc : Thread Cert.NbEvRefIdeal.nD Cert.NbEvRefIdeal.τ).loc Cert.NbEvRefIdeal.main_arg1)
      ∧ r.2.mem ((c.tc : Thread Cert.NbEvRefIdeal.nD Cert.NbEvRefIdeal.τ).loc Cert.NbEvRefIdeal.main_arg2) = m ((c.tc : Thread Cert.NbEvRefIdeal.nD Cert.NbEvRefIdeal.τ).loc Cert.NbEvRefIdeal.main_arg2)
      ∧ r.2.mem ((c.tc : Thread Cert.NbEvRefIdeal.nD Cert.NbEvRefIdeal.τ).loc Cert.NbEvRefIdeal.main_arg3) = m ((c.tc : Thread Cert.NbEvRefIdeal.nD Cert.NbEvRefIdeal.τ).loc Cert.NbEvRefIdeal.main_arg3)
      ∧ r.2.mem ((c.tc : Thread Cert.NbEvRefIdeal.nD Cert.NbEvRefIdeal.τ).loc Cert.NbEvRefIdeal.main_arg4) = m ((c.tc : Thread Cert.NbEvRefIdeal.nD Cert.NbEvRefIdeal.τ).loc Cert.NbEvRefIdeal.main_arg4))
      ∧ r.2.sem = fun _ => 0)

def quiescent_NbOd [hNbOd : Cert.NbOd.Facts] : Prop :=
  ∀ (m : (ℓ : Loc Cert.NbOd.nD Cert.NbOd.τ Cert.NbOd.sig) → Buf (Elt Bits) ℓ) (g : Dev Cert.NbOd.nD → PrngReg), Pre_NbOd m →
    θ_run (Cert.NbOd.defs (F := Bits)) (onTc (τ := Cert.NbOd.τ) (Cert.NbOd.main (F := Bits))) ⟨m, fun _ => 0, g⟩ (fun r => (∀ c : Dev Cert.NbOd.nD,
      r.2.mem ((c.tc : Thread Cert.NbOd.nD Cert.NbOd.τ).loc Cert.NbOd.main_arg0) = m ((c.tc : Thread Cert.NbOd.nD Cert.NbOd.τ).loc Cert.NbOd.main_arg0)
      ∧ r.2.mem ((c.tc : Thread Cert.NbOd.nD Cert.NbOd.τ).loc Cert.NbOd.main_arg1) = m ((c.tc : Thread Cert.NbOd.nD Cert.NbOd.τ).loc Cert.NbOd.main_arg1)
      ∧ r.2.mem ((c.tc : Thread Cert.NbOd.nD Cert.NbOd.τ).loc Cert.NbOd.main_arg2) = m ((c.tc : Thread Cert.NbOd.nD Cert.NbOd.τ).loc Cert.NbOd.main_arg2)
      ∧ r.2.mem ((c.tc : Thread Cert.NbOd.nD Cert.NbOd.τ).loc Cert.NbOd.main_arg3) = m ((c.tc : Thread Cert.NbOd.nD Cert.NbOd.τ).loc Cert.NbOd.main_arg3)
      ∧ r.2.mem ((c.tc : Thread Cert.NbOd.nD Cert.NbOd.τ).loc Cert.NbOd.main_arg4) = m ((c.tc : Thread Cert.NbOd.nD Cert.NbOd.τ).loc Cert.NbOd.main_arg4))
      ∧ r.2.sem = fun _ => 0)

def quiescent_NbOdIdeal [hNbOdIdeal : Cert.NbOdIdeal.Facts] : Prop :=
  ∀ (m : (ℓ : Loc Cert.NbOdIdeal.nD Cert.NbOdIdeal.τ Cert.NbOdIdeal.sig) → Buf (Elt Ideal) ℓ) (g : Dev Cert.NbOdIdeal.nD → PrngReg), Pre_NbOdIdeal m →
    θ_run (Cert.NbOdIdeal.defs (F := Ideal)) (onTc (τ := Cert.NbOdIdeal.τ) (Cert.NbOdIdeal.main (F := Ideal))) ⟨m, fun _ => 0, g⟩ (fun r => (∀ c : Dev Cert.NbOdIdeal.nD,
      r.2.mem ((c.tc : Thread Cert.NbOdIdeal.nD Cert.NbOdIdeal.τ).loc Cert.NbOdIdeal.main_arg0) = m ((c.tc : Thread Cert.NbOdIdeal.nD Cert.NbOdIdeal.τ).loc Cert.NbOdIdeal.main_arg0)
      ∧ r.2.mem ((c.tc : Thread Cert.NbOdIdeal.nD Cert.NbOdIdeal.τ).loc Cert.NbOdIdeal.main_arg1) = m ((c.tc : Thread Cert.NbOdIdeal.nD Cert.NbOdIdeal.τ).loc Cert.NbOdIdeal.main_arg1)
      ∧ r.2.mem ((c.tc : Thread Cert.NbOdIdeal.nD Cert.NbOdIdeal.τ).loc Cert.NbOdIdeal.main_arg2) = m ((c.tc : Thread Cert.NbOdIdeal.nD Cert.NbOdIdeal.τ).loc Cert.NbOdIdeal.main_arg2)
      ∧ r.2.mem ((c.tc : Thread Cert.NbOdIdeal.nD Cert.NbOdIdeal.τ).loc Cert.NbOdIdeal.main_arg3) = m ((c.tc : Thread Cert.NbOdIdeal.nD Cert.NbOdIdeal.τ).loc Cert.NbOdIdeal.main_arg3)
      ∧ r.2.mem ((c.tc : Thread Cert.NbOdIdeal.nD Cert.NbOdIdeal.τ).loc Cert.NbOdIdeal.main_arg4) = m ((c.tc : Thread Cert.NbOdIdeal.nD Cert.NbOdIdeal.τ).loc Cert.NbOdIdeal.main_arg4))
      ∧ r.2.sem = fun _ => 0)

def quiescent_NbOdIdeal_pre_finite_nbod [hNbOdIdeal : Cert.NbOdIdeal.Facts] [hPre_finite_nbod : Cert.Pre_finite_nbod.Facts] : Prop :=
  ∀ (m : (ℓ : Loc Cert.NbOdIdeal.nD Cert.NbOdIdeal.τ Cert.NbOdIdeal.sig) → Buf (Elt Ideal) ℓ) (g : Dev Cert.NbOdIdeal.nD → PrngReg), Pre_NbOdIdeal_finite_nbod m →
    θ_run (Cert.NbOdIdeal.defs (F := Ideal)) (onTc (τ := Cert.NbOdIdeal.τ) (Cert.NbOdIdeal.main (F := Ideal))) ⟨m, fun _ => 0, g⟩ (fun r => (∀ c : Dev Cert.NbOdIdeal.nD,
      r.2.mem ((c.tc : Thread Cert.NbOdIdeal.nD Cert.NbOdIdeal.τ).loc Cert.NbOdIdeal.main_arg0) = m ((c.tc : Thread Cert.NbOdIdeal.nD Cert.NbOdIdeal.τ).loc Cert.NbOdIdeal.main_arg0)
      ∧ r.2.mem ((c.tc : Thread Cert.NbOdIdeal.nD Cert.NbOdIdeal.τ).loc Cert.NbOdIdeal.main_arg1) = m ((c.tc : Thread Cert.NbOdIdeal.nD Cert.NbOdIdeal.τ).loc Cert.NbOdIdeal.main_arg1)
      ∧ r.2.mem ((c.tc : Thread Cert.NbOdIdeal.nD Cert.NbOdIdeal.τ).loc Cert.NbOdIdeal.main_arg2) = m ((c.tc : Thread Cert.NbOdIdeal.nD Cert.NbOdIdeal.τ).loc Cert.NbOdIdeal.main_arg2)
      ∧ r.2.mem ((c.tc : Thread Cert.NbOdIdeal.nD Cert.NbOdIdeal.τ).loc Cert.NbOdIdeal.main_arg3) = m ((c.tc : Thread Cert.NbOdIdeal.nD Cert.NbOdIdeal.τ).loc Cert.NbOdIdeal.main_arg3)
      ∧ r.2.mem ((c.tc : Thread Cert.NbOdIdeal.nD Cert.NbOdIdeal.τ).loc Cert.NbOdIdeal.main_arg4) = m ((c.tc : Thread Cert.NbOdIdeal.nD Cert.NbOdIdeal.τ).loc Cert.NbOdIdeal.main_arg4))
      ∧ r.2.sem = fun _ => 0)

def quiescent_NbOdRefIdeal [hNbOdRefIdeal : Cert.NbOdRefIdeal.Facts] : Prop :=
  ∀ (m : (ℓ : Loc Cert.NbOdRefIdeal.nD Cert.NbOdRefIdeal.τ Cert.NbOdRefIdeal.sig) → Buf (Elt Ideal) ℓ) (g : Dev Cert.NbOdRefIdeal.nD → PrngReg), Pre_NbOdRefIdeal m →
    θ_run (Cert.NbOdRefIdeal.defs (F := Ideal)) (onTc (τ := Cert.NbOdRefIdeal.τ) (Cert.NbOdRefIdeal.main (F := Ideal))) ⟨m, fun _ => 0, g⟩ (fun r => (∀ c : Dev Cert.NbOdRefIdeal.nD,
      r.2.mem ((c.tc : Thread Cert.NbOdRefIdeal.nD Cert.NbOdRefIdeal.τ).loc Cert.NbOdRefIdeal.main_arg0) = m ((c.tc : Thread Cert.NbOdRefIdeal.nD Cert.NbOdRefIdeal.τ).loc Cert.NbOdRefIdeal.main_arg0)
      ∧ r.2.mem ((c.tc : Thread Cert.NbOdRefIdeal.nD Cert.NbOdRefIdeal.τ).loc Cert.NbOdRefIdeal.main_arg1) = m ((c.tc : Thread Cert.NbOdRefIdeal.nD Cert.NbOdRefIdeal.τ).loc Cert.NbOdRefIdeal.main_arg1)
      ∧ r.2.mem ((c.tc : Thread Cert.NbOdRefIdeal.nD Cert.NbOdRefIdeal.τ).loc Cert.NbOdRefIdeal.main_arg2) = m ((c.tc : Thread Cert.NbOdRefIdeal.nD Cert.NbOdRefIdeal.τ).loc Cert.NbOdRefIdeal.main_arg2)
      ∧ r.2.mem ((c.tc : Thread Cert.NbOdRefIdeal.nD Cert.NbOdRefIdeal.τ).loc Cert.NbOdRefIdeal.main_arg3) = m ((c.tc : Thread Cert.NbOdRefIdeal.nD Cert.NbOdRefIdeal.τ).loc Cert.NbOdRefIdeal.main_arg3)
      ∧ r.2.mem ((c.tc : Thread Cert.NbOdRefIdeal.nD Cert.NbOdRefIdeal.τ).loc Cert.NbOdRefIdeal.main_arg4) = m ((c.tc : Thread Cert.NbOdRefIdeal.nD Cert.NbOdRefIdeal.τ).loc Cert.NbOdRefIdeal.main_arg4))
      ∧ r.2.sem = fun _ => 0)

def quiescent_NbOdRefIdeal_pre_finite_nbod [hNbOdRefIdeal : Cert.NbOdRefIdeal.Facts] [hPre_finite_nbod : Cert.Pre_finite_nbod.Facts] : Prop :=
  ∀ (m : (ℓ : Loc Cert.NbOdRefIdeal.nD Cert.NbOdRefIdeal.τ Cert.NbOdRefIdeal.sig) → Buf (Elt Ideal) ℓ) (g : Dev Cert.NbOdRefIdeal.nD → PrngReg), Pre_NbOdRefIdeal_finite_nbod m →
    θ_run (Cert.NbOdRefIdeal.defs (F := Ideal)) (onTc (τ := Cert.NbOdRefIdeal.τ) (Cert.NbOdRefIdeal.main (F := Ideal))) ⟨m, fun _ => 0, g⟩ (fun r => (∀ c : Dev Cert.NbOdRefIdeal.nD,
      r.2.mem ((c.tc : Thread Cert.NbOdRefIdeal.nD Cert.NbOdRefIdeal.τ).loc Cert.NbOdRefIdeal.main_arg0) = m ((c.tc : Thread Cert.NbOdRefIdeal.nD Cert.NbOdRefIdeal.τ).loc Cert.NbOdRefIdeal.main_arg0)
      ∧ r.2.mem ((c.tc : Thread Cert.NbOdRefIdeal.nD Cert.NbOdRefIdeal.τ).loc Cert.NbOdRefIdeal.main_arg1) = m ((c.tc : Thread Cert.NbOdRefIdeal.nD Cert.NbOdRefIdeal.τ).loc Cert.NbOdRefIdeal.main_arg1)
      ∧ r.2.mem ((c.tc : Thread Cert.NbOdRefIdeal.nD Cert.NbOdRefIdeal.τ).loc Cert.NbOdRefIdeal.main_arg2) = m ((c.tc : Thread Cert.NbOdRefIdeal.nD Cert.NbOdRefIdeal.τ).loc Cert.NbOdRefIdeal.main_arg2)
      ∧ r.2.mem ((c.tc : Thread Cert.NbOdRefIdeal.nD Cert.NbOdRefIdeal.τ).loc Cert.NbOdRefIdeal.main_arg3) = m ((c.tc : Thread Cert.NbOdRefIdeal.nD Cert.NbOdRefIdeal.τ).loc Cert.NbOdRefIdeal.main_arg3)
      ∧ r.2.mem ((c.tc : Thread Cert.NbOdRefIdeal.nD Cert.NbOdRefIdeal.τ).loc Cert.NbOdRefIdeal.main_arg4) = m ((c.tc : Thread Cert.NbOdRefIdeal.nD Cert.NbOdRefIdeal.τ).loc Cert.NbOdRefIdeal.main_arg4))
      ∧ r.2.sem = fun _ => 0)

def quiescent_NbXa [hNbXa : Cert.NbXa.Facts] : Prop :=
  ∀ (m : (ℓ : Loc Cert.NbXa.nD Cert.NbXa.τ Cert.NbXa.sig) → Buf (Elt Bits) ℓ) (g : Dev Cert.NbXa.nD → PrngReg), Pre_NbXa m →
    θ_run (Cert.NbXa.defs (F := Bits)) (onTc (τ := Cert.NbXa.τ) (Cert.NbXa.main (F := Bits))) ⟨m, fun _ => 0, g⟩ (fun r => (∀ c : Dev Cert.NbXa.nD,
      r.2.mem ((c.tc : Thread Cert.NbXa.nD Cert.NbXa.τ).loc Cert.NbXa.main_arg0) = m ((c.tc : Thread Cert.NbXa.nD Cert.NbXa.τ).loc Cert.NbXa.main_arg0)
      ∧ r.2.mem ((c.tc : Thread Cert.NbXa.nD Cert.NbXa.τ).loc Cert.NbXa.main_arg1) = m ((c.tc : Thread Cert.NbXa.nD Cert.NbXa.τ).loc Cert.NbXa.main_arg1)
      ∧ r.2.mem ((c.tc : Thread Cert.NbXa.nD Cert.NbXa.τ).loc Cert.NbXa.main_arg2) = m ((c.tc : Thread Cert.NbXa.nD Cert.NbXa.τ).loc Cert.NbXa.main_arg2)
      ∧ r.2.mem ((c.tc : Thread Cert.NbXa.nD Cert.NbXa.τ).loc Cert.NbXa.main_arg3) = m ((c.tc : Thread Cert.NbXa.nD Cert.NbXa.τ).loc Cert.NbXa.main_arg3)
      ∧ r.2.mem ((c.tc : Thread Cert.NbXa.nD Cert.NbXa.τ).loc Cert.NbXa.main_arg4) = m ((c.tc : Thread Cert.NbXa.nD Cert.NbXa.τ).loc Cert.NbXa.main_arg4))
      ∧ r.2.sem = fun _ => 0)

def quiescent_NbXaIdeal [hNbXaIdeal : Cert.NbXaIdeal.Facts] : Prop :=
  ∀ (m : (ℓ : Loc Cert.NbXaIdeal.nD Cert.NbXaIdeal.τ Cert.NbXaIdeal.sig) → Buf (Elt Ideal) ℓ) (g : Dev Cert.NbXaIdeal.nD → PrngReg), Pre_NbXaIdeal m →
    θ_run (Cert.NbXaIdeal.defs (F := Ideal)) (onTc (τ := Cert.NbXaIdeal.τ) (Cert.NbXaIdeal.main (F := Ideal))) ⟨m, fun _ => 0, g⟩ (fun r => (∀ c : Dev Cert.NbXaIdeal.nD,
      r.2.mem ((c.tc : Thread Cert.NbXaIdeal.nD Cert.NbXaIdeal.τ).loc Cert.NbXaIdeal.main_arg0) = m ((c.tc : Thread Cert.NbXaIdeal.nD Cert.NbXaIdeal.τ).loc Cert.NbXaIdeal.main_arg0)
      ∧ r.2.mem ((c.tc : Thread Cert.NbXaIdeal.nD Cert.NbXaIdeal.τ).loc Cert.NbXaIdeal.main_arg1) = m ((c.tc : Thread Cert.NbXaIdeal.nD Cert.NbXaIdeal.τ).loc Cert.NbXaIdeal.main_arg1)
      ∧ r.2.mem ((c.tc : Thread Cert.NbXaIdeal.nD Cert.NbXaIdeal.τ).loc Cert.NbXaIdeal.main_arg2) = m ((c.tc : Thread Cert.NbXaIdeal.nD Cert.NbXaIdeal.τ).loc Cert.NbXaIdeal.main_arg2)
      ∧ r.2.mem ((c.tc : Thread Cert.NbXaIdeal.nD Cert.NbXaIdeal.τ).loc Cert.NbXaIdeal.main_arg3) = m ((c.tc : Thread Cert.NbXaIdeal.nD Cert.NbXaIdeal.τ).loc Cert.NbXaIdeal.main_arg3)
      ∧ r.2.mem ((c.tc : Thread Cert.NbXaIdeal.nD Cert.NbXaIdeal.τ).loc Cert.NbXaIdeal.main_arg4) = m ((c.tc : Thread Cert.NbXaIdeal.nD Cert.NbXaIdeal.τ).loc Cert.NbXaIdeal.main_arg4))
      ∧ r.2.sem = fun _ => 0)

def quiescent_NbXaIdeal_pre_finite_nbxa [hNbXaIdeal : Cert.NbXaIdeal.Facts] [hPre_finite_nbxa : Cert.Pre_finite_nbxa.Facts] : Prop :=
  ∀ (m : (ℓ : Loc Cert.NbXaIdeal.nD Cert.NbXaIdeal.τ Cert.NbXaIdeal.sig) → Buf (Elt Ideal) ℓ) (g : Dev Cert.NbXaIdeal.nD → PrngReg), Pre_NbXaIdeal_finite_nbxa m →
    θ_run (Cert.NbXaIdeal.defs (F := Ideal)) (onTc (τ := Cert.NbXaIdeal.τ) (Cert.NbXaIdeal.main (F := Ideal))) ⟨m, fun _ => 0, g⟩ (fun r => (∀ c : Dev Cert.NbXaIdeal.nD,
      r.2.mem ((c.tc : Thread Cert.NbXaIdeal.nD Cert.NbXaIdeal.τ).loc Cert.NbXaIdeal.main_arg0) = m ((c.tc : Thread Cert.NbXaIdeal.nD Cert.NbXaIdeal.τ).loc Cert.NbXaIdeal.main_arg0)
      ∧ r.2.mem ((c.tc : Thread Cert.NbXaIdeal.nD Cert.NbXaIdeal.τ).loc Cert.NbXaIdeal.main_arg1) = m ((c.tc : Thread Cert.NbXaIdeal.nD Cert.NbXaIdeal.τ).loc Cert.NbXaIdeal.main_arg1)
      ∧ r.2.mem ((c.tc : Thread Cert.NbXaIdeal.nD Cert.NbXaIdeal.τ).loc Cert.NbXaIdeal.main_arg2) = m ((c.tc : Thread Cert.NbXaIdeal.nD Cert.NbXaIdeal.τ).loc Cert.NbXaIdeal.main_arg2)
      ∧ r.2.mem ((c.tc : Thread Cert.NbXaIdeal.nD Cert.NbXaIdeal.τ).loc Cert.NbXaIdeal.main_arg3) = m ((c.tc : Thread Cert.NbXaIdeal.nD Cert.NbXaIdeal.τ).loc Cert.NbXaIdeal.main_arg3)
      ∧ r.2.mem ((c.tc : Thread Cert.NbXaIdeal.nD Cert.NbXaIdeal.τ).loc Cert.NbXaIdeal.main_arg4) = m ((c.tc : Thread Cert.NbXaIdeal.nD Cert.NbXaIdeal.τ).loc Cert.NbXaIdeal.main_arg4))
      ∧ r.2.sem = fun _ => 0)

def quiescent_NbXaRefIdeal [hNbXaRefIdeal : Cert.NbXaRefIdeal.Facts] : Prop :=
  ∀ (m : (ℓ : Loc Cert.NbXaRefIdeal.nD Cert.NbXaRefIdeal.τ Cert.NbXaRefIdeal.sig) → Buf (Elt Ideal) ℓ) (g : Dev Cert.NbXaRefIdeal.nD → PrngReg), Pre_NbXaRefIdeal m →
    θ_run (Cert.NbXaRefIdeal.defs (F := Ideal)) (onTc (τ := Cert.NbXaRefIdeal.τ) (Cert.NbXaRefIdeal.main (F := Ideal))) ⟨m, fun _ => 0, g⟩ (fun r => (∀ c : Dev Cert.NbXaRefIdeal.nD,
      r.2.mem ((c.tc : Thread Cert.NbXaRefIdeal.nD Cert.NbXaRefIdeal.τ).loc Cert.NbXaRefIdeal.main_arg0) = m ((c.tc : Thread Cert.NbXaRefIdeal.nD Cert.NbXaRefIdeal.τ).loc Cert.NbXaRefIdeal.main_arg0)
      ∧ r.2.mem ((c.tc : Thread Cert.NbXaRefIdeal.nD Cert.NbXaRefIdeal.τ).loc Cert.NbXaRefIdeal.main_arg1) = m ((c.tc : Thread Cert.NbXaRefIdeal.nD Cert.NbXaRefIdeal.τ).loc Cert.NbXaRefIdeal.main_arg1)
      ∧ r.2.mem ((c.tc : Thread Cert.NbXaRefIdeal.nD Cert.NbXaRefIdeal.τ).loc Cert.NbXaRefIdeal.main_arg2) = m ((c.tc : Thread Cert.NbXaRefIdeal.nD Cert.NbXaRefIdeal.τ).loc Cert.NbXaRefIdeal.main_arg2)
      ∧ r.2.mem ((c.tc : Thread Cert.NbXaRefIdeal.nD Cert.NbXaRefIdeal.τ).loc Cert.NbXaRefIdeal.main_arg3) = m ((c.tc : Thread Cert.NbXaRefIdeal.nD Cert.NbXaRefIdeal.τ).loc Cert.NbXaRefIdeal.main_arg3)
      ∧ r.2.mem ((c.tc : Thread Cert.NbXaRefIdeal.nD Cert.NbXaRefIdeal.τ).loc Cert.NbXaRefIdeal.main_arg4) = m ((c.tc : Thread Cert.NbXaRefIdeal.nD Cert.NbXaRefIdeal.τ).loc Cert.NbXaRefIdeal.main_arg4))
      ∧ r.2.sem = fun _ => 0)

def quiescent_NbXaRefIdeal_pre_finite_nbxa [hNbXaRefIdeal : Cert.NbXaRefIdeal.Facts] [hPre_finite_nbxa : Cert.Pre_finite_nbxa.Facts] : Prop :=
  ∀ (m : (ℓ : Loc Cert.NbXaRefIdeal.nD Cert.NbXaRefIdeal.τ Cert.NbXaRefIdeal.sig) → Buf (Elt Ideal) ℓ) (g : Dev Cert.NbXaRefIdeal.nD → PrngReg), Pre_NbXaRefIdeal_finite_nbxa m →
    θ_run (Cert.NbXaRefIdeal.defs (F := Ideal)) (onTc (τ := Cert.NbXaRefIdeal.τ) (Cert.NbXaRefIdeal.main (F := Ideal))) ⟨m, fun _ => 0, g⟩ (fun r => (∀ c : Dev Cert.NbXaRefIdeal.nD,
      r.2.mem ((c.tc : Thread Cert.NbXaRefIdeal.nD Cert.NbXaRefIdeal.τ).loc Cert.NbXaRefIdeal.main_arg0) = m ((c.tc : Thread Cert.NbXaRefIdeal.nD Cert.NbXaRefIdeal.τ).loc Cert.NbXaRefIdeal.main_arg0)
      ∧ r.2.mem ((c.tc : Thread Cert.NbXaRefIdeal.nD Cert.NbXaRefIdeal.τ).loc Cert.NbXaRefIdeal.main_arg1) = m ((c.tc : Thread Cert.NbXaRefIdeal.nD Cert.NbXaRefIdeal.τ).loc Cert.NbXaRefIdeal.main_arg1)
      ∧ r.2.mem ((c.tc : Thread Cert.NbXaRefIdeal.nD Cert.NbXaRefIdeal.τ).loc Cert.NbXaRefIdeal.main_arg2) = m ((c.tc : Thread Cert.NbXaRefIdeal.nD Cert.NbXaRefIdeal.τ).loc Cert.NbXaRefIdeal.main_arg2)
      ∧ r.2.mem ((c.tc : Thread Cert.NbXaRefIdeal.nD Cert.NbXaRefIdeal.τ).loc Cert.NbXaRefIdeal.main_arg3) = m ((c.tc : Thread Cert.NbXaRefIdeal.nD Cert.NbXaRefIdeal.τ).loc Cert.NbXaRefIdeal.main_arg3)
      ∧ r.2.mem ((c.tc : Thread Cert.NbXaRefIdeal.nD Cert.NbXaRefIdeal.τ).loc Cert.NbXaRefIdeal.main_arg4) = m ((c.tc : Thread Cert.NbXaRefIdeal.nD Cert.NbXaRefIdeal.τ).loc Cert.NbXaRefIdeal.main_arg4))
      ∧ r.2.sem = fun _ => 0)

def quiescent_NbMem [hNbMem : Cert.NbMem.Facts] : Prop :=
  ∀ (m : (ℓ : Loc Cert.NbMem.nD Cert.NbMem.τ Cert.NbMem.sig) → Buf (Elt Bits) ℓ) (g : Dev Cert.NbMem.nD → PrngReg), Pre_NbMem m →
    θ_run (Cert.NbMem.defs (F := Bits)) (onTc (τ := Cert.NbMem.τ) (Cert.NbMem.main (F := Bits))) ⟨m, fun _ => 0, g⟩ (fun r => (∀ c : Dev Cert.NbMem.nD,
      r.2.mem ((c.tc : Thread Cert.NbMem.nD Cert.NbMem.τ).loc Cert.NbMem.main_arg0) = m ((c.tc : Thread Cert.NbMem.nD Cert.NbMem.τ).loc Cert.NbMem.main_arg0)
      ∧ r.2.mem ((c.tc : Thread Cert.NbMem.nD Cert.NbMem.τ).loc Cert.NbMem.main_arg1) = m ((c.tc : Thread Cert.NbMem.nD Cert.NbMem.τ).loc Cert.NbMem.main_arg1)
      ∧ r.2.mem ((c.tc : Thread Cert.NbMem.nD Cert.NbMem.τ).loc Cert.NbMem.main_arg2) = m ((c.tc : Thread Cert.NbMem.nD Cert.NbMem.τ).loc Cert.NbMem.main_arg2)
      ∧ r.2.mem ((c.tc : Thread Cert.NbMem.nD Cert.NbMem.τ).loc Cert.NbMem.main_arg3) = m ((c.tc : Thread Cert.NbMem.nD Cert.NbMem.τ).loc Cert.NbMem.main_arg3))
      ∧ r.2.sem = fun _ => 0)

def quiescent_NbMemIdeal [hNbMemIdeal : Cert.NbMemIdeal.Facts] : Prop :=
  ∀ (m : (ℓ : Loc Cert.NbMemIdeal.nD Cert.NbMemIdeal.τ Cert.NbMemIdeal.sig) → Buf (Elt Ideal) ℓ) (g : Dev Cert.NbMemIdeal.nD → PrngReg), Pre_NbMemIdeal m →
    θ_run (Cert.NbMemIdeal.defs (F := Ideal)) (onTc (τ := Cert.NbMemIdeal.τ) (Cert.NbMemIdeal.main (F := Ideal))) ⟨m, fun _ => 0, g⟩ (fun r => (∀ c : Dev Cert.NbMemIdeal.nD,
      r.2.mem ((c.tc : Thread Cert.NbMemIdeal.nD Cert.NbMemIdeal.τ).loc Cert.NbMemIdeal.main_arg0) = m ((c.tc : Thread Cert.NbMemIdeal.nD Cert.NbMemIdeal.τ).loc Cert.NbMemIdeal.main_arg0)
      ∧ r.2.mem ((c.tc : Thread Cert.NbMemIdeal.nD Cert.NbMemIdeal.τ).loc Cert.NbMemIdeal.main_arg1) = m ((c.tc : Thread Cert.NbMemIdeal.nD Cert.NbMemIdeal.τ).loc Cert.NbMemIdeal.main_arg1)
      ∧ r.2.mem ((c.tc : Thread Cert.NbMemIdeal.nD Cert.NbMemIdeal.τ).loc Cert.NbMemIdeal.main_arg2) = m ((c.tc : Thread Cert.NbMemIdeal.nD Cert.NbMemIdeal.τ).loc Cert.NbMemIdeal.main_arg2)
      ∧ r.2.mem ((c.tc : Thread Cert.NbMemIdeal.nD Cert.NbMemIdeal.τ).loc Cert.NbMemIdeal.main_arg3) = m ((c.tc : Thread Cert.NbMemIdeal.nD Cert.NbMemIdeal.τ).loc Cert.NbMemIdeal.main_arg3))
      ∧ r.2.sem = fun _ => 0)

def quiescent_NbMemRefIdeal [hNbMemRefIdeal : Cert.NbMemRefIdeal.Facts] : Prop :=
  ∀ (m : (ℓ : Loc Cert.NbMemRefIdeal.nD Cert.NbMemRefIdeal.τ Cert.NbMemRefIdeal.sig) → Buf (Elt Ideal) ℓ) (g : Dev Cert.NbMemRefIdeal.nD → PrngReg), Pre_NbMemRefIdeal m →
    θ_run (Cert.NbMemRefIdeal.defs (F := Ideal)) (onTc (τ := Cert.NbMemRefIdeal.τ) (Cert.NbMemRefIdeal.main (F := Ideal))) ⟨m, fun _ => 0, g⟩ (fun r => (∀ c : Dev Cert.NbMemRefIdeal.nD,
      r.2.mem ((c.tc : Thread Cert.NbMemRefIdeal.nD Cert.NbMemRefIdeal.τ).loc Cert.NbMemRefIdeal.main_arg0) = m ((c.tc : Thread Cert.NbMemRefIdeal.nD Cert.NbMemRefIdeal.τ).loc Cert.NbMemRefIdeal.main_arg0)
      ∧ r.2.mem ((c.tc : Thread Cert.NbMemRefIdeal.nD Cert.NbMemRefIdeal.τ).loc Cert.NbMemRefIdeal.main_arg1) = m ((c.tc : Thread Cert.NbMemRefIdeal.nD Cert.NbMemRefIdeal.τ).loc Cert.NbMemRefIdeal.main_arg1)
      ∧ r.2.mem ((c.tc : Thread Cert.NbMemRefIdeal.nD Cert.NbMemRefIdeal.τ).loc Cert.NbMemRefIdeal.main_arg2) = m ((c.tc : Thread Cert.NbMemRefIdeal.nD Cert.NbMemRefIdeal.τ).loc Cert.NbMemRefIdeal.main_arg2)
      ∧ r.2.mem ((c.tc : Thread Cert.NbMemRefIdeal.nD Cert.NbMemRefIdeal.τ).loc Cert.NbMemRefIdeal.main_arg3) = m ((c.tc : Thread Cert.NbMemRefIdeal.nD Cert.NbMemRefIdeal.τ).loc Cert.NbMemRefIdeal.main_arg3))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamEvIn [hAdamEvIn : Cert.AdamEvIn.Facts] : Prop :=
  ∀ (m : (ℓ : Loc Cert.AdamEvIn.nD Cert.AdamEvIn.τ Cert.AdamEvIn.sig) → Buf (Elt Bits) ℓ) (g : Dev Cert.AdamEvIn.nD → PrngReg), Pre_AdamEvIn m →
    θ_run (Cert.AdamEvIn.defs (F := Bits)) (onTc (τ := Cert.AdamEvIn.τ) (Cert.AdamEvIn.main (F := Bits))) ⟨m, fun _ => 0, g⟩ (fun r => (∀ c : Dev Cert.AdamEvIn.nD,
      r.2.mem ((c.tc : Thread Cert.AdamEvIn.nD Cert.AdamEvIn.τ).loc Cert.AdamEvIn.main_arg0) = m ((c.tc : Thread Cert.AdamEvIn.nD Cert.AdamEvIn.τ).loc Cert.AdamEvIn.main_arg0)
      ∧ r.2.mem ((c.tc : Thread Cert.AdamEvIn.nD Cert.AdamEvIn.τ).loc Cert.AdamEvIn.main_arg1) = m ((c.tc : Thread Cert.AdamEvIn.nD Cert.AdamEvIn.τ).loc Cert.AdamEvIn.main_arg1)
      ∧ r.2.mem ((c.tc : Thread Cert.AdamEvIn.nD Cert.AdamEvIn.τ).loc Cert.AdamEvIn.main_arg2) = m ((c.tc : Thread Cert.AdamEvIn.nD Cert.AdamEvIn.τ).loc Cert.AdamEvIn.main_arg2)
      ∧ r.2.mem ((c.tc : Thread Cert.AdamEvIn.nD Cert.AdamEvIn.τ).loc Cert.AdamEvIn.main_arg3) = m ((c.tc : Thread Cert.AdamEvIn.nD Cert.AdamEvIn.τ).loc Cert.AdamEvIn.main_arg3))
      ∧ r.2.sem = fun _ => 0)

def quiescent_AdamEvInIdeal [hAdamEvInIdeal : Cert.AdamEvInIdeal.Facts] : Prop :=
  ∀ (m : (ℓ : Loc Cert.AdamEvInIdeal.nD Cert.AdamEvInIdeal.τ Cert.AdamEvInIdeal.sig) → Buf (Elt Ideal) ℓ) (g : Dev Cert.AdamEvInIdeal.nD → PrngReg), Pre_AdamEvInIdeal m →
    θ_run (Cert.AdamEvInIdeal.defs (F := Ideal)) (onTc (τ := Cert.AdamEvInIdeal.τ) (Cert.AdamEvInIdeal.main (F := Ideal))) ⟨m, fun _ => 0, g⟩ (fun r => (∀ c : Dev Cert.AdamEvInIdeal.nD,
      r.2.mem ((c.tc : Thread Cert.AdamEvInIdeal.nD Cert.AdamEvInIdeal.τ).loc Cert.AdamEvInIdeal.main_arg0) = m ((c.tc : Thread Cert.AdamEvInIdeal.nD Cert.AdamEvInIdeal.τ).loc Cert.AdamEvInIdeal.main_arg0)
      ∧ r.2.mem ((c.tc : Thread Cert.AdamEvInIdeal.nD Cert.AdamEvInIdeal.τ).loc Cert.AdamEvInIdeal.main_arg1) = m ((c.tc : Thread Cert.AdamEvInIdeal.nD Cert.AdamEvInIdeal.τ).loc Cert.AdamEvInIdeal.main_arg1)
      ∧ r.2.mem ((c.tc : Thread Cert.AdamEvInIdeal.nD Cert.AdamEvInIdeal.τ).loc Cert.AdamEvInIdeal.main_arg2) = m ((c.tc : Thread Cert.AdamEvInIdeal.nD Cert.AdamEvInIdeal.τ).loc Cert.AdamEvInIdeal.main_arg2)
      ∧ r.2.mem ((c.tc : Thread Cert.AdamEvInIdeal.nD Cert.AdamEvInIdeal.τ).loc Cert.AdamEvInIdeal.main_arg3) = m ((c.tc : Thread Cert.AdamEvInIdeal.nD Cert.AdamEvInIdeal.τ).loc Cert.AdamEvInIdeal.main_arg3))
      ∧ r.2.sem = fun _ => 0)

def quiescent_AdamEvInRefIdeal [hAdamEvInRefIdeal : Cert.AdamEvInRefIdeal.Facts] : Prop :=
  ∀ (m : (ℓ : Loc Cert.AdamEvInRefIdeal.nD Cert.AdamEvInRefIdeal.τ Cert.AdamEvInRefIdeal.sig) → Buf (Elt Ideal) ℓ) (g : Dev Cert.AdamEvInRefIdeal.nD → PrngReg), Pre_AdamEvInRefIdeal m →
    θ_run (Cert.AdamEvInRefIdeal.defs (F := Ideal)) (onTc (τ := Cert.AdamEvInRefIdeal.τ) (Cert.AdamEvInRefIdeal.main (F := Ideal))) ⟨m, fun _ => 0, g⟩ (fun r => (∀ c : Dev Cert.AdamEvInRefIdeal.nD,
      r.2.mem ((c.tc : Thread Cert.AdamEvInRefIdeal.nD Cert.AdamEvInRefIdeal.τ).loc Cert.AdamEvInRefIdeal.main_arg0) = m ((c.tc : Thread Cert.AdamEvInRefIdeal.nD Cert.AdamEvInRefIdeal.τ).loc Cert.AdamEvInRefIdeal.main_arg0)
      ∧ r.2.mem ((c.tc : Thread Cert.AdamEvInRefIdeal.nD Cert.AdamEvInRefIdeal.τ).loc Cert.AdamEvInRefIdeal.main_arg1) = m ((c.tc : Thread Cert.AdamEvInRefIdeal.nD Cert.AdamEvInRefIdeal.τ).loc Cert.AdamEvInRefIdeal.main_arg1)
      ∧ r.2.mem ((c.tc : Thread Cert.AdamEvInRefIdeal.nD Cert.AdamEvInRefIdeal.τ).loc Cert.AdamEvInRefIdeal.main_arg2) = m ((c.tc : Thread Cert.AdamEvInRefIdeal.nD Cert.AdamEvInRefIdeal.τ).loc Cert.AdamEvInRefIdeal.main_arg2)
      ∧ r.2.mem ((c.tc : Thread Cert.AdamEvInRefIdeal.nD Cert.AdamEvInRefIdeal.τ).loc Cert.AdamEvInRefIdeal.main_arg3) = m ((c.tc : Thread Cert.AdamEvInRefIdeal.nD Cert.AdamEvInRefIdeal.τ).loc Cert.AdamEvInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamOdIn [hAdamOdIn : Cert.AdamOdIn.Facts] : Prop :=
  ∀ (m : (ℓ : Loc Cert.AdamOdIn.nD Cert.AdamOdIn.τ Cert.AdamOdIn.sig) → Buf (Elt Bits) ℓ) (g : Dev Cert.AdamOdIn.nD → PrngReg), Pre_AdamOdIn m →
    θ_run (Cert.AdamOdIn.defs (F := Bits)) (onTc (τ := Cert.AdamOdIn.τ) (Cert.AdamOdIn.main (F := Bits))) ⟨m, fun _ => 0, g⟩ (fun r => (∀ c : Dev Cert.AdamOdIn.nD,
      r.2.mem ((c.tc : Thread Cert.AdamOdIn.nD Cert.AdamOdIn.τ).loc Cert.AdamOdIn.main_arg0) = m ((c.tc : Thread Cert.AdamOdIn.nD Cert.AdamOdIn.τ).loc Cert.AdamOdIn.main_arg0)
      ∧ r.2.mem ((c.tc : Thread Cert.AdamOdIn.nD Cert.AdamOdIn.τ).loc Cert.AdamOdIn.main_arg1) = m ((c.tc : Thread Cert.AdamOdIn.nD Cert.AdamOdIn.τ).loc Cert.AdamOdIn.main_arg1)
      ∧ r.2.mem ((c.tc : Thread Cert.AdamOdIn.nD Cert.AdamOdIn.τ).loc Cert.AdamOdIn.main_arg2) = m ((c.tc : Thread Cert.AdamOdIn.nD Cert.AdamOdIn.τ).loc Cert.AdamOdIn.main_arg2)
      ∧ r.2.mem ((c.tc : Thread Cert.AdamOdIn.nD Cert.AdamOdIn.τ).loc Cert.AdamOdIn.main_arg3) = m ((c.tc : Thread Cert.AdamOdIn.nD Cert.AdamOdIn.τ).loc Cert.AdamOdIn.main_arg3))
      ∧ r.2.sem = fun _ => 0)

def quiescent_AdamOdInIdeal [hAdamOdInIdeal : Cert.AdamOdInIdeal.Facts] : Prop :=
  ∀ (m : (ℓ : Loc Cert.AdamOdInIdeal.nD Cert.AdamOdInIdeal.τ Cert.AdamOdInIdeal.sig) → Buf (Elt Ideal) ℓ) (g : Dev Cert.AdamOdInIdeal.nD → PrngReg), Pre_AdamOdInIdeal m →
    θ_run (Cert.AdamOdInIdeal.defs (F := Ideal)) (onTc (τ := Cert.AdamOdInIdeal.τ) (Cert.AdamOdInIdeal.main (F := Ideal))) ⟨m, fun _ => 0, g⟩ (fun r => (∀ c : Dev Cert.AdamOdInIdeal.nD,
      r.2.mem ((c.tc : Thread Cert.AdamOdInIdeal.nD Cert.AdamOdInIdeal.τ).loc Cert.AdamOdInIdeal.main_arg0) = m ((c.tc : Thread Cert.AdamOdInIdeal.nD Cert.AdamOdInIdeal.τ).loc Cert.AdamOdInIdeal.main_arg0)
      ∧ r.2.mem ((c.tc : Thread Cert.AdamOdInIdeal.nD Cert.AdamOdInIdeal.τ).loc Cert.AdamOdInIdeal.main_arg1) = m ((c.tc : Thread Cert.AdamOdInIdeal.nD Cert.AdamOdInIdeal.τ).loc Cert.AdamOdInIdeal.main_arg1)
      ∧ r.2.mem ((c.tc : Thread Cert.AdamOdInIdeal.nD Cert.AdamOdInIdeal.τ).loc Cert.AdamOdInIdeal.main_arg2) = m ((c.tc : Thread Cert.AdamOdInIdeal.nD Cert.AdamOdInIdeal.τ).loc Cert.AdamOdInIdeal.main_arg2)
      ∧ r.2.mem ((c.tc : Thread Cert.AdamOdInIdeal.nD Cert.AdamOdInIdeal.τ).loc Cert.AdamOdInIdeal.main_arg3) = m ((c.tc : Thread Cert.AdamOdInIdeal.nD Cert.AdamOdInIdeal.τ).loc Cert.AdamOdInIdeal.main_arg3))
      ∧ r.2.sem = fun _ => 0)

def quiescent_AdamOdInRefIdeal [hAdamOdInRefIdeal : Cert.AdamOdInRefIdeal.Facts] : Prop :=
  ∀ (m : (ℓ : Loc Cert.AdamOdInRefIdeal.nD Cert.AdamOdInRefIdeal.τ Cert.AdamOdInRefIdeal.sig) → Buf (Elt Ideal) ℓ) (g : Dev Cert.AdamOdInRefIdeal.nD → PrngReg), Pre_AdamOdInRefIdeal m →
    θ_run (Cert.AdamOdInRefIdeal.defs (F := Ideal)) (onTc (τ := Cert.AdamOdInRefIdeal.τ) (Cert.AdamOdInRefIdeal.main (F := Ideal))) ⟨m, fun _ => 0, g⟩ (fun r => (∀ c : Dev Cert.AdamOdInRefIdeal.nD,
      r.2.mem ((c.tc : Thread Cert.AdamOdInRefIdeal.nD Cert.AdamOdInRefIdeal.τ).loc Cert.AdamOdInRefIdeal.main_arg0) = m ((c.tc : Thread Cert.AdamOdInRefIdeal.nD Cert.AdamOdInRefIdeal.τ).loc Cert.AdamOdInRefIdeal.main_arg0)
      ∧ r.2.mem ((c.tc : Thread Cert.AdamOdInRefIdeal.nD Cert.AdamOdInRefIdeal.τ).loc Cert.AdamOdInRefIdeal.main_arg1) = m ((c.tc : Thread Cert.AdamOdInRefIdeal.nD Cert.AdamOdInRefIdeal.τ).loc Cert.AdamOdInRefIdeal.main_arg1)
      ∧ r.2.mem ((c.tc : Thread Cert.AdamOdInRefIdeal.nD Cert.AdamOdInRefIdeal.τ).loc Cert.AdamOdInRefIdeal.main_arg2) = m ((c.tc : Thread Cert.AdamOdInRefIdeal.nD Cert.AdamOdInRefIdeal.τ).loc Cert.AdamOdInRefIdeal.main_arg2)
      ∧ r.2.mem ((c.tc : Thread Cert.AdamOdInRefIdeal.nD Cert.AdamOdInRefIdeal.τ).loc Cert.AdamOdInRefIdeal.main_arg3) = m ((c.tc : Thread Cert.AdamOdInRefIdeal.nD Cert.AdamOdInRefIdeal.τ).loc Cert.AdamOdInRefIdeal.main_arg3))
      ∧ r.2.sem = fun _ => 0)

def quiescent_AdamXa [hAdamXa : Cert.AdamXa.Facts] : Prop :=
  ∀ (m : (ℓ : Loc Cert.AdamXa.nD Cert.AdamXa.τ Cert.AdamXa.sig) → Buf (Elt Bits) ℓ) (g : Dev Cert.AdamXa.nD → PrngReg), Pre_AdamXa m →
    θ_run (Cert.AdamXa.defs (F := Bits)) (onTc (τ := Cert.AdamXa.τ) (Cert.AdamXa.main (F := Bits))) ⟨m, fun _ => 0, g⟩ (fun r => (∀ c : Dev Cert.AdamXa.nD,
      r.2.mem ((c.tc : Thread Cert.AdamXa.nD Cert.AdamXa.τ).loc Cert.AdamXa.main_arg0) = m ((c.tc : Thread Cert.AdamXa.nD Cert.AdamXa.τ).loc Cert.AdamXa.main_arg0)
      ∧ r.2.mem ((c.tc : Thread Cert.AdamXa.nD Cert.AdamXa.τ).loc Cert.AdamXa.main_arg1) = m ((c.tc : Thread Cert.AdamXa.nD Cert.AdamXa.τ).loc Cert.AdamXa.main_arg1)
      ∧ r.2.mem ((c.tc : Thread Cert.AdamXa.nD Cert.AdamXa.τ).loc Cert.AdamXa.main_arg2) = m ((c.tc : Thread Cert.AdamXa.nD Cert.AdamXa.τ).loc Cert.AdamXa.main_arg2)
      ∧ r.2.mem ((c.tc : Thread Cert.AdamXa.nD Cert.AdamXa.τ).loc Cert.AdamXa.main_arg3) = m ((c.tc : Thread Cert.AdamXa.nD Cert.AdamXa.τ).loc Cert.AdamXa.main_arg3))
      ∧ r.2.sem = fun _ => 0)

def quiescent_AdamXaIdeal [hAdamXaIdeal : Cert.AdamXaIdeal.Facts] : Prop :=
  ∀ (m : (ℓ : Loc Cert.AdamXaIdeal.nD Cert.AdamXaIdeal.τ Cert.AdamXaIdeal.sig) → Buf (Elt Ideal) ℓ) (g : Dev Cert.AdamXaIdeal.nD → PrngReg), Pre_AdamXaIdeal m →
    θ_run (Cert.AdamXaIdeal.defs (F := Ideal)) (onTc (τ := Cert.AdamXaIdeal.τ) (Cert.AdamXaIdeal.main (F := Ideal))) ⟨m, fun _ => 0, g⟩ (fun r => (∀ c : Dev Cert.AdamXaIdeal.nD,
      r.2.mem ((c.tc : Thread Cert.AdamXaIdeal.nD Cert.AdamXaIdeal.τ).loc Cert.AdamXaIdeal.main_arg0) = m ((c.tc : Thread Cert.AdamXaIdeal.nD Cert.AdamXaIdeal.τ).loc Cert.AdamXaIdeal.main_arg0)
      ∧ r.2.mem ((c.tc : Thread Cert.AdamXaIdeal.nD Cert.AdamXaIdeal.τ).loc Cert.AdamXaIdeal.main_arg1) = m ((c.tc : Thread Cert.AdamXaIdeal.nD Cert.AdamXaIdeal.τ).loc Cert.AdamXaIdeal.main_arg1)
      ∧ r.2.mem ((c.tc : Thread Cert.AdamXaIdeal.nD Cert.AdamXaIdeal.τ).loc Cert.AdamXaIdeal.main_arg2) = m ((c.tc : Thread Cert.AdamXaIdeal.nD Cert.AdamXaIdeal.τ).loc Cert.AdamXaIdeal.main_arg2)
      ∧ r.2.mem ((c.tc : Thread Cert.AdamXaIdeal.nD Cert.AdamXaIdeal.τ).loc Cert.AdamXaIdeal.main_arg3) = m ((c.tc : Thread Cert.AdamXaIdeal.nD Cert.AdamXaIdeal.τ).loc Cert.AdamXaIdeal.main_arg3))
      ∧ r.2.sem = fun _ => 0)

def quiescent_AdamXaRefIdeal [hAdamXaRefIdeal : Cert.AdamXaRefIdeal.Facts] : Prop :=
  ∀ (m : (ℓ : Loc Cert.AdamXaRefIdeal.nD Cert.AdamXaRefIdeal.τ Cert.AdamXaRefIdeal.sig) → Buf (Elt Ideal) ℓ) (g : Dev Cert.AdamXaRefIdeal.nD → PrngReg), Pre_AdamXaRefIdeal m →
    θ_run (Cert.AdamXaRefIdeal.defs (F := Ideal)) (onTc (τ := Cert.AdamXaRefIdeal.τ) (Cert.AdamXaRefIdeal.main (F := Ideal))) ⟨m, fun _ => 0, g⟩ (fun r => (∀ c : Dev Cert.AdamXaRefIdeal.nD,
      r.2.mem ((c.tc : Thread Cert.AdamXaRefIdeal.nD Cert.AdamXaRefIdeal.τ).loc Cert.AdamXaRefIdeal.main_arg0) = m ((c.tc : Thread Cert.AdamXaRefIdeal.nD Cert.AdamXaRefIdeal.τ).loc Cert.AdamXaRefIdeal.main_arg0)
      ∧ r.2.mem ((c.tc : Thread Cert.AdamXaRefIdeal.nD Cert.AdamXaRefIdeal.τ).loc Cert.AdamXaRefIdeal.main_arg1) = m ((c.tc : Thread Cert.AdamXaRefIdeal.nD Cert.AdamXaRefIdeal.τ).loc Cert.AdamXaRefIdeal.main_arg1)
      ∧ r.2.mem ((c.tc : Thread Cert.AdamXaRefIdeal.nD Cert.AdamXaRefIdeal.τ).loc Cert.AdamXaRefIdeal.main_arg2) = m ((c.tc : Thread Cert.AdamXaRefIdeal.nD Cert.AdamXaRefIdeal.τ).loc Cert.AdamXaRefIdeal.main_arg2)
      ∧ r.2.mem ((c.tc : Thread Cert.AdamXaRefIdeal.nD Cert.AdamXaRefIdeal.τ).loc Cert.AdamXaRefIdeal.main_arg3) = m ((c.tc : Thread Cert.AdamXaRefIdeal.nD Cert.AdamXaRefIdeal.τ).loc Cert.AdamXaRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_finite_attn [hKernelIdeal : Cert.KernelIdeal.Facts] [hReferenceIdeal : Cert.ReferenceIdeal.Facts] [hPre_finite_attn : Cert.Pre_finite_attn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_attn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v49_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v49_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v24) = v0 c
          ∧ r.2.mem ((c.tc : Thread Cert.GateRefIdeal.nD Cert.GateRefIdeal.τ).loc Cert.GateRefIdeal.main_v25) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v16) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Dx_DxIdeal : Prop :=
  True

def algebraic_DxIdeal_DxRefIdeal_pre_finite_dx [hDxIdeal : Cert.DxIdeal.Facts] [hDxRefIdeal : Cert.DxRefIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_finite_dx m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v48) = v0 c
          ∧ r.2.mem ((c.tc : Thread Cert.DxRefIdeal.nD Cert.DxRefIdeal.τ).loc Cert.DxRefIdeal.main_v31) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)) (v2 : (c : Dev Cert.FwdIdeal.nD) → Buf (Elt Ideal) ((c.tc : Thread Cert.FwdIdeal.nD Cert.FwdIdeal.τ).loc Cert.FwdIdeal.main_v0_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_v0_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v24) = v0 c
          ∧ r.2.mem ((c.tc : Thread Cert.FwdRefIdeal.nD Cert.FwdRefIdeal.τ).loc Cert.FwdRefIdeal.main_v28) = v1 c
          ∧ r.2.mem ((c.tc : Thread Cert.FwdRefIdeal.nD Cert.FwdRefIdeal.τ).loc Cert.FwdRefIdeal.main_v29) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Nn_NnIdeal : Prop :=
  True

def algebraic_NnIdeal_NnRefIdeal [hNnIdeal : Cert.NnIdeal.Facts] [hNnRefIdeal : Cert.NnRefIdeal.Facts] : Prop :=
  ∀ (m : (ℓ : Loc Cert.NnIdeal.nD Cert.NnIdeal.τ Cert.NnIdeal.sig) → Buf (Elt Ideal) ℓ) (g : Dev Cert.NnIdeal.nD → PrngReg)
    (m' : (ℓ : Loc Cert.NnRefIdeal.nD Cert.NnRefIdeal.τ Cert.NnRefIdeal.sig) → Buf (Elt Ideal) ℓ) (g' : Dev Cert.NnRefIdeal.nD → PrngReg), Pre_NnIdeal m →
    (∀ c : Dev Cert.NnIdeal.nD,
      m' ((c.tc : Thread Cert.NnRefIdeal.nD Cert.NnRefIdeal.τ).loc Cert.NnRefIdeal.main_arg0) = m ((c.tc : Thread Cert.NnIdeal.nD Cert.NnIdeal.τ).loc Cert.NnIdeal.main_arg0)
      ∧ m' ((c.tc : Thread Cert.NnRefIdeal.nD Cert.NnRefIdeal.τ).loc Cert.NnRefIdeal.main_arg1) = m ((c.tc : Thread Cert.NnIdeal.nD Cert.NnIdeal.τ).loc Cert.NnIdeal.main_arg1)
      ∧ m' ((c.tc : Thread Cert.NnRefIdeal.nD Cert.NnRefIdeal.τ).loc Cert.NnRefIdeal.main_arg2) = m ((c.tc : Thread Cert.NnIdeal.nD Cert.NnIdeal.τ).loc Cert.NnIdeal.main_arg2)) →
    ∃ (v0 : (c : Dev Cert.NnIdeal.nD) → Buf (Elt Ideal) ((c.tc : Thread Cert.NnIdeal.nD Cert.NnIdeal.τ).loc Cert.NnIdeal.main_v0)),
      θ_run (Cert.NnIdeal.defs (F := Ideal)) (onTc (τ := Cert.NnIdeal.τ) (Cert.NnIdeal.main (F := Ideal))) ⟨m, fun _ => 0, g⟩ (fun r => ∀ c : Dev Cert.NnIdeal.nD,
          r.2.mem ((c.tc : Thread Cert.NnIdeal.nD Cert.NnIdeal.τ).loc Cert.NnIdeal.main_v0) = v0 c
          ∧ r.2.mem ((c.tc : Thread Cert.NnIdeal.nD Cert.NnIdeal.τ).loc Cert.NnIdeal.main_arg0) = m ((c.tc : Thread Cert.NnIdeal.nD Cert.NnIdeal.τ).loc Cert.NnIdeal.main_arg0)
          ∧ r.2.mem ((c.tc : Thread Cert.NnIdeal.nD Cert.NnIdeal.τ).loc Cert.NnIdeal.main_arg1) = m ((c.tc : Thread Cert.NnIdeal.nD Cert.NnIdeal.τ).loc Cert.NnIdeal.main_arg1)
          ∧ r.2.mem ((c.tc : Thread Cert.NnIdeal.nD Cert.NnIdeal.τ).loc Cert.NnIdeal.main_arg2) = m ((c.tc : Thread Cert.NnIdeal.nD Cert.NnIdeal.τ).loc Cert.NnIdeal.main_arg2))
      ∧ θ_run (Cert.NnRefIdeal.defs (F := Ideal)) (onTc (τ := Cert.NnRefIdeal.τ) (Cert.NnRefIdeal.main (F := Ideal))) ⟨m', fun _ => 0, g'⟩ (fun r => ∀ c : Dev Cert.NnRefIdeal.nD,
          r.2.mem ((c.tc : Thread Cert.NnRefIdeal.nD Cert.NnRefIdeal.τ).loc Cert.NnRefIdeal.main_v2) = v0 c
          ∧ r.2.mem ((c.tc : Thread Cert.NnRefIdeal.nD Cert.NnRefIdeal.τ).loc Cert.NnRefIdeal.main_arg0) = m' ((c.tc : Thread Cert.NnRefIdeal.nD Cert.NnRefIdeal.τ).loc Cert.NnRefIdeal.main_arg0)
          ∧ r.2.mem ((c.tc : Thread Cert.NnRefIdeal.nD Cert.NnRefIdeal.τ).loc Cert.NnRefIdeal.main_arg1) = m' ((c.tc : Thread Cert.NnRefIdeal.nD Cert.NnRefIdeal.τ).loc Cert.NnRefIdeal.main_arg1)
          ∧ r.2.mem ((c.tc : Thread Cert.NnRefIdeal.nD Cert.NnRefIdeal.τ).loc Cert.NnRefIdeal.main_arg2) = m' ((c.tc : Thread Cert.NnRefIdeal.nD Cert.NnRefIdeal.τ).loc Cert.NnRefIdeal.main_arg2))

def preserves_Nt_NtIdeal : Prop :=
  True

def algebraic_NtIdeal_NtRefIdeal [hNtIdeal : Cert.NtIdeal.Facts] [hNtRefIdeal : Cert.NtRefIdeal.Facts] : Prop :=
  ∀ (m : (ℓ : Loc Cert.NtIdeal.nD Cert.NtIdeal.τ Cert.NtIdeal.sig) → Buf (Elt Ideal) ℓ) (g : Dev Cert.NtIdeal.nD → PrngReg)
    (m' : (ℓ : Loc Cert.NtRefIdeal.nD Cert.NtRefIdeal.τ Cert.NtRefIdeal.sig) → Buf (Elt Ideal) ℓ) (g' : Dev Cert.NtRefIdeal.nD → PrngReg), Pre_NtIdeal m →
    (∀ c : Dev Cert.NtIdeal.nD,
      m' ((c.tc : Thread Cert.NtRefIdeal.nD Cert.NtRefIdeal.τ).loc Cert.NtRefIdeal.main_arg0) = m ((c.tc : Thread Cert.NtIdeal.nD Cert.NtIdeal.τ).loc Cert.NtIdeal.main_arg0)
      ∧ m' ((c.tc : Thread Cert.NtRefIdeal.nD Cert.NtRefIdeal.τ).loc Cert.NtRefIdeal.main_arg1) = m ((c.tc : Thread Cert.NtIdeal.nD Cert.NtIdeal.τ).loc Cert.NtIdeal.main_arg1)) →
    ∃ (v0 : (c : Dev Cert.NtIdeal.nD) → Buf (Elt Ideal) ((c.tc : Thread Cert.NtIdeal.nD Cert.NtIdeal.τ).loc Cert.NtIdeal.main_v0)),
      θ_run (Cert.NtIdeal.defs (F := Ideal)) (onTc (τ := Cert.NtIdeal.τ) (Cert.NtIdeal.main (F := Ideal))) ⟨m, fun _ => 0, g⟩ (fun r => ∀ c : Dev Cert.NtIdeal.nD,
          r.2.mem ((c.tc : Thread Cert.NtIdeal.nD Cert.NtIdeal.τ).loc Cert.NtIdeal.main_v0) = v0 c
          ∧ r.2.mem ((c.tc : Thread Cert.NtIdeal.nD Cert.NtIdeal.τ).loc Cert.NtIdeal.main_arg0) = m ((c.tc : Thread Cert.NtIdeal.nD Cert.NtIdeal.τ).loc Cert.NtIdeal.main_arg0)
          ∧ r.2.mem ((c.tc : Thread Cert.NtIdeal.nD Cert.NtIdeal.τ).loc Cert.NtIdeal.main_arg1) = m ((c.tc : Thread Cert.NtIdeal.nD Cert.NtIdeal.τ).loc Cert.NtIdeal.main_arg1))
      ∧ θ_run (Cert.NtRefIdeal.defs (F := Ideal)) (onTc (τ := Cert.NtRefIdeal.τ) (Cert.NtRefIdeal.main (F := Ideal))) ⟨m', fun _ => 0, g'⟩ (fun r => ∀ c : Dev Cert.NtRefIdeal.nD,
          r.2.mem ((c.tc : Thread Cert.NtRefIdeal.nD Cert.NtRefIdeal.τ).loc Cert.NtRefIdeal.main_v3) = v0 c
          ∧ r.2.mem ((c.tc : Thread Cert.NtRefIdeal.nD Cert.NtRefIdeal.τ).loc Cert.NtRefIdeal.main_arg0) = m' ((c.tc : Thread Cert.NtRefIdeal.nD Cert.NtRefIdeal.τ).loc Cert.NtRefIdeal.main_arg0)
          ∧ r.2.mem ((c.tc : Thread Cert.NtRefIdeal.nD Cert.NtRefIdeal.τ).loc Cert.NtRefIdeal.main_arg1) = m' ((c.tc : Thread Cert.NtRefIdeal.nD Cert.NtRefIdeal.τ).loc Cert.NtRefIdeal.main_arg1))

def preserves_Sq_SqIdeal : Prop :=
  True

def algebraic_SqIdeal_SqRefIdeal [hSqIdeal : Cert.SqIdeal.Facts] [hSqRefIdeal : Cert.SqRefIdeal.Facts] : Prop :=
  ∀ (m : (ℓ : Loc Cert.SqIdeal.nD Cert.SqIdeal.τ Cert.SqIdeal.sig) → Buf (Elt Ideal) ℓ) (g : Dev Cert.SqIdeal.nD → PrngReg)
    (m' : (ℓ : Loc Cert.SqRefIdeal.nD Cert.SqRefIdeal.τ Cert.SqRefIdeal.sig) → Buf (Elt Ideal) ℓ) (g' : Dev Cert.SqRefIdeal.nD → PrngReg), Pre_SqIdeal m →
    (∀ c : Dev Cert.SqIdeal.nD,
      m' ((c.tc : Thread Cert.SqRefIdeal.nD Cert.SqRefIdeal.τ).loc Cert.SqRefIdeal.main_arg0) = m ((c.tc : Thread Cert.SqIdeal.nD Cert.SqIdeal.τ).loc Cert.SqIdeal.main_arg0)
      ∧ m' ((c.tc : Thread Cert.SqRefIdeal.nD Cert.SqRefIdeal.τ).loc Cert.SqRefIdeal.main_arg1) = m ((c.tc : Thread Cert.SqIdeal.nD Cert.SqIdeal.τ).loc Cert.SqIdeal.main_arg1)) →
    ∃ (v0 : (c : Dev Cert.SqIdeal.nD) → Buf (Elt Ideal) ((c.tc : Thread Cert.SqIdeal.nD Cert.SqIdeal.τ).loc Cert.SqIdeal.main_v0)),
      θ_run (Cert.SqIdeal.defs (F := Ideal)) (onTc (τ := Cert.SqIdeal.τ) (Cert.SqIdeal.main (F := Ideal))) ⟨m, fun _ => 0, g⟩ (fun r => ∀ c : Dev Cert.SqIdeal.nD,
          r.2.mem ((c.tc : Thread Cert.SqIdeal.nD Cert.SqIdeal.τ).loc Cert.SqIdeal.main_v0) = v0 c
          ∧ r.2.mem ((c.tc : Thread Cert.SqIdeal.nD Cert.SqIdeal.τ).loc Cert.SqIdeal.main_arg0) = m ((c.tc : Thread Cert.SqIdeal.nD Cert.SqIdeal.τ).loc Cert.SqIdeal.main_arg0)
          ∧ r.2.mem ((c.tc : Thread Cert.SqIdeal.nD Cert.SqIdeal.τ).loc Cert.SqIdeal.main_arg1) = m ((c.tc : Thread Cert.SqIdeal.nD Cert.SqIdeal.τ).loc Cert.SqIdeal.main_arg1))
      ∧ θ_run (Cert.SqRefIdeal.defs (F := Ideal)) (onTc (τ := Cert.SqRefIdeal.τ) (Cert.SqRefIdeal.main (F := Ideal))) ⟨m', fun _ => 0, g'⟩ (fun r => ∀ c : Dev Cert.SqRefIdeal.nD,
          r.2.mem ((c.tc : Thread Cert.SqRefIdeal.nD Cert.SqRefIdeal.τ).loc Cert.SqRefIdeal.main_v4) = v0 c
          ∧ r.2.mem ((c.tc : Thread Cert.SqRefIdeal.nD Cert.SqRefIdeal.τ).loc Cert.SqRefIdeal.main_arg0) = m' ((c.tc : Thread Cert.SqRefIdeal.nD Cert.SqRefIdeal.τ).loc Cert.SqRefIdeal.main_arg0)
          ∧ r.2.mem ((c.tc : Thread Cert.SqRefIdeal.nD Cert.SqRefIdeal.τ).loc Cert.SqRefIdeal.main_arg1) = m' ((c.tc : Thread Cert.SqRefIdeal.nD Cert.SqRefIdeal.τ).loc Cert.SqRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Xf_XfIdeal : Prop :=
  True

def algebraic_XfIdeal_XfRefIdeal_pre_finite_xf [hXfIdeal : Cert.XfIdeal.Facts] [hXfRefIdeal : Cert.XfRefIdeal.Facts] [hPre_finite_xf : Cert.Pre_finite_xf.Facts] : Prop :=
  ∀ (m : (ℓ : Loc Cert.XfIdeal.nD Cert.XfIdeal.τ Cert.XfIdeal.sig) → Buf (Elt Ideal) ℓ) (g : Dev Cert.XfIdeal.nD → PrngReg)
    (m' : (ℓ : Loc Cert.XfRefIdeal.nD Cert.XfRefIdeal.τ Cert.XfRefIdeal.sig) → Buf (Elt Ideal) ℓ) (g' : Dev Cert.XfRefIdeal.nD → PrngReg), Pre_XfIdeal_finite_xf m →
    (∀ c : Dev Cert.XfIdeal.nD,
      m' ((c.tc : Thread Cert.XfRefIdeal.nD Cert.XfRefIdeal.τ).loc Cert.XfRefIdeal.main_arg0) = m ((c.tc : Thread Cert.XfIdeal.nD Cert.XfIdeal.τ).loc Cert.XfIdeal.main_arg0)
      ∧ m' ((c.tc : Thread Cert.XfRefIdeal.nD Cert.XfRefIdeal.τ).loc Cert.XfRefIdeal.main_arg1) = m ((c.tc : Thread Cert.XfIdeal.nD Cert.XfIdeal.τ).loc Cert.XfIdeal.main_arg1)
      ∧ m' ((c.tc : Thread Cert.XfRefIdeal.nD Cert.XfRefIdeal.τ).loc Cert.XfRefIdeal.main_arg2) = m ((c.tc : Thread Cert.XfIdeal.nD Cert.XfIdeal.τ).loc Cert.XfIdeal.main_arg2)
      ∧ m' ((c.tc : Thread Cert.XfRefIdeal.nD Cert.XfRefIdeal.τ).loc Cert.XfRefIdeal.main_arg3) = m ((c.tc : Thread Cert.XfIdeal.nD Cert.XfIdeal.τ).loc Cert.XfIdeal.main_arg3)) →
    ∃ (v0 : (c : Dev Cert.XfIdeal.nD) → Buf (Elt Ideal) ((c.tc : Thread Cert.XfIdeal.nD Cert.XfIdeal.τ).loc Cert.XfIdeal.main_v0)),
      θ_run (Cert.XfIdeal.defs (F := Ideal)) (onTc (τ := Cert.XfIdeal.τ) (Cert.XfIdeal.main (F := Ideal))) ⟨m, fun _ => 0, g⟩ (fun r => ∀ c : Dev Cert.XfIdeal.nD,
          r.2.mem ((c.tc : Thread Cert.XfIdeal.nD Cert.XfIdeal.τ).loc Cert.XfIdeal.main_v0) = v0 c
          ∧ r.2.mem ((c.tc : Thread Cert.XfIdeal.nD Cert.XfIdeal.τ).loc Cert.XfIdeal.main_arg0) = m ((c.tc : Thread Cert.XfIdeal.nD Cert.XfIdeal.τ).loc Cert.XfIdeal.main_arg0)
          ∧ r.2.mem ((c.tc : Thread Cert.XfIdeal.nD Cert.XfIdeal.τ).loc Cert.XfIdeal.main_arg1) = m ((c.tc : Thread Cert.XfIdeal.nD Cert.XfIdeal.τ).loc Cert.XfIdeal.main_arg1)
          ∧ r.2.mem ((c.tc : Thread Cert.XfIdeal.nD Cert.XfIdeal.τ).loc Cert.XfIdeal.main_arg2) = m ((c.tc : Thread Cert.XfIdeal.nD Cert.XfIdeal.τ).loc Cert.XfIdeal.main_arg2)
          ∧ r.2.mem ((c.tc : Thread Cert.XfIdeal.nD Cert.XfIdeal.τ).loc Cert.XfIdeal.main_arg3) = m ((c.tc : Thread Cert.XfIdeal.nD Cert.XfIdeal.τ).loc Cert.XfIdeal.main_arg3))
      ∧ θ_run (Cert.XfRefIdeal.defs (F := Ideal)) (onTc (τ := Cert.XfRefIdeal.τ) (Cert.XfRefIdeal.main (F := Ideal))) ⟨m', fun _ => 0, g'⟩ (fun r => ∀ c : Dev Cert.XfRefIdeal.nD,
          r.2.mem ((c.tc : Thread Cert.XfRefIdeal.nD Cert.XfRefIdeal.τ).loc Cert.XfRefIdeal.main_v48) = v0 c
          ∧ r.2.mem ((c.tc : Thread Cert.XfRefIdeal.nD Cert.XfRefIdeal.τ).loc Cert.XfRefIdeal.main_arg0) = m' ((c.tc : Thread Cert.XfRefIdeal.nD Cert.XfRefIdeal.τ).loc Cert.XfRefIdeal.main_arg0)
          ∧ r.2.mem ((c.tc : Thread Cert.XfRefIdeal.nD Cert.XfRefIdeal.τ).loc Cert.XfRefIdeal.main_arg1) = m' ((c.tc : Thread Cert.XfRefIdeal.nD Cert.XfRefIdeal.τ).loc Cert.XfRefIdeal.main_arg1)
          ∧ r.2.mem ((c.tc : Thread Cert.XfRefIdeal.nD Cert.XfRefIdeal.τ).loc Cert.XfRefIdeal.main_arg2) = m' ((c.tc : Thread Cert.XfRefIdeal.nD Cert.XfRefIdeal.τ).loc Cert.XfRefIdeal.main_arg2)
          ∧ r.2.mem ((c.tc : Thread Cert.XfRefIdeal.nD Cert.XfRefIdeal.τ).loc Cert.XfRefIdeal.main_arg3) = m' ((c.tc : Thread Cert.XfRefIdeal.nD Cert.XfRefIdeal.τ).loc Cert.XfRefIdeal.main_arg3))

def preserves_Swa_SwaIdeal : Prop :=
  IdealRules.named_const.Statement Cert.SwaIdeal.κ "mask" .f32 0xF149F2CA#32 ⊥

def algebraic_SwaIdeal_SwaRefIdeal_pre_finite_swa [hSwaIdeal : Cert.SwaIdeal.Facts] [hSwaRefIdeal : Cert.SwaRefIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_swa m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v0_0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0_0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v91) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_TnEv_TnEvIdeal : Prop :=
  True

def algebraic_TnEvIdeal_TnEvRefIdeal [hTnEvIdeal : Cert.TnEvIdeal.Facts] [hTnEvRefIdeal : Cert.TnEvRefIdeal.Facts] : Prop :=
  ∀ (m : (ℓ : Loc Cert.TnEvIdeal.nD Cert.TnEvIdeal.τ Cert.TnEvIdeal.sig) → Buf (Elt Ideal) ℓ) (g : Dev Cert.TnEvIdeal.nD → PrngReg)
    (m' : (ℓ : Loc Cert.TnEvRefIdeal.nD Cert.TnEvRefIdeal.τ Cert.TnEvRefIdeal.sig) → Buf (Elt Ideal) ℓ) (g' : Dev Cert.TnEvRefIdeal.nD → PrngReg), Pre_TnEvIdeal m →
    (∀ c : Dev Cert.TnEvIdeal.nD,
      m' ((c.tc : Thread Cert.TnEvRefIdeal.nD Cert.TnEvRefIdeal.τ).loc Cert.TnEvRefIdeal.main_arg0) = m ((c.tc : Thread Cert.TnEvIdeal.nD Cert.TnEvIdeal.τ).loc Cert.TnEvIdeal.main_arg0)
      ∧ m' ((c.tc : Thread Cert.TnEvRefIdeal.nD Cert.TnEvRefIdeal.τ).loc Cert.TnEvRefIdeal.main_arg1) = m ((c.tc : Thread Cert.TnEvIdeal.nD Cert.TnEvIdeal.τ).loc Cert.TnEvIdeal.main_arg1)) →
    ∃ (v0 : (c : Dev Cert.TnEvIdeal.nD) → Buf (Elt Ideal) ((c.tc : Thread Cert.TnEvIdeal.nD Cert.TnEvIdeal.τ).loc Cert.TnEvIdeal.main_v0)),
      θ_run (Cert.TnEvIdeal.defs (F := Ideal)) (onTc (τ := Cert.TnEvIdeal.τ) (Cert.TnEvIdeal.main (F := Ideal))) ⟨m, fun _ => 0, g⟩ (fun r => ∀ c : Dev Cert.TnEvIdeal.nD,
          r.2.mem ((c.tc : Thread Cert.TnEvIdeal.nD Cert.TnEvIdeal.τ).loc Cert.TnEvIdeal.main_v0) = v0 c
          ∧ r.2.mem ((c.tc : Thread Cert.TnEvIdeal.nD Cert.TnEvIdeal.τ).loc Cert.TnEvIdeal.main_arg0) = m ((c.tc : Thread Cert.TnEvIdeal.nD Cert.TnEvIdeal.τ).loc Cert.TnEvIdeal.main_arg0)
          ∧ r.2.mem ((c.tc : Thread Cert.TnEvIdeal.nD Cert.TnEvIdeal.τ).loc Cert.TnEvIdeal.main_arg1) = m ((c.tc : Thread Cert.TnEvIdeal.nD Cert.TnEvIdeal.τ).loc Cert.TnEvIdeal.main_arg1))
      ∧ θ_run (Cert.TnEvRefIdeal.defs (F := Ideal)) (onTc (τ := Cert.TnEvRefIdeal.τ) (Cert.TnEvRefIdeal.main (F := Ideal))) ⟨m', fun _ => 0, g'⟩ (fun r => ∀ c : Dev Cert.TnEvRefIdeal.nD,
          r.2.mem ((c.tc : Thread Cert.TnEvRefIdeal.nD Cert.TnEvRefIdeal.τ).loc Cert.TnEvRefIdeal.main_v6) = v0 c
          ∧ r.2.mem ((c.tc : Thread Cert.TnEvRefIdeal.nD Cert.TnEvRefIdeal.τ).loc Cert.TnEvRefIdeal.main_arg0) = m' ((c.tc : Thread Cert.TnEvRefIdeal.nD Cert.TnEvRefIdeal.τ).loc Cert.TnEvRefIdeal.main_arg0)
          ∧ r.2.mem ((c.tc : Thread Cert.TnEvRefIdeal.nD Cert.TnEvRefIdeal.τ).loc Cert.TnEvRefIdeal.main_arg1) = m' ((c.tc : Thread Cert.TnEvRefIdeal.nD Cert.TnEvRefIdeal.τ).loc Cert.TnEvRefIdeal.main_arg1))

def preserves_TnOd_TnOdIdeal : Prop :=
  True

def algebraic_TnOdIdeal_TnOdRefIdeal [hTnOdIdeal : Cert.TnOdIdeal.Facts] [hTnOdRefIdeal : Cert.TnOdRefIdeal.Facts] : Prop :=
  ∀ (m : (ℓ : Loc Cert.TnOdIdeal.nD Cert.TnOdIdeal.τ Cert.TnOdIdeal.sig) → Buf (Elt Ideal) ℓ) (g : Dev Cert.TnOdIdeal.nD → PrngReg)
    (m' : (ℓ : Loc Cert.TnOdRefIdeal.nD Cert.TnOdRefIdeal.τ Cert.TnOdRefIdeal.sig) → Buf (Elt Ideal) ℓ) (g' : Dev Cert.TnOdRefIdeal.nD → PrngReg), Pre_TnOdIdeal m →
    (∀ c : Dev Cert.TnOdIdeal.nD,
      m' ((c.tc : Thread Cert.TnOdRefIdeal.nD Cert.TnOdRefIdeal.τ).loc Cert.TnOdRefIdeal.main_arg0) = m ((c.tc : Thread Cert.TnOdIdeal.nD Cert.TnOdIdeal.τ).loc Cert.TnOdIdeal.main_arg0)
      ∧ m' ((c.tc : Thread Cert.TnOdRefIdeal.nD Cert.TnOdRefIdeal.τ).loc Cert.TnOdRefIdeal.main_arg1) = m ((c.tc : Thread Cert.TnOdIdeal.nD Cert.TnOdIdeal.τ).loc Cert.TnOdIdeal.main_arg1)) →
    ∃ (v0 : (c : Dev Cert.TnOdIdeal.nD) → Buf (Elt Ideal) ((c.tc : Thread Cert.TnOdIdeal.nD Cert.TnOdIdeal.τ).loc Cert.TnOdIdeal.main_v0)),
      θ_run (Cert.TnOdIdeal.defs (F := Ideal)) (onTc (τ := Cert.TnOdIdeal.τ) (Cert.TnOdIdeal.main (F := Ideal))) ⟨m, fun _ => 0, g⟩ (fun r => ∀ c : Dev Cert.TnOdIdeal.nD,
          r.2.mem ((c.tc : Thread Cert.TnOdIdeal.nD Cert.TnOdIdeal.τ).loc Cert.TnOdIdeal.main_v0) = v0 c
          ∧ r.2.mem ((c.tc : Thread Cert.TnOdIdeal.nD Cert.TnOdIdeal.τ).loc Cert.TnOdIdeal.main_arg0) = m ((c.tc : Thread Cert.TnOdIdeal.nD Cert.TnOdIdeal.τ).loc Cert.TnOdIdeal.main_arg0)
          ∧ r.2.mem ((c.tc : Thread Cert.TnOdIdeal.nD Cert.TnOdIdeal.τ).loc Cert.TnOdIdeal.main_arg1) = m ((c.tc : Thread Cert.TnOdIdeal.nD Cert.TnOdIdeal.τ).loc Cert.TnOdIdeal.main_arg1))
      ∧ θ_run (Cert.TnOdRefIdeal.defs (F := Ideal)) (onTc (τ := Cert.TnOdRefIdeal.τ) (Cert.TnOdRefIdeal.main (F := Ideal))) ⟨m', fun _ => 0, g'⟩ (fun r => ∀ c : Dev Cert.TnOdRefIdeal.nD,
          r.2.mem ((c.tc : Thread Cert.TnOdRefIdeal.nD Cert.TnOdRefIdeal.τ).loc Cert.TnOdRefIdeal.main_v8) = v0 c
          ∧ r.2.mem ((c.tc : Thread Cert.TnOdRefIdeal.nD Cert.TnOdRefIdeal.τ).loc Cert.TnOdRefIdeal.main_arg0) = m' ((c.tc : Thread Cert.TnOdRefIdeal.nD Cert.TnOdRefIdeal.τ).loc Cert.TnOdRefIdeal.main_arg0)
          ∧ r.2.mem ((c.tc : Thread Cert.TnOdRefIdeal.nD Cert.TnOdRefIdeal.τ).loc Cert.TnOdRefIdeal.main_arg1) = m' ((c.tc : Thread Cert.TnOdRefIdeal.nD Cert.TnOdRefIdeal.τ).loc Cert.TnOdRefIdeal.main_arg1))

def preserves_TnQ_TnQIdeal : Prop :=
  True

def algebraic_TnQIdeal_TnQRefIdeal [hTnQIdeal : Cert.TnQIdeal.Facts] [hTnQRefIdeal : Cert.TnQRefIdeal.Facts] : Prop :=
  ∀ (m : (ℓ : Loc Cert.TnQIdeal.nD Cert.TnQIdeal.τ Cert.TnQIdeal.sig) → Buf (Elt Ideal) ℓ) (g : Dev Cert.TnQIdeal.nD → PrngReg)
    (m' : (ℓ : Loc Cert.TnQRefIdeal.nD Cert.TnQRefIdeal.τ Cert.TnQRefIdeal.sig) → Buf (Elt Ideal) ℓ) (g' : Dev Cert.TnQRefIdeal.nD → PrngReg), Pre_TnQIdeal m →
    (∀ c : Dev Cert.TnQIdeal.nD,
      m' ((c.tc : Thread Cert.TnQRefIdeal.nD Cert.TnQRefIdeal.τ).loc Cert.TnQRefIdeal.main_arg0) = m ((c.tc : Thread Cert.TnQIdeal.nD Cert.TnQIdeal.τ).loc Cert.TnQIdeal.main_arg0)
      ∧ m' ((c.tc : Thread Cert.TnQRefIdeal.nD Cert.TnQRefIdeal.τ).loc Cert.TnQRefIdeal.main_arg1) = m ((c.tc : Thread Cert.TnQIdeal.nD Cert.TnQIdeal.τ).loc Cert.TnQIdeal.main_arg1)) →
    ∃ (v0 : (c : Dev Cert.TnQIdeal.nD) → Buf (Elt Ideal) ((c.tc : Thread Cert.TnQIdeal.nD Cert.TnQIdeal.τ).loc Cert.TnQIdeal.main_v0)),
      θ_run (Cert.TnQIdeal.defs (F := Ideal)) (onTc (τ := Cert.TnQIdeal.τ) (Cert.TnQIdeal.main (F := Ideal))) ⟨m, fun _ => 0, g⟩ (fun r => ∀ c : Dev Cert.TnQIdeal.nD,
          r.2.mem ((c.tc : Thread Cert.TnQIdeal.nD Cert.TnQIdeal.τ).loc Cert.TnQIdeal.main_v0) = v0 c
          ∧ r.2.mem ((c.tc : Thread Cert.TnQIdeal.nD Cert.TnQIdeal.τ).loc Cert.TnQIdeal.main_arg0) = m ((c.tc : Thread Cert.TnQIdeal.nD Cert.TnQIdeal.τ).loc Cert.TnQIdeal.main_arg0)
          ∧ r.2.mem ((c.tc : Thread Cert.TnQIdeal.nD Cert.TnQIdeal.τ).loc Cert.TnQIdeal.main_arg1) = m ((c.tc : Thread Cert.TnQIdeal.nD Cert.TnQIdeal.τ).loc Cert.TnQIdeal.main_arg1))
      ∧ θ_run (Cert.TnQRefIdeal.defs (F := Ideal)) (onTc (τ := Cert.TnQRefIdeal.τ) (Cert.TnQRefIdeal.main (F := Ideal))) ⟨m', fun _ => 0, g'⟩ (fun r => ∀ c : Dev Cert.TnQRefIdeal.nD,
          r.2.mem ((c.tc : Thread Cert.TnQRefIdeal.nD Cert.TnQRefIdeal.τ).loc Cert.TnQRefIdeal.main_v6) = v0 c
          ∧ r.2.mem ((c.tc : Thread Cert.TnQRefIdeal.nD Cert.TnQRefIdeal.τ).loc Cert.TnQRefIdeal.main_arg0) = m' ((c.tc : Thread Cert.TnQRefIdeal.nD Cert.TnQRefIdeal.τ).loc Cert.TnQRefIdeal.main_arg0)
          ∧ r.2.mem ((c.tc : Thread Cert.TnQRefIdeal.nD Cert.TnQRefIdeal.τ).loc Cert.TnQRefIdeal.main_arg1) = m' ((c.tc : Thread Cert.TnQRefIdeal.nD Cert.TnQRefIdeal.τ).loc Cert.TnQRefIdeal.main_arg1))

def preserves_TnKv_TnKvIdeal : Prop :=
  True

def algebraic_TnKvIdeal_TnKvRefIdeal [hTnKvIdeal : Cert.TnKvIdeal.Facts] [hTnKvRefIdeal : Cert.TnKvRefIdeal.Facts] : Prop :=
  ∀ (m : (ℓ : Loc Cert.TnKvIdeal.nD Cert.TnKvIdeal.τ Cert.TnKvIdeal.sig) → Buf (Elt Ideal) ℓ) (g : Dev Cert.TnKvIdeal.nD → PrngReg)
    (m' : (ℓ : Loc Cert.TnKvRefIdeal.nD Cert.TnKvRefIdeal.τ Cert.TnKvRefIdeal.sig) → Buf (Elt Ideal) ℓ) (g' : Dev Cert.TnKvRefIdeal.nD → PrngReg), Pre_TnKvIdeal m →
    (∀ c : Dev Cert.TnKvIdeal.nD,
      m' ((c.tc : Thread Cert.TnKvRefIdeal.nD Cert.TnKvRefIdeal.τ).loc Cert.TnKvRefIdeal.main_arg0) = m ((c.tc : Thread Cert.TnKvIdeal.nD Cert.TnKvIdeal.τ).loc Cert.TnKvIdeal.main_arg0)
      ∧ m' ((c.tc : Thread Cert.TnKvRefIdeal.nD Cert.TnKvRefIdeal.τ).loc Cert.TnKvRefIdeal.main_arg1) = m ((c.tc : Thread Cert.TnKvIdeal.nD Cert.TnKvIdeal.τ).loc Cert.TnKvIdeal.main_arg1)) →
    ∃ (v0 : (c : Dev Cert.TnKvIdeal.nD) → Buf (Elt Ideal) ((c.tc : Thread Cert.TnKvIdeal.nD Cert.TnKvIdeal.τ).loc Cert.TnKvIdeal.main_v0)),
      θ_run (Cert.TnKvIdeal.defs (F := Ideal)) (onTc (τ := Cert.TnKvIdeal.τ) (Cert.TnKvIdeal.main (F := Ideal))) ⟨m, fun _ => 0, g⟩ (fun r => ∀ c : Dev Cert.TnKvIdeal.nD,
          r.2.mem ((c.tc : Thread Cert.TnKvIdeal.nD Cert.TnKvIdeal.τ).loc Cert.TnKvIdeal.main_v0) = v0 c
          ∧ r.2.mem ((c.tc : Thread Cert.TnKvIdeal.nD Cert.TnKvIdeal.τ).loc Cert.TnKvIdeal.main_arg0) = m ((c.tc : Thread Cert.TnKvIdeal.nD Cert.TnKvIdeal.τ).loc Cert.TnKvIdeal.main_arg0)
          ∧ r.2.mem ((c.tc : Thread Cert.TnKvIdeal.nD Cert.TnKvIdeal.τ).loc Cert.TnKvIdeal.main_arg1) = m ((c.tc : Thread Cert.TnKvIdeal.nD Cert.TnKvIdeal.τ).loc Cert.TnKvIdeal.main_arg1))
      ∧ θ_run (Cert.TnKvRefIdeal.defs (F := Ideal)) (onTc (τ := Cert.TnKvRefIdeal.τ) (Cert.TnKvRefIdeal.main (F := Ideal))) ⟨m', fun _ => 0, g'⟩ (fun r => ∀ c : Dev Cert.TnKvRefIdeal.nD,
          r.2.mem ((c.tc : Thread Cert.TnKvRefIdeal.nD Cert.TnKvRefIdeal.τ).loc Cert.TnKvRefIdeal.main_v7) = v0 c
          ∧ r.2.mem ((c.tc : Thread Cert.TnKvRefIdeal.nD Cert.TnKvRefIdeal.τ).loc Cert.TnKvRefIdeal.main_arg0) = m' ((c.tc : Thread Cert.TnKvRefIdeal.nD Cert.TnKvRefIdeal.τ).loc Cert.TnKvRefIdeal.main_arg0)
          ∧ r.2.mem ((c.tc : Thread Cert.TnKvRefIdeal.nD Cert.TnKvRefIdeal.τ).loc Cert.TnKvRefIdeal.main_arg1) = m' ((c.tc : Thread Cert.TnKvRefIdeal.nD Cert.TnKvRefIdeal.τ).loc Cert.TnKvRefIdeal.main_arg1))

def preserves_NbEv_NbEvIdeal : Prop :=
  True

def algebraic_NbEvIdeal_NbEvRefIdeal_pre_finite_nbev [hNbEvIdeal : Cert.NbEvIdeal.Facts] [hNbEvRefIdeal : Cert.NbEvRefIdeal.Facts] [hPre_finite_nbev : Cert.Pre_finite_nbev.Facts] : Prop :=
  ∀ (m : (ℓ : Loc Cert.NbEvIdeal.nD Cert.NbEvIdeal.τ Cert.NbEvIdeal.sig) → Buf (Elt Ideal) ℓ) (g : Dev Cert.NbEvIdeal.nD → PrngReg)
    (m' : (ℓ : Loc Cert.NbEvRefIdeal.nD Cert.NbEvRefIdeal.τ Cert.NbEvRefIdeal.sig) → Buf (Elt Ideal) ℓ) (g' : Dev Cert.NbEvRefIdeal.nD → PrngReg), Pre_NbEvIdeal_finite_nbev m →
    (∀ c : Dev Cert.NbEvIdeal.nD,
      m' ((c.tc : Thread Cert.NbEvRefIdeal.nD Cert.NbEvRefIdeal.τ).loc Cert.NbEvRefIdeal.main_arg0) = m ((c.tc : Thread Cert.NbEvIdeal.nD Cert.NbEvIdeal.τ).loc Cert.NbEvIdeal.main_arg0)
      ∧ m' ((c.tc : Thread Cert.NbEvRefIdeal.nD Cert.NbEvRefIdeal.τ).loc Cert.NbEvRefIdeal.main_arg1) = m ((c.tc : Thread Cert.NbEvIdeal.nD Cert.NbEvIdeal.τ).loc Cert.NbEvIdeal.main_arg1)
      ∧ m' ((c.tc : Thread Cert.NbEvRefIdeal.nD Cert.NbEvRefIdeal.τ).loc Cert.NbEvRefIdeal.main_arg2) = m ((c.tc : Thread Cert.NbEvIdeal.nD Cert.NbEvIdeal.τ).loc Cert.NbEvIdeal.main_arg2)
      ∧ m' ((c.tc : Thread Cert.NbEvRefIdeal.nD Cert.NbEvRefIdeal.τ).loc Cert.NbEvRefIdeal.main_arg3) = m ((c.tc : Thread Cert.NbEvIdeal.nD Cert.NbEvIdeal.τ).loc Cert.NbEvIdeal.main_arg3)
      ∧ m' ((c.tc : Thread Cert.NbEvRefIdeal.nD Cert.NbEvRefIdeal.τ).loc Cert.NbEvRefIdeal.main_arg4) = m ((c.tc : Thread Cert.NbEvIdeal.nD Cert.NbEvIdeal.τ).loc Cert.NbEvIdeal.main_arg4)) →
    ∃ (v0 : (c : Dev Cert.NbEvIdeal.nD) → Buf (Elt Ideal) ((c.tc : Thread Cert.NbEvIdeal.nD Cert.NbEvIdeal.τ).loc Cert.NbEvIdeal.main_v0_0)) (v1 : (c : Dev Cert.NbEvIdeal.nD) → Buf (Elt Ideal) ((c.tc : Thread Cert.NbEvIdeal.nD Cert.NbEvIdeal.τ).loc Cert.NbEvIdeal.main_v0_1)),
      θ_run (Cert.NbEvIdeal.defs (F := Ideal)) (onTc (τ := Cert.NbEvIdeal.τ) (Cert.NbEvIdeal.main (F := Ideal))) ⟨m, fun _ => 0, g⟩ (fun r => ∀ c : Dev Cert.NbEvIdeal.nD,
          r.2.mem ((c.tc : Thread Cert.NbEvIdeal.nD Cert.NbEvIdeal.τ).loc Cert.NbEvIdeal.main_v0_0) = v0 c
          ∧ r.2.mem ((c.tc : Thread Cert.NbEvIdeal.nD Cert.NbEvIdeal.τ).loc Cert.NbEvIdeal.main_v0_1) = v1 c
          ∧ r.2.mem ((c.tc : Thread Cert.NbEvIdeal.nD Cert.NbEvIdeal.τ).loc Cert.NbEvIdeal.main_arg0) = m ((c.tc : Thread Cert.NbEvIdeal.nD Cert.NbEvIdeal.τ).loc Cert.NbEvIdeal.main_arg0)
          ∧ r.2.mem ((c.tc : Thread Cert.NbEvIdeal.nD Cert.NbEvIdeal.τ).loc Cert.NbEvIdeal.main_arg1) = m ((c.tc : Thread Cert.NbEvIdeal.nD Cert.NbEvIdeal.τ).loc Cert.NbEvIdeal.main_arg1)
          ∧ r.2.mem ((c.tc : Thread Cert.NbEvIdeal.nD Cert.NbEvIdeal.τ).loc Cert.NbEvIdeal.main_arg2) = m ((c.tc : Thread Cert.NbEvIdeal.nD Cert.NbEvIdeal.τ).loc Cert.NbEvIdeal.main_arg2)
          ∧ r.2.mem ((c.tc : Thread Cert.NbEvIdeal.nD Cert.NbEvIdeal.τ).loc Cert.NbEvIdeal.main_arg3) = m ((c.tc : Thread Cert.NbEvIdeal.nD Cert.NbEvIdeal.τ).loc Cert.NbEvIdeal.main_arg3)
          ∧ r.2.mem ((c.tc : Thread Cert.NbEvIdeal.nD Cert.NbEvIdeal.τ).loc Cert.NbEvIdeal.main_arg4) = m ((c.tc : Thread Cert.NbEvIdeal.nD Cert.NbEvIdeal.τ).loc Cert.NbEvIdeal.main_arg4))
      ∧ θ_run (Cert.NbEvRefIdeal.defs (F := Ideal)) (onTc (τ := Cert.NbEvRefIdeal.τ) (Cert.NbEvRefIdeal.main (F := Ideal))) ⟨m', fun _ => 0, g'⟩ (fun r => ∀ c : Dev Cert.NbEvRefIdeal.nD,
          r.2.mem ((c.tc : Thread Cert.NbEvRefIdeal.nD Cert.NbEvRefIdeal.τ).loc Cert.NbEvRefIdeal.main_v38) = v0 c
          ∧ r.2.mem ((c.tc : Thread Cert.NbEvRefIdeal.nD Cert.NbEvRefIdeal.τ).loc Cert.NbEvRefIdeal.main_v21) = v1 c
          ∧ r.2.mem ((c.tc : Thread Cert.NbEvRefIdeal.nD Cert.NbEvRefIdeal.τ).loc Cert.NbEvRefIdeal.main_arg0) = m' ((c.tc : Thread Cert.NbEvRefIdeal.nD Cert.NbEvRefIdeal.τ).loc Cert.NbEvRefIdeal.main_arg0)
          ∧ r.2.mem ((c.tc : Thread Cert.NbEvRefIdeal.nD Cert.NbEvRefIdeal.τ).loc Cert.NbEvRefIdeal.main_arg1) = m' ((c.tc : Thread Cert.NbEvRefIdeal.nD Cert.NbEvRefIdeal.τ).loc Cert.NbEvRefIdeal.main_arg1)
          ∧ r.2.mem ((c.tc : Thread Cert.NbEvRefIdeal.nD Cert.NbEvRefIdeal.τ).loc Cert.NbEvRefIdeal.main_arg2) = m' ((c.tc : Thread Cert.NbEvRefIdeal.nD Cert.NbEvRefIdeal.τ).loc Cert.NbEvRefIdeal.main_arg2)
          ∧ r.2.mem ((c.tc : Thread Cert.NbEvRefIdeal.nD Cert.NbEvRefIdeal.τ).loc Cert.NbEvRefIdeal.main_arg3) = m' ((c.tc : Thread Cert.NbEvRefIdeal.nD Cert.NbEvRefIdeal.τ).loc Cert.NbEvRefIdeal.main_arg3)
          ∧ r.2.mem ((c.tc : Thread Cert.NbEvRefIdeal.nD Cert.NbEvRefIdeal.τ).loc Cert.NbEvRefIdeal.main_arg4) = m' ((c.tc : Thread Cert.NbEvRefIdeal.nD Cert.NbEvRefIdeal.τ).loc Cert.NbEvRefIdeal.main_arg4))

def preserves_NbOd_NbOdIdeal : Prop :=
  True

def algebraic_NbOdIdeal_NbOdRefIdeal_pre_finite_nbod [hNbOdIdeal : Cert.NbOdIdeal.Facts] [hNbOdRefIdeal : Cert.NbOdRefIdeal.Facts] [hPre_finite_nbod : Cert.Pre_finite_nbod.Facts] : Prop :=
  ∀ (m : (ℓ : Loc Cert.NbOdIdeal.nD Cert.NbOdIdeal.τ Cert.NbOdIdeal.sig) → Buf (Elt Ideal) ℓ) (g : Dev Cert.NbOdIdeal.nD → PrngReg)
    (m' : (ℓ : Loc Cert.NbOdRefIdeal.nD Cert.NbOdRefIdeal.τ Cert.NbOdRefIdeal.sig) → Buf (Elt Ideal) ℓ) (g' : Dev Cert.NbOdRefIdeal.nD → PrngReg), Pre_NbOdIdeal_finite_nbod m →
    (∀ c : Dev Cert.NbOdIdeal.nD,
      m' ((c.tc : Thread Cert.NbOdRefIdeal.nD Cert.NbOdRefIdeal.τ).loc Cert.NbOdRefIdeal.main_arg0) = m ((c.tc : Thread Cert.NbOdIdeal.nD Cert.NbOdIdeal.τ).loc Cert.NbOdIdeal.main_arg0)
      ∧ m' ((c.tc : Thread Cert.NbOdRefIdeal.nD Cert.NbOdRefIdeal.τ).loc Cert.NbOdRefIdeal.main_arg1) = m ((c.tc : Thread Cert.NbOdIdeal.nD Cert.NbOdIdeal.τ).loc Cert.NbOdIdeal.main_arg1)
      ∧ m' ((c.tc : Thread Cert.NbOdRefIdeal.nD Cert.NbOdRefIdeal.τ).loc Cert.NbOdRefIdeal.main_arg2) = m ((c.tc : Thread Cert.NbOdIdeal.nD Cert.NbOdIdeal.τ).loc Cert.NbOdIdeal.main_arg2)
      ∧ m' ((c.tc : Thread Cert.NbOdRefIdeal.nD Cert.NbOdRefIdeal.τ).loc Cert.NbOdRefIdeal.main_arg3) = m ((c.tc : Thread Cert.NbOdIdeal.nD Cert.NbOdIdeal.τ).loc Cert.NbOdIdeal.main_arg3)
      ∧ m' ((c.tc : Thread Cert.NbOdRefIdeal.nD Cert.NbOdRefIdeal.τ).loc Cert.NbOdRefIdeal.main_arg4) = m ((c.tc : Thread Cert.NbOdIdeal.nD Cert.NbOdIdeal.τ).loc Cert.NbOdIdeal.main_arg4)) →
    ∃ (v0 : (c : Dev Cert.NbOdIdeal.nD) → Buf (Elt Ideal) ((c.tc : Thread Cert.NbOdIdeal.nD Cert.NbOdIdeal.τ).loc Cert.NbOdIdeal.main_v0_0)) (v1 : (c : Dev Cert.NbOdIdeal.nD) → Buf (Elt Ideal) ((c.tc : Thread Cert.NbOdIdeal.nD Cert.NbOdIdeal.τ).loc Cert.NbOdIdeal.main_v0_1)),
      θ_run (Cert.NbOdIdeal.defs (F := Ideal)) (onTc (τ := Cert.NbOdIdeal.τ) (Cert.NbOdIdeal.main (F := Ideal))) ⟨m, fun _ => 0, g⟩ (fun r => ∀ c : Dev Cert.NbOdIdeal.nD,
          r.2.mem ((c.tc : Thread Cert.NbOdIdeal.nD Cert.NbOdIdeal.τ).loc Cert.NbOdIdeal.main_v0_0) = v0 c
          ∧ r.2.mem ((c.tc : Thread Cert.NbOdIdeal.nD Cert.NbOdIdeal.τ).loc Cert.NbOdIdeal.main_v0_1) = v1 c
          ∧ r.2.mem ((c.tc : Thread Cert.NbOdIdeal.nD Cert.NbOdIdeal.τ).loc Cert.NbOdIdeal.main_arg0) = m ((c.tc : Thread Cert.NbOdIdeal.nD Cert.NbOdIdeal.τ).loc Cert.NbOdIdeal.main_arg0)
          ∧ r.2.mem ((c.tc : Thread Cert.NbOdIdeal.nD Cert.NbOdIdeal.τ).loc Cert.NbOdIdeal.main_arg1) = m ((c.tc : Thread Cert.NbOdIdeal.nD Cert.NbOdIdeal.τ).loc Cert.NbOdIdeal.main_arg1)
          ∧ r.2.mem ((c.tc : Thread Cert.NbOdIdeal.nD Cert.NbOdIdeal.τ).loc Cert.NbOdIdeal.main_arg2) = m ((c.tc : Thread Cert.NbOdIdeal.nD Cert.NbOdIdeal.τ).loc Cert.NbOdIdeal.main_arg2)
          ∧ r.2.mem ((c.tc : Thread Cert.NbOdIdeal.nD Cert.NbOdIdeal.τ).loc Cert.NbOdIdeal.main_arg3) = m ((c.tc : Thread Cert.NbOdIdeal.nD Cert.NbOdIdeal.τ).loc Cert.NbOdIdeal.main_arg3)
          ∧ r.2.mem ((c.tc : Thread Cert.NbOdIdeal.nD Cert.NbOdIdeal.τ).loc Cert.NbOdIdeal.main_arg4) = m ((c.tc : Thread Cert.NbOdIdeal.nD Cert.NbOdIdeal.τ).loc Cert.NbOdIdeal.main_arg4))
      ∧ θ_run (Cert.NbOdRefIdeal.defs (F := Ideal)) (onTc (τ := Cert.NbOdRefIdeal.τ) (Cert.NbOdRefIdeal.main (F := Ideal))) ⟨m', fun _ => 0, g'⟩ (fun r => ∀ c : Dev Cert.NbOdRefIdeal.nD,
          r.2.mem ((c.tc : Thread Cert.NbOdRefIdeal.nD Cert.NbOdRefIdeal.τ).loc Cert.NbOdRefIdeal.main_v40) = v0 c
          ∧ r.2.mem ((c.tc : Thread Cert.NbOdRefIdeal.nD Cert.NbOdRefIdeal.τ).loc Cert.NbOdRefIdeal.main_v23) = v1 c
          ∧ r.2.mem ((c.tc : Thread Cert.NbOdRefIdeal.nD Cert.NbOdRefIdeal.τ).loc Cert.NbOdRefIdeal.main_arg0) = m' ((c.tc : Thread Cert.NbOdRefIdeal.nD Cert.NbOdRefIdeal.τ).loc Cert.NbOdRefIdeal.main_arg0)
          ∧ r.2.mem ((c.tc : Thread Cert.NbOdRefIdeal.nD Cert.NbOdRefIdeal.τ).loc Cert.NbOdRefIdeal.main_arg1) = m' ((c.tc : Thread Cert.NbOdRefIdeal.nD Cert.NbOdRefIdeal.τ).loc Cert.NbOdRefIdeal.main_arg1)
          ∧ r.2.mem ((c.tc : Thread Cert.NbOdRefIdeal.nD Cert.NbOdRefIdeal.τ).loc Cert.NbOdRefIdeal.main_arg2) = m' ((c.tc : Thread Cert.NbOdRefIdeal.nD Cert.NbOdRefIdeal.τ).loc Cert.NbOdRefIdeal.main_arg2)
          ∧ r.2.mem ((c.tc : Thread Cert.NbOdRefIdeal.nD Cert.NbOdRefIdeal.τ).loc Cert.NbOdRefIdeal.main_arg3) = m' ((c.tc : Thread Cert.NbOdRefIdeal.nD Cert.NbOdRefIdeal.τ).loc Cert.NbOdRefIdeal.main_arg3)
          ∧ r.2.mem ((c.tc : Thread Cert.NbOdRefIdeal.nD Cert.NbOdRefIdeal.τ).loc Cert.NbOdRefIdeal.main_arg4) = m' ((c.tc : Thread Cert.NbOdRefIdeal.nD Cert.NbOdRefIdeal.τ).loc Cert.NbOdRefIdeal.main_arg4))

def preserves_NbXa_NbXaIdeal : Prop :=
  True

def algebraic_NbXaIdeal_NbXaRefIdeal_pre_finite_nbxa [hNbXaIdeal : Cert.NbXaIdeal.Facts] [hNbXaRefIdeal : Cert.NbXaRefIdeal.Facts] [hPre_finite_nbxa : Cert.Pre_finite_nbxa.Facts] : Prop :=
  ∀ (m : (ℓ : Loc Cert.NbXaIdeal.nD Cert.NbXaIdeal.τ Cert.NbXaIdeal.sig) → Buf (Elt Ideal) ℓ) (g : Dev Cert.NbXaIdeal.nD → PrngReg)
    (m' : (ℓ : Loc Cert.NbXaRefIdeal.nD Cert.NbXaRefIdeal.τ Cert.NbXaRefIdeal.sig) → Buf (Elt Ideal) ℓ) (g' : Dev Cert.NbXaRefIdeal.nD → PrngReg), Pre_NbXaIdeal_finite_nbxa m →
    (∀ c : Dev Cert.NbXaIdeal.nD,
      m' ((c.tc : Thread Cert.NbXaRefIdeal.nD Cert.NbXaRefIdeal.τ).loc Cert.NbXaRefIdeal.main_arg0) = m ((c.tc : Thread Cert.NbXaIdeal.nD Cert.NbXaIdeal.τ).loc Cert.NbXaIdeal.main_arg0)
      ∧ m' ((c.tc : Thread Cert.NbXaRefIdeal.nD Cert.NbXaRefIdeal.τ).loc Cert.NbXaRefIdeal.main_arg1) = m ((c.tc : Thread Cert.NbXaIdeal.nD Cert.NbXaIdeal.τ).loc Cert.NbXaIdeal.main_arg1)
      ∧ m' ((c.tc : Thread Cert.NbXaRefIdeal.nD Cert.NbXaRefIdeal.τ).loc Cert.NbXaRefIdeal.main_arg2) = m ((c.tc : Thread Cert.NbXaIdeal.nD Cert.NbXaIdeal.τ).loc Cert.NbXaIdeal.main_arg2)
      ∧ m' ((c.tc : Thread Cert.NbXaRefIdeal.nD Cert.NbXaRefIdeal.τ).loc Cert.NbXaRefIdeal.main_arg3) = m ((c.tc : Thread Cert.NbXaIdeal.nD Cert.NbXaIdeal.τ).loc Cert.NbXaIdeal.main_arg3)
      ∧ m' ((c.tc : Thread Cert.NbXaRefIdeal.nD Cert.NbXaRefIdeal.τ).loc Cert.NbXaRefIdeal.main_arg4) = m ((c.tc : Thread Cert.NbXaIdeal.nD Cert.NbXaIdeal.τ).loc Cert.NbXaIdeal.main_arg4)) →
    ∃ (v0 : (c : Dev Cert.NbXaIdeal.nD) → Buf (Elt Ideal) ((c.tc : Thread Cert.NbXaIdeal.nD Cert.NbXaIdeal.τ).loc Cert.NbXaIdeal.main_v0_0)) (v1 : (c : Dev Cert.NbXaIdeal.nD) → Buf (Elt Ideal) ((c.tc : Thread Cert.NbXaIdeal.nD Cert.NbXaIdeal.τ).loc Cert.NbXaIdeal.main_v0_1)),
      θ_run (Cert.NbXaIdeal.defs (F := Ideal)) (onTc (τ := Cert.NbXaIdeal.τ) (Cert.NbXaIdeal.main (F := Ideal))) ⟨m, fun _ => 0, g⟩ (fun r => ∀ c : Dev Cert.NbXaIdeal.nD,
          r.2.mem ((c.tc : Thread Cert.NbXaIdeal.nD Cert.NbXaIdeal.τ).loc Cert.NbXaIdeal.main_v0_0) = v0 c
          ∧ r.2.mem ((c.tc : Thread Cert.NbXaIdeal.nD Cert.NbXaIdeal.τ).loc Cert.NbXaIdeal.main_v0_1) = v1 c
          ∧ r.2.mem ((c.tc : Thread Cert.NbXaIdeal.nD Cert.NbXaIdeal.τ).loc Cert.NbXaIdeal.main_arg0) = m ((c.tc : Thread Cert.NbXaIdeal.nD Cert.NbXaIdeal.τ).loc Cert.NbXaIdeal.main_arg0)
          ∧ r.2.mem ((c.tc : Thread Cert.NbXaIdeal.nD Cert.NbXaIdeal.τ).loc Cert.NbXaIdeal.main_arg1) = m ((c.tc : Thread Cert.NbXaIdeal.nD Cert.NbXaIdeal.τ).loc Cert.NbXaIdeal.main_arg1)
          ∧ r.2.mem ((c.tc : Thread Cert.NbXaIdeal.nD Cert.NbXaIdeal.τ).loc Cert.NbXaIdeal.main_arg2) = m ((c.tc : Thread Cert.NbXaIdeal.nD Cert.NbXaIdeal.τ).loc Cert.NbXaIdeal.main_arg2)
          ∧ r.2.mem ((c.tc : Thread Cert.NbXaIdeal.nD Cert.NbXaIdeal.τ).loc Cert.NbXaIdeal.main_arg3) = m ((c.tc : Thread Cert.NbXaIdeal.nD Cert.NbXaIdeal.τ).loc Cert.NbXaIdeal.main_arg3)
          ∧ r.2.mem ((c.tc : Thread Cert.NbXaIdeal.nD Cert.NbXaIdeal.τ).loc Cert.NbXaIdeal.main_arg4) = m ((c.tc : Thread Cert.NbXaIdeal.nD Cert.NbXaIdeal.τ).loc Cert.NbXaIdeal.main_arg4))
      ∧ θ_run (Cert.NbXaRefIdeal.defs (F := Ideal)) (onTc (τ := Cert.NbXaRefIdeal.τ) (Cert.NbXaRefIdeal.main (F := Ideal))) ⟨m', fun _ => 0, g'⟩ (fun r => ∀ c : Dev Cert.NbXaRefIdeal.nD,
          r.2.mem ((c.tc : Thread Cert.NbXaRefIdeal.nD Cert.NbXaRefIdeal.τ).loc Cert.NbXaRefIdeal.main_v37) = v0 c
          ∧ r.2.mem ((c.tc : Thread Cert.NbXaRefIdeal.nD Cert.NbXaRefIdeal.τ).loc Cert.NbXaRefIdeal.main_v20) = v1 c
          ∧ r.2.mem ((c.tc : Thread Cert.NbXaRefIdeal.nD Cert.NbXaRefIdeal.τ).loc Cert.NbXaRefIdeal.main_arg0) = m' ((c.tc : Thread Cert.NbXaRefIdeal.nD Cert.NbXaRefIdeal.τ).loc Cert.NbXaRefIdeal.main_arg0)
          ∧ r.2.mem ((c.tc : Thread Cert.NbXaRefIdeal.nD Cert.NbXaRefIdeal.τ).loc Cert.NbXaRefIdeal.main_arg1) = m' ((c.tc : Thread Cert.NbXaRefIdeal.nD Cert.NbXaRefIdeal.τ).loc Cert.NbXaRefIdeal.main_arg1)
          ∧ r.2.mem ((c.tc : Thread Cert.NbXaRefIdeal.nD Cert.NbXaRefIdeal.τ).loc Cert.NbXaRefIdeal.main_arg2) = m' ((c.tc : Thread Cert.NbXaRefIdeal.nD Cert.NbXaRefIdeal.τ).loc Cert.NbXaRefIdeal.main_arg2)
          ∧ r.2.mem ((c.tc : Thread Cert.NbXaRefIdeal.nD Cert.NbXaRefIdeal.τ).loc Cert.NbXaRefIdeal.main_arg3) = m' ((c.tc : Thread Cert.NbXaRefIdeal.nD Cert.NbXaRefIdeal.τ).loc Cert.NbXaRefIdeal.main_arg3)
          ∧ r.2.mem ((c.tc : Thread Cert.NbXaRefIdeal.nD Cert.NbXaRefIdeal.τ).loc Cert.NbXaRefIdeal.main_arg4) = m' ((c.tc : Thread Cert.NbXaRefIdeal.nD Cert.NbXaRefIdeal.τ).loc Cert.NbXaRefIdeal.main_arg4))

def preserves_NbMem_NbMemIdeal : Prop :=
  True

def algebraic_NbMemIdeal_NbMemRefIdeal [hNbMemIdeal : Cert.NbMemIdeal.Facts] [hNbMemRefIdeal : Cert.NbMemRefIdeal.Facts] : Prop :=
  ∀ (m : (ℓ : Loc Cert.NbMemIdeal.nD Cert.NbMemIdeal.τ Cert.NbMemIdeal.sig) → Buf (Elt Ideal) ℓ) (g : Dev Cert.NbMemIdeal.nD → PrngReg)
    (m' : (ℓ : Loc Cert.NbMemRefIdeal.nD Cert.NbMemRefIdeal.τ Cert.NbMemRefIdeal.sig) → Buf (Elt Ideal) ℓ) (g' : Dev Cert.NbMemRefIdeal.nD → PrngReg), Pre_NbMemIdeal m →
    (∀ c : Dev Cert.NbMemIdeal.nD,
      m' ((c.tc : Thread Cert.NbMemRefIdeal.nD Cert.NbMemRefIdeal.τ).loc Cert.NbMemRefIdeal.main_arg0) = m ((c.tc : Thread Cert.NbMemIdeal.nD Cert.NbMemIdeal.τ).loc Cert.NbMemIdeal.main_arg0)
      ∧ m' ((c.tc : Thread Cert.NbMemRefIdeal.nD Cert.NbMemRefIdeal.τ).loc Cert.NbMemRefIdeal.main_arg1) = m ((c.tc : Thread Cert.NbMemIdeal.nD Cert.NbMemIdeal.τ).loc Cert.NbMemIdeal.main_arg1)
      ∧ m' ((c.tc : Thread Cert.NbMemRefIdeal.nD Cert.NbMemRefIdeal.τ).loc Cert.NbMemRefIdeal.main_arg2) = m ((c.tc : Thread Cert.NbMemIdeal.nD Cert.NbMemIdeal.τ).loc Cert.NbMemIdeal.main_arg2)
      ∧ m' ((c.tc : Thread Cert.NbMemRefIdeal.nD Cert.NbMemRefIdeal.τ).loc Cert.NbMemRefIdeal.main_arg3) = m ((c.tc : Thread Cert.NbMemIdeal.nD Cert.NbMemIdeal.τ).loc Cert.NbMemIdeal.main_arg3)) →
    ∃ (v0 : (c : Dev Cert.NbMemIdeal.nD) → Buf (Elt Ideal) ((c.tc : Thread Cert.NbMemIdeal.nD Cert.NbMemIdeal.τ).loc Cert.NbMemIdeal.main_v0_1)),
      θ_run (Cert.NbMemIdeal.defs (F := Ideal)) (onTc (τ := Cert.NbMemIdeal.τ) (Cert.NbMemIdeal.main (F := Ideal))) ⟨m, fun _ => 0, g⟩ (fun r => ∀ c : Dev Cert.NbMemIdeal.nD,
          r.2.mem ((c.tc : Thread Cert.NbMemIdeal.nD Cert.NbMemIdeal.τ).loc Cert.NbMemIdeal.main_v0_1) = v0 c
          ∧ r.2.mem ((c.tc : Thread Cert.NbMemIdeal.nD Cert.NbMemIdeal.τ).loc Cert.NbMemIdeal.main_arg0) = m ((c.tc : Thread Cert.NbMemIdeal.nD Cert.NbMemIdeal.τ).loc Cert.NbMemIdeal.main_arg0)
          ∧ r.2.mem ((c.tc : Thread Cert.NbMemIdeal.nD Cert.NbMemIdeal.τ).loc Cert.NbMemIdeal.main_arg1) = m ((c.tc : Thread Cert.NbMemIdeal.nD Cert.NbMemIdeal.τ).loc Cert.NbMemIdeal.main_arg1)
          ∧ r.2.mem ((c.tc : Thread Cert.NbMemIdeal.nD Cert.NbMemIdeal.τ).loc Cert.NbMemIdeal.main_arg2) = m ((c.tc : Thread Cert.NbMemIdeal.nD Cert.NbMemIdeal.τ).loc Cert.NbMemIdeal.main_arg2)
          ∧ r.2.mem ((c.tc : Thread Cert.NbMemIdeal.nD Cert.NbMemIdeal.τ).loc Cert.NbMemIdeal.main_arg3) = m ((c.tc : Thread Cert.NbMemIdeal.nD Cert.NbMemIdeal.τ).loc Cert.NbMemIdeal.main_arg3))
      ∧ θ_run (Cert.NbMemRefIdeal.defs (F := Ideal)) (onTc (τ := Cert.NbMemRefIdeal.τ) (Cert.NbMemRefIdeal.main (F := Ideal))) ⟨m', fun _ => 0, g'⟩ (fun r => ∀ c : Dev Cert.NbMemRefIdeal.nD,
          r.2.mem ((c.tc : Thread Cert.NbMemRefIdeal.nD Cert.NbMemRefIdeal.τ).loc Cert.NbMemRefIdeal.main_v19) = v0 c
          ∧ r.2.mem ((c.tc : Thread Cert.NbMemRefIdeal.nD Cert.NbMemRefIdeal.τ).loc Cert.NbMemRefIdeal.main_arg0) = m' ((c.tc : Thread Cert.NbMemRefIdeal.nD Cert.NbMemRefIdeal.τ).loc Cert.NbMemRefIdeal.main_arg0)
          ∧ r.2.mem ((c.tc : Thread Cert.NbMemRefIdeal.nD Cert.NbMemRefIdeal.τ).loc Cert.NbMemRefIdeal.main_arg1) = m' ((c.tc : Thread Cert.NbMemRefIdeal.nD Cert.NbMemRefIdeal.τ).loc Cert.NbMemRefIdeal.main_arg1)
          ∧ r.2.mem ((c.tc : Thread Cert.NbMemRefIdeal.nD Cert.NbMemRefIdeal.τ).loc Cert.NbMemRefIdeal.main_arg2) = m' ((c.tc : Thread Cert.NbMemRefIdeal.nD Cert.NbMemRefIdeal.τ).loc Cert.NbMemRefIdeal.main_arg2)
          ∧ r.2.mem ((c.tc : Thread Cert.NbMemRefIdeal.nD Cert.NbMemRefIdeal.τ).loc Cert.NbMemRefIdeal.main_arg3) = m' ((c.tc : Thread Cert.NbMemRefIdeal.nD Cert.NbMemRefIdeal.τ).loc Cert.NbMemRefIdeal.main_arg3))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)) →
    ∃ (v0 : (c : Dev Cert.AdamGuIdeal.nD) → Buf (Elt Ideal) ((c.tc : Thread Cert.AdamGuIdeal.nD Cert.AdamGuIdeal.τ).loc Cert.AdamGuIdeal.main_v0_0)) (v1 : (c : Dev Cert.AdamGuIdeal.nD) → Buf (Elt Ideal) ((c.tc : Thread Cert.AdamGuIdeal.nD Cert.AdamGuIdeal.τ).loc Cert.AdamGuIdeal.main_v0_1)) (v2 : (c : Dev Cert.AdamGuIdeal.nD) → Buf (Elt Ideal) ((c.tc : Thread Cert.AdamGuIdeal.nD Cert.AdamGuIdeal.τ).loc Cert.AdamGuIdeal.main_v0_2)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v0_0) = v0 c
          ∧ r.2.mem ((c.tc : Thread Cert.AdamGuIdeal.nD Cert.AdamGuIdeal.τ).loc Cert.AdamGuIdeal.main_v0_1) = v1 c
          ∧ r.2.mem ((c.tc : Thread Cert.AdamGuIdeal.nD Cert.AdamGuIdeal.τ).loc Cert.AdamGuIdeal.main_v0_2) = v2 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v23) = v0 c
          ∧ r.2.mem ((c.tc : Thread Cert.AdamGuRefIdeal.nD Cert.AdamGuRefIdeal.τ).loc Cert.AdamGuRefIdeal.main_v4) = v1 c
          ∧ r.2.mem ((c.tc : Thread Cert.AdamGuRefIdeal.nD Cert.AdamGuRefIdeal.τ).loc Cert.AdamGuRefIdeal.main_v10) = v2 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamEvIn_AdamEvInIdeal : Prop :=
  True

def algebraic_AdamEvInIdeal_AdamEvInRefIdeal [hAdamEvInIdeal : Cert.AdamEvInIdeal.Facts] [hAdamEvInRefIdeal : Cert.AdamEvInRefIdeal.Facts] : Prop :=
  ∀ (m : (ℓ : Loc Cert.AdamEvInIdeal.nD Cert.AdamEvInIdeal.τ Cert.AdamEvInIdeal.sig) → Buf (Elt Ideal) ℓ) (g : Dev Cert.AdamEvInIdeal.nD → PrngReg)
    (m' : (ℓ : Loc Cert.AdamEvInRefIdeal.nD Cert.AdamEvInRefIdeal.τ Cert.AdamEvInRefIdeal.sig) → Buf (Elt Ideal) ℓ) (g' : Dev Cert.AdamEvInRefIdeal.nD → PrngReg), Pre_AdamEvInIdeal m →
    (∀ c : Dev Cert.AdamEvInIdeal.nD,
      m' ((c.tc : Thread Cert.AdamEvInRefIdeal.nD Cert.AdamEvInRefIdeal.τ).loc Cert.AdamEvInRefIdeal.main_arg0) = m ((c.tc : Thread Cert.AdamEvInIdeal.nD Cert.AdamEvInIdeal.τ).loc Cert.AdamEvInIdeal.main_arg0)
      ∧ m' ((c.tc : Thread Cert.AdamEvInRefIdeal.nD Cert.AdamEvInRefIdeal.τ).loc Cert.AdamEvInRefIdeal.main_arg1) = m ((c.tc : Thread Cert.AdamEvInIdeal.nD Cert.AdamEvInIdeal.τ).loc Cert.AdamEvInIdeal.main_arg1)
      ∧ m' ((c.tc : Thread Cert.AdamEvInRefIdeal.nD Cert.AdamEvInRefIdeal.τ).loc Cert.AdamEvInRefIdeal.main_arg2) = m ((c.tc : Thread Cert.AdamEvInIdeal.nD Cert.AdamEvInIdeal.τ).loc Cert.AdamEvInIdeal.main_arg2)
      ∧ m' ((c.tc : Thread Cert.AdamEvInRefIdeal.nD Cert.AdamEvInRefIdeal.τ).loc Cert.AdamEvInRefIdeal.main_arg3) = m ((c.tc : Thread Cert.AdamEvInIdeal.nD Cert.AdamEvInIdeal.τ).loc Cert.AdamEvInIdeal.main_arg3)) →
    ∃ (v0 : (c : Dev Cert.AdamEvInIdeal.nD) → Buf (Elt Ideal) ((c.tc : Thread Cert.AdamEvInIdeal.nD Cert.AdamEvInIdeal.τ).loc Cert.AdamEvInIdeal.main_v0_0)) (v1 : (c : Dev Cert.AdamEvInIdeal.nD) → Buf (Elt Ideal) ((c.tc : Thread Cert.AdamEvInIdeal.nD Cert.AdamEvInIdeal.τ).loc Cert.AdamEvInIdeal.main_v0_1)) (v2 : (c : Dev Cert.AdamEvInIdeal.nD) → Buf (Elt Ideal) ((c.tc : Thread Cert.AdamEvInIdeal.nD Cert.AdamEvInIdeal.τ).loc Cert.AdamEvInIdeal.main_v0_2)),
      θ_run (Cert.AdamEvInIdeal.defs (F := Ideal)) (onTc (τ := Cert.AdamEvInIdeal.τ) (Cert.AdamEvInIdeal.main (F := Ideal))) ⟨m, fun _ => 0, g⟩ (fun r => ∀ c : Dev Cert.AdamEvInIdeal.nD,
          r.2.mem ((c.tc : Thread Cert.AdamEvInIdeal.nD Cert.AdamEvInIdeal.τ).loc Cert.AdamEvInIdeal.main_v0_0) = v0 c
          ∧ r.2.mem ((c.tc : Thread Cert.AdamEvInIdeal.nD Cert.AdamEvInIdeal.τ).loc Cert.AdamEvInIdeal.main_v0_1) = v1 c
          ∧ r.2.mem ((c.tc : Thread Cert.AdamEvInIdeal.nD Cert.AdamEvInIdeal.τ).loc Cert.AdamEvInIdeal.main_v0_2) = v2 c
          ∧ r.2.mem ((c.tc : Thread Cert.AdamEvInIdeal.nD Cert.AdamEvInIdeal.τ).loc Cert.AdamEvInIdeal.main_arg0) = m ((c.tc : Thread Cert.AdamEvInIdeal.nD Cert.AdamEvInIdeal.τ).loc Cert.AdamEvInIdeal.main_arg0)
          ∧ r.2.mem ((c.tc : Thread Cert.AdamEvInIdeal.nD Cert.AdamEvInIdeal.τ).loc Cert.AdamEvInIdeal.main_arg1) = m ((c.tc : Thread Cert.AdamEvInIdeal.nD Cert.AdamEvInIdeal.τ).loc Cert.AdamEvInIdeal.main_arg1)
          ∧ r.2.mem ((c.tc : Thread Cert.AdamEvInIdeal.nD Cert.AdamEvInIdeal.τ).loc Cert.AdamEvInIdeal.main_arg2) = m ((c.tc : Thread Cert.AdamEvInIdeal.nD Cert.AdamEvInIdeal.τ).loc Cert.AdamEvInIdeal.main_arg2)
          ∧ r.2.mem ((c.tc : Thread Cert.AdamEvInIdeal.nD Cert.AdamEvInIdeal.τ).loc Cert.AdamEvInIdeal.main_arg3) = m ((c.tc : Thread Cert.AdamEvInIdeal.nD Cert.AdamEvInIdeal.τ).loc Cert.AdamEvInIdeal.main_arg3))
      ∧ θ_run (Cert.AdamEvInRefIdeal.defs (F := Ideal)) (onTc (τ := Cert.AdamEvInRefIdeal.τ) (Cert.AdamEvInRefIdeal.main (F := Ideal))) ⟨m', fun _ => 0, g'⟩ (fun r => ∀ c : Dev Cert.AdamEvInRefIdeal.nD,
          r.2.mem ((c.tc : Thread Cert.AdamEvInRefIdeal.nD Cert.AdamEvInRefIdeal.τ).loc Cert.AdamEvInRefIdeal.main_v23) = v0 c
          ∧ r.2.mem ((c.tc : Thread Cert.AdamEvInRefIdeal.nD Cert.AdamEvInRefIdeal.τ).loc Cert.AdamEvInRefIdeal.main_v4) = v1 c
          ∧ r.2.mem ((c.tc : Thread Cert.AdamEvInRefIdeal.nD Cert.AdamEvInRefIdeal.τ).loc Cert.AdamEvInRefIdeal.main_v10) = v2 c
          ∧ r.2.mem ((c.tc : Thread Cert.AdamEvInRefIdeal.nD Cert.AdamEvInRefIdeal.τ).loc Cert.AdamEvInRefIdeal.main_arg0) = m' ((c.tc : Thread Cert.AdamEvInRefIdeal.nD Cert.AdamEvInRefIdeal.τ).loc Cert.AdamEvInRefIdeal.main_arg0)
          ∧ r.2.mem ((c.tc : Thread Cert.AdamEvInRefIdeal.nD Cert.AdamEvInRefIdeal.τ).loc Cert.AdamEvInRefIdeal.main_arg1) = m' ((c.tc : Thread Cert.AdamEvInRefIdeal.nD Cert.AdamEvInRefIdeal.τ).loc Cert.AdamEvInRefIdeal.main_arg1)
          ∧ r.2.mem ((c.tc : Thread Cert.AdamEvInRefIdeal.nD Cert.AdamEvInRefIdeal.τ).loc Cert.AdamEvInRefIdeal.main_arg2) = m' ((c.tc : Thread Cert.AdamEvInRefIdeal.nD Cert.AdamEvInRefIdeal.τ).loc Cert.AdamEvInRefIdeal.main_arg2)
          ∧ r.2.mem ((c.tc : Thread Cert.AdamEvInRefIdeal.nD Cert.AdamEvInRefIdeal.τ).loc Cert.AdamEvInRefIdeal.main_arg3) = m' ((c.tc : Thread Cert.AdamEvInRefIdeal.nD Cert.AdamEvInRefIdeal.τ).loc Cert.AdamEvInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamOdIn_AdamOdInIdeal : Prop :=
  True

def algebraic_AdamOdInIdeal_AdamOdInRefIdeal [hAdamOdInIdeal : Cert.AdamOdInIdeal.Facts] [hAdamOdInRefIdeal : Cert.AdamOdInRefIdeal.Facts] : Prop :=
  ∀ (m : (ℓ : Loc Cert.AdamOdInIdeal.nD Cert.AdamOdInIdeal.τ Cert.AdamOdInIdeal.sig) → Buf (Elt Ideal) ℓ) (g : Dev Cert.AdamOdInIdeal.nD → PrngReg)
    (m' : (ℓ : Loc Cert.AdamOdInRefIdeal.nD Cert.AdamOdInRefIdeal.τ Cert.AdamOdInRefIdeal.sig) → Buf (Elt Ideal) ℓ) (g' : Dev Cert.AdamOdInRefIdeal.nD → PrngReg), Pre_AdamOdInIdeal m →
    (∀ c : Dev Cert.AdamOdInIdeal.nD,
      m' ((c.tc : Thread Cert.AdamOdInRefIdeal.nD Cert.AdamOdInRefIdeal.τ).loc Cert.AdamOdInRefIdeal.main_arg0) = m ((c.tc : Thread Cert.AdamOdInIdeal.nD Cert.AdamOdInIdeal.τ).loc Cert.AdamOdInIdeal.main_arg0)
      ∧ m' ((c.tc : Thread Cert.AdamOdInRefIdeal.nD Cert.AdamOdInRefIdeal.τ).loc Cert.AdamOdInRefIdeal.main_arg1) = m ((c.tc : Thread Cert.AdamOdInIdeal.nD Cert.AdamOdInIdeal.τ).loc Cert.AdamOdInIdeal.main_arg1)
      ∧ m' ((c.tc : Thread Cert.AdamOdInRefIdeal.nD Cert.AdamOdInRefIdeal.τ).loc Cert.AdamOdInRefIdeal.main_arg2) = m ((c.tc : Thread Cert.AdamOdInIdeal.nD Cert.AdamOdInIdeal.τ).loc Cert.AdamOdInIdeal.main_arg2)
      ∧ m' ((c.tc : Thread Cert.AdamOdInRefIdeal.nD Cert.AdamOdInRefIdeal.τ).loc Cert.AdamOdInRefIdeal.main_arg3) = m ((c.tc : Thread Cert.AdamOdInIdeal.nD Cert.AdamOdInIdeal.τ).loc Cert.AdamOdInIdeal.main_arg3)) →
    ∃ (v0 : (c : Dev Cert.AdamOdInIdeal.nD) → Buf (Elt Ideal) ((c.tc : Thread Cert.AdamOdInIdeal.nD Cert.AdamOdInIdeal.τ).loc Cert.AdamOdInIdeal.main_v0_0)) (v1 : (c : Dev Cert.AdamOdInIdeal.nD) → Buf (Elt Ideal) ((c.tc : Thread Cert.AdamOdInIdeal.nD Cert.AdamOdInIdeal.τ).loc Cert.AdamOdInIdeal.main_v0_1)) (v2 : (c : Dev Cert.AdamOdInIdeal.nD) → Buf (Elt Ideal) ((c.tc : Thread Cert.AdamOdInIdeal.nD Cert.AdamOdInIdeal.τ).loc Cert.AdamOdInIdeal.main_v0_2)),
      θ_run (Cert.AdamOdInIdeal.defs (F := Ideal)) (onTc (τ := Cert.AdamOdInIdeal.τ) (Cert.AdamOdInIdeal.main (F := Ideal))) ⟨m, fun _ => 0, g⟩ (fun r => ∀ c : Dev Cert.AdamOdInIdeal.nD,
          r.2.mem ((c.tc : Thread Cert.AdamOdInIdeal.nD Cert.AdamOdInIdeal.τ).loc Cert.AdamOdInIdeal.main_v0_0) = v0 c
          ∧ r.2.mem ((c.tc : Thread Cert.AdamOdInIdeal.nD Cert.AdamOdInIdeal.τ).loc Cert.AdamOdInIdeal.main_v0_1) = v1 c
          ∧ r.2.mem ((c.tc : Thread Cert.AdamOdInIdeal.nD Cert.AdamOdInIdeal.τ).loc Cert.AdamOdInIdeal.main_v0_2) = v2 c
          ∧ r.2.mem ((c.tc : Thread Cert.AdamOdInIdeal.nD Cert.AdamOdInIdeal.τ).loc Cert.AdamOdInIdeal.main_arg0) = m ((c.tc : Thread Cert.AdamOdInIdeal.nD Cert.AdamOdInIdeal.τ).loc Cert.AdamOdInIdeal.main_arg0)
          ∧ r.2.mem ((c.tc : Thread Cert.AdamOdInIdeal.nD Cert.AdamOdInIdeal.τ).loc Cert.AdamOdInIdeal.main_arg1) = m ((c.tc : Thread Cert.AdamOdInIdeal.nD Cert.AdamOdInIdeal.τ).loc Cert.AdamOdInIdeal.main_arg1)
          ∧ r.2.mem ((c.tc : Thread Cert.AdamOdInIdeal.nD Cert.AdamOdInIdeal.τ).loc Cert.AdamOdInIdeal.main_arg2) = m ((c.tc : Thread Cert.AdamOdInIdeal.nD Cert.AdamOdInIdeal.τ).loc Cert.AdamOdInIdeal.main_arg2)
          ∧ r.2.mem ((c.tc : Thread Cert.AdamOdInIdeal.nD Cert.AdamOdInIdeal.τ).loc Cert.AdamOdInIdeal.main_arg3) = m ((c.tc : Thread Cert.AdamOdInIdeal.nD Cert.AdamOdInIdeal.τ).loc Cert.AdamOdInIdeal.main_arg3))
      ∧ θ_run (Cert.AdamOdInRefIdeal.defs (F := Ideal)) (onTc (τ := Cert.AdamOdInRefIdeal.τ) (Cert.AdamOdInRefIdeal.main (F := Ideal))) ⟨m', fun _ => 0, g'⟩ (fun r => ∀ c : Dev Cert.AdamOdInRefIdeal.nD,
          r.2.mem ((c.tc : Thread Cert.AdamOdInRefIdeal.nD Cert.AdamOdInRefIdeal.τ).loc Cert.AdamOdInRefIdeal.main_v23) = v0 c
          ∧ r.2.mem ((c.tc : Thread Cert.AdamOdInRefIdeal.nD Cert.AdamOdInRefIdeal.τ).loc Cert.AdamOdInRefIdeal.main_v4) = v1 c
          ∧ r.2.mem ((c.tc : Thread Cert.AdamOdInRefIdeal.nD Cert.AdamOdInRefIdeal.τ).loc Cert.AdamOdInRefIdeal.main_v10) = v2 c
          ∧ r.2.mem ((c.tc : Thread Cert.AdamOdInRefIdeal.nD Cert.AdamOdInRefIdeal.τ).loc Cert.AdamOdInRefIdeal.main_arg0) = m' ((c.tc : Thread Cert.AdamOdInRefIdeal.nD Cert.AdamOdInRefIdeal.τ).loc Cert.AdamOdInRefIdeal.main_arg0)
          ∧ r.2.mem ((c.tc : Thread Cert.AdamOdInRefIdeal.nD Cert.AdamOdInRefIdeal.τ).loc Cert.AdamOdInRefIdeal.main_arg1) = m' ((c.tc : Thread Cert.AdamOdInRefIdeal.nD Cert.AdamOdInRefIdeal.τ).loc Cert.AdamOdInRefIdeal.main_arg1)
          ∧ r.2.mem ((c.tc : Thread Cert.AdamOdInRefIdeal.nD Cert.AdamOdInRefIdeal.τ).loc Cert.AdamOdInRefIdeal.main_arg2) = m' ((c.tc : Thread Cert.AdamOdInRefIdeal.nD Cert.AdamOdInRefIdeal.τ).loc Cert.AdamOdInRefIdeal.main_arg2)
          ∧ r.2.mem ((c.tc : Thread Cert.AdamOdInRefIdeal.nD Cert.AdamOdInRefIdeal.τ).loc Cert.AdamOdInRefIdeal.main_arg3) = m' ((c.tc : Thread Cert.AdamOdInRefIdeal.nD Cert.AdamOdInRefIdeal.τ).loc Cert.AdamOdInRefIdeal.main_arg3))

def preserves_AdamXa_AdamXaIdeal : Prop :=
  True

def algebraic_AdamXaIdeal_AdamXaRefIdeal [hAdamXaIdeal : Cert.AdamXaIdeal.Facts] [hAdamXaRefIdeal : Cert.AdamXaRefIdeal.Facts] : Prop :=
  ∀ (m : (ℓ : Loc Cert.AdamXaIdeal.nD Cert.AdamXaIdeal.τ Cert.AdamXaIdeal.sig) → Buf (Elt Ideal) ℓ) (g : Dev Cert.AdamXaIdeal.nD → PrngReg)
    (m' : (ℓ : Loc Cert.AdamXaRefIdeal.nD Cert.AdamXaRefIdeal.τ Cert.AdamXaRefIdeal.sig) → Buf (Elt Ideal) ℓ) (g' : Dev Cert.AdamXaRefIdeal.nD → PrngReg), Pre_AdamXaIdeal m →
    (∀ c : Dev Cert.AdamXaIdeal.nD,
      m' ((c.tc : Thread Cert.AdamXaRefIdeal.nD Cert.AdamXaRefIdeal.τ).loc Cert.AdamXaRefIdeal.main_arg0) = m ((c.tc : Thread Cert.AdamXaIdeal.nD Cert.AdamXaIdeal.τ).loc Cert.AdamXaIdeal.main_arg0)
      ∧ m' ((c.tc : Thread Cert.AdamXaRefIdeal.nD Cert.AdamXaRefIdeal.τ).loc Cert.AdamXaRefIdeal.main_arg1) = m ((c.tc : Thread Cert.AdamXaIdeal.nD Cert.AdamXaIdeal.τ).loc Cert.AdamXaIdeal.main_arg1)
      ∧ m' ((c.tc : Thread Cert.AdamXaRefIdeal.nD Cert.AdamXaRefIdeal.τ).loc Cert.AdamXaRefIdeal.main_arg2) = m ((c.tc : Thread Cert.AdamXaIdeal.nD Cert.AdamXaIdeal.τ).loc Cert.AdamXaIdeal.main_arg2)
      ∧ m' ((c.tc : Thread Cert.AdamXaRefIdeal.nD Cert.AdamXaRefIdeal.τ).loc Cert.AdamXaRefIdeal.main_arg3) = m ((c.tc : Thread Cert.AdamXaIdeal.nD Cert.AdamXaIdeal.τ).loc Cert.AdamXaIdeal.main_arg3)) →
    ∃ (v0 : (c : Dev Cert.AdamXaIdeal.nD) → Buf (Elt Ideal) ((c.tc : Thread Cert.AdamXaIdeal.nD Cert.AdamXaIdeal.τ).loc Cert.AdamXaIdeal.main_v0_0)) (v1 : (c : Dev Cert.AdamXaIdeal.nD) → Buf (Elt Ideal) ((c.tc : Thread Cert.AdamXaIdeal.nD Cert.AdamXaIdeal.τ).loc Cert.AdamXaIdeal.main_v0_1)) (v2 : (c : Dev Cert.AdamXaIdeal.nD) → Buf (Elt Ideal) ((c.tc : Thread Cert.AdamXaIdeal.nD Cert.AdamXaIdeal.τ).loc Cert.AdamXaIdeal.main_v0_2)),
      θ_run (Cert.AdamXaIdeal.defs (F := Ideal)) (onTc (τ := Cert.AdamXaIdeal.τ) (Cert.AdamXaIdeal.main (F := Ideal))) ⟨m, fun _ => 0, g⟩ (fun r => ∀ c : Dev Cert.AdamXaIdeal.nD,
          r.2.mem ((c.tc : Thread Cert.AdamXaIdeal.nD Cert.AdamXaIdeal.τ).loc Cert.AdamXaIdeal.main_v0_0) = v0 c
          ∧ r.2.mem ((c.tc : Thread Cert.AdamXaIdeal.nD Cert.AdamXaIdeal.τ).loc Cert.AdamXaIdeal.main_v0_1) = v1 c
          ∧ r.2.mem ((c.tc : Thread Cert.AdamXaIdeal.nD Cert.AdamXaIdeal.τ).loc Cert.AdamXaIdeal.main_v0_2) = v2 c
          ∧ r.2.mem ((c.tc : Thread Cert.AdamXaIdeal.nD Cert.AdamXaIdeal.τ).loc Cert.AdamXaIdeal.main_arg0) = m ((c.tc : Thread Cert.AdamXaIdeal.nD Cert.AdamXaIdeal.τ).loc Cert.AdamXaIdeal.main_arg0)
          ∧ r.2.mem ((c.tc : Thread Cert.AdamXaIdeal.nD Cert.AdamXaIdeal.τ).loc Cert.AdamXaIdeal.main_arg1) = m ((c.tc : Thread Cert.AdamXaIdeal.nD Cert.AdamXaIdeal.τ).loc Cert.AdamXaIdeal.main_arg1)
          ∧ r.2.mem ((c.tc : Thread Cert.AdamXaIdeal.nD Cert.AdamXaIdeal.τ).loc Cert.AdamXaIdeal.main_arg2) = m ((c.tc : Thread Cert.AdamXaIdeal.nD Cert.AdamXaIdeal.τ).loc Cert.AdamXaIdeal.main_arg2)
          ∧ r.2.mem ((c.tc : Thread Cert.AdamXaIdeal.nD Cert.AdamXaIdeal.τ).loc Cert.AdamXaIdeal.main_arg3) = m ((c.tc : Thread Cert.AdamXaIdeal.nD Cert.AdamXaIdeal.τ).loc Cert.AdamXaIdeal.main_arg3))
      ∧ θ_run (Cert.AdamXaRefIdeal.defs (F := Ideal)) (onTc (τ := Cert.AdamXaRefIdeal.τ) (Cert.AdamXaRefIdeal.main (F := Ideal))) ⟨m', fun _ => 0, g'⟩ (fun r => ∀ c : Dev Cert.AdamXaRefIdeal.nD,
          r.2.mem ((c.tc : Thread Cert.AdamXaRefIdeal.nD Cert.AdamXaRefIdeal.τ).loc Cert.AdamXaRefIdeal.main_v23) = v0 c
          ∧ r.2.mem ((c.tc : Thread Cert.AdamXaRefIdeal.nD Cert.AdamXaRefIdeal.τ).loc Cert.AdamXaRefIdeal.main_v4) = v1 c
          ∧ r.2.mem ((c.tc : Thread Cert.AdamXaRefIdeal.nD Cert.AdamXaRefIdeal.τ).loc Cert.AdamXaRefIdeal.main_v10) = v2 c
          ∧ r.2.mem ((c.tc : Thread Cert.AdamXaRefIdeal.nD Cert.AdamXaRefIdeal.τ).loc Cert.AdamXaRefIdeal.main_arg0) = m' ((c.tc : Thread Cert.AdamXaRefIdeal.nD Cert.AdamXaRefIdeal.τ).loc Cert.AdamXaRefIdeal.main_arg0)
          ∧ r.2.mem ((c.tc : Thread Cert.AdamXaRefIdeal.nD Cert.AdamXaRefIdeal.τ).loc Cert.AdamXaRefIdeal.main_arg1) = m' ((c.tc : Thread Cert.AdamXaRefIdeal.nD Cert.AdamXaRefIdeal.τ).loc Cert.AdamXaRefIdeal.main_arg1)
          ∧ r.2.mem ((c.tc : Thread Cert.AdamXaRefIdeal.nD Cert.AdamXaRefIdeal.τ).loc Cert.AdamXaRefIdeal.main_arg2) = m' ((c.tc : Thread Cert.AdamXaRefIdeal.nD Cert.AdamXaRefIdeal.τ).loc Cert.AdamXaRefIdeal.main_arg2)
          ∧ r.2.mem ((c.tc : Thread Cert.AdamXaRefIdeal.nD Cert.AdamXaRefIdeal.τ).loc Cert.AdamXaRefIdeal.main_arg3) = m' ((c.tc : Thread Cert.AdamXaRefIdeal.nD Cert.AdamXaRefIdeal.τ).loc Cert.AdamXaRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hDw : Cert.Dw.Facts) (hDwIdeal : Cert.DwIdeal.Facts) (hDwRefIdeal : Cert.DwRefIdeal.Facts) (hDx : Cert.Dx.Facts) (hDxIdeal : Cert.DxIdeal.Facts) (hDxRefIdeal : Cert.DxRefIdeal.Facts) (hFwd : Cert.Fwd.Facts) (hFwdIdeal : Cert.FwdIdeal.Facts) (hFwdRefIdeal : Cert.FwdRefIdeal.Facts) (hNn : Cert.Nn.Facts) (hNnIdeal : Cert.NnIdeal.Facts) (hNnRefIdeal : Cert.NnRefIdeal.Facts) (hNt : Cert.Nt.Facts) (hNtIdeal : Cert.NtIdeal.Facts) (hNtRefIdeal : Cert.NtRefIdeal.Facts) (hSq : Cert.Sq.Facts) (hSqIdeal : Cert.SqIdeal.Facts) (hSqRefIdeal : Cert.SqRefIdeal.Facts) (hLoss : Cert.Loss.Facts) (hLossIdeal : Cert.LossIdeal.Facts) (hLossRefIdeal : Cert.LossRefIdeal.Facts) (hXf : Cert.Xf.Facts) (hXfIdeal : Cert.XfIdeal.Facts) (hXfRefIdeal : Cert.XfRefIdeal.Facts) (hSwa : Cert.Swa.Facts) (hSwaIdeal : Cert.SwaIdeal.Facts) (hSwaRefIdeal : Cert.SwaRefIdeal.Facts) (hTnEv : Cert.TnEv.Facts) (hTnEvIdeal : Cert.TnEvIdeal.Facts) (hTnEvRefIdeal : Cert.TnEvRefIdeal.Facts) (hTnOd : Cert.TnOd.Facts) (hTnOdIdeal : Cert.TnOdIdeal.Facts) (hTnOdRefIdeal : Cert.TnOdRefIdeal.Facts) (hTnQ : Cert.TnQ.Facts) (hTnQIdeal : Cert.TnQIdeal.Facts) (hTnQRefIdeal : Cert.TnQRefIdeal.Facts) (hTnKv : Cert.TnKv.Facts) (hTnKvIdeal : Cert.TnKvIdeal.Facts) (hTnKvRefIdeal : Cert.TnKvRefIdeal.Facts) (hNbEv : Cert.NbEv.Facts) (hNbEvIdeal : Cert.NbEvIdeal.Facts) (hNbEvRefIdeal : Cert.NbEvRefIdeal.Facts) (hNbOd : Cert.NbOd.Facts) (hNbOdIdeal : Cert.NbOdIdeal.Facts) (hNbOdRefIdeal : Cert.NbOdRefIdeal.Facts) (hNbXa : Cert.NbXa.Facts) (hNbXaIdeal : Cert.NbXaIdeal.Facts) (hNbXaRefIdeal : Cert.NbXaRefIdeal.Facts) (hNbMem : Cert.NbMem.Facts) (hNbMemIdeal : Cert.NbMemIdeal.Facts) (hNbMemRefIdeal : Cert.NbMemRefIdeal.Facts) (hAdamGu : Cert.AdamGu.Facts) (hAdamGuIdeal : Cert.AdamGuIdeal.Facts) (hAdamGuRefIdeal : Cert.AdamGuRefIdeal.Facts) (hAdamDown : Cert.AdamDown.Facts) (hAdamDownIdeal : Cert.AdamDownIdeal.Facts) (hAdamDownRefIdeal : Cert.AdamDownRefIdeal.Facts) (hAdamEvIn : Cert.AdamEvIn.Facts) (hAdamEvInIdeal : Cert.AdamEvInIdeal.Facts) (hAdamEvInRefIdeal : Cert.AdamEvInRefIdeal.Facts) (hAdamOut : Cert.AdamOut.Facts) (hAdamOutIdeal : Cert.AdamOutIdeal.Facts) (hAdamOutRefIdeal : Cert.AdamOutRefIdeal.Facts) (hAdamOdIn : Cert.AdamOdIn.Facts) (hAdamOdInIdeal : Cert.AdamOdInIdeal.Facts) (hAdamOdInRefIdeal : Cert.AdamOdInRefIdeal.Facts) (hAdamXa : Cert.AdamXa.Facts) (hAdamXaIdeal : Cert.AdamXaIdeal.Facts) (hAdamXaRefIdeal : Cert.AdamXaRefIdeal.Facts) (hAdamKv : Cert.AdamKv.Facts) (hAdamKvIdeal : Cert.AdamKvIdeal.Facts) (hAdamKvRefIdeal : Cert.AdamKvRefIdeal.Facts) (hAdamSmall : Cert.AdamSmall.Facts) (hAdamSmallIdeal : Cert.AdamSmallIdeal.Facts) (hAdamSmallRefIdeal : Cert.AdamSmallRefIdeal.Facts) (hPre_finite_attn : Cert.Pre_finite_attn.Facts) (hPre_finite_gate : Cert.Pre_finite_gate.Facts) (hPre_finite_dx : Cert.Pre_finite_dx.Facts) (hPre_finite_xf : Cert.Pre_finite_xf.Facts) (hPre_finite_swa : Cert.Pre_finite_swa.Facts) (hPre_finite_nbev : Cert.Pre_finite_nbev.Facts) (hPre_finite_nbod : Cert.Pre_finite_nbod.Facts) (hPre_finite_nbxa : Cert.Pre_finite_nbxa.Facts),
    quiescent_Kernel (hKernel := hKernel)
    ∧ quiescent_KernelIdeal (hKernelIdeal := hKernelIdeal)
    ∧ quiescent_KernelIdeal_pre_finite_attn (hKernelIdeal := hKernelIdeal) (hPre_finite_attn := hPre_finite_attn)
    ∧ quiescent_ReferenceIdeal (hReferenceIdeal := hReferenceIdeal)
    ∧ quiescent_ReferenceIdeal_pre_finite_attn (hReferenceIdeal := hReferenceIdeal) (hPre_finite_attn := hPre_finite_attn)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Dw (hDw := hDw)
    ∧ quiescent_DwIdeal (hDwIdeal := hDwIdeal)
    ∧ quiescent_DwRefIdeal (hDwRefIdeal := hDwRefIdeal)
    ∧ quiescent_Dx (hDx := hDx)
    ∧ quiescent_DxIdeal (hDxIdeal := hDxIdeal)
    ∧ quiescent_DxIdeal_pre_finite_dx (hDxIdeal := hDxIdeal) (hPre_finite_dx := hPre_finite_dx)
    ∧ quiescent_DxRefIdeal (hDxRefIdeal := hDxRefIdeal)
    ∧ quiescent_DxRefIdeal_pre_finite_dx (hDxRefIdeal := hDxRefIdeal) (hPre_finite_dx := hPre_finite_dx)
    ∧ quiescent_Fwd (hFwd := hFwd)
    ∧ quiescent_FwdIdeal (hFwdIdeal := hFwdIdeal)
    ∧ quiescent_FwdRefIdeal (hFwdRefIdeal := hFwdRefIdeal)
    ∧ quiescent_Nn (hNn := hNn)
    ∧ quiescent_NnIdeal (hNnIdeal := hNnIdeal)
    ∧ quiescent_NnRefIdeal (hNnRefIdeal := hNnRefIdeal)
    ∧ quiescent_Nt (hNt := hNt)
    ∧ quiescent_NtIdeal (hNtIdeal := hNtIdeal)
    ∧ quiescent_NtRefIdeal (hNtRefIdeal := hNtRefIdeal)
    ∧ quiescent_Sq (hSq := hSq)
    ∧ quiescent_SqIdeal (hSqIdeal := hSqIdeal)
    ∧ quiescent_SqRefIdeal (hSqRefIdeal := hSqRefIdeal)
    ∧ quiescent_Loss (hLoss := hLoss)
    ∧ quiescent_LossIdeal (hLossIdeal := hLossIdeal)
    ∧ quiescent_LossRefIdeal (hLossRefIdeal := hLossRefIdeal)
    ∧ quiescent_Xf (hXf := hXf)
    ∧ quiescent_XfIdeal (hXfIdeal := hXfIdeal)
    ∧ quiescent_XfIdeal_pre_finite_xf (hXfIdeal := hXfIdeal) (hPre_finite_xf := hPre_finite_xf)
    ∧ quiescent_XfRefIdeal (hXfRefIdeal := hXfRefIdeal)
    ∧ quiescent_XfRefIdeal_pre_finite_xf (hXfRefIdeal := hXfRefIdeal) (hPre_finite_xf := hPre_finite_xf)
    ∧ quiescent_Swa (hSwa := hSwa)
    ∧ quiescent_SwaIdeal (hSwaIdeal := hSwaIdeal)
    ∧ quiescent_SwaIdeal_pre_finite_swa (hSwaIdeal := hSwaIdeal) (hPre_finite_swa := hPre_finite_swa)
    ∧ quiescent_SwaRefIdeal (hSwaRefIdeal := hSwaRefIdeal)
    ∧ quiescent_SwaRefIdeal_pre_finite_swa (hSwaRefIdeal := hSwaRefIdeal) (hPre_finite_swa := hPre_finite_swa)
    ∧ quiescent_TnEv (hTnEv := hTnEv)
    ∧ quiescent_TnEvIdeal (hTnEvIdeal := hTnEvIdeal)
    ∧ quiescent_TnEvRefIdeal (hTnEvRefIdeal := hTnEvRefIdeal)
    ∧ quiescent_TnOd (hTnOd := hTnOd)
    ∧ quiescent_TnOdIdeal (hTnOdIdeal := hTnOdIdeal)
    ∧ quiescent_TnOdRefIdeal (hTnOdRefIdeal := hTnOdRefIdeal)
    ∧ quiescent_TnQ (hTnQ := hTnQ)
    ∧ quiescent_TnQIdeal (hTnQIdeal := hTnQIdeal)
    ∧ quiescent_TnQRefIdeal (hTnQRefIdeal := hTnQRefIdeal)
    ∧ quiescent_TnKv (hTnKv := hTnKv)
    ∧ quiescent_TnKvIdeal (hTnKvIdeal := hTnKvIdeal)
    ∧ quiescent_TnKvRefIdeal (hTnKvRefIdeal := hTnKvRefIdeal)
    ∧ quiescent_NbEv (hNbEv := hNbEv)
    ∧ quiescent_NbEvIdeal (hNbEvIdeal := hNbEvIdeal)
    ∧ quiescent_NbEvIdeal_pre_finite_nbev (hNbEvIdeal := hNbEvIdeal) (hPre_finite_nbev := hPre_finite_nbev)
    ∧ quiescent_NbEvRefIdeal (hNbEvRefIdeal := hNbEvRefIdeal)
    ∧ quiescent_NbEvRefIdeal_pre_finite_nbev (hNbEvRefIdeal := hNbEvRefIdeal) (hPre_finite_nbev := hPre_finite_nbev)
    ∧ quiescent_NbOd (hNbOd := hNbOd)
    ∧ quiescent_NbOdIdeal (hNbOdIdeal := hNbOdIdeal)
    ∧ quiescent_NbOdIdeal_pre_finite_nbod (hNbOdIdeal := hNbOdIdeal) (hPre_finite_nbod := hPre_finite_nbod)
    ∧ quiescent_NbOdRefIdeal (hNbOdRefIdeal := hNbOdRefIdeal)
    ∧ quiescent_NbOdRefIdeal_pre_finite_nbod (hNbOdRefIdeal := hNbOdRefIdeal) (hPre_finite_nbod := hPre_finite_nbod)
    ∧ quiescent_NbXa (hNbXa := hNbXa)
    ∧ quiescent_NbXaIdeal (hNbXaIdeal := hNbXaIdeal)
    ∧ quiescent_NbXaIdeal_pre_finite_nbxa (hNbXaIdeal := hNbXaIdeal) (hPre_finite_nbxa := hPre_finite_nbxa)
    ∧ quiescent_NbXaRefIdeal (hNbXaRefIdeal := hNbXaRefIdeal)
    ∧ quiescent_NbXaRefIdeal_pre_finite_nbxa (hNbXaRefIdeal := hNbXaRefIdeal) (hPre_finite_nbxa := hPre_finite_nbxa)
    ∧ quiescent_NbMem (hNbMem := hNbMem)
    ∧ quiescent_NbMemIdeal (hNbMemIdeal := hNbMemIdeal)
    ∧ quiescent_NbMemRefIdeal (hNbMemRefIdeal := hNbMemRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamEvIn (hAdamEvIn := hAdamEvIn)
    ∧ quiescent_AdamEvInIdeal (hAdamEvInIdeal := hAdamEvInIdeal)
    ∧ quiescent_AdamEvInRefIdeal (hAdamEvInRefIdeal := hAdamEvInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamOdIn (hAdamOdIn := hAdamOdIn)
    ∧ quiescent_AdamOdInIdeal (hAdamOdInIdeal := hAdamOdInIdeal)
    ∧ quiescent_AdamOdInRefIdeal (hAdamOdInRefIdeal := hAdamOdInRefIdeal)
    ∧ quiescent_AdamXa (hAdamXa := hAdamXa)
    ∧ quiescent_AdamXaIdeal (hAdamXaIdeal := hAdamXaIdeal)
    ∧ quiescent_AdamXaRefIdeal (hAdamXaRefIdeal := hAdamXaRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite_attn (hKernelIdeal := hKernelIdeal) (hReferenceIdeal := hReferenceIdeal) (hPre_finite_attn := hPre_finite_attn)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Dw_DwIdeal
    ∧ algebraic_DwIdeal_DwRefIdeal (hDwIdeal := hDwIdeal) (hDwRefIdeal := hDwRefIdeal)
    ∧ preserves_Dx_DxIdeal
    ∧ algebraic_DxIdeal_DxRefIdeal_pre_finite_dx (hDxIdeal := hDxIdeal) (hDxRefIdeal := hDxRefIdeal) (hPre_finite_dx := hPre_finite_dx)
    ∧ preserves_Fwd_FwdIdeal
    ∧ algebraic_FwdIdeal_FwdRefIdeal (hFwdIdeal := hFwdIdeal) (hFwdRefIdeal := hFwdRefIdeal)
    ∧ preserves_Nn_NnIdeal
    ∧ algebraic_NnIdeal_NnRefIdeal (hNnIdeal := hNnIdeal) (hNnRefIdeal := hNnRefIdeal)
    ∧ preserves_Nt_NtIdeal
    ∧ algebraic_NtIdeal_NtRefIdeal (hNtIdeal := hNtIdeal) (hNtRefIdeal := hNtRefIdeal)
    ∧ preserves_Sq_SqIdeal
    ∧ algebraic_SqIdeal_SqRefIdeal (hSqIdeal := hSqIdeal) (hSqRefIdeal := hSqRefIdeal)
    ∧ preserves_Loss_LossIdeal
    ∧ algebraic_LossIdeal_LossRefIdeal (hLossIdeal := hLossIdeal) (hLossRefIdeal := hLossRefIdeal)
    ∧ preserves_Xf_XfIdeal
    ∧ algebraic_XfIdeal_XfRefIdeal_pre_finite_xf (hXfIdeal := hXfIdeal) (hXfRefIdeal := hXfRefIdeal) (hPre_finite_xf := hPre_finite_xf)
    ∧ preserves_Swa_SwaIdeal
    ∧ algebraic_SwaIdeal_SwaRefIdeal_pre_finite_swa (hSwaIdeal := hSwaIdeal) (hSwaRefIdeal := hSwaRefIdeal) (hPre_finite_swa := hPre_finite_swa)
    ∧ preserves_TnEv_TnEvIdeal
    ∧ algebraic_TnEvIdeal_TnEvRefIdeal (hTnEvIdeal := hTnEvIdeal) (hTnEvRefIdeal := hTnEvRefIdeal)
    ∧ preserves_TnOd_TnOdIdeal
    ∧ algebraic_TnOdIdeal_TnOdRefIdeal (hTnOdIdeal := hTnOdIdeal) (hTnOdRefIdeal := hTnOdRefIdeal)
    ∧ preserves_TnQ_TnQIdeal
    ∧ algebraic_TnQIdeal_TnQRefIdeal (hTnQIdeal := hTnQIdeal) (hTnQRefIdeal := hTnQRefIdeal)
    ∧ preserves_TnKv_TnKvIdeal
    ∧ algebraic_TnKvIdeal_TnKvRefIdeal (hTnKvIdeal := hTnKvIdeal) (hTnKvRefIdeal := hTnKvRefIdeal)
    ∧ preserves_NbEv_NbEvIdeal
    ∧ algebraic_NbEvIdeal_NbEvRefIdeal_pre_finite_nbev (hNbEvIdeal := hNbEvIdeal) (hNbEvRefIdeal := hNbEvRefIdeal) (hPre_finite_nbev := hPre_finite_nbev)
    ∧ preserves_NbOd_NbOdIdeal
    ∧ algebraic_NbOdIdeal_NbOdRefIdeal_pre_finite_nbod (hNbOdIdeal := hNbOdIdeal) (hNbOdRefIdeal := hNbOdRefIdeal) (hPre_finite_nbod := hPre_finite_nbod)
    ∧ preserves_NbXa_NbXaIdeal
    ∧ algebraic_NbXaIdeal_NbXaRefIdeal_pre_finite_nbxa (hNbXaIdeal := hNbXaIdeal) (hNbXaRefIdeal := hNbXaRefIdeal) (hPre_finite_nbxa := hPre_finite_nbxa)
    ∧ preserves_NbMem_NbMemIdeal
    ∧ algebraic_NbMemIdeal_NbMemRefIdeal (hNbMemIdeal := hNbMemIdeal) (hNbMemRefIdeal := hNbMemRefIdeal)
    ∧ preserves_AdamGu_AdamGuIdeal
    ∧ algebraic_AdamGuIdeal_AdamGuRefIdeal (hAdamGuIdeal := hAdamGuIdeal) (hAdamGuRefIdeal := hAdamGuRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamEvIn_AdamEvInIdeal
    ∧ algebraic_AdamEvInIdeal_AdamEvInRefIdeal (hAdamEvInIdeal := hAdamEvInIdeal) (hAdamEvInRefIdeal := hAdamEvInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamOdIn_AdamOdInIdeal
    ∧ algebraic_AdamOdInIdeal_AdamOdInRefIdeal (hAdamOdInIdeal := hAdamOdInIdeal) (hAdamOdInRefIdeal := hAdamOdInRefIdeal)
    ∧ preserves_AdamXa_AdamXaIdeal
    ∧ algebraic_AdamXaIdeal_AdamXaRefIdeal (hAdamXaIdeal := hAdamXaIdeal) (hAdamXaRefIdeal := hAdamXaRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite_attn.lean ====
abbrev S4096x1024 : Shape := ⟨2, ![4096, 1024]⟩
abbrev S256x2048 : Shape := ⟨2, ![256, 2048]⟩
abbrev S1x256 : Shape := ⟨2, ![1, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S4096x1024 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S256x2048 .f32) (main_arg2 : FVec F S1x256 .f32) (main_arg3 : FVec F S1x256 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_v13 main_v16
-- ==== Pre_finite_dx.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S2x4096x2816 .bf16) (main_arg1 : FVec F S4x1024x1408 .bf16) (main_arg2 : FVec F S4096x1024 .f32) (main_arg3 : FVec F S1x1024 .f32) (main_arg4 : FVec F S4096x1024 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S4x1024x1408 .f32 := (extf .f32 · bitsLt_bf16_f32) main_arg1
  let main_v6 : FVec F S4x1024x1408 .f32 := Host.absf main_v5
  let main_cst_0 : FVec F S_ .f32 := constant S_ .f32 0x7F800000#32
  let main_v7 : FVec F S4x1024x1408 .f32 := broadcastInDim S4x1024x1408 ![] bcast_S_S4x1024x1408 main_cst_0
  let main_v8 : IVec S4x1024x1408 1 := cmpf .olt main_v6 main_v7
  let main_c_1 : IVec S_ 1 := constantI S_ 1 1#1
  let main_v9 : IVec S_ 1 := (fun x v => Host.reduce IntOp.andi x v reducesTo_S4x1024x1408_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg4 main_v15 main_v16 main_cst_4
-- ==== Pre_finite_gate.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S2x4096x2816 : S_.BroadcastsInDim S2x4096x2816 (![] : Fin 0 → Fin S2x4096x2816.rank)
  reducesTo_S2x4096x2816_S_d0_1_2 : S2x4096x2816.ReducesTo [0, 1, 2] S_

variable [Facts]

def fn {F : FTy → Type} [FloatOps F] (main_arg0 : FVec F S4096x1024 .f32) (main_arg1 : FVec F S2816x1024 .bf16) (main_arg2 : FVec F S2x4096x2816 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S2x4096x2816 .f32 := (extf .f32 · bitsLt_bf16_f32) main_arg2
  let main_v11 : FVec F S2x4096x2816 .f32 := Host.absf main_v10
  let main_cst_2 : FVec F S_ .f32 := constant S_ .f32 0x7F800000#32
  let main_v12 : FVec F S2x4096x2816 .f32 := broadcastInDim S2x4096x2816 ![] bcast_S_S2x4096x2816 main_cst_2
  let main_v13 : IVec S2x4096x2816 1 := cmpf .olt main_v11 main_v12
  let main_c_3 : IVec S_ 1 := constantI S_ 1 1#1
  let main_v14 : IVec S_ 1 := (fun x v => Host.reduce IntOp.andi x v reducesTo_S2x4096x2816_S_d0_1_2 h_S_) main_v13 main_c_3
  let main_v15 : IVec S_ 1 := andi main_v9 main_v14
  main_v15
-- ==== Pre_finite_nbev.lean ====
abbrev S4096x2304 : Shape := ⟨2, ![4096, 2304]⟩
abbrev S1024x2304 : Shape := ⟨2, ![1024, 2304]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2304 : S_.BroadcastsInDim S4096x2304 (![] : Fin 0 → Fin S4096x2304.rank)
  reducesTo_S4096x2304_S_d0_1 : S4096x2304.ReducesTo [0, 1] S_
  h_S_ : 0 < S_.numel
  bcast_S_S1024x2304 : S_.BroadcastsInDim S1024x2304 (![] : Fin 0 → Fin S1024x2304.rank)
  reducesTo_S1024x2304_S_d0_1 : S1024x2304.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S4096x2304 .bf16) (main_arg1 : FVec F S1024x2304 .bf16) (main_arg2 : FVec F S4096x1024 .f32) (main_arg3 : FVec F S1x1024 .f32) (main_arg4 : FVec F S4096x1024 .f32) : IVec S_ 1 :=
  let main_v0 : FVec F S4096x2304 .f32 := (extf .f32 · bitsLt_bf16_f32) main_arg0
  let main_v1 : FVec F S4096x2304 .f32 := Host.absf main_v0
  let main_cst : FVec F S_ .f32 := constant S_ .f32 0x7F800000#32
  let main_v2 : FVec F S4096x2304 .f32 := broadcastInDim S4096x2304 ![] bcast_S_S4096x2304 main_cst
  let main_v3 : IVec S4096x2304 1 := cmpf .olt main_v1 main_v2
  let main_c : IVec S_ 1 := constantI S_ 1 1#1
  let main_v4 : IVec S_ 1 := (fun x v => Host.reduce IntOp.andi x v reducesTo_S4096x2304_S_d0_1 h_S_) main_v3 main_c
  let main_v5 : FVec F S1024x2304 .f32 := (extf .f32 · bitsLt_bf16_f32) main_arg1
  let main_v6 : FVec F S1024x2304 .f32 := Host.absf main_v5
  let main_cst_0 : FVec F S_ .f32 := constant S_ .f32 0x7F800000#32
  let main_v7 : FVec F S1024x2304 .f32 := broadcastInDim S1024x2304 ![] bcast_S_S1024x2304 main_cst_0
  let main_v8 : IVec S1024x2304 1 := cmpf .olt main_v6 main_v7
  let main_c_1 : IVec S_ 1 := constantI S_ 1 1#1
  let main_v9 : IVec S_ 1 := (fun x v => Host.reduce IntOp.andi x v reducesTo_S1024x2304_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg4 main_v15 main_v16 main_cst_4
-- ==== Pre_finite_nbod.lean ====
abbrev S4096x3072 : Shape := ⟨2, ![4096, 3072]⟩
abbrev S4x1024x768 : Shape := ⟨3, ![4, 1024, 768]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4x1024x768 : S_.BroadcastsInDim S4x1024x768 (![] : Fin 0 → Fin S4x1024x768.rank)
  reducesTo_S4x1024x768_S_d0_1_2 : S4x1024x768.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S4096x3072 .bf16) (main_arg1 : FVec F S4x1024x768 .bf16) (main_arg2 : FVec F S4096x1024 .f32) (main_arg3 : FVec F S1x1024 .f32) (main_arg4 : FVec F S4096x1024 .f32) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S4x1024x768 .f32 := (extf .f32 · bitsLt_bf16_f32) main_arg1
  let main_v6 : FVec F S4x1024x768 .f32 := Host.absf main_v5
  let main_cst_0 : FVec F S_ .f32 := constant S_ .f32 0x7F800000#32
  let main_v7 : FVec F S4x1024x768 .f32 := broadcastInDim S4x1024x768 ![] bcast_S_S4x1024x768 main_cst_0
  let main_v8 : IVec S4x1024x768 1 := cmpf .olt main_v6 main_v7
  let main_c_1 : IVec S_ 1 := constantI S_ 1 1#1
  let main_v9 : IVec S_ 1 := (fun x v => Host.reduce IntOp.andi x v reducesTo_S4x1024x768_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg4 main_v15 main_v16 main_cst_4
-- ==== Pre_finite_nbxa.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  main_v24

def fn {F : FTy → Type} [FloatOps F] (main_arg0 : FVec F S4096x1024 .f32) (main_arg1 : FVec F S1024x1024 .bf16) (main_arg2 : FVec F S4096x1024 .f32) (main_arg3 : FVec F S1x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== Pre_finite_swa.lean ====
abbrev S4096x768 : Shape := ⟨2, ![4096, 768]⟩
abbrev S4096x2304 : Shape := ⟨2, ![4096, 2304]⟩
abbrev S8 : Shape := ⟨1, ![8]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S4096x768 .f32) (main_arg1 : FVec F S4096x2304 .f32) (main_arg2 : FVec F S8 .f32) (main_arg3 : FVec F S8 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S8 .f32 := Host.absf main_arg2
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_finite_xf.lean ====
abbrev S4096x1024 : Shape := ⟨2, ![4096, 1024]⟩
abbrev S256x2048 : Shape := ⟨2, ![256, 2048]⟩
abbrev S1x256 : Shape := ⟨2, ![1, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  main_v18

def fn {F : FTy → Type} [FloatOps F] (main_arg0 : FVec F S4096x1024 .f32) (main_arg1 : FVec F S256x2048 .f32) (main_arg2 : FVec F S1x256 .f32) (main_arg3 : FVec F S1x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_v13 main_v16
-- ==== Kernel.lean ====
abbrev S4096x1024 : Shape := ⟨2, ![4096, 1024]⟩
abbrev S256x2048 : Shape := ⟨2, ![256, 2048]⟩
abbrev S1x256 : Shape := ⟨2, ![1, 256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S256x4 : Shape := ⟨2, ![256, 4]⟩
abbrev S256x4x1 : Shape := ⟨3, ![256, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S256x256 : Shape := ⟨2, ![256, 256]⟩
abbrev S256 : Shape := ⟨1, ![256]⟩
abbrev S256x1 : Shape := ⟨2, ![256, 1]⟩

abbrev nBuf : Space → Nat
  | .hbm => 68
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S1x256, .f32⟩
  | .hbm, ⟨3, _⟩ => ⟨S1x256, .f32⟩
  | .hbm, ⟨4, _⟩ => ⟨S4096x1024, .f32⟩
  | .hbm, ⟨5, _⟩ => ⟨S4096x4x256, .f32⟩
  | .hbm, ⟨6, _⟩ => ⟨S4096x4x256, .f32⟩
  | .hbm, ⟨7, _⟩ => ⟨S_, .f32⟩
  | .hbm, ⟨8, _⟩ => ⟨S4096x4, .f32⟩
  | .hbm, ⟨9, _⟩ => ⟨S4096x4x1, .f32⟩
  | .hbm, ⟨10, _⟩ => ⟨S_, .f32⟩
  | .hbm, ⟨11, _⟩ => ⟨S4096x4x1, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S4096x4x1, .f32⟩
  | .hbm, ⟨17, _⟩ => ⟨S4096x4x256, .f32⟩
  | .hbm, ⟨18, _⟩ => ⟨S4096x4x256, .f32⟩
  | .hbm, ⟨19, _⟩ => ⟨S1x1x256, .f32⟩
  | .hbm, ⟨20, _⟩ => ⟨S4096x4x256, .f32⟩
  | .hbm, ⟨21, _⟩ => ⟨S4096x4x256, .f32⟩
  | .hbm, ⟨22, _⟩ => ⟨S256x2x4x256, .f32⟩
  | .hbm, ⟨23, _⟩ => ⟨S256x1x4x256, .f32⟩
  | .hbm, ⟨24, _⟩ => ⟨S256x4x256, .f32⟩
  | .hbm, ⟨25, _⟩ => ⟨S256x4x256, .f32⟩
  | .hbm, ⟨26, _⟩ => ⟨S_, .f32⟩
  | .hbm, ⟨27, _⟩ => ⟨S256x4, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S256x4x256, .f32⟩
  | .hbm, ⟨37, _⟩ => ⟨S256x4x256, .f32⟩
  | .hbm, ⟨38, _⟩ => ⟨S1x1x256, .f32⟩
  | .hbm, ⟨39, _⟩ => ⟨S256x4x256, .f32⟩
  | .hbm, ⟨40, _⟩ => ⟨S256x4x256, .f32⟩
  | .hbm, ⟨41, _⟩ => ⟨S256x1x4x256, .f32⟩
  | .hbm, ⟨42, _⟩ => ⟨S256x4x256, .f32⟩
  | .hbm, ⟨43, _⟩ => ⟨S4x4096x256, .f32⟩
  | .hbm, ⟨44, _⟩ => ⟨S_, .f32⟩
  | .hbm, ⟨45, _⟩ => ⟨S4x4096x256, .f32⟩
  | .hbm, ⟨46, _⟩ => ⟨S4x4096x256, .f32⟩
  | .hbm, ⟨47, _⟩ => ⟨S_, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S4x4096, .f32⟩
  | .hbm, ⟨52, _⟩ => ⟨S4x4096x1, .f32⟩
  | .hbm, ⟨53, _⟩ => ⟨S4x4096x256, .f32⟩
  | .hbm, ⟨54, _⟩ => ⟨S4x4096x256, .f32⟩
  | .hbm, ⟨55, _⟩ => ⟨S4x4096x256, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S4x4096x256, .f32⟩
  | .hbm, ⟨60, _⟩ => ⟨S4x4096x256, .f32⟩
  | .hbm, ⟨61, _⟩ => ⟨S4x256x4096, .f32⟩
  | .hbm, ⟨62, _⟩ => ⟨S4096x4x256, .f32⟩
  | .hbm, ⟨63, _⟩ => ⟨S4096x1024, .f32⟩
  | .hbm, ⟨64, _⟩ => ⟨S4096x1024, .bf16⟩
  | .hbm, ⟨65, _⟩ => ⟨S256x2048, .f32⟩
  | .hbm, ⟨66, _⟩ => ⟨S1x256, .f32⟩
  | .hbm, ⟨67, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S256x2048, .f32⟩
  | .local _ .vmem, ⟨3, _⟩ => ⟨S1x256, .f32⟩
  | .local _ .vmem, ⟨4, _⟩ => ⟨S1x256, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S256x2048, .f32⟩
  | .local _ .vmem, ⟨12, _⟩ => ⟨S1x256, .f32⟩
  | .local _ .vmem, ⟨13, _⟩ => ⟨S1x256, .f32⟩
  | .local _ .vmem, ⟨14, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49_0 : Ref sig .tc := ⟨.hbm, 64, rfl⟩
abbrev main_v49_1 : Ref sig .tc := ⟨.hbm, 65, rfl⟩
abbrev main_v49_2 : Ref sig .tc := ⟨.hbm, 66, rfl⟩
abbrev main_v49_3 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c7_i32 : BitVec 32 := 7#32
  let v366 : BitVec 1 := Scalar.cmpi .eq arg0 c7_i32
  let v367 : BitVec 32 := Scalar.extui v366
  let c0_i32_161 : BitVec 32 := 0#32
  let v368 : BitVec 1 := Scalar.cmpi .ne v367 c0_i32_161
  v368

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1024 : Shape := ⟨2, ![4096, 1024]⟩
abbrev S256x2048 : Shape := ⟨2, ![256, 2048]⟩
abbrev S1x256 : Shape := ⟨2, ![1, 256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S256x4 : Shape := ⟨2, ![256, 4]⟩
abbrev S256x4x1 : Shape := ⟨3, ![256, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S256 : Shape := ⟨1, ![256]⟩

abbrev nBuf : Space → Nat
  | .hbm => 184
  | .vmem => 0
  | .smem => 0
  | _ => 0

abbrev hbmTy0_0 (i : Nat) : BufTy := match i % 128 with
  | 0 => ⟨S4096x1024, .f32⟩
  | 1 => ⟨S256x2048, .f32⟩
  | 2 => ⟨S1x256, .f32⟩
  | 3 => ⟨S1x256, .f32⟩
  | 4 => ⟨S4096x1024, .f32⟩
  | 5 => ⟨S4096x4x256, .f32⟩
  | 6 => ⟨S4096x4x256, .f32⟩
  | 7 => ⟨S_, .f32⟩
  | 8 => ⟨S4096x4, .f32⟩
  | 9 => ⟨S4096x4x1, .f32⟩
  | 10 => ⟨S_, .f32⟩
  | 11 => ⟨S4096x4x1, .f32⟩
  | 12 => ⟨S4096x4x1, .f32⟩
  | 13 => ⟨S_, .f32⟩
  | 14 => ⟨S4096x4x1, .f32⟩
  | 15 => ⟨S4096x4x1, .f32⟩
  | 16 => ⟨S4096x4x1, .f32⟩
  | 17 => ⟨S4096x4x1, .f32⟩
  | 18 => ⟨S_, .f32⟩
  | 19 => ⟨S4096x4x1, .f32⟩
  | 20 => ⟨S4096x4x1, .f32⟩
  | 21 => ⟨S4096x4x256, .f32⟩
  | 22 => ⟨S4096x4x256, .f32⟩
  | 23 => ⟨S1x1x256, .f32⟩
  | 24 => ⟨S4096x4x256, .f32⟩
  | 25 => ⟨S4096x4x256, .f32⟩
  | 26 => ⟨S256x2x4x256, .f32⟩
  | 27 => ⟨S256x1x4x256, .f32⟩
  | 28 => ⟨S256x4x256, .f32⟩
  | 29 => ⟨S256x4x256, .f32⟩
  | 30 => ⟨S_, .f32⟩
  | 31 => ⟨S256x4, .f32⟩
  | 32 => ⟨S256x4x1, .f32⟩
  | 33 => ⟨S_, .f32⟩
  | 34 => ⟨S256x4x1, .f32⟩
  | 35 => ⟨S256x4x1, .f32⟩
  | 36 => ⟨S_, .f32⟩
  | 37 => ⟨S256x4x1, .f32⟩
  | 38 => ⟨S256x4x1, .f32⟩
  | 39 => ⟨S256x4x1, .f32⟩
  | 40 => ⟨S256x4x1, .f32⟩
  | 41 => ⟨S_, .f32⟩
  | 42 => ⟨S256x4x1, .f32⟩
  | 43 => ⟨S256x4x1, .f32⟩
  | 44 => ⟨S256x4x256, .f32⟩
  | 45 => ⟨S256x4x256, .f32⟩
  | 46 => ⟨S1x1x256, .f32⟩
  | 47 => ⟨S256x4x256, .f32⟩
  | 48 => ⟨S256x4x256, .f32⟩
  | 49 => ⟨S256x1x4x256, .f32⟩
  | 50 => ⟨S256x4x256, .f32⟩
  | 51 => ⟨S4x4096x256, .f32⟩
  | 52 => ⟨S_, .f32⟩
  | 53 => ⟨S4x4096x256, .f32⟩
  | 54 => ⟨S4x4096x256, .f32⟩
  | 55 => ⟨S_, .f32⟩
  | 56 => ⟨S4x4096, .f32⟩
  | 57 => ⟨S4x4096x1, .f32⟩
  | 58 => ⟨S4x4096x256, .f32⟩
  | 59 => ⟨S4x4096x256, .i1⟩
  | 60 => ⟨S4x4096x256, .f32⟩
  | 61 => ⟨S_, .f32⟩
  | 62 => ⟨S4x4096, .f32⟩
  | 63 => ⟨S_, .f32⟩
  | 64 => ⟨S4x4096, .f32⟩
  | 65 => ⟨S4x4096, .f32⟩
  | 66 => ⟨S_, .f32⟩
  | 67 => ⟨S4x4096, .f32⟩
  | 68 => ⟨S4x4096, .i1⟩
  | 69 => ⟨S_, .f32⟩
  | 70 => ⟨S4x4096, .f32⟩
  | 71 => ⟨S4x4096, .i1⟩
  | 72 => ⟨S_, .f32⟩
  | 73 => ⟨S4x4096, .f32⟩
  | 74 => ⟨S_, .f32⟩
  | 75 => ⟨S4x4096, .f32⟩
  | 76 => ⟨S_, .f32⟩
  | 77 => ⟨S4x4096, .f32⟩
  | 78 => ⟨S4x4096, .f32⟩
  | 79 => ⟨S4x4096, .f32⟩
  | 80 => ⟨S4x4096x1, .f32⟩
  | 81 => ⟨S4x4096x256, .f32⟩
  | 82 => ⟨S4x4096x256, .f32⟩
  | 83 => ⟨S4x4096x256, .f32⟩
  | 84 => ⟨S_, .f32⟩
  | 85 => ⟨S4x4096, .f32⟩
  | 86 => ⟨S4x4096x1, .f32⟩
  | 87 => ⟨S4x4096x256, .f32⟩
  | 88 => ⟨S4x4096x256, .f32⟩
  | 89 => ⟨S4x4096x1, .f32⟩
  | 90 => ⟨S_, .f32⟩
  | 91 => ⟨S4x4096x1, .f32⟩
  | 92 => ⟨S4x4096x1, .f32⟩
  | 93 => ⟨S4x256x4096, .f32⟩
  | 94 => ⟨S4096x4x256, .f32⟩
  | 95 => ⟨S4096x1024, .f32⟩
  | 96 => ⟨S4096x4x256, .f32⟩
  | 97 => ⟨S4x256x4096, .f32⟩
  | 98 => ⟨S4x4096x256, .f32⟩
  | 99 => ⟨S4x256x256, .f32⟩
  | 100 => ⟨S256x4x256, .f32⟩
  | 101 => ⟨S4x4096x256, .f32⟩
  | 102 => ⟨S4x4096x256, .f32⟩
  | 103 => ⟨S4x4096x256, .f32⟩
  | 104 => ⟨S_, .f32⟩
  | 105 => ⟨S4x4096, .f32⟩
  | 106 => ⟨S4x4096x1, .f32⟩
  | 107 => ⟨S4x4096x1, .f32⟩
  | 108 => ⟨S4x4096x256, .f32⟩
  | 109 => ⟨S4x4096x256, .f32⟩
  | 110 => ⟨S_, .f32⟩
  | 111 => ⟨S4x4096, .f32⟩
  | 112 => ⟨S4x4096x256, .f32⟩
  | 113 => ⟨S4x4096x256, .f32⟩
  | 114 => ⟨S4x4096x256, .f32⟩
  | 115 => ⟨S_, .f32⟩
  | 116 => ⟨S4x4096x256, .f32⟩
  | 117 => ⟨S4x4096x256, .f32⟩
  | 118 => ⟨S4x256x256, .f32⟩
  | 119 => ⟨S256x4x256, .f32⟩
  | 120 => ⟨S4x4096x256, .f32⟩
  | 121 => ⟨S4096x4x256, .f32⟩
  | 122 => ⟨S256x1x4x256, .f32⟩
  | 123 => ⟨S_, .f32⟩
  | 124 => ⟨S256x2x4x256, .f32⟩
  | 125 => ⟨S256x4x256, .f32⟩
  | 126 => ⟨S_, .f32⟩
  | 127 => ⟨S256, .f32⟩
  | _ => ⟨S4096x1024, .f32⟩

abbrev hbmTy0_1 (i : Nat) : BufTy := match i % 128 with
  | 0 => ⟨S1x1x256, .f32⟩
  | 1 => ⟨S256x4x256, .f32⟩
  | 2 => ⟨S256x4x256, .f32⟩
  | 3 => ⟨S_, .f32⟩
  | 4 => ⟨S256, .f32⟩
  | 5 => ⟨S1x256, .f32⟩
  | 6 => ⟨S256x4x256, .f32⟩
  | 7 => ⟨S_, .f32⟩
  | 8 => ⟨S256x4, .f32⟩
  | 9 => ⟨S256x4x1, .f32⟩
  | 10 => ⟨S256x4x256, .f32⟩
  | 11 => ⟨S256x4x256, .f32⟩
  | 12 => ⟨S256x4x1, .f32⟩
  | 13 => ⟨S_, .f32⟩
  | 14 => ⟨S256x4x1, .f32⟩
  | 15 => ⟨S256x4x1, .f32⟩
  | 16 => ⟨S_, .f32⟩
  | 17 => ⟨S256x4, .f32⟩
  | 18 => ⟨S256x4x256, .f32⟩
  | 19 => ⟨S256x4x256, .f32⟩
  | 20 => ⟨S256x4x256, .f32⟩
  | 21 => ⟨S256x4x256, .f32⟩
  | 22 => ⟨S256x4x256, .f32⟩
  | 23 => ⟨S256x1x4x256, .f32⟩
  | 24 => ⟨S_, .f32⟩
  | 25 => ⟨S256x2x4x256, .f32⟩
  | 26 => ⟨S256x2x4x256, .f32⟩
  | 27 => ⟨S256x2048, .f32⟩
  | 28 => ⟨S4096x4x256, .f32⟩
  | 29 => ⟨S_, .f32⟩
  | 30 => ⟨S256, .f32⟩
  | 31 => ⟨S1x1x256, .f32⟩
  | 32 => ⟨S4096x4x256, .f32⟩
  | 33 => ⟨S4096x4x256, .f32⟩
  | 34 => ⟨S_, .f32⟩
  | 35 => ⟨S256, .f32⟩
  | 36 => ⟨S1x256, .f32⟩
  | 37 => ⟨S4096x4x256, .f32⟩
  | 38 => ⟨S_, .f32⟩
  | 39 => ⟨S4096x4, .f32⟩
  | 40 => ⟨S4096x4x1, .f32⟩
  | 41 => ⟨S4096x4x256, .f32⟩
  | 42 => ⟨S4096x4x256, .f32⟩
  | 43 => ⟨S4096x4x1, .f32⟩
  | 44 => ⟨S_, .f32⟩
  | 45 => ⟨S4096x4x1, .f32⟩
  | 46 => ⟨S4096x4x1, .f32⟩
  | 47 => ⟨S_, .f32⟩
  | 48 => ⟨S4096x4, .f32⟩
  | 49 => ⟨S4096x4x256, .f32⟩
  | 50 => ⟨S4096x4x256, .f32⟩
  | 51 => ⟨S4096x4x256, .f32⟩
  | 52 => ⟨S4096x4x256, .f32⟩
  | 53 => ⟨S4096x4x256, .f32⟩
  | 54 => ⟨S4096x1024, .f32⟩
  | 55 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_19 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_v97 : Ref sig .tc := ⟨.hbm, 125, rfl⟩
abbrev main_cst_22 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_23 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_24 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_25 : Ref sig .tc := ⟨.hbm, 141, rfl⟩
abbrev main_v110 : Ref sig .tc := ⟨.hbm, 142, rfl⟩
abbrev main_v111 : Ref sig .tc := ⟨.hbm, 143, rfl⟩
abbrev main_cst_26 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_27 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_28 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_29 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_30 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_31 : Ref sig .tc := ⟨.hbm, 172, rfl⟩
abbrev main_v135 : Ref sig .tc := ⟨.hbm, 173, rfl⟩
abbrev main_v136 : Ref sig .tc := ⟨.hbm, 174, rfl⟩
abbrev main_cst_32 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩

abbrev nD : Nat := 1
abbrev τ : Topo := Topo.v7x

variable {F : FTy → Type} [FloatOps F]
-- ==== Gate.lean ====
abbrev S4096x1024 : Shape := ⟨2, ![4096, 1024]⟩
abbrev S2816x1024 : Shape := ⟨2, ![2816, 1024]⟩
abbrev S2x4096x2816 : Shape := ⟨3, ![2, 4096, 2816]⟩
abbrev S512x1024 : Shape := ⟨2, ![512, 1024]⟩
abbrev S1408x1024 : Shape := ⟨2, ![1408, 1024]⟩
abbrev S1x512x1408 : Shape := ⟨3, ![1, 512, 1408]⟩
abbrev S2x512x1408 : Shape := ⟨3, ![2, 512, 1408]⟩
abbrev S512x1408 : Shape := ⟨2, ![512, 1408]⟩

abbrev nBuf : Space → Nat
  | .hbm => 5
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .hbm, ⟨4, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S2x512x1408, .bf16⟩
  | .local _ .vmem, ⟨9, _⟩ => ⟨S2x512x1408, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_26 : BitVec 32 := 0#32
  let v50 : BitVec 1 := Scalar.cmpi .ne v49 c0_i32_26
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GateRefIdeal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩
abbrev S1024x2816 : Shape := ⟨2, ![1024, 2816]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2x4096x2816, .bf16⟩
  | .hbm, ⟨3, _⟩ => ⟨S1x4096x2816, .bf16⟩
  | .hbm, ⟨4, _⟩ => ⟨S4096x2816, .bf16⟩
  | .hbm, ⟨5, _⟩ => ⟨S4096x2816, .f32⟩
  | .hbm, ⟨6, _⟩ => ⟨S1x4096x2816, .bf16⟩
  | .hbm, ⟨7, _⟩ => ⟨S4096x2816, .bf16⟩
  | .hbm, ⟨8, _⟩ => ⟨S4096x2816, .f32⟩
  | .hbm, ⟨9, _⟩ => ⟨S2816x1024, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S1024x2816, .f32⟩
  | .hbm, ⟨32, _⟩ => ⟨S2816x1024, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .bf16⟩
  | .hbm, ⟨41, _⟩ => ⟨S4096x2816, .bf16⟩
  | .hbm, ⟨42, _⟩ => ⟨S1x4096x2816, .bf16⟩
  | .hbm, ⟨43, _⟩ => ⟨S1x4096x2816, .bf16⟩
  | .hbm, ⟨44, _⟩ => ⟨S2x4096x2816, .bf16⟩
  | .hbm, ⟨45, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Dw.lean ====
abbrev S4096x1024 : Shape := ⟨2, ![4096, 1024]⟩
abbrev S2x4096x2816 : Shape := ⟨3, ![2, 4096, 2816]⟩
abbrev S4x2x512x1408 : Shape := ⟨4, ![4, 2, 512, 1408]⟩
abbrev S1024x512 : Shape := ⟨2, ![1024, 512]⟩
abbrev S1x1024x1408 : Shape := ⟨3, ![1, 1024, 1408]⟩
abbrev S1x1x512x1408 : Shape := ⟨4, ![1, 1, 512, 1408]⟩
abbrev S512x1408 : Shape := ⟨2, ![512, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x2x512x1408, .bf16⟩
  | .local _ .vmem, ⟨0, _⟩ => ⟨S1024x512, .bf16⟩
  | .local _ .vmem, ⟨1, _⟩ => ⟨S1024x512, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1x512x1408, .bf16⟩
  | .local _ .vmem, ⟨5, _⟩ => ⟨S1x1x512x1408, .bf16⟩
  | .local _ .vmem, ⟨6, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩
abbrev S2x512x4x1408 : Shape := ⟨4, ![2, 512, 4, 1408]⟩
abbrev S4x2x512x1408 : Shape := ⟨4, ![4, 2, 512, 1408]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S4096x2816, .f32⟩
  | .hbm, ⟨5, _⟩ => ⟨S1x4096x2816, .bf16⟩
  | .hbm, ⟨6, _⟩ => ⟨S4096x2816, .bf16⟩
  | .hbm, ⟨7, _⟩ => ⟨S4096x2816, .f32⟩
  | .hbm, ⟨8, _⟩ => ⟨S_, .f32⟩
  | .hbm, ⟨9, _⟩ => ⟨S1024x5632, .f32⟩
  | .hbm, ⟨10, _⟩ => ⟨S4096x1024, .f32⟩
  | .hbm, ⟨11, _⟩ => ⟨S4096x5632, .f32⟩
  | .hbm, ⟨12, _⟩ => ⟨S4096x2816, .f32⟩
  | .hbm, ⟨13, _⟩ => ⟨S4096x2816, .f32⟩
  | .hbm, ⟨14, _⟩ => ⟨S4096x5632, .f32⟩
  | .hbm, ⟨15, _⟩ => ⟨S5632x1024, .f32⟩
  | .hbm, ⟨16, _⟩ => ⟨S1024x5632, .f32⟩
  | .hbm, ⟨17, _⟩ => ⟨S1024x5632, .bf16⟩
  | .hbm, ⟨18, _⟩ => ⟨S2x512x4x1408, .bf16⟩
  | .hbm, ⟨19, _⟩ => ⟨S4x2x512x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Dx.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S1x1024x1408 : Shape := ⟨3, ![1, 1024, 1408]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32_27 : BitVec 32 := 0#32
  let v47 : BitVec 1 := Scalar.cmpi .eq arg0 c0_i32_27
  let v48 : BitVec 32 := Scalar.extui v47
  let c0_i32_28 : BitVec 32 := 0#32
  let v49 : BitVec 1 := Scalar.cmpi .ne v48 c0_i32_28
  v49

def k0_cond4 (i : grid0.Coords) : BitVec 1 :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .ne v51 c0_i32_30
  v52

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DxRefIdeal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S1x4096x2816, .bf16⟩
  | .hbm, ⟨31, _⟩ => ⟨S4096x2816, .bf16⟩
  | .hbm, ⟨32, _⟩ => ⟨S4096x2816, .f32⟩
  | .hbm, ⟨33, _⟩ => ⟨S1x4096x2816, .bf16⟩
  | .hbm, ⟨34, _⟩ => ⟨S4096x2816, .bf16⟩
  | .hbm, ⟨35, _⟩ => ⟨S4096x2816, .f32⟩
  | .hbm, ⟨36, _⟩ => ⟨S4096x5632, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Fwd.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S2x4096x2816 : Shape := ⟨3, ![2, 4096, 2816]⟩
abbrev S256x1024 : Shape := ⟨2, ![256, 1024]⟩
abbrev S2x256x2816 : Shape := ⟨3, ![2, 256, 2816]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1x256x1408 : Shape := ⟨3, ![1, 256, 1408]⟩
abbrev S1408x1024 : Shape := ⟨2, ![1408, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1408, .bf16⟩
  | .hbm, ⟨3, _⟩ => ⟨S2816x1024, .bf16⟩
  | .hbm, ⟨4, _⟩ => ⟨S4096x1024, .f32⟩
  | .hbm, ⟨5, _⟩ => ⟨S2x4096x2816, .bf16⟩
  | .hbm, ⟨6, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S2x256x2816, .bf16⟩
  | .local _ .vmem, ⟨8, _⟩ => ⟨S2x256x2816, .bf16⟩
  | .local _ .vmem, ⟨9, _⟩ => ⟨S256x1024, .bf16⟩
  | .local _ .vmem, ⟨10, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwdRefIdeal.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1408, .bf16⟩
  | .hbm, ⟨3, _⟩ => ⟨S2816x1024, .bf16⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S2816x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x4096x2816, .f32⟩
  | .hbm, ⟨42, _⟩ => ⟨S1x4096x2816, .f32⟩
  | .hbm, ⟨43, _⟩ => ⟨S2x4096x2816, .f32⟩
  | .hbm, ⟨44, _⟩ => ⟨S2x4096x2816, .bf16⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Nn.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== NnRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Nt.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Sq.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SqRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Loss.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32_9 : BitVec 32 := 0#32
  let v18 : BitVec 1 := Scalar.cmpi .sgt arg0 c0_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Xf.lean ====
abbrev S4096x1024 : Shape := ⟨2, ![4096, 1024]⟩
abbrev S256x2048 : Shape := ⟨2, ![256, 2048]⟩
abbrev S1x256 : Shape := ⟨2, ![1, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S1x256, .f32⟩
  | .hbm, ⟨3, _⟩ => ⟨S1x256, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S256x2048, .f32⟩
  | .local _ .vmem, ⟨3, _⟩ => ⟨S1x256, .f32⟩
  | .local _ .vmem, ⟨4, _⟩ => ⟨S1x256, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XfRefIdeal.lean ====
abbrev S4096x1024 : Shape := ⟨2, ![4096, 1024]⟩
abbrev S256x2048 : Shape := ⟨2, ![256, 2048]⟩
abbrev S1x256 : Shape := ⟨2, ![1, 256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S256x4 : Shape := ⟨2, ![256, 4]⟩
abbrev S256x4x1 : Shape := ⟨3, ![256, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S1x256, .f32⟩
  | .hbm, ⟨3, _⟩ => ⟨S1x256, .f32⟩
  | .hbm, ⟨4, _⟩ => ⟨S4096x4x256, .f32⟩
  | .hbm, ⟨5, _⟩ => ⟨S4096x4x256, .f32⟩
  | .hbm, ⟨6, _⟩ => ⟨S_, .f32⟩
  | .hbm, ⟨7, _⟩ => ⟨S4096x4, .f32⟩
  | .hbm, ⟨8, _⟩ => ⟨S4096x4x1, .f32⟩
  | .hbm, ⟨9, _⟩ => ⟨S_, .f32⟩
  | .hbm, ⟨10, _⟩ => ⟨S4096x4x1, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S4096x4x1, .f32⟩
  | .hbm, ⟨16, _⟩ => ⟨S4096x4x256, .f32⟩
  | .hbm, ⟨17, _⟩ => ⟨S4096x4x256, .f32⟩
  | .hbm, ⟨18, _⟩ => ⟨S1x1x256, .f32⟩
  | .hbm, ⟨19, _⟩ => ⟨S4096x4x256, .f32⟩
  | .hbm, ⟨20, _⟩ => ⟨S4096x4x256, .f32⟩
  | .hbm, ⟨21, _⟩ => ⟨S256x2x4x256, .f32⟩
  | .hbm, ⟨22, _⟩ => ⟨S256x1x4x256, .f32⟩
  | .hbm, ⟨23, _⟩ => ⟨S256x4x256, .f32⟩
  | .hbm, ⟨24, _⟩ => ⟨S256x4x256, .f32⟩
  | .hbm, ⟨25, _⟩ => ⟨S_, .f32⟩
  | .hbm, ⟨26, _⟩ => ⟨S256x4, .f32⟩
  | .hbm, ⟨27, _⟩ => ⟨S256x4x1, .f32⟩
  | .hbm, ⟨28, _⟩ => ⟨S_, .f32⟩
  | .hbm, ⟨29, _⟩ => ⟨S256x4x1, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S256x4x1, .f32⟩
  | .hbm, ⟨35, _⟩ => ⟨S256x4x256, .f32⟩
  | .hbm, ⟨36, _⟩ => ⟨S256x4x256, .f32⟩
  | .hbm, ⟨37, _⟩ => ⟨S1x1x256, .f32⟩
  | .hbm, ⟨38, _⟩ => ⟨S256x4x256, .f32⟩
  | .hbm, ⟨39, _⟩ => ⟨S256x4x256, .f32⟩
  | .hbm, ⟨40, _⟩ => ⟨S256x1x4x256, .f32⟩
  | .hbm, ⟨41, _⟩ => ⟨S256x4x256, .f32⟩
  | .hbm, ⟨42, _⟩ => ⟨S4x4096x256, .f32⟩
  | .hbm, ⟨43, _⟩ => ⟨S_, .f32⟩
  | .hbm, ⟨44, _⟩ => ⟨S4x4096x256, .f32⟩
  | .hbm, ⟨45, _⟩ => ⟨S4x4096x256, .f32⟩
  | .hbm, ⟨46, _⟩ => ⟨S_, .f32⟩
  | .hbm, ⟨47, _⟩ => ⟨S4x4096, .f32⟩
  | .hbm, ⟨48, _⟩ => ⟨S_, .f32⟩
  | .hbm, ⟨49, _⟩ => ⟨S4x4096, .f32⟩
  | .hbm, ⟨50, _⟩ => ⟨S4x4096, .f32⟩
  | .hbm, ⟨51, _⟩ => ⟨S4x4096x1, .f32⟩
  | .hbm, ⟨52, _⟩ => ⟨S4x4096x256, .f32⟩
  | .hbm, ⟨53, _⟩ => ⟨S4x4096x256, .f32⟩
  | .hbm, ⟨54, _⟩ => ⟨S4x4096x256, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S4x4096x256, .f32⟩
  | .hbm, ⟨59, _⟩ => ⟨S4x4096x256, .f32⟩
  | .hbm, ⟨60, _⟩ => ⟨S4x256x4096, .f32⟩
  | .hbm, ⟨61, _⟩ => ⟨S4096x4x256, .f32⟩
  | .hbm, ⟨62, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Swa.lean ====
abbrev S4096x768 : Shape := ⟨2, ![4096, 768]⟩
abbrev S4096x2304 : Shape := ⟨2, ![4096, 2304]⟩
abbrev S8 : Shape := ⟨1, ![8]⟩
abbrev S4096x512 : Shape := ⟨2, ![4096, 512]⟩
abbrev S4x4096x1 : Shape := ⟨3, ![4, 4096, 1]⟩
abbrev S256x512 : Shape := ⟨2, ![256, 512]⟩
abbrev S256x128 : Shape := ⟨2, ![256, 128]⟩
abbrev S128x128 : Shape := ⟨2, ![128, 128]⟩
abbrev S4x256x1 : Shape := ⟨3, ![4, 256, 1]⟩
abbrev S1x128 : Shape := ⟨2, ![1, 128]⟩
abbrev S256x256 : Shape := ⟨2, ![256, 256]⟩
abbrev S256x1 : Shape := ⟨2, ![256, 1]⟩
abbrev S1 : Shape := ⟨1, ![1]⟩
abbrev S256 : Shape := ⟨1, ![256]⟩
abbrev S128x1 : Shape := ⟨2, ![128, 1]⟩
abbrev S1x128x1 : Shape := ⟨3, ![1, 128, 1]⟩

abbrev nBuf : Space → Nat
  | .hbm => 8
  | .vmem => 18
  | .smem => 2
  | _ => 0

abbrev bufTy : (tb : Table) → Fin (tcTables nBuf tb) → BufTy
  | .hbm, ⟨0, _⟩ => ⟨S4096x768, .f32⟩
  | .hbm, ⟨1, _⟩ => ⟨S4096x2304, .f32⟩
  | .hbm, ⟨2, _⟩ => ⟨S8, .f32⟩
  | .hbm, ⟨3, _⟩ => ⟨S8, .f32⟩
  | .hbm, ⟨4, _⟩ => ⟨S4096x512, .f32⟩
  | .hbm, ⟨5, _⟩ => ⟨S4096x512, .f32⟩
  | .hbm, ⟨6, _⟩ => ⟨S4x4096x1, .f32⟩
  | .hbm, ⟨7, _⟩ => ⟨S4x4096x1, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S128x128, .f32⟩
  | .local _ .vmem, ⟨5, _⟩ => ⟨S128x128, .f32⟩
  | .local _ .vmem, ⟨6, _⟩ => ⟨S256x128, .f32⟩
  | .local _ .vmem, ⟨7, _⟩ => ⟨S256x128, .f32⟩
  | .local _ .vmem, ⟨8, _⟩ => ⟨S128x128, .f32⟩
  | .local _ .vmem, ⟨9, _⟩ => ⟨S128x128, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S4x256x1, .f32⟩
  | .local _ .vmem, ⟨15, _⟩ => ⟨S4x256x1, .f32⟩
  | .local _ .vmem, ⟨16, _⟩ => ⟨S4x256x1, .f32⟩
  | .local _ .vmem, ⟨17, _⟩ => ⟨S4x256x1, .f32⟩
  | .local _ .smem, ⟨0, _⟩ => ⟨S8, .f32⟩
  | .local _ .smem, ⟨1, _⟩ => ⟨S8, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![1, 16], ![false, false]⟩

def k0_off1 (i : grid0.Coords) (c0_i32_24 : BitVec 32) : Fin 1 → Nat :=
  let c2_i32 : BitVec 32 := 2#32
  let arg0 : BitVec 32 := BitVec.ofNat 32 (i 0).val
  let c4_i32 : BitVec 32 := 4#32
  let v54 : BitVec 32 := Scalar.muli arg0 c4_i32
  let v55 : BitVec 32 := Scalar.addi v54 c0_i32_24
  let v56 : BitVec 32 := Scalar.muli c2_i32 v55
  let v68 : Index := Scalar.indexCast v56
  ![v68.toNat]
def k0_off2 (i : grid0.Coords) (c0_i32_24 : BitVec 32) : Fin 1 → Nat :=
  let c2_i32 : BitVec 32 := 2#32
  let arg0 : BitVec 32 := BitVec.ofNat 32 (i 0).val
  let c4_i32 : BitVec 32 := 4#32
  let v54 : BitVec 32 := Scalar.muli arg0 c4_i32
  let v55 : BitVec 32 := Scalar.addi v54 c0_i32_24
  let v56 : BitVec 32 := Scalar.muli c2_i32 v55
  let c1_i32 : BitVec 32 := 1#32
  let v70 : BitVec 32 := Scalar.addi v56 c1_i32
  let v71 : Index := Scalar.indexCast v70
  ![v71.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c4_i32 : BitVec 32 := 4#32
  let c0_i32 : BitVec 32 := 0#32
  ![v0.toNat, c4_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S4096x768 : Shape := ⟨2, ![4096, 768]⟩
abbrev S4096x2304 : Shape := ⟨2, ![4096, 2304]⟩
abbrev S8 : Shape := ⟨1, ![8]⟩
abbrev S4096x512 : Shape := ⟨2, ![4096, 512]⟩
abbrev S1x4096x2x4x64 : Shape := ⟨5, ![1, 4096, 2, 4, 64]⟩
abbrev S4096x128 : Shape := ⟨2, ![4096, 128]⟩
abbrev S1x4096x2x64 : Shape := ⟨4, ![1, 4096, 2, 64]⟩
abbrev S2x4 : Shape := ⟨2, ![2, 4]⟩
abbrev S_ : Shape := ⟨0, ![]⟩
abbrev S1x32x128x2x4x64 : Shape := ⟨6, ![1, 32, 128, 2, 4, 64]⟩
abbrev S1x4224x2x64 : Shape := ⟨4, ![1, 4224, 2, 64]⟩
abbrev S1x33x128x2x64 : Shape := ⟨5, ![1, 33, 128, 2, 64]⟩
abbrev S1x32x128x2x64 : Shape := ⟨5, ![1, 32, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S32x1x256 : Shape := ⟨3, ![32, 1, 256]⟩
abbrev S1x128x256 : Shape := ⟨3, ![1, 128, 256]⟩
abbrev S32x128x256 : Shape := ⟨3, ![32, 128, 256]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x32x1x1x128x256 : Shape := ⟨6, ![1, 32, 1, 1, 128, 256]⟩
abbrev S1x1x2x4x128x256 : Shape := ⟨6, ![1, 1, 2, 4, 128, 256]⟩
abbrev S1x32x2x4x128 : Shape := ⟨5, ![1, 32, 2, 4, 128]⟩
abbrev S2x4x1 : Shape := ⟨3, ![2, 4, 1]⟩
abbrev S1x1x2x4x1 : Shape := ⟨5, ![1, 1, 2, 4, 1]⟩
abbrev S1x32x2x4x128x1 : Shape := ⟨6, ![1, 32, 2, 4, 128, 1]⟩
abbrev S1x32x2x64x4x128 : Shape := ⟨6, ![1, 32, 2, 64, 4, 128]⟩

abbrev nBuf : Space → Nat
  | .hbm => 116
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x2304, .f32⟩
  | .hbm, ⟨2, _⟩ => ⟨S8, .f32⟩
  | .hbm, ⟨3, _⟩ => ⟨S8, .f32⟩
  | .hbm, ⟨4, _⟩ => ⟨S4096x512, .f32⟩
  | .hbm, ⟨5, _⟩ => ⟨S1x4096x2x4x64, .f32⟩
  | .hbm, ⟨6, _⟩ => ⟨S4096x128, .f32⟩
  | .hbm, ⟨7, _⟩ => ⟨S1x4096x2x64, .f32⟩
  | .hbm, ⟨8, _⟩ => ⟨S4096x128, .f32⟩
  | .hbm, ⟨9, _⟩ => ⟨S1x4096x2x64, .f32⟩
  | .hbm, ⟨10, _⟩ => ⟨S2x4, .f32⟩
  | .hbm, ⟨11, _⟩ => ⟨S2x4, .f32⟩
  | .hbm, ⟨12, _⟩ => ⟨S_, .i32⟩
  | .hbm, ⟨13, _⟩ => ⟨S_, .f32⟩
  | .hbm, ⟨14, _⟩ => ⟨S1x4096x2x4x64, .f32⟩
  | .hbm, ⟨15, _⟩ => ⟨S1x32x128x2x4x64, .f32⟩
  | .hbm, ⟨16, _⟩ => ⟨S_, .i32⟩
  | .hbm, ⟨17, _⟩ => ⟨S_, .f32⟩
  | .hbm, ⟨18, _⟩ => ⟨S1x4224x2x64, .f32⟩
  | .hbm, ⟨19, _⟩ => ⟨S1x33x128x2x64, .f32⟩
  | .hbm, ⟨20, _⟩ => ⟨S_, .i32⟩
  | .hbm, ⟨21, _⟩ => ⟨S_, .f32⟩
  | .hbm, ⟨22, _⟩ => ⟨S1x4224x2x64, .f32⟩
  | .hbm, ⟨23, _⟩ => ⟨S1x33x128x2x64, .f32⟩
  | .hbm, ⟨24, _⟩ => ⟨S1x32x128x2x64, .f32⟩
  | .hbm, ⟨25, _⟩ => ⟨S1x32x128x2x64, .f32⟩
  | .hbm, ⟨26, _⟩ => ⟨S1x32x256x2x64, .f32⟩
  | .hbm, ⟨27, _⟩ => ⟨S1x32x128x2x64, .f32⟩
  | .hbm, ⟨28, _⟩ => ⟨S1x32x128x2x64, .f32⟩
  | .hbm, ⟨29, _⟩ => ⟨S1x32x256x2x64, .f32⟩
  | .hbm, ⟨30, _⟩ => ⟨S1x32x2x256x128x4, .f32⟩
  | .hbm, ⟨31, _⟩ => ⟨S1x32x2x4x128x256, .f32⟩
  | .hbm, ⟨32, _⟩ => ⟨S_, .f32⟩
  | .hbm, ⟨33, _⟩ => ⟨S1x32x2x4x128x256, .f32⟩
  | .hbm, ⟨34, _⟩ => ⟨S1x32x2x4x128x256, .f32⟩
  | .hbm, ⟨35, _⟩ => ⟨S128, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S256, .i32⟩
  | .hbm, ⟨41, _⟩ => ⟨S1x256, .i32⟩
  | .hbm, ⟨42, _⟩ => ⟨S128x256, .i32⟩
  | .hbm, ⟨43, _⟩ => ⟨S128x256, .i32⟩
  | .hbm, ⟨44, _⟩ => ⟨S128x256, .i32⟩
  | .hbm, ⟨45, _⟩ => ⟨S32, .i32⟩
  | .hbm, ⟨46, _⟩ => ⟨S32x1, .i32⟩
  | .hbm, ⟨47, _⟩ => ⟨S_, .i32⟩
  | .hbm, ⟨48, _⟩ => ⟨S32x1, .i32⟩
  | .hbm, ⟨49, _⟩ => ⟨S32x1, .i32⟩
  | .hbm, ⟨50, _⟩ => ⟨S_, .i32⟩
  | .hbm, ⟨51, _⟩ => ⟨S32x1, .i32⟩
  | .hbm, ⟨52, _⟩ => ⟨S32x1, .i32⟩
  | .hbm, ⟨53, _⟩ => ⟨S256, .i32⟩
  | .hbm, ⟨54, _⟩ => ⟨S1x256, .i32⟩
  | .hbm, ⟨55, _⟩ => ⟨S32x256, .i32⟩
  | .hbm, ⟨56, _⟩ => ⟨S32x256, .i32⟩
  | .hbm, ⟨57, _⟩ => ⟨S32x256, .i32⟩
  | .hbm, ⟨58, _⟩ => ⟨S_, .i32⟩
  | .hbm, ⟨59, _⟩ => ⟨S128x256, .i32⟩
  | .hbm, ⟨60, _⟩ => ⟨S128x256, .i1⟩
  | .hbm, ⟨61, _⟩ => ⟨S_, .i32⟩
  | .hbm, ⟨62, _⟩ => ⟨S128x256, .i32⟩
  | .hbm, ⟨63, _⟩ => ⟨S128x256, .i1⟩
  | .hbm, ⟨64, _⟩ => ⟨S128x256, .i1⟩
  | .hbm, ⟨65, _⟩ => ⟨S32x1x256, .i32⟩
  | .hbm, ⟨66, _⟩ => ⟨S_, .i32⟩
  | .hbm, ⟨67, _⟩ => ⟨S32x1x256, .i32⟩
  | .hbm, ⟨68, _⟩ => ⟨S32x1x256, .i1⟩
  | .hbm, ⟨69, _⟩ => ⟨S1x128x256, .i1⟩
  | .hbm, ⟨70, _⟩ => ⟨S32x128x256, .i1⟩
  | .hbm, ⟨71, _⟩ => ⟨S32x128x256, .i1⟩
  | .hbm, ⟨72, _⟩ => ⟨S32x128x256, .i1⟩
  | .hbm, ⟨73, _⟩ => ⟨S_, .f32⟩
  | .hbm, ⟨74, _⟩ => ⟨S2x4, .f32⟩
  | .hbm, ⟨75, _⟩ => ⟨S2x4, .f32⟩
  | .hbm, ⟨76, _⟩ => ⟨S2x4x1x1, .f32⟩
  | .hbm, ⟨77, _⟩ => ⟨S2x4x1x1, .f32⟩
  | .hbm, ⟨78, _⟩ => ⟨S128x256, .f32⟩
  | .hbm, ⟨79, _⟩ => ⟨S1x1x128x256, .f32⟩
  | .hbm, ⟨80, _⟩ => ⟨S2x4x128x256, .f32⟩
  | .hbm, ⟨81, _⟩ => ⟨S2x4x128x256, .f32⟩
  | .hbm, ⟨82, _⟩ => ⟨S2x4x128x256, .f32⟩
  | .hbm, ⟨83, _⟩ => ⟨S1x32x1x1x128x256, .i1⟩
  | .hbm, ⟨84, _⟩ => ⟨S1x1x2x4x128x256, .f32⟩
  | .hbm, ⟨85, _⟩ => ⟨S1x32x2x4x128x256, .f32⟩
  | .hbm, ⟨86, _⟩ => ⟨S1x32x2x4x128x256, .f32⟩
  | .hbm, ⟨87, _⟩ => ⟨S_, .f32⟩
  | .hbm, ⟨88, _⟩ => ⟨S_, .f32⟩
  | .hbm, ⟨89, _⟩ => ⟨S1x32x2x4x128x256, .i1⟩
  | .hbm, ⟨90, _⟩ => ⟨S1x32x2x4x128x256, .f32⟩
  | .hbm, ⟨91, _⟩ => ⟨S1x32x2x4x128x256, .f32⟩
  | .hbm, ⟨92, _⟩ => ⟨S_, .f32⟩
  | .hbm, ⟨93, _⟩ => ⟨S1x32x2x4x128, .f32⟩
  | .hbm, ⟨94, _⟩ => ⟨S2x4x1, .f32⟩
  | .hbm, ⟨95, _⟩ => ⟨S1x1x2x4x1, .f32⟩
  | .hbm, ⟨96, _⟩ => ⟨S1x32x2x4x128, .f32⟩
  | .hbm, ⟨97, _⟩ => ⟨S1x32x2x4x128, .f32⟩
  | .hbm, ⟨98, _⟩ => ⟨S1x32x2x4x128x1, .f32⟩
  | .hbm, ⟨99, _⟩ => ⟨S1x32x2x4x128x256, .f32⟩
  | .hbm, ⟨100, _⟩ => ⟨S1x32x2x4x128x256, .f32⟩
  | .hbm, ⟨101, _⟩ => ⟨S1x32x2x4x128x256, .f32⟩
  | .hbm, ⟨102, _⟩ => ⟨S_, .f32⟩
  | .hbm, ⟨103, _⟩ => ⟨S1x32x2x4x128, .f32⟩
  | .hbm, ⟨104, _⟩ => ⟨S1x1x2x4x1, .f32⟩
  | .hbm, ⟨105, _⟩ => ⟨S1x32x2x4x128, .f32⟩
  | .hbm, ⟨106, _⟩ => ⟨S1x32x2x4x128, .f32⟩
  | .hbm, ⟨107, _⟩ => ⟨S1x32x2x4x128, .f32⟩
  | .hbm, ⟨108, _⟩ => ⟨S1x32x2x4x128, .f32⟩
  | .hbm, ⟨109, _⟩ => ⟨S1x32x2x4x128x1, .f32⟩
  | .hbm, ⟨110, _⟩ => ⟨S1x32x2x4x128x256, .f32⟩
  | .hbm, ⟨111, _⟩ => ⟨S1x32x2x4x128x256, .f32⟩
  | .hbm, ⟨112, _⟩ => ⟨S1x32x2x64x4x128, .f32⟩
  | .hbm, ⟨113, _⟩ => ⟨S1x32x128x2x4x64, .f32⟩
  | .hbm, ⟨114, _⟩ => ⟨S1x4096x2x4x64, .f32⟩
  | .hbm, ⟨115, _⟩ => ⟨S4096x512, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== TnEv.lean ====
abbrev S4096x1024 : Shape := ⟨2, ![4096, 1024]⟩
abbrev S4096x2304 : Shape := ⟨2, ![4096, 2304]⟩
abbrev S1024x2304 : Shape := ⟨2, ![1024, 2304]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnEvRefIdeal.lean ====
abbrev S4096x1024 : Shape := ⟨2, ![4096, 1024]⟩
abbrev S4096x2304 : Shape := ⟨2, ![4096, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S_, .f32⟩
  | .hbm, ⟨3, _⟩ => ⟨S1024x2304, .f32⟩
  | .hbm, ⟨4, _⟩ => ⟨S4096x1024, .f32⟩
  | .hbm, ⟨5, _⟩ => ⟨S4096x2304, .f32⟩
  | .hbm, ⟨6, _⟩ => ⟨S4096x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== TnOd.lean ====
abbrev S4096x1024 : Shape := ⟨2, ![4096, 1024]⟩
abbrev S4096x3072 : Shape := ⟨2, ![4096, 3072]⟩
abbrev S4x2x512x768 : Shape := ⟨4, ![4, 2, 512, 768]⟩
abbrev S1024x512 : Shape := ⟨2, ![1024, 512]⟩
abbrev S1024x768 : Shape := ⟨2, ![1024, 768]⟩
abbrev S1x1x512x768 : Shape := ⟨4, ![1, 1, 512, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x2x512x768, .bf16⟩
  | .local _ .vmem, ⟨0, _⟩ => ⟨S1024x512, .bf16⟩
  | .local _ .vmem, ⟨1, _⟩ => ⟨S1024x512, .bf16⟩
  | .local _ .vmem, ⟨2, _⟩ => ⟨S1024x768, .bf16⟩
  | .local _ .vmem, ⟨3, _⟩ => ⟨S1024x768, .bf16⟩
  | .local _ .vmem, ⟨4, _⟩ => ⟨S1x1x512x768, .bf16⟩
  | .local _ .vmem, ⟨5, _⟩ => ⟨S1x1x512x768, .bf16⟩
  | .local _ .vmem, ⟨6, _⟩ => ⟨S512x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnOdRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S2x512x4x768 : Shape := ⟨4, ![2, 512, 4, 768]⟩
abbrev S4x2x512x768 : Shape := ⟨4, ![4, 2, 512, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S2x512x4x768, .bf16⟩
  | .hbm, ⟨11, _⟩ => ⟨S4x2x512x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== TnQ.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== TnQRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== TnKv.lean ====
abbrev S256x1024 : Shape := ⟨2, ![256, 1024]⟩
abbrev S256x2048 : Shape := ⟨2, ![256, 2048]⟩
abbrev S4x2x512x512 : Shape := ⟨4, ![4, 2, 512, 512]⟩
abbrev S256x512 : Shape := ⟨2, ![256, 512]⟩
abbrev S1x1x512x512 : Shape := ⟨4, ![1, 1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S4x2x512x512, .bf16⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S1x1x512x512, .bf16⟩
  | .local _ .vmem, ⟨5, _⟩ => ⟨S1x1x512x512, .bf16⟩
  | .local _ .vmem, ⟨6, _⟩ => ⟨S512x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnKvRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S4x2x512x512 : Shape := ⟨4, ![4, 2, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | .hbm, ⟨9, _⟩ => ⟨S2x512x4x512, .bf16⟩
  | .hbm, ⟨10, _⟩ => ⟨S4x2x512x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== NbEv.lean ====
abbrev S4096x2304 : Shape := ⟨2, ![4096, 2304]⟩
abbrev S1024x2304 : Shape := ⟨2, ![1024, 2304]⟩
abbrev S4096x1024 : Shape := ⟨2, ![4096, 1024]⟩
abbrev S1x1024 : Shape := ⟨2, ![1, 1024]⟩
abbrev S512x1152 : Shape := ⟨2, ![512, 1152]⟩
abbrev S1024x1152 : Shape := ⟨2, ![1024, 1152]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1152, .bf16⟩
  | .local _ .vmem, ⟨1, _⟩ => ⟨S512x1152, .bf16⟩
  | .local _ .vmem, ⟨2, _⟩ => ⟨S1024x1152, .bf16⟩
  | .local _ .vmem, ⟨3, _⟩ => ⟨S1024x1152, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_25 : BitVec 32 := 0#32
  let v45 : BitVec 1 := Scalar.cmpi .eq arg0 c0_i32_25
  let v46 : BitVec 32 := Scalar.extui v45
  let c0_i32_26 : BitVec 32 := 0#32
  let v47 : BitVec 1 := Scalar.cmpi .ne v46 c0_i32_26
  v47

def k0_cond4 (i : grid0.Coords) : BitVec 1 :=
  let arg0 : BitVec 32 := BitVec.ofNat 32 (i 0).val
  let c0_i32_27 : BitVec 32 := 0#32
  let v48 : BitVec 1 := Scalar.cmpi .sgt arg0 c0_i32_27
  let v49 : BitVec 32 := Scalar.extui v48
  let c0_i32_28 : BitVec 32 := 0#32
  let v50 : BitVec 1 := Scalar.cmpi .ne v49 c0_i32_28
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NbEvRefIdeal.lean ====
abbrev S4096x2304 : Shape := ⟨2, ![4096, 2304]⟩
abbrev S1024x2304 : Shape := ⟨2, ![1024, 2304]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x2304, .f32⟩
  | .hbm, ⟨25, _⟩ => ⟨S4096x2304, .f32⟩
  | .hbm, ⟨26, _⟩ => ⟨S4096x2304, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NbOd.lean ====
abbrev S4096x3072 : Shape := ⟨2, ![4096, 3072]⟩
abbrev S4x1024x768 : Shape := ⟨3, ![4, 1024, 768]⟩
abbrev S4096x1024 : Shape := ⟨2, ![4096, 1024]⟩
abbrev S1x1024 : Shape := ⟨2, ![1, 1024]⟩
abbrev S512x768 : Shape := ⟨2, ![512, 768]⟩
abbrev S1x1024x768 : Shape := ⟨3, ![1, 1024, 768]⟩
abbrev S512x1024 : Shape := ⟨2, ![512, 1024]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S4x1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def k0_cond4 (i : grid0.Coords) : BitVec 1 :=
  let arg0 : BitVec 32 := BitVec.ofNat 32 (i 0).val
  let c0_i32_28 : BitVec 32 := 0#32
  let v49 : BitVec 1 := Scalar.cmpi .sgt arg0 c0_i32_28
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NbOdRefIdeal.lean ====
abbrev S4096x3072 : Shape := ⟨2, ![4096, 3072]⟩
abbrev S4x1024x768 : Shape := ⟨3, ![4, 1024, 768]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4x768 : Shape := ⟨3, ![1024, 4, 768]⟩
abbrev S1024x3072 : Shape := ⟨2, ![1024, 3072]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4x1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4x1024x768, .f32⟩
  | .hbm, ⟨25, _⟩ => ⟨S1024x4x768, .f32⟩
  | .hbm, ⟨26, _⟩ => ⟨S1024x3072, .f32⟩
  | .hbm, ⟨27, _⟩ => ⟨S4096x3072, .f32⟩
  | .hbm, ⟨28, _⟩ => ⟨S4096x3072, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== NbXa.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def k0_cond4 (i : grid0.Coords) : BitVec 1 :=
  let arg0 : BitVec 32 := BitVec.ofNat 32 (i 0).val
  let c0_i32_28 : BitVec 32 := 0#32
  let v49 : BitVec 1 := Scalar.cmpi .sgt arg0 c0_i32_28
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NbXaRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== NbMem.lean ====
abbrev S256x2048 : Shape := ⟨2, ![256, 2048]⟩
abbrev S4x1024x512 : Shape := ⟨3, ![4, 1024, 512]⟩
abbrev S256x1024 : Shape := ⟨2, ![256, 1024]⟩
abbrev S1x1024 : Shape := ⟨2, ![1, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S4x1024x512, .bf16⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S1x1024x512, .bf16⟩
  | .local _ .vmem, ⟨3, _⟩ => ⟨S1x1024x512, .bf16⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_24 : BitVec 32 := 0#32
  let v45 : BitVec 1 := Scalar.cmpi .eq arg0 c0_i32_24
  let v46 : BitVec 32 := Scalar.extui v45
  let c0_i32_25 : BitVec 32 := 0#32
  let v47 : BitVec 1 := Scalar.cmpi .ne v46 c0_i32_25
  v47

def k0_cond4 (i : grid0.Coords) : BitVec 1 :=
  let arg0 : BitVec 32 := BitVec.ofNat 32 (i 0).val
  let c0_i32_26 : BitVec 32 := 0#32
  let v48 : BitVec 1 := Scalar.cmpi .sgt arg0 c0_i32_26
  let v49 : BitVec 32 := Scalar.extui v48
  let c0_i32_27 : BitVec 32 := 0#32
  let v50 : BitVec 1 := Scalar.cmpi .ne v49 c0_i32_27
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== NbMemRefIdeal.lean ====
abbrev S256x2048 : Shape := ⟨2, ![256, 2048]⟩
abbrev S4x1024x512 : Shape := ⟨3, ![4, 1024, 512]⟩
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024x4x512 : Shape := ⟨3, ![1024, 4, 512]⟩
abbrev S1024x2048 : Shape := ⟨2, ![1024, 2048]⟩
abbrev S1024 : Shape := ⟨1, ![1024]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x1024x512, .bf16⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S4x1024x512, .f32⟩
  | .hbm, ⟨20, _⟩ => ⟨S1024x4x512, .f32⟩
  | .hbm, ⟨21, _⟩ => ⟨S1024x2048, .f32⟩
  | .hbm, ⟨22, _⟩ => ⟨S256x2048, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== AdamGu.lean ====
abbrev S2048x1408 : Shape := ⟨2, ![2048, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGuRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamEvIn.lean ====
abbrev S1024x576 : Shape := ⟨2, ![1024, 576]⟩
abbrev S128x576 : Shape := ⟨2, ![128, 576]⟩

abbrev nBuf : Space → Nat
  | .hbm => 7
  | .vmem => 14
  | .smem => 0
  | _ => 0

abbrev bufTy : (tb : Table) → Fin (tcTables nBuf tb) → BufTy
  | .hbm, ⟨0, _⟩ => ⟨S1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S1024x576, .f32⟩
  | .hbm, ⟨5, _⟩ => ⟨S1024x576, .f32⟩
  | .hbm, ⟨6, _⟩ => ⟨S1024x576, .f32⟩
  | .local _ .vmem, ⟨0, _⟩ => ⟨S128x576, .f32⟩
  | .local _ .vmem, ⟨1, _⟩ => ⟨S128x576, .f32⟩
  | .local _ .vmem, ⟨2, _⟩ => ⟨S128x576, .f32⟩
  | .local _ .vmem, ⟨3, _⟩ => ⟨S128x576, .f32⟩
  | .local _ .vmem, ⟨4, _⟩ => ⟨S128x576, .f32⟩
  | .local _ .vmem, ⟨5, _⟩ => ⟨S128x576, .f32⟩
  | .local _ .vmem, ⟨6, _⟩ => ⟨S128x576, .f32⟩
  | .local _ .vmem, ⟨7, _⟩ => ⟨S128x576, .f32⟩
  | .local _ .vmem, ⟨8, _⟩ => ⟨S128x576, .f32⟩
  | .local _ .vmem, ⟨9, _⟩ => ⟨S128x576, .f32⟩
  | .local _ .vmem, ⟨10, _⟩ => ⟨S128x576, .f32⟩
  | .local _ .vmem, ⟨11, _⟩ => ⟨S128x576, .f32⟩
  | .local _ .vmem, ⟨12, _⟩ => ⟨S128x576, .f32⟩
  | .local _ .vmem, ⟨13, _⟩ => ⟨S128x576, .f32⟩
  | _, _ => ⟨S1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvInRefIdeal.lean ====
abbrev S1024x576 : Shape := ⟨2, ![1024, 576]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S_, .f32⟩
  | .hbm, ⟨5, _⟩ => ⟨S1024x576, .f32⟩
  | .hbm, ⟨6, _⟩ => ⟨S1024x576, .f32⟩
  | .hbm, ⟨7, _⟩ => ⟨S_, .f32⟩
  | .hbm, ⟨8, _⟩ => ⟨S1024x576, .f32⟩
  | .hbm, ⟨9, _⟩ => ⟨S1024x576, .f32⟩
  | .hbm, ⟨10, _⟩ => ⟨S1024x576, .f32⟩
  | .hbm, ⟨11, _⟩ => ⟨S_, .f32⟩
  | .hbm, ⟨12, _⟩ => ⟨S1024x576, .f32⟩
  | .hbm, ⟨13, _⟩ => ⟨S1024x576, .f32⟩
  | .hbm, ⟨14, _⟩ => ⟨S1024x576, .f32⟩
  | .hbm, ⟨15, _⟩ => ⟨S_, .f32⟩
  | .hbm, ⟨16, _⟩ => ⟨S1024x576, .f32⟩
  | .hbm, ⟨17, _⟩ => ⟨S1024x576, .f32⟩
  | .hbm, ⟨18, _⟩ => ⟨S1024x576, .f32⟩
  | .hbm, ⟨19, _⟩ => ⟨S_, .f32⟩
  | .hbm, ⟨20, _⟩ => ⟨S1024x576, .f32⟩
  | .hbm, ⟨21, _⟩ => ⟨S1024x576, .f32⟩
  | .hbm, ⟨22, _⟩ => ⟨S_, .f32⟩
  | .hbm, ⟨23, _⟩ => ⟨S1024x576, .f32⟩
  | .hbm, ⟨24, _⟩ => ⟨S1024x576, .f32⟩
  | .hbm, ⟨25, _⟩ => ⟨S1024x576, .f32⟩
  | .hbm, ⟨26, _⟩ => ⟨S_, .f32⟩
  | .hbm, ⟨27, _⟩ => ⟨S1024x576, .f32⟩
  | .hbm, ⟨28, _⟩ => ⟨S1024x576, .f32⟩
  | .hbm, ⟨29, _⟩ => ⟨S1024x576, .f32⟩
  | .hbm, ⟨30, _⟩ => ⟨S_, .f32⟩
  | .hbm, ⟨31, _⟩ => ⟨S1024x576, .f32⟩
  | .hbm, ⟨32, _⟩ => ⟨S1024x576, .f32⟩
  | .hbm, ⟨33, _⟩ => ⟨S1024x576, .f32⟩
  | .hbm, ⟨34, _⟩ => ⟨S_, .f32⟩
  | .hbm, ⟨35, _⟩ => ⟨S1024x576, .f32⟩
  | .hbm, ⟨36, _⟩ => ⟨S1024x576, .f32⟩
  | _, _ => ⟨S1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOdIn.lean ====
abbrev S1024x768 : Shape := ⟨2, ![1024, 768]⟩
abbrev S128x768 : Shape := ⟨2, ![128, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOdInRefIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamXa.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXaRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S2048x512 : Shape := ⟨2, ![2048, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvRefIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.AttnHead.lean ====
/-
  Hand-written, untrusted. What the attention-gradient kernel computes for one head, as a vector expression of the head's blocks
  of the queries `q`, keys `k`, values `v`, the incoming gradient `d` and the saved output `o`, and the two gains. The body is
  unrolled over its four heads, and each head is cut into payloads at other places; every head's payloads are these expressions.
-/
module

public import proofs.«01_k».proof.Proof.Gen.KernelIdeal.Frame
public import Idealize.ShloMosaic.Lib.Pipeline.Value
public import Idealize.ShloMosaic.Lib.Pointwise.Index

@[expose] public section

set_option maxRecDepth 16384

noncomputable section

namespace Cert.KernelIdeal.Head

open Idealize.ShloMosaic Idealize.SL.Sem Cert.KernelIdeal Cert.KernelIdeal.Gen Idealize.ShloMosaic.TcCoe

variable {F : FTy → Type} [FloatOps F]

/-- One sixteenth, the scale of the scores. -/
abbrev sc : F .f32 := FloatOps.ofBits FTy.f32 1031798784#32

variable (qg kg : Vec F S1x256 .f32) (q : Vec F S512x256 .f32) (k v : Vec F S256x256 .f32) (d o : Vec F S512x256 .f32)

/-- The gradient that reaches the normalised, scaled queries. -/
def dqn : FVec F S512x256 .f32 := k0_pay33 (k0_pay27 kg k) (k0_pay28 v) (k0_pay29 qg kg q k) sc d o
/-- The gradient of the raw queries. -/
def dq : FVec F S512x256 .bf16 := k0_pay37 qg (k0_pay24 q) (k0_pay25 q) (dqn qg kg q k v d o)
/-- The gradient that reaches the normalised, scaled keys, added to `acc`. -/
def dkn (acc : Vec F S256x256 .f32) : FVec F S256x256 .f32 :=
  k0_pay34 (k0_pay26 qg q) (k0_pay28 v) (k0_pay29 qg kg q k) sc d o acc
/-- The gradient of the values, added to `acc`. -/
def dv (acc : Vec F S256x256 .f32) : FVec F S256x256 .f32 := k0_pay35 (k0_pay29 qg kg q k) sc d acc
/-- The gradient of the queries' gain, added to `acc`. -/
def dqg (acc : FVec F S1x256 .f32) : FVec F S1x256 .f32 := k0_pay36 acc (k0_pay25 q) (dqn qg kg q k v d o)
/-- The gradient of the raw keys, from that of the normalised, scaled ones. -/
def dk (dn : Vec F S256x256 .f32) : FVec F S256x256 .f32 := k0_pay10 kg k dn
/-- The gradient of the keys' gain, added to `acc`. -/
def dkg (acc : FVec F S1x256 .f32) (dn : Vec F S256x256 .f32) : FVec F S1x256 .f32 := k0_pay5 acc k dn

theorem dq0 : k0_pay37 qg (k0_pay24 q) (k0_pay25 q) (k0_pay33 (k0_pay27 kg k) (k0_pay28 v) (k0_pay29 qg kg q k) sc d o)
    = dq qg kg q k v d o := rfl
theorem dq1 : k0_pay52 qg (k0_pay38 q) (k0_pay39 q) (k0_pay47 kg (k0_pay39 q) (k0_pay40 k) (k0_pay41 qg) v d o)
    = dq qg kg q k v d o := rfl
theorem dq2 : k0_pay65 qg (k0_pay53 q) (k0_pay54 q) (k0_pay61 qg kg (k0_pay54 q) k (k0_pay55 k) v d o)
    = dq qg kg q k v d o := rfl
theorem dq3 : k0_pay81 qg (k0_pay68 (k0_pay66 q) k0_pay67) (k0_pay69 q (k0_pay66 q) k0_pay67) (k0_pay71 kg k) (k0_pay72 v)
    (k0_pay73 qg kg q (k0_pay66 q) k0_pay67 k) d (k0_pay74 d o) = dq qg kg q k v d o := rfl

theorem dkn0 (acc : Vec F S256x256 .f32) : k0_pay34 (k0_pay26 qg q) (k0_pay28 v) (k0_pay29 qg kg q k) sc d o acc
    = dkn qg kg q k v d o acc := rfl
theorem dkn1 (acc : Vec F S256x256 .f32) : k0_pay49 (k0_pay48 kg (k0_pay39 q) (k0_pay40 k) (k0_pay41 qg) v d o acc)
    = dkn qg kg q k v d o acc := rfl
theorem dkn2 (acc : Vec F S256x256 .f32) : k0_pay62 (k0_pay56 qg (k0_pay54 q)) (k0_pay60 qg kg (k0_pay54 q) k (k0_pay55 k) v d o) acc
    = dkn qg kg q k v d o acc := rfl
theorem dkn3 (acc : Vec F S256x256 .f32) : k0_pay78 (k0_pay70 qg q (k0_pay66 q) k0_pay67) (k0_pay72 v)
    (k0_pay73 qg kg q (k0_pay66 q) k0_pay67 k) d (k0_pay74 d o) acc = dkn qg kg q k v d o acc := rfl

theorem dv0 (acc : Vec F S256x256 .f32) : k0_pay35 (k0_pay29 qg kg q k) sc d acc = dv qg kg q k d acc := rfl
theorem dv1 (acc : Vec F S256x256 .f32) : k0_pay50 (k0_pay44 kg (k0_pay39 q) (k0_pay40 k) (k0_pay41 qg)) (k0_pay45 d) acc
    = dv qg kg q k d acc := rfl
theorem dv2 (acc : Vec F S256x256 .f32) : k0_pay63 (k0_pay58 qg kg (k0_pay54 q) k (k0_pay55 k)) (k0_pay59 d) acc
    = dv qg kg q k d acc := rfl
theorem dv3 (acc : Vec F S256x256 .f32) : k0_pay79 (k0_pay73 qg kg q (k0_pay66 q) k0_pay67 k) d acc
    = dv qg kg q k d acc := rfl

theorem dqg0 (acc : FVec F S1x256 .f32) : k0_pay36 acc (k0_pay25 q) (k0_pay33 (k0_pay27 kg k) (k0_pay28 v) (k0_pay29 qg kg q k) sc d o)
    = dqg qg kg q k v d o acc := rfl
theorem dqg1 (acc : FVec F S1x256 .f32) : k0_pay51 acc (k0_pay39 q) (k0_pay47 kg (k0_pay39 q) (k0_pay40 k) (k0_pay41 qg) v d o)
    = dqg qg kg q k v d o acc := rfl
theorem dqg2 (acc : FVec F S1x256 .f32) : k0_pay64 acc (k0_pay54 q) (k0_pay61 qg kg (k0_pay54 q) k (k0_pay55 k) v d o)
    = dqg qg kg q k v d o acc := rfl
theorem dqg3 (acc : FVec F S1x256 .f32) : k0_pay80 acc (k0_pay69 q (k0_pay66 q) k0_pay67) (k0_pay71 kg k) (k0_pay72 v)
    (k0_pay73 qg kg q (k0_pay66 q) k0_pay67 k) d (k0_pay74 d o) = dqg qg kg q k v d o acc := rfl

theorem dk1 (dn : Vec F S256x256 .f32) : k0_pay13 kg (k0_pay11 k) (k0_pay12 k) dn = dk kg k dn := rfl
theorem dk2 (dn : Vec F S256x256 .f32) : k0_pay2 (k0_pay14 k) (k0_pay15 k) (k0_pay17 kg dn) (k0_pay18 kg k dn) = dk kg k dn := rfl
theorem dk3 (dn : Vec F S256x256 .f32) : k0_pay6 kg k dn = dk kg k dn := rfl
theorem dkg012 (k1 k2 n0 n1 n2 : Vec F S256x256 .f32) :
    k0_pay16 (k0_pay9 k n0) (k0_pay12 k1) n1 k2 n2 = dkg k2 (dkg k1 (dkg k (k0_pay23 (F := F)) n0) n1) n2 := rfl

end Cert.KernelIdeal.Head

end
-- ==== Proof.AttnBody.lean ====
/-
  Hand-written, untrusted. What one grid point of the attention-gradient kernel leaves behind, head by head: the block of the
  queries' gradient, the running sums of the values' and of the normalised keys' gradients and of the queries' gain, and at the
  last point the gradients of the keys and of their gain.
-/
module

public import proofs.«01_k».proof.Proof.AttnHead
public import Idealize.ShloMosaic.Lib.Pipeline.ReadBack

@[expose] public section

set_option maxRecDepth 16384

noncomputable section

namespace Cert.KernelIdeal.Body

open Idealize.ShloMosaic Idealize.SL.Sem Cert.KernelIdeal Cert.KernelIdeal.Gen Idealize.ShloMosaic.TcCoe

variable {F : FTy → Type} [FloatOps F]

theorem hz2 : (![0, 0] : Fin 2 → Nat) = fun _ => 0 := funext fun a => by fin_cases a <;> rfl

/-- Columns `o … o + 255` of a matrix. -/
def cols {N M : ℕ} {t : EltTy} (o : ℕ) (ho : o + 256 ≤ M) (x : Vec F ⟨2, ![N, M]⟩ t) : Vec F ⟨2, ![N, 256]⟩ t :=
  fun j => x (ix2 (j 0) (⟨o + (j 1).val, Nat.lt_of_lt_of_le (Nat.add_lt_add_left (j 1).isLt o) ho⟩ : Fin M))

/-- A load of 256 columns. -/
theorem ld_cols {N M : ℕ} {t : EltTy} (o : ℕ) (inb : ∀ a, (![0, o] : Fin 2 → ℕ) a + (![N, 256] : Fin 2 → ℕ) a ≤ (⟨2, ![N, M]⟩ : Shape).size a)
    (ho : o + 256 ≤ M) (x : Vec F ⟨2, ![N, M]⟩ t) :
    View.ld x (Rect.unit (s := ⟨2, ![N, M]⟩) ![0, o] ![N, 256] inb) = cols o ho x := by
  funext j
  refine congrArg x (funext fun a => Fin.ext ?_)
  match a with
  | ⟨0, _⟩ => show 0 + 1 * (j 0).val = (j 0).val; omega
  | ⟨1, _⟩ => show o + 1 * (j 1).val = o + (j 1).val; omega

/-- The same, of the queries. -/
theorem ldq (o : ℕ) {inb : ∀ a, (![0, o] : Fin 2 → ℕ) a + (![512, 256] : Fin 2 → ℕ) a ≤ (⟨2, ![512, 1024]⟩ : Shape).size a}
    (ho : o + 256 ≤ 1024 := by decide) (x : Vec F ⟨2, ![512, 1024]⟩ .f32) :
    View.ld x (Rect.unit (s := ⟨2, ![512, 1024]⟩) ![0, o] ![512, 256] inb) = cols o ho x := ld_cols o inb ho x

/-- The same, of the keys and values. -/
theorem ldk (o : ℕ) {inb : ∀ a, (![0, o] : Fin 2 → ℕ) a + (![256, 256] : Fin 2 → ℕ) a ≤ (⟨2, ![256, 2048]⟩ : Shape).size a}
    (ho : o + 256 ≤ 2048 := by decide) (x : Vec F ⟨2, ![256, 2048]⟩ .f32) :
    View.ld x (Rect.unit (s := ⟨2, ![256, 2048]⟩) ![0, o] ![256, 256] inb) = cols o ho x := ld_cols o inb ho x

/-- The same, of half of these. -/
theorem ldv (o : ℕ) {inb : ∀ a, (![0, o] : Fin 2 → ℕ) a + (![256, 256] : Fin 2 → ℕ) a ≤ (⟨2, ![256, 1024]⟩ : Shape).size a}
    (ho : o + 256 ≤ 1024 := by decide) (x : Vec F ⟨2, ![256, 1024]⟩ .f32) :
    View.ld x (Rect.unit (s := ⟨2, ![256, 1024]⟩) ![0, o] ![256, 256] inb) = cols o ho x := ld_cols o inb ho x

/-- Four blocks of 256 columns side by side. -/
def slab {N : ℕ} {t : EltTy} (f : Fin 4 → Vec F ⟨2, ![N, 256]⟩ t) : Vec F ⟨2, ![N, 1024]⟩ t :=
  fun i => f (⟨(i 1).val / 256, Nat.div_lt_of_lt_mul (i 1).isLt⟩ : Fin 4) (ix2 (i 0) (⟨(i 1).val % 256, Nat.mod_lt _ (by decide)⟩ : Fin 256))

/-- A store of head `h`'s block at column `256·h` is the block of `slab`. -/
theorem slab_emb {N : ℕ} {t : EltTy} (f : Fin 4 → Vec F ⟨2, ![N, 256]⟩ t) (h : Fin 4) (o : ℕ) (ho : o = 256 * h.val)
    (inb : ∀ a, (![0, o] : Fin 2 → ℕ) a + (![N, 256] : Fin 2 → ℕ) a ≤ (⟨2, ![N, 1024]⟩ : Shape).size a)
    (x : (⟨2, ![N, 256]⟩ : Shape).Idx) : f h x = slab f ((Rect.unit (s := ⟨2, ![N, 1024]⟩) ![0, o] ![N, 256] inb).emb x) := by
  subst ho
  have hx : (x 1).val < 256 := (x 1).isLt
  unfold slab
  refine congr (congrArg f (Fin.ext ?_)) (funext fun a => Fin.ext ?_)
  · show h.val = (256 * h.val + 1 * (x 1).val) / 256; omega
  · match a with
    | ⟨0, _⟩ => show (x 0).val = 0 + 1 * (x 0).val; omega
    | ⟨1, _⟩ => show (x 1).val = (256 * h.val + 1 * (x 1).val) % 256; omega

/-- The four heads' stores leave `slab`, whatever was stored before them. -/
theorem canon_slab {N : ℕ} {t : EltTy} (f : Fin 4 → Vec F ⟨2, ![N, 256]⟩ t) (L : List (View.Piece (Elt F) ⟨2, ![N, 1024]⟩ t))
    (i0 : ∀ a, (![0, 0] : Fin 2 → ℕ) a + (![N, 256] : Fin 2 → ℕ) a ≤ (⟨2, ![N, 1024]⟩ : Shape).size a)
    (i1 : ∀ a, (![0, 256] : Fin 2 → ℕ) a + (![N, 256] : Fin 2 → ℕ) a ≤ (⟨2, ![N, 1024]⟩ : Shape).size a)
    (i2 : ∀ a, (![0, 512] : Fin 2 → ℕ) a + (![N, 256] : Fin 2 → ℕ) a ≤ (⟨2, ![N, 1024]⟩ : Shape).size a)
    (i3 : ∀ a, (![0, 768] : Fin 2 → ℕ) a + (![N, 256] : Fin 2 → ℕ) a ≤ (⟨2, ![N, 1024]⟩ : Shape).size a) :
    View.canon (Val := Elt F) (s := ⟨2, ![N, 1024]⟩) (e := t) (⟨Rect.unit ![0, 768] ![N, 256] i3, f 3⟩ :: ⟨Rect.unit ![0, 512] ![N, 256] i2, f 2⟩
      :: ⟨Rect.unit ![0, 256] ![N, 256] i1, f 1⟩ :: ⟨Rect.unit ![0, 0] ![N, 256] i0, f 0⟩ :: L) = slab f := by
  funext y
  have h0 : (y 0).val < N := (y 0).isLt
  have h1 : (y 1).val < 1024 := (y 1).isLt
  have mem : ∀ (o : ℕ) (inb : ∀ a, (![0, o] : Fin 2 → ℕ) a + (![N, 256] : Fin 2 → ℕ) a ≤ (⟨2, ![N, 1024]⟩ : Shape).size a),
      o ≤ (y 1).val → (y 1).val < o + 256 → y ∈ (Rect.unit (s := ⟨2, ![N, 1024]⟩) ![0, o] ![N, 256] inb).set := by
    intro o inb ha hb
    rw [Rect.mem_set_unit]
    intro a
    match a with
    | ⟨0, _⟩ => exact ⟨Nat.zero_le _, by show (y 0).val < 0 + N; omega⟩
    | ⟨1, _⟩ => exact ⟨ha, hb⟩
  refine View.canon_append_of_piecesOf (slab f) L [_, _, _, _] ⟨slab_emb f 3 768 rfl i3, slab_emb f 2 512 rfl i2, slab_emb f 1 256 rfl i1, slab_emb f 0 0 rfl i0, trivial⟩ y ?_
  by_cases c3 : 768 ≤ (y 1).val
  · exact ⟨_, .head _, mem 768 i3 c3 (by omega)⟩
  by_cases c2 : 512 ≤ (y 1).val
  · exact ⟨_, .tail _ (.head _), mem 512 i2 c2 (by omega)⟩
  by_cases c1 : 256 ≤ (y 1).val
  · exact ⟨_, .tail _ (.tail _ (.head _)), mem 256 i1 c1 (by omega)⟩
  · exact ⟨_, .tail _ (.tail _ (.tail _ (.head _))), mem 0 i0 (by omega) (by omega)⟩

/-! ## The window of the keys' and values' gradient: keys in its first 1024 columns, values in the rest -/

section Kv

variable {t : EltTy} (f : Fin 4 → Vec F S256x256 t) (L : List (View.Piece (Elt F) S256x2048 t))

theorem mem_kv (o : ℕ) (inb : ∀ a, (![0, o] : Fin 2 → ℕ) a + (![256, 256] : Fin 2 → ℕ) a ≤ S256x2048.size a) (r : Fin 256) (n : Fin 2048) :
    ix2 r n ∈ (Rect.unit (s := S256x2048) ![0, o] ![256, 256] inb).set ↔ o ≤ n.val ∧ n.val < o + 256 := by
  rw [Rect.mem_set_unit]
  refine ⟨fun h => h 1, fun h a => ?_⟩
  match a with
  | ⟨0, _⟩ => exact ⟨Nat.zero_le _, by show r.val < 0 + 256; omega⟩
  | ⟨1, _⟩ => exact h

/-- Blocks of 256 columns, four from column `b` on. -/
def kv (b : ℕ) : Vec F S256x2048 t :=
  fun i => f (⟨((i 1).val - b) / 256 % 4, Nat.mod_lt _ (by decide)⟩ : Fin 4) (ix2 (i 0) (⟨((i 1).val - b) % 256, Nat.mod_lt _ (by decide)⟩ : Fin 256))

theorem kv_emb (b : ℕ) (h : Fin 4) (o : ℕ) (ho : o = b + 256 * h.val)
    (inb : ∀ a, (![0, o] : Fin 2 → ℕ) a + (![256, 256] : Fin 2 → ℕ) a ≤ S256x2048.size a)
    (x : S256x256.Idx) : f h x = kv f b ((Rect.unit (s := S256x2048) ![0, o] ![256, 256] inb).emb x) := by
  subst ho
  have hx : (x 1).val < 256 := (x 1).isLt
  unfold kv
  refine congr (congrArg f (Fin.ext ?_)) (funext fun a => Fin.ext ?_)
  · show h.val = (b + 256 * h.val + 1 * (x 1).val - b) / 256 % 4; omega
  · match a with
    | ⟨0, _⟩ => show (x 0).val = 0 + 1 * (x 0).val; omega
    | ⟨1, _⟩ => show (x 1).val = (b + 256 * h.val + 1 * (x 1).val - b) % 256; omega

theorem kv_apply (b : ℕ) (h : Fin 4) (r l : Fin 256) (n : Fin 2048) (hn : n.val = b + 256 * h.val + l.val) :
    kv f b (ix2 r n) = f h (ix2 r l) := by
  refine congr (congrArg f (Fin.ext ?_)) (funext fun a => Fin.ext ?_)
  · show (n.val - b) / 256 % 4 = h.val; omega
  · match a with
    | ⟨0, _⟩ => rfl
    | ⟨1, _⟩ => show (n.val - b) % 256 = l.val; omega

/-- The four heads' stores into the values' half, read there. -/
theorem canon_v (i0 : ∀ a, (![0, 1024] : Fin 2 → ℕ) a + (![256, 256] : Fin 2 → ℕ) a ≤ S256x2048.size a)
    (i1 : ∀ a, (![0, 1280] : Fin 2 → ℕ) a + (![256, 256] : Fin 2 → ℕ) a ≤ S256x2048.size a)
    (i2 : ∀ a, (![0, 1536] : Fin 2 → ℕ) a + (![256, 256] : Fin 2 → ℕ) a ≤ S256x2048.size a)
    (i3 : ∀ a, (![0, 1792] : Fin 2 → ℕ) a + (![256, 256] : Fin 2 → ℕ) a ≤ S256x2048.size a)
    (h : Fin 4) (r l : Fin 256) (n : Fin 2048) (hn : n.val = 1024 + 256 * h.val + l.val) :
    View.canon (Val := Elt F) (s := S256x2048) (e := t) (⟨Rect.unit ![0, 1792] ![256, 256] i3, f 3⟩ :: ⟨Rect.unit ![0, 1536] ![256, 256] i2, f 2⟩
      :: ⟨Rect.unit ![0, 1280] ![256, 256] i1, f 1⟩ :: ⟨Rect.unit ![0, 1024] ![256, 256] i0, f 0⟩ :: L) (ix2 r n) = f h (ix2 r l) := by
  refine (View.canon_append_of_piecesOf (kv f 1024) L [_, _, _, _] ⟨kv_emb f 1024 3 1792 rfl i3, kv_emb f 1024 2 1536 rfl i2, kv_emb f 1024 1 1280 rfl i1, kv_emb f 1024 0 1024 rfl i0, trivial⟩ _ ?_).trans (kv_apply f 1024 h r l n hn)
  have hn' := n.isLt
  by_cases c3 : 1792 ≤ n.val
  · exact ⟨_, .head _, (mem_kv 1792 i3 r n).mpr ⟨c3, by omega⟩⟩
  by_cases c2 : 1536 ≤ n.val
  · exact ⟨_, .tail _ (.head _), (mem_kv 1536 i2 r n).mpr ⟨c2, by omega⟩⟩
  by_cases c1 : 1280 ≤ n.val
  · exact ⟨_, .tail _ (.tail _ (.head _)), (mem_kv 1280 i1 r n).mpr ⟨c1, by omega⟩⟩
  · exact ⟨_, .tail _ (.tail _ (.tail _ (.head _))), (mem_kv 1024 i0 r n).mpr ⟨by omega, by omega⟩⟩

/-- The four heads' stores into the keys' half, read there. -/
theorem canon_k (i0 : ∀ a, (![0, 0] : Fin 2 → ℕ) a + (![256, 256] : Fin 2 → ℕ) a ≤ S256x2048.size a)
    (i1 : ∀ a, (![0, 256] : Fin 2 → ℕ) a + (![256, 256] : Fin 2 → ℕ) a ≤ S256x2048.size a)
    (i2 : ∀ a, (![0, 512] : Fin 2 → ℕ) a + (![256, 256] : Fin 2 → ℕ) a ≤ S256x2048.size a)
    (i3 : ∀ a, (![0, 768] : Fin 2 → ℕ) a + (![256, 256] : Fin 2 → ℕ) a ≤ S256x2048.size a)
    (h : Fin 4) (r l : Fin 256) (n : Fin 2048) (hn : n.val = 256 * h.val + l.val) :
    View.canon (Val := Elt F) (s := S256x2048) (e := t) (⟨Rect.unit ![0, 768] ![256, 256] i3, f 3⟩ :: ⟨Rect.unit ![0, 512] ![256, 256] i2, f 2⟩
      :: ⟨Rect.unit ![0, 256] ![256, 256] i1, f 1⟩ :: ⟨Rect.unit ![0, 0] ![256, 256] i0, f 0⟩ :: L) (ix2 r n) = f h (ix2 r l) := by
  refine (View.canon_append_of_piecesOf (kv f 0) L [_, _, _, _] ⟨kv_emb f 0 3 768 rfl i3, kv_emb f 0 2 512 rfl i2, kv_emb f 0 1 256 rfl i1, kv_emb f 0 0 0 rfl i0, trivial⟩ _ ?_).trans (kv_apply f 0 h r l n (by omega))
  have hn' := n.isLt
  by_cases c3 : 768 ≤ n.val
  · exact ⟨_, .head _, (mem_kv 768 i3 r n).mpr ⟨c3, by omega⟩⟩
  by_cases c2 : 512 ≤ n.val
  · exact ⟨_, .tail _ (.head _), (mem_kv 512 i2 r n).mpr ⟨c2, by omega⟩⟩
  by_cases c1 : 256 ≤ n.val
  · exact ⟨_, .tail _ (.tail _ (.head _)), (mem_kv 256 i1 r n).mpr ⟨c1, by omega⟩⟩
  · exact ⟨_, .tail _ (.tail _ (.tail _ (.head _))), (mem_kv 0 i0 r n).mpr ⟨by omega, by omega⟩⟩

/-- Stores into the keys' half are not seen in the values' half. -/
theorem canon_skip (i0 : ∀ a, (![0, 0] : Fin 2 → ℕ) a + (![256, 256] : Fin 2 → ℕ) a ≤ S256x2048.size a)
    (i1 : ∀ a, (![0, 256] : Fin 2 → ℕ) a + (![256, 256] : Fin 2 → ℕ) a ≤ S256x2048.size a)
    (i2 : ∀ a, (![0, 512] : Fin 2 → ℕ) a + (![256, 256] : Fin 2 → ℕ) a ≤ S256x2048.size a)
    (i3 : ∀ a, (![0, 768] : Fin 2 → ℕ) a + (![256, 256] : Fin 2 → ℕ) a ≤ S256x2048.size a)
    (r : Fin 256) (n : Fin 2048) (hn : 1024 ≤ n.val) (f0 f1 f2 f3 : Vec F S256x256 t) :
    View.canon (Val := Elt F) (s := S256x2048) (e := t) (⟨Rect.unit ![0, 768] ![256, 256] i3, f3⟩ :: ⟨Rect.unit ![0, 512] ![256, 256] i2, f2⟩
      :: ⟨Rect.unit ![0, 256] ![256, 256] i1, f1⟩ :: ⟨Rect.unit ![0, 0] ![256, 256] i0, f0⟩ :: L) (ix2 r n) = View.canon L (ix2 r n) := by
  have m3 : ix2 r n ∉ (Rect.unit (s := S256x2048) ![0, 768] ![256, 256] i3).set := fun h => by
    have := (mem_kv 768 i3 r n).mp h; omega
  have m2 : ix2 r n ∉ (Rect.unit (s := S256x2048) ![0, 512] ![256, 256] i2).set := fun h => by
    have := (mem_kv 512 i2 r n).mp h; omega
  have m1 : ix2 r n ∉ (Rect.unit (s := S256x2048) ![0, 256] ![256, 256] i1).set := fun h => by
    have := (mem_kv 256 i1 r n).mp h; omega
  have m0 : ix2 r n ∉ (Rect.unit (s := S256x2048) ![0, 0] ![256, 256] i0).set := fun h => by
    have := (mem_kv 0 i0 r n).mp h; omega
  exact (View.canon_cons_of_not_mem ⟨_, f3⟩ _ m3).trans ((View.canon_cons_of_not_mem ⟨_, f2⟩ _ m2).trans
    ((View.canon_cons_of_not_mem ⟨_, f1⟩ _ m1).trans (View.canon_cons_of_not_mem ⟨_, f0⟩ _ m0)))

end Kv

/-! ## One head's share, from the point's blocks -/

section Heads

variable (x0 : Vec F S512x1024 .f32) (x1 : Vec F S256x2048 .f32) (x2 : Vec F S1x256 .f32) (x3 : Vec F S1x256 .f32) (x4 : Vec F S512x1024 .f32) (x5 : Vec F S512x1024 .f32)

/-- Head `h`'s queries (and likewise its incoming gradient and saved output). -/
abbrev qh (x : Vec F S512x1024 .f32) (h : Fin 4) : Vec F S512x256 .f32 := cols (N := 512) (M := 1024) (256 * h.val) (by omega) x
/-- Head `h`'s keys. -/
abbrev kh (x : Vec F S256x2048 .f32) (h : Fin 4) : Vec F S256x256 .f32 := cols (N := 256) (M := 2048) (256 * h.val) (by omega) x
/-- Head `h`'s values. -/
abbrev vh (x : Vec F S256x2048 .f32) (h : Fin 4) : Vec F S256x256 .f32 := cols (N := 256) (M := 2048) (1024 + 256 * h.val) (by omega) x
/-- Head `h`'s part of the scratch. -/
abbrev sh (x : Vec F S256x1024 .f32) (h : Fin 4) : Vec F S256x256 .f32 := cols (N := 256) (M := 1024) (256 * h.val) (by omega) x

def DQ (h : Fin 4) : Vec F S512x256 .bf16 := Head.dq x2 x3 (qh x0 h) (kh x1 h) (vh x1 h) (qh x4 h) (qh x5 h)
def DKN (xs : Vec F S256x1024 .f32) (h : Fin 4) : Vec F S256x256 .f32 := Head.dkn x2 x3 (qh x0 h) (kh x1 h) (vh x1 h) (qh x4 h) (qh x5 h) (sh xs h)
def DV (xo : Vec F S256x2048 .f32) (h : Fin 4) : Vec F S256x256 .f32 := Head.dv x2 x3 (qh x0 h) (kh x1 h) (qh x4 h) (vh xo h)
def DQG (acc : FVec F S1x256 .f32) (h : Fin 4) : FVec F S1x256 .f32 := Head.dqg x2 x3 (qh x0 h) (kh x1 h) (vh x1 h) (qh x4 h) (qh x5 h) acc

end Heads

section Cases

variable (c : Dev nD) (i : grid0.Coords) (a1 : Memref sig .tc .vmem S512x1024 .f32) (h1 : a1.IsWhole) (a2 : Memref sig .tc .vmem S256x2048 .f32) (h2 : a2.IsWhole) (a3 : Memref sig .tc .vmem S1x256 .f32) (h3 : a3.IsWhole) (a4 : Memref sig .tc .vmem S1x256 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S256x2048 .f32) (h8 : a8.IsWhole) (a9 : Memref sig .tc .vmem S1x256 .f32) (h9 : a9.IsWhole) (a10 : Memref sig .tc .vmem S1x256 .f32) (h10 : a10.IsWhole) (a11 : Memref sig .tc .vmem S256x1024 .f32) (h11 : a11.IsWhole)
  (x0 : Vec F S512x1024 .f32) (x1 : Vec F S256x2048 .f32) (x2 : Vec F S1x256 .f32) (x3 : Vec F S1x256 .f32) (x4 : Vec F S512x1024 .f32) (x5 : Vec F S512x1024 .f32) (xo7 : Vec F S256x2048 .f32) (xo8 : Vec F S1x256 .f32) (xs0 : Vec F S256x1024 .f32)

theorem out6_A (hc0 : cond0_0 i) (hc1 : ¬cond0_1 i) : out0_A_6 c i a1 h1 a2 h2 a3 h3 a4 h4 a5 h5 a6 h6 a7 h7 a8 h8 a9 h9 a10 h10 a11 h11 hc0 hc1 x0 x1 x2 x3 x4 x5 = slab (N := 512) (DQ x0 x1 x2 x3 x4 x5) := by
  unfold out0_A_6 kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact (View.read_writes_junk_eq_canon _ _).trans (canon_slab (N := 512) (DQ x0 x1 x2 x3 x4 x5) [] _ _ _ _)

theorem scr_A (hc0 : cond0_0 i) (hc1 : ¬cond0_1 i) : sout0_A_0 c i a1 h1 a2 h2 a3 h3 a4 h4 a5 h5 a6 h6 a7 h7 a8 h8 a9 h9 a10 h10 a11 h11 hc0 hc1 x0 x1 x2 x3 x4 x5 = slab (N := 256) (DKN x0 x1 x2 x3 x4 x5 (k0_pay20 (F := F))) := by
  unfold sout0_A_0 kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact (View.read_writes_junk_eq_canon _ _).trans (canon_slab (N := 256) (DKN x0 x1 x2 x3 x4 x5 (k0_pay20 (F := F))) _ _ _ _ _)

theorem out8_A (hc0 : cond0_0 i) (hc1 : ¬cond0_1 i) : out0_A_8 c i a1 h1 a2 h2 a3 h3 a4 h4 a5 h5 a6 h6 a7 h7 a8 h8 a9 h9 a10 h10 a11 h11 hc0 hc1 x0 x1 x2 x3 x4 x5 = k0_pay1 (DQG x0 x1 x2 x3 x4 x5 (DQG x0 x1 x2 x3 x4 x5 (DQG x0 x1 x2 x3 x4 x5 (DQG x0 x1 x2 x3 x4 x5 (k0_pay23 (F := F)) 0) 1) 2) 3) (k0_pay21 (F := F)) := by
  unfold out0_A_8 kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact (View.read_writes_junk_eq_canon _ _).trans (View.canon_cons_unit_zero (S := S1x256) hz2 _ _ _)

theorem out6_B (hc0 : ¬cond0_0 i) (hc1 : ¬cond0_1 i) : out0_B_6 c i a1 h1 a2 h2 a3 h3 a4 h4 a5 h5 a6 h6 a7 h7 a8 h8 a9 h9 a10 h10 a11 h11 hc0 hc1 x0 x1 x2 x3 x4 x5 xo7 xo8 xs0 = slab (N := 512) (DQ x0 x1 x2 x3 x4 x5) := by
  unfold out0_B_6 kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact (View.read_writes_junk_eq_canon _ _).trans (canon_slab (N := 512) (DQ x0 x1 x2 x3 x4 x5) [] _ _ _ _)

theorem scr_B (hc0 : ¬cond0_0 i) (hc1 : ¬cond0_1 i) : sout0_B_0 c i a1 h1 a2 h2 a3 h3 a4 h4 a5 h5 a6 h6 a7 h7 a8 h8 a9 h9 a10 h10 a11 h11 hc0 hc1 x0 x1 x2 x3 x4 x5 xo7 xo8 xs0 = slab (N := 256) (DKN x0 x1 x2 x3 x4 x5 xs0) := by
  unfold sout0_B_0 kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact (View.read_writes_junk_eq_canon _ _).trans (canon_slab (N := 256) (DKN x0 x1 x2 x3 x4 x5 xs0) _ _ _ _ _)

theorem out8_B (hc0 : ¬cond0_0 i) (hc1 : ¬cond0_1 i) : out0_B_8 c i a1 h1 a2 h2 a3 h3 a4 h4 a5 h5 a6 h6 a7 h7 a8 h8 a9 h9 a10 h10 a11 h11 hc0 hc1 x0 x1 x2 x3 x4 x5 xo7 xo8 xs0 = k0_pay1 (DQG x0 x1 x2 x3 x4 x5 (DQG x0 x1 x2 x3 x4 x5 (DQG x0 x1 x2 x3 x4 x5 (DQG x0 x1 x2 x3 x4 x5 (k0_pay23 (F := F)) 0) 1) 2) 3) xo8 := by
  unfold out0_B_8 kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact (View.read_writes_junk_eq_canon _ _).trans (View.canon_cons_unit_zero (S := S1x256) hz2 _ _ _)

theorem out6_C (hc0 : ¬cond0_0 i) (hc1 : cond0_1 i) : out0_C_6 c i a1 h1 a2 h2 a3 h3 a4 h4 a5 h5 a6 h6 a7 h7 a8 h8 a9 h9 a10 h10 a11 h11 hc0 hc1 x0 x1 x2 x3 x4 x5 xo7 xo8 xs0 = slab (N := 512) (DQ x0 x1 x2 x3 x4 x5) := by
  unfold out0_C_6 kernelRun0_C
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact (View.read_writes_junk_eq_canon _ _).trans (canon_slab (N := 512) (DQ x0 x1 x2 x3 x4 x5) [] _ _ _ _)

theorem scr_C (hc0 : ¬cond0_0 i) (hc1 : cond0_1 i) : sout0_C_0 c i a1 h1 a2 h2 a3 h3 a4 h4 a5 h5 a6 h6 a7 h7 a8 h8 a9 h9 a10 h10 a11 h11 hc0 hc1 x0 x1 x2 x3 x4 x5 xo7 xo8 xs0 = slab (N := 256) (DKN x0 x1 x2 x3 x4 x5 xs0) := by
  unfold sout0_C_0 kernelRun0_C
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact (View.read_writes_junk_eq_canon _ _).trans (canon_slab (N := 256) (DKN x0 x1 x2 x3 x4 x5 xs0) _ _ _ _ _)

theorem out8_C (hc0 : ¬cond0_0 i) (hc1 : cond0_1 i) : out0_C_8 c i a1 h1 a2 h2 a3 h3 a4 h4 a5 h5 a6 h6 a7 h7 a8 h8 a9 h9 a10 h10 a11 h11 hc0 hc1 x0 x1 x2 x3 x4 x5 xo7 xo8 xs0 = k0_pay1 (DQG x0 x1 x2 x3 x4 x5 (DQG x0 x1 x2 x3 x4 x5 (DQG x0 x1 x2 x3 x4 x5 (DQG x0 x1 x2 x3 x4 x5 (k0_pay23 (F := F)) 0) 1) 2) 3) xo8 := by
  unfold out0_C_8 kernelRun0_C
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact (View.read_writes_junk_eq_canon _ _).trans (View.canon_cons_unit_zero (S := S1x256) hz2 _ _ _)

theorem out7_A (hc0 : cond0_0 i) (hc1 : ¬cond0_1 i) (h : Fin 4) (r l : Fin 256) (n : Fin 2048) (hn : n.val = 1024 + 256 * h.val + l.val) :
    out0_A_7 c i a1 h1 a2 h2 a3 h3 a4 h4 a5 h5 a6 h6 a7 h7 a8 h8 a9 h9 a10 h10 a11 h11 hc0 hc1 x0 x1 x2 x3 x4 x5 (ix2 r n) = DV x0 x1 x2 x3 x4 (k0_pay19 (F := F)) h (ix2 r l) := by
  unfold out0_A_7
  refine (congrFun (View.read_writes_junk_eq_canon _ _) _).trans ?_
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact canon_v (DV x0 x1 x2 x3 x4 (k0_pay19 (F := F))) _ _ _ _ _ h r l n hn

theorem out7_B (hc0 : ¬cond0_0 i) (hc1 : ¬cond0_1 i) (h : Fin 4) (r l : Fin 256) (n : Fin 2048) (hn : n.val = 1024 + 256 * h.val + l.val) :
    out0_B_7 c i a1 h1 a2 h2 a3 h3 a4 h4 a5 h5 a6 h6 a7 h7 a8 h8 a9 h9 a10 h10 a11 h11 hc0 hc1 x0 x1 x2 x3 x4 x5 xo7 xo8 xs0 (ix2 r n) = DV x0 x1 x2 x3 x4 xo7 h (ix2 r l) := by
  unfold out0_B_7
  refine (View.read_writes_apply_eq_canon _ _ (ix2 r n) _ ?_).trans ?_
  · unfold kernelRun0_B
    dsimp only
    sl_unfold_words
    have hl := l.isLt
    by_cases c3 : 1792 ≤ n.val
    · refine ⟨_, .head _, ?_⟩
      exact (mem_kv 1792 inb_S256x2048_S256x256_0_1792 r n).mpr ⟨c3, by omega⟩
    by_cases c2 : 1536 ≤ n.val
    · refine ⟨_, .tail _ (.head _), ?_⟩
      exact (mem_kv 1536 inb_S256x2048_S256x256_0_1536 r n).mpr ⟨c2, by omega⟩
    by_cases c1 : 1280 ≤ n.val
    · refine ⟨_, .tail _ (.tail _ (.head _)), ?_⟩
      exact (mem_kv 1280 inb_S256x2048_S256x256_0_1280 r n).mpr ⟨c1, by omega⟩
    · refine ⟨_, .tail _ (.tail _ (.tail _ (.head _))), ?_⟩
      exact (mem_kv 1024 inb_S256x2048_S256x256_0_1024 r n).mpr ⟨by omega, by omega⟩
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact canon_v (DV x0 x1 x2 x3 x4 xo7) _ _ _ _ _ h r l n hn

theorem out7_C (hc0 : ¬cond0_0 i) (hc1 : cond0_1 i) (h : Fin 4) (r l : Fin 256) (n : Fin 2048) (hn : n.val = 1024 + 256 * h.val + l.val) :
    out0_C_7 c i a1 h1 a2 h2 a3 h3 a4 h4 a5 h5 a6 h6 a7 h7 a8 h8 a9 h9 a10 h10 a11 h11 hc0 hc1 x0 x1 x2 x3 x4 x5 xo7 xo8 xs0 (ix2 r n) = DV x0 x1 x2 x3 x4 xo7 h (ix2 r l) := by
  unfold out0_C_7
  refine (congrFun (View.read_writes_junk_eq_canon _ _) _).trans ?_
  unfold kernelRun0_C
  dsimp only
  sl_unfold_words
  refine (canon_skip _ _ _ _ _ r n (by omega) _ _ _ _).trans ?_
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact canon_v (DV x0 x1 x2 x3 x4 xo7) _ _ _ _ _ h r l n hn

/-- The keys' gradient, stored at the last point. -/
theorem out7k_C (hc0 : ¬cond0_0 i) (hc1 : cond0_1 i) (h : Fin 4) (r l : Fin 256) (n : Fin 2048) (hn : n.val = 256 * h.val + l.val) :
    out0_C_7 c i a1 h1 a2 h2 a3 h3 a4 h4 a5 h5 a6 h6 a7 h7 a8 h8 a9 h9 a10 h10 a11 h11 hc0 hc1 x0 x1 x2 x3 x4 x5 xo7 xo8 xs0 (ix2 r n) = Head.dk x3 (kh x1 h) (DKN x0 x1 x2 x3 x4 x5 xs0 h) (ix2 r l) := by
  unfold out0_C_7
  refine (congrFun (View.read_writes_junk_eq_canon _ _) _).trans ?_
  unfold kernelRun0_C
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact canon_k (F := F) (t := .f32) (fun h => Head.dk x3 (kh x1 h) (DKN x0 x1 x2 x3 x4 x5 xs0 h)) _ _ _ _ _ h r l n hn

/-- The keys' gain's gradient, stored at the last point. -/
theorem out9_C (hc0 : ¬cond0_0 i) (hc1 : cond0_1 i) :
    out0_C_9 c i a1 h1 a2 h2 a3 h3 a4 h4 a5 h5 a6 h6 a7 h7 a8 h8 a9 h9 a10 h10 a11 h11 hc0 hc1 x0 x1 x2 x3 x4 x5 xo7 xo8 xs0
      = Head.dkg (kh x1 3) (Head.dkg (kh x1 2) (Head.dkg (kh x1 1) (Head.dkg (kh x1 0) (k0_pay23 (F := F)) (DKN x0 x1 x2 x3 x4 x5 xs0 0)) (DKN x0 x1 x2 x3 x4 x5 xs0 1)) (DKN x0 x1 x2 x3 x4 x5 xs0 2)) (DKN x0 x1 x2 x3 x4 x5 xs0 3) := by
  unfold out0_C_9 kernelRun0_C
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h8.read_unread, h9.read_unread, h11.read_unread, View.ld_unit_zero (S := S1x256) hz2,
    ldq 0, ldq 256, ldq 512, ldq 768, ldk 0, ldk 256, ldk 512, ldk 768, ldk 1024, ldk 1280, ldk 1536, ldk 1792, ldv 0, ldv 256, ldv 512, ldv 768]
  exact (View.read_writes_junk_eq_canon _ _).trans (View.canon_cons_unit_zero (S := S1x256) hz2 _ _ _)

end Cases

end Cert.KernelIdeal.Body

end
-- ==== Proof.Reals.lean ====
/-
  Hand-written, untrusted. Extended reals that are real: a finite array is the image of a real one, finite sums and the scalar
  operations of the ideal instance keep reals, and the constants the programs name. Under a finiteness precondition both sides
  of a value claim are read in the reals, where products distribute over sums.
-/
module

public import Idealize.ShloMosaic.Lib.IdealHost
public import Idealize.ShloMosaic.PureOps.Ideal.Laws
public import Idealize.ShloMosaic.Lib.ReduceAll
public import Idealize.ShloMosaic.Lib.Affine

@[expose] public section

noncomputable section

namespace Cert.Reals

open Idealize.ShloMosaic

/-- Half, as both programs write it. -/
theorem ofBits_half : Ideal.ofBits .f32 0x3F000000#32 = ((1 / 2 : ℝ) : EReal) := by
  simp [Ideal.ofBits, Ideal.ieee, -EReal.coe_mul]; norm_num

/-- Infinity, as a finiteness test writes it. -/
theorem ofBits_inf : Ideal.ofBits .f32 0x7F800000#32 = (⊤ : EReal) := by
  simp [Ideal.ofBits, Ideal.ieee]

/-- A finite sum of reals is real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- What passes the finiteness test is real. -/
theorem real_of_lt_top {x : EReal} (h : max x (-x) < ⊤) : ∃ r : ℝ, x = (r : EReal) := by
  induction x with
  | bot => simp at h
  | coe r => exact ⟨r, rfl⟩
  | top => simp at h

/-- The printed test `|x| < ∞` on an element. -/
theorem real_of_cmp {x : EReal} (h : Ideal.cmp .olt (max x (-x)) (Ideal.ofBits .f32 0x7F800000#32) = 1#1) :
    ∃ r : ℝ, x = (r : EReal) := by
  rw [ofBits_inf] at h
  refine real_of_lt_top ?_
  by_contra hn
  simp [Ideal.cmp, hn] at h

/-- A finite array is the image of a real array. -/
theorem exists_real {ι : Type} (x : ι → EReal) (h : ∀ i, ∃ r : ℝ, x i = (r : EReal)) : ∃ f : ι → ℝ, x = fun i => (f i : EReal) :=
  ⟨fun i => (h i).choose, funext fun i => (h i).choose_spec⟩

/-- The logistic function, in the form `1 / (1 + exp (0 - x))`. -/
theorem sig_sub (x : ℝ) : Ideal.div 1 (1 + Ideal.exp (0 - (x : EReal))) = (((1 + Real.exp (-x))⁻¹ : ℝ) : EReal) := by
  rw [zero_sub, ← EReal.coe_neg, Ideal.exp_coe]
  have h : (1 : EReal) + ((Real.exp (-x) : ℝ) : EReal) = ((1 + Real.exp (-x) : ℝ) : EReal) := by rw [EReal.coe_add]; rfl
  rw [h, Ideal.div_coe (by positivity), one_mul, one_div]

/-- The logistic function, in the form `1 / (1 + exp (-x))`. -/
theorem sig_neg (x : ℝ) : Ideal.div 1 (1 + Ideal.exp (-(x : EReal))) = (((1 + Real.exp (-x))⁻¹ : ℝ) : EReal) := by
  rw [← sig_sub, zero_sub]

/-- A sum over `a * b` places is the sum over `a` runs of `b` places. -/
theorem sum_runs {M : Type} [AddCommMonoid M] (a b : ℕ) (f : ℕ → M) :
    ∑ p ∈ Finset.range a, ∑ q : Fin b, f (b * p + q.val) = ∑ k : Fin (a * b), f k.val := by
  rw [Fin.sum_univ_eq_sum_range f (a * b)]
  induction a with
  | zero => simp
  | succ a ih =>
    rw [Finset.sum_range_succ, ih, show (a + 1) * b = a * b + b by ring, Finset.sum_range_add, Fin.sum_univ_eq_sum_range (fun q => f (b * a + q)) b]
    simp only [Nat.mul_comm b a]

end Cert.Reals

end
-- ==== Proof.AttnReal.lean ====
/-
  Hand-written, untrusted. The attention gradient in the reals, for one query row: normalisation by the root mean square, scores,
  softmax, and their gradients. Both programs are read as these functions; the lemmas here take the extended-real spellings that
  the two programs have of a step to the real one.
-/
module

public import proofs.«01_k».proof.Proof.Reals

@[expose] public section

noncomputable section

namespace Cert.AttnReal

open Idealize.ShloMosaic Cert.Reals

/-! ## The constants -/

/-- The constant added to a mean square, as a real. -/
def eps : ℝ := 0x8637BD * 2 ^ (-43 : ℤ)

theorem eps_pos : 0 < eps := by unfold eps; positivity

theorem ofBits_eps : Ideal.ofBits .f32 897988541#32 = (eps : EReal) := by
  simp [Ideal.ofBits, Ideal.ieee, eps, -EReal.coe_mul]

theorem ofBits_256 : Ideal.ofBits .f32 1132462080#32 = ((256 : ℝ) : EReal) := by
  simp [Ideal.ofBits, Ideal.ieee, -EReal.coe_mul]; norm_num

theorem ofBits_16th : Ideal.ofBits .f32 0x3D800000#32 = ((1 / 16 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_neg_inf : Ideal.ofBits .f32 4286578688#32 = (⊥ : EReal) := by
  simp [Ideal.ofBits, Ideal.ieee]

/-! ## The functions -/

/-- The mean square of a row, with the constant. -/
def ms (x : Fin 256 → ℝ) : ℝ := (∑ l, x l * x l) * (1 / 256) + eps

/-- The factor that normalises a row. -/
def inv (x : Fin 256 → ℝ) : ℝ := (√(ms x))⁻¹

/-- A normalised row. -/
def nrm (x : Fin 256 → ℝ) (l : Fin 256) : ℝ := x l * inv x

/-- A query row's scores against the keys, before the scale. -/
def score (q : Fin 256 → ℝ) (K : Fin 256 → Fin 256 → ℝ) (qg kg : Fin 256 → ℝ) (j : Fin 256) : ℝ :=
  ∑ l, nrm q l * qg l * (nrm (K j) l * kg l)

/-- Softmax of a row. -/
def soft (s : Fin 256 → ℝ) (j : Fin 256) : ℝ := Real.exp (s j) / ∑ x, Real.exp (s x)

/-- A query row's attention weights. -/
def P (q : Fin 256 → ℝ) (K : Fin 256 → Fin 256 → ℝ) (qg kg : Fin 256 → ℝ) (j : Fin 256) : ℝ :=
  soft (fun x => score q K qg kg x * (1 / 16)) j

/-- What reaches a query row's weights. -/
def dP (V : Fin 256 → Fin 256 → ℝ) (d : Fin 256 → ℝ) (j : Fin 256) : ℝ := ∑ l, d l * V j l

/-- What reaches a query row's scaled scores. -/
def dS (q : Fin 256 → ℝ) (K V : Fin 256 → Fin 256 → ℝ) (qg kg d : Fin 256 → ℝ) (j : Fin 256) : ℝ :=
  P q K qg kg j * (dP V d j - ∑ x, P q K qg kg x * dP V d x)

/-- What reaches a query row after its normalisation and gain. -/
def dQN (q : Fin 256 → ℝ) (K V : Fin 256 → Fin 256 → ℝ) (qg kg d : Fin 256 → ℝ) (l : Fin 256) : ℝ :=
  (∑ j, dS q K V qg kg d j * (nrm (K j) l * kg l)) * (1 / 16)

/-- The gradient through the normalisation and the gain. -/
def back (x g dn : Fin 256 → ℝ) (l : Fin 256) : ℝ :=
  inv x * (dn l * g l - nrm x l * ((∑ k, dn k * g k * nrm x k) * (1 / 256)))

/-! ## The lemmas -/

theorem ms_pos (x : Fin 256 → ℝ) : 0 < ms x := by
  unfold ms
  have h : 0 ≤ ∑ l, x l * x l := Finset.sum_nonneg fun l _ => mul_self_nonneg _
  have := eps_pos
  positivity

theorem inv_sq (x : Fin 256 → ℝ) : inv x * inv x * ms x = 1 := by
  have h := ms_pos x
  unfold inv
  have h2 : √(ms x) * √(ms x) = ms x := Real.mul_self_sqrt h.le
  have h3 : √(ms x) ≠ 0 := (Real.sqrt_pos.mpr h).ne'
  field_simp
  rw [sq, h2]

/-- The programs' spelling of the normalising factor. -/
theorem rsqrt_ms (x : Fin 256 → ℝ) :
    Ideal.rsqrt (Ideal.div ((∑ l, x l * x l : ℝ) : EReal) ((256 : ℝ) : EReal) + (eps : EReal)) = ((inv x : ℝ) : EReal) := by
  rw [Ideal.div_coe (by norm_num), ← EReal.coe_mul, ← EReal.coe_add]
  have h := ms_pos x
  have h2 : (∑ l, x l * x l) * (1 / 256) + eps = ms x := rfl
  rw [h2, Ideal.rsqrt_coe]
  unfold inv
  simp [h, h.ne', h.not_gt]

/-- A maximum over the keys, started at minus infinity, is real. -/
theorem fold_max (s : Fin 256 → ℝ) : ∃ M : ℝ, Finset.fold max (⊥ : EReal) (fun x => ((s x : ℝ) : EReal)) Finset.univ = (M : EReal) := by
  have key : ∀ t : Finset (Fin 256), t.Nonempty → ∃ M : ℝ, Finset.fold max (⊥ : EReal) (fun x => ((s x : ℝ) : EReal)) t = (M : EReal) := by
    intro t ht
    induction ht using Finset.Nonempty.cons_induction with
    | singleton a => exact ⟨s a, by simp⟩
    | cons a t ha ht ih =>
      obtain ⟨M, hM⟩ := ih
      exact ⟨max (s a) M, by rw [Finset.fold_cons, hM]; exact (EReal.coe_strictMono.monotone.map_max (a := s a) (b := M)).symm⟩
  exact key _ Finset.univ_nonempty

/-- Softmax does not see a shift. -/
theorem soft_shift (s : Fin 256 → ℝ) (M : ℝ) (j : Fin 256) : Real.exp (s j - M) / ∑ x, Real.exp (s x - M) = soft s j := by
  unfold soft
  simp only [Real.exp_sub, ← Finset.sum_div]
  have h : Real.exp M ≠ 0 := (Real.exp_pos M).ne'
  have h2 : (∑ x, Real.exp (s x)) ≠ 0 := (Finset.sum_pos (fun x _ => Real.exp_pos _) Finset.univ_nonempty).ne'
  field_simp

theorem sum_exp_pos (s : Fin 256 → ℝ) : 0 < ∑ x, Real.exp (s x) := Finset.sum_pos (fun x _ => Real.exp_pos _) Finset.univ_nonempty

/-- The programs' spelling of softmax, its maximum given. -/
theorem soft_max (s : Fin 256 → ℝ) (M : ℝ) (j : Fin 256) :
    Ideal.div (Ideal.exp ((s j : EReal) - (M : EReal))) (∑ x, Ideal.exp ((s x : EReal) - (M : EReal))) = ((soft s j : ℝ) : EReal) := by
  simp only [← EReal.coe_sub, Ideal.exp_coe, coe_sum]
  rw [Ideal.div_coe (sum_exp_pos fun x => s x - M).ne', ← EReal.coe_mul, ← soft_shift s M j, ← div_eq_mul_one_div]

/-- The programs' spelling of softmax. -/
theorem soft_eq (s : Fin 256 → ℝ) (j : Fin 256) :
    Ideal.div (Ideal.exp ((s j : EReal) - Finset.fold max (⊥ : EReal) (fun x => ((s x : ℝ) : EReal)) Finset.univ))
      (∑ x, Ideal.exp ((s x : EReal) - Finset.fold max (⊥ : EReal) (fun x => ((s x : ℝ) : EReal)) Finset.univ)) = ((soft s j : ℝ) : EReal) := by
  obtain ⟨M, hM⟩ := fold_max s
  rw [hM]
  exact soft_max s M j

/-- The gradient of softmax as the transposed quotient rule writes it. -/
theorem soft_back (s dp : Fin 256 → ℝ) (M : ℝ) (j : Fin 256) :
    (dp j * (1 / ∑ x, Real.exp (s x - M)) + -(∑ x, dp x * (1 * (1 / ((∑ x, Real.exp (s x - M)) * ∑ x, Real.exp (s x - M)))) * Real.exp (s x - M)))
      * Real.exp (s j - M) = soft s j * (dp j - ∑ x, soft s x * dp x) := by
  simp only [← soft_shift s M]
  have h := (sum_exp_pos (fun x => s x - M)).ne'
  simp only [div_mul_eq_mul_div, ← Finset.sum_div]
  generalize (∑ x, Real.exp (s x - M)) = Z at *
  have e : ∑ x, dp x * (1 * (1 / (Z * Z))) * Real.exp (s x - M) = (∑ x, Real.exp (s x - M) * dp x) * (1 / (Z * Z)) := by
    rw [Finset.sum_mul]; exact Finset.sum_congr rfl fun x _ => by ring
  rw [e]
  field_simp
  ring

/-- Where the product with the attention's output stands for the sum over the keys. -/
theorem delta (p d : Fin 256 → ℝ) (V : Fin 256 → Fin 256 → ℝ) :
    ∑ l, d l * ∑ j, V j l * p j = ∑ j, p j * dP V d j := by
  unfold dP
  simp only [Finset.mul_sum]
  rw [Finset.sum_comm]
  exact Finset.sum_congr rfl fun j _ => Finset.sum_congr rfl fun l _ => by ring

/-- The gradient through the normalisation as the derivative of the reciprocal root writes it. -/
theorem back_eq (x g dn : Fin 256 → ℝ) (l : Fin 256) :
    dn l * g l * inv x + x l * ((∑ k, x k * (dn k * g k)) * (-(1 / 2) * (inv x * (1 / ms x))) * (1 / 256))
      + (∑ k, x k * (dn k * g k)) * (-(1 / 2) * (inv x * (1 / ms x))) * (1 / 256) * x l = back x g dn l := by
  have h : 1 / ms x = inv x * inv x := by rw [div_eq_iff (ms_pos x).ne', inv_sq]
  rw [h]
  unfold back nrm
  have e : ∑ k, dn k * g k * (x k * inv x) = (∑ k, x k * (dn k * g k)) * inv x := by
    rw [Finset.sum_mul]; exact Finset.sum_congr rfl fun k _ => by ring
  rw [e]
  ring

/-! ## Over all tokens and heads -/

section
variable (X : Fin 4096 → Fin 1024 → ℝ) (C : Fin 256 → Fin 2048 → ℝ) (g h : Fin 256 → ℝ) (Y : Fin 4096 → Fin 1024 → ℝ)

/-- Head `e`'s part of a token's row. -/
def hq (T : Fin 4096) (e : Fin 4) (l : Fin 256) : ℝ := X T ⟨256 * e.val + l.val, by omega⟩
/-- Head `e`'s key `j`. -/
def hk (e : Fin 4) (j l : Fin 256) : ℝ := C j ⟨256 * e.val + l.val, by omega⟩
/-- Head `e`'s value `j`. -/
def hv (e : Fin 4) (j l : Fin 256) : ℝ := C j ⟨1024 + 256 * e.val + l.val, by omega⟩
/-- Attention weights. -/
def tP (T : Fin 4096) (e : Fin 4) (j : Fin 256) : ℝ := P (hq X T e) (hk C e) g h j
/-- What reaches the scaled scores. -/
def tS (T : Fin 4096) (e : Fin 4) (j : Fin 256) : ℝ := dS (hq X T e) (hk C e) (hv C e) g h (hq Y T e) j
/-- What reaches the normalised, scaled queries. -/
def tQN (T : Fin 4096) (e : Fin 4) (l : Fin 256) : ℝ := dQN (hq X T e) (hk C e) (hv C e) g h (hq Y T e) l
/-- The attention's output. -/
def tO (T : Fin 4096) (e : Fin 4) (l : Fin 256) : ℝ := ∑ j, hv C e j l * tP X C g h T e j
/-- The queries' gradient. -/
def rDQ (T : Fin 4096) (e : Fin 4) (l : Fin 256) : ℝ := back (hq X T e) g (tQN X C g h Y T e) l
/-- The values' gradient. -/
def rDV (e : Fin 4) (j l : Fin 256) : ℝ := ∑ T, tP X C g h T e j * hq Y T e l
/-- What reaches the normalised, scaled keys. -/
def rDN (e : Fin 4) (j l : Fin 256) : ℝ := (∑ T, tS X C g h Y T e j * (nrm (hq X T e) l * g l)) * (1 / 16)
/-- The keys' gradient. -/
def rDK (e : Fin 4) (j l : Fin 256) : ℝ := back (hk C e j) h (rDN X C g h Y e j) l
/-- The queries' gain's gradient. -/
def rDQG (l : Fin 256) : ℝ := ∑ e, ∑ T, tQN X C g h Y T e l * nrm (hq X T e) l
/-- The keys' gain's gradient. -/
def rDKG (l : Fin 256) : ℝ := ∑ e, ∑ j, rDN X C g h Y e j l * nrm (hk C e j) l
end

/-- The sum over the first `n` tokens. -/
def upto (f : Fin 4096 → ℝ) (n : ℕ) : ℝ := ∑ i ∈ Finset.range n, if h : i < 4096 then f ⟨i, h⟩ else 0

theorem upto_zero (f : Fin 4096 → ℝ) : upto f 0 = 0 := rfl

theorem upto_add (f : Fin 4096 → ℝ) (t : ℕ) (ht : t < 8) :
    upto f (512 * (t + 1)) = upto f (512 * t) + ∑ r : Fin 512, f ⟨512 * t + r.val, by omega⟩ := by
  unfold upto
  rw [show 512 * (t + 1) = 512 * t + 512 by ring, Finset.sum_range_add]
  congr 1
  rw [Finset.sum_range]
  exact Finset.sum_congr rfl fun r _ => dif_pos (by omega)

theorem upto_all (f : Fin 4096 → ℝ) : upto f 4096 = ∑ T, f T := by
  unfold upto
  rw [Finset.sum_range]
  exact Finset.sum_congr rfl fun r _ => dif_pos r.isLt

end Cert.AttnReal

end
-- ==== Proof.AttnPay.lean ====
/-
  Hand-written, untrusted. What the attention-gradient kernel computes for one head of one block of query rows, over blocks that
  hold reals: the functions of `AttnReal`, entry by entry.
-/
module

public import proofs.«01_k».proof.Proof.AttnHead
public import proofs.«01_k».proof.Proof.AttnReal
public import Idealize.ShloMosaic.Lib.Pointwise

@[expose] public section

set_option maxRecDepth 16384

noncomputable section

namespace Cert.KernelIdeal.Pay

open Idealize.ShloMosaic Idealize.SL.Sem Cert.KernelIdeal Cert.KernelIdeal.Gen Idealize.ShloMosaic.TcCoe Cert.Reals Cert.AttnReal

section
variable (qg kg : FVec Ideal S1x256 .f32) (q : FVec Ideal S512x256 .f32) (k v : FVec Ideal S256x256 .f32) (d o : FVec Ideal S512x256 .f32)
  (G H : Fin 256 → ℝ) (Q D O : Fin 512 → Fin 256 → ℝ) (K V : Fin 256 → Fin 256 → ℝ)
  (hG : ∀ l, qg (ix2 0 l) = ((G l : ℝ) : EReal)) (hH : ∀ l, kg (ix2 0 l) = ((H l : ℝ) : EReal))
  (hQ : ∀ r l, q (ix2 r l) = ((Q r l : ℝ) : EReal)) (hK : ∀ j l, k (ix2 j l) = ((K j l : ℝ) : EReal)) (hV : ∀ j l, v (ix2 j l) = ((V j l : ℝ) : EReal))
  (hD : ∀ r l, d (ix2 r l) = ((D r l : ℝ) : EReal)) (hO : ∀ r l, o (ix2 r l) = ((O r l : ℝ) : EReal))

include hQ in
theorem qr_apply (r : Fin 512) : k0_pay24 (F := Ideal) q (ix2 r 0) = ((inv (Q r) : ℝ) : EReal) := by
  unfold_payloads; pointwise
  simp only [hQ, ← EReal.coe_mul, coe_sum, ofBits_256, ofBits_eps, rsqrt_ms]

include hQ in
theorem qhat_apply (r : Fin 512) (l : Fin 256) : k0_pay25 (F := Ideal) q (ix2 r l) = ((nrm (Q r) l : ℝ) : EReal) := by
  unfold_payloads; pointwise
  simp only [hQ, ← EReal.coe_mul, coe_sum, ofBits_256, ofBits_eps, rsqrt_ms]
  rfl

include hG hQ in
theorem qn_apply (r : Fin 512) (l : Fin 256) : k0_pay26 (F := Ideal) qg q (ix2 r l) = ((nrm (Q r) l * G l : ℝ) : EReal) := by
  unfold_payloads; pointwise
  simp only [hQ, hG, ← EReal.coe_mul, coe_sum, ofBits_256, ofBits_eps, rsqrt_ms]
  rfl

include hH hK in
theorem kn_apply (j : Fin 256) (l : Fin 256) : k0_pay27 (F := Ideal) kg k (ix2 j l) = ((nrm (K j) l * H l : ℝ) : EReal) := by
  unfold_payloads; pointwise
  simp only [hK, hH, ← EReal.coe_mul, coe_sum, ofBits_256, ofBits_eps, rsqrt_ms]
  rfl

include hV in
theorem v_apply (j : Fin 256) (l : Fin 256) : k0_pay28 (F := Ideal) v (ix2 j l) = ((V j l : ℝ) : EReal) := by
  unfold_payloads; pointwise
  exact hV j l

include hG hQ hH hK in
theorem score_apply (r : Fin 512) (j : Fin 256) : k0_pay29 (F := Ideal) qg kg q k (ix2 r j) = ((score (Q r) K G H j : ℝ) : EReal) := by
  unfold_payloads; pointwise
  simp only [hQ, hG, hK, hH, ← EReal.coe_mul, coe_sum, ofBits_256, ofBits_eps, rsqrt_ms]
  rfl

include hG hQ hH hK in
theorem p_apply (r : Fin 512) (j : Fin 256) : k0_pay30 (F := Ideal) (k0_pay29 qg kg q k) (Ideal.ofBits FTy.f32 1031798784#32) (ix2 r j) = ((P (Q r) K G H j : ℝ) : EReal) := by
  have hS := score_apply qg kg q k G H Q K hG hH hQ hK
  generalize k0_pay29 (F := Ideal) qg kg q k = s at hS ⊢
  unfold_payloads; pointwise
  simp only [hS, ofBits_16th, ← EReal.coe_mul, ofBits_neg_inf]
  exact soft_eq _ j

include hD in
theorem dsAt (s : FVec Ideal S512x256 .f32) (w : FVec Ideal S256x256 .bf16) (S : Fin 512 → Fin 256 → ℝ) (hO : ∀ r l, o (ix2 r l) = ((O r l : ℝ) : EReal))
    (hS : ∀ r j, s (ix2 r j) = ((S r j : ℝ) : EReal)) (hw : ∀ j l, w (ix2 j l) = ((V j l : ℝ) : EReal)) (r : Fin 512) (j : Fin 256) :
    k0_pay32 (F := Ideal) w s (Ideal.ofBits FTy.f32 1031798784#32) d o (ix2 r j)
    = ((soft (fun x => S r x * (1 / 16)) j * (dP V (D r) j - ∑ l, D r l * O r l) : ℝ) : EReal) := by
  unfold_payloads; pointwise
  simp only [hS, hw, hD, hO, ofBits_16th, ← EReal.coe_mul, ofBits_neg_inf, coe_sum, ← EReal.coe_sub]
  rw [soft_eq (fun x => S r x * (1 / 16)) j, ← EReal.coe_mul]
  rfl

variable (hA : ∀ r l, o (ix2 r l) = ((∑ j, V j l * P (Q r) K G H j : ℝ) : EReal))

include hG hQ hH hK hV hD hA in
theorem ds_apply (r : Fin 512) (j : Fin 256) : k0_pay32 (F := Ideal) (k0_pay28 v) (k0_pay29 qg kg q k) (Ideal.ofBits FTy.f32 1031798784#32) d o (ix2 r j)
    = ((dS (Q r) K V G H (D r) j : ℝ) : EReal) := by
  refine (dsAt d o D (fun r l => ∑ j, V j l * P (Q r) K G H j) V hD _ _ (fun r => score (Q r) K G H) hA
    (score_apply qg kg q k G H Q K hG hH hQ hK) (v_apply v V hV) r j).trans ?_
  rw [delta]
  rfl

include hG hQ hH hK hV hD hA in
theorem dqn_apply (r : Fin 512) (l : Fin 256) : Head.dqn (F := Ideal) qg kg q k v d o (ix2 r l)
    = ((dQN (Q r) K V G H (D r) l : ℝ) : EReal) := by
  have hs := ds_apply qg kg q k v d o G H Q D K V hG hH hQ hK hV hD hA
  have hk := kn_apply kg k H K hH hK
  unfold Head.dqn k0_pay33
  pointwise
  simp only [hs, hk]
  simp only [← EReal.coe_mul, coe_sum, ofBits_16th]
  rfl

include hG hQ hH hK hV hD hA in
theorem dq_apply (r : Fin 512) (l : Fin 256) : Head.dq (F := Ideal) qg kg q k v d o (ix2 r l)
    = ((back (Q r) G (dQN (Q r) K V G H (D r)) l : ℝ) : EReal) := by
  have hn := dqn_apply qg kg q k v d o G H Q D K V hG hH hQ hK hV hD hA
  have hr := qr_apply q Q hQ
  have hh := qhat_apply q Q hQ
  unfold Head.dq k0_pay37
  pointwise
  simp only [hn, hr, hh, hG, ← EReal.coe_mul, ← EReal.coe_sub, coe_sum, ofBits_256]
  rw [Ideal.div_coe (by norm_num)]
  simp only [← EReal.coe_mul, ← EReal.coe_sub]
  rfl

include hG hQ hH hK hV hD hA in
theorem dkn_apply (acc : FVec Ideal S256x256 .f32) (j l : Fin 256) : Head.dkn (F := Ideal) qg kg q k v d o acc (ix2 j l)
    = acc (ix2 j l) + (((∑ r : Fin 512, dS (Q r) K V G H (D r) j * (nrm (Q r) l * G l)) * (1 / 16) : ℝ) : EReal) := by
  have hs := ds_apply qg kg q k v d o G H Q D K V hG hH hQ hK hV hD hA
  have hq := qn_apply qg q G Q hG hQ
  unfold Head.dkn k0_pay34
  pointwise
  simp only [hs, hq]
  simp only [← EReal.coe_mul, coe_sum, ofBits_16th]

include hG hQ hH hK hD in
theorem dv_apply (acc : FVec Ideal S256x256 .f32) (j l : Fin 256) : Head.dv (F := Ideal) qg kg q k d acc (ix2 j l)
    = acc (ix2 j l) + ((∑ r : Fin 512, P (Q r) K G H j * D r l : ℝ) : EReal) := by
  have hp := p_apply qg kg q k G H Q K hG hH hQ hK
  unfold Head.dv k0_pay35 k0_pay31
  pointwise
  simp only [hp, hD, ← EReal.coe_mul, coe_sum]

include hG hQ hH hK hV hD hA in
theorem dqg_apply (acc : FVec Ideal S1x256 .f32) (l : Fin 256) : Head.dqg (F := Ideal) qg kg q k v d o acc (ix2 0 l)
    = acc (ix2 0 l) + ((∑ r : Fin 512, dQN (Q r) K V G H (D r) l * nrm (Q r) l : ℝ) : EReal) := by
  have hn := dqn_apply qg kg q k v d o G H Q D K V hG hH hQ hK hV hD hA
  have hh := qhat_apply q Q hQ
  unfold Head.dqg k0_pay36
  pointwise
  simp only [hn, hh, ← EReal.coe_mul, coe_sum]

variable (n : FVec Ideal S256x256 .f32) (N : Fin 256 → Fin 256 → ℝ) (hN : ∀ j l, n (ix2 j l) = ((N j l : ℝ) : EReal))

include hH hK hN in
theorem dk_apply (j l : Fin 256) : Head.dk (F := Ideal) kg k n (ix2 j l) = ((back (K j) H (N j) l : ℝ) : EReal) := by
  unfold Head.dk
  unfold_payloads; pointwise
  simp only [hH, hK, hN, ← EReal.coe_mul, ← EReal.coe_sub, coe_sum, ofBits_256, ofBits_eps, rsqrt_ms]
  rw [Ideal.div_coe (by norm_num)]
  simp only [← EReal.coe_mul, ← EReal.coe_sub]
  rfl

include hK hN in
theorem dkg_apply (acc : FVec Ideal S1x256 .f32) (l : Fin 256) : Head.dkg (F := Ideal) k acc n (ix2 0 l)
    = acc (ix2 0 l) + ((∑ j, N j l * nrm (K j) l : ℝ) : EReal) := by
  unfold Head.dkg
  unfold_payloads; pointwise
  simp only [hK, hN, ← EReal.coe_mul, coe_sum, ofBits_256, ofBits_eps, rsqrt_ms]
  rfl
end

theorem zero19 (i : S256x2048.Idx) : k0_pay19 (F := Ideal) i = 0 := by unfold_payloads; pointwise
theorem zero20 (i : S256x1024.Idx) : k0_pay20 (F := Ideal) i = 0 := by unfold_payloads; pointwise
theorem zero21 (i : S1x256.Idx) : k0_pay21 (F := Ideal) i = 0 := by unfold_payloads; pointwise
theorem zero23 (i : S1x256.Idx) : k0_pay23 (F := Ideal) i = 0 := by unfold_payloads; pointwise
theorem add1 (x y : FVec Ideal S1x256 .f32) (l : Fin 256) : k0_pay1 (F := Ideal) x y (ix2 0 l) = y (ix2 0 l) + x (ix2 0 l) := by unfold_payloads; pointwise

end Cert.KernelIdeal.Pay

end
-- ==== Proof.AttnValue.lean ====
/-
  Hand-written, untrusted. What the attention-gradient kernel's four result arrays end holding, where its arguments hold reals and
  the attention's output, which it takes, is that of the arguments: the functions of `AttnReal`.
-/
module

public import proofs.«01_k».proof.Proof.Gen.KernelIdeal.Value
public import proofs.«01_k».proof.Proof.AttnBody
public import proofs.«01_k».proof.Proof.AttnPay

@[expose] public section

set_option maxRecDepth 16384

noncomputable section

namespace Cert.KernelIdeal.Closed

open Idealize.ShloMosaic Idealize.SL.Sem Cert.KernelIdeal Cert.KernelIdeal.Gen Idealize.ShloMosaic.TcCoe Cert.KernelIdeal.Body
open Cert.KernelIdeal.Pay Cert.KernelIdeal.Value Cert.AttnReal

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Head `e`'s part of a slab. -/
theorem slab_sh (f : Fin 4 → Vec Ideal S256x256 .f32) (e : Fin 4) (j l : Fin 256) :
    sh (F := Ideal) (slab (N := 256) (t := .f32) f) e (ix2 j l) = f e (ix2 j l) := by
  have he := e.isLt
  have hl := l.isLt
  have e1 : (⟨(256 * e.val + l.val) / 256, by omega⟩ : Fin 4) = e := Fin.ext (by show (256 * e.val + l.val) / 256 = e.val; omega)
  have e2 : (⟨(256 * e.val + l.val) % 256, by omega⟩ : Fin 256) = l := Fin.ext (by show (256 * e.val + l.val) % 256 = l.val; omega)
  show f (⟨(256 * e.val + l.val) / 256, by omega⟩ : Fin 4) (ix2 j (⟨(256 * e.val + l.val) % 256, by omega⟩ : Fin 256)) = _
  rw [e1, e2]

section
variable (m : (ℓ : Loc nD τ sig) → Buf (Elt Ideal) ℓ) (c : Dev nD)

/-- Block `t` of the queries: token `512·t + r`. -/
theorem blk0 (t : Fin cfg0.N) (r : Fin 512) (n : Fin 1024) (T : Fin 4096) (hT : T.val = 512 * t.val + r.val) :
    iblk m c 0 t (ix2 r n) = m ((c : Thread nD τ).loc main_arg0) (ix2 T n) := by
  unfold iblk
  rw [View.read_apply]
  show V m c main_arg0 _ = _
  rw [V_main_arg0]
  congr 1
  funext a
  apply Fin.ext
  have hi := idx0 t
  match a with
  | ⟨0, _⟩ => show win0_0.index t (0 : Fin 2) * 512 + 1 * r.val = T.val; rw [hi.1]; omega
  | ⟨1, _⟩ => show win0_0.index t (1 : Fin 2) * 1024 + 1 * n.val = n.val; rw [hi.2]; omega

/-- The keys and values, whole at every point. -/
theorem blk1 (t : Fin cfg0.N) (r : Fin 256) (n : Fin 2048) : iblk m c 1 t (ix2 r n) = m ((c : Thread nD τ).loc main_arg1) (ix2 r n) := by
  unfold iblk
  rw [View.read_apply]
  show V m c main_arg1 _ = _
  rw [V_main_arg1]
  congr 1
  funext a
  apply Fin.ext
  have hi := idx1 t
  match a with
  | ⟨0, _⟩ => show win0_1.index t (0 : Fin 2) * 256 + 1 * r.val = r.val; rw [hi.1]; omega
  | ⟨1, _⟩ => show win0_1.index t (1 : Fin 2) * 2048 + 1 * n.val = n.val; rw [hi.2]; omega

/-- The queries' gain. -/
theorem blk2 (t : Fin cfg0.N) (n : Fin 256) : iblk m c 2 t (ix2 0 n) = m ((c : Thread nD τ).loc main_arg2) (ix2 0 n) := by
  unfold iblk
  rw [View.read_apply]
  show V m c main_arg2 _ = _
  rw [V_main_arg2]
  congr 1
  funext a
  apply Fin.ext
  have hi := idx2 t
  match a with
  | ⟨0, _⟩ => show win0_2.index t (0 : Fin 2) * 1 + 1 * 0 = 0; rw [hi.1]
  | ⟨1, _⟩ => show win0_2.index t (1 : Fin 2) * 256 + 1 * n.val = n.val; rw [hi.2]; omega

/-- The keys' gain. -/
theorem blk3 (t : Fin cfg0.N) (n : Fin 256) : iblk m c 3 t (ix2 0 n) = m ((c : Thread nD τ).loc main_arg3) (ix2 0 n) := by
  unfold iblk
  rw [View.read_apply]
  show V m c main_arg3 _ = _
  rw [V_main_arg3]
  congr 1
  funext a
  apply Fin.ext
  have hi := idx3 t
  match a with
  | ⟨0, _⟩ => show win0_3.index t (0 : Fin 2) * 1 + 1 * 0 = 0; rw [hi.1]
  | ⟨1, _⟩ => show win0_3.index t (1 : Fin 2) * 256 + 1 * n.val = n.val; rw [hi.2]; omega

/-- Block `t` of the incoming gradient. -/
theorem blk4 (t : Fin cfg0.N) (r : Fin 512) (n : Fin 1024) (T : Fin 4096) (hT : T.val = 512 * t.val + r.val) :
    iblk m c 4 t (ix2 r n) = m ((c : Thread nD τ).loc main_arg4) (ix2 T n) := by
  unfold iblk
  rw [View.read_apply]
  show V m c main_arg4 _ = _
  rw [V_main_arg4]
  congr 1
  funext a
  apply Fin.ext
  have hi := idx4 t
  match a with
  | ⟨0, _⟩ => show win0_4.index t (0 : Fin 2) * 512 + 1 * r.val = T.val; rw [hi.1]; omega
  | ⟨1, _⟩ => show win0_4.index t (1 : Fin 2) * 1024 + 1 * n.val = n.val; rw [hi.2]; omega

/-- Block `t` of the attention's output, which the host computes. -/
theorem blk5 (t : Fin cfg0.N) (r : Fin 512) (n : Fin 1024) (T : Fin 4096) (hT : T.val = 512 * t.val + r.val) :
    iblk m c 5 t (ix2 r n) = V m c main_v48 (ix2 T n) := by
  unfold iblk
  rw [View.read_apply]
  show V m c main_v48 _ = _
  congr 1
  funext a
  apply Fin.ext
  have hi := idx5 t
  match a with
  | ⟨0, _⟩ => show win0_5.index t (0 : Fin 2) * 512 + 1 * r.val = T.val; rw [hi.1]; omega
  | ⟨1, _⟩ => show win0_5.index t (1 : Fin 2) * 1024 + 1 * n.val = n.val; rw [hi.2]; omega

variable (X : Fin 4096 → Fin 1024 → ℝ) (C : Fin 256 → Fin 2048 → ℝ) (g h : Fin 256 → ℝ) (Y : Fin 4096 → Fin 1024 → ℝ)
  (hX : ∀ T n, m ((c : Thread nD τ).loc main_arg0) (ix2 T n) = ((X T n : ℝ) : EReal))
  (hC : ∀ j n, m ((c : Thread nD τ).loc main_arg1) (ix2 j n) = ((C j n : ℝ) : EReal))
  (hg : ∀ l, m ((c : Thread nD τ).loc main_arg2) (ix2 0 l) = ((g l : ℝ) : EReal))
  (hh : ∀ l, m ((c : Thread nD τ).loc main_arg3) (ix2 0 l) = ((h l : ℝ) : EReal))
  (hY : ∀ T n, m ((c : Thread nD τ).loc main_arg4) (ix2 T n) = ((Y T n : ℝ) : EReal))
  (hO : ∀ (T : Fin 4096) (e : Fin 4) (l : Fin 256) (n : Fin 1024), n.val = 256 * e.val + l.val → V m c main_v48 (ix2 T n) = ((tO X C g h T e l : ℝ) : EReal))

/-- Row `r` of block `t`, as a token. -/
def tok (t : Fin cfg0.N) (r : Fin 512) : Fin 4096 := ⟨512 * t.val + r.val, by have := t.isLt; have : cfg0.N = 8 := N_0; omega⟩

include hX in
theorem q_at (t : Fin cfg0.N) (e : Fin 4) (r : Fin 512) (l : Fin 256) : qh (iblk m c 0 t) e (ix2 r l) = ((hq X (tok t r) e l : ℝ) : EReal) :=
  (blk0 m c t r _ (tok t r) rfl).trans (hX _ _)
include hC in
theorem k_at (t : Fin cfg0.N) (e : Fin 4) (r : Fin 256) (l : Fin 256) : kh (iblk m c 1 t) e (ix2 r l) = ((hk C e r l : ℝ) : EReal) :=
  (blk1 m c t r _).trans (hC _ _)
include hC in
theorem v_at (t : Fin cfg0.N) (e : Fin 4) (r : Fin 256) (l : Fin 256) : vh (iblk m c 1 t) e (ix2 r l) = ((hv C e r l : ℝ) : EReal) :=
  (blk1 m c t r _).trans (hC _ _)
include hY in
theorem d_at (t : Fin cfg0.N) (e : Fin 4) (r : Fin 512) (l : Fin 256) : qh (iblk m c 4 t) e (ix2 r l) = ((hq Y (tok t r) e l : ℝ) : EReal) :=
  (blk4 m c t r _ (tok t r) rfl).trans (hY _ _)
include hO in
theorem o_at (t : Fin cfg0.N) (e : Fin 4) (r : Fin 512) (l : Fin 256) : qh (iblk m c 5 t) e (ix2 r l)
    = ((∑ j, hv C e j l * P (hq X (tok t r) e) (hk C e) g h j : ℝ) : EReal) :=
  (blk5 m c t r _ (tok t r) rfl).trans (hO _ e l _ rfl)

include hX hC hg hh hY hO

/-- A block's query gradient. -/
theorem DQ_at (t : Fin cfg0.N) (e : Fin 4) (r : Fin 512) (l : Fin 256) :
    DQ (iblk m c 0 t) (iblk m c 1 t) (iblk m c 2 t) (iblk m c 3 t) (iblk m c 4 t) (iblk m c 5 t) e (ix2 r l)
      = ((rDQ X C g h Y (tok t r) e l : ℝ) : EReal) :=
  dq_apply _ _ _ _ _ _ _ g h (fun r => hq X (tok t r) e) (fun r => hq Y (tok t r) e) (hk C e) (hv C e)
    (fun l => (blk2 m c t l).trans (hg l)) (fun l => (blk3 m c t l).trans (hh l)) (q_at m c X hX t e) (k_at m c C hC t e) (v_at m c C hC t e)
    (d_at m c Y hY t e) (o_at m c X C g h hO t e) r l

/-- A block's part of the values' gradient, added. -/
theorem DV_at (t : Fin cfg0.N) (e : Fin 4) (j l : Fin 256) (xo : FVec Ideal S256x2048 .f32)
    (ho : vh (F := Ideal) xo e (ix2 j l) = ((upto (fun T => tP X C g h T e j * hq Y T e l) (512 * t.val) : ℝ) : EReal)) :
    DV (iblk m c 0 t) (iblk m c 1 t) (iblk m c 2 t) (iblk m c 3 t) (iblk m c 4 t) xo e (ix2 j l)
      = ((upto (fun T => tP X C g h T e j * hq Y T e l) (512 * (t.val + 1)) : ℝ) : EReal) := by
  refine (dv_apply _ _ _ _ _ g h (fun r => hq X (tok t r) e) (fun r => hq Y (tok t r) e) (hk C e)
    (fun l => (blk2 m c t l).trans (hg l)) (fun l => (blk3 m c t l).trans (hh l)) (q_at m c X hX t e) (k_at m c C hC t e)
    (d_at m c Y hY t e) (vh (F := Ideal) xo e) j l).trans ?_
  rw [ho, ← EReal.coe_add, upto_add _ t.val (lt_of_lt_of_eq t.isLt N_0)]
  rfl

/-- A block's part of what reaches the keys, added. -/
theorem DKN_at (t : Fin cfg0.N) (e : Fin 4) (j l : Fin 256) (xs : FVec Ideal S256x1024 .f32)
    (ho : sh (F := Ideal) xs e (ix2 j l) = ((upto (fun T => tS X C g h Y T e j * (nrm (hq X T e) l * g l)) (512 * t.val) * (1 / 16) : ℝ) : EReal)) :
    DKN (iblk m c 0 t) (iblk m c 1 t) (iblk m c 2 t) (iblk m c 3 t) (iblk m c 4 t) (iblk m c 5 t) xs e (ix2 j l)
      = ((upto (fun T => tS X C g h Y T e j * (nrm (hq X T e) l * g l)) (512 * (t.val + 1)) * (1 / 16) : ℝ) : EReal) := by
  refine (dkn_apply _ _ _ _ _ _ _ g h (fun r => hq X (tok t r) e) (fun r => hq Y (tok t r) e) (hk C e) (hv C e)
    (fun l => (blk2 m c t l).trans (hg l)) (fun l => (blk3 m c t l).trans (hh l)) (q_at m c X hX t e) (k_at m c C hC t e) (v_at m c C hC t e)
    (d_at m c Y hY t e) (o_at m c X C g h hO t e) (sh (F := Ideal) xs e) j l).trans ?_
  rw [ho, ← EReal.coe_add, upto_add _ t.val (lt_of_lt_of_eq t.isLt N_0), add_mul]
  rfl

/-- A block's part of the queries' gain's gradient, added. -/
theorem DQG_at (t : Fin cfg0.N) (e : Fin 4) (l : Fin 256) (acc : FVec Ideal S1x256 .f32) (a : ℝ) (ha : acc (ix2 0 l) = (a : EReal)) :
    DQG (iblk m c 0 t) (iblk m c 1 t) (iblk m c 2 t) (iblk m c 3 t) (iblk m c 4 t) (iblk m c 5 t) acc e (ix2 0 l)
      = ((a + ∑ r : Fin 512, tQN X C g h Y (tok t r) e l * nrm (hq X (tok t r) e) l : ℝ) : EReal) := by
  refine (dqg_apply _ _ _ _ _ _ _ g h (fun r => hq X (tok t r) e) (fun r => hq Y (tok t r) e) (hk C e) (hv C e)
    (fun l => (blk2 m c t l).trans (hg l)) (fun l => (blk3 m c t l).trans (hh l)) (q_at m c X hX t e) (k_at m c C hC t e) (v_at m c C hC t e)
    (d_at m c Y hY t e) (o_at m c X C g h hO t e) acc l).trans ?_
  rw [ha, ← EReal.coe_add]
  rfl

/-- The four heads' parts, over what the point before left. -/
theorem gain_at (t : Fin cfg0.N) (l : Fin 256) (xo : FVec Ideal S1x256 .f32)
    (ho : xo (ix2 0 l) = ((∑ e, upto (fun T => tQN X C g h Y T e l * nrm (hq X T e) l) (512 * t.val) : ℝ) : EReal)) :
    k0_pay1 (F := Ideal) (DQG (iblk m c 0 t) (iblk m c 1 t) (iblk m c 2 t) (iblk m c 3 t) (iblk m c 4 t) (iblk m c 5 t)
      (DQG (iblk m c 0 t) (iblk m c 1 t) (iblk m c 2 t) (iblk m c 3 t) (iblk m c 4 t) (iblk m c 5 t)
      (DQG (iblk m c 0 t) (iblk m c 1 t) (iblk m c 2 t) (iblk m c 3 t) (iblk m c 4 t) (iblk m c 5 t)
      (DQG (iblk m c 0 t) (iblk m c 1 t) (iblk m c 2 t) (iblk m c 3 t) (iblk m c 4 t) (iblk m c 5 t) k0_pay23 0) 1) 2) 3) xo (ix2 0 l)
      = ((∑ e, upto (fun T => tQN X C g h Y T e l * nrm (hq X T e) l) (512 * (t.val + 1)) : ℝ) : EReal) := by
  have a0 := DQG_at m c X C g h Y hX hC hg hh hY hO t 0 l k0_pay23 0 (zero23 _)
  have a1 := DQG_at m c X C g h Y hX hC hg hh hY hO t 1 l _ _ a0
  have a2 := DQG_at m c X C g h Y hX hC hg hh hY hO t 2 l _ _ a1
  have a3 := DQG_at m c X C g h Y hX hC hg hh hY hO t 3 l _ _ a2
  refine (add1 _ _ l).trans ?_
  rw [a3, ho, ← EReal.coe_add]
  congr 1
  simp only [upto_add _ t.val (lt_of_lt_of_eq t.isLt N_0), Fin.sum_univ_four]
  unfold tok
  ring
/-! ## What the points leave -/

/-- What point `n` leaves in the windows and the scratch: the sums over the tokens so far. -/
def Inv (n : ℕ) (hn : n < cfg0.N) : Prop :=
  (∀ (e : Fin 4) (j l : Fin 256) (k : Fin 2048), k.val = 1024 + 256 * e.val + l.val → (outsAt0 m c n hn).2.1 (ix2 j k)
    = ((upto (fun T => tP X C g h T e j * hq Y T e l) (512 * (n + 1)) : ℝ) : EReal))
  ∧ (∀ l : Fin 256, (outsAt0 m c n hn).2.2.1 (ix2 0 l)
    = ((∑ e, upto (fun T => tQN X C g h Y T e l * nrm (hq X T e) l) (512 * (n + 1)) : ℝ) : EReal))
  ∧ (∀ (e : Fin 4) (j l : Fin 256), sh (F := Ideal) (outsAt0 m c n hn).2.2.2.2 e (ix2 j l)
    = ((upto (fun T => tS X C g h Y T e j * (nrm (hq X T e) l * g l)) (512 * (n + 1)) * (1 / 16) : ℝ) : EReal))

theorem inv_first (hn : 0 < cfg0.N) : Inv m c X C g h Y 0 hn := by
  have e := outsAt0_A m c ⟨0, hn⟩ rfl (show ¬ 0 % 8 = 7 by decide)
  unfold Inv
  refine ⟨fun e' j l k hk => ?_, fun l => ?_, fun e' j l => ?_⟩
  · refine (congrFun (congrArg (fun x => x.2.1) e) _).trans ?_
    dsimp only
    rw [out7_A (h := e') (r := j) (l := l) (hn := hk)]
    refine DV_at m c X C g h Y hX hC hg hh hY hO ⟨0, hn⟩ e' j l _ ?_
    exact zero19 _
  · refine (congrFun (congrArg (fun x => x.2.2.1) e) _).trans ?_
    dsimp only
    rw [out8_A]
    refine gain_at m c X C g h Y hX hC hg hh hY hO ⟨0, hn⟩ l _ ?_
    refine (zero21 _).trans ?_
    simp [upto_zero]
  · refine (congrFun (congrArg (fun x => sh (F := Ideal) x.2.2.2.2 e') e) _).trans ?_
    dsimp only
    rw [scr_A, slab_sh]
    refine DKN_at m c X C g h Y hX hC hg hh hY hO ⟨0, hn⟩ e' j l _ ?_
    refine (zero20 _).trans ?_
    simp [upto_zero]

theorem inv_next (n : ℕ) (hn : n + 1 < cfg0.N) (ih : Inv m c X C g h Y n (Nat.lt_of_succ_lt hn)) : Inv m c X C g h Y (n + 1) hn := by
  have hN : cfg0.N = 8 := N_0
  have h0 : ¬ (n + 1) % 8 = 0 := by omega
  obtain ⟨i7, i8, is⟩ := ih
  by_cases h1 : (n + 1) % 8 = 7
  · have e := outsAt0_C m c ⟨n + 1, hn⟩ h0 h1
    refine ⟨fun e' j l k hk => ?_, fun l => ?_, fun e' j l => ?_⟩
    · refine (congrFun (congrArg (fun x => x.2.1) e) _).trans ?_
      dsimp only
      rw [out7_C (h := e') (r := j) (l := l) (hn := hk)]
      exact DV_at m c X C g h Y hX hC hg hh hY hO ⟨n + 1, hn⟩ e' j l _ (i7 e' j l _ rfl)
    · refine (congrFun (congrArg (fun x => x.2.2.1) e) _).trans ?_
      dsimp only
      rw [out8_C]
      exact gain_at m c X C g h Y hX hC hg hh hY hO ⟨n + 1, hn⟩ l _ (i8 l)
    · refine (congrFun (congrArg (fun x => sh (F := Ideal) x.2.2.2.2 e') e) _).trans ?_
      dsimp only
      rw [scr_C, slab_sh]
      exact DKN_at m c X C g h Y hX hC hg hh hY hO ⟨n + 1, hn⟩ e' j l _ (is e' j l)
  · have e := outsAt0_B m c ⟨n + 1, hn⟩ h0 h1
    refine ⟨fun e' j l k hk => ?_, fun l => ?_, fun e' j l => ?_⟩
    · refine (congrFun (congrArg (fun x => x.2.1) e) _).trans ?_
      dsimp only
      rw [out7_B (h := e') (r := j) (l := l) (hn := hk)]
      exact DV_at m c X C g h Y hX hC hg hh hY hO ⟨n + 1, hn⟩ e' j l _ (i7 e' j l _ rfl)
    · refine (congrFun (congrArg (fun x => x.2.2.1) e) _).trans ?_
      dsimp only
      rw [out8_B]
      exact gain_at m c X C g h Y hX hC hg hh hY hO ⟨n + 1, hn⟩ l _ (i8 l)
    · refine (congrFun (congrArg (fun x => sh (F := Ideal) x.2.2.2.2 e') e) _).trans ?_
      dsimp only
      rw [scr_B, slab_sh]
      exact DKN_at m c X C g h Y hX hC hg hh hY hO ⟨n + 1, hn⟩ e' j l _ (is e' j l)

theorem inv_all (n : ℕ) : ∀ hn : n < cfg0.N, Inv m c X C g h Y n hn := by
  induction n with
  | zero => exact inv_first m c X C g h Y hX hC hg hh hY hO
  | succ n ih => exact fun hn => inv_next m c X C g h Y hX hC hg hh hY hO n hn (ih _)

/-! ## The arrays -/

/-- The queries' gradient. -/
theorem g6_eq (T : Fin 4096) (e : Fin 4) (l : Fin 256) (k : Fin 1024) (hk : k.val = 256 * e.val + l.val) :
    G6 m c (ix2 T k) = ((rDQ X C g h Y T e l : ℝ) : EReal) := by
  have hT := T.isLt
  have hl := l.isLt
  have hN : cfg0.N = 8 := N_0
  have hp : pt6Of (ix2 T k) = T.val / 512 := by
    show 1 * (T.val / 512 - 0) + 1 * (k.val / 1024 - 0) = _; omega
  have hlt : pt6Of (ix2 T k) < cfg0.N := by rw [hp, hN]; omega
  unfold G6
  rw [dif_pos hlt, ← outsAt0_sweep m c _ hlt]
  have key : (outsAt0 m c (pt6Of (ix2 T k)) hlt).1 = slab (N := 512) (DQ (iblk m c 0 ⟨_, hlt⟩) (iblk m c 1 ⟨_, hlt⟩) (iblk m c 2 ⟨_, hlt⟩) (iblk m c 3 ⟨_, hlt⟩) (iblk m c 4 ⟨_, hlt⟩) (iblk m c 5 ⟨_, hlt⟩)) := by
    by_cases h0 : pt6Of (ix2 T k) % 8 = 0
    · have e := outsAt0_A m c ⟨_, hlt⟩ h0 (show ¬ pt6Of (ix2 T k) % 8 = 7 by omega)
      refine (congrArg (fun x => x.1) e).trans ?_
      dsimp only; rw [out6_A]
    · by_cases h1 : pt6Of (ix2 T k) % 8 = 7
      · have e := outsAt0_C m c ⟨_, hlt⟩ h0 h1
        refine (congrArg (fun x => x.1) e).trans ?_
        dsimp only; rw [out6_C]
      · have e := outsAt0_B m c ⟨_, hlt⟩ h0 h1
        refine (congrArg (fun x => x.1) e).trans ?_
        dsimp only; rw [out6_B]
  rw [key]
  have e1 : (⟨k.val % 1024 / 256, by omega⟩ : Fin 4) = e := Fin.ext (by show k.val % 1024 / 256 = e.val; omega)
  have e2 : (⟨k.val % 1024 % 256, by omega⟩ : Fin 256) = l := Fin.ext (by show k.val % 1024 % 256 = l.val; omega)
  have e3 : tok ⟨_, hlt⟩ (⟨T.val % 512, by omega⟩ : Fin 512) = T := Fin.ext (by show 512 * pt6Of (ix2 T k) + T.val % 512 = T.val; omega)
  refine (DQ_at m c X C g h Y hX hC hg hh hY hO ⟨_, hlt⟩ (⟨k.val % 1024 / 256, by omega⟩ : Fin 4) (⟨T.val % 512, by omega⟩ : Fin 512) (⟨k.val % 1024 % 256, by omega⟩ : Fin 256)).trans ?_
  rw [e1, e2, e3]

/-- The values' gradient. -/
theorem g7v_eq (e : Fin 4) (j l : Fin 256) (k : Fin 2048) (hk : k.val = 1024 + 256 * e.val + l.val) :
    G7 m c (ix2 j k) = ((rDV X C g h Y e j l : ℝ) : EReal) := by
  have hj := j.isLt
  have hl := l.isLt
  have he := e.isLt
  have hN : cfg0.N = 8 := N_0
  have hp : pt7Of (ix2 j k) = 7 := by
    show 8 * (1 * (j.val / 256 - 0) + 1 * (k.val / 2048 - 0)) + 7 = _; omega
  have hloc : loc7Of (ix2 j k) = ix2 j k := funext fun a => Fin.ext (by
    match a with
    | ⟨0, _⟩ => show j.val % 256 = j.val; omega
    | ⟨1, _⟩ => show k.val % 2048 = k.val; omega)
  have hlt : pt7Of (ix2 j k) < cfg0.N := by rw [hp, hN]; omega
  unfold G7
  rw [dif_pos hlt, ← outsAt0_sweep m c _ hlt, hloc]
  refine ((inv_all m c X C g h Y hX hC hg hh hY hO _ hlt).1 e j l k hk).trans ?_
  rw [hp, show 512 * (7 + 1) = 4096 from rfl, upto_all]
  rfl

/-- What reaches the keys, after the last point's addition. -/
theorem last_dn (n : ℕ) (hn : n + 1 < cfg0.N) (h7 : n + 1 = 7) (e : Fin 4) (j l : Fin 256) :
    DKN (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
      (outsAt0 m c n (Nat.lt_of_succ_lt hn)).2.2.2.2 e (ix2 j l) = ((rDN X C g h Y e j l : ℝ) : EReal) := by
  refine (DKN_at m c X C g h Y hX hC hg hh hY hO ⟨n + 1, hn⟩ e j l _ ((inv_all m c X C g h Y hX hC hg hh hY hO n (Nat.lt_of_succ_lt hn)).2.2 e j l)).trans ?_
  rw [show 512 * ((⟨n + 1, hn⟩ : Fin cfg0.N).val + 1) = 4096 by show 512 * (n + 1 + 1) = 4096; omega, upto_all]
  rfl

/-- What the last point leaves where the keys' gradient stands. -/
theorem last_dk (n : ℕ) (hn : n + 1 < cfg0.N) (h7 : n + 1 = 7) (p : ℕ) (hp : p = n + 1) (hlt : p < cfg0.N) (e : Fin 4) (j l : Fin 256) (k : Fin 2048) (hk : k.val = 256 * e.val + l.val) :
    (outsAt0 m c p hlt).2.1 (ix2 j k) = ((rDK X C g h Y e j l : ℝ) : EReal) := by
  subst hp
  have e0 := outsAt0_C m c ⟨n + 1, hn⟩ (show ¬ (n + 1) % 8 = 0 by omega) (show (n + 1) % 8 = 7 by omega)
  refine (congrFun (congrArg (fun x => x.2.1) e0) _).trans ?_
  dsimp only
  rw [out7k_C (h := e) (r := j) (l := l) (hn := hk)]
  exact dk_apply _ _ h (Cert.AttnReal.hk C e) (fun l => (blk3 m c ⟨n + 1, hn⟩ l).trans (hh l)) (k_at m c C hC ⟨n + 1, hn⟩ e) _ (rDN X C g h Y e)
    (last_dn m c X C g h Y hX hC hg hh hY hO n hn h7 e) j l

/-- What the last point leaves in the keys' gain's window. -/
theorem last_dkg (n : ℕ) (hn : n + 1 < cfg0.N) (h7 : n + 1 = 7) (p : ℕ) (hp : p = n + 1) (hlt : p < cfg0.N) (l : Fin 256) :
    (outsAt0 m c p hlt).2.2.2.1 (ix2 0 l) = ((rDKG X C g h Y l : ℝ) : EReal) := by
  subst hp
  have e0 := outsAt0_C m c ⟨n + 1, hn⟩ (show ¬ (n + 1) % 8 = 0 by omega) (show (n + 1) % 8 = 7 by omega)
  refine (congrFun (congrArg (fun x => x.2.2.2.1) e0) _).trans ?_
  dsimp only
  rw [out9_C]
  have step := fun (e : Fin 4) (acc : FVec Ideal S1x256 .f32) => dkg_apply _ (hk C e) (k_at m c C hC ⟨n + 1, hn⟩ e) _ (rDN X C g h Y e)
    (last_dn m c X C g h Y hX hC hg hh hY hO n hn h7 e) acc l
  refine (step 3 _).trans ?_
  have s2 := fun acc => step 2 acc
  refine (congrArg (· + _) ((step 2 _).trans (congrArg (· + _) ((step 1 _).trans (congrArg (· + _) (step 0 _)))))).trans ?_
  rw [zero23]
  simp only [← EReal.coe_zero, ← EReal.coe_add]
  congr 1
  unfold rDKG
  rw [Fin.sum_univ_four, zero_add]

/-- The keys' gradient. -/
theorem g7k_eq (e : Fin 4) (j l : Fin 256) (k : Fin 2048) (hk : k.val = 256 * e.val + l.val) :
    G7 m c (ix2 j k) = ((rDK X C g h Y e j l : ℝ) : EReal) := by
  have hj := j.isLt
  have hl := l.isLt
  have he := e.isLt
  have hN : cfg0.N = 8 := N_0
  have hp : pt7Of (ix2 j k) = 7 := by
    show 8 * (1 * (j.val / 256 - 0) + 1 * (k.val / 2048 - 0)) + 7 = _; omega
  have hloc : loc7Of (ix2 j k) = ix2 j k := funext fun a => Fin.ext (by
    match a with
    | ⟨0, _⟩ => show j.val % 256 = j.val; omega
    | ⟨1, _⟩ => show k.val % 2048 = k.val; omega)
  have hlt : 7 < cfg0.N := by rw [hN]; omega
  unfold G7
  rw [dif_pos (show pt7Of (ix2 j k) < cfg0.N by rw [hp]; exact hlt), ← outsAt0_sweep m c _ (show pt7Of (ix2 j k) < cfg0.N by rw [hp]; exact hlt), hloc]
  exact last_dk m c X C g h Y hX hC hg hh hY hO 6 hlt rfl _ hp _ e j l k hk

/-- The queries' gain's gradient. -/
theorem g8_eq (l : Fin 256) : G8 m c (ix2 0 l) = ((rDQG X C g h Y l : ℝ) : EReal) := by
  have hl := l.isLt
  have hN : cfg0.N = 8 := N_0
  have hp : pt8Of (ix2 0 l) = 7 := by
    show 8 * (1 * (0 / 1 - 0) + 1 * (l.val / 256 - 0)) + 7 = _; omega
  have hloc : loc8Of (ix2 0 l) = ix2 0 l := funext fun a => Fin.ext (by
    match a with
    | ⟨0, _⟩ => rfl
    | ⟨1, _⟩ => show l.val % 256 = l.val; omega)
  have hlt : pt8Of (ix2 0 l) < cfg0.N := by rw [hp, hN]; omega
  unfold G8
  rw [dif_pos hlt, ← outsAt0_sweep m c _ hlt, hloc]
  refine ((inv_all m c X C g h Y hX hC hg hh hY hO _ hlt).2.1 l).trans ?_
  rw [hp, show 512 * (7 + 1) = 4096 from rfl]
  simp only [upto_all]
  rfl

/-- The keys' gain's gradient. -/
theorem g9_eq (l : Fin 256) : G9 m c (ix2 0 l) = ((rDKG X C g h Y l : ℝ) : EReal) := by
  have hl := l.isLt
  have hN : cfg0.N = 8 := N_0
  have hp : pt9Of (ix2 0 l) = 7 := by
    show 8 * (1 * (0 / 1 - 0) + 1 * (l.val / 256 - 0)) + 7 = _; omega
  have hloc : loc9Of (ix2 0 l) = ix2 0 l := funext fun a => Fin.ext (by
    match a with
    | ⟨0, _⟩ => rfl
    | ⟨1, _⟩ => show l.val % 256 = l.val; omega)
  have hlt : 7 < cfg0.N := by rw [hN]; omega
  unfold G9
  rw [dif_pos (show pt9Of (ix2 0 l) < cfg0.N by rw [hp]; exact hlt), ← outsAt0_sweep m c _ (show pt9Of (ix2 0 l) < cfg0.N by rw [hp]; exact hlt), hloc]
  exact last_dkg m c X C g h Y hX hC hg hh hY hO 6 hlt rfl _ hp _ l
end

end Cert.KernelIdeal.Closed

end
-- ==== Proof.AttnNorm.lean ====
/-
  Hand-written, untrusted. The attention-gradient reference's four results, read entry by entry where its arguments hold reals: the
  functions of `AttnReal`.
-/
module

public import proofs.«01_k».proof.Proof.Gen.ReferenceIdeal.Read
public import proofs.«01_k».proof.Proof.AttnReal
public import Idealize.ShloMosaic.Lib.Pointwise

@[expose] public section

set_option maxRecDepth 16384

noncomputable section

namespace Cert.ReferenceIdeal.RefValue

open Idealize.ShloMosaic Idealize.SL.Sem Cert.ReferenceIdeal Cert.ReferenceIdeal.Gen Cert.ReferenceIdeal.Read Idealize.ShloMosaic.TcCoe
open Cert.AttnReal Cert.Reals

/-- A host sum over the two leading axes. -/
theorem sum01 {A B N : ℕ} (h : Shape.ReducesTo ⟨3, ![A, B, N]⟩ [0, 1] ⟨1, ![N]⟩) (x : (⟨3, ![A, B, N]⟩ : Shape).Idx → EReal) (z : EReal) (l : Fin N) :
    Ideal.hostReduceAdd h x z (ix1 l) = z + ∑ a : Fin A, ∑ b : Fin B, x (ix3 a b l) := by
  unfold Ideal.hostReduceAdd
  congr 1
  rw [← Finset.sum_product']
  refine (Finset.sum_nbij' (fun p => ix3 p.1 p.2 l) (fun i => (i 0, i 1)) ?_ ?_ ?_ ?_ ?_).symm
  · intro p _
    refine Finset.mem_filter.mpr ⟨Finset.mem_univ _, funext fun a => Fin.ext ?_⟩
    match a with
    | ⟨0, _⟩ => exact Shape.ReducesTo.drop_apply_val h _ 0
  · intro i _
    exact Finset.mem_product.mpr ⟨Finset.mem_univ _, Finset.mem_univ _⟩
  · intro p _
    rfl
  · intro i hi
    have hd := congrFun (Finset.mem_filter.mp hi).2 0
    have hv : (h.drop i 0 : ℕ) = (i 2 : ℕ) := Shape.ReducesTo.drop_apply_val h i 0
    refine funext fun a => Fin.ext ?_
    match a with
    | ⟨0, _⟩ => rfl
    | ⟨1, _⟩ => rfl
    | ⟨2, _⟩ => exact (congrArg Fin.val hd).symm.trans hv
  · intro p _
    rfl

section
variable (x0 : FVec Ideal S4096x1024 .f32) (x1 : FVec Ideal S256x2048 .f32) (x2 x3 : FVec Ideal S1x256 .f32) (x4 : FVec Ideal S4096x1024 .f32)
  (X : Fin 4096 → Fin 1024 → ℝ) (C : Fin 256 → Fin 2048 → ℝ) (g h : Fin 256 → ℝ) (Y : Fin 4096 → Fin 1024 → ℝ)
  (hX : ∀ T n, x0 (ix2 T n) = ((X T n : ℝ) : EReal)) (hC : ∀ j n, x1 (ix2 j n) = ((C j n : ℝ) : EReal))
  (hg : ∀ l, x2 (ix2 0 l) = ((g l : ℝ) : EReal)) (hh : ∀ l, x3 (ix2 0 l) = ((h l : ℝ) : EReal)) (hY : ∀ T n, x4 (ix2 T n) = ((Y T n : ℝ) : EReal))

/-! ## Normalisation -/

include hX in
theorem v0 (T : Fin 4096) (e : Fin 4) (l : Fin 256) : val_main_v0 (F := Ideal) x0 (ix3 T e l) = ((hq X T e l : ℝ) : EReal) := by
  pointwise [val_main_v0]
  rw [hX]
  simp only [hq, mul_comm]

include hC in
theorem v19 (j : Fin 256) (e : Fin 4) (l : Fin 256) : val_main_v19 (F := Ideal) x1 (ix3 j e l) = ((hk C e j l : ℝ) : EReal) := by
  pointwise [val_main_v19, val_main_v18, val_main_v17]
  rw [hC]
  simp only [hk, mul_comm]

include hC in
theorem v37 (j : Fin 256) (e : Fin 4) (l : Fin 256) : val_main_v37 (F := Ideal) x1 (ix3 j e l) = ((hv C e j l : ℝ) : EReal) := by
  pointwise [val_main_v37, val_main_v36, val_main_v17]
  rw [hC]
  simp only [hv, mul_comm]

include hX in
theorem v7 (T : Fin 4096) (e : Fin 4) : val_main_v7 (F := Ideal) x0 (ix3 T e 0) = ((ms (hq X T e) : ℝ) : EReal) := by
  pointwise [val_main_v7, val_main_v6, val_main_v5, val_main_v4, val_main_v3, val_main_v2, val_main_v1, val_main_cst, val_main_cst_0, val_main_cst_1]
  simp only [v0 x0 X hX, ← EReal.coe_mul, coe_sum, ofBits_256, ofBits_eps]
  rw [Ideal.div_coe (by norm_num), ← EReal.coe_mul, ← EReal.coe_add]
  rfl

include hX in
theorem v8 (T : Fin 4096) (e : Fin 4) : val_main_v8 (F := Ideal) x0 (ix3 T e 0) = ((inv (hq X T e) : ℝ) : EReal) := by
  pointwise [val_main_v8, val_main_v7, val_main_v6, val_main_v5, val_main_v4, val_main_v3, val_main_v2, val_main_v1, val_main_cst, val_main_cst_0, val_main_cst_1]
  simp only [v0 x0 X hX, ← EReal.coe_mul, coe_sum, ofBits_256, ofBits_eps, rsqrt_ms]

include hX in
theorem v11 (T : Fin 4096) (e : Fin 4) (z : Fin 1) : val_main_v11 (F := Ideal) x0 (ix3 T e z) = ((-(1 / 2) * (inv (hq X T e) * (1 / ms (hq X T e))) : ℝ) : EReal) := by
  obtain rfl : z = 0 := Subsingleton.elim _ _
  pointwise [val_main_v11, val_main_v10, val_main_v9, val_main_cst_2]
  rw [v7 x0 X hX, v8 x0 X hX, Ideal.div_coe (ms_pos _).ne']
  simp only [ofBits_neg_half, ← EReal.coe_mul]

include hC in
theorem v26 (j : Fin 256) (e : Fin 4) : val_main_v26 (F := Ideal) x1 (ix3 j e 0) = ((ms (hk C e j) : ℝ) : EReal) := by
  pointwise [val_main_v26, val_main_v25, val_main_v24, val_main_v23, val_main_v22, val_main_v21, val_main_v20, val_main_cst_3, val_main_cst_4, val_main_cst_5]
  simp only [v19 x1 C hC, ← EReal.coe_mul, coe_sum, ofBits_256, ofBits_eps]
  rw [Ideal.div_coe (by norm_num), ← EReal.coe_mul, ← EReal.coe_add]
  rfl

include hC in
theorem v27 (j : Fin 256) (e : Fin 4) : val_main_v27 (F := Ideal) x1 (ix3 j e 0) = ((inv (hk C e j) : ℝ) : EReal) := by
  pointwise [val_main_v27, val_main_v26, val_main_v25, val_main_v24, val_main_v23, val_main_v22, val_main_v21, val_main_v20, val_main_cst_3, val_main_cst_4, val_main_cst_5]
  simp only [v19 x1 C hC, ← EReal.coe_mul, coe_sum, ofBits_256, ofBits_eps, rsqrt_ms]

include hC in
theorem v30 (j : Fin 256) (e : Fin 4) (z : Fin 1) : val_main_v30 (F := Ideal) x1 (ix3 j e z) = ((-(1 / 2) * (inv (hk C e j) * (1 / ms (hk C e j))) : ℝ) : EReal) := by
  obtain rfl : z = 0 := Subsingleton.elim _ _
  pointwise [val_main_v30, val_main_v29, val_main_v28, val_main_cst_6]
  rw [v26 x1 C hC, v27 x1 C hC, Ideal.div_coe (ms_pos _).ne']
  simp only [ofBits_neg_half, ← EReal.coe_mul]

include hX in
theorem v13 (T : Fin 4096) (e : Fin 4) (l : Fin 256) : val_main_v13 (F := Ideal) x0 (ix3 T e l) = ((nrm (hq X T e) l : ℝ) : EReal) := by
  pointwise [val_main_v13, val_main_v12]
  simp only [v0 x0 X hX, v8 x0 X hX, ← EReal.coe_mul]
  rfl

include hX hg in
theorem v16 (T : Fin 4096) (e : Fin 4) (l : Fin 256) : val_main_v16 (F := Ideal) x0 x2 (ix3 T e l) = ((nrm (hq X T e) l * g l : ℝ) : EReal) := by
  pointwise [val_main_v16, val_main_v15, val_main_v14]
  simp only [v13 x0 X hX, hg, ← EReal.coe_mul]

include hC in
theorem v32 (j : Fin 256) (e : Fin 4) (l : Fin 256) : val_main_v32 (F := Ideal) x1 (ix3 j e l) = ((nrm (hk C e j) l : ℝ) : EReal) := by
  pointwise [val_main_v32, val_main_v31]
  simp only [v19 x1 C hC, v27 x1 C hC, ← EReal.coe_mul]
  rfl

include hC hh in
theorem v35 (j : Fin 256) (e : Fin 4) (l : Fin 256) : val_main_v35 (F := Ideal) x1 x3 (ix3 j e l) = ((nrm (hk C e j) l * h l : ℝ) : EReal) := by
  pointwise [val_main_v35, val_main_v34, val_main_v33]
  simp only [v32 x1 C hC, hh, ← EReal.coe_mul]

/-! ## Softmax -/

include hX hC hg hh

theorem v40 (e : Fin 4) (T : Fin 4096) (j : Fin 256) : val_main_v40 (F := Ideal) x0 x1 x2 x3 (ix3 e T j)
    = ((score (hq X T e) (hk C e) g h j * (1 / 16) : ℝ) : EReal) := by
  pointwise [val_main_v40, val_main_v39, val_main_v38, val_main_cst_7]
  simp only [v16 x0 x2 X g hX hg, v35 x1 x3 C h hC hh, ofBits_16th, ← EReal.coe_mul, coe_sum]
  rfl

end

end Cert.ReferenceIdeal.RefValue

end
-- ==== Proof.AttnSoft.lean ====
/-
  Hand-written, untrusted. The attention-gradient reference's four results, read entry by entry where its arguments hold reals: the
  functions of `AttnReal`.
-/
module

public import proofs.«01_k».proof.Proof.AttnNorm
public import Idealize.ShloMosaic.Lib.Pointwise

@[expose] public section

set_option maxRecDepth 16384

noncomputable section

namespace Cert.ReferenceIdeal.RefValue

open Idealize.ShloMosaic Idealize.SL.Sem Cert.ReferenceIdeal Cert.ReferenceIdeal.Gen Cert.ReferenceIdeal.Read Idealize.ShloMosaic.TcCoe
open Cert.AttnReal Cert.Reals

/-- A maximum over the last axis, at an index. -/
theorem max_read (x : FVec Ideal S4x4096x256 .f32) (z : FVec Ideal S_ .f32) (e : Fin 4) (T : Fin 4096) :
    Host.reduce (FloatOps.maximumf (F := Ideal) (φ := .f32)) x z reducesTo_S4x4096x256_S4x4096_d2 h_S_ (ix2 e T)
      = Finset.fold (FloatOps.maximumf (F := Ideal) (φ := .f32)) (z (Shape.Idx.first h_S_)) (fun k : Fin 256 => x (ix3 e T k)) Finset.univ := by
  pointwise

section
variable (x0 : FVec Ideal S4096x1024 .f32) (x1 : FVec Ideal S256x2048 .f32) (x2 x3 : FVec Ideal S1x256 .f32) (x4 : FVec Ideal S4096x1024 .f32)
  (X : Fin 4096 → Fin 1024 → ℝ) (C : Fin 256 → Fin 2048 → ℝ) (g h : Fin 256 → ℝ) (Y : Fin 4096 → Fin 1024 → ℝ)
  (hX : ∀ T n, x0 (ix2 T n) = ((X T n : ℝ) : EReal)) (hC : ∀ j n, x1 (ix2 j n) = ((C j n : ℝ) : EReal))
  (hg : ∀ l, x2 (ix2 0 l) = ((g l : ℝ) : EReal)) (hh : ∀ l, x3 (ix2 0 l) = ((h l : ℝ) : EReal)) (hY : ∀ T n, x4 (ix2 T n) = ((Y T n : ℝ) : EReal))

include hX hC hg hh

theorem v48 (e : Fin 4) (T : Fin 4096) : ∃ M : ℝ, val_main_v48 (F := Ideal) x0 x1 x2 x3 (ix2 e T) = ((M : ℝ) : EReal) := by
  obtain ⟨M, hM⟩ := fold_max (fun j => score (hq X T e) (hk C e) g h j * (1 / 16))
  refine ⟨M, ?_⟩
  rw [val_main_v48_apply]
  unfold val_main_v41
  rw [max_read, val_main_v47_apply]
  simp only [v40 x0 x1 x2 x3 X C g h hX hC hg hh, val_main_cst_10_apply, val_main_cst_8_apply]
  rw [show (FloatOps.ofBits (F := Ideal) FTy.f32 4286578688#32) = (⊥ : EReal) from ofBits_neg_inf]
  exact (congrArg (max ⊥) hM).trans (max_eq_right bot_le)

theorem v60 (e : Fin 4) (T : Fin 4096) (M : ℝ) (hM : val_main_v48 (F := Ideal) x0 x1 x2 x3 (ix2 e T) = ((M : ℝ) : EReal)) (j : Fin 256) :
    val_main_v61 (F := Ideal) x0 x1 x2 x3 (ix3 e T j) = ((Real.exp (score (hq X T e) (hk C e) g h j * (1 / 16) - M) : ℝ) : EReal) := by
  pointwise [val_main_v61, val_main_v60, val_main_v59, val_main_v58]
  rw [hM, v40 x0 x1 x2 x3 X C g h hX hC hg hh, ← EReal.coe_sub, Ideal.exp_coe]

/-- The scores after the maximum is taken off, and their exponentials' sum. -/
theorem v61 (e : Fin 4) (T : Fin 4096) : ∃ M : ℝ,
    (∀ j, val_main_v61 (F := Ideal) x0 x1 x2 x3 (ix3 e T j) = ((Real.exp (score (hq X T e) (hk C e) g h j * (1 / 16) - M) : ℝ) : EReal))
    ∧ val_main_v63 (F := Ideal) x0 x1 x2 x3 (ix3 e T 0) = ((∑ j, Real.exp (score (hq X T e) (hk C e) g h j * (1 / 16) - M) : ℝ) : EReal) := by
  obtain ⟨M, hM⟩ := v48 x0 x1 x2 x3 X C g h hX hC hg hh e T
  have h61 := v60 x0 x1 x2 x3 X C g h hX hC hg hh e T M hM
  refine ⟨M, h61, ?_⟩
  pointwise [val_main_v63, val_main_v62, val_main_cst_16]
  simp only [h61, coe_sum]

end

end Cert.ReferenceIdeal.RefValue

end
-- ==== Proof.AttnRef.lean ====
/-
  Hand-written, untrusted. The attention-gradient reference's four results, read entry by entry where its arguments hold reals: the
  functions of `AttnReal`.
-/
module

public import proofs.«01_k».proof.Proof.AttnSoft
public import Idealize.ShloMosaic.Lib.Pointwise

@[expose] public section

set_option maxRecDepth 16384

noncomputable section

namespace Cert.ReferenceIdeal.RefValue

open Idealize.ShloMosaic Idealize.SL.Sem Cert.ReferenceIdeal Cert.ReferenceIdeal.Gen Cert.ReferenceIdeal.Read Idealize.ShloMosaic.TcCoe
open Cert.AttnReal Cert.Reals

section
variable (x0 : FVec Ideal S4096x1024 .f32) (x1 : FVec Ideal S256x2048 .f32) (x2 x3 : FVec Ideal S1x256 .f32) (x4 : FVec Ideal S4096x1024 .f32)
  (X : Fin 4096 → Fin 1024 → ℝ) (C : Fin 256 → Fin 2048 → ℝ) (g h : Fin 256 → ℝ) (Y : Fin 4096 → Fin 1024 → ℝ)
  (hX : ∀ T n, x0 (ix2 T n) = ((X T n : ℝ) : EReal)) (hC : ∀ j n, x1 (ix2 j n) = ((C j n : ℝ) : EReal))
  (hg : ∀ l, x2 (ix2 0 l) = ((g l : ℝ) : EReal)) (hh : ∀ l, x3 (ix2 0 l) = ((h l : ℝ) : EReal)) (hY : ∀ T n, x4 (ix2 T n) = ((Y T n : ℝ) : EReal))

include hX hC hg hh

theorem v65 (e : Fin 4) (T : Fin 4096) (j : Fin 256) : val_main_v65 (F := Ideal) x0 x1 x2 x3 (ix3 e T j) = ((tP X C g h T e j : ℝ) : EReal) := by
  obtain ⟨M, h61, h63⟩ := v61 x0 x1 x2 x3 X C g h hX hC hg hh e T
  pointwise [val_main_v65, val_main_v64]
  rw [h61, h63, Ideal.div_coe (sum_exp_pos fun x => score (hq X T e) (hk C e) g h x * (1 / 16) - M).ne', ← EReal.coe_mul, ← div_eq_mul_one_div]
  exact congrArg _ (soft_shift (fun x => score (hq X T e) (hk C e) g h x * (1 / 16)) M j)

/-- The attention's output. -/
theorem v71 (T : Fin 4096) (e : Fin 4) (l : Fin 256) (n : Fin 1024) (hn : n.val = 256 * e.val + l.val) :
    val_main_v71 (F := Ideal) x0 x1 x2 x3 (ix2 T n) = ((tO X C g h T e l : ℝ) : EReal) := by
  pointwise [val_main_v71, val_main_v70, val_main_v69]
  simp only [v37 x1 C hC, v65 x0 x1 x2 x3 X C g h hX hC hg hh, ← EReal.coe_mul, coe_sum]
  have e1 : (⟨n.val / 256, by omega⟩ : Fin 4) = e := Fin.ext (by show n.val / 256 = e.val; omega)
  have e2 : (⟨n.val % 256, by omega⟩ : Fin 256) = l := Fin.ext (by show n.val % 256 = l.val; omega)
  rw [e1, e2]
  rfl

include hY

theorem v74 (e : Fin 4) (T : Fin 4096) (j : Fin 256) : val_main_v74 (F := Ideal) x1 x4 (ix3 e T j) = ((dP (hv C e) (hq Y T e) j : ℝ) : EReal) := by
  have h0 := v0 x4 Y hY
  pointwise [val_main_v74, val_main_v73, val_main_v72]
  simp only [v37 x1 C hC, hY, ← EReal.coe_mul, coe_sum]
  simp only [dP, hq, mul_comm]

/-- The values' gradient. -/
theorem v76 (j : Fin 256) (e : Fin 4) (l : Fin 256) : val_main_v76 (F := Ideal) x0 x1 x2 x3 x4 (ix3 j e l) = ((rDV X C g h Y e j l : ℝ) : EReal) := by
  pointwise [val_main_v76, val_main_v75, val_main_v73, val_main_v72]
  simp only [v65 x0 x1 x2 x3 X C g h hX hC hg hh, hY, ← EReal.coe_mul, coe_sum]
  simp only [rDV, hq, mul_comm]

theorem v90 (e : Fin 4) (T : Fin 4096) (j : Fin 256) : val_main_v90 (F := Ideal) x0 x1 x2 x3 x4 (ix3 e T j) = ((tS X C g h Y T e j * (1 / 16) : ℝ) : EReal) := by
  obtain ⟨M, h61, h63⟩ := v61 x0 x1 x2 x3 X C g h hX hC hg hh e T
  have hZ := sum_exp_pos fun x => score (hq X T e) (hk C e) g h x * (1 / 16) - M
  pointwise [val_main_v90, val_main_v89, val_main_cst_20, val_main_v88, val_main_v87, val_main_v86, val_main_v85, val_main_cst_19, val_main_v84,
    val_main_v83, val_main_v82, val_main_v81, val_main_v80, val_main_cst_18, val_main_v79, val_main_v78, val_main_v77, val_main_v68, val_main_v67, val_main_cst_17, val_main_v66]
  simp only [v74 x0 x1 x2 x3 x4 X C g h Y hX hC hg hh hY, h61, h63, ← EReal.coe_mul, ofBits_16th, ← EReal.coe_one]
  rw [Ideal.div_coe hZ.ne', Ideal.div_coe (mul_pos hZ hZ).ne']
  simp only [← EReal.coe_mul, coe_sum, ← EReal.coe_neg, ← EReal.coe_add, Finset.univ_unique, Finset.sum_singleton]
  rw [soft_back (fun x => score (hq X T e) (hk C e) g h x * (1 / 16)) (dP (hv C e) (hq Y T e)) M j]
  rfl

theorem v92 (j : Fin 256) (e : Fin 4) (l : Fin 256) : val_main_v92 (F := Ideal) x0 x1 x2 x3 x4 (ix3 j e l) = ((rDN X C g h Y e j l : ℝ) : EReal) := by
  pointwise [val_main_v92, val_main_v91]
  simp only [v90 x0 x1 x2 x3 x4 X C g h Y hX hC hg hh hY, v16 x0 x2 X g hX hg, ← EReal.coe_mul, coe_sum]
  congr 1
  unfold rDN
  rw [Finset.sum_mul]
  exact Finset.sum_congr rfl fun T _ => by ring

theorem v94 (T : Fin 4096) (e : Fin 4) (l : Fin 256) : val_main_v94 (F := Ideal) x0 x1 x2 x3 x4 (ix3 T e l) = ((tQN X C g h Y T e l : ℝ) : EReal) := by
  pointwise [val_main_v94, val_main_v93]
  simp only [v90 x0 x1 x2 x3 x4 X C g h Y hX hC hg hh hY, v35 x1 x3 C h hC hh, ← EReal.coe_mul, coe_sum]
  congr 1
  unfold tQN dQN
  rw [Finset.sum_mul]
  exact Finset.sum_congr rfl fun j _ => by unfold tS; ring

/-! ## The results -/

/-- The keys' gain's gradient. -/
theorem v103 (l : Fin 256) : val_main_v103 (F := Ideal) x0 x1 x2 x3 x4 (ix2 0 l) = ((rDKG X C g h Y l : ℝ) : EReal) := by
  have h98 : val_main_v98 (F := Ideal) x0 x1 x2 x3 x4 (ix1 l) = ((rDKG X C g h Y l : ℝ) : EReal) := by
    refine (sum01 _ _ _ l).trans ?_
    rw [show val_main_cst_22 (F := Ideal) (Shape.Idx.first h_S_) = 0 from Ideal.ofBits_zero_f32, zero_add, Finset.sum_comm]
    have hp : ∀ a b, val_main_v97 (F := Ideal) x0 x1 x2 x3 x4 (ix3 a b l) = ((nrm (hk C b a) l * rDN X C g h Y b a l : ℝ) : EReal) := by
      intro a b
      pointwise [val_main_v97]
      rw [v32 x1 C hC, v92 x0 x1 x2 x3 x4 X C g h Y hX hC hg hh hY, ← EReal.coe_mul]
    simp only [hp, coe_sum]
    simp only [rDKG, mul_comm]
  pointwise [val_main_v103]
  refine (sum01 _ _ _ l).trans ?_
  rw [show val_main_cst_23 (F := Ideal) (Shape.Idx.first h_S_) = 0 from Ideal.ofBits_zero_f32, zero_add]
  pointwise [val_main_v99]
  simp [h98]

/-- The queries' gain's gradient. -/
theorem v128 (l : Fin 256) : val_main_v128 (F := Ideal) x0 x1 x2 x3 x4 (ix2 0 l) = ((rDQG X C g h Y l : ℝ) : EReal) := by
  have h98 : val_main_v123 (F := Ideal) x0 x1 x2 x3 x4 (ix1 l) = ((rDQG X C g h Y l : ℝ) : EReal) := by
    refine (sum01 _ _ _ l).trans ?_
    rw [show val_main_cst_28 (F := Ideal) (Shape.Idx.first h_S_) = 0 from Ideal.ofBits_zero_f32, zero_add, Finset.sum_comm]
    have hp : ∀ a b, val_main_v122 (F := Ideal) x0 x1 x2 x3 x4 (ix3 a b l) = ((nrm (hq X a b) l * tQN X C g h Y a b l : ℝ) : EReal) := by
      intro a b
      pointwise [val_main_v122]
      rw [v13 x0 X hX, v94 x0 x1 x2 x3 x4 X C g h Y hX hC hg hh hY, ← EReal.coe_mul]
    simp only [hp, coe_sum]
    simp only [rDQG, mul_comm]
  pointwise [val_main_v128]
  refine (sum01 _ _ _ l).trans ?_
  rw [show val_main_cst_29 (F := Ideal) (Shape.Idx.first h_S_) = 0 from Ideal.ofBits_zero_f32, zero_add]
  pointwise [val_main_v124]
  simp [h98]

/-- The queries' gradient. -/
theorem v144 (T : Fin 4096) (e : Fin 4) (l : Fin 256) (n : Fin 1024) (hn : n.val = 256 * e.val + l.val) :
    val_main_v144 (F := Ideal) x0 x1 x2 x3 x4 (ix2 T n) = ((rDQ X C g h Y T e l : ℝ) : EReal) := by
  have h94 := v94 x0 x1 x2 x3 x4 X C g h Y hX hC hg hh hY
  pointwise [val_main_v144, val_main_v143, val_main_v142, val_main_v141, val_main_v140, val_main_v139, val_main_v138, val_main_v137, val_main_v136,
    val_main_cst_32, val_main_v135, val_main_cst_31, val_main_v134, val_main_v133, val_main_v132, val_main_v131, val_main_v130, val_main_cst_30,
    val_main_v129, val_main_v126, val_main_v125, val_main_v14]
  have e1 : (⟨n.val / 256, by omega⟩ : Fin 4) = e := Fin.ext (by show n.val / 256 = e.val; omega)
  have e2 : (⟨n.val % 256, by omega⟩ : Fin 256) = l := Fin.ext (by show n.val % 256 = l.val; omega)
  rw [e1, e2]
  simp only [h94, v0 x0 X hX, v8 x0 X hX, v11 x0 X hX, hg, ofBits_256, ← EReal.coe_mul, coe_sum]
  rw [Ideal.div_coe (by norm_num)]
  simp only [← EReal.coe_mul, coe_sum, ← EReal.coe_add, Finset.univ_unique, Finset.sum_singleton]
  rw [back_eq (hq X T e) g (tQN X C g h Y T e) l]
  rfl

/-- The keys' gradient. -/
theorem v117 (j : Fin 256) (e : Fin 4) (l : Fin 256) : val_main_v117 (F := Ideal) x0 x1 x2 x3 x4 (ix3 j e l) = ((rDK X C g h Y e j l : ℝ) : EReal) := by
  have h92 := v92 x0 x1 x2 x3 x4 X C g h Y hX hC hg hh hY
  pointwise [val_main_v117, val_main_v116, val_main_v115, val_main_v114, val_main_v113, val_main_v112, val_main_v111, val_main_v110, val_main_v109, val_main_v108,
    val_main_v107, val_main_v106, val_main_v105, val_main_v104, val_main_v101, val_main_v100, val_main_v33, val_main_cst_24, val_main_cst_25, val_main_cst_26]
  simp only [h92, v19 x1 C hC, v27 x1 C hC, v30 x1 C hC, hh, ofBits_256, ← EReal.coe_mul, coe_sum]
  rw [Ideal.div_coe (by norm_num)]
  simp only [← EReal.coe_mul, coe_sum, ← EReal.coe_add, Finset.univ_unique, Finset.sum_singleton]
  rw [back_eq (hk C e j) h (rDN X C g h Y e j) l]
  rfl

end

end Cert.ReferenceIdeal.RefValue

end
-- ==== Proof.AttnRes.lean ====
/-
  Hand-written, untrusted. The attention-gradient reference's second result, which carries the keys' gradient in its first half and the
  values' in its second.
-/
module

public import proofs.«01_k».proof.Proof.AttnRef
public import Idealize.ShloMosaic.Lib.Pointwise

@[expose] public section

set_option maxRecDepth 16384

noncomputable section

namespace Cert.ReferenceIdeal.RefValue

open Idealize.ShloMosaic Idealize.SL.Sem Cert.ReferenceIdeal Cert.ReferenceIdeal.Gen Cert.ReferenceIdeal.Read Idealize.ShloMosaic.TcCoe
open Cert.AttnReal Cert.Reals

section
variable (x0 : FVec Ideal S4096x1024 .f32) (x1 : FVec Ideal S256x2048 .f32) (x2 x3 : FVec Ideal S1x256 .f32) (x4 : FVec Ideal S4096x1024 .f32)
  (X : Fin 4096 → Fin 1024 → ℝ) (C : Fin 256 → Fin 2048 → ℝ) (g h : Fin 256 → ℝ) (Y : Fin 4096 → Fin 1024 → ℝ)
  (hX : ∀ T n, x0 (ix2 T n) = ((X T n : ℝ) : EReal)) (hC : ∀ j n, x1 (ix2 j n) = ((C j n : ℝ) : EReal))
  (hg : ∀ l, x2 (ix2 0 l) = ((g l : ℝ) : EReal)) (hh : ∀ l, x3 (ix2 0 l) = ((h l : ℝ) : EReal)) (hY : ∀ T n, x4 (ix2 T n) = ((Y T n : ℝ) : EReal))

include hX hC hg hh hY

/-- The first half of the second result: the keys. -/
theorem v121k (e : Fin 4) (j l : Fin 256) (n : Fin 2048) (hn : n.val = 256 * e.val + l.val) :
    val_main_v121 (F := Ideal) x0 x1 x2 x3 x4 (ix2 j n) = ((rDK X C g h Y e j l : ℝ) : EReal) := by
  have h117 := v117 x0 x1 x2 x3 x4 X C g h Y hX hC hg hh hY j e l
  have a1 : ¬ 1 ≤ n.val / 1024 := by omega
  have a2 : n.val / 1024 < 1 := by omega
  have a3 : n.val / 256 % 4 < 4 := by omega
  have a4 : n.val % 256 < 256 := by omega
  have e1 : (⟨n.val / 256 % 4, a3⟩ : Fin 4) = e := Fin.ext (by show n.val / 256 % 4 = e.val; omega)
  have e2 : (⟨n.val % 256, a4⟩ : Fin 256) = l := Fin.ext (by show n.val % 256 = l.val; omega)
  pointwise [val_main_v121, val_main_v120, val_main_v119, val_main_v118, val_main_v96, val_main_v95, val_main_cst_21, val_main_cst_27]
  split_ifs with h1 h2 h2
  · exact absurd h1.1.1 a1
  · exact absurd h1.1.1 a1
  · exact (zero_add _).trans ((congrArg₂ (fun a b => val_main_v117 (F := Ideal) x0 x1 x2 x3 x4 (ix3 j a b)) e1 e2).trans h117)
  · exact absurd ⟨a2, a3, a4⟩ h2

/-- The second half: the values. -/
theorem v121v (e : Fin 4) (j l : Fin 256) (n : Fin 2048) (hn : n.val = 1024 + 256 * e.val + l.val) :
    val_main_v121 (F := Ideal) x0 x1 x2 x3 x4 (ix2 j n) = ((rDV X C g h Y e j l : ℝ) : EReal) := by
  have h76 := v76 x0 x1 x2 x3 x4 X C g h Y hX hC hg hh hY j e l
  have a1 : 1 ≤ n.val / 1024 := by omega
  have a1' : n.val / 1024 - 1 < 1 := by omega
  have a2 : ¬ n.val / 1024 < 1 := by omega
  have a3 : n.val / 256 % 4 < 4 := by omega
  have a4 : n.val % 256 < 256 := by omega
  have e1 : (⟨n.val / 256 % 4, a3⟩ : Fin 4) = e := Fin.ext (by show n.val / 256 % 4 = e.val; omega)
  have e2 : (⟨n.val % 256, a4⟩ : Fin 256) = l := Fin.ext (by show n.val % 256 = l.val; omega)
  pointwise [val_main_v121, val_main_v120, val_main_v119, val_main_v118, val_main_v96, val_main_v95, val_main_cst_21, val_main_cst_27]
  split_ifs with h1 h2 h2
  · exact absurd h2.1 a2
  · exact (add_zero _).trans ((congrArg₂ (fun a b => val_main_v76 (F := Ideal) x0 x1 x2 x3 x4 (ix3 j a b)) e1 e2).trans h76)
  · exact absurd ⟨⟨a1, a1'⟩, a3, a4⟩ h1
  · exact absurd ⟨⟨a1, a1'⟩, a3, a4⟩ h1
end

end Cert.ReferenceIdeal.RefValue

end
-- ==== Proof.AttnClaim.lean ====
/-
  Hand-written, untrusted. The attention-gradient claims: the reference's frame, what the finiteness precondition says of the
  arguments, and the equality of the two programs' results.
-/
module

public import proofs.«01_k».proof.Defs
public import proofs.«01_k».proof.Proof.AttnValue
public import proofs.«01_k».proof.Proof.AttnRes
public import proofs.«01_k».proof.Proof.Gen.ReferenceIdeal.Run
public import proofs.«01_k».proof.Proof.Gen.Pre_finite_attn
public import Idealize.ShloMosaic.Lib.Quiescent
public import Idealize.ShloMosaic.Lib.StableHlo.RunRead

@[expose] public section

set_option maxRecDepth 16384

noncomputable section

namespace Cert.AttnClaim

open Idealize.ShloMosaic Idealize.SL.Sem Idealize.ShloMosaic.TcCoe Cert.Reals Cert.AttnReal

/-- The reference runs, keeps its arguments, and has no semaphore to leave raised. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2.2.2.2, sem_eq_zero_of_no_sems (by decide) _⟩) (Cert.ReferenceIdeal.Value.run m g)

/-- The precondition says that the five arguments are real. -/
theorem finite (x0 : FVec Ideal Cert.KernelIdeal.S4096x1024 .f32) (x1 : FVec Ideal Cert.KernelIdeal.S256x2048 .f32)
    (x2 x3 : FVec Ideal Cert.KernelIdeal.S1x256 .f32) (x4 : FVec Ideal Cert.KernelIdeal.S4096x1024 .f32)
    (h : ∀ j, Cert.Pre_finite_attn.fn (F := Ideal) x0 x1 x2 x3 x4 j = 1#1) :
    (∃ f : Cert.KernelIdeal.S4096x1024.Idx → ℝ, x0 = fun i => (f i : EReal)) ∧ (∃ f : Cert.KernelIdeal.S256x2048.Idx → ℝ, x1 = fun i => (f i : EReal))
      ∧ (∃ f : Cert.KernelIdeal.S1x256.Idx → ℝ, x2 = fun i => (f i : EReal)) ∧ (∃ f : Cert.KernelIdeal.S1x256.Idx → ℝ, x3 = fun i => (f i : EReal))
      ∧ ∃ f : Cert.KernelIdeal.S4096x1024.Idx → ℝ, x4 = fun i => (f i : EReal) := by
  have h := h (fun a => a.elim0)
  dsimp only [Cert.Pre_finite_attn.fn, Cert.Pre_finite_attn.fn_part1, andi] at h
  obtain ⟨h3', h4⟩ := IntOp.andi_eq_one.mp h
  obtain ⟨h2', h3⟩ := IntOp.andi_eq_one.mp h3'
  obtain ⟨h1', h2⟩ := IntOp.andi_eq_one.mp h2'
  obtain ⟨h0, h1⟩ := IntOp.andi_eq_one.mp h1'
  exact ⟨exists_real _ fun i => real_of_cmp (Host.reduce_andi_all _ _ _ _ _ h0 i),
    exists_real _ fun i => real_of_cmp (Host.reduce_andi_all _ _ _ _ _ h1 i),
    exists_real _ fun i => real_of_cmp (Host.reduce_andi_all _ _ _ _ _ h2 i),
    exists_real _ fun i => real_of_cmp (Host.reduce_andi_all _ _ _ _ _ h3 i),
    exists_real _ fun i => real_of_cmp (Host.reduce_andi_all _ _ _ _ _ h4 i)⟩

/-- The host lines before the kernel's launch leave the attention's output, by the reference's own forward lines. -/
theorem host_out (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v48 = Cert.ReferenceIdeal.Read.val_main_v71 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) := by
  unfold Cert.KernelIdeal.Gen.V
  after_reads_simp
  rfl

section
open Cert.KernelIdeal Cert.KernelIdeal.Value Cert.KernelIdeal.Closed
variable (m : (ℓ : Loc nD τ sig) → Buf (Elt Ideal) ℓ) (c : Dev nD)
  (X : Fin 4096 → Fin 1024 → ℝ) (C : Fin 256 → Fin 2048 → ℝ) (g h : Fin 256 → ℝ) (Y : Fin 4096 → Fin 1024 → ℝ)
  (hX : ∀ T n, (m ((c : Thread nD τ).loc main_arg0) : S4096x1024.Idx → EReal) (ix2 T n) = ((X T n : ℝ) : EReal))
  (hC : ∀ j n, (m ((c : Thread nD τ).loc main_arg1) : S256x2048.Idx → EReal) (ix2 j n) = ((C j n : ℝ) : EReal))
  (hg : ∀ l, (m ((c : Thread nD τ).loc main_arg2) : S1x256.Idx → EReal) (ix2 0 l) = ((g l : ℝ) : EReal))
  (hh : ∀ l, (m ((c : Thread nD τ).loc main_arg3) : S1x256.Idx → EReal) (ix2 0 l) = ((h l : ℝ) : EReal))
  (hY : ∀ T n, (m ((c : Thread nD τ).loc main_arg4) : S4096x1024.Idx → EReal) (ix2 T n) = ((Y T n : ℝ) : EReal))

include hX hC hg hh

theorem out_at (T : Fin 4096) (e : Fin 4) (l : Fin 256) (n : Fin 1024) (hn : n.val = 256 * e.val + l.val) :
    (Cert.KernelIdeal.Gen.V m c main_v48 : S4096x1024.Idx → EReal) (ix2 T n) = ((tO X C g h T e l : ℝ) : EReal) :=
  (congrFun (host_out m c) (ix2 T n)).trans (Cert.ReferenceIdeal.RefValue.v71 _ _ _ _ X C g h hX hC hg hh T e l n hn)

include hY

theorem queries : (G6 m c : S4096x1024.Idx → EReal) = Cert.ReferenceIdeal.Read.val_main_v144 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  funext i
  obtain ⟨T, n, rfl⟩ : ∃ (T : Fin 4096) (n : Fin 1024), i = ix2 T n := ⟨_, _, eq_ix2 i⟩
  have hn : n.val = 256 * (⟨n.val / 256, by omega⟩ : Fin 4).val + (⟨n.val % 256, by omega⟩ : Fin 256).val := by
    show n.val = 256 * (n.val / 256) + n.val % 256; omega
  exact (g6_eq m c X C g h Y hX hC hg hh hY (out_at m c X C g h hX hC hg hh) T _ _ n hn).trans
    (Cert.ReferenceIdeal.RefValue.v144 _ _ _ _ _ X C g h Y hX hC hg hh hY T _ _ n hn).symm

theorem keys_values : (G7 m c : S256x2048.Idx → EReal) = Cert.ReferenceIdeal.Read.val_main_v121 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  funext i
  obtain ⟨j, n, rfl⟩ : ∃ (j : Fin 256) (n : Fin 2048), i = ix2 j n := ⟨_, _, eq_ix2 i⟩
  by_cases hlt : n.val < 1024
  · have hn : n.val = 256 * (⟨n.val / 256, by omega⟩ : Fin 4).val + (⟨n.val % 256, by omega⟩ : Fin 256).val := by
      show n.val = 256 * (n.val / 256) + n.val % 256; omega
    exact (g7k_eq m c X C g h Y hX hC hg hh hY (out_at m c X C g h hX hC hg hh) _ j _ n hn).trans
      (Cert.ReferenceIdeal.RefValue.v121k _ _ _ _ _ X C g h Y hX hC hg hh hY _ j _ n hn).symm
  · have hn : n.val = 1024 + 256 * (⟨(n.val - 1024) / 256, by omega⟩ : Fin 4).val + (⟨n.val % 256, by omega⟩ : Fin 256).val := by
      show n.val = 1024 + 256 * ((n.val - 1024) / 256) + n.val % 256; omega
    exact (g7v_eq m c X C g h Y hX hC hg hh hY (out_at m c X C g h hX hC hg hh) _ j _ n hn).trans
      (Cert.ReferenceIdeal.RefValue.v121v _ _ _ _ _ X C g h Y hX hC hg hh hY _ j _ n hn).symm

theorem query_gain : (G8 m c : S1x256.Idx → EReal) = Cert.ReferenceIdeal.Read.val_main_v128 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  funext i
  obtain ⟨z, l, rfl⟩ : ∃ (z : Fin 1) (l : Fin 256), i = ix2 z l := ⟨_, _, eq_ix2 i⟩
  obtain rfl : z = 0 := Subsingleton.elim _ _
  exact (g8_eq m c X C g h Y hX hC hg hh hY (out_at m c X C g h hX hC hg hh) l).trans
    (Cert.ReferenceIdeal.RefValue.v128 _ _ _ _ _ X C g h Y hX hC hg hh hY l).symm

theorem key_gain : (G9 m c : S1x256.Idx → EReal) = Cert.ReferenceIdeal.Read.val_main_v103 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  funext i
  obtain ⟨z, l, rfl⟩ : ∃ (z : Fin 1) (l : Fin 256), i = ix2 z l := ⟨_, _, eq_ix2 i⟩
  obtain rfl : z = 0 := Subsingleton.elim _ _
  exact (g9_eq m c X C g h Y hX hC hg hh hY (out_at m c X C g h hX hC hg hh) l).trans
    (Cert.ReferenceIdeal.RefValue.v103 _ _ _ _ _ X C g h Y hX hC hg hh hY l).symm
end

theorem algebraic : Cert.algebraic_KernelIdeal_ReferenceIdeal_pre_finite_attn := by
  intro m g m' g' hpre hag
  refine ⟨fun c => Cert.KernelIdeal.Value.G6 m c, fun c => Cert.KernelIdeal.Value.G7 m c, fun c => Cert.KernelIdeal.Value.G8 m c,
    fun c => Cert.KernelIdeal.Value.G9 m c, Cert.KernelIdeal.Value.run m g, ?_⟩
  refine (θ_run _ _ _).mono (fun r h c => ?_) (Cert.ReferenceIdeal.Value.run m' g')
  obtain ⟨h1, h2, h3, h4, h5⟩ := h c
  obtain ⟨⟨fX, hX⟩, ⟨fC, hC⟩, ⟨fg, hg⟩, ⟨fh, hh⟩, ⟨fY, hY⟩⟩ := finite _ _ _ _ _ (fun j => congrFun (hpre c) j)
  obtain ⟨e0, e1, e2, e3, e4⟩ := hag c
  have hX' := fun (T : Fin 4096) (n : Fin 1024) => congrFun hX (ix2 T n)
  have hC' := fun (j : Fin 256) (n : Fin 2048) => congrFun hC (ix2 j n)
  have hg' := fun (l : Fin 256) => congrFun hg (ix2 0 l)
  have hh' := fun (l : Fin 256) => congrFun hh (ix2 0 l)
  have hY' := fun (T : Fin 4096) (n : Fin 1024) => congrFun hY (ix2 T n)
  refine ⟨h1.trans ?_, h2.trans ?_, h3.trans ?_, h4.trans ?_, h5⟩
  · refine Eq.trans ?_ (queries m c (fun T n => fX (ix2 T n)) (fun j n => fC (ix2 j n)) (fun l => fg (ix2 0 l)) (fun l => fh (ix2 0 l)) (fun T n => fY (ix2 T n)) hX' hC' hg' hh' hY').symm
    refine (Cert.ReferenceIdeal.Read.val_main_v144_eq ..).trans ?_
    exact congr (congr (congr (congr (congrArg _ e0) e1) e2) e3) e4
  · refine Eq.trans ?_ (keys_values m c (fun T n => fX (ix2 T n)) (fun j n => fC (ix2 j n)) (fun l => fg (ix2 0 l)) (fun l => fh (ix2 0 l)) (fun T n => fY (ix2 T n)) hX' hC' hg' hh' hY').symm
    refine (Cert.ReferenceIdeal.Read.val_main_v121_eq ..).trans ?_
    exact congr (congr (congr (congr (congrArg _ e0) e1) e2) e3) e4
  · refine Eq.trans ?_ (query_gain m c (fun T n => fX (ix2 T n)) (fun j n => fC (ix2 j n)) (fun l => fg (ix2 0 l)) (fun l => fh (ix2 0 l)) (fun T n => fY (ix2 T n)) hX' hC' hg' hh' hY').symm
    refine (Cert.ReferenceIdeal.Read.val_main_v128_eq ..).trans ?_
    exact congr (congr (congr (congr (congrArg _ e0) e1) e2) e3) e4
  · refine Eq.trans ?_ (key_gain m c (fun T n => fX (ix2 T n)) (fun j n => fC (ix2 j n)) (fun l => fg (ix2 0 l)) (fun l => fh (ix2 0 l)) (fun T n => fY (ix2 T n)) hX' hC' hg' hh' hY').symm
    refine (Cert.ReferenceIdeal.Read.val_main_v103_eq ..).trans ?_
    exact congr (congr (congr (congr (congrArg _ e0) e1) e2) e3) e4

end Cert.AttnClaim

end
-- ==== Proof.GateBody.lean ====
/-
  Hand-written, untrusted. What one grid point of the gate-gradient kernel leaves behind, as the body's payloads of its input
  blocks: the block of the two gradients (row block 0 the gate's, row block 1 the up's), the running weight gradient in the
  scratch, and at the last point of a sweep the scaled weight gradient.
-/
module

public import proofs.«01_k».proof.Proof.Gen.GateIdeal.Frame
public import Idealize.ShloMosaic.Lib.Pipeline.Value
public import Idealize.ShloMosaic.Lib.Pointwise.Index

@[expose] public section

set_option maxRecDepth 16384

noncomputable section

namespace Cert.GateIdeal.Body

open Idealize.ShloMosaic Idealize.SL.Sem Cert.GateIdeal Cert.GateIdeal.Gen Idealize.ShloMosaic.TcCoe

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block of gradients a point stores: first the gate's, then the up's. -/
def grads (x0 : Vec F S512x1024 .f32) (x1 : Vec F S1408x1024 .bf16) (x2 x3 : Vec F S1x512x1408 .bf16) : Vec F S2x512x1408 .bf16 :=
  fun i => if (i 0).val = 0 then k0_pay1 (k0_pay7 x2) (k0_pay9 x2) (k0_pay12 x0 x1 x3) (k0_pay13 (F := F)) (ix3 0 (i 1) (i 2))
    else k0_pay2 (k0_pay6 x0 x1) (k0_pay10 x2) (ix3 0 (i 1) (i 2))

/-- Two stores, of the gate's block at row 0 and of the up's at row 1, leave `grads`. -/
theorem canon_grads (x0 : Vec F S512x1024 .f32) (x1 : Vec F S1408x1024 .bf16) (x2 x3 : Vec F S1x512x1408 .bf16)
    (i0 : ∀ a, (![0, 0, 0] : Fin 3 → Nat) a + S1x512x1408.size a ≤ S2x512x1408.size a)
    (i1 : ∀ a, (![1, 0, 0] : Fin 3 → Nat) a + S1x512x1408.size a ≤ S2x512x1408.size a)
    (h : ∀ y, ∃ p ∈ ([⟨Rect.unit ![1, 0, 0] S1x512x1408.size i1, k0_pay2 (k0_pay6 x0 x1) (k0_pay10 x2)⟩,
        ⟨Rect.unit ![0, 0, 0] S1x512x1408.size i0, k0_pay1 (k0_pay7 x2) (k0_pay9 x2) (k0_pay12 x0 x1 x3) (k0_pay13 (F := F))⟩]
        : List (View.Piece (Elt F) S2x512x1408 .bf16)), y ∈ p.1.set) :
    View.canon ([⟨Rect.unit ![1, 0, 0] S1x512x1408.size i1, k0_pay2 (k0_pay6 x0 x1) (k0_pay10 x2)⟩,
        ⟨Rect.unit ![0, 0, 0] S1x512x1408.size i0, k0_pay1 (k0_pay7 x2) (k0_pay9 x2) (k0_pay12 x0 x1 x3) (k0_pay13 (F := F))⟩]
        : List (View.Piece (Elt F) S2x512x1408 .bf16)) = grads x0 x1 x2 x3 := by
  funext y
  refine View.canon_apply_of_pieces _ _ ?_ y (h y)
  intro p hp x
  rcases List.mem_cons.mp hp with rfl | hp
  · have hx0 : x 0 = (0 : Fin 1) := Subsingleton.elim (α := Fin 1) _ _
    unfold grads
    rw [if_neg (by show ¬ (1 + 1 * (x 0).val = 0); omega)]
    refine congrArg (k0_pay2 (k0_pay6 x0 x1) (k0_pay10 x2)) (funext fun a => Fin.ext ?_)
    match a with
    | ⟨0, _⟩ => exact congrArg Fin.val hx0
    | ⟨1, _⟩ => show (x 1).val = 0 + 1 * (x 1).val; omega
    | ⟨2, _⟩ => show (x 2).val = 0 + 1 * (x 2).val; omega
  · obtain rfl := List.mem_singleton.mp hp
    have hx0 : x 0 = (0 : Fin 1) := Subsingleton.elim (α := Fin 1) _ _
    have hx0' : (x 0).val = 0 := congrArg Fin.val hx0
    unfold grads
    rw [if_pos (by show 0 + 1 * (x 0).val = 0; omega)]
    refine congrArg (k0_pay1 (k0_pay7 x2) (k0_pay9 x2) (k0_pay12 x0 x1 x3) (k0_pay13 (F := F))) (funext fun a => Fin.ext ?_)
    match a with
    | ⟨0, _⟩ => exact hx0'
    | ⟨1, _⟩ => show (x 1).val = 0 + 1 * (x 1).val; omega
    | ⟨2, _⟩ => show (x 2).val = 0 + 1 * (x 2).val; omega

section Cases

variable (c : Dev nD) (i : grid0.Coords) (a2 : Memref sig .tc .vmem S512x1024 .f32) (h2 : a2.IsWhole) (a3 : Memref sig .tc .vmem S1408x1024 .bf16) (h3 : a3.IsWhole) (a4 : Memref sig .tc .vmem S1x512x1408 .bf16) (h4 : a4.IsWhole) (a5 : Memref sig .tc .vmem S1x512x1408 .bf16) (h5 : a5.IsWhole) (a6 : Memref sig .tc .vmem S2x512x1408 .bf16) (h6 : a6.IsWhole) (a7 : Memref sig .tc .vmem S1408x1024 .bf16) (h7 : a7.IsWhole) (a8 : Memref sig .tc .vmem S1408x1024 .f32) (h8 : a8.IsWhole)
  (x0 : Vec F S512x1024 .f32) (x1 : Vec F S1408x1024 .bf16) (x2 x3 : Vec F S1x512x1408 .bf16) (xs : Vec F S1408x1024 .f32)

/-- First point of a sweep: the gradients' block. -/
theorem out4_A (hc0 : cond0_0 i) (hc1 : ¬cond0_1 i) :
    out0_A_4 c i a2 h2 a3 h3 a4 h4 a5 h5 a6 h6 a7 h7 a8 h8 hc0 hc1 x0 x1 x2 x3 = grads x0 x1 x2 x3 := by
  have hcov := cover0_A_4 c i a2 h2 a3 h3 a4 h4 a5 h5 a6 h6 a7 h7 a8 h8 hc0 hc1 x0 x1 x2 x3
  unfold out0_A_4
  rw [View.read_writes_eq_canon _ _ _ hcov]
  revert hcov
  unfold kernelRun0_A
  dsimp only
  sl_unfold_words
  simp only [View.readAt_eq_ld, h2.read_unread, h3.read_unread, h4.read_unread, h5.read_unread, View.ld_unit_zero (S := S512x1024) hz2,
    View.ld_unit_zero (S := S1408x1024) hz2, View.ld_unit_zero (S := S1x512x1408) hz3]
  exact fun hcov => canon_grads x0 x1 x2 x3 _ _ hcov

/-- A point within a sweep: the gradients' block. -/
theorem out4_B (hc0 : ¬cond0_0 i) (hc1 : ¬cond0_1 i) :
    out0_B_4 c i a2 h2 a3 h3 a4 h4 a5 h5 a6 h6 a7 h7 a8 h8 hc0 hc1 x0 x1 x2 x3 xs = grads x0 x1 x2 x3 := by
  have hcov := cover0_B_4 c i a2 h2 a3 h3 a4 h4 a5 h5 a6 h6 a7 h7 a8 h8 hc0 hc1 x0 x1 x2 x3 xs
  unfold out0_B_4
  rw [View.read_writes_eq_canon _ _ _ hcov]
  revert hcov
  unfold kernelRun0_B
  dsimp only
  sl_unfold_words
  simp only [View.readAt_eq_ld, h2.read_unread, h3.read_unread, h4.read_unread, h5.read_unread, View.ld_unit_zero (S := S512x1024) hz2,
    View.ld_unit_zero (S := S1408x1024) hz2, View.ld_unit_zero (S := S1x512x1408) hz3]
  exact fun hcov => canon_grads x0 x1 x2 x3 _ _ hcov

/-- The last point of a sweep: the gradients' block. -/
theorem out4_C (hc0 : ¬cond0_0 i) (hc1 : cond0_1 i) :
    out0_C_4 c i a2 h2 a3 h3 a4 h4 a5 h5 a6 h6 a7 h7 a8 h8 hc0 hc1 x0 x1 x2 x3 xs = grads x0 x1 x2 x3 := by
  have hcov := cover0_C_4 c i a2 h2 a3 h3 a4 h4 a5 h5 a6 h6 a7 h7 a8 h8 hc0 hc1 x0 x1 x2 x3 xs
  unfold out0_C_4
  rw [View.read_writes_eq_canon _ _ _ hcov]
  revert hcov
  unfold kernelRun0_C
  dsimp only
  sl_unfold_words
  simp only [View.readAt_eq_ld, h2.read_unread, h3.read_unread, h4.read_unread, h5.read_unread, View.ld_unit_zero (S := S512x1024) hz2,
    View.ld_unit_zero (S := S1408x1024) hz2, View.ld_unit_zero (S := S1x512x1408) hz3]
  exact fun hcov => canon_grads x0 x1 x2 x3 _ _ hcov

/-- First point of a sweep: the scratch is zeroed, then the point's product is added. -/
theorem scr_A (hc0 : cond0_0 i) (hc1 : ¬cond0_1 i) :
    sout0_A_0 c i a2 h2 a3 h3 a4 h4 a5 h5 a6 h6 a7 h7 a8 h8 hc0 hc1 x0 x1 x2 x3 = k0_pay11 x0 x2 x3 (k0_pay4 (F := F)) := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S1408x1024) hz2, View.readCov_unit_zero (S := S1408x1024) _ hz2]
  simp only [View.readAt_eq_ld, h2.read_unread, h4.read_unread, h5.read_unread, View.ld_unit_zero (S := S512x1024) hz2,
    View.ld_unit_zero (S := S1x512x1408) hz3]

/-- Within a sweep: the point's product is added to what the scratch held. -/
theorem scr_B (hc0 : ¬cond0_0 i) (hc1 : ¬cond0_1 i) :
    sout0_B_0 c i a2 h2 a3 h3 a4 h4 a5 h5 a6 h6 a7 h7 a8 h8 hc0 hc1 x0 x1 x2 x3 xs = k0_pay11 x0 x2 x3 xs := by
  unfold sout0_B_0
  rw [View.read_writes_eq_canon _ _ _ (scover0_B_0 c i a2 h2 a3 h3 a4 h4 a5 h5 a6 h6 a7 h7 a8 h8 hc0 hc1 x0 x1 x2 x3 xs)]
  unfold kernelRun0_B
  dsimp only
  sl_unfold_words
  rw [View.canon_unit_zero (S := S1408x1024) hz2]
  simp only [View.readAt_eq_ld, h2.read_unread, h4.read_unread, h5.read_unread, h8.read_unread, View.ld_unit_zero (S := S512x1024) hz2,
    View.ld_unit_zero (S := S1x512x1408) hz3, View.ld_unit_zero (S := S1408x1024) hz2]

/-- The last point of a sweep adds its product too. -/
theorem scr_C (hc0 : ¬cond0_0 i) (hc1 : cond0_1 i) :
    sout0_C_0 c i a2 h2 a3 h3 a4 h4 a5 h5 a6 h6 a7 h7 a8 h8 hc0 hc1 x0 x1 x2 x3 xs = k0_pay11 x0 x2 x3 xs := by
  unfold sout0_C_0
  rw [View.read_writes_eq_canon _ _ _ (scover0_C_0 c i a2 h2 a3 h3 a4 h4 a5 h5 a6 h6 a7 h7 a8 h8 hc0 hc1 x0 x1 x2 x3 xs)]
  unfold kernelRun0_C
  dsimp only
  sl_unfold_words
  rw [View.canon_unit_zero (S := S1408x1024) hz2]
  simp only [View.readAt_eq_ld, h2.read_unread, h4.read_unread, h5.read_unread, h8.read_unread, View.ld_unit_zero (S := S512x1024) hz2,
    View.ld_unit_zero (S := S1x512x1408) hz3, View.ld_unit_zero (S := S1408x1024) hz2]

/-- The last point of a sweep stores the scaled scratch as the weight's gradient. -/
theorem out5_C (hc0 : ¬cond0_0 i) (hc1 : cond0_1 i) :
    out0_C_5 c i a2 h2 a3 h3 a4 h4 a5 h5 a6 h6 a7 h7 a8 h8 hc0 hc1 x0 x1 x2 x3 xs = k0_pay3 (k0_pay11 x0 x2 x3 xs) := by
  unfold out0_C_5
  rw [View.read_writes_eq_canon _ _ _ (cover0_C_5 c i a2 h2 a3 h3 a4 h4 a5 h5 a6 h6 a7 h7 a8 h8 hc0 hc1 x0 x1 x2 x3 xs)]
  unfold kernelRun0_C
  dsimp only
  sl_unfold_words
  rw [View.canon_unit_zero (S := S1408x1024) hz2, View.readCov_unit_zero (S := S1408x1024) _ hz2]
  simp only [View.readAt_eq_ld, h2.read_unread, h4.read_unread, h5.read_unread, h8.read_unread, View.ld_unit_zero (S := S512x1024) hz2,
    View.ld_unit_zero (S := S1x512x1408) hz3, View.ld_unit_zero (S := S1408x1024) hz2]

end Cases

end Cert.GateIdeal.Body

end
-- ==== Proof.GatePay.lean ====
/-
  Hand-written, untrusted. The gate kernel's payloads read at an index, over the extended reals.
-/
module

public import proofs.«01_k».proof.Proof.GateBody
public import proofs.«01_k».proof.Proof.Reals
public import Idealize.ShloMosaic.Lib.Pointwise

@[expose] public section

set_option maxRecDepth 16384

noncomputable section

namespace Cert.GateIdeal.Pay

open Idealize.ShloMosaic Idealize.SL.Sem Cert.GateIdeal Cert.GateIdeal.Gen Idealize.ShloMosaic.TcCoe Cert.GateIdeal.Body

variable (x0 : FVec Ideal S512x1024 .f32) (x1 : FVec Ideal S1408x1024 .bf16) (x2 x3 : FVec Ideal S1x512x1408 .bf16) (acc : FVec Ideal S1408x1024 .f32)

/-- The logistic function, as the kernel writes it. -/
def sg (x : EReal) : EReal := Ideal.div 1 (1 + Ideal.exp (0 - x))

/-- The up projection's gradient: half the incoming gradient through the down projection, times the gate's activation. -/
theorem up_apply (r : Fin 512) (l : Fin 1408) :
    k0_pay2 (F := Ideal) (k0_pay6 x0 x1) (k0_pay10 x2) (ix3 0 r l)
      = (Ideal.ofBits FTy.f32 0x3F000000#32 * ∑ k, x0 (ix2 r k) * x1 (ix2 l k)) * (x2 (ix3 0 r l) * sg (x2 (ix3 0 r l))) := by
  unfold_payloads
  pointwise [sg]

/-- The gate's gradient: the same times the up projection, times the activation's derivative. -/
theorem gate_apply (r : Fin 512) (l : Fin 1408) :
    k0_pay1 (F := Ideal) (k0_pay7 x2) (k0_pay9 x2) (k0_pay12 x0 x1 x3) (k0_pay13 (F := Ideal)) (ix3 0 r l)
      = (Ideal.ofBits FTy.f32 0x3F000000#32 * ∑ k, x0 (ix2 r k) * x1 (ix2 l k)) * x3 (ix3 0 r l)
        * (sg (x2 (ix3 0 r l)) * (1 + x2 (ix3 0 r l) * (1 - sg (x2 (ix3 0 r l))))) := by
  unfold_payloads
  pointwise [sg]

/-- One point's contribution to the down projection's gradient: the hidden features against the incoming gradient, over the
    block's tokens. -/
def contrib (j : S1408x1024.Idx) : EReal :=
  ∑ x : Fin 512, x2 (ix3 0 x (j 0)) * sg (x2 (ix3 0 x (j 0))) * x3 (ix3 0 x (j 0)) * x0 (ix2 x (j 1))

theorem contrib_apply (r : Fin 1408) (l : Fin 1024) : contrib x0 x2 x3 (ix2 r l)
    = ∑ x : Fin 512, x2 (ix3 0 x r) * sg (x2 (ix3 0 x r)) * x3 (ix3 0 x r) * x0 (ix2 x l) := rfl

/-- It is added to the running sum. -/
theorem acc_apply (r : Fin 1408) (l : Fin 1024) :
    k0_pay11 (F := Ideal) x0 x2 x3 acc (ix2 r l)
      = acc (ix2 r l) + contrib x0 x2 x3 (ix2 r l) := by
  unfold_payloads
  pointwise [sg, contrib]

theorem zero_apply (r : Fin 1408) (l : Fin 1024) : k0_pay4 (F := Ideal) (ix2 r l) = 0 := by
  unfold_payloads
  pointwise

theorem fin_apply (r : Fin 1408) (l : Fin 1024) :
    k0_pay3 (F := Ideal) acc (ix2 r l) = Ideal.ofBits FTy.f32 0x3F000000#32 * acc (ix2 r l) := by
  unfold_payloads
  pointwise

end Cert.GateIdeal.Pay

end
-- ==== Proof.GateValue.lean ====
/-
  Hand-written, untrusted. What the gate-gradient kernel's two result arrays end holding, as functions of its three arguments
  over the extended reals.
-/
module

public import proofs.«01_k».proof.Proof.Gen.GateIdeal.Value
public import proofs.«01_k».proof.Proof.GatePay

@[expose] public section

set_option maxRecDepth 16384

noncomputable section

namespace Cert.GateIdeal.Closed

open Idealize.ShloMosaic Idealize.SL.Sem Cert.GateIdeal Cert.GateIdeal.Gen Idealize.ShloMosaic.TcCoe Cert.GateIdeal.Body
open Cert.GateIdeal.Pay Cert.GateIdeal.Value

variable (m : (ℓ : Loc nD τ sig) → Buf (Elt Ideal) ℓ) (c : Dev nD)

/-- The three arguments, as arrays. -/
abbrev D : FVec Ideal S4096x1024 .f32 := m ((c : Thread nD τ).loc main_arg0)
abbrev W : FVec Ideal S2816x1024 .bf16 := m ((c : Thread nD τ).loc main_arg1)
abbrev GU : FVec Ideal S2x4096x2816 .bf16 := m ((c : Thread nD τ).loc main_arg2)

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem idx1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)
theorem idx2 : ∀ t : Fin cfg0.N, win0_2.index t (0 : Fin 3) = 0 ∧ win0_2.index t (1 : Fin 3) = t.val % 8 ∧ win0_2.index t (2 : Fin 3) = t.val / 8 :=
  (by decide +kernel : ∀ t : Fin grid0.N, win0_2.index t (0 : Fin 3) = 0 ∧ win0_2.index t (1 : Fin 3) = t.val % 8 ∧ win0_2.index t (2 : Fin 3) = t.val / 8)
theorem idx3 : ∀ t : Fin cfg0.N, win0_3.index t (0 : Fin 3) = 1 ∧ win0_3.index t (1 : Fin 3) = t.val % 8 ∧ win0_3.index t (2 : Fin 3) = t.val / 8 :=
  (by decide +kernel : ∀ t : Fin grid0.N, win0_3.index t (0 : Fin 3) = 1 ∧ win0_3.index t (1 : Fin 3) = t.val % 8 ∧ win0_3.index t (2 : Fin 3) = t.val / 8)

/-- Block `t` of the incoming gradient: token `512·(t mod 8) + r`. -/
theorem blk0 (t : Fin cfg0.N) (r : Fin 512) (k : Fin 1024) (T : Fin 4096) (hT : T.val = 512 * (t.val % 8) + r.val) :
    iblk m c 0 t (ix2 r k) = D m c (ix2 T k) := by
  unfold iblk
  rw [View.read_apply]
  show V m c main_arg0 _ = m ((c : Thread nD τ).loc main_arg0) _
  unfold V
  congr 1
  funext a
  apply Fin.ext
  have hi := idx0 t
  match a with
  | ⟨0, _⟩ => show win0_0.index t (0 : Fin 2) * 512 + 1 * r.val = T.val; rw [hi.1]; omega
  | ⟨1, _⟩ => show win0_0.index t (1 : Fin 2) * 1024 + 1 * k.val = k.val; rw [hi.2]; omega

/-- Block `t` of the down projection: feature `1408·(t / 8) + l`. -/
theorem blk1 (t : Fin cfg0.N) (l : Fin 1408) (k : Fin 1024) (L : Fin 2816) (hL : L.val = 1408 * (t.val / 8) + l.val) :
    iblk m c 1 t (ix2 l k) = W m c (ix2 L k) := by
  unfold iblk
  rw [View.read_apply]
  show V m c main_arg1 _ = m ((c : Thread nD τ).loc main_arg1) _
  unfold V
  congr 1
  funext a
  apply Fin.ext
  have hi := idx1 t
  match a with
  | ⟨0, _⟩ => show win0_1.index t (0 : Fin 2) * 1408 + 1 * l.val = L.val; rw [hi.1]; omega
  | ⟨1, _⟩ => show win0_1.index t (1 : Fin 2) * 1024 + 1 * k.val = k.val; rw [hi.2]; omega

/-- Block `t` of the saved gate. -/
theorem blk2 (t : Fin cfg0.N) (r : Fin 512) (l : Fin 1408) (T : Fin 4096) (L : Fin 2816) (hT : T.val = 512 * (t.val % 8) + r.val)
    (hL : L.val = 1408 * (t.val / 8) + l.val) : iblk m c 2 t (ix3 0 r l) = GU m c (ix3 0 T L) := by
  unfold iblk
  rw [View.read_apply]
  show V m c main_arg2 _ = m ((c : Thread nD τ).loc main_arg2) _
  unfold V
  congr 1
  funext a
  apply Fin.ext
  have hi := idx2 t
  match a with
  | ⟨0, _⟩ => show win0_2.index t (0 : Fin 3) * 1 + 1 * 0 = 0; rw [hi.1]
  | ⟨1, _⟩ => show win0_2.index t (1 : Fin 3) * 512 + 1 * r.val = T.val; rw [hi.2.1]; omega
  | ⟨2, _⟩ => show win0_2.index t (2 : Fin 3) * 1408 + 1 * l.val = L.val; rw [hi.2.2]; omega

/-- Block `t` of the saved up projection. -/
theorem blk3 (t : Fin cfg0.N) (r : Fin 512) (l : Fin 1408) (T : Fin 4096) (L : Fin 2816) (hT : T.val = 512 * (t.val % 8) + r.val)
    (hL : L.val = 1408 * (t.val / 8) + l.val) : iblk m c 3 t (ix3 0 r l) = GU m c (ix3 1 T L) := by
  unfold iblk
  rw [View.read_apply]
  show V m c main_arg2 _ = m ((c : Thread nD τ).loc main_arg2) _
  unfold V
  congr 1
  funext a
  apply Fin.ext
  have hi := idx3 t
  match a with
  | ⟨0, _⟩ => show win0_3.index t (0 : Fin 3) * 1 + 1 * 0 = 1; rw [hi.1]
  | ⟨1, _⟩ => show win0_3.index t (1 : Fin 3) * 512 + 1 * r.val = T.val; rw [hi.2.1]; omega
  | ⟨2, _⟩ => show win0_3.index t (2 : Fin 3) * 1408 + 1 * l.val = L.val; rw [hi.2.2]; omega

/-! ## The two gradients -/

/-- After every point, the gradients' window holds `grads` of the point's blocks. -/
theorem outs4 (t : Fin cfg0.N) :
    (outsAt0 m c t.val t.isLt).1 = grads (iblk m c 0 t) (iblk m c 1 t) (iblk m c 2 t) (iblk m c 3 t) := by
  by_cases h0 : t.val % 8 = 0
  · rw [outsAt0_A m c t h0 (by omega)]; dsimp only; rw [out4_A]
  · by_cases h1 : t.val % 8 = 7
    · rw [outsAt0_C m c t h0 h1]; dsimp only; rw [out4_C]
    · rw [outsAt0_B m c t h0 h1]; dsimp only; rw [out4_B]

/-- What reaches the hidden features: half the incoming gradient times the down projection. -/
def dh (d : FVec Ideal S4096x1024 .f32) (w : FVec Ideal S2816x1024 .bf16) (T : Fin 4096) (L : Fin 2816) : EReal :=
  Ideal.ofBits FTy.f32 0x3F000000#32 * ∑ k : Fin 1024, d (ix2 T k) * w (ix2 L k)

/-- The point that stores the block holding token `T`, feature `L`. -/
theorem g4_at (e : Fin 2) (T : Fin 4096) (L : Fin 2816) :
    ∃ (t : Fin cfg0.N) (r : Fin 512) (l : Fin 1408), T.val = 512 * (t.val % 8) + r.val ∧ L.val = 1408 * (t.val / 8) + l.val
      ∧ G4 m c (ix3 e T L) = (outsAt0 m c t.val t.isLt).1 (ix3 e r l) := by
  have hT := T.isLt
  have hL := L.isLt
  have he := e.isLt
  have hN : cfg0.N = 16 := N_0
  have hp : pt4Of (ix3 e T L) = 1 * (e.val / 2 - 0) + 1 * (T.val / 512 - 0) + 8 * (L.val / 1408 - 0) := rfl
  have hlt : pt4Of (ix3 e T L) < cfg0.N := by rw [hp, hN]; omega
  refine ⟨⟨pt4Of (ix3 e T L), hlt⟩, ⟨T.val % 512, by omega⟩, ⟨L.val % 1408, by omega⟩, ?_, ?_, ?_⟩
  · dsimp only; rw [hp]; omega
  · dsimp only; rw [hp]; omega
  · unfold G4
    rw [dif_pos hlt, ← outsAt0_sweep m c _ hlt]
    refine congrArg _ (funext fun a => Fin.ext ?_)
    match a with
    | ⟨0, _⟩ => show e.val % 2 = e.val; omega
    | ⟨1, _⟩ => rfl
    | ⟨2, _⟩ => rfl

/-- The gate's gradient. -/
theorem gate_eq (T : Fin 4096) (L : Fin 2816) :
    G4 m c (ix3 0 T L) = dh (D m c) (W m c) T L * GU m c (ix3 1 T L)
      * (sg (GU m c (ix3 0 T L)) * (1 + GU m c (ix3 0 T L) * (1 - sg (GU m c (ix3 0 T L))))) := by
  obtain ⟨t, r, l, hT, hL, hG⟩ := g4_at m c 0 T L
  rw [hG, outs4]
  unfold grads
  refine (if_pos rfl).trans ?_
  refine (gate_apply (iblk m c 0 t) (iblk m c 1 t) (iblk m c 2 t) (iblk m c 3 t) r l).trans ?_
  rw [blk2 m c t r l T L hT hL, blk3 m c t r l T L hT hL]
  unfold dh
  simp only [blk0 m c t r _ T hT, blk1 m c t l _ L hL]

/-- The up projection's gradient. -/
theorem up_eq (T : Fin 4096) (L : Fin 2816) :
    G4 m c (ix3 1 T L) = dh (D m c) (W m c) T L * (GU m c (ix3 0 T L) * sg (GU m c (ix3 0 T L))) := by
  obtain ⟨t, r, l, hT, hL, hG⟩ := g4_at m c 1 T L
  rw [hG, outs4]
  unfold grads
  refine (if_neg (show ¬ (1 : ℕ) = 0 by decide)).trans ?_
  refine (up_apply (iblk m c 0 t) (iblk m c 1 t) (iblk m c 2 t) r l).trans ?_
  rw [blk2 m c t r l T L hT hL]
  unfold dh
  simp only [blk0 m c t r _ T hT, blk1 m c t l _ L hL]

/-! ## The down projection's gradient -/

/-- What point `n` adds to the running weight gradient. -/
def add (n : ℕ) (j : S1408x1024.Idx) : EReal :=
  if h : n < cfg0.N then
    contrib (iblk m c 0 ⟨n, h⟩) (iblk m c 2 ⟨n, h⟩) (iblk m c 3 ⟨n, h⟩) j
  else 0

theorem step_apply (n : ℕ) (h : n < cfg0.N) (hn : ¬ n % 8 = 0) (acc : FVec Ideal S1408x1024 .f32) (j : S1408x1024.Idx) :
    scAt0_0 m c n h acc j = acc j + add m c n j := by
  unfold scAt0_0 add
  rw [dif_neg hn, dif_pos h]
  have e := eq_ix2 j
  split
  · rw [scr_C, e]; exact acc_apply ..
  · rw [scr_B, e]; exact acc_apply ..

theorem first_apply (n : ℕ) (h : n < cfg0.N) (hn : n % 8 = 0) (acc : FVec Ideal S1408x1024 .f32) (j : S1408x1024.Idx) :
    scAt0_0 m c n h acc j = 0 + add m c n j := by
  unfold scAt0_0 add
  rw [dif_pos hn, dif_neg (by omega), dif_pos h]
  have e := eq_ix2 j
  rw [scr_A, e]
  exact (acc_apply ..).trans (congrArg (· + _) (zero_apply ..))

/-- After point `t` the scratch holds the sum of its sweep's contributions so far. -/
theorem scr_eq (t : Fin cfg0.N) (j : S1408x1024.Idx) :
    (outsAt0 m c t.val t.isLt).2.2 j = 0 + ∑ s ∈ Finset.range (t.val % 8 + 1), add m c (8 * (t.val / 8) + s) j := by
  have hN : cfg0.N = 16 := N_0
  rw [soutsAt0_0_eq]
  exact Pipeline.accAt_add_apply _ _ (fun _ => 0) (add m c) (8 * (t.val / 8)) 7
    (fun h i => first_apply m c _ h (by omega) _ i)
    (fun n h acc i h1 h2 => step_apply m c n h (by omega) acc i) (t.val % 8) (by omega) _ j

/-- At the last point of a sweep the weight's window holds half the scratch. -/
theorem outs5 (t : Fin cfg0.N) (h1 : t.val % 8 = 7) (r : Fin 1408) (l : Fin 1024) :
    (outsAt0 m c t.val t.isLt).2.1 (ix2 r l) = Ideal.ofBits FTy.f32 0x3F000000#32 * (outsAt0 m c t.val t.isLt).2.2 (ix2 r l) := by
  have h0 : ¬ t.val % 8 = 0 := by omega
  rw [outsAt0_C m c t h0 h1]
  dsimp only
  rw [out5_C, scr_C]
  exact fin_apply ..

/-- The down projection's gradient: over all tokens. -/
theorem down_eq (L : Fin 2816) (K : Fin 1024) :
    G5 m c (ix2 L K) = Ideal.ofBits FTy.f32 0x3F000000#32
      * (∑ T : Fin 4096, GU m c (ix3 0 T L) * sg (GU m c (ix3 0 T L)) * GU m c (ix3 1 T L) * D m c (ix2 T K)) := by
  have hL := L.isLt
  have hK := K.isLt
  have hN : cfg0.N = 16 := N_0
  have hp : pt5Of (ix2 L K) = 8 * (1 * (L.val / 1408 - 0) + 1 * (K.val / 1024 - 0)) + 7 := rfl
  have hp' : pt5Of (ix2 L K) = 8 * (L.val / 1408) + 7 := by rw [hp]; omega
  have hlt : pt5Of (ix2 L K) < cfg0.N := by rw [hp', hN]; omega
  have hloc : loc5Of (ix2 L K) = ix2 (⟨L.val % 1408, by omega⟩ : Fin 1408) K := funext fun a => Fin.ext (by
    match a with
    | ⟨0, _⟩ => rfl
    | ⟨1, _⟩ => show K.val % 1024 = K.val; omega)
  unfold G5
  rw [dif_pos hlt, ← outsAt0_sweep m c _ hlt, hloc]
  refine (outs5 m c ⟨pt5Of (ix2 L K), hlt⟩ (by dsimp only; omega) _ _).trans (congrArg _ ?_)
  refine (scr_eq m c ⟨pt5Of (ix2 L K), hlt⟩ _).trans ?_
  rw [zero_add]
  dsimp only
  rw [show pt5Of (ix2 L K) % 8 + 1 = 8 by omega, show 8 * (pt5Of (ix2 L K) / 8) = 8 * (L.val / 1408) by omega]
  let f : ℕ → EReal := fun n => if h : n < 4096 then
    GU m c (ix3 0 (⟨n, h⟩ : Fin 4096) L) * sg (GU m c (ix3 0 (⟨n, h⟩ : Fin 4096) L)) * GU m c (ix3 1 (⟨n, h⟩ : Fin 4096) L) * D m c (ix2 (⟨n, h⟩ : Fin 4096) K)
    else 0
  refine Eq.trans (b := ∑ p ∈ Finset.range 8, ∑ q : Fin 512, f (512 * p + q.val)) ?_ ?_
  · refine Finset.sum_congr rfl fun p hp => ?_
    have hp := Finset.mem_range.mp hp
    unfold add
    have hq : 8 * (L.val / 1408) + p < cfg0.N := by rw [hN]; omega
    rw [dif_pos hq, contrib_apply]
    refine Finset.sum_congr rfl fun q _ => ?_
    have hq' := q.isLt
    have hx : 512 * p + q.val < 4096 := by omega
    show _ = dite _ _ _
    rw [dif_pos hx, blk2 m c _ q _ (⟨512 * p + q.val, hx⟩ : Fin 4096) L (by dsimp only; omega) (by show L.val = 1408 * ((8 * (L.val / 1408) + p) / 8) + L.val % 1408; omega),
      blk3 m c _ q _ (⟨512 * p + q.val, hx⟩ : Fin 4096) L (by dsimp only; omega) (by show L.val = 1408 * ((8 * (L.val / 1408) + p) / 8) + L.val % 1408; omega),
      blk0 m c _ q _ (⟨512 * p + q.val, hx⟩ : Fin 4096) (by dsimp only; omega)]
  · rw [Cert.Reals.sum_runs 8 512 f]
    exact Finset.sum_congr rfl fun T _ => dif_pos T.isLt

end Cert.GateIdeal.Closed

end
-- ==== Proof.GateRef.lean ====
/-
  Hand-written, untrusted. The gate reference's two results read at an index, over the extended reals.
-/
module

public import proofs.«01_k».proof.Proof.Gen.GateRefIdeal.Read
public import proofs.«01_k».proof.Proof.Reals
public import Idealize.ShloMosaic.Lib.Pointwise

@[expose] public section

set_option maxRecDepth 16384

noncomputable section

namespace Cert.GateRefIdeal.RefValue

open Idealize.ShloMosaic Idealize.SL.Sem Cert.GateRefIdeal Cert.GateRefIdeal.Gen Cert.GateRefIdeal.Read Idealize.ShloMosaic.TcCoe

variable (x0 : FVec Ideal S4096x1024 .f32) (x1 : FVec Ideal S2816x1024 .bf16) (x2 : FVec Ideal S2x4096x2816 .bf16)

/-- The logistic function, as the reference writes it. -/
def sg (x : EReal) : EReal := Ideal.div 1 (1 + Ideal.exp (-x))

/-- The down projection's gradient. -/
theorem down_apply (L : Fin 2816) (K : Fin 1024) : val_main_v25 (F := Ideal) x0 x2 (ix2 L K)
    = ∑ t, Ideal.ofBits FTy.f32 0x3F000000#32 * x0 (ix2 t K) * (x2 (ix3 0 t L) * sg (x2 (ix3 0 t L)) * x2 (ix3 1 t L)) := by
  pointwise [val_main_v25, val_main_v15, val_main_v14, val_main_v13, val_main_v12, val_main_cst_0, val_main_v8, val_main_v7_0, val_main_v7_2,
    val_main_call0_v4, val_main_call0_cst_0, val_main_call0_v3, val_main_call0_v2, val_main_call0_cst, val_main_call0_v1, val_main_call0_v0,
    val_main_v2, val_main_v1, val_main_v0, val_main_v5, val_main_v4, val_main_v3, sg]

/-- What reaches the hidden features. -/
theorem dh_apply (T : Fin 4096) (L : Fin 2816) : val_main_v16 (F := Ideal) x0 x1 (ix2 T L)
    = ∑ k, Ideal.ofBits FTy.f32 0x3F000000#32 * x0 (ix2 T k) * x1 (ix2 L k) := by
  pointwise [val_main_v16, val_main_v13, val_main_v12, val_main_cst_0, val_main_v6]

/-- The gate's gradient. -/
theorem gate_apply (T : Fin 4096) (L : Fin 2816) : val_main_v24 (F := Ideal) x0 x1 x2 (ix3 0 T L)
    = val_main_v16 (F := Ideal) x0 x1 (ix2 T L) * x2 (ix3 1 T L) * sg (x2 (ix3 0 T L))
      + x2 (ix3 0 T L) * (val_main_v16 (F := Ideal) x0 x1 (ix2 T L) * x2 (ix3 1 T L)) * (sg (x2 (ix3 0 T L)) * (1 - sg (x2 (ix3 0 T L)))) := by
  pointwise [val_main_v24, val_main_v22, val_main_v20, val_main_v19, val_main_call1_v1, val_main_call1_v2, val_main_call1_v0, val_main_v18,
    val_main_v7_1, val_main_call0_v7, val_main_call0_v6, val_main_call0_cst_1, val_main_v7_0, val_main_v7_2,
    val_main_call0_v4, val_main_call0_cst_0, val_main_call0_v3, val_main_call0_v2, val_main_call0_cst, val_main_call0_v1, val_main_call0_v0,
    val_main_v2, val_main_v1, val_main_v0, val_main_v5, val_main_v4, val_main_v3, sg]

/-- The up projection's gradient. -/
theorem up_apply (T : Fin 4096) (L : Fin 2816) : val_main_v24 (F := Ideal) x0 x1 x2 (ix3 1 T L)
    = x2 (ix3 0 T L) * sg (x2 (ix3 0 T L)) * val_main_v16 (F := Ideal) x0 x1 (ix2 T L) := by
  pointwise [val_main_v24, val_main_v23, val_main_v21, val_main_v17, val_main_v7_0, val_main_v7_2,
    val_main_call0_v4, val_main_call0_cst_0, val_main_call0_v3, val_main_call0_v2, val_main_call0_cst, val_main_call0_v1, val_main_call0_v0,
    val_main_v2, val_main_v1, val_main_v0, sg]

end Cert.GateRefIdeal.RefValue

end
-- ==== Proof.GateEq.lean ====
/-
  Hand-written, untrusted. For finite arguments the gate-gradient kernel's two result arrays are the reference's: the reference's
  activation derivative is `σ + g·σ·(1 − σ)` where the kernel has `σ·(1 + g·(1 − σ))`, and the half stands outside the kernel's
  sums and inside the reference's.
-/
module

public import proofs.«01_k».proof.Proof.GateValue
public import proofs.«01_k».proof.Proof.GateRef

@[expose] public section

set_option maxRecDepth 16384

noncomputable section

namespace Cert.GateEq

open Idealize.ShloMosaic Idealize.SL.Sem Idealize.ShloMosaic.TcCoe Cert.Reals
open Cert.GateIdeal (nD τ sig S4096x1024 S2816x1024 S2x4096x2816)

/-- The logistic function of a real. -/
def sr (x : ℝ) : ℝ := (1 + Real.exp (-x))⁻¹

theorem sg_kernel (x : ℝ) : Cert.GateIdeal.Pay.sg (x : EReal) = ((sr x : ℝ) : EReal) := sig_sub x
theorem sg_ref (x : ℝ) : Cert.GateRefIdeal.RefValue.sg (x : EReal) = ((sr x : ℝ) : EReal) := sig_neg x

section
variable (m : (ℓ : Loc nD τ sig) → Buf (Elt Ideal) ℓ) (c : Dev nD)
  (d : S4096x1024.Idx → ℝ) (w : S2816x1024.Idx → ℝ) (gu : S2x4096x2816.Idx → ℝ)
  (hd : Cert.GateIdeal.Closed.D m c = fun i => (d i : EReal)) (hw : Cert.GateIdeal.Closed.W m c = fun i => (w i : EReal))
  (hg : Cert.GateIdeal.Closed.GU m c = fun i => (gu i : EReal))

/-- What reaches the hidden features, in the reals. -/
def dhr (T : Fin 4096) (L : Fin 2816) : ℝ := 1 / 2 * ∑ k : Fin 1024, d (ix2 T k) * w (ix2 L k)

theorem dh_kernel (T : Fin 4096) (L : Fin 2816) :
    Cert.GateIdeal.Closed.dh (fun i => (d i : EReal)) (fun i => (w i : EReal)) T L = ((dhr d w T L : ℝ) : EReal) := by
  unfold Cert.GateIdeal.Closed.dh dhr
  simp only [ofBits_half, ← EReal.coe_mul, coe_sum]

theorem dh_ref (T : Fin 4096) (L : Fin 2816) :
    Cert.GateRefIdeal.Read.val_main_v16 (F := Ideal) (fun i => (d i : EReal)) (fun i => (w i : EReal)) (ix2 T L) = ((dhr d w T L : ℝ) : EReal) := by
  rw [Cert.GateRefIdeal.RefValue.dh_apply]
  unfold dhr
  simp only [ofBits_half, ← EReal.coe_mul, coe_sum, Finset.mul_sum, mul_assoc]

include hd hw hg

theorem gates : (Cert.GateIdeal.Value.G4 m c : S2x4096x2816.Idx → EReal)
    = Cert.GateRefIdeal.Read.val_main_v24 (F := Ideal) (Cert.GateIdeal.Closed.D m c) (Cert.GateIdeal.Closed.W m c) (Cert.GateIdeal.Closed.GU m c) := by
  funext i
  obtain ⟨e, T, L, rfl⟩ : ∃ (e : Fin 2) (T : Fin 4096) (L : Fin 2816), i = ix3 e T L := ⟨_, _, _, eq_ix3 i⟩
  match e with
  | ⟨0, _⟩ =>
    refine (Cert.GateIdeal.Closed.gate_eq m c T L).trans (Eq.trans ?_ (Cert.GateRefIdeal.RefValue.gate_apply _ _ _ T L).symm)
    rw [hd, hw, hg, dh_kernel, dh_ref]
    simp only [sg_kernel, sg_ref, ← EReal.coe_one, ← EReal.coe_mul, ← EReal.coe_sub, ← EReal.coe_add]
    congr 1
    ring
  | ⟨1, _⟩ =>
    refine (Cert.GateIdeal.Closed.up_eq m c T L).trans (Eq.trans ?_ (Cert.GateRefIdeal.RefValue.up_apply _ _ _ T L).symm)
    rw [hd, hw, hg, dh_kernel, dh_ref]
    simp only [sg_kernel, sg_ref, ← EReal.coe_mul]
    congr 1
    ring

omit hw in
theorem down : (Cert.GateIdeal.Value.G5 m c : S2816x1024.Idx → EReal)
    = Cert.GateRefIdeal.Read.val_main_v25 (F := Ideal) (Cert.GateIdeal.Closed.D m c) (Cert.GateIdeal.Closed.GU m c) := by
  funext i
  obtain ⟨L, K, rfl⟩ : ∃ (L : Fin 2816) (K : Fin 1024), i = ix2 L K := ⟨_, _, eq_ix2 i⟩
  refine (Cert.GateIdeal.Closed.down_eq m c L K).trans (Eq.trans ?_ (Cert.GateRefIdeal.RefValue.down_apply _ _ L K).symm)
  rw [hd, hg]
  simp only [sg_kernel, sg_ref, ofBits_half, ← EReal.coe_mul, coe_sum]
  congr 1
  rw [Finset.mul_sum]
  exact Finset.sum_congr rfl fun k _ => by ring

end

end Cert.GateEq

end
-- ==== Proof.GateClaim.lean ====
/-
  Hand-written, untrusted. The gate-gradient claims: the reference's frame, what the finiteness precondition says of the
  arguments, and the equality of the two programs' results.
-/
module

public import proofs.«01_k».proof.Defs
public import proofs.«01_k».proof.Proof.GateEq
public import proofs.«01_k».proof.Proof.Gen.GateRefIdeal.Run
public import proofs.«01_k».proof.Proof.Gen.Pre_finite_gate
public import Idealize.ShloMosaic.Lib.Quiescent

@[expose] public section

set_option maxRecDepth 16384

noncomputable section

namespace Cert.GateClaim

open Idealize.ShloMosaic Idealize.SL.Sem Idealize.ShloMosaic.TcCoe Cert.Reals

/-- The reference runs, keeps its arguments, and has no semaphore to leave raised. -/
theorem frame_ref (m : (ℓ : Loc Cert.GateRefIdeal.nD Cert.GateRefIdeal.τ Cert.GateRefIdeal.sig) → Buf (Elt Ideal) ℓ)
    (g : Dev Cert.GateRefIdeal.nD → PrngReg) :
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0) :=
  (θ_run _ _ _).mono (fun r h => ⟨fun c => (h c).2.2, sem_eq_zero_of_no_sems (by decide) _⟩) (Cert.GateRefIdeal.Value.run m g)

/-- The precondition says that the three arguments are real. -/
theorem finite (x0 : FVec Ideal Cert.GateIdeal.S4096x1024 .f32) (x1 : FVec Ideal Cert.GateIdeal.S2816x1024 .bf16)
    (x2 : FVec Ideal Cert.GateIdeal.S2x4096x2816 .bf16)
    (h : ∀ j, Cert.Pre_finite_gate.fn (F := Ideal) x0 x1 x2 j = 1#1) :
    (∃ f : Cert.GateIdeal.S4096x1024.Idx → ℝ, x0 = fun i => (f i : EReal)) ∧ (∃ f : Cert.GateIdeal.S2816x1024.Idx → ℝ, x1 = fun i => (f i : EReal))
      ∧ ∃ f : Cert.GateIdeal.S2x4096x2816.Idx → ℝ, x2 = fun i => (f i : EReal) := by
  have h := h (fun a => a.elim0)
  dsimp only [Cert.Pre_finite_gate.fn, andi] at h
  obtain ⟨h01, h2⟩ := IntOp.andi_eq_one.mp h
  obtain ⟨h0, h1⟩ := IntOp.andi_eq_one.mp h01
  exact ⟨exists_real _ fun i => real_of_cmp (Host.reduce_andi_all _ _ _ _ _ h0 i),
    exists_real _ fun i => real_of_cmp (Host.reduce_andi_all _ _ _ _ _ h1 i),
    exists_real _ fun i => real_of_cmp (Host.reduce_andi_all _ _ _ _ _ h2 i)⟩

theorem algebraic : Cert.algebraic_GateIdeal_GateRefIdeal_pre_finite_gate := by
  intro m g m' g' hpre hag
  refine ⟨fun c => Cert.GateIdeal.Value.G4 m c, fun c => Cert.GateIdeal.Value.G5 m c, Cert.GateIdeal.Value.run m g, ?_⟩
  refine (θ_run _ _ _).mono (fun r h c => ?_) (Cert.GateRefIdeal.Value.run m' g')
  obtain ⟨h1, h2, h3⟩ := h c
  obtain ⟨⟨d, hd⟩, ⟨w, hw⟩, ⟨gu, hg⟩⟩ := finite _ _ _ (fun j => congrFun (hpre c) j)
  obtain ⟨e0, e1, e2⟩ := hag c
  refine ⟨h1.trans ?_, h2.trans ?_, h3⟩
  · refine Eq.trans ?_ (Cert.GateEq.gates m c d w gu hd hw hg).symm
    rw [e0, e1, e2]
    exact Cert.GateRefIdeal.Read.val_main_v24_eq ..
  · refine Eq.trans ?_ (Cert.GateEq.down m c d gu hd hg).symm
    rw [e0, e2]
    exact Cert.GateRefIdeal.Read.val_main_v25_eq ..

end Cert.GateClaim

end
-- ==== Proof.DwClaim.lean ====
/-
  Hand-written, untrusted. The gradient of the FFN's gate and up weights: for every block of 512 features by 1408 columns the
  kernel adds up four products of 1024 tokens each in its scratch and stores the sum; the reference takes one product over all
  4096 tokens, of the gate's and the up half's gradients side by side.
-/
module

public import proofs.«01_k».proof.Defs
public import proofs.«01_k».proof.Proof.Reals
public import proofs.«01_k».proof.Proof.Gen.DwIdeal.Value
public import proofs.«01_k».proof.Proof.Gen.DwRefIdeal.Run
public import proofs.«01_k».proof.Proof.Gen.DwRefIdeal.Read
public import Idealize.ShloMosaic.Lib.Quiescent
public import Idealize.ShloMosaic.Lib.Pointwise
public import Idealize.ShloMosaic.Lib.Pointwise.Index

@[expose] public section

set_option maxRecDepth 16384

noncomputable section

namespace Cert.DwIdeal.Closed

open Idealize.ShloMosaic Idealize.SL.Sem Cert.DwIdeal Cert.DwIdeal.Gen Idealize.ShloMosaic.TcCoe Cert.DwIdeal.Value

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Body

variable {F : FTy → Type} [FloatOps F]
  (c : Dev nD) (i : grid0.Coords) (a3 : Memref sig .tc .vmem S1024x512 .bf16) (h3 : a3.IsWhole) (a4 : Memref sig .tc .vmem S1x1024x1408 .bf16) (h4 : a4.IsWhole) (a5 : Memref sig .tc .vmem S1x1x512x1408 .bf16) (h5 : a5.IsWhole) (a6 : Memref sig .tc .vmem S512x1408 .f32) (h6 : a6.IsWhole)
  (x0 : Vec F S1024x512 .bf16) (x1 : Vec F S1x1024x1408 .bf16) (xs : Vec F S512x1408 .f32)

/-- First point: the scratch is zeroed, then the point's product is added. -/
theorem scr_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1408) hz2, View.readCov_unit_zero (S := S512x1408) _ hz2]
  simp only [View.readAt_eq_ld, h3.read_unread, h4.read_unread, View.ld_unit_zero (S := S1024x512) hz2, View.ld_unit_zero (S := S1x1024x1408) hz3, View.ld_unit_zero (S := S512x1408) hz2]

/-- Later, the point's product is added to what the scratch held. -/
theorem scr_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S512x1408) hz2]
  simp only [View.readAt_eq_ld, h3.read_unread, h4.read_unread, h6.read_unread, View.ld_unit_zero (S := S1024x512) hz2, View.ld_unit_zero (S := S1x1024x1408) hz3, View.ld_unit_zero (S := S512x1408) hz2]

/-- At the last point too. -/
theorem scr_C (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S512x1408) hz2]
  simp only [View.readAt_eq_ld, h3.read_unread, h4.read_unread, h6.read_unread, View.ld_unit_zero (S := S1024x512) hz2, View.ld_unit_zero (S := S1x1024x1408) hz3, View.ld_unit_zero (S := S512x1408) hz2]

/-- The last point stores the scratch. -/
theorem out2 (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1x1x512x1408) hz4, View.readCov_unit_zero (S := S512x1408) _ hz2]
  simp only [View.readAt_eq_ld, h3.read_unread, h4.read_unread, h6.read_unread, View.ld_unit_zero (S := S1024x512) hz2, View.ld_unit_zero (S := S1x1024x1408) hz3, View.ld_unit_zero (S := S512x1408) hz2]

end Body

section Pay

variable (x0 : FVec Ideal S1024x512 .bf16) (x1 : FVec Ideal S1x1024x1408 .bf16) (acc : FVec Ideal S512x1408 .f32)

/-- One point's product. -/
def contrib (j : S512x1408.Idx) : EReal := ∑ k : Fin 1024, x0 (ix2 k (j 0)) * x1 (ix3 0 k (j 1))

theorem contrib_apply (r : Fin 512) (l : Fin 1408) :
    contrib x0 x1 (ix2 r l) = ∑ k : Fin 1024, x0 (ix2 k r) * x1 (ix3 0 k l) := rfl

theorem acc_apply (r : Fin 512) (l : Fin 1408) :
    k0_pay2 (F := Ideal) acc x0 x1 (ix2 r l) = acc (ix2 r l) + contrib x0 x1 (ix2 r l) := by
  unfold_payloads
  pointwise [contrib]

theorem zero_apply (r : Fin 512) (l : Fin 1408) : k0_pay1 (F := Ideal) (ix2 r l) = 0 := by
  unfold_payloads
  pointwise

theorem fin_apply (r : Fin 512) (l : Fin 1408) : k0_pay3 (F := Ideal) acc (ix4 0 0 r l) = acc (ix2 r l) := by
  unfold_payloads
  pointwise [Ideal.ofBits_one_f32, mul_one]

end Pay

variable (m : (ℓ : Loc nD τ sig) → Buf (Elt Ideal) ℓ) (c : Dev nD)

/-- The two arguments, as arrays. -/
abbrev H : FVec Ideal S4096x1024 .bf16 := m ((c : Thread nD τ).loc main_arg0)
abbrev Dg : FVec Ideal S2x4096x2816 .bf16 := m ((c : Thread nD τ).loc main_arg1)

theorem idxs : ∀ t : Fin cfg0.N, win0_0.index t (0 : Fin 2) = t.val % 4 ∧ win0_0.index t (1 : Fin 2) = t.val / 16
    ∧ win0_1.index t (0 : Fin 3) = t.val / 4 % 4 / 2 ∧ win0_1.index t (1 : Fin 3) = t.val % 4 ∧ win0_1.index t (2 : Fin 3) = t.val / 4 % 2 :=
  (by decide +kernel : ∀ t : Fin grid0.N, win0_0.index t (0 : Fin 2) = t.val % 4 ∧ win0_0.index t (1 : Fin 2) = t.val / 16
    ∧ win0_1.index t (0 : Fin 3) = t.val / 4 % 4 / 2 ∧ win0_1.index t (1 : Fin 3) = t.val % 4 ∧ win0_1.index t (2 : Fin 3) = t.val / 4 % 2)

/-- The point's block of the normed activations. -/
theorem blk0 (t : Fin cfg0.N) (r : Fin 1024) (k : Fin 512) (T : Fin 4096) (K : Fin 1024)
    (hT : T.val = 1024 * (t.val % 4) + r.val) (hK : K.val = 512 * (t.val / 16) + k.val) :
    iblk m c 0 t (ix2 r k) = H m c (ix2 T K) := by
  unfold iblk
  rw [View.read_apply]
  show V m c main_arg0 _ = m ((c : Thread nD τ).loc main_arg0) _
  unfold V
  congr 1
  funext a
  apply Fin.ext
  obtain ⟨e0, e1, e2, e3, e4⟩ := idxs t
  match a with
  | ⟨0, _⟩ => show win0_0.index t (0 : Fin 2) * 1024 + 1 * r.val = T.val; rw [e0]; omega
  | ⟨1, _⟩ => show win0_0.index t (1 : Fin 2) * 512 + 1 * k.val = K.val; rw [e1]; omega

/-- The point's block of the gate's or the up half's gradient. -/
theorem blk1 (t : Fin cfg0.N) (r : Fin 1024) (l : Fin 1408) (P : Fin 2) (T : Fin 4096) (N : Fin 2816)
    (hP : P.val = t.val / 4 % 4 / 2) (hT : T.val = 1024 * (t.val % 4) + r.val) (hN : N.val = 1408 * (t.val / 4 % 2) + l.val) :
    iblk m c 1 t (ix3 0 r l) = Dg m c (ix3 P T N) := by
  unfold iblk
  rw [View.read_apply]
  show V m c main_arg1 _ = m ((c : Thread nD τ).loc main_arg1) _
  unfold V
  congr 1
  funext a
  apply Fin.ext
  obtain ⟨e0, e1, e2, e3, e4⟩ := idxs t
  match a with
  | ⟨0, _⟩ => show win0_1.index t (0 : Fin 3) * 1 + 1 * 0 = P.val; rw [e2]; omega
  | ⟨1, _⟩ => show win0_1.index t (1 : Fin 3) * 1024 + 1 * r.val = T.val; rw [e3]; omega
  | ⟨2, _⟩ => show win0_1.index t (2 : Fin 3) * 1408 + 1 * l.val = N.val; rw [e4]; omega

/-- What point `n` adds to the scratch. -/
def add (n : ℕ) (j : S512x1408.Idx) : EReal :=
  if h : n < cfg0.N then contrib (iblk m c 0 ⟨n, h⟩) (iblk m c 1 ⟨n, h⟩) j else 0

theorem step_apply (n : ℕ) (h : n < cfg0.N) (hn : ¬ n % 4 = 0) (acc : FVec Ideal S512x1408 .f32) (j : S512x1408.Idx) :
    scAt0_0 m c n h acc j = acc j + add m c n j := by
  unfold scAt0_0 add
  rw [dif_neg hn, dif_pos h]
  have e := eq_ix2 j
  split
  · rw [scr_C, e]; exact acc_apply ..
  · rw [scr_B, e]; exact acc_apply ..

theorem first_apply (n : ℕ) (h : n < cfg0.N) (hn : n % 4 = 0) (acc : FVec Ideal S512x1408 .f32) (j : S512x1408.Idx) :
    scAt0_0 m c n h acc j = 0 + add m c n j := by
  unfold scAt0_0 add
  rw [dif_pos hn, dif_neg (by omega), dif_pos h]
  have e := eq_ix2 j
  rw [scr_A, e]
  exact (acc_apply ..).trans (congrArg (· + _) (zero_apply ..))

/-- After point `t` the scratch holds the sum of its sweep's products so far. -/
theorem scr_eq (t : Fin cfg0.N) (j : S512x1408.Idx) :
    (outsAt0 m c t.val t.isLt).2 j = 0 + ∑ s ∈ Finset.range (t.val % 4 + 1), add m c (4 * (t.val / 4) + s) j := by
  have hN : cfg0.N = 32 := N_0
  rw [soutsAt0_0_eq]
  exact Pipeline.accAt_add_apply _ _ (fun _ => 0) (add m c) (4 * (t.val / 4)) 3
    (fun h i => first_apply m c _ h (by omega) _ i)
    (fun n h acc i h1 h2 => step_apply m c n h (by omega) acc i) (t.val % 4) (by omega) _ j

/-- At the last point the window holds the scratch. -/
theorem outs (t : Fin cfg0.N) (h1 : t.val % 4 = 3) (r : Fin 512) (l : Fin 1408) :
    (outsAt0 m c t.val t.isLt).1 (ix4 0 0 r l) = (outsAt0 m c t.val t.isLt).2 (ix2 r l) := by
  have h0 : ¬ t.val % 4 = 0 := by omega
  rw [outsAt0_C m c t h0 h1]
  dsimp only
  rw [out2, scr_C]
  exact fin_apply ..

/-- The weights' gradient: over all tokens. -/
theorem final (J : Fin 4) (I : Fin 2) (r : Fin 512) (l : Fin 1408) (K : Fin 1024) (P : Fin 2) (N : Fin 2816)
    (hK : K.val = 512 * I.val + r.val) (hP : P.val = J.val / 2) (hN : N.val = 1408 * (J.val % 2) + l.val) :
    G2 m c (ix4 J I r l) = ∑ T : Fin 4096, H m c (ix2 T K) * Dg m c (ix3 P T N) := by
  have hJ := J.isLt
  have hI := I.isLt
  have hr := r.isLt
  have hl := l.isLt
  have hN0 : cfg0.N = 32 := N_0
  have hp : pt2Of (ix4 J I r l) = 4 * (1 * (J.val / 1 - 0) + 4 * (I.val / 1 - 0) + 8 * (r.val / 512 - 0) + 8 * (l.val / 1408 - 0)) + 3 := rfl
  have hp' : pt2Of (ix4 J I r l) = 4 * (J.val + 4 * I.val) + 3 := by rw [hp]; omega
  have hlt : pt2Of (ix4 J I r l) < cfg0.N := by rw [hp', hN0]; omega
  have hloc : loc2Of (ix4 J I r l) = ix4 0 0 r l := funext fun a => Fin.ext (by
    match a with
    | ⟨0, _⟩ => show J.val % 1 = 0; omega
    | ⟨1, _⟩ => show I.val % 1 = 0; omega
    | ⟨2, _⟩ => show r.val % 512 = r.val; omega
    | ⟨3, _⟩ => show l.val % 1408 = l.val; omega)
  unfold G2
  rw [dif_pos hlt, ← outsAt0_sweep m c _ hlt, hloc]
  refine (outs m c ⟨pt2Of (ix4 J I r l), hlt⟩ (by dsimp only; omega) _ _).trans ?_
  refine (scr_eq m c ⟨pt2Of (ix4 J I r l), hlt⟩ _).trans ?_
  rw [zero_add]
  dsimp only
  rw [show pt2Of (ix4 J I r l) % 4 + 1 = 4 by omega, show 4 * (pt2Of (ix4 J I r l) / 4) = 4 * (J.val + 4 * I.val) by omega]
  let f : ℕ → EReal := fun n => if h : n < 4096 then H m c (ix2 (⟨n, h⟩ : Fin 4096) K) * Dg m c (ix3 P (⟨n, h⟩ : Fin 4096) N) else 0
  refine Eq.trans (b := ∑ p ∈ Finset.range 4, ∑ q : Fin 1024, f (1024 * p + q.val)) ?_ ?_
  · refine Finset.sum_congr rfl fun p hp => ?_
    have hp := Finset.mem_range.mp hp
    unfold add
    have hq : 4 * (J.val + 4 * I.val) + p < cfg0.N := by rw [hN0]; omega
    rw [dif_pos hq, contrib_apply]
    refine Finset.sum_congr rfl fun q _ => ?_
    have hq' := q.isLt
    have hx : 1024 * p + q.val < 4096 := by omega
    show _ = dite _ _ _
    rw [dif_pos hx, blk0 m c _ q _ (⟨1024 * p + q.val, hx⟩ : Fin 4096) K (by dsimp only; omega) (by dsimp only; omega),
      blk1 m c _ q _ P (⟨1024 * p + q.val, hx⟩ : Fin 4096) N (by dsimp only; omega) (by dsimp only; omega) (by dsimp only; omega)]
  · rw [Cert.Reals.sum_runs 4 1024 f]
    exact Finset.sum_congr rfl fun T _ => dif_pos T.isLt

end Cert.DwIdeal.Closed

namespace Cert.DwClaim

open Idealize.ShloMosaic Idealize.SL.Sem Idealize.ShloMosaic.TcCoe Cert.DwRefIdeal Cert.DwRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) _⟩) (Cert.DwRefIdeal.Value.run m g)

section Ref

variable (h : FVec Ideal S4096x1024 .bf16) (dg : FVec Ideal S2x4096x2816 .bf16)

/-- The two gradients side by side, read at a column of either half. -/
theorem both_apply (P : Fin 2) (T : Fin 4096) (N : Fin 2816) (n : Fin 5632) (hn : n.val = 2816 * P.val + N.val) :
    val_main_v11 (F := Ideal) dg (ix2 T n) = dg (ix3 P T N) := by
  have hN := N.isLt
  have hP := P.isLt
  pointwise [val_main_v11, val_main_v5, val_main_v4, val_main_v3, val_main_v2, val_main_v1, val_main_v0]
  split_ifs with hc
  · congr 1
    refine congr (congrArg ix3 (Fin.ext ?_) |> fun e => congrFun e T) (Fin.ext ?_)
    · show 0 = P.val; omega
    · show n.val = N.val; omega
  · congr 1
    refine congr (congrArg ix3 (Fin.ext ?_) |> fun e => congrFun e T) (Fin.ext ?_)
    · show 1 = P.val; omega
    · show n.val - 2816 = N.val; omega
  · exact absurd rfl (by assumption)

theorem ref_apply (J : Fin 4) (I : Fin 2) (r : Fin 512) (l : Fin 1408) (K : Fin 1024) (P : Fin 2) (N : Fin 2816)
    (hK : K.val = 512 * I.val + r.val) (hP : P.val = J.val / 2) (hN : N.val = 1408 * (J.val % 2) + l.val) :
    val_main_v16 (F := Ideal) h dg (ix4 J I r l) = ∑ T : Fin 4096, dg (ix3 P T N) * h (ix2 T K) := by
  have hJ := J.isLt
  have hI := I.isLt
  have hr := r.isLt
  have hl := l.isLt
  rw [val_main_v16_apply, val_main_v15_apply, val_main_v14_apply, val_main_v13_apply, val_main_v12_apply]
  refine Finset.sum_congr rfl fun T _ => congrArg₂ (· * · : EReal → EReal → EReal) ?_ ?_
  · refine Eq.trans (congrArg _ (eq_ix2 _)) (both_apply dg P T N _ ?_)
    show ((((I.val * 512 + r.val) * 4 + J.val) * 1408 + l.val) % 5632) = _
    omega
  · show h _ = h _
    refine congrArg h ((eq_ix2 _).trans (congrArg (ix2 T) (Fin.ext ?_)))
    show ((((I.val * 512 + r.val) * 4 + J.val) * 1408 + l.val) / 5632) = _
    omega

end Ref

theorem weights (m : (ℓ : Loc Cert.DwIdeal.nD Cert.DwIdeal.τ Cert.DwIdeal.sig) → Buf (Elt Ideal) ℓ) (c : Dev Cert.DwIdeal.nD) :
    (Cert.DwIdeal.Value.G2 m c : S4x2x512x1408.Idx → EReal)
      = val_main_v16 (F := Ideal) (Cert.DwIdeal.Closed.H m c) (Cert.DwIdeal.Closed.Dg m c) := by
  funext i
  obtain ⟨J, I, r, l, rfl⟩ : ∃ (J : Fin 4) (I : Fin 2) (r : Fin 512) (l : Fin 1408), i = ix4 J I r l := ⟨_, _, _, _, eq_ix4 i⟩
  have hJ := J.isLt
  have hI := I.isLt
  have hr := r.isLt
  have hl := l.isLt
  have hK : 512 * I.val + r.val < 1024 := by omega
  have hP : J.val / 2 < 2 := by omega
  have hN : 1408 * (J.val % 2) + l.val < 2816 := by omega
  have e : (∑ T : Fin 4096, Cert.DwIdeal.Closed.H m c (ix2 T (⟨_, hK⟩ : Fin 1024)) * Cert.DwIdeal.Closed.Dg m c (ix3 (⟨_, hP⟩ : Fin 2) T (⟨_, hN⟩ : Fin 2816)) : EReal)
      = ∑ T : Fin 4096, Cert.DwIdeal.Closed.Dg m c (ix3 (⟨_, hP⟩ : Fin 2) T (⟨_, hN⟩ : Fin 2816)) * Cert.DwIdeal.Closed.H m c (ix2 T (⟨_, hK⟩ : Fin 1024)) :=
    Finset.sum_congr rfl fun T _ => mul_comm (G := EReal) _ _
  exact (Cert.DwIdeal.Closed.final m c J I r l ⟨_, hK⟩ ⟨_, hP⟩ ⟨_, hN⟩ rfl rfl rfl).trans
    (e.trans (ref_apply _ _ J I r l _ _ _ rfl rfl rfl).symm)

theorem algebraic : Cert.algebraic_DwIdeal_DwRefIdeal := by
  intro m g m' g' _ hag
  refine ⟨fun c => Cert.DwIdeal.Value.G2 m c, Cert.DwIdeal.Value.run m g, ?_⟩
  refine (θ_run _ _ _).mono (fun r h c => ?_) (Cert.DwRefIdeal.Value.run m' g')
  obtain ⟨h1, h2⟩ := h c
  obtain ⟨e0, e1⟩ := hag c
  refine ⟨h1.trans ?_, h2⟩
  refine Eq.trans ?_ (weights m c).symm
  rw [e0, e1]
  exact val_main_v16_eq ..

end Cert.DwClaim

end
-- ==== Proof.Norm.lean ====
/-
  Hand-written, untrusted. The normalisation of a row of 1024 by its root mean square, and its gradient, in the reals: the lemmas
  take the extended-real spellings that the programs have of a step to the real one.
-/
module

public import proofs.«01_k».proof.Proof.Reals
public import proofs.«01_k».proof.Proof.AttnReal

@[expose] public section

noncomputable section

namespace Cert.Norm

open Idealize.ShloMosaic Cert.Reals
open Cert.AttnReal (eps eps_pos ofBits_eps ofBits_neg_half)

theorem ofBits_1024 : Ideal.ofBits .f32 0x44800000#32 = ((1024 : ℝ) : EReal) := by
  simp [Ideal.ofBits, Ideal.ieee, -EReal.coe_mul]; norm_num

/-- The factor that normalises a row, as the programs spell it. -/
def rr (x : Fin 1024 → EReal) : EReal :=
  Ideal.rsqrt (Ideal.div (∑ l, x l * x l) (Ideal.ofBits .f32 0x44800000#32) + Ideal.ofBits .f32 0x358637BD#32)

/-- The mean square of a row, with the constant. -/
def ms (x : Fin 1024 → ℝ) : ℝ := (∑ l, x l * x l) * (1 / 1024) + eps

/-- The factor that normalises a row. -/
def inv (x : Fin 1024 → ℝ) : ℝ := (√(ms x))⁻¹

theorem ms_pos (x : Fin 1024 → ℝ) : 0 < ms x := by
  unfold ms
  have h : 0 ≤ ∑ l, x l * x l := Finset.sum_nonneg fun l _ => mul_self_nonneg _
  have := eps_pos
  positivity

theorem inv_sq (x : Fin 1024 → ℝ) : inv x * inv x * ms x = 1 := by
  have h := ms_pos x
  unfold inv
  have h2 : √(ms x) * √(ms x) = ms x := Real.mul_self_sqrt h.le
  have h3 : √(ms x) ≠ 0 := (Real.sqrt_pos.mpr h).ne'
  field_simp
  rw [sq, h2]

/-- The mean square with the constant, of a row of reals. -/
theorem ms_eq (x : Fin 1024 → ℝ) :
    Ideal.div (∑ l, ((x l : ℝ) : EReal) * ((x l : ℝ) : EReal)) (Ideal.ofBits .f32 0x44800000#32) + Ideal.ofBits .f32 0x358637BD#32
      = ((ms x : ℝ) : EReal) := by
  rw [ofBits_1024, ofBits_eps]
  simp only [← EReal.coe_mul, coe_sum]
  rw [Ideal.div_coe (by norm_num), ← EReal.coe_mul, ← EReal.coe_add]
  rfl

/-- The normalising factor of a row of reals. -/
theorem rr_coe (x : Fin 1024 → ℝ) : rr (fun l => (x l : EReal)) = ((inv x : ℝ) : EReal) := by
  unfold rr
  have h := ms_pos x
  rw [ms_eq, Ideal.rsqrt_coe]
  unfold inv
  simp [h, h.ne', h.not_gt]

/-- The gradient through the normalisation and the gain. -/
def back (x g dn : Fin 1024 → ℝ) (l : Fin 1024) : ℝ :=
  inv x * (dn l * g l - x l * inv x * ((∑ k, dn k * g k * (x k * inv x)) * (1 / 1024)))

/-- The kernels' spelling of it, with what it is added to. -/
theorem back_kernel (x g dn : Fin 1024 → ℝ) (l : Fin 1024) :
    rr (fun k => (x k : EReal)) * ((dn l : EReal) * (g l : EReal) - (x l : EReal) * rr (fun k => (x k : EReal))
        * Ideal.div (∑ k, (dn k : EReal) * (g k : EReal) * ((x k : EReal) * rr (fun k => (x k : EReal)))) (Ideal.ofBits .f32 0x44800000#32))
      = ((back x g dn l : ℝ) : EReal) := by
  rw [rr_coe, ofBits_1024]
  simp only [← EReal.coe_mul, coe_sum]
  rw [Ideal.div_coe (by norm_num)]
  simp only [← EReal.coe_mul, ← EReal.coe_sub]
  rfl

/-- The part of the references' spelling that comes through the factor. -/
def side (x g dn : Fin 1024 → EReal) : EReal :=
  Ideal.div ((∑ k, x k * (dn k * g k)) * (Ideal.ofBits .f32 0xBF000000#32
    * Ideal.div (rr x) (Ideal.div (∑ l, x l * x l) (Ideal.ofBits .f32 0x44800000#32) + Ideal.ofBits .f32 0x358637BD#32))) (Ideal.ofBits .f32 0x44800000#32)

theorem side_coe (x g dn : Fin 1024 → ℝ) :
    side (fun k => (x k : EReal)) (fun k => (g k : EReal)) (fun k => (dn k : EReal))
      = (((∑ k, x k * (dn k * g k)) * (-(1 / 2) * (inv x * (1 / ms x))) * (1 / 1024) : ℝ) : EReal) := by
  unfold side
  rw [rr_coe, ms_eq, ofBits_1024, ofBits_neg_half, Ideal.div_coe (ms_pos x).ne']
  simp only [← EReal.coe_mul, coe_sum]
  rw [Ideal.div_coe (by norm_num)]
  simp only [← EReal.coe_mul]

/-- The references' spelling, in the reals. -/
theorem back_eq (x g dn : Fin 1024 → ℝ) (l : Fin 1024) :
    dn l * g l * inv x + x l * ((∑ k, x k * (dn k * g k)) * (-(1 / 2) * (inv x * (1 / ms x))) * (1 / 1024))
      + (∑ k, x k * (dn k * g k)) * (-(1 / 2) * (inv x * (1 / ms x))) * (1 / 1024) * x l = back x g dn l := by
  have h : 1 / ms x = inv x * inv x := by rw [div_eq_iff (ms_pos x).ne', inv_sq]
  rw [h]
  unfold back
  have e : ∑ k, dn k * g k * (x k * inv x) = (∑ k, x k * (dn k * g k)) * inv x := by
    rw [Finset.sum_mul]; exact Finset.sum_congr rfl fun k _ => by ring
  rw [e]
  ring

/-- For finite rows the kernels' gradient, added to `d`, is the references'. -/
theorem back_join (x g dn : Fin 1024 → ℝ) (d : ℝ) (l : Fin 1024) :
    rr (fun k => (x k : EReal)) * ((dn l : EReal) * (g l : EReal) - (x l : EReal) * rr (fun k => (x k : EReal))
        * Ideal.div (∑ k, (dn k : EReal) * (g k : EReal) * ((x k : EReal) * rr (fun k => (x k : EReal)))) (Ideal.ofBits .f32 0x44800000#32)) + (d : EReal)
      = (d : EReal) + (dn l : EReal) * (g l : EReal) * rr (fun k => (x k : EReal))
        + (x l : EReal) * side (fun k => (x k : EReal)) (fun k => (g k : EReal)) (fun k => (dn k : EReal))
        + side (fun k => (x k : EReal)) (fun k => (g k : EReal)) (fun k => (dn k : EReal)) * (x l : EReal) := by
  rw [back_kernel, side_coe, rr_coe, ← back_eq]
  simp only [← EReal.coe_mul, ← EReal.coe_add]
  congr 1
  ring

end Cert.Norm

end
-- ==== Proof.DxClaim.lean ====
/-
  Hand-written, untrusted. The gradient of an FFN's input: the kernel adds up, for a block of 1024 tokens, four products of the
  gate's and up half's gradients with the weights, and at the last of them goes back through the normalisation. What it stores
  of the gain's gradient is summed over the four blocks.
-/
module

public import proofs.«01_k».proof.Defs
public import proofs.«01_k».proof.Proof.Norm
public import proofs.«01_k».proof.Proof.Gen.Pre_finite_dx
public import proofs.«01_k».proof.Proof.Gen.DxIdeal.Value
public import proofs.«01_k».proof.Proof.Gen.DxRefIdeal.Run
public import proofs.«01_k».proof.Proof.Gen.DxRefIdeal.Read
public import Idealize.ShloMosaic.Lib.Quiescent
public import Idealize.ShloMosaic.Lib.Pointwise
public import Idealize.ShloMosaic.Lib.Pointwise.Index

@[expose] public section

set_option maxRecDepth 16384

noncomputable section

namespace Cert.DxIdeal.Closed

open Idealize.ShloMosaic Idealize.SL.Sem Cert.DxIdeal Cert.DxIdeal.Gen Idealize.ShloMosaic.TcCoe Cert.DxIdeal.Value Cert.Norm

theorem hz2 : (![0, 0] : Fin 2 → Nat) = fun _ => 0 := funext fun a => by fin_cases a <;> rfl
theorem hz3 : (![0, 0, 0] : Fin 3 → Nat) = fun _ => 0 := funext fun a => by fin_cases a <;> rfl

section Body

variable {F : FTy → Type} [FloatOps F]
  (c : Dev nD) (i : grid0.Coords) (a2 : Memref sig .tc .vmem S1x1024x1408 .bf16) (h2 : a2.IsWhole) (a3 : Memref sig .tc .vmem S1x1024x1408 .bf16) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (a8 : Memref sig .tc .vmem S1x1024 .f32) (h8 : a8.IsWhole) (a9 : Memref sig .tc .vmem S1024x1024 .f32) (h9 : a9.IsWhole)
  (x0 x1 : Vec F S1x1024x1408 .bf16) (x2 : Vec F S1024x1024 .f32) (x3 : Vec F S1x1024 .f32) (x4 : Vec F S1024x1024 .f32) (xo : Vec F S1x1024 .f32) (xs : Vec F S1024x1024 .f32)

/-- First point: the scratch is zeroed, then the point's product is added. -/
theorem scr_A (hc0 : cond0_0 i) (hc1 : ¬cond0_1 i) :
    sout0_A_0 c i a2 h2 a3 h3 a4 h4 a5 h5 a6 h6 a7 h7 a8 h8 a9 h9 hc0 hc1 x0 x1 x2 x3 x4 = k0_pay2 (k0_pay1 (F := F)) x0 x1 := by
  unfold sout0_A_0
  rw [View.read_writes_eq_canon _ _ _ (fun _ => scover0_A_0 ..)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, h4.read_unread, h5.read_unread, h6.read_unread, h8.read_unread, h9.read_unread, View.ld_unit_zero (S := S1x1024x1408) hz3, View.ld_unit_zero (S := S1024x1024) hz2, View.ld_unit_zero (S := S1x1024) hz2]

/-- Later, the point's product is added to what the scratch held. -/
theorem scr_B (hc0 : ¬cond0_0 i) (hc1 : ¬cond0_1 i) :
    sout0_B_0 c i a2 h2 a3 h3 a4 h4 a5 h5 a6 h6 a7 h7 a8 h8 a9 h9 hc0 hc1 x0 x1 x2 x3 x4 xs = k0_pay2 xs x0 x1 := by
  unfold sout0_B_0
  rw [View.read_writes_eq_canon _ _ _ (fun _ => scover0_B_0 ..)]
  unfold kernelRun0_B
  dsimp only
  sl_unfold_words
  rw [View.canon_unit_zero (S := S1024x1024) hz2]
  simp only [View.readAt_eq_ld, h2.read_unread, h3.read_unread, h4.read_unread, h5.read_unread, h6.read_unread, h8.read_unread, h9.read_unread, View.ld_unit_zero (S := S1x1024x1408) hz3, View.ld_unit_zero (S := S1024x1024) hz2, View.ld_unit_zero (S := S1x1024) hz2]

/-- Later, the point's product is added to what the scratch held. -/
theorem scr_C (hc0 : ¬cond0_0 i) (hc1 : cond0_1 i) (hc2 : cond0_2 i) (hc3 : ¬cond0_3 i) :
    sout0_C_0 c i a2 h2 a3 h3 a4 h4 a5 h5 a6 h6 a7 h7 a8 h8 a9 h9 hc0 hc1 hc2 hc3 x0 x1 x2 x3 x4 xs = k0_pay2 xs x0 x1 := by
  unfold sout0_C_0
  rw [View.read_writes_eq_canon _ _ _ (fun _ => scover0_C_0 ..)]
  unfold kernelRun0_C
  dsimp only
  sl_unfold_words
  rw [View.canon_unit_zero (S := S1024x1024) hz2]
  simp only [View.readAt_eq_ld, h2.read_unread, h3.read_unread, h4.read_unread, h5.read_unread, h6.read_unread, h8.read_unread, h9.read_unread, View.ld_unit_zero (S := S1x1024x1408) hz3, View.ld_unit_zero (S := S1024x1024) hz2, View.ld_unit_zero (S := S1x1024) hz2]

/-- Later, the point's product is added to what the scratch held. -/
theorem scr_D (hc0 : ¬cond0_0 i) (hc1 : cond0_1 i) (hc2 : ¬cond0_2 i) (hc3 : cond0_3 i) :
    sout0_D_0 c i a2 h2 a3 h3 a4 h4 a5 h5 a6 h6 a7 h7 a8 h8 a9 h9 hc0 hc1 hc2 hc3 x0 x1 x2 x3 x4 xo xs = k0_pay2 xs x0 x1 := by
  unfold sout0_D_0
  rw [View.read_writes_eq_canon _ _ _ (fun _ => scover0_D_0 ..)]
  unfold kernelRun0_D
  dsimp only
  sl_unfold_words
  rw [View.canon_unit_zero (S := S1024x1024) hz2]
  simp only [View.readAt_eq_ld, h2.read_unread, h3.read_unread, h4.read_unread, h5.read_unread, h6.read_unread, h8.read_unread, h9.read_unread, View.ld_unit_zero (S := S1x1024x1408) hz3, View.ld_unit_zero (S := S1024x1024) hz2, View.ld_unit_zero (S := S1x1024) hz2]

/-- The last point of a block of tokens stores the gradient through the normalisation. -/
theorem out5_C (hc0 : ¬cond0_0 i) (hc1 : cond0_1 i) (hc2 : cond0_2 i) (hc3 : ¬cond0_3 i) :
    out0_C_5 c i a2 h2 a3 h3 a4 h4 a5 h5 a6 h6 a7 h7 a8 h8 a9 h9 hc0 hc1 hc2 hc3 x0 x1 x2 x3 x4 xs = k0_pay5 x2 (k0_pay2 xs x0 x1) x3 x4 := by
  unfold out0_C_5
  rw [View.read_writes_eq_canon _ _ _ (fun _ => cover0_C_5 ..)]
  unfold kernelRun0_C
  dsimp only
  sl_unfold_words
  rw [View.canon_unit_zero (S := S1024x1024) hz2, View.readCov_unit_zero (S := S1024x1024) _ hz2]
  simp only [View.readAt_eq_ld, h2.read_unread, h3.read_unread, h4.read_unread, h5.read_unread, h6.read_unread, h8.read_unread, h9.read_unread, View.ld_unit_zero (S := S1x1024x1408) hz3, View.ld_unit_zero (S := S1024x1024) hz2, View.ld_unit_zero (S := S1x1024) hz2]

/-- The last point of a block of tokens stores the gradient through the normalisation. -/
theorem out5_D (hc0 : ¬cond0_0 i) (hc1 : cond0_1 i) (hc2 : ¬cond0_2 i) (hc3 : cond0_3 i) :
    out0_D_5 c i a2 h2 a3 h3 a4 h4 a5 h5 a6 h6 a7 h7 a8 h8 a9 h9 hc0 hc1 hc2 hc3 x0 x1 x2 x3 x4 xo xs = k0_pay5 x2 (k0_pay2 xs x0 x1) x3 x4 := by
  unfold out0_D_5
  rw [View.read_writes_eq_canon _ _ _ (fun _ => cover0_D_5 ..)]
  unfold kernelRun0_D
  dsimp only
  sl_unfold_words
  rw [View.canon_unit_zero (S := S1024x1024) hz2, View.readCov_unit_zero (S := S1024x1024) _ hz2]
  simp only [View.readAt_eq_ld, h2.read_unread, h3.read_unread, h4.read_unread, h5.read_unread, h6.read_unread, h8.read_unread, h9.read_unread, View.ld_unit_zero (S := S1x1024x1408) hz3, View.ld_unit_zero (S := S1024x1024) hz2, View.ld_unit_zero (S := S1x1024) hz2]

/-- The first block's part of the gain's gradient. -/
theorem out6_C (hc0 : ¬cond0_0 i) (hc1 : cond0_1 i) (hc2 : cond0_2 i) (hc3 : ¬cond0_3 i) :
    out0_C_6 c i a2 h2 a3 h3 a4 h4 a5 h5 a6 h6 a7 h7 a8 h8 a9 h9 hc0 hc1 hc2 hc3 x0 x1 x2 x3 x4 xs = k0_pay6 x2 (k0_pay2 xs x0 x1) := by
  unfold out0_C_6
  rw [View.read_writes_eq_canon _ _ _ (fun _ => cover0_C_6 ..)]
  unfold kernelRun0_C
  dsimp only
  sl_unfold_words
  rw [View.canon_unit_zero (S := S1x1024) hz2, View.readCov_unit_zero (S := S1024x1024) _ hz2]
  simp only [View.readAt_eq_ld, h2.read_unread, h3.read_unread, h4.read_unread, h5.read_unread, h6.read_unread, h8.read_unread, h9.read_unread, View.ld_unit_zero (S := S1x1024x1408) hz3, View.ld_unit_zero (S := S1024x1024) hz2, View.ld_unit_zero (S := S1x1024) hz2]

/-- Later blocks add theirs. -/
theorem out6_D (hc0 : ¬cond0_0 i) (hc1 : cond0_1 i) (hc2 : ¬cond0_2 i) (hc3 : cond0_3 i) :
    out0_D_6 c i a2 h2 a3 h3 a4 h4 a5 h5 a6 h6 a7 h7 a8 h8 a9 h9 hc0 hc1 hc2 hc3 x0 x1 x2 x3 x4 xo xs = k0_pay7 x2 (k0_pay2 xs x0 x1) xo := by
  unfold out0_D_6
  rw [View.read_writes_eq_canon _ _ _ (fun _ => cover0_D_6 ..)]
  unfold kernelRun0_D
  dsimp only
  sl_unfold_words
  rw [View.canon_unit_zero (S := S1x1024) hz2, View.readCov_unit_zero (S := S1024x1024) _ hz2]
  simp only [View.readAt_eq_ld, h2.read_unread, h3.read_unread, h4.read_unread, h5.read_unread, h6.read_unread, h8.read_unread, h9.read_unread, View.ld_unit_zero (S := S1x1024x1408) hz3, View.ld_unit_zero (S := S1024x1024) hz2, View.ld_unit_zero (S := S1x1024) hz2]

end Body

section Pay

variable (x0 x1 : FVec Ideal S1x1024x1408 .bf16) (x g d acc : FVec Ideal S1024x1024 .f32) (gn prev : FVec Ideal S1x1024 .f32)

/-- One point's product. -/
def contrib (j : S1024x1024.Idx) : EReal := ∑ k : Fin 1408, x0 (ix3 0 (j 0) k) * x1 (ix3 0 (j 1) k)

theorem contrib_apply (r e : Fin 1024) :
    contrib x0 x1 (ix2 r e) = ∑ k : Fin 1408, x0 (ix3 0 r k) * x1 (ix3 0 e k) := rfl

theorem acc_apply (r e : Fin 1024) :
    k0_pay2 (F := Ideal) acc x0 x1 (ix2 r e) = acc (ix2 r e) + contrib x0 x1 (ix2 r e) := by
  unfold_payloads
  pointwise [contrib]

theorem zero_apply (r e : Fin 1024) : k0_pay1 (F := Ideal) (ix2 r e) = 0 := by
  unfold_payloads
  pointwise

theorem pay5_apply (r e : Fin 1024) :
    k0_pay5 (F := Ideal) x acc gn d (ix2 r e)
      = rr (fun l => x (ix2 r l)) * (acc (ix2 r e) * gn (ix2 0 e) - x (ix2 r e) * rr (fun l => x (ix2 r l))
          * Ideal.div (∑ k, acc (ix2 r k) * gn (ix2 0 k) * (x (ix2 r k) * rr (fun l => x (ix2 r l)))) (Ideal.ofBits .f32 0x44800000#32))
        + d (ix2 r e) := by
  unfold_payloads
  pointwise [rr]

theorem pay6_apply (e : Fin 1024) :
    k0_pay6 (F := Ideal) x acc (ix2 0 e) = ∑ r : Fin 1024, acc (ix2 r e) * (x (ix2 r e) * rr (fun l => x (ix2 r l))) := by
  unfold_payloads
  pointwise [rr]

theorem pay7_apply (e : Fin 1024) :
    k0_pay7 (F := Ideal) x acc prev (ix2 0 e)
      = prev (ix2 0 e) + ∑ r : Fin 1024, acc (ix2 r e) * (x (ix2 r e) * rr (fun l => x (ix2 r l))) := by
  unfold_payloads
  pointwise [rr]

end Pay

variable (m : (ℓ : Loc nD τ sig) → Buf (Elt Ideal) ℓ) (c : Dev nD)

/-- The arguments, as arrays. -/
abbrev Dg : FVec Ideal S2x4096x2816 .bf16 := m ((c : Thread nD τ).loc main_arg0)
abbrev W : FVec Ideal S4x1024x1408 .bf16 := m ((c : Thread nD τ).loc main_arg1)
abbrev X : FVec Ideal S4096x1024 .f32 := m ((c : Thread nD τ).loc main_arg2)
abbrev Gn : FVec Ideal S1x1024 .f32 := m ((c : Thread nD τ).loc main_arg3)
abbrev D : FVec Ideal S4096x1024 .f32 := m ((c : Thread nD τ).loc main_arg4)

theorem idxs : ∀ t : Fin cfg0.N, win0_0.index t (0 : Fin 3) = t.val % 4 / 2 ∧ win0_0.index t (1 : Fin 3) = t.val / 4
    ∧ win0_0.index t (2 : Fin 3) = t.val % 2 ∧ win0_1.index t (0 : Fin 3) = t.val % 4 ∧ win0_1.index t (1 : Fin 3) = 0
    ∧ win0_1.index t (2 : Fin 3) = 0 ∧ win0_2.index t (0 : Fin 2) = t.val / 4 ∧ win0_2.index t (1 : Fin 2) = 0
    ∧ win0_3.index t (0 : Fin 2) = 0 ∧ win0_3.index t (1 : Fin 2) = 0 ∧ win0_4.index t (0 : Fin 2) = t.val / 4 ∧ win0_4.index t (1 : Fin 2) = 0 :=
  (by decide +kernel : ∀ t : Fin grid0.N, win0_0.index t (0 : Fin 3) = t.val % 4 / 2 ∧ win0_0.index t (1 : Fin 3) = t.val / 4
    ∧ win0_0.index t (2 : Fin 3) = t.val % 2 ∧ win0_1.index t (0 : Fin 3) = t.val % 4 ∧ win0_1.index t (1 : Fin 3) = 0
    ∧ win0_1.index t (2 : Fin 3) = 0 ∧ win0_2.index t (0 : Fin 2) = t.val / 4 ∧ win0_2.index t (1 : Fin 2) = 0
    ∧ win0_3.index t (0 : Fin 2) = 0 ∧ win0_3.index t (1 : Fin 2) = 0 ∧ win0_4.index t (0 : Fin 2) = t.val / 4 ∧ win0_4.index t (1 : Fin 2) = 0)

/-- The point's block of the gate's or the up half's gradient. -/
theorem blk0 (t : Fin cfg0.N) (r : Fin 1024) (l : Fin 1408) (P : Fin 2) (T : Fin 4096) (N : Fin 2816)
    (hP : P.val = t.val % 4 / 2) (hT : T.val = 1024 * (t.val / 4) + r.val) (hN : N.val = 1408 * (t.val % 2) + l.val) :
    iblk m c 0 t (ix3 0 r l) = Dg m c (ix3 P T N) := by
  unfold iblk
  rw [View.read_apply]
  show V m c main_arg0 _ = m ((c : Thread nD τ).loc main_arg0) _
  unfold V
  congr 1
  funext a
  apply Fin.ext
  obtain ⟨e0, e1, e2, -⟩ := idxs t
  match a with
  | ⟨0, _⟩ => show win0_0.index t (0 : Fin 3) * 1 + 1 * 0 = P.val; rw [e0]; omega
  | ⟨1, _⟩ => show win0_0.index t (1 : Fin 3) * 1024 + 1 * r.val = T.val; rw [e1]; omega
  | ⟨2, _⟩ => show win0_0.index t (2 : Fin 3) * 1408 + 1 * l.val = N.val; rw [e2]; omega

/-- The point's block of the weights. -/
theorem blk1 (t : Fin cfg0.N) (e : Fin 1024) (l : Fin 1408) (J : Fin 4) (hJ : J.val = t.val % 4) :
    iblk m c 1 t (ix3 0 e l) = W m c (ix3 J e l) := by
  unfold iblk
  rw [View.read_apply]
  show V m c main_arg1 _ = m ((c : Thread nD τ).loc main_arg1) _
  unfold V
  congr 1
  funext a
  apply Fin.ext
  obtain ⟨-, -, -, e0, e1, e2, -⟩ := idxs t
  match a with
  | ⟨0, _⟩ => show win0_1.index t (0 : Fin 3) * 1 + 1 * 0 = J.val; rw [e0]; omega
  | ⟨1, _⟩ => show win0_1.index t (1 : Fin 3) * 1024 + 1 * e.val = e.val; rw [e1]; omega
  | ⟨2, _⟩ => show win0_1.index t (2 : Fin 3) * 1408 + 1 * l.val = l.val; rw [e2]; omega

/-- The point's block of the activations. -/
theorem blk2 (t : Fin cfg0.N) (r e : Fin 1024) (T : Fin 4096) (hT : T.val = 1024 * (t.val / 4) + r.val) :
    iblk m c 2 t (ix2 r e) = X m c (ix2 T e) := by
  unfold iblk
  rw [View.read_apply]
  show V m c main_arg2 _ = m ((c : Thread nD τ).loc main_arg2) _
  unfold V
  congr 1
  funext a
  apply Fin.ext
  obtain ⟨-, -, -, -, -, -, e0, e1, -⟩ := idxs t
  match a with
  | ⟨0, _⟩ => show win0_2.index t (0 : Fin 2) * 1024 + 1 * r.val = T.val; rw [e0]; omega
  | ⟨1, _⟩ => show win0_2.index t (1 : Fin 2) * 1024 + 1 * e.val = e.val; rw [e1]; omega

/-- The gain. -/
theorem blk3 (t : Fin cfg0.N) (e : Fin 1024) : iblk m c 3 t (ix2 0 e) = Gn m c (ix2 0 e) := by
  unfold iblk
  rw [View.read_apply]
  show V m c main_arg3 _ = m ((c : Thread nD τ).loc main_arg3) _
  unfold V
  congr 1
  funext a
  apply Fin.ext
  obtain ⟨-, -, -, -, -, -, -, -, e0, e1, -⟩ := idxs t
  match a with
  | ⟨0, _⟩ => show win0_3.index t (0 : Fin 2) * 1 + 1 * 0 = 0; rw [e0]
  | ⟨1, _⟩ => show win0_3.index t (1 : Fin 2) * 1024 + 1 * e.val = e.val; rw [e1]; omega

/-- The point's block of the gradient that comes past the FFN. -/
theorem blk4 (t : Fin cfg0.N) (r e : Fin 1024) (T : Fin 4096) (hT : T.val = 1024 * (t.val / 4) + r.val) :
    iblk m c 4 t (ix2 r e) = D m c (ix2 T e) := by
  unfold iblk
  rw [View.read_apply]
  show V m c main_arg4 _ = m ((c : Thread nD τ).loc main_arg4) _
  unfold V
  congr 1
  funext a
  apply Fin.ext
  obtain ⟨-, -, -, -, -, -, -, -, -, -, e0, e1⟩ := idxs t
  match a with
  | ⟨0, _⟩ => show win0_4.index t (0 : Fin 2) * 1024 + 1 * r.val = T.val; rw [e0]; omega
  | ⟨1, _⟩ => show win0_4.index t (1 : Fin 2) * 1024 + 1 * e.val = e.val; rw [e1]; omega

/-- What point `n` adds to the scratch. -/
def add (n : ℕ) (j : S1024x1024.Idx) : EReal :=
  if h : n < cfg0.N then contrib (iblk m c 0 ⟨n, h⟩) (iblk m c 1 ⟨n, h⟩) j else 0

theorem step_apply (n : ℕ) (h : n < cfg0.N) (hn : ¬ n % 4 = 0) (acc : FVec Ideal S1024x1024 .f32) (j : S1024x1024.Idx) :
    scAt0_0 m c n h acc j = acc j + add m c n j := by
  unfold scAt0_0 add
  rw [dif_neg hn, dif_pos h]
  have e := eq_ix2 j
  split
  · split
    · rw [dif_neg (by omega), scr_C, e]; exact acc_apply ..
    · rw [dif_pos (by omega), scr_D, e]; exact acc_apply ..
  · rw [scr_B, e]; exact acc_apply ..

theorem first_apply (n : ℕ) (h : n < cfg0.N) (hn : n % 4 = 0) (acc : FVec Ideal S1024x1024 .f32) (j : S1024x1024.Idx) :
    scAt0_0 m c n h acc j = 0 + add m c n j := by
  unfold scAt0_0 add
  rw [dif_pos hn, dif_neg (by omega), dif_pos h]
  have e := eq_ix2 j
  rw [scr_A, e]
  exact (acc_apply ..).trans (congrArg (· + _) (zero_apply ..))

/-- After point `t` the scratch holds the sum of its sweep's products so far. -/
theorem scr_eq (t : Fin cfg0.N) (j : S1024x1024.Idx) :
    (outsAt0 m c t.val t.isLt).2.2 j = 0 + ∑ s ∈ Finset.range (t.val % 4 + 1), add m c (4 * (t.val / 4) + s) j := by
  have hN : cfg0.N = 16 := N_0
  rw [soutsAt0_0_eq]
  exact Pipeline.accAt_add_apply _ _ (fun _ => 0) (add m c) (4 * (t.val / 4)) 3
    (fun h i => first_apply m c _ h (by omega) _ i)
    (fun n h acc i h1 h2 => step_apply m c n h (by omega) acc i) (t.val % 4) (by omega) _ j

/-- The product of the two halves' gradients with the weights, over all 5632 columns. -/
def dh (T : Fin 4096) (e : Fin 1024) : EReal :=
  ∑ n : Fin 5632, Dg m c (ix3 (⟨n.val / 2816, by have := n.isLt; omega⟩ : Fin 2) T (⟨n.val % 2816, by omega⟩ : Fin 2816))
    * W m c (ix3 (⟨n.val / 1408, by have := n.isLt; omega⟩ : Fin 4) e (⟨n.val % 1408, by omega⟩ : Fin 1408))

/-- At the last point of a block the scratch holds that product. -/
theorem scr_dh (t : Fin cfg0.N) (h1 : t.val % 4 = 3) (r e : Fin 1024) (T : Fin 4096) (hT : T.val = 1024 * (t.val / 4) + r.val) :
    (outsAt0 m c t.val t.isLt).2.2 (ix2 r e) = dh m c T e := by
  have hN0 : cfg0.N = 16 := N_0
  have ht := t.isLt
  rw [scr_eq, zero_add, h1]
  unfold dh
  let f : ℕ → EReal := fun n => if h : n < 5632 then
    Dg m c (ix3 (⟨n / 2816, by omega⟩ : Fin 2) T (⟨n % 2816, by omega⟩ : Fin 2816)) * W m c (ix3 (⟨n / 1408, by omega⟩ : Fin 4) e (⟨n % 1408, by omega⟩ : Fin 1408)) else 0
  refine Eq.trans (b := ∑ p ∈ Finset.range 4, ∑ q : Fin 1408, f (1408 * p + q.val)) ?_ ?_
  · refine Finset.sum_congr rfl fun p hp => ?_
    have hp := Finset.mem_range.mp hp
    unfold add
    have hq : 4 * (t.val / 4) + p < cfg0.N := by omega
    rw [dif_pos hq, contrib_apply]
    refine Finset.sum_congr rfl fun q _ => ?_
    have hq' := q.isLt
    have hx : 1408 * p + q.val < 5632 := by omega
    show _ = dite _ _ _
    rw [dif_pos hx, blk0 m c _ r q (⟨(1408 * p + q.val) / 2816, by omega⟩ : Fin 2) T (⟨(1408 * p + q.val) % 2816, by omega⟩ : Fin 2816) (by dsimp only; omega) (by dsimp only; omega) (by dsimp only; omega),
      blk1 m c _ e q (⟨(1408 * p + q.val) / 1408, by omega⟩ : Fin 4) (by dsimp only; omega)]
    exact congrArg (fun k => _ * W m c (ix3 _ e k)) (Fin.ext (by show q.val = (1408 * p + q.val) % 1408; omega))
  · rw [Cert.Reals.sum_runs 4 1408 f]
    exact Finset.sum_congr rfl fun n _ => dif_pos n.isLt

/-- What the kernel stores of the input's gradient. -/
def dxT (T : Fin 4096) (e : Fin 1024) : EReal :=
  rr (fun l => X m c (ix2 T l)) * (dh m c T e * Gn m c (ix2 0 e) - X m c (ix2 T e) * rr (fun l => X m c (ix2 T l))
      * Ideal.div (∑ k, dh m c T k * Gn m c (ix2 0 k) * (X m c (ix2 T k) * rr (fun l => X m c (ix2 T l)))) (Ideal.ofBits .f32 0x44800000#32))
    + D m c (ix2 T e)

/-- At the last point of a block, the first window. -/
theorem outs5 (t : Fin cfg0.N) (h1 : t.val % 4 = 3) (r e : Fin 1024) (T : Fin 4096) (hT : T.val = 1024 * (t.val / 4) + r.val) :
    (outsAt0 m c t.val t.isLt).1 (ix2 r e) = dxT m c T e := by
  have h0 : ¬ t.val % 4 = 0 := by omega
  have key : (outsAt0 m c t.val t.isLt).1 = k0_pay5 (F := Ideal) (iblk m c 2 t) (outsAt0 m c t.val t.isLt).2.2 (iblk m c 3 t) (iblk m c 4 t) := by
    by_cases h2 : t.val < 4
    · rw [outsAt0_C m c t h0 h1 h2 (by omega)]
      dsimp only
      rw [out5_C, scr_C]
    · rw [outsAt0_D m c t h0 h1 h2 (by omega)]
      dsimp only
      rw [out5_D, scr_D]
  rw [key, pay5_apply]
  unfold dxT
  simp only [scr_dh m c t h1 r _ T hT, blk2 m c t r _ T hT, blk3, blk4 m c t r _ T hT]

/-- The point's block of the activations, as an array. -/
abbrev xB (t : Fin cfg0.N) : FVec Ideal S1024x1024 .f32 := iblk m c 2 t

/-- A block's part of the gain's gradient. -/
def part (s : ℕ) (e : Fin 1024) : EReal :=
  ∑ r : Fin 1024, (if h : 1024 * s + r.val < 4096 then dh m c ⟨1024 * s + r.val, h⟩ e * (X m c (ix2 (⟨1024 * s + r.val, h⟩ : Fin 4096) e) * rr (fun l => X m c (ix2 (⟨1024 * s + r.val, h⟩ : Fin 4096) l))) else 0)

theorem part_eq (t : Fin cfg0.N) (h1 : t.val % 4 = 3) (e : Fin 1024) :
    (∑ r : Fin 1024, ((outsAt0 m c t.val t.isLt).2.2 (ix2 r e) : EReal) * (xB m c t (ix2 r e) * rr (fun l => xB m c t (ix2 r l))) : EReal) = part m c (t.val / 4) e := by
  have hN0 : cfg0.N = 16 := N_0
  have ht := t.isLt
  unfold part
  refine Finset.sum_congr rfl fun r _ => ?_
  have hr := r.isLt
  have hx : 1024 * (t.val / 4) + r.val < 4096 := by omega
  rw [dif_pos hx, scr_dh m c t h1 r e ⟨_, hx⟩ rfl]
  simp only [xB, blk2 m c t r _ (⟨_, hx⟩ : Fin 4096) rfl]

/-- Between the blocks' last points the second window is kept. -/
theorem keep (t : ℕ) (h : t + 1 < cfg0.N) (h1 : ¬ (t + 1) % 4 = 3) :
    (outsAt0 m c (t + 1) h).2.1 = (outsAt0 m c t (Nat.lt_of_succ_lt h)).2.1 := by
  by_cases h0 : (t + 1) % 4 = 0
  · rw [outsAt0_A m c ⟨t + 1, h⟩ h0 h1]; rfl
  · rw [outsAt0_B m c ⟨t + 1, h⟩ h0 h1]; rfl

/-- At the last point of block `s` the second window holds the parts so far. -/
theorem outs6 (e : Fin 1024) : ∀ (s : ℕ) (t : ℕ) (_ : t = 4 * s + 3) (h : t < cfg0.N),
    (outsAt0 m c t h).2.1 (ix2 0 e) = ∑ p ∈ Finset.range (s + 1), part m c p e := by
  intro s
  induction s with
  | zero =>
    intro t ht h
    have key := part_eq m c ⟨t, h⟩ (by dsimp only; omega) e
    dsimp only at key
    rw [show t / 4 = 0 by omega] at key
    rw [Finset.sum_range_one, ← key,
      outsAt0_C m c ⟨t, h⟩ (by dsimp only; omega) (by dsimp only; omega) (by dsimp only; omega) (by dsimp only; omega)]
    dsimp only
    rw [out6_C, scr_C]
    exact pay6_apply ..
  | succ s ih =>
    intro t ht h
    have key := part_eq m c ⟨t, h⟩ (by dsimp only; omega) e
    dsimp only at key
    obtain ⟨u, rfl⟩ : ∃ u, t = u + 1 + 1 + 1 + 1 := ⟨t - 4, by omega⟩
    have hu := ih u (by omega) (by omega)
    rw [show (u + 1 + 1 + 1 + 1) / 4 = s + 1 by omega] at key
    rw [Finset.sum_range_succ, ← key, ← hu,
      ← keep m c u (by omega) (by omega), ← keep m c (u + 1) (by omega) (by omega), ← keep m c (u + 1 + 1) (by omega) (by omega),
      outsAt0_D m c ⟨u + 1 + 1 + 1 + 1, h⟩ (by dsimp only; omega) (by dsimp only; omega) (by dsimp only; omega) (by dsimp only; omega)]
    dsimp only
    rw [out6_D, scr_D]
    exact pay7_apply ..

/-- The four parts together. -/
theorem parts (e : Fin 1024) :
    (∑ p ∈ Finset.range (3 + 1), part m c p e : EReal) = ∑ T : Fin 4096, dh m c T e * (X m c (ix2 T e) * rr (fun l => X m c (ix2 T l))) := by
  unfold part
  rw [Cert.Reals.sum_runs 4 1024 (fun n => if h : n < 4096 then dh m c ⟨n, h⟩ e * (X m c (ix2 (⟨n, h⟩ : Fin 4096) e) * rr (fun l => X m c (ix2 (⟨n, h⟩ : Fin 4096) l))) else 0)]
  exact Finset.sum_congr rfl fun T _ => dif_pos T.isLt

theorem final5 (T : Fin 4096) (e : Fin 1024) : G5 m c (ix2 T e) = dxT m c T e := by
  have hT := T.isLt
  have he := e.isLt
  have hN0 : cfg0.N = 16 := N_0
  have hp : pt5Of (ix2 T e) = 4 * (1 * (T.val / 1024 - 0) + 1 * (e.val / 1024 - 0)) + 3 := rfl
  have hp' : pt5Of (ix2 T e) = 4 * (T.val / 1024) + 3 := by rw [hp]; omega
  have hlt : pt5Of (ix2 T e) < cfg0.N := by rw [hp', hN0]; omega
  have hr : T.val % 1024 < 1024 := by omega
  have hloc : loc5Of (ix2 T e) = ix2 (⟨T.val % 1024, hr⟩ : Fin 1024) e := funext fun a => Fin.ext (by
    match a with
    | ⟨0, _⟩ => rfl
    | ⟨1, _⟩ => show e.val % 1024 = e.val; omega)
  unfold G5
  rw [dif_pos hlt, ← outsAt0_sweep m c _ hlt, hloc]
  exact outs5 m c ⟨pt5Of (ix2 T e), hlt⟩ (by dsimp only; omega) _ e T (by dsimp only; omega)

/-- The gain's gradient: over all tokens. -/
theorem final6 (e : Fin 1024) :
    (G6 m c (ix2 0 e) : EReal) = ∑ T : Fin 4096, dh m c T e * (X m c (ix2 T e) * rr (fun l => X m c (ix2 T l))) := by
  have he := e.isLt
  have hN0 : cfg0.N = 16 := N_0
  have hp : pt6Of (ix2 (0 : Fin 1) e) = 16 * (1 * (0 / 1 - 0) + 1 * (e.val / 1024 - 0)) + 15 := rfl
  have hp' : pt6Of (ix2 (0 : Fin 1) e) = 15 := by rw [hp]; omega
  have hlt : pt6Of (ix2 (0 : Fin 1) e) < cfg0.N := by rw [hp', hN0]; omega
  have hloc : loc6Of (ix2 (0 : Fin 1) e) = ix2 (0 : Fin 1) e := funext fun a => Fin.ext (by
    match a with
    | ⟨0, _⟩ => rfl
    | ⟨1, _⟩ => show e.val % 1024 = e.val; omega)
  unfold G6
  rw [dif_pos hlt, ← outsAt0_sweep m c _ hlt, hloc]
  exact (outs6 m c e 3 _ hp' hlt).trans (parts m c e)
end Cert.DxIdeal.Closed

namespace Cert.DxClaim

open Idealize.ShloMosaic Idealize.SL.Sem Idealize.ShloMosaic.TcCoe Cert.DxRefIdeal Cert.DxRefIdeal.Read Cert.Norm Cert.Reals

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems (by decide) _⟩) (Cert.DxRefIdeal.Value.run m g)

section Ref

variable (dg : FVec Ideal S2x4096x2816 .bf16) (w : FVec Ideal S4x1024x1408 .bf16) (x : FVec Ideal S4096x1024 .f32) (gn : FVec Ideal S1x1024 .f32) (d : FVec Ideal S4096x1024 .f32)

/-- The two gradients side by side, read at a column. -/
theorem both_apply (T : Fin 4096) (n : Fin 5632) :
    val_main_v27 (F := Ideal) dg (ix2 T n)
      = dg (ix3 (⟨n.val / 2816, by have := n.isLt; omega⟩ : Fin 2) T (⟨n.val % 2816, by omega⟩ : Fin 2816)) := by
  have hn := n.isLt
  pointwise [val_main_v27, val_main_v21, val_main_v22, val_main_v23, val_main_v24, val_main_v25, val_main_v26]
  split_ifs with hc
  · congr 1
    refine congr (congrArg ix3 (Fin.ext ?_) |> fun e => congrFun e T) (Fin.ext ?_)
    · show 0 = n.val / 2816; omega
    · show n.val = n.val % 2816; omega
  · congr 1
    refine congr (congrArg ix3 (Fin.ext ?_) |> fun e => congrFun e T) (Fin.ext ?_)
    · show 1 = n.val / 2816; omega
    · show n.val - 2816 = n.val % 2816; omega
  · exact absurd rfl (by assumption)

/-- The weights, read at a column. -/
theorem weights_apply (e : Fin 1024) (n : Fin 5632) :
    val_main_v2 (F := Ideal) w (ix2 e n)
      = w (ix3 (⟨n.val / 1408, by have := n.isLt; omega⟩ : Fin 4) e (⟨n.val % 1408, by omega⟩ : Fin 1408)) := by
  have hn := n.isLt
  rw [val_main_v2_apply, val_main_v1_apply, val_main_v0_apply]
  show w _ = w _
  congr 1
  funext a
  apply Fin.ext
  match a with
  | ⟨0, _⟩ => show (e.val * 5632 + n.val) / 1408 % 4 = n.val / 1408; omega
  | ⟨1, _⟩ => show (e.val * 5632 + n.val) / 5632 = e.val; omega
  | ⟨2, _⟩ => show (e.val * 5632 + n.val) % 1408 = n.val % 1408; omega

/-- The product over all 5632 columns. -/
def dh (T : Fin 4096) (e : Fin 1024) : EReal :=
  ∑ n : Fin 5632, dg (ix3 (⟨n.val / 2816, by have := n.isLt; omega⟩ : Fin 2) T (⟨n.val % 2816, by omega⟩ : Fin 2816))
    * w (ix3 (⟨n.val / 1408, by have := n.isLt; omega⟩ : Fin 4) e (⟨n.val % 1408, by omega⟩ : Fin 1408))

theorem dh_apply (T : Fin 4096) (e : Fin 1024) : val_main_v28 (F := Ideal) dg w (ix2 T e) = dh dg w T e := by
  rw [val_main_v28_apply]
  refine Finset.sum_congr rfl fun n _ => congrArg₂ (· * · : EReal → EReal → EReal) ?_ ?_
  · exact Eq.trans (congrArg _ (eq_ix2 _)) (both_apply dg T n)
  · exact Eq.trans (congrArg _ (eq_ix2 _)) (weights_apply w e n)

theorem gain_apply (e : Fin 1024) :
    val_main_v31 (F := Ideal) dg w x (ix2 0 e) = ∑ T : Fin 4096, x (ix2 T e) * rr (fun l => x (ix2 T l)) * dh dg w T e := by
  have h : val_main_v31 (F := Ideal) dg w x (ix2 0 e) = ∑ T : Fin 4096, x (ix2 T e) * rr (fun l => x (ix2 T l)) * val_main_v28 (F := Ideal) dg w (ix2 T e) := by
    pointwise [rr, val_main_v31, val_main_v30, val_main_v29, val_main_v15, val_main_v14, val_main_v10, val_main_v9, val_main_v8, val_main_v7, val_main_v6, val_main_v5, val_main_v4, val_main_v3, val_main_cst, val_main_cst_0, val_main_cst_1, val_main_cst_3, Ideal.ofBits_zero_f32, zero_add]
  rw [h]
  simp only [dh_apply]

theorem dx_apply (T : Fin 4096) (e : Fin 1024) :
    val_main_v48 (F := Ideal) dg w x gn d (ix2 T e)
      = d (ix2 T e) + dh dg w T e * gn (ix2 0 e) * rr (fun l => x (ix2 T l))
        + x (ix2 T e) * side (fun l => x (ix2 T l)) (fun l => gn (ix2 0 l)) (fun l => dh dg w T l)
        + side (fun l => x (ix2 T l)) (fun l => gn (ix2 0 l)) (fun l => dh dg w T l) * x (ix2 T e) := by
  have h : val_main_v48 (F := Ideal) dg w x gn d (ix2 T e)
      = d (ix2 T e) + val_main_v28 (F := Ideal) dg w (ix2 T e) * gn (ix2 0 e) * rr (fun l => x (ix2 T l))
        + x (ix2 T e) * side (fun l => x (ix2 T l)) (fun l => gn (ix2 0 l)) (fun l => val_main_v28 (F := Ideal) dg w (ix2 T l))
        + side (fun l => x (ix2 T l)) (fun l => gn (ix2 0 l)) (fun l => val_main_v28 (F := Ideal) dg w (ix2 T l)) * x (ix2 T e) := by
    pointwise [rr, side, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_4, val_main_cst_5, val_main_cst_6, Ideal.ofBits_zero_f32, zero_add]
    simp only [Finset.univ_unique, Finset.sum_singleton]
  rw [h]
  simp only [dh_apply]

end Ref

/-- The precondition says that the five arguments are real. -/
theorem finite (x0 : FVec Ideal Cert.DxIdeal.S2x4096x2816 .bf16) (x1 : FVec Ideal Cert.DxIdeal.S4x1024x1408 .bf16)
    (x2 : FVec Ideal Cert.DxIdeal.S4096x1024 .f32) (x3 : FVec Ideal Cert.DxIdeal.S1x1024 .f32) (x4 : FVec Ideal Cert.DxIdeal.S4096x1024 .f32)
    (h : ∀ j, Cert.Pre_finite_dx.fn (F := Ideal) x0 x1 x2 x3 x4 j = 1#1) :
    (∃ f : Cert.DxIdeal.S2x4096x2816.Idx → ℝ, x0 = fun i => (f i : EReal)) ∧ (∃ f : Cert.DxIdeal.S4x1024x1408.Idx → ℝ, x1 = fun i => (f i : EReal))
      ∧ (∃ f : Cert.DxIdeal.S4096x1024.Idx → ℝ, x2 = fun i => (f i : EReal)) ∧ (∃ f : Cert.DxIdeal.S1x1024.Idx → ℝ, x3 = fun i => (f i : EReal))
      ∧ ∃ f : Cert.DxIdeal.S4096x1024.Idx → ℝ, x4 = fun i => (f i : EReal) := by
  have h := h (fun a => a.elim0)
  dsimp only [Cert.Pre_finite_dx.fn, Cert.Pre_finite_dx.fn_part1, andi] at h
  obtain ⟨h0123, h4⟩ := IntOp.andi_eq_one.mp h
  obtain ⟨h012, h3⟩ := IntOp.andi_eq_one.mp h0123
  obtain ⟨h01, h2⟩ := IntOp.andi_eq_one.mp h012
  obtain ⟨h0, h1⟩ := IntOp.andi_eq_one.mp h01
  exact ⟨exists_real _ fun i => real_of_cmp (Host.reduce_andi_all _ _ _ _ _ h0 i),
    exists_real _ fun i => real_of_cmp (Host.reduce_andi_all _ _ _ _ _ h1 i),
    exists_real _ fun i => real_of_cmp (Host.reduce_andi_all _ _ _ _ _ h2 i),
    exists_real _ fun i => real_of_cmp (Host.reduce_andi_all _ _ _ _ _ h3 i),
    exists_real _ fun i => real_of_cmp (Host.reduce_andi_all _ _ _ _ _ h4 i)⟩

/-- A product of real arrays is real. -/
theorem dh_real (dg : S2x4096x2816.Idx → ℝ) (w : S4x1024x1408.Idx → ℝ) (T : Fin 4096) :
    ∃ f : Fin 1024 → ℝ, ∀ e, dh (fun i => (dg i : EReal)) (fun i => (w i : EReal)) T e = ((f e : ℝ) : EReal) := by
  refine ⟨fun e => ∑ n : Fin 5632, dg (ix3 (⟨n.val / 2816, by have := n.isLt; omega⟩ : Fin 2) T (⟨n.val % 2816, by omega⟩ : Fin 2816))
    * w (ix3 (⟨n.val / 1408, by have := n.isLt; omega⟩ : Fin 4) e (⟨n.val % 1408, by omega⟩ : Fin 1408)), fun e => ?_⟩
  unfold dh
  simp only [← EReal.coe_mul, coe_sum]

variable (m : (ℓ : Loc Cert.DxIdeal.nD Cert.DxIdeal.τ Cert.DxIdeal.sig) → Buf (Elt Ideal) ℓ) (c : Dev Cert.DxIdeal.nD)

open Cert.DxIdeal.Closed (Dg W X Gn D)

/-- The gain's gradient. -/
theorem gain :
    (Cert.DxIdeal.Value.G6 m c : S1x1024.Idx → EReal) = val_main_v31 (F := Ideal) (Dg m c) (W m c) (X m c) := by
  funext i
  obtain ⟨z, e, rfl⟩ : ∃ (z : Fin 1) (e : Fin 1024), i = ix2 z e := ⟨_, _, eq_ix2 i⟩
  obtain rfl : z = 0 := Subsingleton.elim _ _
  have h : (∑ T : Fin 4096, Cert.DxIdeal.Closed.dh m c T e * (X m c (ix2 T e) * rr (fun l => X m c (ix2 T l))) : EReal)
      = ∑ T : Fin 4096, X m c (ix2 T e) * rr (fun l => X m c (ix2 T l)) * dh (Dg m c) (W m c) T e :=
    Finset.sum_congr rfl fun T _ => mul_comm (G := EReal) _ _
  exact (Cert.DxIdeal.Closed.final6 m c e).trans (h.trans (gain_apply _ _ _ e).symm)

/-- The input's gradient. -/
theorem input (dg : S2x4096x2816.Idx → ℝ) (w : S4x1024x1408.Idx → ℝ) (x : S4096x1024.Idx → ℝ) (gn : S1x1024.Idx → ℝ) (d : S4096x1024.Idx → ℝ)
    (h0 : Dg m c = fun i => (dg i : EReal)) (h1 : W m c = fun i => (w i : EReal)) (h2 : X m c = fun i => (x i : EReal))
    (h3 : Gn m c = fun i => (gn i : EReal)) (h4 : D m c = fun i => (d i : EReal)) :
    (Cert.DxIdeal.Value.G5 m c : S4096x1024.Idx → EReal) = val_main_v48 (F := Ideal) (Dg m c) (W m c) (X m c) (Gn m c) (D m c) := by
  funext i
  obtain ⟨T, e, rfl⟩ : ∃ (T : Fin 4096) (e : Fin 1024), i = ix2 T e := ⟨_, _, eq_ix2 i⟩
  refine (Cert.DxIdeal.Closed.final5 m c T e).trans (Eq.trans ?_ (dx_apply _ _ _ _ _ T e).symm)
  obtain ⟨f, hf⟩ := dh_real dg w T
  have hk : ∀ e, Cert.DxIdeal.Closed.dh m c T e = ((f e : ℝ) : EReal) := fun e => by
    rw [← hf e, ← h0, ← h1]; rfl
  unfold Cert.DxIdeal.Closed.dxT
  rw [h0, h1, h2, h3, h4]
  simp only [hk, hf]
  exact back_join (fun l => x (ix2 T l)) (fun l => gn (ix2 0 l)) f (d (ix2 T e)) e

theorem algebraic : Cert.algebraic_DxIdeal_DxRefIdeal_pre_finite_dx := by
  intro m g m' g' hpre hag
  refine ⟨fun c => Cert.DxIdeal.Value.G5 m c, fun c => Cert.DxIdeal.Value.G6 m c, Cert.DxIdeal.Value.run m g, ?_⟩
  refine (θ_run _ _ _).mono (fun r h c => ?_) (Cert.DxRefIdeal.Value.run m' g')
  obtain ⟨h1, h2, h3⟩ := h c
  obtain ⟨⟨dg, hdg⟩, ⟨w, hw⟩, ⟨x, hx⟩, ⟨gn, hgn⟩, ⟨d, hd⟩⟩ := finite _ _ _ _ _ (fun j => congrFun (hpre c) j)
  obtain ⟨e0, e1, e2, e3, e4⟩ := hag c
  refine ⟨h1.trans ?_, h2.trans ?_, h3⟩
  · refine Eq.trans ?_ (input m c dg w x gn d hdg hw hx hgn hd).symm
    refine (val_main_v48_eq m' c).trans ?_
    rw [e0, e1, e2, e3, e4]
  · refine Eq.trans ?_ (gain m c).symm
    rw [e0, e1, e2]
    exact val_main_v31_eq ..

end Cert.DxClaim

end
-- ==== Proof.FwdClaim.lean ====
/-
  Hand-written, untrusted. An FFN's forward pass: for a block of 256 tokens the kernel normalises, takes the gate and up products
  column half by column half, and adds up the two halves' parts of the down product; the reference takes each product whole.
-/
module

public import proofs.«01_k».proof.Defs
public import proofs.«01_k».proof.Proof.Norm
public import proofs.«01_k».proof.Proof.Gen.FwdIdeal.Value
public import proofs.«01_k».proof.Proof.Gen.FwdRefIdeal.Run
public import proofs.«01_k».proof.Proof.Gen.FwdRefIdeal.Read
public import Idealize.ShloMosaic.Lib.Quiescent
public import Idealize.ShloMosaic.Lib.Pointwise
public import Idealize.ShloMosaic.Lib.Pointwise.Index

@[expose] public section

set_option maxRecDepth 16384

noncomputable section

namespace Cert.FwdIdeal.Closed

open Idealize.ShloMosaic Idealize.SL.Sem Cert.FwdIdeal Cert.FwdIdeal.Gen Idealize.ShloMosaic.TcCoe Cert.FwdIdeal.Value Cert.Norm

theorem hz2 : (![0, 0] : Fin 2 → Nat) = fun _ => 0 := funext fun a => by fin_cases a <;> rfl

/-- A gated unit: the gate through its sigmoid, times the up value. -/
def unit (s u : EReal) : EReal := s * Ideal.div 1 (1 + Ideal.exp (-s)) * u

section Pay

variable (x : FVec Ideal S256x1024 .f32) (gn : FVec Ideal S1x1024 .f32) (w : FVec Ideal S1x1024x1408 .bf16)
  (z : FVec Ideal S256x1024 .f32) (u : FVec Ideal S256x1408 .bf16) (s : FVec Ideal S256x1408 .f32) (wd : FVec Ideal S1408x1024 .bf16)

/-- A normed activation. -/
def hr (r : Fin 256) (k : Fin 1024) : EReal := x (ix2 r k) * rr (fun l => x (ix2 r l)) * gn (ix2 0 k)

theorem pay2_apply (r : Fin 256) (k : Fin 1024) : k0_pay2 (F := Ideal) x gn (ix2 r k) = hr x gn r k := by
  unfold_payloads
  pointwise [hr, rr]

theorem pay4_apply (r : Fin 256) (n : Fin 1408) : k0_pay4 (F := Ideal) x gn w (ix2 r n) = ∑ k, hr x gn r k * w (ix3 0 k n) := by
  unfold_payloads
  pointwise [hr, rr]

theorem pay5_apply (r : Fin 256) (n : Fin 1408) : k0_pay5 (F := Ideal) x gn w (ix2 r n) = ∑ k, hr x gn r k * w (ix3 0 k n) := by
  unfold_payloads
  pointwise [hr, rr]

theorem pay8_apply (r : Fin 256) (n : Fin 1408) : k0_pay8 (F := Ideal) x gn w (ix2 r n) = ∑ k, hr x gn r k * w (ix3 0 k n) := by
  unfold_payloads
  pointwise [hr, rr]

theorem pay6_apply (r : Fin 256) (n : Fin 1408) : k0_pay6 (F := Ideal) x gn w (ix3 0 r n) = ∑ k, hr x gn r k * w (ix3 0 k n) := by
  unfold_payloads
  pointwise [hr, rr]

theorem pay7_apply (r : Fin 256) (n : Fin 1408) : k0_pay7 (F := Ideal) x gn w (ix3 0 r n) = ∑ k, hr x gn r k * w (ix3 0 k n) := by
  unfold_payloads
  pointwise [hr, rr]

theorem pay11_apply (r : Fin 256) (n : Fin 1408) : k0_pay11 (F := Ideal) (k0_pay2 x gn) w (ix2 r n) = ∑ k, hr x gn r k * w (ix3 0 k n) := by
  unfold_payloads
  pointwise [hr, rr]

theorem pay12_apply (r : Fin 256) (n : Fin 1408) : k0_pay12 (F := Ideal) (k0_pay2 x gn) w (ix3 0 r n) = ∑ k, hr x gn r k * w (ix3 0 k n) := by
  unfold_payloads
  pointwise [hr, rr]

theorem pay13_apply (r : Fin 256) (n : Fin 1408) : k0_pay13 (F := Ideal) (k0_pay2 x gn) w (ix3 0 r n) = ∑ k, hr x gn r k * w (ix3 0 k n) := by
  unfold_payloads
  pointwise [hr, rr]

theorem pay14_apply (r : Fin 256) (n : Fin 1408) : k0_pay14 (F := Ideal) (k0_pay2 x gn) w (ix2 r n) = ∑ k, hr x gn r k * w (ix3 0 k n) := by
  unfold_payloads
  pointwise [hr, rr]

theorem pay15_apply (r : Fin 256) (n : Fin 1408) :
    k0_pay15 (F := Ideal) (k0_pay2 x gn) w (ix2 r n) = 1 + Ideal.exp (-(∑ k, hr x gn r k * w (ix3 0 k n))) := by
  unfold_payloads
  pointwise [hr, rr, Ideal.ofBits_one_f32, Ideal.ofBits_zero_f32, zero_sub]

theorem pay16_apply (r : Fin 256) (n : Fin 1408) : k0_pay16 (F := Ideal) (ix2 r n) = 1 := by
  unfold_payloads
  pointwise [Ideal.ofBits_one_f32]

theorem pay3_apply (r : Fin 256) (e : Fin 1024) : k0_pay3 (F := Ideal) (ix2 r e) = 0 := by
  unfold_payloads
  pointwise [Ideal.ofBits_zero_f32]

theorem pay9_apply (r : Fin 256) (e : Fin 1024) :
    k0_pay9 (F := Ideal) z u s wd (ix2 r e) = z (ix2 r e) + ∑ n, unit (s (ix2 r n)) (u (ix2 r n)) * wd (ix2 n e) := by
  unfold_payloads
  pointwise [unit, Ideal.ofBits_one_f32, Ideal.ofBits_zero_f32, zero_sub]

theorem pay1_apply (e1 one : FVec Ideal S256x1408 .f32) (r : Fin 256) (e : Fin 1024) :
    k0_pay1 (F := Ideal) x z u s e1 one wd (ix2 r e)
      = x (ix2 r e) + Ideal.ofBits .f32 0x3F000000#32 * (z (ix2 r e) + ∑ n, s (ix2 r n) * Ideal.div (one (ix2 r n)) (e1 (ix2 r n)) * u (ix2 r n) * wd (ix2 n e)) := by
  unfold_payloads
  pointwise

end Pay

section Block

variable (x : FVec Ideal S256x1024 .f32) (gn : FVec Ideal S1x1024 .f32) (w : FVec Ideal S4x1024x1408 .bf16) (wd : FVec Ideal S2816x1024 .bf16)

/-- A gate (`P = 0`) or up value of the block: column `n` lies in block `2·P + n/1408` of the weights. -/
def pre (P : Fin 2) (r : Fin 256) (n : Fin 2816) : EReal :=
  ∑ k, hr x gn r k * w (ix3 (⟨2 * P.val + n.val / 1408, by have := P.isLt; have := n.isLt; omega⟩ : Fin 4) k (⟨n.val % 1408, by omega⟩ : Fin 1408))

theorem pre_of (P : Fin 2) (r : Fin 256) (n : Fin 2816) (J : Fin 4) (l : Fin 1408) (v : FVec Ideal S1x1024x1408 .bf16)
    (hv : ∀ k n, v (ix3 0 k n) = w (ix3 J k n)) (hJ : J.val = 2 * P.val + n.val / 1408) (hl : l.val = n.val % 1408) :
    (∑ k, hr x gn r k * v (ix3 0 k l) : EReal) = pre x gn w P r n := by
  refine Finset.sum_congr rfl fun k _ => congrArg (fun i => hr x gn r k * i) ((hv k l).trans (congrArg w ?_))
  exact funext fun a => Fin.ext (by match a with | ⟨0, _⟩ => exact hJ | ⟨1, _⟩ => rfl | ⟨2, _⟩ => exact hl)

theorem ld0 : View.ld (Val := Elt Ideal) (e' := .f32) x r0_0 = x := View.ld_unit_zero (Val := Elt Ideal) (e := .f32) (S := S256x1024) hz2 _ x
theorem ld1 : View.ld (Val := Elt Ideal) (e' := .f32) gn r0_1 = gn := View.ld_unit_zero (Val := Elt Ideal) (e := .f32) (S := S1x1024) hz2 _ gn
theorem ld2 (k : Fin 1024) (n : Fin 1408) : View.ld (Val := Elt Ideal) (e' := .bf16) w r0_2 (ix3 0 k n) = w (ix3 0 k n) :=
  congrArg w (funext fun a => Fin.ext (by match a with | ⟨0, _⟩ => rfl | ⟨1, _⟩ => show 0 + 1 * k.val = k.val; omega | ⟨2, _⟩ => show 0 + 1 * n.val = n.val; omega))
theorem ld3 (k : Fin 1024) (n : Fin 1408) : View.ld (Val := Elt Ideal) (e' := .bf16) w r0_3 (ix3 0 k n) = w (ix3 2 k n) :=
  congrArg w (funext fun a => Fin.ext (by match a with | ⟨0, _⟩ => rfl | ⟨1, _⟩ => show 0 + 1 * k.val = k.val; omega | ⟨2, _⟩ => show 0 + 1 * n.val = n.val; omega))
theorem ld7 (k : Fin 1024) (n : Fin 1408) : View.ld (Val := Elt Ideal) (e' := .bf16) w r0_7 (ix3 0 k n) = w (ix3 1 k n) :=
  congrArg w (funext fun a => Fin.ext (by match a with | ⟨0, _⟩ => rfl | ⟨1, _⟩ => show 0 + 1 * k.val = k.val; omega | ⟨2, _⟩ => show 0 + 1 * n.val = n.val; omega))
theorem ld8 (k : Fin 1024) (n : Fin 1408) : View.ld (Val := Elt Ideal) (e' := .bf16) w r0_8 (ix3 0 k n) = w (ix3 3 k n) :=
  congrArg w (funext fun a => Fin.ext (by match a with | ⟨0, _⟩ => rfl | ⟨1, _⟩ => show 0 + 1 * k.val = k.val; omega | ⟨2, _⟩ => show 0 + 1 * n.val = n.val; omega))
theorem ld6 (n : Fin 1408) (e : Fin 1024) : View.ld (Val := Elt Ideal) (e' := .bf16) wd r0_6 (ix2 n e) = wd (ix2 (⟨n.val, by have := n.isLt; omega⟩ : Fin 2816) e) :=
  congrArg wd (funext fun a => Fin.ext (by match a with | ⟨0, _⟩ => show 0 + 1 * n.val = n.val; omega | ⟨1, _⟩ => show 0 + 1 * e.val = e.val; omega))
theorem ld11 (n : Fin 1408) (e : Fin 1024) : View.ld (Val := Elt Ideal) (e' := .bf16) wd r0_11 (ix2 n e) = wd (ix2 (⟨1408 + n.val, by have := n.isLt; omega⟩ : Fin 2816) e) :=
  congrArg wd (funext fun a => Fin.ext (by match a with | ⟨0, _⟩ => show 1408 + 1 * n.val = 1408 + n.val; omega | ⟨1, _⟩ => show 0 + 1 * e.val = e.val; omega))

theorem norm_eq : k0_pay17 (F := Ideal) x gn w wd = k0_pay2 x gn := by
  unfold k0_pay17
  rw [ld0, ld1]

/-- The block of normed activations. -/
theorem out6_apply (r : Fin 256) (k : Fin 1024) : out0_6 (F := Ideal) x gn w wd (ix2 r k) = hr x gn r k := by
  unfold out0_6
  rw [ld0, ld1, View.canon_unit_zero (S := S256x1024) hz2]
  exact pay2_apply x gn r k

/-- The block of gate and up values. -/
theorem out5_apply (P : Fin 2) (r : Fin 256) (n : Fin 2816) : out0_5 (F := Ideal) x gn w wd (ix3 P r n) = pre x gn w P r n := by
  unfold out0_5
  rw [norm_eq, ld0, ld1]
  refine (View.canon_apply_of_pieces (fun y : S2x256x2816.Idx => (pre x gn w (y 0) (y 1) (y 2) : EReal)) _ ?_ (ix3 P r n) (cover0_5 _ _ _ _ _)).trans rfl
  intro pc hpc
  rcases List.mem_cons.mp hpc with rfl | hpc
  · intro y
    obtain ⟨a, r, l, rfl⟩ : ∃ (a : Fin 1) (r : Fin 256) (l : Fin 1408), y = ix3 a r l := ⟨_, _, _, eq_ix3 y⟩
    obtain rfl : a = 0 := Subsingleton.elim _ _
    have hl := l.isLt
    refine (pay13_apply _ _ _ r l).trans ((pre_of x gn w 1 r (⟨1408 + l.val, by omega⟩ : Fin 2816) 3 l _ (ld8 w)
      (by show 3 = 2 * 1 + (1408 + l.val) / 1408; omega) (by show l.val = (1408 + l.val) % 1408; omega)).trans ?_)
    refine congr (congr (congrArg (pre x gn w) (Fin.ext ?_)) (Fin.ext ?_)) (Fin.ext ?_)
    · rfl
    · show r.val = 0 + 1 * r.val; omega
    · show 1408 + l.val = 1408 + 1 * l.val; omega
  rcases List.mem_cons.mp hpc with rfl | hpc
  · intro y
    obtain ⟨a, r, l, rfl⟩ : ∃ (a : Fin 1) (r : Fin 256) (l : Fin 1408), y = ix3 a r l := ⟨_, _, _, eq_ix3 y⟩
    obtain rfl : a = 0 := Subsingleton.elim _ _
    have hl := l.isLt
    refine (pay12_apply _ _ _ r l).trans ((pre_of x gn w 0 r (⟨1408 + l.val, by omega⟩ : Fin 2816) 1 l _ (ld7 w)
      (by show 1 = 2 * 0 + (1408 + l.val) / 1408; omega) (by show l.val = (1408 + l.val) % 1408; omega)).trans ?_)
    refine congr (congr (congrArg (pre x gn w) (Fin.ext ?_)) (Fin.ext ?_)) (Fin.ext ?_)
    · rfl
    · show r.val = 0 + 1 * r.val; omega
    · show 1408 + l.val = 1408 + 1 * l.val; omega
  rcases List.mem_cons.mp hpc with rfl | hpc
  · intro y
    obtain ⟨a, r, l, rfl⟩ : ∃ (a : Fin 1) (r : Fin 256) (l : Fin 1408), y = ix3 a r l := ⟨_, _, _, eq_ix3 y⟩
    obtain rfl : a = 0 := Subsingleton.elim _ _
    have hl := l.isLt
    refine (pay7_apply _ _ _ r l).trans ((pre_of x gn w 1 r (⟨l.val, by omega⟩ : Fin 2816) 2 l _ (ld3 w)
      (by show 2 = 2 * 1 + (l.val) / 1408; omega) (by show l.val = (l.val) % 1408; omega)).trans ?_)
    refine congr (congr (congrArg (pre x gn w) (Fin.ext ?_)) (Fin.ext ?_)) (Fin.ext ?_)
    · rfl
    · show r.val = 0 + 1 * r.val; omega
    · show l.val = 0 + 1 * l.val; omega
  rcases List.mem_cons.mp hpc with rfl | hpc
  · intro y
    obtain ⟨a, r, l, rfl⟩ : ∃ (a : Fin 1) (r : Fin 256) (l : Fin 1408), y = ix3 a r l := ⟨_, _, _, eq_ix3 y⟩
    obtain rfl : a = 0 := Subsingleton.elim _ _
    have hl := l.isLt
    refine (pay6_apply _ _ _ r l).trans ((pre_of x gn w 0 r (⟨l.val, by omega⟩ : Fin 2816) 0 l _ (ld2 w)
      (by show 0 = 2 * 0 + (l.val) / 1408; omega) (by show l.val = (l.val) % 1408; omega)).trans ?_)
    refine congr (congr (congrArg (pre x gn w) (Fin.ext ?_)) (Fin.ext ?_)) (Fin.ext ?_)
    · rfl
    · show r.val = 0 + 1 * r.val; omega
    · show l.val = 0 + 1 * l.val; omega
  nomatch hpc

/-- The block of the result. -/
theorem out4_apply (r : Fin 256) (e : Fin 1024) :
    out0_4 (F := Ideal) x gn w wd (ix2 r e)
      = x (ix2 r e) + Ideal.ofBits .f32 0x3F000000#32 * ∑ n : Fin 2816, unit (pre x gn w 0 r n) (pre x gn w 1 r n) * wd (ix2 n e) := by
  unfold out0_4
  rw [norm_eq, ld0, ld1, View.canon_unit_zero (S := S256x1024) hz2]
  refine (pay1_apply _ _ _ _ _ _ _ r e).trans ?_
  refine congrArg (fun s : EReal => x (ix2 r e) + Ideal.ofBits .f32 0x3F000000#32 * s) ?_
  rw [pay9_apply, pay3_apply, zero_add]
  let f : ℕ → EReal := fun n => if h : n < 2816 then unit (pre x gn w 0 r ⟨n, h⟩) (pre x gn w 1 r ⟨n, h⟩) * wd (ix2 (⟨n, h⟩ : Fin 2816) e) else 0
  refine Eq.trans (b := ∑ p ∈ Finset.range 2, ∑ q : Fin 1408, f (1408 * p + q.val)) ?_ ?_
  · rw [Finset.sum_range_succ, Finset.sum_range_one]
    refine congrArg₂ (· + · : EReal → EReal → EReal) (Finset.sum_congr rfl fun q _ => ?_) (Finset.sum_congr rfl fun q _ => ?_)
    · have hq := q.isLt
      have hx : 1408 * 0 + q.val < 2816 := by omega
      show _ = dite _ _ _
      rw [dif_pos hx]
      refine congrArg₂ (· * · : EReal → EReal → EReal) (congrArg₂ unit ?_ ?_) ((ld6 wd q e).trans (congrArg wd ?_))
      · exact (pay8_apply _ _ _ r q).trans (pre_of x gn w 0 r ⟨1408 * 0 + q.val, hx⟩ 0 q _ (ld2 w)
          (by show 0 = 2 * 0 + (1408 * 0 + q.val) / 1408; omega) (by show q.val = (1408 * 0 + q.val) % 1408; omega))
      · exact (pay5_apply _ _ _ r q).trans (pre_of x gn w 1 r ⟨1408 * 0 + q.val, hx⟩ 2 q _ (ld3 w)
          (by show 2 = 2 * 1 + (1408 * 0 + q.val) / 1408; omega) (by show q.val = (1408 * 0 + q.val) % 1408; omega))
      · exact congrArg (fun k => ix2 k e) (Fin.ext (by show q.val = 1408 * 0 + q.val; omega))
    · have hq := q.isLt
      have hx : 1408 * 1 + q.val < 2816 := by omega
      show _ = dite _ _ _
      rw [dif_pos hx, pay15_apply, pay16_apply]
      have hg := (pay14_apply x gn (View.ld (Val := Elt Ideal) (e' := .bf16) w r0_7) r q)
      have hs := pre_of x gn w 0 r ⟨1408 * 1 + q.val, hx⟩ 1 q _ (ld7 w)
          (by show 1 = 2 * 0 + (1408 * 1 + q.val) / 1408; omega) (by show q.val = (1408 * 1 + q.val) % 1408; omega)
      refine congrArg₂ (· * · : EReal → EReal → EReal) ?_ ((ld11 wd q e).trans (congrArg wd ?_))
      · exact congrArg₂ (· * · : EReal → EReal → EReal)
          (congrArg₂ (· * · : EReal → EReal → EReal) (hg.trans hs) (congrArg (fun s => Ideal.div 1 (1 + Ideal.exp (-s))) hs))
          ((pay11_apply _ _ _ r q).trans (pre_of x gn w 1 r ⟨1408 * 1 + q.val, hx⟩ 3 q _ (ld8 w)
            (by show 3 = 2 * 1 + (1408 * 1 + q.val) / 1408; omega) (by show q.val = (1408 * 1 + q.val) % 1408; omega)))
      · exact congrArg (fun k => ix2 k e) (Fin.ext (by show 1408 + q.val = 1408 * 1 + q.val; omega))
  · rw [Cert.Reals.sum_runs 2 1408 f]
    exact Finset.sum_congr rfl fun n _ => dif_pos n.isLt

end Block

variable (m : (ℓ : Loc nD τ sig) → Buf (Elt Ideal) ℓ) (c : Dev nD)

/-- The four arguments, as arrays. -/
abbrev X : FVec Ideal S4096x1024 .f32 := m ((c : Thread nD τ).loc main_arg0)
abbrev G : FVec Ideal S1x1024 .f32 := m ((c : Thread nD τ).loc main_arg1)
abbrev W : FVec Ideal S4x1024x1408 .bf16 := m ((c : Thread nD τ).loc main_arg2)
abbrev D : FVec Ideal S2816x1024 .bf16 := m ((c : Thread nD τ).loc main_arg3)

theorem hN0 : cfg0.N = 16 := N_0

theorem idxs : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 3) = 0
    ∧ win0_2.index t (1 : Fin 3) = 0
    ∧ win0_2.index t (2 : Fin 3) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 3) = 0
    ∧ win0_5.index t (1 : Fin 3) = t.val
    ∧ win0_5.index t (2 : Fin 3) = 0
    ∧ win0_6.index t (0 : Fin 2) = t.val
    ∧ win0_6.index t (1 : Fin 2) = 0 :=
  (by decide +kernel : ∀ t : Fin grid0.N, win0_0.index t (0 : Fin 2) = t.val
    ∧ win0_0.index t (1 : Fin 2) = 0
    ∧ win0_1.index t (0 : Fin 2) = 0
    ∧ win0_1.index t (1 : Fin 2) = 0
    ∧ win0_2.index t (0 : Fin 3) = 0
    ∧ win0_2.index t (1 : Fin 3) = 0
    ∧ win0_2.index t (2 : Fin 3) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 3) = 0
    ∧ win0_5.index t (1 : Fin 3) = t.val
    ∧ win0_5.index t (2 : Fin 3) = 0
    ∧ win0_6.index t (0 : Fin 2) = t.val
    ∧ win0_6.index t (1 : Fin 2) = 0)

/-- Block `t` of the stream: tokens `256·t …`. -/
theorem blk0 (t : Fin cfg0.N) (r : Fin 256) (k : Fin 1024) (T : Fin 4096) (hT : T.val = 256 * t.val + r.val) :
    iblk m c 0 t (ix2 r k) = X m c (ix2 T k) := by
  unfold iblk
  rw [View.read_apply]
  show V m c main_arg0 _ = m ((c : Thread nD τ).loc main_arg0) _
  unfold V
  congr 1
  funext a
  apply Fin.ext
  obtain ⟨e0, e1, -⟩ := idxs t
  match a with
  | ⟨0, _⟩ => show win0_0.index t (0 : Fin 2) * 256 + 1 * r.val = T.val; rw [e0]; omega
  | ⟨1, _⟩ => show win0_0.index t (1 : Fin 2) * 1024 + 1 * k.val = k.val; rw [e1]; omega

/-- The gain and the two weights are one block each. -/
theorem blk1 (t : Fin cfg0.N) : iblk m c 1 t = G m c := by
  funext y
  unfold iblk
  rw [View.read_apply]
  show V m c main_arg1 _ = m ((c : Thread nD τ).loc main_arg1) _
  unfold V
  congr 1
  funext a
  apply Fin.ext
  obtain ⟨-, -, e0, e1, -⟩ := idxs t
  match a with
  | ⟨0, _⟩ => show win0_1.index t (0 : Fin 2) * 1 + 1 * (y 0).val = (y 0).val; rw [e0]; omega
  | ⟨1, _⟩ => show win0_1.index t (1 : Fin 2) * 1024 + 1 * (y 1).val = (y 1).val; rw [e1]; omega

theorem blk2 (t : Fin cfg0.N) : iblk m c 2 t = W m c := by
  funext y
  unfold iblk
  rw [View.read_apply]
  show V m c main_arg2 _ = m ((c : Thread nD τ).loc main_arg2) _
  unfold V
  congr 1
  funext a
  apply Fin.ext
  obtain ⟨-, -, -, -, e0, e1, e2, -⟩ := idxs t
  match a with
  | ⟨0, _⟩ => show win0_2.index t (0 : Fin 3) * 4 + 1 * (y 0).val = (y 0).val; rw [e0]; omega
  | ⟨1, _⟩ => show win0_2.index t (1 : Fin 3) * 1024 + 1 * (y 1).val = (y 1).val; rw [e1]; omega
  | ⟨2, _⟩ => show win0_2.index t (2 : Fin 3) * 1408 + 1 * (y 2).val = (y 2).val; rw [e2]; omega

theorem blk3 (t : Fin cfg0.N) : iblk m c 3 t = D m c := by
  funext y
  unfold iblk
  rw [View.read_apply]
  show V m c main_arg3 _ = m ((c : Thread nD τ).loc main_arg3) _
  unfold V
  congr 1
  funext a
  apply Fin.ext
  obtain ⟨-, -, -, -, -, -, -, e0, e1, -⟩ := idxs t
  match a with
  | ⟨0, _⟩ => show win0_3.index t (0 : Fin 2) * 2816 + 1 * (y 0).val = (y 0).val; rw [e0]; omega
  | ⟨1, _⟩ => show win0_3.index t (1 : Fin 2) * 1024 + 1 * (y 1).val = (y 1).val; rw [e1]; omega

section Whole

variable (x : FVec Ideal S4096x1024 .f32) (gn : FVec Ideal S1x1024 .f32) (w : FVec Ideal S4x1024x1408 .bf16) (wd : FVec Ideal S2816x1024 .bf16)

/-- A token's normed activations. -/
def hT (T : Fin 4096) (k : Fin 1024) : EReal := x (ix2 T k) * rr (fun l => x (ix2 T l)) * gn (ix2 0 k)

/-- A token's gate (`P = 0`) and up (`P = 1`) values. -/
def preT (P : Fin 2) (T : Fin 4096) (n : Fin 2816) : EReal :=
  ∑ k, hT x gn T k * w (ix3 (⟨2 * P.val + n.val / 1408, by have := P.isLt; have := n.isLt; omega⟩ : Fin 4) k (⟨n.val % 1408, by omega⟩ : Fin 1408))

/-- A token's result: the stream plus half the down product of its gated units. -/
def outT (T : Fin 4096) (e : Fin 1024) : EReal :=
  x (ix2 T e) + Ideal.ofBits .f32 0x3F000000#32 * ∑ n : Fin 2816, unit (preT x gn w 0 T n) (preT x gn w 1 T n) * wd (ix2 n e)

/-- The three results, as arrays. -/
def F4 : FVec Ideal S4096x1024 .f32 := fun i => outT x gn w wd (i 0) (i 1)
def F5 : FVec Ideal S2x4096x2816 .bf16 := fun i => preT x gn w (i 0) (i 1) (i 2)
def F6 : FVec Ideal S4096x1024 .bf16 := fun i => hT x gn (i 0) (i 1)

end Whole

theorem hr_eq (xb : FVec Ideal S256x1024 .f32) (x : FVec Ideal S4096x1024 .f32) (gn : FVec Ideal S1x1024 .f32) (r : Fin 256) (T : Fin 4096)
    (h : ∀ k, xb (ix2 r k) = x (ix2 T k)) (k : Fin 1024) : hr xb gn r k = hT x gn T k := by
  unfold hr hT
  rw [h k, show (fun l => xb (ix2 r l)) = fun l => x (ix2 T l) from funext h]

theorem pre_eq (xb : FVec Ideal S256x1024 .f32) (x : FVec Ideal S4096x1024 .f32) (gn : FVec Ideal S1x1024 .f32) (w : FVec Ideal S4x1024x1408 .bf16)
    (r : Fin 256) (T : Fin 4096) (h : ∀ k, xb (ix2 r k) = x (ix2 T k)) (P : Fin 2) (n : Fin 2816) : pre xb gn w P r n = preT x gn w P T n := by
  unfold pre preT
  exact Finset.sum_congr rfl fun k _ => congrArg (fun s : EReal => s * w _) (hr_eq xb x gn r T h k)

theorem point4 (t : Fin cfg0.N) (r : Fin 256) (e : Fin 1024) (T : Fin 4096) (hT : T.val = 256 * t.val + r.val) :
    out0_4 (F := Ideal) (iblk m c 0 t) (iblk m c 1 t) (iblk m c 2 t) (iblk m c 3 t) (ix2 r e) = outT (X m c) (G m c) (W m c) (D m c) T e := by
  rw [blk1, blk2, blk3]
  refine (out4_apply _ _ _ _ r e).trans ?_
  unfold outT
  refine congrArg₂ (· + · : EReal → EReal → EReal) (blk0 m c t r e T hT) (congrArg (fun s : EReal => Ideal.ofBits .f32 0x3F000000#32 * s) ?_)
  exact Finset.sum_congr rfl fun n _ => congrArg (fun s : EReal => s * D m c (ix2 n e))
    (congrArg₂ unit (pre_eq _ _ _ _ r T (fun k => blk0 m c t r k T hT) 0 n) (pre_eq _ _ _ _ r T (fun k => blk0 m c t r k T hT) 1 n))

theorem point5 (t : Fin cfg0.N) (P : Fin 2) (r : Fin 256) (n : Fin 2816) (T : Fin 4096) (hT : T.val = 256 * t.val + r.val) :
    out0_5 (F := Ideal) (iblk m c 0 t) (iblk m c 1 t) (iblk m c 2 t) (iblk m c 3 t) (ix3 P r n) = preT (X m c) (G m c) (W m c) P T n := by
  rw [blk1, blk2, blk3]
  exact (out5_apply _ _ _ _ P r n).trans (pre_eq _ _ _ _ r T (fun k => blk0 m c t r k T hT) P n)

theorem point6 (t : Fin cfg0.N) (r : Fin 256) (k : Fin 1024) (T : Fin 4096) (hT : T.val = 256 * t.val + r.val) :
    out0_6 (F := Ideal) (iblk m c 0 t) (iblk m c 1 t) (iblk m c 2 t) (iblk m c 3 t) (ix2 r k) = Closed.hT (X m c) (G m c) T k := by
  rw [blk1, blk2, blk3]
  exact (out6_apply _ _ _ _ r k).trans (hr_eq _ _ _ r T (fun k => blk0 m c t r k T hT) k)

/-- What point `t` writes back is its block of each result. -/
theorem flushed4_eq (t : Fin cfg0.N) : (dats m 0 c).flushed 4 t = ((cfg0.win 4).blk t).view.read (Elt Ideal) (F4 (X m c) (G m c) (W m c) (D m c)) := by
  rw [flushed4]
  obtain ⟨-, -, -, -, -, -, -, -, -, e0, e1, -⟩ := idxs t
  funext y
  have hN := hN0
  have ht := t.isLt
  have hy0 : (y 0).val < 256 := (y 0).isLt
  have hy1 : (y 1).val < 1024 := (y 1).isLt
  have hb0 : (((cfg0.win 4).blk t).view.emb y 0).val = win0_4.index t (0 : Fin 2) * 256 + 1 * (y 0).val := rfl
  have hb1 : (((cfg0.win 4).blk t).view.emb y 1).val = win0_4.index t (1 : Fin 2) * 1024 + 1 * (y 1).val := rfl
  have hl : (cfg0.win 4).xinj (grid0.coords t) y = ix2 (⟨(y 0).val, hy0⟩ : Fin 256) (⟨(y 1).val, hy1⟩ : Fin 1024) :=
    funext fun a => Fin.ext (by match a with | ⟨0, _⟩ => rfl | ⟨1, _⟩ => rfl)
  have hr : ((cfg0.win 4).blk t).view.emb y = ix2 (⟨256 * t.val + (y 0).val, by omega⟩ : Fin 4096) (⟨(y 1).val, hy1⟩ : Fin 1024) :=
    funext fun a => Fin.ext (by
      match a with
      | ⟨0, _⟩ => exact hb0.trans (by rw [e0]; show _ = 256 * t.val + (y 0).val; omega)
      | ⟨1, _⟩ => exact hb1.trans (by rw [e1]; show _ = (y 1).val; omega))
  show out0_4 (F := Ideal) (iblk m c 0 t) (iblk m c 1 t) (iblk m c 2 t) (iblk m c 3 t) ((cfg0.win 4).xinj (grid0.coords t) y)
    = F4 (X m c) (G m c) (W m c) (D m c) (((cfg0.win 4).blk t).view.emb y)
  rw [hl, hr]
  exact point4 m c t _ _ _ rfl

theorem covered4 (i : S4096x1024.Idx) : ∃ t : Fin cfg0.N, (cfg0.win 4).flush t = true ∧ i ∈ ((cfg0.win 4).blk t).view.set := by
  have hN := hN0
  have hi0 : (i 0).val < 4096 := (i 0).isLt
  have hi1 : (i 1).val < 1024 := (i 1).isLt
  let t : Fin cfg0.N := ⟨(i 0).val / 256, by omega⟩
  refine ⟨t, (by decide +kernel : ∀ t : Fin grid0.N, win0_4.flush t = true) t, ?_⟩
  show i ∈ ((View.whole main_v0_0).slice (win0_4.rect t)).set
  rw [View.set_slice_whole, Rect.mem_set_unit]
  obtain ⟨-, -, -, -, -, -, -, -, -, e0, e1, -⟩ := idxs t
  have ht : t.val = (i 0).val / 256 := rfl
  intro a
  match a with
  | ⟨0, _⟩ => show win0_4.index t (0 : Fin 2) * 256 ≤ (i 0).val ∧ (i 0).val < win0_4.index t (0 : Fin 2) * 256 + 256; rw [e0]; omega
  | ⟨1, _⟩ => show win0_4.index t (1 : Fin 2) * 1024 ≤ (i 1).val ∧ (i 1).val < win0_4.index t (1 : Fin 2) * 1024 + 1024; rw [e1]; omega

theorem final4 : (dats m 0 c).arrAt 4 cfg0.N = F4 (X m c) (G m c) (W m c) (D m c) :=
  (dats m 0 c).arrAt_eq_of_cover 4 _ (fun t _ => flushed4_eq m c t) covered4

theorem flushed5_eq (t : Fin cfg0.N) : (dats m 0 c).flushed 5 t = ((cfg0.win 5).blk t).view.read (Elt Ideal) (F5 (X m c) (G m c) (W m c)) := by
  rw [flushed5]
  obtain ⟨-, -, -, -, -, -, -, -, -, -, -, e0, e1, e2, -⟩ := idxs t
  funext y
  have hN := hN0
  have ht := t.isLt
  have hy0 : (y 0).val < 2 := (y 0).isLt
  have hy1 : (y 1).val < 256 := (y 1).isLt
  have hy2 : (y 2).val < 2816 := (y 2).isLt
  have hb0 : (((cfg0.win 5).blk t).view.emb y 0).val = win0_5.index t (0 : Fin 3) * 2 + 1 * (y 0).val := rfl
  have hb1 : (((cfg0.win 5).blk t).view.emb y 1).val = win0_5.index t (1 : Fin 3) * 256 + 1 * (y 1).val := rfl
  have hb2 : (((cfg0.win 5).blk t).view.emb y 2).val = win0_5.index t (2 : Fin 3) * 2816 + 1 * (y 2).val := rfl
  have hl : (cfg0.win 5).xinj (grid0.coords t) y = ix3 (⟨(y 0).val, hy0⟩ : Fin 2) (⟨(y 1).val, hy1⟩ : Fin 256) (⟨(y 2).val, hy2⟩ : Fin 2816) :=
    funext fun a => Fin.ext (by match a with | ⟨0, _⟩ => rfl | ⟨1, _⟩ => rfl | ⟨2, _⟩ => rfl)
  have hr : ((cfg0.win 5).blk t).view.emb y = ix3 (⟨(y 0).val, hy0⟩ : Fin 2) (⟨256 * t.val + (y 1).val, by omega⟩ : Fin 4096) (⟨(y 2).val, hy2⟩ : Fin 2816) :=
    funext fun a => Fin.ext (by
      match a with
      | ⟨0, _⟩ => exact hb0.trans (by rw [e0]; show _ = (y 0).val; omega)
      | ⟨1, _⟩ => exact hb1.trans (by rw [e1]; show _ = 256 * t.val + (y 1).val; omega)
      | ⟨2, _⟩ => exact hb2.trans (by rw [e2]; show _ = (y 2).val; omega))
  show out0_5 (F := Ideal) (iblk m c 0 t) (iblk m c 1 t) (iblk m c 2 t) (iblk m c 3 t) ((cfg0.win 5).xinj (grid0.coords t) y)
    = F5 (X m c) (G m c) (W m c) (((cfg0.win 5).blk t).view.emb y)
  rw [hl, hr]
  exact point5 m c t _ _ _ _ rfl

theorem covered5 (i : S2x4096x2816.Idx) : ∃ t : Fin cfg0.N, (cfg0.win 5).flush t = true ∧ i ∈ ((cfg0.win 5).blk t).view.set := by
  have hN := hN0
  have hi0 : (i 0).val < 2 := (i 0).isLt
  have hi1 : (i 1).val < 4096 := (i 1).isLt
  have hi2 : (i 2).val < 2816 := (i 2).isLt
  let t : Fin cfg0.N := ⟨(i 1).val / 256, by omega⟩
  refine ⟨t, (by decide +kernel : ∀ t : Fin grid0.N, win0_5.flush t = true) t, ?_⟩
  show i ∈ ((View.whole main_v0_1).slice (win0_5.rect t)).set
  rw [View.set_slice_whole, Rect.mem_set_unit]
  obtain ⟨-, -, -, -, -, -, -, -, -, -, -, e0, e1, e2, -⟩ := idxs t
  have ht : t.val = (i 1).val / 256 := rfl
  intro a
  match a with
  | ⟨0, _⟩ => show win0_5.index t (0 : Fin 3) * 2 ≤ (i 0).val ∧ (i 0).val < win0_5.index t (0 : Fin 3) * 2 + 2; rw [e0]; omega
  | ⟨1, _⟩ => show win0_5.index t (1 : Fin 3) * 256 ≤ (i 1).val ∧ (i 1).val < win0_5.index t (1 : Fin 3) * 256 + 256; rw [e1]; omega
  | ⟨2, _⟩ => show win0_5.index t (2 : Fin 3) * 2816 ≤ (i 2).val ∧ (i 2).val < win0_5.index t (2 : Fin 3) * 2816 + 2816; rw [e2]; omega

theorem final5 : (dats m 0 c).arrAt 5 cfg0.N = F5 (X m c) (G m c) (W m c) :=
  (dats m 0 c).arrAt_eq_of_cover 5 _ (fun t _ => flushed5_eq m c t) covered5

theorem flushed6_eq (t : Fin cfg0.N) : (dats m 0 c).flushed 6 t = ((cfg0.win 6).blk t).view.read (Elt Ideal) (F6 (X m c) (G m c)) := by
  rw [flushed6]
  obtain ⟨-, -, -, -, -, -, -, -, -, -, -, -, -, -, e0, e1⟩ := idxs t
  funext y
  have hN := hN0
  have ht := t.isLt
  have hy0 : (y 0).val < 256 := (y 0).isLt
  have hy1 : (y 1).val < 1024 := (y 1).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 1024 + 1 * (y 1).val := rfl
  have hl : (cfg0.win 6).xinj (grid0.coords t) y = ix2 (⟨(y 0).val, hy0⟩ : Fin 256) (⟨(y 1).val, hy1⟩ : Fin 1024) :=
    funext fun a => Fin.ext (by match a with | ⟨0, _⟩ => rfl | ⟨1, _⟩ => rfl)
  have hr : ((cfg0.win 6).blk t).view.emb y = ix2 (⟨256 * t.val + (y 0).val, by omega⟩ : Fin 4096) (⟨(y 1).val, hy1⟩ : Fin 1024) :=
    funext fun a => Fin.ext (by
      match a with
      | ⟨0, _⟩ => exact hb0.trans (by rw [e0]; show _ = 256 * t.val + (y 0).val; omega)
      | ⟨1, _⟩ => exact hb1.trans (by rw [e1]; show _ = (y 1).val; omega))
  show out0_6 (F := Ideal) (iblk m c 0 t) (iblk m c 1 t) (iblk m c 2 t) (iblk m c 3 t) ((cfg0.win 6).xinj (grid0.coords t) y)
    = F6 (X m c) (G m c) (((cfg0.win 6).blk t).view.emb y)
  rw [hl, hr]
  exact point6 m c t _ _ _ rfl

theorem covered6 (i : S4096x1024.Idx) : ∃ t : Fin cfg0.N, (cfg0.win 6).flush t = true ∧ i ∈ ((cfg0.win 6).blk t).view.set := by
  have hN := hN0
  have hi0 : (i 0).val < 4096 := (i 0).isLt
  have hi1 : (i 1).val < 1024 := (i 1).isLt
  let t : Fin cfg0.N := ⟨(i 0).val / 256, by omega⟩
  refine ⟨t, (by decide +kernel : ∀ t : Fin grid0.N, win0_6.flush t = true) t, ?_⟩
  show i ∈ ((View.whole main_v0_2).slice (win0_6.rect t)).set
  rw [View.set_slice_whole, Rect.mem_set_unit]
  obtain ⟨-, -, -, -, -, -, -, -, -, -, -, -, -, -, e0, e1⟩ := idxs t
  have ht : t.val = (i 0).val / 256 := rfl
  intro a
  match a with
  | ⟨0, _⟩ => show win0_6.index t (0 : Fin 2) * 256 ≤ (i 0).val ∧ (i 0).val < win0_6.index t (0 : Fin 2) * 256 + 256; rw [e0]; omega
  | ⟨1, _⟩ => show win0_6.index t (1 : Fin 2) * 1024 ≤ (i 1).val ∧ (i 1).val < win0_6.index t (1 : Fin 2) * 1024 + 1024; rw [e1]; omega

theorem final6 : (dats m 0 c).arrAt 6 cfg0.N = F6 (X m c) (G m c) :=
  (dats m 0 c).arrAt_eq_of_cover 6 _ (fun t _ => flushed6_eq m c t) covered6

end Cert.FwdIdeal.Closed

namespace Cert.FwdClaim

open Idealize.ShloMosaic Idealize.SL.Sem Idealize.ShloMosaic.TcCoe Cert.FwdRefIdeal Cert.FwdRefIdeal.Read
open Cert.FwdIdeal.Closed (hT preT outT unit F4 F5 F6)
open Cert.Norm

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) _⟩) (Cert.FwdRefIdeal.Value.run m g)

section Ref

variable (x : FVec Ideal Cert.FwdIdeal.S4096x1024 .f32) (gn : FVec Ideal Cert.FwdIdeal.S1x1024 .f32) (w : FVec Ideal Cert.FwdIdeal.S4x1024x1408 .bf16) (wd : FVec Ideal Cert.FwdIdeal.S2816x1024 .bf16)

theorem h_apply (T : Fin 4096) (k : Fin 1024) : val_main_v14 (F := Ideal) x gn (ix2 T k) = hT x gn T k := by
  pointwise [hT, rr, val_main_v14, val_main_v13, val_main_v12, val_main_v11, val_main_v10, val_main_v9, val_main_v8, val_main_v7, val_main_v6, val_main_v5, val_main_v4, val_main_v3, val_main_cst, val_main_cst_0, val_main_cst_1, Ideal.ofBits_zero_f32, zero_add]

/-- The weights, read at a column. -/
theorem weights_apply (e : Fin 1024) (n : Fin 5632) :
    val_main_v2 (F := Ideal) w (ix2 e n)
      = w (ix3 (⟨n.val / 1408, by have := n.isLt; omega⟩ : Fin 4) e (⟨n.val % 1408, by omega⟩ : Fin 1408)) := by
  have hn := n.isLt
  rw [val_main_v2_apply, val_main_v1_apply, val_main_v0_apply]
  show w _ = w _
  congr 1
  funext a
  apply Fin.ext
  match a with
  | ⟨0, _⟩ => show (e.val * 5632 + n.val) / 1408 % 4 = n.val / 1408; omega
  | ⟨1, _⟩ => show (e.val * 5632 + n.val) / 5632 = e.val; omega
  | ⟨2, _⟩ => show (e.val * 5632 + n.val) % 1408 = n.val % 1408; omega

/-- The product of a token with column `2816·P + n` of the weights. -/
theorem product_apply (T : Fin 4096) (P : Fin 2) (n : Fin 2816) (N : Fin 5632) (hN : N.val = 2816 * P.val + n.val) :
    val_main_v15 (F := Ideal) x gn w (ix2 T N) = preT x gn w P T n := by
  have hn := n.isLt
  rw [val_main_v15_apply]
  unfold preT
  refine Finset.sum_congr rfl fun k _ => congrArg₂ (· * · : EReal → EReal → EReal) ?_ ?_
  · exact Eq.trans (congrArg _ (eq_ix2 _)) (h_apply x gn T k)
  · refine Eq.trans (congrArg _ (eq_ix2 _)) ((weights_apply w k N).trans (congrArg w ?_))
    exact funext fun a => Fin.ext (by
      match a with
      | ⟨0, _⟩ => show N.val / 1408 = 2 * P.val + n.val / 1408; omega
      | ⟨1, _⟩ => rfl
      | ⟨2, _⟩ => show N.val % 1408 = n.val % 1408; omega)

theorem gate_apply (T : Fin 4096) (n : Fin 2816) : val_main_v16 (F := Ideal) x gn w (ix2 T n) = preT x gn w 0 T n := by
  have hn := n.isLt
  rw [val_main_v16_apply]
  refine Eq.trans (congrArg _ ?_) (product_apply x gn w T 0 n ⟨n.val, by omega⟩ (by show n.val = 2816 * 0 + n.val; omega))
  exact funext fun a => Fin.ext (by match a with | ⟨0, _⟩ => rfl | ⟨1, _⟩ => rfl)

theorem up_apply (T : Fin 4096) (n : Fin 2816) : val_main_v17 (F := Ideal) x gn w (ix2 T n) = preT x gn w 1 T n := by
  have hn := n.isLt
  rw [val_main_v17_apply]
  refine Eq.trans (congrArg _ ?_) (product_apply x gn w T 1 n ⟨2816 + n.val, by omega⟩ (by show 2816 + n.val = 2816 * 1 + n.val; omega))
  exact funext fun a => Fin.ext (by match a with | ⟨0, _⟩ => rfl | ⟨1, _⟩ => rfl)

theorem unit_apply (T : Fin 4096) (n : Fin 2816) :
    val_main_v19 (F := Ideal) x gn w (ix2 T n) = unit (preT x gn w 0 T n) (preT x gn w 1 T n) := by
  have h : val_main_v19 (F := Ideal) x gn w (ix2 T n)
      = unit (val_main_v16 (F := Ideal) x gn w (ix2 T n)) (val_main_v17 (F := Ideal) x gn w (ix2 T n)) := by
    pointwise [unit, val_main_v19, val_main_v18, val_main_call0_v0, val_main_call0_v1, val_main_call0_cst, val_main_call0_v2, val_main_call0_v3, val_main_call0_cst_0, val_main_call0_v4, val_main_call0_v5, Ideal.ofBits_one_f32]
  rw [h, gate_apply, up_apply]

theorem F4_eq : F4 x gn w wd = val_main_v24 (F := Ideal) x gn w wd := by
  funext i
  obtain ⟨T, e, rfl⟩ : ∃ (T : Fin 4096) (e : Fin 1024), i = ix2 T e := ⟨_, _, eq_ix2 i⟩
  have h : val_main_v24 (F := Ideal) x gn w wd (ix2 T e)
      = x (ix2 T e) + Ideal.ofBits .f32 0x3F000000#32 * ∑ n : Fin 2816, val_main_v19 (F := Ideal) x gn w (ix2 T n) * wd (ix2 n e) := by
    pointwise [val_main_v24, val_main_v23, val_main_v22, val_main_v21, val_main_v20, val_main_cst, val_main_cst_0, val_main_cst_1, val_main_cst_2]
  rw [h]
  simp only [unit_apply]
  rfl

theorem F5_eq : F5 x gn w = val_main_v28 (F := Ideal) x gn w := by
  funext i
  obtain ⟨P, T, n, rfl⟩ : ∃ (P : Fin 2) (T : Fin 4096) (n : Fin 2816), i = ix3 P T n := ⟨_, _, _, eq_ix3 i⟩
  have hP := P.isLt
  show preT x gn w P T n = _
  pointwise [val_main_v28, val_main_v27, val_main_v26, val_main_v25]
  split_ifs with hc
  · have hP0 : P = 0 := Fin.ext (by show P.val = 0; omega)
    rw [hP0]
    exact (gate_apply x gn w T n).symm
  · have hP1 : P = 1 := Fin.ext (by show P.val = 1; omega)
    rw [hP1]
    exact (up_apply x gn w T n).symm

theorem F6_eq : F6 x gn = val_main_v29 (F := Ideal) x gn := by
  funext i
  obtain ⟨T, k, rfl⟩ : ∃ (T : Fin 4096) (k : Fin 1024), i = ix2 T k := ⟨_, _, eq_ix2 i⟩
  rw [val_main_v29_apply]
  exact (h_apply x gn T k).symm

end Ref

theorem algebraic : Cert.algebraic_FwdIdeal_FwdRefIdeal := by
  intro m g m' g' _ hag
  refine ⟨fun c => F4 (Cert.FwdIdeal.Closed.X m c) (Cert.FwdIdeal.Closed.G m c) (Cert.FwdIdeal.Closed.W m c) (Cert.FwdIdeal.Closed.D m c),
    fun c => F5 (Cert.FwdIdeal.Closed.X m c) (Cert.FwdIdeal.Closed.G m c) (Cert.FwdIdeal.Closed.W m c),
    fun c => F6 (Cert.FwdIdeal.Closed.X m c) (Cert.FwdIdeal.Closed.G m c), ?_, ?_⟩
  · exact (θ_run _ _ _).mono (fun r h c => ⟨(h c).1.trans (Cert.FwdIdeal.Closed.final4 m c), (h c).2.1.trans (Cert.FwdIdeal.Closed.final5 m c),
      (h c).2.2.1.trans (Cert.FwdIdeal.Closed.final6 m c), (h c).2.2.2⟩) (Cert.FwdIdeal.Value.run_blocks m g)
  refine (θ_run _ _ _).mono (fun r h c => ?_) (Cert.FwdRefIdeal.Value.run m' g')
  obtain ⟨h1, h2, h3, h4⟩ := h c
  obtain ⟨e0, e1, e2, e3⟩ := hag c
  refine ⟨h1.trans ?_, h2.trans ?_, h3.trans ?_, h4⟩
  · refine Eq.trans ?_ (F4_eq _ _ _ _).symm
    rw [e0, e1, e2, e3]
    exact val_main_v24_eq ..
  · refine Eq.trans ?_ (F5_eq _ _ _).symm
    rw [e0, e1, e2]
    exact val_main_v28_eq ..
  · refine Eq.trans ?_ (F6_eq _ _).symm
    rw [e0, e1]
    exact val_main_v29_eq ..

end Cert.FwdClaim

end
-- ==== Proof.NnClaim.lean ====
/-
  Hand-written, untrusted. A mixer's output projection added to the stream: the kernel's result is the reference's. Each grid
  point takes 512 tokens, zeroes its scratch, adds the one product (the contraction is one step long) and adds the stream.
-/
module

public import proofs.«01_k».proof.Defs
public import proofs.«01_k».proof.Proof.Gen.NnIdeal.Value
public import proofs.«01_k».proof.Proof.Gen.NnRefIdeal.Run
public import proofs.«01_k».proof.Proof.Gen.NnRefIdeal.Read
public import Idealize.ShloMosaic.Lib.Quiescent
public import Idealize.ShloMosaic.Lib.Pointwise
public import Idealize.ShloMosaic.Lib.Pointwise.Index

@[expose] public section

set_option maxRecDepth 16384

noncomputable section

namespace Cert.NnIdeal.Closed

open Idealize.ShloMosaic Idealize.SL.Sem Cert.NnIdeal Cert.NnIdeal.Gen Idealize.ShloMosaic.TcCoe Cert.NnIdeal.Value

theorem hz2 : (![0, 0] : Fin 2 → Nat) = fun _ => 0 := funext fun a => by fin_cases a <;> rfl

section Body

variable {F : FTy → Type} [FloatOps F]
  (c : Dev nD) (i : grid0.Coords) (a3 : Memref sig .tc .vmem S512x1024 .f32) (h3 : a3.IsWhole) (a4 : Memref sig .tc .vmem S1024x1024 .bf16) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole)
  (x0 : Vec F S512x1024 .f32) (x1 : Vec F S1024x1024 .bf16) (x2 : Vec F S512x1024 .f32)

/-- The block a grid point stores, of its three input blocks. -/
def pay (x0 : Vec F S512x1024 .f32) (x1 : Vec F S1024x1024 .bf16) (x2 : Vec F S512x1024 .f32) : Vec F S512x1024 .f32 :=
  k0_pay3 x2 (k0_pay2 (k0_pay1 (F := F)) x0 x1)

/-- What a grid point stores. -/
theorem out3 (hc0 : cond0_0 i) (hc1 : cond0_1 i) :
    out0_A_3 c i a3 h3 a4 h4 a5 h5 a6 h6 a7 h7 hc0 hc1 x0 x1 x2 = pay x0 x1 x2 := by
  unfold out0_A_3
  rw [View.read_writes_eq_canon _ _ _ (cover0_A_3 c i a3 h3 a4 h4 a5 h5 a6 h6 a7 h7 hc0 hc1 x0 x1 x2)]
  unfold kernelRun0_A
  dsimp only
  sl_unfold_words
  rw [View.canon_unit_zero (S := S512x1024) hz2, View.readCov_cons_toLoadRect, View.readCov_unit_zero (S := S512x1024) _ hz2]
  simp only [View.readAt_eq_ld, h3.read_unread, h4.read_unread, h5.read_unread, View.ld_unit_zero (S := S512x1024) hz2,
    View.ld_unit_zero (S := S1024x1024) hz2]
  rfl

end Body

/-- The stored block at an index. -/
theorem pay_apply (x0 : FVec Ideal S512x1024 .f32) (x1 : FVec Ideal S1024x1024 .bf16) (x2 : FVec Ideal S512x1024 .f32)
    (r : Fin 512) (l : Fin 1024) :
    pay (F := Ideal) x0 x1 x2 (ix2 r l) = x2 (ix2 r l) + ∑ k, x0 (ix2 r k) * x1 (ix2 k l) := by
  unfold pay
  unfold_payloads
  pointwise

variable (m : (ℓ : Loc nD τ sig) → Buf (Elt Ideal) ℓ) (c : Dev nD)

/-- The three arguments, as arrays. -/
abbrev O : FVec Ideal S4096x1024 .f32 := m ((c : Thread nD τ).loc main_arg0)
abbrev W : FVec Ideal S1024x1024 .bf16 := m ((c : Thread nD τ).loc main_arg1)
abbrev X : FVec Ideal S4096x1024 .f32 := m ((c : Thread nD τ).loc main_arg2)

theorem idxs : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0)

/-- Block `t` of the mixer's output: tokens `512·t …`. -/
theorem blk0 (t : Fin cfg0.N) (r : Fin 512) (k : Fin 1024) (T : Fin 4096) (hT : T.val = 512 * t.val + r.val) :
    iblk m c 0 t (ix2 r k) = O m c (ix2 T k) := by
  unfold iblk
  rw [View.read_apply]
  show V m c main_arg0 _ = m ((c : Thread nD τ).loc main_arg0) _
  unfold V
  congr 1
  funext a
  apply Fin.ext
  obtain ⟨e0, e1, e2, e3, e4, e5, -⟩ := idxs t
  match a with
  | ⟨0, _⟩ => show win0_0.index t (0 : Fin 2) * 512 + 1 * r.val = T.val; rw [e0]; omega
  | ⟨1, _⟩ => show win0_0.index t (1 : Fin 2) * 1024 + 1 * k.val = k.val; rw [e1]; omega

/-- The weight is one block. -/
theorem blk1 (t : Fin cfg0.N) (k l : Fin 1024) : iblk m c 1 t (ix2 k l) = W m c (ix2 k l) := by
  unfold iblk
  rw [View.read_apply]
  show V m c main_arg1 _ = m ((c : Thread nD τ).loc main_arg1) _
  unfold V
  congr 1
  funext a
  apply Fin.ext
  obtain ⟨e0, e1, e2, e3, e4, e5, -⟩ := idxs t
  match a with
  | ⟨0, _⟩ => show win0_1.index t (0 : Fin 2) * 1024 + 1 * k.val = k.val; rw [e2]; omega
  | ⟨1, _⟩ => show win0_1.index t (1 : Fin 2) * 1024 + 1 * l.val = l.val; rw [e3]; omega

/-- Block `t` of the stream. -/
theorem blk2 (t : Fin cfg0.N) (r : Fin 512) (k : Fin 1024) (T : Fin 4096) (hT : T.val = 512 * t.val + r.val) :
    iblk m c 2 t (ix2 r k) = X m c (ix2 T k) := by
  unfold iblk
  rw [View.read_apply]
  show V m c main_arg2 _ = m ((c : Thread nD τ).loc main_arg2) _
  unfold V
  congr 1
  funext a
  apply Fin.ext
  obtain ⟨e0, e1, e2, e3, e4, e5, -⟩ := idxs t
  match a with
  | ⟨0, _⟩ => show win0_2.index t (0 : Fin 2) * 512 + 1 * r.val = T.val; rw [e4]; omega
  | ⟨1, _⟩ => show win0_2.index t (1 : Fin 2) * 1024 + 1 * k.val = k.val; rw [e5]; omega

/-- The result: the stream plus the product. -/
def out (o : FVec Ideal S4096x1024 .f32) (w : FVec Ideal S1024x1024 .bf16) (x : FVec Ideal S4096x1024 .f32) : FVec Ideal S4096x1024 .f32 :=
  fun i => x (ix2 (i 0) (i 1)) + ∑ k : Fin 1024, o (ix2 (i 0) k) * w (ix2 k (i 1))

/-- A point's block at an index. -/
theorem point_eq (t : Fin cfg0.N) (r : Fin 512) (l : Fin 1024) (T : Fin 4096) (hT : T.val = 512 * t.val + r.val) :
    pay (F := Ideal) (iblk m c 0 t) (iblk m c 1 t) (iblk m c 2 t) (ix2 r l) = out (O m c) (W m c) (X m c) (ix2 T l) := by
  refine (pay_apply _ _ _ _ _).trans ?_
  rw [blk2 m c t r l T hT]
  unfold out
  simp only [blk0 m c t r _ T hT, blk1 m c t]
  rfl

/-- What point `t` writes back is its block of the result. -/
theorem flushed_eq (t : Fin cfg0.N) :
    (dats m 0 c).flushed 3 t = ((cfg0.win 3).blk t).view.read (Elt Ideal) (out (O m c) (W m c) (X m c)) := by
  rw [flushed3_A, out3]
  obtain ⟨-, -, -, -, -, -, e6, e7⟩ := idxs t
  funext y
  have hN : cfg0.N = 8 := N_0
  have ht := t.isLt
  have hy0 : (y 0).val < 512 := (y 0).isLt
  have hy1 : (y 1).val < 1024 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 1024 + 1 * (y 1).val := rfl
  have hl : (cfg0.win 3).xinj (grid0.coords t) y = ix2 (⟨(y 0).val, hy0⟩ : Fin 512) (⟨(y 1).val, hy1⟩ : Fin 1024) :=
    funext fun a => Fin.ext (by match a with | ⟨0, _⟩ => rfl | ⟨1, _⟩ => rfl)
  have hr : ((cfg0.win 3).blk t).view.emb y = ix2 (⟨512 * t.val + (y 0).val, by omega⟩ : Fin 4096) (⟨(y 1).val, hy1⟩ : Fin 1024) :=
    funext fun a => Fin.ext (by
      match a with
      | ⟨0, _⟩ => exact hb0.trans (by rw [e6]; show _ = 512 * t.val + (y 0).val; omega)
      | ⟨1, _⟩ => exact hb1.trans (by rw [e7]; show _ = (y 1).val; omega))
  show pay (F := Ideal) (iblk m c 0 t) (iblk m c 1 t) (iblk m c 2 t) ((cfg0.win 3).xinj (grid0.coords t) y)
    = out (O m c) (W m c) (X m c) (((cfg0.win 3).blk t).view.emb y)
  rw [hl, hr]
  exact point_eq m c t _ _ _ rfl

/-- The points' blocks fill the result. -/
theorem covered (i : S4096x1024.Idx) : ∃ t : Fin cfg0.N, (cfg0.win 3).flush t = true ∧ i ∈ ((cfg0.win 3).blk t).view.set := by
  have hN : cfg0.N = 8 := N_0
  have hi0 : (i 0).val < 4096 := (i 0).isLt
  have hi1 : (i 1).val < 1024 := (i 1).isLt
  let t : Fin cfg0.N := ⟨(i 0).val / 512, by omega⟩
  refine ⟨t, (by decide +kernel : ∀ t : Fin grid0.N, win0_3.flush t = true) t, ?_⟩
  show i ∈ ((View.whole main_v0).slice (win0_3.rect t)).set
  rw [View.set_slice_whole, Rect.mem_set_unit]
  obtain ⟨-, -, -, -, -, -, e6, e7⟩ := idxs t
  have ht : t.val = (i 0).val / 512 := rfl
  intro a
  match a with
  | ⟨0, _⟩ => show win0_3.index t (0 : Fin 2) * 512 ≤ (i 0).val ∧ (i 0).val < win0_3.index t (0 : Fin 2) * 512 + 512; rw [e6]; omega
  | ⟨1, _⟩ => show win0_3.index t (1 : Fin 2) * 1024 ≤ (i 1).val ∧ (i 1).val < win0_3.index t (1 : Fin 2) * 1024 + 1024; rw [e7]; omega

/-- The array after the run. -/
theorem final : (dats m 0 c).arrAt 3 cfg0.N = out (O m c) (W m c) (X m c) :=
  (dats m 0 c).arrAt_eq_of_cover 3 _ (fun t _ => flushed_eq m c t) covered

end Cert.NnIdeal.Closed

namespace Cert.NnClaim

open Idealize.ShloMosaic Idealize.SL.Sem Idealize.ShloMosaic.TcCoe Cert.NnRefIdeal Cert.NnRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) _⟩) (Cert.NnRefIdeal.Value.run m g)

theorem ref_apply (o : FVec Ideal S4096x1024 .f32) (w : FVec Ideal S1024x1024 .bf16) (x : FVec Ideal S4096x1024 .f32) :
    Cert.NnIdeal.Closed.out o w x = val_main_v2 (F := Ideal) o w x := by
  funext i
  obtain ⟨T, K, rfl⟩ : ∃ (T : Fin 4096) (K : Fin 1024), i = ix2 T K := ⟨_, _, eq_ix2 i⟩
  unfold Cert.NnIdeal.Closed.out
  pointwise [val_main_v2, val_main_v1, val_main_v0]

theorem algebraic : Cert.algebraic_NnIdeal_NnRefIdeal := by
  intro m g m' g' _ hag
  refine ⟨fun c => Cert.NnIdeal.Closed.out (Cert.NnIdeal.Closed.O m c) (Cert.NnIdeal.Closed.W m c) (Cert.NnIdeal.Closed.X m c), ?_, ?_⟩
  · exact (θ_run _ _ _).mono (fun r h c => ⟨(h c).1.trans (Cert.NnIdeal.Closed.final m c), (h c).2⟩) (Cert.NnIdeal.Value.run_blocks m g)
  refine (θ_run _ _ _).mono (fun r h c => ?_) (Cert.NnRefIdeal.Value.run m' g')
  obtain ⟨h1, h2⟩ := h c
  obtain ⟨e0, e1, e2⟩ := hag c
  refine ⟨h1.trans ?_, h2⟩
  refine Eq.trans ?_ (ref_apply _ _ _).symm
  rw [e0, e1, e2]
  exact val_main_v2_eq ..

end Cert.NnClaim

end
-- ==== Proof.NtClaim.lean ====
/-
  Hand-written, untrusted. The gradient of a mixer's output projection in its input: the kernel's result is the reference's. Each
  grid point takes 512 tokens, zeroes its scratch, adds the one product (the contraction is one step long) and stores it.
-/
module

public import proofs.«01_k».proof.Defs
public import proofs.«01_k».proof.Proof.Gen.NtIdeal.Value
public import proofs.«01_k».proof.Proof.Gen.NtRefIdeal.Run
public import proofs.«01_k».proof.Proof.Gen.NtRefIdeal.Read
public import Idealize.ShloMosaic.Lib.Quiescent
public import Idealize.ShloMosaic.Lib.Pointwise
public import Idealize.ShloMosaic.Lib.Pointwise.Index

@[expose] public section

set_option maxRecDepth 16384

noncomputable section

namespace Cert.NtIdeal.Closed

open Idealize.ShloMosaic Idealize.SL.Sem Cert.NtIdeal Cert.NtIdeal.Gen Idealize.ShloMosaic.TcCoe Cert.NtIdeal.Value

theorem hz2 : (![0, 0] : Fin 2 → Nat) = fun _ => 0 := funext fun a => by fin_cases a <;> rfl

section Body

variable {F : FTy → Type} [FloatOps F]
  (c : Dev nD) (i : grid0.Coords) (a3 : Memref sig .tc .vmem S512x1024 .f32) (h3 : a3.IsWhole) (a4 : Memref sig .tc .vmem S1024x1024 .bf16) (h4 : a4.IsWhole) (a5 : Memref sig .tc .vmem S512x1024 .f32) (h5 : a5.IsWhole) (a6 : Memref sig .tc .vmem S512x1024 .f32) (h6 : a6.IsWhole)
  (x0 : Vec F S512x1024 .f32) (x1 : Vec F S1024x1024 .bf16)

/-- The block a grid point stores, of its three input blocks. -/
def pay (x0 : Vec F S512x1024 .f32) (x1 : Vec F S1024x1024 .bf16) : Vec F S512x1024 .f32 :=
  k0_pay2 (k0_pay1 (F := F)) x0 x1

/-- What a grid point stores. -/
theorem out2 (hc0 : cond0_0 i) (hc1 : cond0_1 i) :
    out0_A_2 c i a3 h3 a4 h4 a5 h5 a6 h6 hc0 hc1 x0 x1 = pay x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero (S := S512x1024) hz2, View.readCov_cons_toLoadRect, View.readCov_unit_zero (S := S512x1024) _ hz2]
  simp only [View.readAt_eq_ld, h3.read_unread, h4.read_unread, View.ld_unit_zero (S := S512x1024) hz2,
    View.ld_unit_zero (S := S1024x1024) hz2]
  rfl

end Body

/-- The stored block at an index. -/
theorem pay_apply (x0 : FVec Ideal S512x1024 .f32) (x1 : FVec Ideal S1024x1024 .bf16)
    (r : Fin 512) (l : Fin 1024) :
    pay (F := Ideal) x0 x1 (ix2 r l) = ∑ k, x0 (ix2 r k) * x1 (ix2 l k) := by
  unfold pay
  unfold_payloads
  pointwise

variable (m : (ℓ : Loc nD τ sig) → Buf (Elt Ideal) ℓ) (c : Dev nD)

/-- The two arguments, as arrays. -/
abbrev D : FVec Ideal S4096x1024 .f32 := m ((c : Thread nD τ).loc main_arg0)
abbrev W : FVec Ideal S1024x1024 .bf16 := m ((c : Thread nD τ).loc main_arg1)

theorem idxs : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- Block `t` of the incoming gradient: tokens `512·t …`. -/
theorem blk0 (t : Fin cfg0.N) (r : Fin 512) (k : Fin 1024) (T : Fin 4096) (hT : T.val = 512 * t.val + r.val) :
    iblk m c 0 t (ix2 r k) = D m c (ix2 T k) := by
  unfold iblk
  rw [View.read_apply]
  show V m c main_arg0 _ = m ((c : Thread nD τ).loc main_arg0) _
  unfold V
  congr 1
  funext a
  apply Fin.ext
  obtain ⟨e0, e1, e2, e3, -⟩ := idxs t
  match a with
  | ⟨0, _⟩ => show win0_0.index t (0 : Fin 2) * 512 + 1 * r.val = T.val; rw [e0]; omega
  | ⟨1, _⟩ => show win0_0.index t (1 : Fin 2) * 1024 + 1 * k.val = k.val; rw [e1]; omega

/-- The weight is one block. -/
theorem blk1 (t : Fin cfg0.N) (k l : Fin 1024) : iblk m c 1 t (ix2 k l) = W m c (ix2 k l) := by
  unfold iblk
  rw [View.read_apply]
  show V m c main_arg1 _ = m ((c : Thread nD τ).loc main_arg1) _
  unfold V
  congr 1
  funext a
  apply Fin.ext
  obtain ⟨e0, e1, e2, e3, -⟩ := idxs t
  match a with
  | ⟨0, _⟩ => show win0_1.index t (0 : Fin 2) * 1024 + 1 * k.val = k.val; rw [e2]; omega
  | ⟨1, _⟩ => show win0_1.index t (1 : Fin 2) * 1024 + 1 * l.val = l.val; rw [e3]; omega

/-- The result: the product. -/
def out (o : FVec Ideal S4096x1024 .f32) (w : FVec Ideal S1024x1024 .bf16) : FVec Ideal S4096x1024 .f32 :=
  fun i => ∑ k : Fin 1024, o (ix2 (i 0) k) * w (ix2 (i 1) k)

/-- A point's block at an index. -/
theorem point_eq (t : Fin cfg0.N) (r : Fin 512) (l : Fin 1024) (T : Fin 4096) (hT : T.val = 512 * t.val + r.val) :
    pay (F := Ideal) (iblk m c 0 t) (iblk m c 1 t) (ix2 r l) = out (D m c) (W m c) (ix2 T l) := by
  refine (pay_apply _ _ _ _).trans ?_
  unfold out
  simp only [blk0 m c t r _ T hT, blk1 m c t]
  rfl

/-- What point `t` writes back is its block of the result. -/
theorem flushed_eq (t : Fin cfg0.N) :
    (dats m 0 c).flushed 2 t = ((cfg0.win 2).blk t).view.read (Elt Ideal) (out (D m c) (W m c)) := by
  rw [flushed2_A, out2]
  obtain ⟨-, -, -, -, e6, e7⟩ := idxs t
  funext y
  have hN : cfg0.N = 8 := N_0
  have ht := t.isLt
  have hy0 : (y 0).val < 512 := (y 0).isLt
  have hy1 : (y 1).val < 1024 := (y 1).isLt
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  have hl : (cfg0.win 2).xinj (grid0.coords t) y = ix2 (⟨(y 0).val, hy0⟩ : Fin 512) (⟨(y 1).val, hy1⟩ : Fin 1024) :=
    funext fun a => Fin.ext (by match a with | ⟨0, _⟩ => rfl | ⟨1, _⟩ => rfl)
  have hr : ((cfg0.win 2).blk t).view.emb y = ix2 (⟨512 * t.val + (y 0).val, by omega⟩ : Fin 4096) (⟨(y 1).val, hy1⟩ : Fin 1024) :=
    funext fun a => Fin.ext (by
      match a with
      | ⟨0, _⟩ => exact hb0.trans (by rw [e6]; show _ = 512 * t.val + (y 0).val; omega)
      | ⟨1, _⟩ => exact hb1.trans (by rw [e7]; show _ = (y 1).val; omega))
  show pay (F := Ideal) (iblk m c 0 t) (iblk m c 1 t) ((cfg0.win 2).xinj (grid0.coords t) y)
    = out (D m c) (W m c) (((cfg0.win 2).blk t).view.emb y)
  rw [hl, hr]
  exact point_eq m c t _ _ _ rfl

/-- The points' blocks fill the result. -/
theorem covered (i : S4096x1024.Idx) : ∃ t : Fin cfg0.N, (cfg0.win 2).flush t = true ∧ i ∈ ((cfg0.win 2).blk t).view.set := by
  have hN : cfg0.N = 8 := N_0
  have hi0 : (i 0).val < 4096 := (i 0).isLt
  have hi1 : (i 1).val < 1024 := (i 1).isLt
  let t : Fin cfg0.N := ⟨(i 0).val / 512, by omega⟩
  refine ⟨t, (by decide +kernel : ∀ t : Fin grid0.N, win0_2.flush t = true) t, ?_⟩
  show i ∈ ((View.whole main_v0).slice (win0_2.rect t)).set
  rw [View.set_slice_whole, Rect.mem_set_unit]
  obtain ⟨-, -, -, -, e6, e7⟩ := idxs t
  have ht : t.val = (i 0).val / 512 := rfl
  intro a
  match a with
  | ⟨0, _⟩ => show win0_2.index t (0 : Fin 2) * 512 ≤ (i 0).val ∧ (i 0).val < win0_2.index t (0 : Fin 2) * 512 + 512; rw [e6]; omega
  | ⟨1, _⟩ => show win0_2.index t (1 : Fin 2) * 1024 ≤ (i 1).val ∧ (i 1).val < win0_2.index t (1 : Fin 2) * 1024 + 1024; rw [e7]; omega

/-- The array after the run. -/
theorem final : (dats m 0 c).arrAt 2 cfg0.N = out (D m c) (W m c) :=
  (dats m 0 c).arrAt_eq_of_cover 2 _ (fun t _ => flushed_eq m c t) covered

end Cert.NtIdeal.Closed

namespace Cert.NtClaim

open Idealize.ShloMosaic Idealize.SL.Sem Idealize.ShloMosaic.TcCoe Cert.NtRefIdeal Cert.NtRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) _⟩) (Cert.NtRefIdeal.Value.run m g)

theorem ref_apply (o : FVec Ideal S4096x1024 .f32) (w : FVec Ideal S1024x1024 .bf16) :
    Cert.NtIdeal.Closed.out o w = val_main_v3 (F := Ideal) o w := by
  funext i
  obtain ⟨T, K, rfl⟩ : ∃ (T : Fin 4096) (K : Fin 1024), i = ix2 T K := ⟨_, _, eq_ix2 i⟩
  unfold Cert.NtIdeal.Closed.out
  pointwise [val_main_v3, val_main_v1]

theorem algebraic : Cert.algebraic_NtIdeal_NtRefIdeal := by
  intro m g m' g' _ hag
  refine ⟨fun c => Cert.NtIdeal.Closed.out (Cert.NtIdeal.Closed.D m c) (Cert.NtIdeal.Closed.W m c), ?_, ?_⟩
  · exact (θ_run _ _ _).mono (fun r h c => ⟨(h c).1.trans (Cert.NtIdeal.Closed.final m c), (h c).2⟩) (Cert.NtIdeal.Value.run_blocks m g)
  refine (θ_run _ _ _).mono (fun r h c => ?_) (Cert.NtRefIdeal.Value.run m' g')
  obtain ⟨h1, h2⟩ := h c
  obtain ⟨e0, e1⟩ := hag c
  refine ⟨h1.trans ?_, h2⟩
  refine Eq.trans ?_ (ref_apply _ _).symm
  rw [e0, e1]
  exact val_main_v3_eq ..

end Cert.NtClaim

end
-- ==== Proof.SqClaim.lean ====
/-
  Hand-written, untrusted. The gradient of a mixer's output projection in its weight: the kernel adds up four products of 1024
  tokens each in its scratch and stores the sum; the reference takes one product over all 4096 tokens.
-/
module

public import proofs.«01_k».proof.Defs
public import proofs.«01_k».proof.Proof.Reals
public import proofs.«01_k».proof.Proof.Gen.SqIdeal.Value
public import proofs.«01_k».proof.Proof.Gen.SqRefIdeal.Run
public import proofs.«01_k».proof.Proof.Gen.SqRefIdeal.Read
public import Idealize.ShloMosaic.Lib.Quiescent
public import Idealize.ShloMosaic.Lib.Pointwise
public import Idealize.ShloMosaic.Lib.Pointwise.Index

@[expose] public section

set_option maxRecDepth 16384

noncomputable section

namespace Cert.SqIdeal.Closed

open Idealize.ShloMosaic Idealize.SL.Sem Cert.SqIdeal Cert.SqIdeal.Gen Idealize.ShloMosaic.TcCoe Cert.SqIdeal.Value

theorem hz2 : (![0, 0] : Fin 2 → Nat) = fun _ => 0 := funext fun a => by fin_cases a <;> rfl

section Body

variable {F : FTy → Type} [FloatOps F]
  (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .bf16) (h5 : a5.IsWhole) (a6 : Memref sig .tc .vmem S1024x1024 .f32) (h6 : a6.IsWhole)
  (x0 : Vec F S1024x1024 .f32) (x1 : Vec F S1024x1024 .f32) (xs : Vec F S1024x1024 .f32)

/-- First point: the scratch is zeroed, then the point's product is added. -/
theorem scr_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S1024x1024) hz2]

/-- Later, the point's product is added to what the scratch held. -/
theorem scr_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz2]
  simp only [View.readAt_eq_ld, h3.read_unread, h4.read_unread, h6.read_unread, View.ld_unit_zero (S := S1024x1024) hz2]

/-- At the last point too. -/
theorem scr_C (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S1024x1024) hz2]
  simp only [View.readAt_eq_ld, h3.read_unread, h4.read_unread, h6.read_unread, View.ld_unit_zero (S := S1024x1024) hz2]

/-- The last point stores the scratch. -/
theorem out2 (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x1024) hz2, View.readCov_unit_zero (S := S1024x1024) _ hz2]
  simp only [View.readAt_eq_ld, h3.read_unread, h4.read_unread, h6.read_unread, View.ld_unit_zero (S := S1024x1024) hz2]

end Body

section Pay

variable (x0 : FVec Ideal S1024x1024 .f32) (x1 : FVec Ideal S1024x1024 .f32) (acc : FVec Ideal S1024x1024 .f32)

/-- One point's product. -/
def contrib (j : S1024x1024.Idx) : EReal := ∑ k : Fin 1024, x0 (ix2 k (j 0)) * x1 (ix2 k (j 1))

theorem contrib_apply (r l : Fin 1024) : contrib x0 x1 (ix2 r l) = ∑ k : Fin 1024, x0 (ix2 k r) * x1 (ix2 k l) := rfl

theorem acc_apply (r l : Fin 1024) : k0_pay2 (F := Ideal) acc x0 x1 (ix2 r l) = acc (ix2 r l) + contrib x0 x1 (ix2 r l) := by
  unfold_payloads
  pointwise [contrib]

theorem zero_apply (r l : Fin 1024) : k0_pay1 (F := Ideal) (ix2 r l) = 0 := by
  unfold_payloads
  pointwise

theorem fin_apply (r l : Fin 1024) : k0_pay3 (F := Ideal) acc (ix2 r l) = acc (ix2 r l) := by
  unfold_payloads
  pointwise [Ideal.ofBits_one_f32, mul_one]

end Pay

variable (m : (ℓ : Loc nD τ sig) → Buf (Elt Ideal) ℓ) (c : Dev nD)

/-- The two arguments, as arrays. -/
abbrev O : FVec Ideal S4096x1024 .f32 := m ((c : Thread nD τ).loc main_arg0)
abbrev D : FVec Ideal S4096x1024 .f32 := m ((c : Thread nD τ).loc main_arg1)

theorem idxs : ∀ t : Fin cfg0.N, win0_0.index t (0 : Fin 2) = t.val % 4 ∧ win0_0.index t (1 : Fin 2) = 0
    ∧ win0_1.index t (0 : Fin 2) = t.val % 4 ∧ win0_1.index t (1 : Fin 2) = 0 :=
  (by decide +kernel : ∀ t : Fin grid0.N, win0_0.index t (0 : Fin 2) = t.val % 4 ∧ win0_0.index t (1 : Fin 2) = 0
    ∧ win0_1.index t (0 : Fin 2) = t.val % 4 ∧ win0_1.index t (1 : Fin 2) = 0)

/-- Block `t` of the mixer's output. -/
theorem blk0 (t : Fin cfg0.N) (r : Fin 1024) (k : Fin 1024) (T : Fin 4096) (hT : T.val = 1024 * (t.val % 4) + r.val) :
    iblk m c 0 t (ix2 r k) = O m c (ix2 T k) := by
  unfold iblk
  rw [View.read_apply]
  show V m c main_arg0 _ = m ((c : Thread nD τ).loc main_arg0) _
  unfold V
  congr 1
  funext a
  apply Fin.ext
  obtain ⟨e0, e1, e2, e3⟩ := idxs t
  match a with
  | ⟨0, _⟩ => show win0_0.index t (0 : Fin 2) * 1024 + 1 * r.val = T.val; rw [e0]; omega
  | ⟨1, _⟩ => show win0_0.index t (1 : Fin 2) * 1024 + 1 * k.val = k.val; rw [e1]; omega

/-- Block `t` of the incoming gradient. -/
theorem blk1 (t : Fin cfg0.N) (r : Fin 1024) (k : Fin 1024) (T : Fin 4096) (hT : T.val = 1024 * (t.val % 4) + r.val) :
    iblk m c 1 t (ix2 r k) = D m c (ix2 T k) := by
  unfold iblk
  rw [View.read_apply]
  show V m c main_arg1 _ = m ((c : Thread nD τ).loc main_arg1) _
  unfold V
  congr 1
  funext a
  apply Fin.ext
  obtain ⟨e0, e1, e2, e3⟩ := idxs t
  match a with
  | ⟨0, _⟩ => show win0_1.index t (0 : Fin 2) * 1024 + 1 * r.val = T.val; rw [e2]; omega
  | ⟨1, _⟩ => show win0_1.index t (1 : Fin 2) * 1024 + 1 * k.val = k.val; rw [e3]; omega

/-- What point `n` adds to the scratch. -/
def add (n : ℕ) (j : S1024x1024.Idx) : EReal :=
  if h : n < cfg0.N then contrib (iblk m c 0 ⟨n, h⟩) (iblk m c 1 ⟨n, h⟩) j else 0

theorem step_apply (n : ℕ) (h : n < cfg0.N) (hn : ¬ n % 4 = 0) (acc : FVec Ideal S1024x1024 .f32) (j : S1024x1024.Idx) :
    scAt0_0 m c n h acc j = acc j + add m c n j := by
  unfold scAt0_0 add
  rw [dif_neg hn, dif_pos h]
  have e := eq_ix2 j
  split
  · rw [scr_C, e]; exact acc_apply ..
  · rw [scr_B, e]; exact acc_apply ..

theorem first_apply (n : ℕ) (h : n < cfg0.N) (hn : n % 4 = 0) (acc : FVec Ideal S1024x1024 .f32) (j : S1024x1024.Idx) :
    scAt0_0 m c n h acc j = 0 + add m c n j := by
  unfold scAt0_0 add
  rw [dif_pos hn, dif_neg (by omega), dif_pos h]
  have e := eq_ix2 j
  rw [scr_A, e]
  exact (acc_apply ..).trans (congrArg (· + _) (zero_apply ..))

/-- After point `t` the scratch holds the sum of its sweep's products so far. -/
theorem scr_eq (t : Fin cfg0.N) (j : S1024x1024.Idx) :
    (outsAt0 m c t.val t.isLt).2 j = 0 + ∑ s ∈ Finset.range (t.val % 4 + 1), add m c (4 * (t.val / 4) + s) j := by
  have hN : cfg0.N = 4 := N_0
  rw [soutsAt0_0_eq]
  exact Pipeline.accAt_add_apply _ _ (fun _ => 0) (add m c) (4 * (t.val / 4)) 3
    (fun h i => first_apply m c _ h (by omega) _ i)
    (fun n h acc i h1 h2 => step_apply m c n h (by omega) acc i) (t.val % 4) (by omega) _ j

/-- At the last point the window holds the scratch. -/
theorem outs (t : Fin cfg0.N) (h1 : t.val % 4 = 3) (r l : Fin 1024) :
    (outsAt0 m c t.val t.isLt).1 (ix2 r l) = (outsAt0 m c t.val t.isLt).2 (ix2 r l) := by
  have h0 : ¬ t.val % 4 = 0 := by omega
  rw [outsAt0_C m c t h0 h1]
  dsimp only
  rw [out2, scr_C]
  exact fin_apply ..

/-- The weight's gradient: over all tokens. -/
theorem final (K L : Fin 1024) : G2 m c (ix2 K L) = ∑ T : Fin 4096, O m c (ix2 T K) * D m c (ix2 T L) := by
  have hK := K.isLt
  have hL := L.isLt
  have hN : cfg0.N = 4 := N_0
  have hp : pt2Of (ix2 K L) = 4 * (1 * (K.val / 1024 - 0) + 1 * (L.val / 1024 - 0)) + 3 := rfl
  have hp' : pt2Of (ix2 K L) = 3 := by rw [hp]; omega
  have hlt : pt2Of (ix2 K L) < cfg0.N := by rw [hp', hN]; omega
  have hloc : loc2Of (ix2 K L) = ix2 K L := funext fun a => Fin.ext (by
    match a with
    | ⟨0, _⟩ => show K.val % 1024 = K.val; omega
    | ⟨1, _⟩ => show L.val % 1024 = L.val; omega)
  unfold G2
  rw [dif_pos hlt, ← outsAt0_sweep m c _ hlt, hloc]
  refine (outs m c ⟨pt2Of (ix2 K L), hlt⟩ (by dsimp only; omega) _ _).trans ?_
  refine (scr_eq m c ⟨pt2Of (ix2 K L), hlt⟩ _).trans ?_
  rw [zero_add]
  dsimp only
  rw [show pt2Of (ix2 K L) % 4 + 1 = 4 by omega, show 4 * (pt2Of (ix2 K L) / 4) = 0 by omega]
  let f : ℕ → EReal := fun n => if h : n < 4096 then O m c (ix2 (⟨n, h⟩ : Fin 4096) K) * D m c (ix2 (⟨n, h⟩ : Fin 4096) L) else 0
  refine Eq.trans (b := ∑ p ∈ Finset.range 4, ∑ q : Fin 1024, f (1024 * p + q.val)) ?_ ?_
  · refine Finset.sum_congr rfl fun p hp => ?_
    have hp := Finset.mem_range.mp hp
    unfold add
    have hq : 0 + p < cfg0.N := by rw [hN]; omega
    rw [dif_pos hq, contrib_apply]
    refine Finset.sum_congr rfl fun q _ => ?_
    have hq' := q.isLt
    have hx : 1024 * p + q.val < 4096 := by omega
    show _ = dite _ _ _
    rw [dif_pos hx, blk0 m c _ q _ (⟨1024 * p + q.val, hx⟩ : Fin 4096) (by dsimp only; omega),
      blk1 m c _ q _ (⟨1024 * p + q.val, hx⟩ : Fin 4096) (by dsimp only; omega)]
  · rw [Cert.Reals.sum_runs 4 1024 f]
    exact Finset.sum_congr rfl fun T _ => dif_pos T.isLt

end Cert.SqIdeal.Closed

namespace Cert.SqClaim

open Idealize.ShloMosaic Idealize.SL.Sem Idealize.ShloMosaic.TcCoe Cert.SqRefIdeal Cert.SqRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) _⟩) (Cert.SqRefIdeal.Value.run m g)

theorem ref_apply (o d : FVec Ideal S4096x1024 .f32) (K L : Fin 1024) :
    val_main_v4 (F := Ideal) o d (ix2 K L) = ∑ T : Fin 4096, d (ix2 T L) * o (ix2 T K) := by
  pointwise [val_main_v4, val_main_v3, val_main_v2]

theorem weights (m : (ℓ : Loc Cert.SqIdeal.nD Cert.SqIdeal.τ Cert.SqIdeal.sig) → Buf (Elt Ideal) ℓ) (c : Dev Cert.SqIdeal.nD) :
    (Cert.SqIdeal.Value.G2 m c : S1024x1024.Idx → EReal)
      = val_main_v4 (F := Ideal) (Cert.SqIdeal.Closed.O m c) (Cert.SqIdeal.Closed.D m c) := by
  funext i
  obtain ⟨K, L, rfl⟩ : ∃ (K L : Fin 1024), i = ix2 K L := ⟨_, _, eq_ix2 i⟩
  have e : (∑ T : Fin 4096, Cert.SqIdeal.Closed.O m c (ix2 T K) * Cert.SqIdeal.Closed.D m c (ix2 T L) : EReal)
      = ∑ T : Fin 4096, Cert.SqIdeal.Closed.D m c (ix2 T L) * Cert.SqIdeal.Closed.O m c (ix2 T K) :=
    Finset.sum_congr rfl fun T _ => mul_comm (G := EReal) _ _
  exact (Cert.SqIdeal.Closed.final m c K L).trans (e.trans (ref_apply _ _ K L).symm)

theorem algebraic : Cert.algebraic_SqIdeal_SqRefIdeal := by
  intro m g m' g' _ hag
  refine ⟨fun c => Cert.SqIdeal.Value.G2 m c, Cert.SqIdeal.Value.run m g, ?_⟩
  refine (θ_run _ _ _).mono (fun r h c => ?_) (Cert.SqRefIdeal.Value.run m' g')
  obtain ⟨h1, h2⟩ := h c
  obtain ⟨e0, e1⟩ := hag c
  refine ⟨h1.trans ?_, h2⟩
  refine Eq.trans ?_ (weights m c).symm
  rw [e0, e1]
  exact val_main_v4_eq ..

end Cert.SqClaim

end
-- ==== Proof.LossClaim.lean ====
/-
  Hand-written, untrusted. The loss head: for blocks of 512 tokens the kernel adds up `1/2048` times each block's sum of squares, the
  reference takes half the sum of the tokens' means. Squares are at least zero, so a real factor goes through their sums even where a
  square is infinite. The gradient in the last layer's output is the difference over 1024 on both sides.
-/
module

public import proofs.«01_k».proof.Defs
public import proofs.«01_k».proof.Proof.Reals
public import proofs.«01_k».proof.Proof.Gen.LossIdeal.Value
public import proofs.«01_k».proof.Proof.Gen.LossRefIdeal.Run
public import proofs.«01_k».proof.Proof.Gen.LossRefIdeal.Read
public import Idealize.ShloMosaic.Lib.Quiescent
public import Idealize.ShloMosaic.Lib.Pointwise
public import Idealize.ShloMosaic.Lib.Pointwise.Index

@[expose] public section

set_option maxRecDepth 16384

noncomputable section

namespace Cert.LossIdeal.Closed

open Idealize.ShloMosaic Idealize.SL.Sem Cert.LossIdeal Cert.LossIdeal.Gen Idealize.ShloMosaic.TcCoe Cert.LossIdeal.Value

theorem hz2 : (![0, 0] : Fin 2 → Nat) = fun _ => 0 := funext fun a => by fin_cases a <;> rfl

/-! ## Squares and their sums -/

theorem ofBits_2048th : Ideal.ofBits .f32 0x3A000000#32 = ((1 / 2048 : ℝ) : EReal) := by
  simp [Ideal.ofBits, Ideal.ieee, -EReal.coe_mul]; norm_num

theorem ofBits_1024th : Ideal.ofBits .f32 0x3A800000#32 = ((1 / 1024 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem sq_nonneg' (x : EReal) : 0 ≤ x * x := by
  rcases le_total 0 x with h | h
  · exact mul_nonneg h h
  · have h' : 0 ≤ -x := EReal.neg_nonneg.mpr h
    have := mul_nonneg h' h'
    rwa [neg_mul_neg] at this

/-- A factor goes through a sum of numbers that are at least zero. -/
theorem mul_sum_nonneg {ι : Type} (s : Finset ι) (k : EReal) (f : ι → EReal) (h : ∀ i, 0 ≤ f i) : k * ∑ i ∈ s, f i = ∑ i ∈ s, k * f i := by
  classical
  induction s using Finset.induction_on with
  | empty => simp
  | insert a s ha ih =>
    rw [Finset.sum_insert ha, Finset.sum_insert ha, EReal.left_distrib_of_nonneg (h a) (Finset.sum_nonneg fun i _ => h i), ih]

/-! ## The body -/

section Body

variable {F : FTy → Type} [FloatOps F]
  (c : Dev nD) (i : grid0.Coords) (a1 : Memref sig .tc .vmem S512x1024 .f32) (h1 : a1.IsWhole) (a2 : Memref sig .tc .vmem S512x1024 .f32) (h2 : a2.IsWhole) (a3 : Memref sig .tc .vmem S8x128 .f32) (h3 : a3.IsWhole) (a4 : Memref sig .tc .vmem S512x1024 .f32) (h4 : a4.IsWhole)
  (x0 : Vec F S512x1024 .f32) (x1 : Vec F S512x1024 .f32) (xo : Vec F S8x128 .f32)

theorem out2_A (hc0 : cond0_0 i) (hc1 : ¬cond0_1 i) : out0_A_2 c i a1 h1 a2 h2 a3 h3 a4 h4 hc0 hc1 x0 x1 = k0_pay3 x0 x1 := by
  unfold out0_A_2
  rw [View.read_writes_eq_canon _ _ _ (cover0_A_2 c i a1 h1 a2 h2 a3 h3 a4 h4 hc0 hc1 x0 x1)]
  unfold kernelRun0_A
  dsimp only
  sl_unfold_words
  rw [View.canon_unit_zero (S := S8x128) hz2]
  simp only [View.readAt_eq_ld, h1.read_unread, h2.read_unread, View.ld_unit_zero (S := S512x1024) hz2]

theorem out3_A (hc0 : cond0_0 i) (hc1 : ¬cond0_1 i) : out0_A_3 c i a1 h1 a2 h2 a3 h3 a4 h4 hc0 hc1 x0 x1 = k0_pay2 x0 x1 := by
  unfold out0_A_3
  rw [View.read_writes_eq_canon _ _ _ (cover0_A_3 c i a1 h1 a2 h2 a3 h3 a4 h4 hc0 hc1 x0 x1)]
  unfold kernelRun0_A
  dsimp only
  sl_unfold_words
  rw [View.canon_unit_zero (S := S512x1024) hz2]
  simp only [View.readAt_eq_ld, h1.read_unread, h2.read_unread, View.ld_unit_zero (S := S512x1024) hz2]

theorem out2_B (hc0 : ¬cond0_0 i) (hc1 : cond0_1 i) : out0_B_2 c i a1 h1 a2 h2 a3 h3 a4 h4 hc0 hc1 x0 x1 xo = k0_pay4 x0 x1 xo := by
  unfold out0_B_2
  rw [View.read_writes_eq_canon _ _ _ (cover0_B_2 c i a1 h1 a2 h2 a3 h3 a4 h4 hc0 hc1 x0 x1 xo)]
  unfold kernelRun0_B
  dsimp only
  sl_unfold_words
  rw [View.canon_unit_zero (S := S8x128) hz2]
  simp only [View.readAt_eq_ld, h1.read_unread, h2.read_unread, h3.read_unread, View.ld_unit_zero (S := S512x1024) hz2, View.ld_unit_zero (S := S8x128) hz2]

theorem out3_B (hc0 : ¬cond0_0 i) (hc1 : cond0_1 i) : out0_B_3 c i a1 h1 a2 h2 a3 h3 a4 h4 hc0 hc1 x0 x1 xo = k0_pay2 x0 x1 := by
  unfold out0_B_3
  rw [View.read_writes_eq_canon _ _ _ (cover0_B_3 c i a1 h1 a2 h2 a3 h3 a4 h4 hc0 hc1 x0 x1 xo)]
  unfold kernelRun0_B
  dsimp only
  sl_unfold_words
  rw [View.canon_unit_zero (S := S512x1024) hz2]
  simp only [View.readAt_eq_ld, h1.read_unread, h2.read_unread, View.ld_unit_zero (S := S512x1024) hz2]

end Body

/-- A difference, and its square. -/
def sqd (x y : EReal) : EReal := (x - y) * (x - y)

section Pay

variable (x y : FVec Ideal S512x1024 .f32) (o : FVec Ideal S8x128 .f32)

theorem pay2_apply (r : Fin 512) (l : Fin 1024) :
    k0_pay2 (F := Ideal) x y (ix2 r l) = (x (ix2 r l) - y (ix2 r l)) * Ideal.ofBits .f32 0x3A800000#32 := by
  unfold_payloads
  pointwise

theorem pay3_apply (a : Fin 8) (b : Fin 128) :
    k0_pay3 (F := Ideal) x y (ix2 a b) = Ideal.ofBits .f32 0x3A000000#32 * ∑ r : Fin 512, ∑ l : Fin 1024, sqd (x (ix2 r l)) (y (ix2 r l)) := by
  unfold_payloads
  pointwise [sqd]

theorem pay4_apply (a : Fin 8) (b : Fin 128) :
    k0_pay4 (F := Ideal) x y o (ix2 a b) = o (ix2 a b) + k0_pay3 (F := Ideal) x y (ix2 a b) := by
  unfold_payloads
  pointwise

end Pay

variable (m : (ℓ : Loc nD τ sig) → Buf (Elt Ideal) ℓ) (c : Dev nD)

/-- The two arguments, as arrays. -/
abbrev Y : FVec Ideal S4096x1024 .f32 := m ((c : Thread nD τ).loc main_arg0)
abbrev T : FVec Ideal S4096x1024 .f32 := m ((c : Thread nD τ).loc main_arg1)

theorem hN0 : cfg0.N = 8 := N_0

theorem idxs : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0)

/-- The blocks of the two arguments: tokens `512·t …`. -/
abbrev yB (t : Fin cfg0.N) : FVec Ideal S512x1024 .f32 := iblk m c 0 t
abbrev tB (t : Fin cfg0.N) : FVec Ideal S512x1024 .f32 := iblk m c 1 t

theorem blk0 (t : Fin cfg0.N) (r : Fin 512) (k : Fin 1024) (R : Fin 4096) (hR : R.val = 512 * t.val + r.val) :
    yB m c t (ix2 r k) = Y m c (ix2 R k) := by
  unfold yB iblk
  rw [View.read_apply]
  show V m c main_arg0 _ = m ((c : Thread nD τ).loc main_arg0) _
  unfold V
  congr 1
  funext a
  apply Fin.ext
  obtain ⟨e0, e1, -⟩ := idxs t
  match a with
  | ⟨0, _⟩ => show win0_0.index t (0 : Fin 2) * 512 + 1 * r.val = R.val; rw [e0]; omega
  | ⟨1, _⟩ => show win0_0.index t (1 : Fin 2) * 1024 + 1 * k.val = k.val; rw [e1]; omega

theorem blk1 (t : Fin cfg0.N) (r : Fin 512) (k : Fin 1024) (R : Fin 4096) (hR : R.val = 512 * t.val + r.val) :
    tB m c t (ix2 r k) = T m c (ix2 R k) := by
  unfold tB iblk
  rw [View.read_apply]
  show V m c main_arg1 _ = m ((c : Thread nD τ).loc main_arg1) _
  unfold V
  congr 1
  funext a
  apply Fin.ext
  obtain ⟨-, -, e0, e1, -⟩ := idxs t
  match a with
  | ⟨0, _⟩ => show win0_1.index t (0 : Fin 2) * 512 + 1 * r.val = R.val; rw [e0]; omega
  | ⟨1, _⟩ => show win0_1.index t (1 : Fin 2) * 1024 + 1 * k.val = k.val; rw [e1]; omega

section Whole

variable (y t : FVec Ideal S4096x1024 .f32)

/-- A token's sum of squares, and the loss and gradient they make. -/
def tok (n : ℕ) : EReal := if h : n < 4096 then ∑ l : Fin 1024, sqd (y (ix2 ⟨n, h⟩ l)) (t (ix2 ⟨n, h⟩ l)) else 0

theorem tok_nonneg (n : ℕ) : 0 ≤ tok y t n := by
  unfold tok
  split_ifs
  · exact Finset.sum_nonneg fun l _ => sq_nonneg' _
  · exact le_rfl

def F2 : FVec Ideal S8x128 .f32 := fun _ => ((1 / 2048 : ℝ) : EReal) * ∑ R : Fin 4096, tok y t R.val
def F3 : FVec Ideal S4096x1024 .f32 := fun i => (y (ix2 (i 0) (i 1)) - t (ix2 (i 0) (i 1))) * ((1 / 1024 : ℝ) : EReal)

end Whole

/-- One block's part of the loss. -/
theorem part_eq (t : Fin cfg0.N) (a : Fin 8) (b : Fin 128) :
    k0_pay3 (F := Ideal) (yB m c t) (tB m c t) (ix2 a b) = ((1 / 2048 : ℝ) : EReal) * ∑ q : Fin 512, tok (Y m c) (T m c) (512 * t.val + q.val) := by
  rw [pay3_apply, ofBits_2048th]
  have ht := t.isLt
  have hN := hN0
  refine congrArg (fun s : EReal => ((1 / 2048 : ℝ) : EReal) * s) (Finset.sum_congr rfl fun r _ => ?_)
  have hr := r.isLt
  have hlt : 512 * t.val + r.val < 4096 := by omega
  unfold tok
  rw [dif_pos hlt]
  exact Finset.sum_congr rfl fun l _ => congrArg₂ sqd (blk0 m c t r l ⟨_, hlt⟩ rfl) (blk1 m c t r l ⟨_, hlt⟩ rfl)

/-- After point `n` the first output holds the parts so far. -/
theorem outs2 (a : Fin 8) (b : Fin 128) : ∀ (n : ℕ) (h : n < cfg0.N),
    (outsAt0 m c n h).1 (ix2 a b) = ∑ p ∈ Finset.range (n + 1), ((1 / 2048 : ℝ) : EReal) * ∑ q : Fin 512, tok (Y m c) (T m c) (512 * p + q.val) := by
  intro n
  have hN := hN0
  induction n with
  | zero =>
    intro h
    rw [outsAt0_A m c ⟨0, h⟩ (by dsimp only) (by dsimp only; omega), Finset.sum_range_one]
    dsimp only
    rw [out2_A]
    exact part_eq m c ⟨0, h⟩ a b
  | succ n ih =>
    intro h
    rw [outsAt0_B m c ⟨n + 1, h⟩ (by dsimp only; omega) (by dsimp only; omega), Finset.sum_range_succ]
    dsimp only
    rw [out2_B]
    refine (pay4_apply _ _ _ a b).trans ?_
    exact congrArg₂ (· + · : EReal → EReal → EReal) (ih (Nat.lt_of_succ_lt h)) (part_eq m c ⟨n + 1, h⟩ a b)

/-- The last point leaves the whole loss. -/
theorem outs2_last (a : Fin 8) (b : Fin 128) (n : ℕ) (h : n < cfg0.N) (hn : n = 7) :
    (outsAt0 m c n h).1 (ix2 a b) = F2 (Y m c) (T m c) (ix2 a b) := by
  rw [outs2, hn]
  unfold F2
  have e : (∑ R : Fin 4096, tok (Y m c) (T m c) R.val : EReal) = ∑ p ∈ Finset.range 8, ∑ q : Fin 512, tok (Y m c) (T m c) (512 * p + q.val) :=
    (Cert.Reals.sum_runs 8 512 (tok (Y m c) (T m c))).symm
  rw [e, mul_sum_nonneg _ _ _ fun p => Finset.sum_nonneg fun q _ => tok_nonneg _ _ _]

theorem outs3 (t : Fin cfg0.N) (r : Fin 512) (l : Fin 1024) (R : Fin 4096) (hR : R.val = 512 * t.val + r.val) :
    (outsAt0 m c t.val t.isLt).2 (ix2 r l) = F3 (Y m c) (T m c) (ix2 R l) := by
  have hN := hN0
  have ht := t.isLt
  have key : k0_pay2 (F := Ideal) (yB m c t) (tB m c t) (ix2 r l) = F3 (Y m c) (T m c) (ix2 R l) := by
    rw [pay2_apply, ofBits_1024th, blk0 m c t r l R hR, blk1 m c t r l R hR]
    rfl
  by_cases h0 : t.val % 8 = 0
  · rw [outsAt0_A m c t h0 (by omega)]
    dsimp only
    rw [out3_A]
    exact key
  · rw [outsAt0_B m c t h0 (by omega)]
    dsimp only
    rw [out3_B]
    exact key

theorem flushed3_eq (t : Fin cfg0.N) : (dats m 0 c).flushed 3 t = ((cfg0.win 3).blk t).view.read (Elt Ideal) (F3 (Y m c) (T m c)) := by
  rw [flushed3]
  obtain ⟨-, -, -, -, -, -, e0, e1⟩ := idxs t
  funext y
  have hN := hN0
  have ht := t.isLt
  have hy0 : (y 0).val < 512 := (y 0).isLt
  have hy1 : (y 1).val < 1024 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 1024 + 1 * (y 1).val := rfl
  have hl : (cfg0.win 3).xinj (grid0.coords t) y = ix2 (⟨(y 0).val, hy0⟩ : Fin 512) (⟨(y 1).val, hy1⟩ : Fin 1024) :=
    funext fun a => Fin.ext (by match a with | ⟨0, _⟩ => rfl | ⟨1, _⟩ => rfl)
  have hr : ((cfg0.win 3).blk t).view.emb y = ix2 (⟨512 * t.val + (y 0).val, by omega⟩ : Fin 4096) (⟨(y 1).val, hy1⟩ : Fin 1024) :=
    funext fun a => Fin.ext (by
      match a with
      | ⟨0, _⟩ => exact hb0.trans (by rw [e0]; show _ = 512 * t.val + (y 0).val; omega)
      | ⟨1, _⟩ => exact hb1.trans (by rw [e1]; show _ = (y 1).val; omega))
  show (outsAt0 m c t.val t.isLt).2 ((cfg0.win 3).xinj (grid0.coords t) y) = F3 (Y m c) (T m c) (((cfg0.win 3).blk t).view.emb y)
  rw [hl, hr]
  exact outs3 m c t _ _ _ rfl

theorem covered3 (i : S4096x1024.Idx) : ∃ t : Fin cfg0.N, (cfg0.win 3).flush t = true ∧ i ∈ ((cfg0.win 3).blk t).view.set := by
  have hN := hN0
  have hi0 : (i 0).val < 4096 := (i 0).isLt
  have hi1 : (i 1).val < 1024 := (i 1).isLt
  let t : Fin cfg0.N := ⟨(i 0).val / 512, by omega⟩
  refine ⟨t, (by decide +kernel : ∀ t : Fin grid0.N, win0_3.flush t = true) t, ?_⟩
  show i ∈ ((View.whole main_v0_1).slice (win0_3.rect t)).set
  rw [View.set_slice_whole, Rect.mem_set_unit]
  obtain ⟨-, -, -, -, -, -, e0, e1⟩ := idxs t
  have ht : t.val = (i 0).val / 512 := rfl
  intro a
  match a with
  | ⟨0, _⟩ => show win0_3.index t (0 : Fin 2) * 512 ≤ (i 0).val ∧ (i 0).val < win0_3.index t (0 : Fin 2) * 512 + 512; rw [e0]; omega
  | ⟨1, _⟩ => show win0_3.index t (1 : Fin 2) * 1024 ≤ (i 1).val ∧ (i 1).val < win0_3.index t (1 : Fin 2) * 1024 + 1024; rw [e1]; omega

theorem final3 : (dats m 0 c).arrAt 3 cfg0.N = F3 (Y m c) (T m c) :=
  (dats m 0 c).arrAt_eq_of_cover 3 _ (fun t _ => flushed3_eq m c t) covered3

/-- Only the last point writes the loss back. -/
theorem flush2 : ∀ t : Fin cfg0.N, (cfg0.win 2).flush t = true ↔ t.val = 7 :=
  (by decide +kernel : ∀ t : Fin grid0.N, win0_2.flush t = true ↔ t.val = 7)

theorem flushed2_eq (t : Fin cfg0.N) (hf : (cfg0.win 2).flush t = true) :
    (dats m 0 c).flushed 2 t = ((cfg0.win 2).blk t).view.read (Elt Ideal) (F2 (Y m c) (T m c)) := by
  rw [flushed2]
  obtain ⟨-, -, -, -, e0, e1, -⟩ := idxs t
  funext y
  have hy0 : (y 0).val < 8 := (y 0).isLt
  have hy1 : (y 1).val < 128 := (y 1).isLt
  have hl : (cfg0.win 2).xinj (grid0.coords t) y = ix2 (⟨(y 0).val, hy0⟩ : Fin 8) (⟨(y 1).val, hy1⟩ : Fin 128) :=
    funext fun a => Fin.ext (by match a with | ⟨0, _⟩ => rfl | ⟨1, _⟩ => rfl)
  show (outsAt0 m c t.val t.isLt).1 ((cfg0.win 2).xinj (grid0.coords t) y) = F2 (Y m c) (T m c) (((cfg0.win 2).blk t).view.emb y)
  rw [hl]
  exact outs2_last m c _ _ t.val t.isLt ((flush2 t).mp hf)

theorem covered2 (i : S8x128.Idx) : ∃ t : Fin cfg0.N, (cfg0.win 2).flush t = true ∧ i ∈ ((cfg0.win 2).blk t).view.set := by
  have hN := hN0
  have hi0 : (i 0).val < 8 := (i 0).isLt
  have hi1 : (i 1).val < 128 := (i 1).isLt
  let t : Fin cfg0.N := ⟨7, by omega⟩
  refine ⟨t, (flush2 t).mpr rfl, ?_⟩
  show i ∈ ((View.whole main_v0_0).slice (win0_2.rect t)).set
  rw [View.set_slice_whole, Rect.mem_set_unit]
  obtain ⟨-, -, -, -, e0, e1, -⟩ := idxs t
  intro a
  match a with
  | ⟨0, _⟩ => show win0_2.index t (0 : Fin 2) * 8 ≤ (i 0).val ∧ (i 0).val < win0_2.index t (0 : Fin 2) * 8 + 8; rw [e0]; omega
  | ⟨1, _⟩ => show win0_2.index t (1 : Fin 2) * 128 ≤ (i 1).val ∧ (i 1).val < win0_2.index t (1 : Fin 2) * 128 + 128; rw [e1]; omega

theorem final2 : (dats m 0 c).arrAt 2 cfg0.N = F2 (Y m c) (T m c) :=
  (dats m 0 c).arrAt_eq_of_cover 2 _ (fun t hf => flushed2_eq m c t hf) covered2

end Cert.LossIdeal.Closed

namespace Cert.LossClaim

open Idealize.ShloMosaic Idealize.SL.Sem Idealize.ShloMosaic.TcCoe Cert.LossRefIdeal Cert.LossRefIdeal.Read
open Cert.LossIdeal.Closed (sqd tok F2 F3)

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2.2, sem_eq_zero_of_no_sems (by decide) _⟩) (Cert.LossRefIdeal.Value.run m g)

section Ref

variable (y t : FVec Ideal Cert.LossIdeal.S4096x1024 .f32)

theorem loss_apply (a : Fin 8) (b : Fin 128) :
    val_main_v9 (F := Ideal) y t (ix2 a b)
      = Ideal.ofBits .f32 0x3F000000#32 * ∑ R : Fin 4096, Ideal.div (∑ l : Fin 1024, sqd (y (ix2 R l)) (t (ix2 R l))) (Ideal.ofBits .f32 0x44800000#32) := by
  pointwise [sqd, val_main_v9, val_main_v8, val_main_v7, val_main_v6, val_main_v5, val_main_v4, val_main_v1, val_main_v0, val_main_cst_0, val_main_cst_1, val_main_cst_2, val_main_cst_3, Ideal.ofBits_zero_f32, zero_add]

theorem F2_eq : F2 y t = val_main_v9 (F := Ideal) y t := by
  funext i
  obtain ⟨a, b, rfl⟩ : ∃ (a : Fin 8) (b : Fin 128), i = ix2 a b := ⟨_, _, eq_ix2 i⟩
  rw [loss_apply, Cert.Reals.ofBits_half, Cert.LossIdeal.Closed.ofBits_1024]
  unfold F2
  have e : ∀ R : Fin 4096, Ideal.div (∑ l : Fin 1024, sqd (y (ix2 R l)) (t (ix2 R l))) ((1024 : ℝ) : EReal)
      = ((1 / 1024 : ℝ) : EReal) * tok y t R.val := fun R => by
    rw [Ideal.div_coe (by norm_num), mul_comm]
    unfold tok
    rw [dif_pos R.isLt]
  simp only [e]
  rw [← Cert.LossIdeal.Closed.mul_sum_nonneg _ _ _ fun R => Cert.LossIdeal.Closed.tok_nonneg y t _, ← mul_assoc, ← EReal.coe_mul]
  norm_num

theorem grad_apply (R : Fin 4096) (l : Fin 1024) :
    val_main_v15 (F := Ideal) y t (ix2 R l)
      = Ideal.div (Ideal.ofBits .f32 0x3F000000#32 * Ideal.ofBits .f32 0x3F800000#32) (Ideal.ofBits .f32 0x44800000#32)
        * (Ideal.ofBits .f32 0x40000000#32 * (y (ix2 R l) - t (ix2 R l))) := by
  pointwise [val_main_v15, val_main_v14, val_main_v13, val_main_v12, val_main_v11, val_main_v10, val_main_v3, val_main_v2, val_main_v0, val_main_cst, val_main_cst_4, val_main_cst_5, val_main_cst_6]

theorem F3_eq : F3 y t = val_main_v15 (F := Ideal) y t := by
  funext i
  obtain ⟨R, l, rfl⟩ : ∃ (R : Fin 4096) (l : Fin 1024), i = ix2 R l := ⟨_, _, eq_ix2 i⟩
  rw [grad_apply, Cert.Reals.ofBits_half, Cert.LossIdeal.Closed.ofBits_1024, Cert.LossIdeal.Closed.ofBits_two, Ideal.ofBits_one_f32, mul_one,
    Ideal.div_coe (by norm_num), ← mul_assoc, ← EReal.coe_mul, ← EReal.coe_mul]
  show (y (ix2 R l) - t (ix2 R l)) * ((1 / 1024 : ℝ) : EReal) = _
  rw [mul_comm]
  norm_num

end Ref

theorem algebraic : Cert.algebraic_LossIdeal_LossRefIdeal := by
  intro m g m' g' _ hag
  refine ⟨fun c => F2 (Cert.LossIdeal.Closed.Y m c) (Cert.LossIdeal.Closed.T m c),
    fun c => F3 (Cert.LossIdeal.Closed.Y m c) (Cert.LossIdeal.Closed.T m c), ?_, ?_⟩
  · exact (θ_run _ _ _).mono (fun r h c => ⟨(h c).1.trans (Cert.LossIdeal.Closed.final2 m c), (h c).2.1.trans (Cert.LossIdeal.Closed.final3 m c),
      (h c).2.2⟩) (Cert.LossIdeal.Value.run_blocks m g)
  refine (θ_run _ _ _).mono (fun r h c => ?_) (Cert.LossRefIdeal.Value.run m' g')
  obtain ⟨h1, h2, h3⟩ := h c
  obtain ⟨e0, e1⟩ := hag c
  refine ⟨h1.trans ?_, h2.trans ?_, h3⟩
  · refine Eq.trans ?_ (F2_eq _ _).symm
    rw [e0, e1]
    exact val_main_v9_eq ..
  · refine Eq.trans ?_ (F3_eq _ _).symm
    rw [e0, e1]
    exact val_main_v15_eq ..

end Cert.LossClaim

end
-- ==== Proof.XfPay.lean ====
/-
  Hand-written, untrusted. The attention into the memory tokens, forwards: what the kernel's body leaves for one head of one block of
  query rows that hold reals — the weights of `AttnReal` times the values — and the body's window as the four heads side by side.
-/
module

public import proofs.«01_k».proof.Proof.AttnBody
public import proofs.«01_k».proof.Proof.AttnReal
public import proofs.«01_k».proof.Proof.Gen.XfIdeal.Value
public import Idealize.ShloMosaic.Lib.Pointwise

@[expose] public section

set_option maxRecDepth 16384

noncomputable section

namespace Cert.XfIdeal.Pay

open Idealize.ShloMosaic Idealize.SL.Sem Cert.XfIdeal Cert.XfIdeal.Gen Idealize.ShloMosaic.TcCoe Cert.Reals Cert.AttnReal
open Cert.KernelIdeal.Body (slab canon_slab ld_cols cols hz2)

/-- What one head's stretch of the body computes from its queries, keys, values and the two gains. -/
def head (q : Vec Ideal S512x256 .f32) (k v : Vec Ideal S256x256 .f32) (qg kg : Vec Ideal S1x256 .f32) : FVec Ideal S512x256 .f32 :=
  k0_pay4 (F := Ideal) (k0_pay2 v) (k0_pay3 q k qg kg)

section
variable (qg kg : FVec Ideal S1x256 .f32) (q : FVec Ideal S512x256 .f32) (k v : FVec Ideal S256x256 .f32)
  (G H : Fin 256 → ℝ) (Q : Fin 512 → Fin 256 → ℝ) (K V : Fin 256 → Fin 256 → ℝ)
  (hG : ∀ l, qg (ix2 0 l) = ((G l : ℝ) : EReal)) (hH : ∀ l, kg (ix2 0 l) = ((H l : ℝ) : EReal))
  (hQ : ∀ r l, q (ix2 r l) = ((Q r l : ℝ) : EReal)) (hK : ∀ j l, k (ix2 j l) = ((K j l : ℝ) : EReal)) (hV : ∀ j l, v (ix2 j l) = ((V j l : ℝ) : EReal))

include hV in
theorem v_apply (j : Fin 256) (l : Fin 256) : k0_pay2 (F := Ideal) v (ix2 j l) = ((V j l : ℝ) : EReal) := by
  unfold_payloads; pointwise
  exact hV j l

include hG hQ hH hK in
/-- The exponentials of a row's scaled scores with the row's largest taken off. -/
theorem exp_apply (r : Fin 512) : ∃ M : ℝ, ∀ j : Fin 256,
    k0_pay3 (F := Ideal) q k qg kg (ix2 r j) = ((Real.exp (score (Q r) K G H j * (1 / 16) - M) : ℝ) : EReal) := by
  obtain ⟨M, hM⟩ := fold_max (fun j => score (Q r) K G H j * (1 / 16))
  refine ⟨M, fun j => ?_⟩
  unfold_payloads; pointwise
  simp only [hQ, hG, hK, hH, ← EReal.coe_mul, coe_sum, ofBits_256, ofBits_eps, rsqrt_ms, ofBits_16th, ofBits_neg_inf]
  have e : ∀ x : Fin 256, (∑ l, Q r l * inv (Q r) * G l * (K x l * inv (K x) * H l)) * (1 / 16) = score (Q r) K G H x * (1 / 16) := fun _ => rfl
  simp only [e]
  rw [hM]
  rw [← EReal.coe_sub, Ideal.exp_coe]

include hG hQ hH hK hV in
theorem head_apply (r : Fin 512) (l : Fin 256) : head q k v qg kg (ix2 r l) = ((∑ j, P (Q r) K G H j * V j l : ℝ) : EReal) := by
  obtain ⟨M, hM⟩ := exp_apply qg kg q k G H Q K hG hH hQ hK r
  have hv := v_apply v V hV
  unfold head
  generalize k0_pay3 (F := Ideal) q k qg kg = s at hM ⊢
  generalize k0_pay2 (F := Ideal) v = w at hv ⊢
  unfold_payloads; pointwise
  simp only [hM, hv, coe_sum]
  simp only [Ideal.div_coe (sum_exp_pos fun x => score (Q r) K G H x * (1 / 16) - M).ne', ← EReal.coe_mul, coe_sum]
  refine congrArg _ (Finset.sum_congr rfl fun j _ => ?_)
  rw [← div_eq_mul_one_div, soft_shift (fun x => score (Q r) K G H x * (1 / 16)) M j]
  rfl
end

/-- The body's window: the four heads side by side. -/
theorem body_eq (x0 : Vec Ideal S512x1024 .f32) (x1 : Vec Ideal S256x2048 .f32) (x2 x3 : Vec Ideal S1x256 .f32) :
    out0_4 (F := Ideal) x0 x1 x2 x3 = slab (N := 512) (t := .f32) (fun h : Fin 4 =>
      head (cols (256 * h.val) (by have := h.isLt; omega) x0) (cols (256 * h.val) (by have := h.isLt; omega) x1)
        (cols (1024 + 256 * h.val) (by have := h.isLt; omega) x1) x2 x3) := by
  unfold out0_4
  rw [View.ld_unit_zero (Val := Elt Ideal) (e := .f32) (S := S1x256) hz2 _ x2, View.ld_unit_zero (Val := Elt Ideal) (e := .f32) (S := S1x256) hz2 _ x3]
  rw [← canon_slab (N := 512) (t := .f32) (F := Ideal) _ [] inb_S512x1024_S512x256_0_0 inb_S512x1024_S512x256_0_256 inb_S512x1024_S512x256_0_512 inb_S512x1024_S512x256_0_768]
  have c0 : ∀ (o : ℕ) (inb) (ho : o + 256 ≤ 1024), View.ld x0 (Rect.unit (s := S512x1024) ![0, o] ![512, 256] inb) = cols o ho x0 := fun o inb ho => ld_cols o inb ho x0
  have c1 : ∀ (o : ℕ) (inb) (ho : o + 256 ≤ 2048), View.ld x1 (Rect.unit (s := S256x2048) ![0, o] ![256, 256] inb) = cols o ho x1 := fun o inb ho => ld_cols o inb ho x1
  have d0 : View.ld x0 r0_0 = cols 0 (by omega) x0 := c0 0 _ _
  have d1 : View.ld x0 r0_4 = cols 256 (by omega) x0 := c0 256 _ _
  have d2 : View.ld x0 r0_7 = cols 512 (by omega) x0 := c0 512 _ _
  have d3 : View.ld x0 r0_10 = cols 768 (by omega) x0 := c0 768 _ _
  have k0 : View.ld x1 r0_1 = cols 0 (by omega) x1 := c1 0 _ _
  have k1 : View.ld x1 r0_5 = cols 256 (by omega) x1 := c1 256 _ _
  have k2 : View.ld x1 r0_8 = cols 512 (by omega) x1 := c1 512 _ _
  have k3 : View.ld x1 r0_11 = cols 768 (by omega) x1 := c1 768 _ _
  have v0 : View.ld x1 r0_3 = cols 1024 (by omega) x1 := c1 1024 _ _
  have v1 : View.ld x1 r0_6 = cols 1280 (by omega) x1 := c1 1280 _ _
  have v2 : View.ld x1 r0_9 = cols 1536 (by omega) x1 := c1 1536 _ _
  have v3 : View.ld x1 r0_12 = cols 1792 (by omega) x1 := c1 1792 _ _
  rw [d0, d1, d2, d3, k0, k1, k2, k3, v0, v1, v2, v3]
  rfl

end Cert.XfIdeal.Pay

end
-- ==== Proof.XfClaim.lean ====
/-
  Hand-written, untrusted. The attention into the memory tokens, forwards: the reference's frame, what the precondition says of the
  arguments, the reference's value over reals, and the claim that the kernel computes it.
-/
module

public import proofs.«01_k».proof.Defs
public import proofs.«01_k».proof.Proof.XfPay
public import proofs.«01_k».proof.Proof.Gen.XfRefIdeal.Run
public import proofs.«01_k».proof.Proof.Gen.XfRefIdeal.Read
public import proofs.«01_k».proof.Proof.Gen.Pre_finite_xf
public import Idealize.ShloMosaic.Lib.Quiescent
public import Idealize.ShloMosaic.Lib.Pointwise.Index

@[expose] public section

set_option maxRecDepth 16384

noncomputable section

namespace Cert.XfRefIdeal.RefValue

open Idealize.ShloMosaic Idealize.SL.Sem Cert.XfRefIdeal Cert.XfRefIdeal.Gen Cert.XfRefIdeal.Read Idealize.ShloMosaic.TcCoe
open Cert.AttnReal Cert.Reals

/-- The largest score of a token and head, as a fold over the memory tokens. -/
theorem max_read (x : FVec Ideal S4x4096x256 .f32) (z : FVec Ideal S_ .f32) (e : Fin 4) (T : Fin 4096) :
    Host.reduce (FloatOps.maximumf (F := Ideal) (φ := .f32)) x z reducesTo_S4x4096x256_S4x4096_d2 h_S_ (ix2 e T)
      = Finset.fold (FloatOps.maximumf (F := Ideal) (φ := .f32)) (z (Shape.Idx.first h_S_)) (fun k : Fin 256 => x (ix3 e T k)) Finset.univ := by
  pointwise

section
variable (x0 : FVec Ideal S4096x1024 .f32) (x1 : FVec Ideal S256x2048 .f32) (x2 x3 : FVec Ideal S1x256 .f32)
  (X : Fin 4096 → Fin 1024 → ℝ) (C : Fin 256 → Fin 2048 → ℝ) (g h : Fin 256 → ℝ)
  (hX : ∀ T n, x0 (ix2 T n) = ((X T n : ℝ) : EReal)) (hC : ∀ j n, x1 (ix2 j n) = ((C j n : ℝ) : EReal))
  (hg : ∀ l, x2 (ix2 0 l) = ((g l : ℝ) : EReal)) (hh : ∀ l, x3 (ix2 0 l) = ((h l : ℝ) : EReal))

include hX in
theorem query (T : Fin 4096) (e : Fin 4) (l : Fin 256) : val_main_v0 (F := Ideal) x0 (ix3 T e l) = ((hq X T e l : ℝ) : EReal) := by
  pointwise [val_main_v0]
  rw [hX]
  simp only [hq, mul_comm]

include hC in
theorem key (j : Fin 256) (e : Fin 4) (l : Fin 256) : val_main_v16 (F := Ideal) x1 (ix3 j e l) = ((hk C e j l : ℝ) : EReal) := by
  pointwise [val_main_v16, val_main_v15, val_main_v14]
  rw [hC]
  simp only [hk, mul_comm]

include hC in
theorem value (j : Fin 256) (e : Fin 4) (l : Fin 256) : val_main_v31 (F := Ideal) x1 (ix3 j e l) = ((hv C e j l : ℝ) : EReal) := by
  pointwise [val_main_v31, val_main_v30, val_main_v14]
  rw [hC]
  simp only [hv, mul_comm]

include hX in
theorem query_inv (T : Fin 4096) (e : Fin 4) : val_main_v8 (F := Ideal) x0 (ix3 T e 0) = ((inv (hq X T e) : ℝ) : EReal) := by
  pointwise [val_main_v8, val_main_v7, val_main_v6, val_main_v5, val_main_v4, val_main_v3, val_main_v2, val_main_v1, val_main_cst, val_main_cst_0, val_main_cst_1]
  simp only [query x0 X hX, ← EReal.coe_mul, coe_sum, ofBits_256, ofBits_eps, rsqrt_ms]

include hC in
theorem key_inv (j : Fin 256) (e : Fin 4) : val_main_v24 (F := Ideal) x1 (ix3 j e 0) = ((inv (hk C e j) : ℝ) : EReal) := by
  pointwise [val_main_v24, val_main_v23, val_main_v22, val_main_v21, val_main_v20, val_main_v19, val_main_v18, val_main_v17, val_main_cst_2, val_main_cst_3, val_main_cst_4]
  simp only [key x1 C hC, ← EReal.coe_mul, coe_sum, ofBits_256, ofBits_eps, rsqrt_ms]

include hX hg in
theorem query_gained (T : Fin 4096) (e : Fin 4) (l : Fin 256) : val_main_v13 (F := Ideal) x0 x2 (ix3 T e l) = ((nrm (hq X T e) l * g l : ℝ) : EReal) := by
  pointwise [val_main_v13, val_main_v12, val_main_v11, val_main_v10, val_main_v9]
  simp only [query x0 X hX, query_inv x0 X hX, hg, ← EReal.coe_mul]
  rfl

include hC hh in
theorem key_gained (j : Fin 256) (e : Fin 4) (l : Fin 256) : val_main_v29 (F := Ideal) x1 x3 (ix3 j e l) = ((nrm (hk C e j) l * h l : ℝ) : EReal) := by
  pointwise [val_main_v29, val_main_v28, val_main_v27, val_main_v26, val_main_v25]
  simp only [key x1 C hC, key_inv x1 C hC, hh, ← EReal.coe_mul]
  rfl

include hX hC hg hh

theorem scaled (e : Fin 4) (T : Fin 4096) (j : Fin 256) : val_main_v34 (F := Ideal) x0 x1 x2 x3 (ix3 e T j)
    = ((score (hq X T e) (hk C e) g h j * (1 / 16) : ℝ) : EReal) := by
  pointwise [val_main_v34, val_main_v33, val_main_v32, val_main_cst_5]
  simp only [query_gained x0 x2 X g hX hg, key_gained x1 x3 C h hC hh, ofBits_16th, ← EReal.coe_mul, coe_sum]
  rfl

theorem largest (e : Fin 4) (T : Fin 4096) : ∃ M : ℝ, val_main_v37 (F := Ideal) x0 x1 x2 x3 (ix2 e T) = ((M : ℝ) : EReal) := by
  obtain ⟨M, hM⟩ := fold_max (fun j => score (hq X T e) (hk C e) g h j * (1 / 16))
  refine ⟨M, ?_⟩
  rw [val_main_v37_apply]
  unfold val_main_v35
  rw [max_read, val_main_v36_apply]
  simp only [scaled x0 x1 x2 x3 X C g h hX hC hg hh, val_main_cst_6_apply, val_main_cst_7_apply]
  rw [show (FloatOps.ofBits (F := Ideal) FTy.f32 4286578688#32) = (⊥ : EReal) from ofBits_neg_inf]
  exact (congrArg (max ⊥) hM).trans (max_eq_right bot_le)

/-- The weights. -/
theorem weight (e : Fin 4) (T : Fin 4096) (j : Fin 256) : val_main_v45 (F := Ideal) x0 x1 x2 x3 (ix3 e T j) = ((tP X C g h T e j : ℝ) : EReal) := by
  obtain ⟨M, hM⟩ := largest x0 x1 x2 x3 X C g h hX hC hg hh e T
  have he : ∀ j, val_main_v41 (F := Ideal) x0 x1 x2 x3 (ix3 e T j) = ((Real.exp (score (hq X T e) (hk C e) g h j * (1 / 16) - M) : ℝ) : EReal) := by
    intro j
    pointwise [val_main_v41, val_main_v40, val_main_v39, val_main_v38]
    rw [hM, scaled x0 x1 x2 x3 X C g h hX hC hg hh, ← EReal.coe_sub, Ideal.exp_coe]
  pointwise [val_main_v45, val_main_v44, val_main_v43, val_main_v42, val_main_cst_8]
  simp only [he, coe_sum]
  rw [Ideal.div_coe (sum_exp_pos fun x => score (hq X T e) (hk C e) g h x * (1 / 16) - M).ne', ← EReal.coe_mul, ← div_eq_mul_one_div]
  exact congrArg _ (soft_shift (fun x => score (hq X T e) (hk C e) g h x * (1 / 16)) M j)

/-- The reference's result. -/
theorem result (T : Fin 4096) (e : Fin 4) (l : Fin 256) (n : Fin 1024) (hn : n.val = 256 * e.val + l.val) :
    val_main_v48 (F := Ideal) x0 x1 x2 x3 (ix2 T n) = ((tO X C g h T e l : ℝ) : EReal) := by
  pointwise [val_main_v48, val_main_v47, val_main_v46]
  simp only [value x1 C hC, weight x0 x1 x2 x3 X C g h hX hC hg hh, ← EReal.coe_mul, coe_sum]
  have e1 : (⟨n.val / 256, by omega⟩ : Fin 4) = e := Fin.ext (by show n.val / 256 = e.val; omega)
  have e2 : (⟨n.val % 256, by omega⟩ : Fin 256) = l := Fin.ext (by show n.val % 256 = l.val; omega)
  rw [e1, e2]
  rfl

end

end Cert.XfRefIdeal.RefValue

namespace Cert.XfIdeal.Closed

open Idealize.ShloMosaic Idealize.SL.Sem Cert.XfIdeal Cert.XfIdeal.Gen Idealize.ShloMosaic.TcCoe Cert.XfIdeal.Value Cert.XfIdeal.Pay Cert.AttnReal
open Cert.KernelIdeal.Body (slab cols)

theorem idxs : ∀ t : Fin cfg0.N, win0_0.index t (0 : Fin 2) = t.val ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, win0_0.index t (0 : Fin 2) = t.val ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = t.val ∧ win0_4.index t (1 : Fin 2) = 0)

variable (m : (ℓ : Loc nD τ sig) → Buf (Elt Ideal) ℓ) (c : Dev nD)

/-- Block `t` of the queries: token `512·t + r`. -/
theorem blk0 (t : Fin cfg0.N) (r : Fin 512) (n : Fin 1024) (T : Fin 4096) (hT : T.val = 512 * t.val + r.val) :
    iblk m c 0 t (ix2 r n) = m ((c : Thread nD τ).loc main_arg0) (ix2 T n) := by
  unfold iblk
  rw [View.read_apply]
  show V m c main_arg0 _ = _
  rw [V_main_arg0]
  refine congrArg _ (funext fun a => Fin.ext ?_)
  have hi := idxs t
  match a with
  | ⟨0, _⟩ => show win0_0.index t (0 : Fin 2) * 512 + 1 * r.val = T.val; rw [hi.1]; omega
  | ⟨1, _⟩ => show win0_0.index t (1 : Fin 2) * 1024 + 1 * n.val = n.val; rw [hi.2.1]; omega

/-- The keys and values, whole at every point. -/
theorem blk1 (t : Fin cfg0.N) (r : Fin 256) (n : Fin 2048) : iblk m c 1 t (ix2 r n) = m ((c : Thread nD τ).loc main_arg1) (ix2 r n) := by
  unfold iblk
  rw [View.read_apply]
  show V m c main_arg1 _ = _
  rw [V_main_arg1]
  refine congrArg _ (funext fun a => Fin.ext ?_)
  have hi := idxs t
  match a with
  | ⟨0, _⟩ => show win0_1.index t (0 : Fin 2) * 256 + 1 * r.val = r.val; rw [hi.2.2.1]; omega
  | ⟨1, _⟩ => show win0_1.index t (1 : Fin 2) * 2048 + 1 * n.val = n.val; rw [hi.2.2.2.1]; omega

/-- The queries' gain. -/
theorem blk2 (t : Fin cfg0.N) (n : Fin 256) : iblk m c 2 t (ix2 0 n) = m ((c : Thread nD τ).loc main_arg2) (ix2 0 n) := by
  unfold iblk
  rw [View.read_apply]
  show V m c main_arg2 _ = _
  rw [V_main_arg2]
  refine congrArg _ (funext fun a => Fin.ext ?_)
  have hi := idxs t
  match a with
  | ⟨0, _⟩ => show win0_2.index t (0 : Fin 2) * 1 + 1 * 0 = 0; rw [hi.2.2.2.2.1]
  | ⟨1, _⟩ => show win0_2.index t (1 : Fin 2) * 256 + 1 * n.val = n.val; rw [hi.2.2.2.2.2.1]; omega

/-- The keys' gain. -/
theorem blk3 (t : Fin cfg0.N) (n : Fin 256) : iblk m c 3 t (ix2 0 n) = m ((c : Thread nD τ).loc main_arg3) (ix2 0 n) := by
  unfold iblk
  rw [View.read_apply]
  show V m c main_arg3 _ = _
  rw [V_main_arg3]
  refine congrArg _ (funext fun a => Fin.ext ?_)
  have hi := idxs t
  match a with
  | ⟨0, _⟩ => show win0_3.index t (0 : Fin 2) * 1 + 1 * 0 = 0; rw [hi.2.2.2.2.2.2.1]
  | ⟨1, _⟩ => show win0_3.index t (1 : Fin 2) * 256 + 1 * n.val = n.val; rw [hi.2.2.2.2.2.2.2.1]; omega

/-- The result over the whole array. -/
def G (X : Fin 4096 → Fin 1024 → ℝ) (C : Fin 256 → Fin 2048 → ℝ) (g h : Fin 256 → ℝ) : S4096x1024.Idx → EReal := fun i =>
  ((tO X C g h (i 0) (⟨(i 1).val / 256, Nat.div_lt_of_lt_mul (i 1).isLt⟩ : Fin 4) (⟨(i 1).val % 256, Nat.mod_lt _ (by decide)⟩ : Fin 256) : ℝ) : EReal)

/-- The blocks' rows cover the tokens. -/
theorem covered4 (i : S4096x1024.Idx) : ∃ t : Fin cfg0.N, (cfg0.win 4).flush t = true ∧ i ∈ ((cfg0.win 4).blk t).view.set := by
  have hN : cfg0.N = 8 := by decide
  have h0 : (i 0).val < 4096 := (i 0).isLt
  have h1 : (i 1).val < 1024 := (i 1).isLt
  let t : Fin cfg0.N := ⟨(i 0).val / 512, by omega⟩
  refine ⟨t, (by decide +kernel : ∀ t : Fin grid0.N, win0_4.flush t = true) t, ?_⟩
  show i ∈ ((View.whole main_v0).slice (win0_4.rect t)).set
  rw [View.set_slice_whole, Rect.mem_set_unit]
  have hi := idxs t
  have ht : t.val = (i 0).val / 512 := rfl
  intro a
  match a with
  | ⟨0, _⟩ =>
    show win0_4.index t (0 : Fin 2) * 512 ≤ (i 0).val ∧ (i 0).val < win0_4.index t (0 : Fin 2) * 512 + 512
    rw [hi.2.2.2.2.2.2.2.2.1]
    omega
  | ⟨1, _⟩ =>
    show win0_4.index t (1 : Fin 2) * 1024 ≤ (i 1).val ∧ (i 1).val < win0_4.index t (1 : Fin 2) * 1024 + 1024
    rw [hi.2.2.2.2.2.2.2.2.2]
    omega

section
variable (X : Fin 4096 → Fin 1024 → ℝ) (C : Fin 256 → Fin 2048 → ℝ) (g h : Fin 256 → ℝ)
  (hX : ∀ T n, (m ((c : Thread nD τ).loc main_arg0) : S4096x1024.Idx → EReal) (ix2 T n) = ((X T n : ℝ) : EReal))
  (hC : ∀ j n, (m ((c : Thread nD τ).loc main_arg1) : S256x2048.Idx → EReal) (ix2 j n) = ((C j n : ℝ) : EReal))
  (hg : ∀ l, (m ((c : Thread nD τ).loc main_arg2) : S1x256.Idx → EReal) (ix2 0 l) = ((g l : ℝ) : EReal))
  (hh : ∀ l, (m ((c : Thread nD τ).loc main_arg3) : S1x256.Idx → EReal) (ix2 0 l) = ((h l : ℝ) : EReal))

include hX hC hg hh

/-- One entry of what a point's body leaves. -/
theorem body_at (t : Fin cfg0.N) (r : Fin 512) (n : Fin 1024) (T : Fin 4096) (hT : T.val = 512 * t.val + r.val) :
    out0_4 (F := Ideal) (iblk m c 0 t) (iblk m c 1 t) (iblk m c 2 t) (iblk m c 3 t) (ix2 r n) = G X C g h (ix2 T n) := by
  have ht : t.val < 8 := t.isLt
  rw [body_eq]
  have hq' : ∀ (a : Fin 512) (l : Fin 256), (cols (256 * (n.val / 256)) (by have := n.isLt; omega) (iblk m c 0 t) : S512x256.Idx → EReal) (ix2 a l)
      = ((hq X (⟨512 * t.val + a.val, by have := a.isLt; omega⟩ : Fin 4096) (⟨n.val / 256, by have := n.isLt; omega⟩ : Fin 4) l : ℝ) : EReal) :=
    fun a l => (blk0 m c t a _ _ rfl).trans (hX _ _)
  have hk' : ∀ (j l : Fin 256), (cols (256 * (n.val / 256)) (by have := n.isLt; omega) (iblk m c 1 t) : S256x256.Idx → EReal) (ix2 j l)
      = ((hk C (⟨n.val / 256, by have := n.isLt; omega⟩ : Fin 4) j l : ℝ) : EReal) :=
    fun j l => (blk1 m c t j _).trans (hC _ _)
  have hv' : ∀ (j l : Fin 256), (cols (1024 + 256 * (n.val / 256)) (by have := n.isLt; omega) (iblk m c 1 t) : S256x256.Idx → EReal) (ix2 j l)
      = ((hv C (⟨n.val / 256, by have := n.isLt; omega⟩ : Fin 4) j l : ℝ) : EReal) :=
    fun j l => (blk1 m c t j _).trans (hC _ _)
  have key := head_apply (iblk m c 2 t) (iblk m c 3 t) _ _ _ g h _ _ _ (fun l => (blk2 m c t l).trans (hg l)) (fun l => (blk3 m c t l).trans (hh l)) hq' hk' hv'
    r (⟨n.val % 256, Nat.mod_lt _ (by decide)⟩ : Fin 256)
  have eT : (⟨512 * t.val + r.val, by have := r.isLt; omega⟩ : Fin 4096) = T := Fin.ext hT.symm
  rw [eT] at key
  refine Eq.trans key ?_
  unfold G tO tP
  exact congrArg (fun x : ℝ => (x : EReal)) (Finset.sum_congr rfl fun j _ => mul_comm _ _)

/-- What a point writes back is its block of the result. -/
theorem flushedW_eq (t : Fin cfg0.N) :
    (dats m 0 c).flushed 4 t = ((cfg0.win 4).blk t).view.read (Elt Ideal) (G X C g h : Buf (Elt Ideal) ((c : Thread nD τ).loc main_v0)) := by
  rw [flushed4]
  funext y
  obtain ⟨r, n, rfl⟩ : ∃ (r : Fin 512) (n : Fin 1024), y = ix2 r n := ⟨_, _, eq_ix2 y⟩
  have ht : t.val < 8 := t.isLt
  refine Eq.trans ?_ ((body_at m c X C g h hX hC hg hh t r n (⟨512 * t.val + r.val, by have := r.isLt; omega⟩ : Fin 4096) rfl).trans ?_)
  · rfl
  rw [View.read_apply]
  refine congrArg (G X C g h) (funext fun a => Fin.ext ?_)
  have hi := idxs t
  match a with
  | ⟨0, _⟩ => show 512 * t.val + r.val = win0_4.index t (0 : Fin 2) * 512 + 1 * r.val; rw [hi.2.2.2.2.2.2.2.2.1]; omega
  | ⟨1, _⟩ => show n.val = win0_4.index t (1 : Fin 2) * 1024 + 1 * n.val; rw [hi.2.2.2.2.2.2.2.2.2]; omega

theorem final4 : (dats m 0 c).arrAt 4 cfg0.N = (G X C g h : Buf (Elt Ideal) ((c : Thread nD τ).loc main_v0)) :=
  (dats m 0 c).arrAt_eq_of_cover 4 _ (fun t hf => flushedW_eq m c X C g h hX hC hg hh t) covered4

end

end Cert.XfIdeal.Closed

namespace Cert.XfClaim

open Idealize.ShloMosaic Idealize.SL.Sem Idealize.ShloMosaic.TcCoe Cert.Reals Cert.AttnReal

/-- The reference runs, keeps its arguments, and has no semaphore to leave raised. -/
theorem frame_ref (m : (ℓ : Loc Cert.XfRefIdeal.nD Cert.XfRefIdeal.τ Cert.XfRefIdeal.sig) → Buf (Elt Ideal) ℓ) (g : Dev Cert.XfRefIdeal.nD → PrngReg) :
    θ_run (Cert.XfRefIdeal.defs (F := Ideal)) (onTc (τ := Cert.XfRefIdeal.τ) (Cert.XfRefIdeal.main (F := Ideal))) ⟨m, fun _ => 0, g⟩ (fun r =>
      (∀ c : Dev Cert.XfRefIdeal.nD,
      r.2.mem ((c : Thread Cert.XfRefIdeal.nD Cert.XfRefIdeal.τ).loc Cert.XfRefIdeal.main_arg0) = m ((c : Thread Cert.XfRefIdeal.nD Cert.XfRefIdeal.τ).loc Cert.XfRefIdeal.main_arg0)
      ∧ r.2.mem ((c : Thread Cert.XfRefIdeal.nD Cert.XfRefIdeal.τ).loc Cert.XfRefIdeal.main_arg1) = m ((c : Thread Cert.XfRefIdeal.nD Cert.XfRefIdeal.τ).loc Cert.XfRefIdeal.main_arg1)
      ∧ r.2.mem ((c : Thread Cert.XfRefIdeal.nD Cert.XfRefIdeal.τ).loc Cert.XfRefIdeal.main_arg2) = m ((c : Thread Cert.XfRefIdeal.nD Cert.XfRefIdeal.τ).loc Cert.XfRefIdeal.main_arg2)
      ∧ r.2.mem ((c : Thread Cert.XfRefIdeal.nD Cert.XfRefIdeal.τ).loc Cert.XfRefIdeal.main_arg3) = m ((c : Thread Cert.XfRefIdeal.nD Cert.XfRefIdeal.τ).loc Cert.XfRefIdeal.main_arg3))
      ∧ r.2.sem = fun _ => 0) :=
  (θ_run _ _ _).mono (fun r h => ⟨fun c => (h c).2, sem_eq_zero_of_no_sems (by decide) _⟩) (Cert.XfRefIdeal.Value.run (F := Ideal) m g)

/-- What the precondition says: every argument holds reals. -/
theorem finite (x0 : FVec Ideal Cert.XfIdeal.S4096x1024 .f32) (x1 : FVec Ideal Cert.XfIdeal.S256x2048 .f32)
    (x2 x3 : FVec Ideal Cert.XfIdeal.S1x256 .f32) (h : ∀ j, Cert.Pre_finite_xf.fn (F := Ideal) x0 x1 x2 x3 j = 1#1) :
    (∃ f : Cert.XfIdeal.S4096x1024.Idx → ℝ, x0 = fun i => (f i : EReal)) ∧ (∃ f : Cert.XfIdeal.S256x2048.Idx → ℝ, x1 = fun i => (f i : EReal))
      ∧ (∃ f : Cert.XfIdeal.S1x256.Idx → ℝ, x2 = fun i => (f i : EReal)) ∧ ∃ f : Cert.XfIdeal.S1x256.Idx → ℝ, x3 = fun i => (f i : EReal) := by
  have h := h (fun a => a.elim0)
  dsimp only [Cert.Pre_finite_xf.fn, andi] at h
  obtain ⟨h012, h3⟩ := IntOp.andi_eq_one.mp h
  obtain ⟨h01, h2⟩ := IntOp.andi_eq_one.mp h012
  obtain ⟨h0, h1⟩ := IntOp.andi_eq_one.mp h01
  exact ⟨exists_real _ fun i => real_of_cmp (Host.reduce_andi_all _ _ _ _ _ h0 i),
    exists_real _ fun i => real_of_cmp (Host.reduce_andi_all _ _ _ _ _ h1 i),
    exists_real _ fun i => real_of_cmp (Host.reduce_andi_all _ _ _ _ _ h2 i),
    exists_real _ fun i => real_of_cmp (Host.reduce_andi_all _ _ _ _ _ h3 i)⟩

theorem algebraic : Cert.algebraic_XfIdeal_XfRefIdeal_pre_finite_xf := by
  intro m g m' g' hpre hag
  refine ⟨fun c => (Cert.XfIdeal.Gen.dats m 0 c).arrAt 4 Cert.XfIdeal.cfg0.N, ?_, ?_⟩
  · exact (θ_run _ _ _).mono (fun r h c => h c) (Cert.XfIdeal.Value.run_blocks m g)
  refine (θ_run _ _ _).mono (fun r h c => ?_) (Cert.XfRefIdeal.Value.run m' g')
  obtain ⟨h1, h2⟩ := h c
  obtain ⟨⟨fX, hX⟩, ⟨fC, hC⟩, ⟨fg, hg⟩, ⟨fh, hh⟩⟩ := finite _ _ _ _ (fun j => congrFun (hpre c) j)
  obtain ⟨e0, e1, e2, e3⟩ := hag c
  refine ⟨h1.trans ?_, h2⟩
  refine Eq.trans ?_ (Cert.XfIdeal.Closed.final4 m c (fun T n => fX (ix2 T n)) (fun j n => fC (ix2 j n)) (fun l => fg (ix2 0 l)) (fun l => fh (ix2 0 l))
    (fun T n => congrFun hX (ix2 T n)) (fun j n => congrFun hC (ix2 j n)) (fun l => congrFun hg (ix2 0 l)) (fun l => congrFun hh (ix2 0 l))).symm
  refine (Cert.XfRefIdeal.Read.val_main_v48_eq ..).trans ?_
  rw [e0, e1, e2, e3]
  funext i
  obtain ⟨T, n, rfl⟩ : ∃ (T : Fin 4096) (n : Fin 1024), i = ix2 T n := ⟨_, _, eq_ix2 i⟩
  exact Cert.XfRefIdeal.RefValue.result _ _ _ _ (fun T n => fX (ix2 T n)) (fun j n => fC (ix2 j n)) (fun l => fg (ix2 0 l)) (fun l => fh (ix2 0 l))
    (fun T n => congrFun hX (ix2 T n)) (fun j n => congrFun hC (ix2 j n)) (fun l => congrFun hg (ix2 0 l)) (fun l => congrFun hh (ix2 0 l))
    T (⟨n.val / 256, by have := n.isLt; omega⟩ : Fin 4) (⟨n.val % 256, Nat.mod_lt _ (by decide)⟩ : Fin 256) n
    (by show n.val = 256 * (n.val / 256) + n.val % 256; omega)

end Cert.XfClaim

end
-- ==== Proof.SwaReal.lean ====
/-
  Hand-written, untrusted. One row of a masked softmax with a sink: scores that are `⊥` where the mask hides a key and real elsewhere. The
  denominator is a positive real, so a product with its reciprocal is a quotient, and a hidden key's value does not matter.
-/
module

public import proofs.«01_k».proof.Proof.Reals

@[expose] public section

noncomputable section

namespace Cert.SwaReal

open Idealize.ShloMosaic

/-- The largest of a row's scores and its sink. -/
def top (S : Fin 256 → EReal) (sk : EReal) : EReal := max (Finset.fold max ⊥ S Finset.univ) sk

/-- The row's denominator. -/
def den (S : Fin 256 → EReal) (sk : EReal) : EReal := (∑ j, Ideal.exp (S j - top S sk)) + Ideal.exp (sk - top S sk)

/-- The row's result: the weights, as quotients, times the values. -/
def row (S : Fin 256 → EReal) (sk : EReal) (V : Fin 256 → EReal) : EReal := ∑ j, Ideal.div (Ideal.exp (S j - top S sk)) (den S sk) * V j

section
variable (S : Fin 256 → EReal) (k : ℝ) (hS : ∀ j, S j = ⊥ ∨ ∃ x : ℝ, S j = (x : EReal))
include hS

theorem top_real : ∃ m : ℝ, top S (k : EReal) = (m : EReal) := by
  have h1 : top S (k : EReal) ≠ ⊥ := fun h => by
    have h2 : (k : EReal) ≤ top S (k : EReal) := le_max_right _ _
    rw [h] at h2
    exact EReal.coe_ne_bot k (le_bot_iff.mp h2)
  have h2 : top S (k : EReal) < ⊤ := by
    refine max_lt ?_ (EReal.coe_lt_top k)
    rw [Finset.fold_max_lt]
    refine ⟨bot_lt_top, fun j _ => ?_⟩
    rcases hS j with h | ⟨x, h⟩
    · rw [h]; exact bot_lt_top
    · rw [h]; exact EReal.coe_lt_top x
  exact ⟨_, (EReal.coe_toReal h2.ne h1).symm⟩

theorem den_real : ∃ d : ℝ, d ≠ 0 ∧ den S (k : EReal) = (d : EReal) := by
  obtain ⟨m, hm⟩ := top_real S k hS
  have h : ∀ j, ∃ p : ℝ, 0 ≤ p ∧ Ideal.exp (S j - (m : EReal)) = (p : EReal) := fun j => by
    rcases hS j with h | ⟨x, h⟩
    · exact ⟨0, le_rfl, by rw [h, EReal.bot_sub]; rfl⟩
    · exact ⟨_, (Real.exp_pos (x - m)).le, by rw [h, ← EReal.coe_sub, Ideal.exp_coe]⟩
  choose p hp he using h
  refine ⟨(∑ j, p j) + Real.exp (k - m), ?_, ?_⟩
  · have := Finset.sum_nonneg fun j (_ : j ∈ Finset.univ) => hp j
    have := Real.exp_pos (k - m)
    positivity
  · unfold den
    rw [hm, ← EReal.coe_sub, Ideal.exp_coe]
    simp only [he, Cert.Reals.coe_sum, EReal.coe_add]

/-- A reciprocal's product for a quotient, and values that agree where the mask lets the key through. -/
theorem row_recip (V V' : Fin 256 → EReal) (hV : ∀ j, S j ≠ ⊥ → V j = V' j) :
    ∑ j, Ideal.exp (S j - top S (k : EReal)) * Ideal.div 1 (den S (k : EReal)) * V j = row S (k : EReal) V' := by
  obtain ⟨d, hd, he⟩ := den_real S k hS
  obtain ⟨m, hm⟩ := top_real S k hS
  refine Finset.sum_congr rfl fun j _ => ?_
  rw [he, Ideal.div_coe hd, Ideal.div_coe hd, one_mul]
  by_cases h : S j = ⊥
  · rw [h, hm, EReal.bot_sub, show Ideal.exp ⊥ = (0 : EReal) from rfl, zero_mul, zero_mul, zero_mul]
  · rw [hV j h]
end

end Cert.SwaReal

end
-- ==== Proof.SwaPay.lean ====
/-
  Hand-written, untrusted. The sliding-window attention, forwards: what the kernel's body leaves for one block of 128 queries and one pair
  of heads. The two heads' rows are stacked into 256 rows, each with its own half of the lanes; the keys are the block before and the block itself.
-/
module

public import proofs.«01_k».proof.Proof.SwaReal
public import proofs.«01_k».proof.Proof.AttnReal
public import proofs.«01_k».proof.Proof.Gen.SwaIdeal.Skeleton
public import Idealize.ShloMosaic.Lib.Pointwise

@[expose] public section

set_option maxRecDepth 16384

noncomputable section

namespace Cert.SwaIdeal.Pay

open Idealize.ShloMosaic Idealize.SL.Sem Cert.SwaIdeal Cert.SwaIdeal.Gen Idealize.ShloMosaic.TcCoe Cert.Reals
open Cert.AttnReal (ofBits_neg_inf)

/-- A row of the stack: row `r` of the pair's head `e`. -/
def rw2 (e : Fin 2) (r : Fin 128) : Fin 256 := ⟨128 * e.val + r.val, by omega⟩

/-- The stacked queries where the keys stand in the lower half of the lanes: the second head is rotated there. -/
def stackA (v2 : IVec S1x128 1) (v53 : Vec Ideal S128x128 .f32) : FVec Ideal S256x128 .bf16 :=
  have cst : Ideal .f32 := Scalar.ofBits .f32 0x00000000#32
  have v58 : IVec S128x128 1 := broadcastTo S128x128 (shapeCast S1x128 v2 shapeCasts_S1x128_S1x128) broadcasts_S1x128_S128x128
  have v60 : Vec Ideal S128x128 .f32 := select v58 v53 (broadcast S128x128 cst)
  have v64 : FVec Ideal S128x128 .f32 := select v58 (broadcast S128x128 cst) v53
  have v65 : FVec Ideal S128x128 .f32 := dynamicRotate 1 64#32 none v64 rotates_S128x128_d1
  have v66 : FVec Ideal S256x128 .f32 := concatenate S256x128 0 [⟨S128x128, v60⟩, ⟨S128x128, v65⟩] concatenates_S128x128_S128x128_S256x128_d0
  truncf .bf16 v66 bitsLt_bf16_f32

/-- The same where the keys stand in the upper half: the first head is rotated there. -/
def stackB (v2 : IVec S1x128 1) (v53 : Vec Ideal S128x128 .f32) : FVec Ideal S256x128 .bf16 :=
  have cst : Ideal .f32 := Scalar.ofBits .f32 0x00000000#32
  have v58 : IVec S128x128 1 := broadcastTo S128x128 (shapeCast S1x128 v2 shapeCasts_S1x128_S1x128) broadcasts_S1x128_S128x128
  have v60 : Vec Ideal S128x128 .f32 := select v58 v53 (broadcast S128x128 cst)
  have v64 : FVec Ideal S128x128 .f32 := select v58 (broadcast S128x128 cst) v53
  have v65 : FVec Ideal S128x128 .f32 := dynamicRotate 1 64#32 none v60 rotates_S128x128_d1
  have v66 : FVec Ideal S256x128 .f32 := concatenate S256x128 0 [⟨S128x128, v65⟩, ⟨S128x128, v64⟩] concatenates_S128x128_S128x128_S256x128_d0
  truncf .bf16 v66 bitsLt_bf16_f32

/-- The scaled scores of the stack against the two blocks of keys. -/
def scores (s : FVec Ideal S256x128 .bf16) (kc kp : Vec Ideal S128x128 .f32) : FVec Ideal S256x256 .f32 :=
  mulf (matmul dot_S256x128_S256x128_S256x256_1_1_0_0_n_n none s (k0_pay14 kc kp) (constant S256x256 .f32 0x00000000#32))
    (broadcast S256x256 (Scalar.ofBits .f32 0x3E000000#32 : Ideal .f32))

/-- The weights: the exponentials times the denominators' reciprocals. -/
def weights (ok : IVec S256x256 1) (slc : FVec Ideal S256x1 .f32) (sc : FVec Ideal S256x256 .f32) (sk0 sk1 : Elt Ideal .f32) : FVec Ideal S256x256 .f32 :=
  mulf (k0_pay21 ok k0_pay9 k0_pay10 slc sc sk0 sk1)
    (broadcastTo S256x256 (divf (broadcast S256x1 (Scalar.ofBits .f32 0x3F800000#32 : Ideal .f32)) (k0_pay22 ok k0_pay9 k0_pay10 slc sc sk0 sk1)) broadcasts_S256x1_S256x256)

/-- The weights times the values, the heads put side by side again. -/
def unstackA (vv : FVec Ideal S256x128 .bf16) (w : FVec Ideal S256x256 .f32) : FVec Ideal S128x128 .f32 :=
  have v108 : FVec Ideal S256x128 .f32 := matmul dot_S256x256_S256x128_S256x128_1_0_0_1_n_n none (truncf .bf16 w bitsLt_bf16_f32) vv (constant S256x128 .f32 0x00000000#32)
  have v109 : FVec Ideal S128x128 .f32 := extractStridedSlice S128x128 ![0, 0] v108 slices_S256x128_o0_0_S128x128
  have v110 : FVec Ideal S128x128 .f32 := extractStridedSlice S128x128 ![128, 0] v108 slices_S256x128_o128_0_S128x128
  have v111 : FVec Ideal S128x128 .f32 := dynamicRotate 1 64#32 none v110 rotates_S128x128_d1
  have v113 : IVec S128x128 1 := broadcastTo S128x128 (shapeCast S1x128 k0_pay6 shapeCasts_S1x128_S1x128) broadcasts_S1x128_S128x128
  select v113 v109 v111

/-- One pair of heads over one block of queries, the keys in the lower half of the lanes. -/
def pairA (ok : IVec S256x256 1) (q kc kp vc vp : Vec Ideal S128x128 .f32) (sl0 sl1 sk0 sk1 : Elt Ideal .f32) : FVec Ideal S128x128 .f32 :=
  unstackA (k0_pay15 vc vp) (weights ok (k0_pay16 k0_pay9 sl0 sl1) (scores (stackA k0_pay6 q) kc kp) sk0 sk1)

/-- The same with the keys in the upper half. -/
def pairB (ok : IVec S256x256 1) (q kc kp vc vp : Vec Ideal S128x128 .f32) (sl0 sl1 sk0 sk1 : Elt Ideal .f32) : FVec Ideal S128x128 .f32 :=
  k0_pay1 k0_pay6 (k0_pay15 vc vp) (weights ok (k0_pay16 k0_pay9 sl0 sl1) (scores (stackB k0_pay6 q) kc kp) sk0 sk1)

theorem lane : ∀ l : Fin 128, IntOp.cmpi CmpIPredicate.slt (BitVec.ofNat 32 l.val) 64#32 = if l.val < 64 then 1#1 else 0#1 := by decide +kernel

theorem top_row : ∀ l : Fin 256, IntOp.cmpi CmpIPredicate.slt (BitVec.ofNat 32 l.val) 128#32 = if l.val < 128 then 1#1 else 0#1 := by decide +kernel

theorem named_mask : Named.named (F := Ideal) Cert.SwaIdeal.κ "mask" (φ := .f32) 0xF149F2CA#32 = (⊥ : EReal) :=
  IdealRules.named_const.ideal_named_scalar _ _ _ _ rfl

/-- A number of the pair's first or second head. -/
def sel {α : Type} (e : Fin 2) (a b : α) : α := if e.val = 0 then a else b

theorem stackA_apply (q : Vec Ideal S128x128 .f32) (e : Fin 2) (r l : Fin 128) :
    stackA k0_pay6 q (ix2 (rw2 e r) l) = if h : l.val < 64 then q (ix2 r ⟨64 * e.val + l.val, by omega⟩) else 0 := by
  unfold stackA; unfold_payloads; pointwise
  have h1 := lane l
  have h2 := lane ⟨(l.val + 128 - 64) % 128, Nat.mod_lt _ (by decide)⟩
  simp only at h2
  rw [h1, h2]
  match e with
  | ⟨0, _⟩ =>
    rw [dif_pos (by show 128 * 0 + r.val < 128; omega)]
    by_cases h : l.val < 64
    · rw [if_pos h, dif_pos h]
      refine congrArg q (congrArg₂ ix2 (Fin.ext (by show 128 * 0 + r.val = r.val; omega)) (Fin.ext (by show l.val = 64 * 0 + l.val; omega)))
    · rw [if_neg h, dif_neg h]; rfl
  | ⟨1, _⟩ =>
    rw [dif_neg (by show ¬ 128 * 1 + r.val < 128; omega)]
    by_cases h : l.val < 64
    · rw [if_neg (by omega), dif_pos h]
      refine congrArg q (congrArg₂ ix2 (Fin.ext (by show 128 * 1 + r.val - 128 = r.val; omega)) (Fin.ext (by show (l.val + 128 - 64) % 128 = 64 * 1 + l.val; omega)))
    · rw [if_pos (by omega), dif_neg h]; rfl

theorem stackB_apply (q : Vec Ideal S128x128 .f32) (e : Fin 2) (r l : Fin 128) :
    stackB k0_pay6 q (ix2 (rw2 e r) l) = if h : l.val < 64 then 0 else q (ix2 r ⟨64 * e.val + (l.val - 64), by omega⟩) := by
  unfold stackB; unfold_payloads; pointwise
  have h1 := lane l
  have h2 := lane ⟨(l.val + 128 - 64) % 128, Nat.mod_lt _ (by decide)⟩
  simp only at h2
  rw [h1, h2]
  match e with
  | ⟨0, _⟩ =>
    rw [dif_pos (by show 128 * 0 + r.val < 128; omega)]
    by_cases h : l.val < 64
    · rw [if_neg (by omega), dif_pos h]; rfl
    · rw [if_pos (by omega), dif_neg h]
      refine congrArg q (congrArg₂ ix2 (Fin.ext (by show 128 * 0 + r.val = r.val; omega)) (Fin.ext (by show (l.val + 128 - 64) % 128 = 64 * 0 + (l.val - 64); omega)))
  | ⟨1, _⟩ =>
    rw [dif_neg (by show ¬ 128 * 1 + r.val < 128; omega)]
    by_cases h : l.val < 64
    · rw [if_pos h, dif_pos h]; rfl
    · rw [if_neg h, dif_neg h]
      refine congrArg q (congrArg₂ ix2 (Fin.ext (by show 128 * 1 + r.val - 128 = r.val; omega)) (Fin.ext (by show l.val = 64 * 1 + (l.val - 64); omega)))

/-- The keys (or the values) of the block before, then of the block itself. -/
def two (c p : Vec Ideal S128x128 .f32) (j : Fin 256) (l : Fin 128) : EReal :=
  if h : j.val < 128 then p (ix2 ⟨j.val, h⟩ l) else c (ix2 ⟨j.val - 128, by omega⟩ l)

theorem kcat_apply (c p : Vec Ideal S128x128 .f32) (j : Fin 256) (l : Fin 128) : k0_pay14 (F := Ideal) c p (ix2 j l) = two c p j l := by
  unfold_payloads; pointwise; rfl

theorem vcat_apply (c p : Vec Ideal S128x128 .f32) (j : Fin 256) (l : Fin 128) : k0_pay15 (F := Ideal) c p (ix2 j l) = two c p j l := by
  unfold_payloads; pointwise; rfl

/-- A lane of the lower (`κ = 0`) or upper half. -/
def half (κ : Fin 2) (l : Fin 64) : Fin 128 := ⟨64 * κ.val + l.val, by omega⟩

theorem sum_halves (f : Fin 128 → EReal) : ∑ l, f l = (∑ l, f (half 0 l)) + ∑ l, f (half 1 l) := by
  rw [show (∑ l, f l) = ∑ l : Fin (64 + 64), f l from rfl, Fin.sum_univ_add]
  refine congrArg₂ _ (Finset.sum_congr rfl fun l _ => congrArg f (Fin.ext ?_)) (Finset.sum_congr rfl fun l _ => congrArg f (Fin.ext ?_))
  · show l.val = 64 * 0 + l.val; omega
  · show 64 + l.val = 64 * 1 + l.val; omega

theorem scores_apply (s : FVec Ideal S256x128 .bf16) (kc kp : Vec Ideal S128x128 .f32) (ρ j : Fin 256) :
    scores s kc kp (ix2 ρ j) = (∑ l, s (ix2 ρ l) * two kc kp j l) * Ideal.ofBits .f32 0x3E000000#32 := by
  have h := kcat_apply kc kp
  unfold scores
  generalize k0_pay14 (F := Ideal) kc kp = w at h ⊢
  pointwise
  simp only [h]

theorem scoresA (q kc kp : Vec Ideal S128x128 .f32) (e : Fin 2) (r : Fin 128) (j : Fin 256) :
    scores (stackA k0_pay6 q) kc kp (ix2 (rw2 e r) j) = (∑ l, q (ix2 r (half e l)) * two kc kp j (half 0 l)) * Ideal.ofBits .f32 0x3E000000#32 := by
  rw [scores_apply, sum_halves]
  simp only [stackA_apply]
  refine congrArg (· * _) ?_
  rw [show (∑ x, (if h : (half 1 x).val < 64 then q (ix2 r ⟨64 * e.val + (half 1 x).val, by omega⟩) else 0) * two kc kp j (half 1 x)) = 0 from
    Finset.sum_eq_zero fun x _ => by rw [dif_neg (by show ¬ 64 * 1 + x.val < 64; omega), zero_mul], add_zero]
  refine Finset.sum_congr rfl fun x _ => ?_
  rw [dif_pos (by show 64 * 0 + x.val < 64; omega)]
  refine congrArg (fun i => q (ix2 r i) * _) (Fin.ext ?_)
  show 64 * e.val + (64 * 0 + x.val) = 64 * e.val + x.val; omega

theorem scoresB (q kc kp : Vec Ideal S128x128 .f32) (e : Fin 2) (r : Fin 128) (j : Fin 256) :
    scores (stackB k0_pay6 q) kc kp (ix2 (rw2 e r) j) = (∑ l, q (ix2 r (half e l)) * two kc kp j (half 1 l)) * Ideal.ofBits .f32 0x3E000000#32 := by
  rw [scores_apply, sum_halves]
  simp only [stackB_apply]
  refine congrArg (· * _) ?_
  rw [show (∑ x, (if h : (half 0 x).val < 64 then 0 else q (ix2 r ⟨64 * e.val + ((half 0 x).val - 64), by omega⟩)) * two kc kp j (half 0 x)) = 0 from
    Finset.sum_eq_zero fun x _ => by rw [dif_pos (by show 64 * 0 + x.val < 64; omega), zero_mul], zero_add]
  refine Finset.sum_congr rfl fun x _ => ?_
  rw [dif_neg (by show ¬ 64 * 1 + x.val < 64; omega)]
  refine congrArg (fun i => q (ix2 r i) * _) (Fin.ext ?_)
  show 64 * e.val + (64 * 1 + x.val - 64) = 64 * e.val + x.val; omega

theorem slope_apply (a b : Elt Ideal .f32) (e : Fin 2) (r : Fin 128) : k0_pay16 (F := Ideal) k0_pay9 a b (ix2 (rw2 e r) 0) = sel e a b := by
  unfold_payloads; pointwise
  rw [top_row]
  match e with
  | ⟨0, _⟩ => rw [if_pos (by show 128 * 0 + r.val < 128; omega)]; rfl
  | ⟨1, _⟩ => rw [if_neg (by show ¬ 128 * 1 + r.val < 128; omega)]; rfl

theorem sink_apply (a b : Elt Ideal .f32) (e : Fin 2) (r : Fin 128) : k0_pay19 (F := Ideal) k0_pay9 a b (ix2 (rw2 e r) 0) = sel e a b := slope_apply a b e r

/-- A row's masked scores. -/
def msk (ok : IVec S256x256 1) (slc : FVec Ideal S256x1 .f32) (sc : FVec Ideal S256x256 .f32) (ρ j : Fin 256) : EReal :=
  Scalar.select (ok (ix2 ρ j)) (sc (ix2 ρ j) - slc (ix2 ρ 0) * k0_pay10 (F := Ideal) (ix2 ρ j)) ⊥

theorem msk_apply (ok : IVec S256x256 1) (slc : FVec Ideal S256x1 .f32) (sc : FVec Ideal S256x256 .f32) (ρ j : Fin 256) :
    k0_pay18 (F := Ideal) ok k0_pay10 slc sc (ix2 ρ j) = msk ok slc sc ρ j := by
  unfold msk
  generalize k0_pay10 (F := Ideal) = d
  unfold_payloads; pointwise
  rw [named_mask]

theorem weights_apply (ok : IVec S256x256 1) (slc : FVec Ideal S256x1 .f32) (sc : FVec Ideal S256x256 .f32) (a b : Elt Ideal .f32) (e : Fin 2) (r : Fin 128) (j : Fin 256) :
    weights ok slc sc a b (ix2 (rw2 e r) j) =
      Ideal.exp (msk ok slc sc (rw2 e r) j - Cert.SwaReal.top (msk ok slc sc (rw2 e r)) (sel e a b)) *
        Ideal.div 1 (Cert.SwaReal.den (msk ok slc sc (rw2 e r)) (sel e a b)) := by
  have hs := msk_apply ok slc sc
  have hk := sink_apply a b e r
  unfold weights k0_pay22 k0_pay21 k0_pay20
  generalize k0_pay18 (F := Ideal) ok k0_pay10 slc sc = w at hs ⊢
  generalize k0_pay19 (F := Ideal) k0_pay9 a b = u at hk ⊢
  dsimp only
  pointwise
  simp only [hs, hk, ofBits_neg_inf]
  rfl

theorem select_one {α : Type} (a b : α) : Scalar.select 1#1 a b = a := rfl
theorem select_zero {α : Type} (a b : α) : Scalar.select 0#1 a b = b := rfl

theorem unstackA_apply (vv : FVec Ideal S256x128 .bf16) (w : FVec Ideal S256x256 .f32) (r : Fin 128) (e : Fin 2) (l : Fin 64) :
    unstackA vv w (ix2 r (half e l)) = ∑ j, w (ix2 (rw2 e r) j) * vv (ix2 j (half 0 l)) := by
  unfold unstackA; unfold_payloads; pointwise
  rw [lane]
  match e with
  | ⟨0, _⟩ =>
    rw [if_pos (by show 64 * 0 + l.val < 64; omega), select_one]
    refine Finset.sum_congr rfl fun x _ => congrArg₂ (fun i k => w (ix2 i x) * vv (ix2 x k)) (Fin.ext ?_) (Fin.ext ?_)
    · show r.val = 128 * 0 + r.val; omega
    · show 64 * 0 + l.val = 64 * 0 + l.val; rfl
  | ⟨1, _⟩ =>
    rw [if_neg (by show ¬ 64 * 1 + l.val < 64; omega), select_zero]
    refine Finset.sum_congr rfl fun x _ => congrArg₂ (fun i k => w (ix2 i x) * vv (ix2 x k)) (Fin.ext ?_) (Fin.ext ?_)
    · show 128 + r.val = 128 * 1 + r.val; omega
    · show (64 * 1 + l.val + 128 - 64) % 128 = 64 * 0 + l.val; omega

theorem unstackB_apply (vv : FVec Ideal S256x128 .bf16) (w : FVec Ideal S256x256 .f32) (r : Fin 128) (e : Fin 2) (l : Fin 64) :
    k0_pay1 (F := Ideal) k0_pay6 vv w (ix2 r (half e l)) = ∑ j, w (ix2 (rw2 e r) j) * vv (ix2 j (half 1 l)) := by
  unfold_payloads; pointwise
  rw [lane]
  match e with
  | ⟨0, _⟩ =>
    rw [if_pos (by show 64 * 0 + l.val < 64; omega), select_one]
    refine Finset.sum_congr rfl fun x _ => congrArg₂ (fun i k => w (ix2 i x) * vv (ix2 x k)) (Fin.ext ?_) (Fin.ext ?_)
    · show r.val = 128 * 0 + r.val; omega
    · show (64 * 0 + l.val + 128 - 64) % 128 = 64 * 1 + l.val; omega
  | ⟨1, _⟩ =>
    rw [if_neg (by show ¬ 64 * 1 + l.val < 64; omega), select_zero]
    refine Finset.sum_congr rfl fun x _ => congrArg₂ (fun i k => w (ix2 i x) * vv (ix2 x k)) (Fin.ext ?_) (Fin.ext ?_)
    · show 128 + r.val = 128 * 1 + r.val; omega
    · show 64 * 1 + l.val = 64 * 1 + l.val; rfl

/-- The masked scores of the pair's head `e` at a query, against half `κ` of the keys' lanes. -/
def S (ok : IVec S256x256 1) (q kc kp : Vec Ideal S128x128 .f32) (sl : EReal) (κ e : Fin 2) (r : Fin 128) (j : Fin 256) : EReal :=
  Scalar.select (ok (ix2 (rw2 e r) j))
    ((∑ l, q (ix2 r (half e l)) * two kc kp j (half κ l)) * Ideal.ofBits .f32 0x3E000000#32 - sl * k0_pay10 (F := Ideal) (ix2 (rw2 e r) j)) ⊥

section
variable (ok : IVec S256x256 1) (q kc kp vc vp : Vec Ideal S128x128 .f32) (a b c d : Elt Ideal .f32)

theorem pairA_apply (e : Fin 2) (r : Fin 128) (l : Fin 64) :
    pairA ok q kc kp vc vp a b c d (ix2 r (half e l)) =
      ∑ j, Ideal.exp (S ok q kc kp (sel e a b) 0 e r j - Cert.SwaReal.top (S ok q kc kp (sel e a b) 0 e r) (sel e c d)) *
        Ideal.div 1 (Cert.SwaReal.den (S ok q kc kp (sel e a b) 0 e r) (sel e c d)) * two vc vp j (half 0 l) := by
  unfold pairA
  rw [unstackA_apply]
  simp only [weights_apply, vcat_apply]
  have h : msk ok (k0_pay16 k0_pay9 a b) (scores (stackA k0_pay6 q) kc kp) (rw2 e r) = S ok q kc kp (sel e a b) 0 e r := by
    funext j
    unfold msk S
    rw [scoresA, slope_apply]
  rw [h]

theorem pairB_apply (e : Fin 2) (r : Fin 128) (l : Fin 64) :
    pairB ok q kc kp vc vp a b c d (ix2 r (half e l)) =
      ∑ j, Ideal.exp (S ok q kc kp (sel e a b) 1 e r j - Cert.SwaReal.top (S ok q kc kp (sel e a b) 1 e r) (sel e c d)) *
        Ideal.div 1 (Cert.SwaReal.den (S ok q kc kp (sel e a b) 1 e r) (sel e c d)) * two vc vp j (half 1 l) := by
  unfold pairB
  rw [unstackB_apply]
  simp only [weights_apply, vcat_apply]
  have h : msk ok (k0_pay16 k0_pay9 a b) (scores (stackB k0_pay6 q) kc kp) (rw2 e r) = S ok q kc kp (sel e a b) 1 e r := by
    funext j
    unfold msk S
    rw [scoresB, slope_apply]
  rw [h]

end

/-- The word of a query's distance to a key. -/
def dw (r : Fin 128) (j : Fin 256) : BitVec 32 := BitVec.ofNat 32 r.val + 128#32 - BitVec.ofNat 32 j.val

theorem and_row : ∀ (e : Fin 2) (r : Fin 128), IntOp.andi (BitVec.ofNat 32 (rw2 e r).val) 127#32 = BitVec.ofNat 32 r.val := by decide +kernel

theorem dist_word (e : Fin 2) (r : Fin 128) (j : Fin 256) :
    IntOp.addi (IntOp.subi (IntOp.andi (BitVec.ofNat 32 (rw2 e r).val) 127#32) (BitVec.ofNat 32 j.val)) 128#32 = dw r j := by
  rw [and_row]
  show BitVec.ofNat 32 r.val - BitVec.ofNat 32 j.val + 128#32 = BitVec.ofNat 32 r.val + 128#32 - BitVec.ofNat 32 j.val
  rw [BitVec.sub_eq_add_neg, BitVec.sub_eq_add_neg, BitVec.add_assoc, BitVec.add_comm (-_) _, BitVec.add_assoc]

theorem dist_apply (e : Fin 2) (r : Fin 128) (j : Fin 256) : k0_pay10 (F := Ideal) (ix2 (rw2 e r) j) = FloatOps.sitofp (F := Ideal) FTy.f32 (dw r j) := by
  unfold_payloads; pointwise
  rw [dist_word]

/-- The mask's word: the key within the window, and not before the sequence's first token. -/
def okw (n : Fin 32) (r : Fin 128) (j : Fin 256) : BitVec 1 :=
  IntOp.andi (IntOp.andi (IntOp.cmpi CmpIPredicate.sge (dw r j) 0#32) (IntOp.cmpi CmpIPredicate.sle (dw r j) 127#32))
    (IntOp.cmpi CmpIPredicate.sge (BitVec.ofNat 32 j.val) (if n.val = 0 then 128#32 else 0#32))

theorem coord_ge : ∀ i : Fin 16, Scalar.select (Scalar.cmpi CmpIPredicate.sge (BitVec.ofNat 32 i.val) 0#32) 127#32 4294967295#32 = 127#32 := by decide +kernel
theorem coord_ge' : ∀ i : Fin 16, Scalar.select (Scalar.cmpi CmpIPredicate.sge (BitVec.ofNat 32 i.val) 0#32) 0#32 128#32 = 0#32 := by decide +kernel
theorem coord_gt : ∀ i : Fin 16, Scalar.select (Scalar.cmpi CmpIPredicate.sgt (BitVec.ofNat 32 i.val) 0#32) 0#32 128#32 = if i.val = 0 then 128#32 else 0#32 := by decide +kernel

/-- The first block's mask. -/
theorem ok_first (i : grid0.Coords) (e : Fin 2) (r : Fin 128) (j : Fin 256) :
    k0_pay8 i (ix2 (rw2 e r) j) = okw ⟨2 * (i 1).val, by have : (i 1).val < 16 := (i 1).isLt; omega⟩ r j := by
  unfold_payloads; pointwise
  rw [dist_word, coord_ge (i 1), coord_gt (i 1)]
  unfold okw
  congr 2
  simp

theorem ok_second (i : Fin 16) (e : Fin 2) (r : Fin 128) (j : Fin 256) :
    k0_pay13 (iota .tc S256x256 32 [1] iota_S256x256_d1_w32) k0_pay11 127#32 0#32 k0_pay12 (ix2 (rw2 e r) j) = okw ⟨2 * i.val + 1, by omega⟩ r j := by
  unfold_payloads; pointwise
  rw [dist_word]
  rfl

end Cert.SwaIdeal.Pay

end
-- ==== Proof.SwaRef.lean ====
/-
  Hand-written, untrusted. The sliding-window attention with sinks, forwards: its value, entry by entry over the arguments, and that
  the reference computes it.
-/
module

public import proofs.«01_k».proof.Defs
public import proofs.«01_k».proof.Proof.SwaPay
public import proofs.«01_k».proof.Proof.SwaReal
public import proofs.«01_k».proof.Proof.Gen.SwaRefIdeal.Read

@[expose] public section

set_option maxRecDepth 16384

noncomputable section

namespace Cert.SwaRefIdeal.RefValue

open Idealize.ShloMosaic Idealize.SL.Sem Cert.SwaRefIdeal Cert.SwaRefIdeal.Gen Cert.SwaRefIdeal.Read
open Cert.SwaIdeal.Pay (okw dw select_one select_zero)
open Cert.AttnReal (ofBits_neg_inf)

/-- Where a key counts at all, its place says so: the first block has no block before it. -/
theorem key_word : ∀ (n : Fin 32) (j : Fin 256), IntOp.cmpi CmpIPredicate.sge
      (IntOp.addi (IntOp.subi (IntOp.muli (BitVec.ofNat 32 n.val) 128#32) 128#32) (BitVec.ofNat 32 j.val)) 0#32
    = IntOp.cmpi CmpIPredicate.sge (BitVec.ofNat 32 j.val) (if n.val = 0 then 128#32 else 0#32) := by decide +kernel

theorem before_word : ∀ (n : Fin 32) (j : Fin 256), 128 * n.val + j.val < 128 →
    IntOp.cmpi CmpIPredicate.sge (BitVec.ofNat 32 j.val) (if n.val = 0 then 128#32 else 0#32) = 0#1 := by decide +kernel

/-- A key before the first token is masked. -/
theorem okw_before (n : Fin 32) (r : Fin 128) (j : Fin 256) (h : 128 * n.val + j.val < 128) : okw n r j = 0#1 := by
  unfold okw
  rw [before_word n j h]
  exact BitVec.and_zero

/-- The token of key `j` of block `n`: the block before and the block itself. -/
def tk (n : Fin 32) (j : Fin 256) : Fin 4096 := ⟨if 128 * n.val + j.val < 128 then j.val else 128 * n.val + j.val - 128, by split <;> omega⟩

theorem tk_of (n : Fin 32) (j : Fin 256) (h : ¬ 128 * n.val + j.val < 128) : tk n j = (⟨128 * n.val + j.val - 128, by omega⟩ : Fin 4096) :=
  Fin.ext (if_neg h)

/-- A matrix read at two spellings of one index. -/
theorem at2 {N M : ℕ} (x : (⟨2, ![N, M]⟩ : Shape).Idx → EReal) (a a' b b' : ℕ) (ha : a < N) (ha' : a' < N) (hb : b < M) (hb' : b' < M)
    (e : a = a') (e' : b = b') : x (ix2 (⟨a, ha⟩ : Fin N) (⟨b, hb⟩ : Fin M)) = x (ix2 (⟨a', ha'⟩ : Fin N) (⟨b', hb'⟩ : Fin M)) := by
  subst e e'
  rfl

/-- The masked scores of query `r` of block `n` in head `h`. -/
def GS (x0 : S4096x768.Idx → EReal) (x2 : S8.Idx → EReal) (n : Fin 32) (r : Fin 128) (h : Fin 8) (j : Fin 256) : EReal :=
  Scalar.select (okw n r j)
    ((∑ l : Fin 64, x0 (ix2 (⟨128 * n.val + r.val, by omega⟩ : Fin 4096) (⟨64 * h.val + l.val, by omega⟩ : Fin 768))
        * x0 (ix2 (tk n j) (⟨512 + 64 * (h.val / 4) + l.val, by omega⟩ : Fin 768))) * Ideal.ofBits .f32 0x3E000000#32
      - x2 (ix1 h) * FloatOps.sitofp (F := Ideal) FTy.f32 (dw r j)) ⊥

/-- The result of query `r` of block `n` in head `h`, lane `l`. -/
def GO (x0 : S4096x768.Idx → EReal) (x1 : S4096x2304.Idx → EReal) (x2 x3 : S8.Idx → EReal) (n : Fin 32) (r : Fin 128) (h : Fin 8) (l : Fin 64) : EReal :=
  Cert.SwaReal.row (GS x0 x2 n r h) (x3 (ix1 h)) (fun j => x1 (ix2 (tk n j) (⟨640 + 64 * (h.val / 4) + l.val, by omega⟩ : Fin 2304)))

/-- The result over the whole array. -/
def G (x0 : S4096x768.Idx → EReal) (x1 : S4096x2304.Idx → EReal) (x2 x3 : S8.Idx → EReal) : S4096x512.Idx → EReal := fun i =>
  GO x0 x1 x2 x3 (⟨(i 0).val / 128, Nat.div_lt_of_lt_mul (i 0).isLt⟩ : Fin 32) (⟨(i 0).val % 128, Nat.mod_lt _ (by decide)⟩ : Fin 128)
    (⟨(i 1).val / 64, Nat.div_lt_of_lt_mul (i 1).isLt⟩ : Fin 8) (⟨(i 1).val % 64, Nat.mod_lt _ (by decide)⟩ : Fin 64)

/-- The largest score, as a fold over the keys. -/
theorem max_read (x : FVec Ideal S1x32x2x4x128x256 .f32) (z : FVec Ideal S_ .f32) (n : Fin 32) (κ : Fin 2) (e : Fin 4) (r : Fin 128) :
    Host.reduce (FloatOps.maximumf (F := Ideal) (φ := .f32)) x z reducesTo_S1x32x2x4x128x256_S1x32x2x4x128_d5 h_S_ (ix5 0 n κ e r)
      = Finset.fold (FloatOps.maximumf (F := Ideal) (φ := .f32)) (z (Shape.Idx.first h_S_)) (fun k : Fin 256 => x (ix6 0 n κ e r k)) Finset.univ := by
  rw [Host.reduce_eq_fold_single (FloatOps.maximumf (F := Ideal) (φ := .f32)) x z reducesTo_S1x32x2x4x128x256_S1x32x2x4x128_d5 (by decide) h_S_]
  refine congrArg (fun f => Finset.fold _ _ f Finset.univ) (funext fun k => ?_)
  exact congrArg x (funext fun a => Fin.ext (by match a with | ⟨0, _⟩ => rfl | ⟨1, _⟩ => rfl | ⟨2, _⟩ => rfl | ⟨3, _⟩ => rfl | ⟨4, _⟩ => rfl | ⟨5, _⟩ => rfl))

section
variable (x0 : FVec Ideal S4096x768 .f32) (x1 : FVec Ideal S4096x2304 .f32) (x2 x3 : FVec Ideal S8 .f32)

/-- The number of head `e` in group `κ`. -/
def hd (κ : Fin 2) (e : Fin 4) : Fin 8 := ⟨κ.val * 4 + e.val, by omega⟩

theorem query (n : Fin 32) (r : Fin 128) (κ : Fin 2) (e : Fin 4) (l : Fin 64) :
    val_main_v9 (F := Ideal) x0 (ix6 0 n r κ e l)
      = x0 (ix2 (⟨128 * n.val + r.val, by omega⟩ : Fin 4096) (⟨64 * (hd κ e).val + l.val, by omega⟩ : Fin 768)) := by
  pointwise [val_main_v9, val_main_v8, val_main_v1, val_main_v0]
  rw [dif_pos (by omega)]
  refine congrArg x0 (congrArg₂ ix2 (Fin.ext ?_) (Fin.ext ?_))
  · show n.val * 128 + r.val = 128 * n.val + r.val; omega
  · show κ.val * 256 + e.val * 64 + l.val = 64 * (κ.val * 4 + e.val) + l.val; omega

theorem keys (n : Fin 32) (j : Fin 256) (κ : Fin 2) (l : Fin 64) (h : ¬ 128 * n.val + j.val < 128) :
    val_main_v16 (F := Ideal) x0 (ix5 0 n j κ l) = x0 (ix2 (tk n j) (⟨512 + 64 * κ.val + l.val, by omega⟩ : Fin 768)) := by
  have hj := j.isLt
  have hn := n.isLt
  rw [tk_of n j h]
  pointwise [val_main_v16, val_main_v15, val_main_v14, val_main_v11, val_main_v10, val_main_v3, val_main_v2]
  split_ifs with h1 h2 h2 <;> first | (exfalso; omega) | skip
  all_goals
    exact at2 x0 _ _ _ _ _ _ _ _ (by omega) (by omega)

theorem values (n : Fin 32) (j : Fin 256) (κ : Fin 2) (l : Fin 64) (h : ¬ 128 * n.val + j.val < 128) :
    val_main_v19 (F := Ideal) x1 (ix5 0 n j κ l) = x1 (ix2 (tk n j) (⟨640 + 64 * κ.val + l.val, by omega⟩ : Fin 2304)) := by
  have hj := j.isLt
  have hn := n.isLt
  rw [tk_of n j h]
  pointwise [val_main_v19, val_main_v18, val_main_v17, val_main_v13, val_main_v12, val_main_v5, val_main_v4]
  split_ifs with h1 h2 h2 <;> first | (exfalso; omega) | skip
  all_goals
    exact at2 x1 _ _ _ _ _ _ _ _ (by omega) (by omega)

theorem masked (n : Fin 32) (r : Fin 128) (κ : Fin 2) (e : Fin 4) (j : Fin 256) :
    val_main_v69 (F := Ideal) x0 x2 (ix6 0 n κ e r j) = GS x0 x2 n r (hd κ e) j := by
  pointwise [val_main_v69, val_main_call3_v2, val_main_call3_v1, val_main_call3_v0, val_main_cst_9, val_main_v68, val_main_v67, val_main_v66, val_main_v65,
    val_main_v64, val_main_v63, val_main_v62, val_main_v61, val_main_v60, val_main_v59, val_main_v58, val_main_v57, val_main_v56, val_main_cst_8,
    val_main_v55, val_main_v54, val_main_v53, val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_cst, val_main_v21, val_main_v20, val_main_v6,
    val_main_c_2, val_main_c_3, val_main_c_4, val_main_c_5, val_main_c_6, val_main_c_7]
  rw [key_word]
  unfold GS
  have eb : (id (constant (F := Ideal) S_ FTy.f32 4286578688#32) ix0 : EReal) = ⊥ := ofBits_neg_inf
  by_cases hb : 128 * n.val + j.val < 128
  · have hw := okw_before n r j hb
    have hw' := hw
    unfold okw dw at hw'
    refine Eq.trans (congrArg (fun w => Scalar.select w _ _) hw') ?_
    rw [hw, select_zero, select_zero]
    exact eb
  · simp only [keys x0 n j κ _ hb, query]
    refine congr (congrArg₂ Scalar.select rfl ?_) eb
    have ek : (hd κ e).val / 4 = κ.val := by show (κ.val * 4 + e.val) / 4 = κ.val; omega
    simp only [ek]
    rw [EReal.neg_mul, ← sub_eq_add_neg]
    refine congrArg₂ (fun a b : EReal => a * _ - b) (Finset.sum_congr rfl fun l _ => mul_comm _ _) rfl

theorem top_apply (n : Fin 32) (κ : Fin 2) (e : Fin 4) (r : Fin 128) :
    val_main_v74 (F := Ideal) x0 x2 x3 (ix5 0 n κ e r) = Cert.SwaReal.top (GS x0 x2 n r (hd κ e)) (x3 (ix1 (hd κ e))) := by
  rw [val_main_v74_apply]
  unfold val_main_v70
  rw [max_read]
  simp only [masked, val_main_cst_10_apply]
  rw [show (FloatOps.ofBits (F := Ideal) FTy.f32 4286578688#32) = (⊥ : EReal) from ofBits_neg_inf]
  pointwise [val_main_v73, val_main_v72, val_main_v71, val_main_v7]
  rfl

theorem exp_apply (n : Fin 32) (κ : Fin 2) (e : Fin 4) (r : Fin 128) (j : Fin 256) :
    val_main_v78 (F := Ideal) x0 x2 x3 (ix6 0 n κ e r j) = Ideal.exp (GS x0 x2 n r (hd κ e) j - Cert.SwaReal.top (GS x0 x2 n r (hd κ e)) (x3 (ix1 (hd κ e)))) := by
  have h := top_apply x0 x2 x3 n κ e r
  have h' := masked x0 x2 n r κ e j
  pointwise [val_main_v78, val_main_v77, val_main_v76, val_main_v75]
  rw [h, h']

theorem den_apply (n : Fin 32) (κ : Fin 2) (e : Fin 4) (r : Fin 128) :
    val_main_v84 (F := Ideal) x0 x2 x3 (ix5 0 n κ e r) = Cert.SwaReal.den (GS x0 x2 n r (hd κ e)) (x3 (ix1 (hd κ e))) := by
  have h := top_apply x0 x2 x3 n κ e r
  have h' := exp_apply x0 x2 x3 n κ e r
  rw [val_main_v84_apply, val_main_v79_apply]
  pointwise [val_main_v83, val_main_v82, val_main_v81, val_main_v80, val_main_v71, val_main_v7, val_main_cst_11, Ideal.ofBits_zero_f32]
  rw [h]
  refine congrArg₂ (fun a b : EReal => a + b) (Finset.sum_congr rfl fun j _ => Eq.trans (congrArg _ ?_) (h' j)) rfl
  exact funext fun a => Fin.ext (by match a with | ⟨0, _⟩ => rfl | ⟨1, _⟩ => rfl | ⟨2, _⟩ => rfl | ⟨3, _⟩ => rfl | ⟨4, _⟩ => rfl | ⟨5, _⟩ => rfl)

theorem result_read (T : Fin 4096) (q : Fin 512) :
    val_main_v91 (F := Ideal) x0 x1 x2 x3 (ix2 T q) = ∑ j : Fin 256,
      val_main_v19 (F := Ideal) x1 (ix5 0 (⟨T.val / 128, by omega⟩ : Fin 32) j (⟨q.val / 256, by omega⟩ : Fin 2) (⟨q.val % 64, by omega⟩ : Fin 64)) *
        Ideal.div (val_main_v78 (F := Ideal) x0 x2 x3 (ix6 0 (⟨T.val / 128, by omega⟩ : Fin 32) (⟨q.val / 256, by omega⟩ : Fin 2) (⟨q.val / 64 % 4, by omega⟩ : Fin 4) (⟨T.val % 128, by omega⟩ : Fin 128) j))
          (val_main_v84 (F := Ideal) x0 x2 x3 (ix5 0 (⟨T.val / 128, by omega⟩ : Fin 32) (⟨q.val / 256, by omega⟩ : Fin 2) (⟨q.val / 64 % 4, by omega⟩ : Fin 4) (⟨T.val % 128, by omega⟩ : Fin 128))) := by
  pointwise [val_main_v91, val_main_v90, val_main_v89, val_main_v88, val_main_v87, val_main_v86, val_main_v85]

/-- The reference's result, with the keys before the first token still among the values. -/
theorem result_apply (T : Fin 4096) (q : Fin 512) (n : Fin 32) (r : Fin 128) (κ : Fin 2) (e : Fin 4) (l : Fin 64)
    (e1 : T.val / 128 = n.val) (e2 : T.val % 128 = r.val) (e3 : q.val / 256 = κ.val) (e4 : q.val / 64 % 4 = e.val) (e5 : q.val % 64 = l.val) :
    val_main_v91 (F := Ideal) x0 x1 x2 x3 (ix2 T q) = Cert.SwaReal.row (GS x0 x2 n r (hd κ e)) (x3 (ix1 (hd κ e)))
      (fun j => val_main_v19 (F := Ideal) x1 (ix5 0 n j κ l)) := by
  obtain rfl : (⟨T.val / 128, Nat.div_lt_of_lt_mul T.isLt⟩ : Fin 32) = n := Fin.ext e1
  obtain rfl : (⟨T.val % 128, Nat.mod_lt _ (by decide)⟩ : Fin 128) = r := Fin.ext e2
  obtain rfl : (⟨q.val / 256, Nat.div_lt_of_lt_mul q.isLt⟩ : Fin 2) = κ := Fin.ext e3
  obtain rfl : (⟨q.val / 64 % 4, Nat.mod_lt _ (by decide)⟩ : Fin 4) = e := Fin.ext e4
  obtain rfl : (⟨q.val % 64, Nat.mod_lt _ (by decide)⟩ : Fin 64) = l := Fin.ext e5
  rw [result_read]
  unfold Cert.SwaReal.row
  refine Finset.sum_congr rfl fun j _ => ?_
  rw [exp_apply, den_apply, mul_comm]

end

end Cert.SwaRefIdeal.RefValue

end
-- ==== Proof.SwaBody.lean ====
/-
  Hand-written, untrusted. The sliding-window attention, forwards: what the kernel's body leaves in its window, as its eight pieces.
-/
module

public import proofs.«01_k».proof.Proof.SwaPay
public import Idealize.ShloMosaic.Lib.Pipeline.ReadBack
public import proofs.«01_k».proof.Proof.Gen.SwaIdeal.Value

@[expose] public section

set_option maxRecDepth 16384

noncomputable section

namespace Cert.SwaIdeal.Body

open Idealize.ShloMosaic Idealize.SL.Sem Cert.SwaIdeal Cert.SwaIdeal.Gen Idealize.ShloMosaic.TcCoe Cert.SwaIdeal.Pay

/-- The 128 × 128 block of a matrix at row `a` and column `b`. -/
def sub {N M : ℕ} (a b : ℕ) (ha : a + 128 ≤ N) (hb : b + 128 ≤ M) (x : Vec Ideal ⟨2, ![N, M]⟩ .f32) : Vec Ideal ⟨2, ![128, 128]⟩ .f32 :=
  fun j => x (ix2 (⟨a + (j 0).val, Nat.lt_of_lt_of_le (Nat.add_lt_add_left (j 0).isLt a) ha⟩ : Fin N)
    (⟨b + (j 1).val, Nat.lt_of_lt_of_le (Nat.add_lt_add_left (j 1).isLt b) hb⟩ : Fin M))

theorem ld_sub {N M : ℕ} (a b : ℕ) (inb : ∀ d, (![a, b] : Fin 2 → ℕ) d + (![128, 128] : Fin 2 → ℕ) d ≤ (⟨2, ![N, M]⟩ : Shape).size d)
    (x : Vec Ideal ⟨2, ![N, M]⟩ .f32) : View.ld x (Rect.unit (s := ⟨2, ![N, M]⟩) ![a, b] ![128, 128] inb) = sub a b (inb 0) (inb 1) x := by
  funext j
  refine congrArg x (funext fun d => Fin.ext ?_)
  match d with
  | ⟨0, _⟩ => show a + 1 * (j 0).val = a + (j 0).val; omega
  | ⟨1, _⟩ => show b + 1 * (j 1).val = b + (j 1).val; omega

/-- A load of one element of the table of eight. -/
theorem ld_one (n : ℕ) (h : Fin 8) (hn : n = h.val) (inb : ∀ d, (![n] : Fin 1 → ℕ) d + (![1] : Fin 1 → ℕ) d ≤ S8.size d)
    (x : Vec Ideal S8 .f32) (hf : 0 < (Rect.unit (s := S8) ![n] ![1] inb).shape.numel) : View.ld x (Rect.unit (s := S8) ![n] ![1] inb) (Shape.Idx.first hf) = x (ix1 h) := by
  subst hn
  refine congrArg x (funext fun d => Fin.ext ?_)
  match d with
  | ⟨0, _⟩ => rfl

/-- The masks of the two blocks of queries. -/
def okOf (i : grid0.Coords) (u : Fin 2) : IVec S256x256 1 :=
  sel u (k0_pay8 i) (k0_pay13 (iota .tc S256x256 32 [1] iota_S256x256_d1_w32) k0_pay11 127#32 0#32 k0_pay12)

section
variable (i : grid0.Coords) (x0 x1 : Vec Ideal S8 .f32) (x2 : Vec Ideal S256x512 .f32) (x3 : Vec Ideal S256x128 .f32) (x4 : Vec Ideal S128x128 .f32)
  (x5 : Vec Ideal S256x128 .f32) (x6 : Vec Ideal S128x128 .f32)

/-- The number of a pair's head. -/
def hd (jp : Fin 4) (e : Fin 2) : Fin 8 := ⟨2 * jp.val + e.val, by omega⟩

/-- The block before block `u` of a pair of blocks. -/
def prev (u : Fin 2) (x : Vec Ideal S256x128 .f32) (y : Vec Ideal S128x128 .f32) : Vec Ideal S128x128 .f32 :=
  sel u (sub 0 0 (by decide) (by decide) y) (sub 0 0 (by decide) (by decide) x)

/-- One piece: a block of queries and a pair of heads. -/
def piece (u : Fin 2) (jp : Fin 4) : Vec Ideal S128x128 .f32 :=
  (if jp.val < 2 then pairA else pairB) (okOf i u) (sub (128 * u.val) (128 * jp.val) (by omega) (by omega) x2) (sub (128 * u.val) 0 (by omega) (by decide) x3) (prev u x3 x4)
    (sub (128 * u.val) 0 (by omega) (by decide) x5) (prev u x5 x6) (x0 (ix1 (hd jp 0))) (x0 (ix1 (hd jp 1))) (x1 (ix1 (hd jp 0))) (x1 (ix1 (hd jp 1)))
end

section
variable (ok : IVec S256x256 1) (q kc kp vc vp : Vec Ideal S128x128 .f32) (a b c d : Elt Ideal .f32)

theorem text13 : k0_pay1 k0_pay6 (k0_pay62 vc vp) (k0_pay102 k0_pay6 k0_pay9 k0_pay10 ok (k0_pay61 kc kp) q (FloatOps.ofBits FTy.f32 0#32) a b c d) =
    pairB ok q kc kp vc vp a b c d := by
  rfl

theorem text12 : k0_pay92 k0_pay6 (k0_pay62 vc vp) (k0_pay88 k0_pay6 k0_pay9 k0_pay10 ok (k0_pay61 kc kp) q a b c d) (k0_pay89 k0_pay6 k0_pay9 k0_pay10 ok (k0_pay61 kc kp) q a b c d) (k0_pay90 k0_pay6 k0_pay9 k0_pay10 ok (k0_pay61 kc kp) q a b c d) =
    pairB ok q kc kp vc vp a b c d := by
  rfl

theorem text11 : k0_pay80 k0_pay6 (k0_pay62 vc vp) (k0_pay75 k0_pay6 k0_pay9 k0_pay10 ok (k0_pay61 kc kp) q a b) (k0_pay76 k0_pay9 c d) (k0_pay77 k0_pay6 k0_pay9 k0_pay10 ok (k0_pay61 kc kp) q a b c d) =
    pairA ok q kc kp vc vp a b c d := by
  rfl

theorem text10 : k0_pay69 k0_pay6 k0_pay9 (k0_pay62 vc vp) (k0_pay63 k0_pay6 k0_pay9 k0_pay10 ok kc kp q a b) (k0_pay64 k0_pay6 k0_pay9 k0_pay10 ok kc kp q a b) c d =
    pairA ok q kc kp vc vp a b c d := by
  rfl

theorem text03 : k0_pay56 k0_pay6 (k0_pay15 vc vp) (k0_pay51 k0_pay9 c d) (k0_pay52 k0_pay6 ok k0_pay9 k0_pay10 (k0_pay14 kc kp) q a b c d) (k0_pay53 k0_pay6 ok k0_pay9 k0_pay10 (k0_pay14 kc kp) q a b c d) =
    pairB ok q kc kp vc vp a b c d := by
  rfl

theorem text02 : k0_pay44 k0_pay6 k0_pay9 (k0_pay15 vc vp) (k0_pay38 k0_pay6 ok k0_pay9 k0_pay10 (k0_pay14 kc kp) q a b) (k0_pay39 k0_pay6 ok k0_pay9 k0_pay10 (k0_pay14 kc kp) q a b) c d =
    pairB ok q kc kp vc vp a b c d := by
  rfl

theorem text01 : k0_pay33 k0_pay6 k0_pay9 (k0_pay15 vc vp) (k0_pay28 k0_pay6 ok k0_pay9 k0_pay10 (k0_pay14 kc kp) q a b) c d =
    pairA ok q kc kp vc vp a b c d := by
  rfl

theorem text00 : k0_pay23 k0_pay6 ok k0_pay9 k0_pay10 (k0_pay15 vc vp) (k0_pay16 k0_pay9 a b) (k0_pay17 k0_pay6 kc kp q) c d =
    pairA ok q kc kp vc vp a b c d := by
  rfl

end

theorem word_even : ∀ jp : Fin 4, BitVec.toNat (Scalar.indexCast (Scalar.muli 2#32 (Scalar.addi (Scalar.muli (BitVec.ofNat 32 0) 4#32) (BitVec.ofNat 32 jp.val)))) = (hd jp 0).val := by decide
theorem word_odd : ∀ jp : Fin 4, BitVec.toNat (Scalar.indexCast (Scalar.addi (Scalar.muli 2#32 (Scalar.addi (Scalar.muli (BitVec.ofNat 32 0) 4#32) (BitVec.ofNat 32 jp.val))) 1#32)) = (hd jp 1).val := by decide

theorem pair_congr {α : Type} (f : IVec S256x256 1 → Vec Ideal S128x128 .f32 → Vec Ideal S128x128 .f32 → Vec Ideal S128x128 .f32 → Vec Ideal S128x128 .f32 → Vec Ideal S128x128 .f32 →
      Elt Ideal .f32 → Elt Ideal .f32 → Elt Ideal .f32 → Elt Ideal .f32 → α) {ok : IVec S256x256 1} {q kc kp vc vp : Vec Ideal S128x128 .f32} {a b c d a' b' c' d' : Elt Ideal .f32}
    (ha : a = a') (hb : b = b') (hc : c = c') (hd : d = d') : f ok q kc kp vc vp a b c d = f ok q kc kp vc vp a' b' c' d' := by
  rw [ha, hb, hc, hd]

/-- Eight blocks, two by four. -/
def tile (f : Fin 2 → Fin 4 → Vec Ideal S128x128 .f32) : Vec Ideal S256x512 .f32 :=
  fun y => f (⟨(y 0).val / 128, Nat.div_lt_of_lt_mul (y 0).isLt⟩ : Fin 2) (⟨(y 1).val / 128, Nat.div_lt_of_lt_mul (y 1).isLt⟩ : Fin 4)
    (ix2 (⟨(y 0).val % 128, Nat.mod_lt _ (by decide)⟩ : Fin 128) (⟨(y 1).val % 128, Nat.mod_lt _ (by decide)⟩ : Fin 128))

theorem tile_emb (f : Fin 2 → Fin 4 → Vec Ideal S128x128 .f32) (u : Fin 2) (jp : Fin 4) (a b : ℕ) (ha : a = 128 * u.val) (hb : b = 128 * jp.val)
    (inb : ∀ d, (![a, b] : Fin 2 → ℕ) d + (![128, 128] : Fin 2 → ℕ) d ≤ S256x512.size d)
    (x : S128x128.Idx) : f u jp x = tile f ((Rect.unit (s := S256x512) ![a, b] ![128, 128] inb).emb x) := by
  subst ha hb
  have h0 : (x 0).val < 128 := (x 0).isLt
  have h1 : (x 1).val < 128 := (x 1).isLt
  unfold tile
  refine congr (congrArg₂ f (Fin.ext ?_) (Fin.ext ?_)) (funext fun d => Fin.ext ?_)
  · show u.val = (128 * u.val + 1 * (x 0).val) / 128; omega
  · show jp.val = (128 * jp.val + 1 * (x 1).val) / 128; omega
  · match d with
    | ⟨0, _⟩ => show (x 0).val = (128 * u.val + 1 * (x 0).val) % 128; omega
    | ⟨1, _⟩ => show (x 1).val = (128 * jp.val + 1 * (x 1).val) % 128; omega

theorem mem_tile (y : S256x512.Idx) (a b : ℕ) (inb : ∀ d, (![a, b] : Fin 2 → ℕ) d + (![128, 128] : Fin 2 → ℕ) d ≤ S256x512.size d)
    (h : (a ≤ (y 0).val ∧ (y 0).val < a + 128) ∧ (b ≤ (y 1).val ∧ (y 1).val < b + 128)) : y ∈ (Rect.unit (s := S256x512) ![a, b] ![128, 128] inb).set := by
  rw [Rect.mem_set_unit]
  intro d
  match d with
  | ⟨0, _⟩ => exact h.1
  | ⟨1, _⟩ => exact h.2

/-- Eight stores leave the eight blocks. -/
theorem canon_tile (f : Fin 2 → Fin 4 → Vec Ideal S128x128 .f32) (p13 p12 p11 p10 p03 p02 p01 p00 : Vec Ideal S128x128 .f32)
    (h13 : p13 = f 1 3) (h12 : p12 = f 1 2) (h11 : p11 = f 1 1) (h10 : p10 = f 1 0) (h03 : p03 = f 0 3) (h02 : p02 = f 0 2) (h01 : p01 = f 0 1) (h00 : p00 = f 0 0) :
    View.canon (Val := Elt Ideal) (s := S256x512) (e := .f32) [
      ⟨Rect.unit ![128, 384] ![128, 128] inb_S256x512_S128x128_128_384, p13⟩,
      ⟨Rect.unit ![128, 256] ![128, 128] inb_S256x512_S128x128_128_256, p12⟩,
      ⟨Rect.unit ![128, 128] ![128, 128] inb_S256x512_S128x128_128_128, p11⟩,
      ⟨Rect.unit ![128, 0] ![128, 128] inb_S256x512_S128x128_128_0, p10⟩,
      ⟨Rect.unit ![0, 384] ![128, 128] inb_S256x512_S128x128_0_384, p03⟩,
      ⟨Rect.unit ![0, 256] ![128, 128] inb_S256x512_S128x128_0_256, p02⟩,
      ⟨Rect.unit ![0, 128] ![128, 128] inb_S256x512_S128x128_0_128, p01⟩,
      ⟨Rect.unit ![0, 0] ![128, 128] inb_S256x512_S128x128_0_0, p00⟩] = tile f := by
  subst h13 h12 h11 h10 h03 h02 h01 h00
  funext y
  have h0 : (y 0).val < 256 := (y 0).isLt
  have h1 : (y 1).val < 512 := (y 1).isLt
  refine View.canon_append_of_piecesOf (tile f) [] [_, _, _, _, _, _, _, _] ⟨tile_emb f 1 3 128 384 rfl rfl inb_S256x512_S128x128_128_384, tile_emb f 1 2 128 256 rfl rfl inb_S256x512_S128x128_128_256, tile_emb f 1 1 128 128 rfl rfl inb_S256x512_S128x128_128_128, tile_emb f 1 0 128 0 rfl rfl inb_S256x512_S128x128_128_0, tile_emb f 0 3 0 384 rfl rfl inb_S256x512_S128x128_0_384, tile_emb f 0 2 0 256 rfl rfl inb_S256x512_S128x128_0_256, tile_emb f 0 1 0 128 rfl rfl inb_S256x512_S128x128_0_128, tile_emb f 0 0 0 0 rfl rfl inb_S256x512_S128x128_0_0, trivial⟩ y ?_
  by_cases c0 : 128 ≤ (y 0).val
  · by_cases c3 : 384 ≤ (y 1).val
    · exact ⟨_, .head _, mem_tile y _ _ (by decide) ⟨⟨by omega, by omega⟩, ⟨by omega, by omega⟩⟩⟩
    by_cases c2 : 256 ≤ (y 1).val
    · exact ⟨_, .tail _ (.head _), mem_tile y _ _ (by decide) ⟨⟨by omega, by omega⟩, ⟨by omega, by omega⟩⟩⟩
    by_cases c1 : 128 ≤ (y 1).val
    · exact ⟨_, .tail _ (.tail _ (.head _)), mem_tile y _ _ (by decide) ⟨⟨by omega, by omega⟩, ⟨by omega, by omega⟩⟩⟩
    · exact ⟨_, .tail _ (.tail _ (.tail _ (.head _))), mem_tile y _ _ (by decide) ⟨⟨by omega, by omega⟩, ⟨by omega, by omega⟩⟩⟩
  · by_cases c3 : 384 ≤ (y 1).val
    · exact ⟨_, .tail _ (.tail _ (.tail _ (.tail _ (.head _)))), mem_tile y _ _ (by decide) ⟨⟨by omega, by omega⟩, ⟨by omega, by omega⟩⟩⟩
    by_cases c2 : 256 ≤ (y 1).val
    · exact ⟨_, .tail _ (.tail _ (.tail _ (.tail _ (.tail _ (.head _))))), mem_tile y _ _ (by decide) ⟨⟨by omega, by omega⟩, ⟨by omega, by omega⟩⟩⟩
    by_cases c1 : 128 ≤ (y 1).val
    · exact ⟨_, .tail _ (.tail _ (.tail _ (.tail _ (.tail _ (.tail _ (.head _)))))), mem_tile y _ _ (by decide) ⟨⟨by omega, by omega⟩, ⟨by omega, by omega⟩⟩⟩
    · exact ⟨_, .tail _ (.tail _ (.tail _ (.tail _ (.tail _ (.tail _ (.tail _ (.head _))))))), mem_tile y _ _ (by decide) ⟨⟨by omega, by omega⟩, ⟨by omega, by omega⟩⟩⟩

theorem body_eq (c : Dev nD) (i : grid0.Coords) (arg2 : Memref sig .tc .smem S8 .f32) (harg2 : arg2.IsWhole) (arg3 : Memref sig .tc .smem S8 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S128x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S4x256x1 .f32) (harg11 : arg11.IsWhole) (arg12 : Memref sig .tc .vmem S4x256x1 .f32) (harg12 : arg12.IsWhole)
    (x0 : Vec Ideal S8 .f32) (x1 : Vec Ideal S8 .f32) (x2 : Vec Ideal S256x512 .f32) (x3 : Vec Ideal S256x128 .f32) (x4 : Vec Ideal S128x128 .f32) (x5 : Vec Ideal S256x128 .f32) (x6 : Vec Ideal S128x128 .f32) :
    out0_A_7 (F := Ideal) c i arg2 harg2 arg3 harg3 arg4 harg4 arg5 harg5 arg6 harg6 arg7 harg7 arg8 harg8 arg9 harg9 arg10 harg10 arg11 harg11 arg12 harg12 x0 x1 x2 x3 x4 x5 x6 = tile (piece i x0 x1 x2 x3 x4 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_words
  have hi : (@Fin.val ((![1, 16] : Fin 2 → ℕ) (0 : Fin grid0.rank)) (i (0 : Fin grid0.rank))) = 0 := by have h : (i 0).val < 1 := (i 0).isLt; omega
  have hg : Scalar.select (Scalar.cmpi CmpIPredicate.sge (BitVec.ofNat 32 (@Fin.val ((![1, 16] : Fin 2 → ℕ) (1 : Fin grid0.rank)) (i (1 : Fin grid0.rank)))) 0#32) 127#32 4294967295#32 = 127#32 := coord_ge (i 1)
  have hz : Scalar.select (Scalar.cmpi CmpIPredicate.sge (BitVec.ofNat 32 (@Fin.val ((![1, 16] : Fin 2 → ℕ) (1 : Fin grid0.rank)) (i (1 : Fin grid0.rank)))) 0#32) 0#32 128#32 = 0#32 := coord_ge' (i 1)
  have ev : ∀ jp : Fin 4, BitVec.toNat (Scalar.indexCast (Scalar.muli 2#32 (Scalar.addi (Scalar.muli (BitVec.ofNat 32 (@Fin.val ((![1, 16] : Fin 2 → ℕ) (0 : Fin grid0.rank)) (i (0 : Fin grid0.rank)))) 4#32) (BitVec.ofNat 32 jp.val)))) = (hd jp 0).val := by
    rw [hi]; exact word_even
  have od : ∀ jp : Fin 4, BitVec.toNat (Scalar.indexCast (Scalar.addi (Scalar.muli 2#32 (Scalar.addi (Scalar.muli (BitVec.ofNat 32 (@Fin.val ((![1, 16] : Fin 2 → ℕ) (0 : Fin grid0.rank)) (i (0 : Fin grid0.rank)))) 4#32) (BitVec.ofNat 32 jp.val))) 1#32)) = (hd jp 1).val := by
    rw [hi]; exact word_odd
  simp only [View.readAt_eq_ld, harg2.read_unread, harg3.read_unread, harg4.read_unread, harg5.read_unread, harg6.read_unread, harg7.read_unread, harg8.read_unread,
    hg, hz]
  have d2 : ∀ (a b : ℕ) (x : Vec Ideal S256x512 .f32) inb, View.ld x (Rect.unit (s := S256x512) ![a, b] ![128, 128] inb) = sub a b (inb 0) (inb 1) x := fun a b x inb => ld_sub a b inb x
  have d3 : ∀ (a b : ℕ) (x : Vec Ideal S256x128 .f32) inb, View.ld x (Rect.unit (s := S256x128) ![a, b] ![128, 128] inb) = sub a b (inb 0) (inb 1) x := fun a b x inb => ld_sub a b inb x
  have d4 : ∀ (a b : ℕ) (x : Vec Ideal S128x128 .f32) inb, View.ld x (Rect.unit (s := S128x128) ![a, b] ![128, 128] inb) = sub a b (inb 0) (inb 1) x := fun a b x inb => ld_sub a b inb x
  simp only [d2, d3, d4]
  refine canon_tile (piece i x0 x1 x2 x3 x4 x5 x6) _ _ _ _ _ _ _ _ ?_ ?_ ?_ ?_ ?_ ?_ ?_ ?_
  · exact (text13 _ _ _ _ _ _ _ _ _ _).trans (pair_congr pairB (ld_one _ _ (ev 3) _ x0 _) (ld_one _ _ (od 3) _ x0 _) (ld_one _ _ (ev 3) _ x1 _) (ld_one _ _ (od 3) _ x1 _))
  · exact (text12 _ _ _ _ _ _ _ _ _ _).trans (pair_congr pairB (ld_one _ _ (ev 2) _ x0 _) (ld_one _ _ (od 2) _ x0 _) (ld_one _ _ (ev 2) _ x1 _) (ld_one _ _ (od 2) _ x1 _))
  · exact (text11 _ _ _ _ _ _ _ _ _ _).trans (pair_congr pairA (ld_one _ _ (ev 1) _ x0 _) (ld_one _ _ (od 1) _ x0 _) (ld_one _ _ (ev 1) _ x1 _) (ld_one _ _ (od 1) _ x1 _))
  · exact (text10 _ _ _ _ _ _ _ _ _ _).trans (pair_congr pairA (ld_one _ _ (ev 0) _ x0 _) (ld_one _ _ (od 0) _ x0 _) (ld_one _ _ (ev 0) _ x1 _) (ld_one _ _ (od 0) _ x1 _))
  · exact (text03 _ _ _ _ _ _ _ _ _ _).trans (pair_congr pairB (ld_one _ _ (ev 3) _ x0 _) (ld_one _ _ (od 3) _ x0 _) (ld_one _ _ (ev 3) _ x1 _) (ld_one _ _ (od 3) _ x1 _))
  · exact (text02 _ _ _ _ _ _ _ _ _ _).trans (pair_congr pairB (ld_one _ _ (ev 2) _ x0 _) (ld_one _ _ (od 2) _ x0 _) (ld_one _ _ (ev 2) _ x1 _) (ld_one _ _ (od 2) _ x1 _))
  · exact (text01 _ _ _ _ _ _ _ _ _ _).trans (pair_congr pairA (ld_one _ _ (ev 1) _ x0 _) (ld_one _ _ (od 1) _ x0 _) (ld_one _ _ (ev 1) _ x1 _) (ld_one _ _ (od 1) _ x1 _))
  · exact (text00 _ _ _ _ _ _ _ _ _ _).trans (pair_congr pairA (ld_one _ _ (ev 0) _ x0 _) (ld_one _ _ (od 0) _ x0 _) (ld_one _ _ (ev 0) _ x1 _) (ld_one _ _ (od 0) _ x1 _))

end Cert.SwaIdeal.Body

end
-- ==== Proof.SwaClaim.lean ====
/-
  Hand-written, untrusted. The sliding-window attention with sinks, forwards: the kernel's windows, what its grid leaves in the result,
  the reference's frame, and the claim that the two agree.
-/
module

public import proofs.«01_k».proof.Defs
public import proofs.«01_k».proof.Proof.SwaRef
public import proofs.«01_k».proof.Proof.SwaBody
public import proofs.«01_k».proof.Proof.Gen.SwaRefIdeal.Run
public import proofs.«01_k».proof.Proof.Gen.Pre_finite_swa
public import Idealize.ShloMosaic.Lib.Quiescent
public import Idealize.ShloMosaic.Lib.Pointwise.Index

@[expose] public section

set_option maxRecDepth 16384

noncomputable section

namespace Cert.SwaIdeal.Closed

open Idealize.ShloMosaic Idealize.SL.Sem Cert.SwaIdeal Cert.SwaIdeal.Gen Idealize.ShloMosaic.TcCoe Cert.SwaIdeal.Value Cert.SwaIdeal.Pay Cert.SwaIdeal.Body
open Cert.SwaRefIdeal.RefValue (tk GS GO G at2)

/-- Where each window's block stands at a point. -/
theorem idxs : ∀ t : Fin cfg0.N, win0_0.index t (0 : Fin 1) = 0
    ∧ win0_1.index t (0 : Fin 1) = 0
    ∧ win0_2.index t (0 : Fin 2) = t.val
    ∧ win0_2.index t (1 : Fin 2) = 0
    ∧ win0_3.index t (0 : Fin 2) = t.val
    ∧ win0_3.index t (1 : Fin 2) = 4
    ∧ win0_4.index t (0 : Fin 2) = 2 * t.val - 1
    ∧ win0_4.index t (1 : Fin 2) = 4
    ∧ win0_5.index t (0 : Fin 2) = t.val
    ∧ win0_5.index t (1 : Fin 2) = 5
    ∧ win0_6.index t (0 : Fin 2) = 2 * t.val - 1
    ∧ win0_6.index t (1 : Fin 2) = 5
    ∧ win0_7.index t (0 : Fin 2) = t.val
    ∧ win0_7.index t (1 : Fin 2) = 0
    ∧ ((grid0.coords t) 1).val = t.val :=
  (by decide +kernel : ∀ t : Fin grid0.N, win0_0.index t (0 : Fin 1) = 0
    ∧ win0_1.index t (0 : Fin 1) = 0
    ∧ win0_2.index t (0 : Fin 2) = t.val
    ∧ win0_2.index t (1 : Fin 2) = 0
    ∧ win0_3.index t (0 : Fin 2) = t.val
    ∧ win0_3.index t (1 : Fin 2) = 4
    ∧ win0_4.index t (0 : Fin 2) = 2 * t.val - 1
    ∧ win0_4.index t (1 : Fin 2) = 4
    ∧ win0_5.index t (0 : Fin 2) = t.val
    ∧ win0_5.index t (1 : Fin 2) = 5
    ∧ win0_6.index t (0 : Fin 2) = 2 * t.val - 1
    ∧ win0_6.index t (1 : Fin 2) = 5
    ∧ win0_7.index t (0 : Fin 2) = t.val
    ∧ win0_7.index t (1 : Fin 2) = 0
    ∧ ((grid0.coords t) 1).val = t.val)

variable (m : (ℓ : Loc nD τ sig) → Buf (Elt Ideal) ℓ) (c : Dev nD)

/-- The slopes, whole at every point. -/
theorem blk0 (t : Fin cfg0.N) (h : Fin 8) : iblk m c 0 t (ix1 h) = m ((c : Thread nD τ).loc main_arg2) (ix1 h) := by
  unfold iblk
  rw [View.read_apply]
  show V m c main_arg2 _ = _
  rw [V_main_arg2]
  obtain ⟨i00, i10, i20, i21, i30, i31, i40, i41, i50, i51, i60, i61, i70, i71, ic⟩ := idxs t
  refine congrArg _ (funext fun a => Fin.ext ?_)
  match a with
  | ⟨0, _⟩ => show win0_0.index t (0 : Fin 1) * 8 + 1 * h.val = h.val; rw [i00]; omega

/-- The sinks, whole at every point. -/
theorem blk1 (t : Fin cfg0.N) (h : Fin 8) : iblk m c 1 t (ix1 h) = m ((c : Thread nD τ).loc main_arg3) (ix1 h) := by
  unfold iblk
  rw [View.read_apply]
  show V m c main_arg3 _ = _
  rw [V_main_arg3]
  obtain ⟨i00, i10, i20, i21, i30, i31, i40, i41, i50, i51, i60, i61, i70, i71, ic⟩ := idxs t
  refine congrArg _ (funext fun a => Fin.ext ?_)
  match a with
  | ⟨0, _⟩ => show win0_1.index t (0 : Fin 1) * 8 + 1 * h.val = h.val; rw [i10]; omega

/-- The queries' block: two blocks of 128 tokens, all heads. -/
theorem blk2 (t : Fin cfg0.N) (a : Fin 256) (b : Fin 512) (T : Fin 4096) (n : Fin 768) (hT : T.val = 256 * t.val + a.val) (hn : n.val = b.val) :
    X0_2 m c t (ix2 a b) = m ((c : Thread nD τ).loc main_arg0) (ix2 T n) := by
  unfold X0_2 Pipeline.Window.fill
  rw [dif_pos (moved0_2 t _)]
  unfold iblk
  rw [View.read_apply]
  show V m c main_arg0 _ = _
  rw [V_main_arg0]
  obtain ⟨i00, i10, i20, i21, i30, i31, i40, i41, i50, i51, i60, i61, i70, i71, ic⟩ := idxs t
  refine congrArg _ (funext fun d => Fin.ext ?_)
  match d with
  | ⟨0, _⟩ => show win0_2.index t (0 : Fin 2) * 256 + 1 * a.val = T.val; rw [i20]; omega
  | ⟨1, _⟩ => show win0_2.index t (1 : Fin 2) * 512 + 1 * b.val = n.val; rw [i21]; omega

/-- The keys of the two blocks. -/
theorem blk3 (t : Fin cfg0.N) (a : Fin 256) (b : Fin 128) (T : Fin 4096) (n : Fin 768) (hT : T.val = 256 * t.val + a.val) (hn : n.val = 512 + b.val) :
    iblk m c 3 t (ix2 a b) = m ((c : Thread nD τ).loc main_arg0) (ix2 T n) := by
  unfold iblk
  rw [View.read_apply]
  show V m c main_arg0 _ = _
  rw [V_main_arg0]
  obtain ⟨i00, i10, i20, i21, i30, i31, i40, i41, i50, i51, i60, i61, i70, i71, ic⟩ := idxs t
  refine congrArg _ (funext fun d => Fin.ext ?_)
  match d with
  | ⟨0, _⟩ => show win0_3.index t (0 : Fin 2) * 256 + 1 * a.val = T.val; rw [i30]; omega
  | ⟨1, _⟩ => show win0_3.index t (1 : Fin 2) * 128 + 1 * b.val = n.val; rw [i31]; omega

/-- The keys of the block before them; at the first point the first block stands there. -/
theorem blk4 (t : Fin cfg0.N) (a : Fin 128) (b : Fin 128) (T : Fin 4096) (n : Fin 768) (hT : T.val = 128 * (2 * t.val - 1) + a.val) (hn : n.val = 512 + b.val) :
    iblk m c 4 t (ix2 a b) = m ((c : Thread nD τ).loc main_arg0) (ix2 T n) := by
  unfold iblk
  rw [View.read_apply]
  show V m c main_arg0 _ = _
  rw [V_main_arg0]
  obtain ⟨i00, i10, i20, i21, i30, i31, i40, i41, i50, i51, i60, i61, i70, i71, ic⟩ := idxs t
  refine congrArg _ (funext fun d => Fin.ext ?_)
  match d with
  | ⟨0, _⟩ => show win0_4.index t (0 : Fin 2) * 128 + 1 * a.val = T.val; rw [i40]; omega
  | ⟨1, _⟩ => show win0_4.index t (1 : Fin 2) * 128 + 1 * b.val = n.val; rw [i41]; omega

/-- The values of the two blocks. -/
theorem blk5 (t : Fin cfg0.N) (a : Fin 256) (b : Fin 128) (T : Fin 4096) (n : Fin 2304) (hT : T.val = 256 * t.val + a.val) (hn : n.val = 640 + b.val) :
    iblk m c 5 t (ix2 a b) = m ((c : Thread nD τ).loc main_arg1) (ix2 T n) := by
  unfold iblk
  rw [View.read_apply]
  show V m c main_arg1 _ = _
  rw [V_main_arg1]
  obtain ⟨i00, i10, i20, i21, i30, i31, i40, i41, i50, i51, i60, i61, i70, i71, ic⟩ := idxs t
  refine congrArg _ (funext fun d => Fin.ext ?_)
  match d with
  | ⟨0, _⟩ => show win0_5.index t (0 : Fin 2) * 256 + 1 * a.val = T.val; rw [i50]; omega
  | ⟨1, _⟩ => show win0_5.index t (1 : Fin 2) * 128 + 1 * b.val = n.val; rw [i51]; omega

/-- The values of the block before them; at the first point the first block stands there. -/
theorem blk6 (t : Fin cfg0.N) (a : Fin 128) (b : Fin 128) (T : Fin 4096) (n : Fin 2304) (hT : T.val = 128 * (2 * t.val - 1) + a.val) (hn : n.val = 640 + b.val) :
    iblk m c 6 t (ix2 a b) = m ((c : Thread nD τ).loc main_arg1) (ix2 T n) := by
  unfold iblk
  rw [View.read_apply]
  show V m c main_arg1 _ = _
  rw [V_main_arg1]
  obtain ⟨i00, i10, i20, i21, i30, i31, i40, i41, i50, i51, i60, i61, i70, i71, ic⟩ := idxs t
  refine congrArg _ (funext fun d => Fin.ext ?_)
  match d with
  | ⟨0, _⟩ => show win0_6.index t (0 : Fin 2) * 128 + 1 * a.val = T.val; rw [i60]; omega
  | ⟨1, _⟩ => show win0_6.index t (1 : Fin 2) * 128 + 1 * b.val = n.val; rw [i61]; omega

/-- The keys (or values) that block `u` sees: the block before it and itself. -/
theorem two_apply (t : ℕ) (ht : t < 16) (u : Fin 2) (X : Fin 4096 → Fin 128 → EReal) (x : Vec Ideal S256x128 .f32) (y : Vec Ideal S128x128 .f32)
    (hx : ∀ (a : Fin 256) (b : Fin 128) (T : Fin 4096) (z : Fin 128), T.val = 256 * t + a.val → z.val = b.val → x (ix2 a b) = X T z)
    (hy : ∀ (a : Fin 128) (b : Fin 128) (T : Fin 4096) (z : Fin 128), T.val = 128 * (2 * t - 1) + a.val → z.val = b.val → y (ix2 a b) = X T z)
    (ha : 128 * u.val + 128 ≤ 256) (hb : 0 + 128 ≤ 128) (n : Fin 32) (hn : n.val = 2 * t + u.val) (j : Fin 256) (b : Fin 128) :
    two (sub (128 * u.val) 0 ha hb x) (prev u x y) j b = X (tk n j) b := by
  have hj := j.isLt
  have tv : (tk n j).val = if 128 * n.val + j.val < 128 then j.val else 128 * n.val + j.val - 128 := rfl
  unfold two prev
  match u, ha, hn with
  | ⟨0, _⟩, ha, hn =>
    by_cases h : j.val < 128
    · rw [dif_pos h]
      show y (ix2 (⟨0 + j.val, _⟩ : Fin 128) (⟨0 + b.val, _⟩ : Fin 128)) = _
      refine hy _ _ _ _ ?_ (Nat.zero_add _).symm
      rw [tv]
      dsimp only at hn ⊢
      split_ifs <;> omega
    · rw [dif_neg h]
      show x (ix2 (⟨128 * 0 + (j.val - 128), _⟩ : Fin 256) (⟨0 + b.val, _⟩ : Fin 128)) = _
      refine hx _ _ _ _ ?_ (Nat.zero_add _).symm
      rw [tv]
      dsimp only at hn ⊢
      split_ifs <;> omega
  | ⟨1, _⟩, ha, hn =>
    by_cases h : j.val < 128
    · rw [dif_pos h]
      show x (ix2 (⟨0 + j.val, _⟩ : Fin 256) (⟨0 + b.val, _⟩ : Fin 128)) = _
      refine hx _ _ _ _ ?_ (Nat.zero_add _).symm
      rw [tv]
      dsimp only at hn ⊢
      split_ifs <;> omega
    · rw [dif_neg h]
      show x (ix2 (⟨128 * 1 + (j.val - 128), _⟩ : Fin 256) (⟨0 + b.val, _⟩ : Fin 128)) = _
      refine hx _ _ _ _ ?_ (Nat.zero_add _).symm
      rw [tv]
      dsimp only at hn ⊢
      split_ifs <;> omega

/-- The mask's word of either block. -/
theorem ok_apply (i : grid0.Coords) (u e : Fin 2) (r : Fin 128) (j : Fin 256) (n : Fin 32) (hn : n.val = 2 * (i 1).val + u.val) :
    okOf i u (ix2 (rw2 e r) j) = okw n r j := by
  unfold okOf
  match u, hn with
  | ⟨0, _⟩, hn => exact (ok_first i e r j).trans (congrArg (fun n => okw n r j) (Fin.ext hn.symm))
  | ⟨1, _⟩, hn => exact (ok_second (i 1) e r j).trans (congrArg (fun n => okw n r j) (Fin.ext hn.symm))

/-- Either kind of pair, read at a head and a lane. -/
theorem pair_apply (jp : Fin 4) (ok : IVec S256x256 1) (q kc kp vc vp : Vec Ideal S128x128 .f32) (a b sa sb : Elt Ideal .f32) (κ e : Fin 2) (hκ : κ.val = jp.val / 2)
    (r : Fin 128) (l : Fin 64) :
    (if jp.val < 2 then pairA else pairB) ok q kc kp vc vp a b sa sb (ix2 r (half e l)) =
      ∑ j, Ideal.exp (Pay.S ok q kc kp (sel e a b) κ e r j - Cert.SwaReal.top (Pay.S ok q kc kp (sel e a b) κ e r) (sel e sa sb)) *
        Ideal.div 1 (Cert.SwaReal.den (Pay.S ok q kc kp (sel e a b) κ e r) (sel e sa sb)) * two vc vp j (half κ l) := by
  by_cases h : jp.val < 2
  · obtain rfl : κ = 0 := Fin.ext (by show κ.val = 0; omega)
    rw [if_pos h]
    exact pairA_apply ok q kc kp vc vp a b sa sb e r l
  · obtain rfl : κ = 1 := Fin.ext (by show κ.val = 1; have := jp.isLt; omega)
    rw [if_neg h]
    exact pairB_apply ok q kc kp vc vp a b sa sb e r l

theorem sel_hd (x : Vec Ideal S8 .f32) (jp : Fin 4) (e : Fin 2) : sel e (x (ix1 (hd jp 0))) (x (ix1 (hd jp 1))) = x (ix1 (hd jp e)) := by
  match e with
  | ⟨0, _⟩ => rfl
  | ⟨1, _⟩ => rfl

/-- What a point leaves at a query row and column, over the arguments. -/
theorem body_at (t : Fin cfg0.N) (a : Fin 256) (b : Fin 512) (u : Fin 2) (r : Fin 128) (jp : Fin 4) (e : Fin 2) (l : Fin 64) (n : Fin 32)
    (hu : a.val / 128 = u.val) (hr : a.val % 128 = r.val) (hjp : b.val / 128 = jp.val) (hel : b.val % 128 = 64 * e.val + l.val) (hn : n.val = 2 * t.val + u.val) :
    tile (Body.piece (grid0.coords t) (iblk m c 0 t) (iblk m c 1 t) (X0_2 m c t) (iblk m c 3 t) (iblk m c 4 t) (iblk m c 5 t) (iblk m c 6 t)) (ix2 a b) =
      ∑ j, Ideal.exp (GS (m ((c : Thread nD τ).loc main_arg0)) (m ((c : Thread nD τ).loc main_arg2)) n r (hd jp e) j
            - Cert.SwaReal.top (GS (m ((c : Thread nD τ).loc main_arg0)) (m ((c : Thread nD τ).loc main_arg2)) n r (hd jp e)) ((m ((c : Thread nD τ).loc main_arg3) : S8.Idx → EReal) (ix1 (hd jp e)))) *
        Ideal.div 1 (Cert.SwaReal.den (GS (m ((c : Thread nD τ).loc main_arg0)) (m ((c : Thread nD τ).loc main_arg2)) n r (hd jp e)) ((m ((c : Thread nD τ).loc main_arg3) : S8.Idx → EReal) (ix1 (hd jp e)))) *
        (m ((c : Thread nD τ).loc main_arg1) : S4096x2304.Idx → EReal) (ix2 (tk n j) (⟨640 + 64 * ((hd jp e).val / 4) + l.val, by omega⟩ : Fin 2304)) := by
  have ht : t.val < 16 := t.isLt
  have hjp4 := jp.isLt
  have he2 := e.isLt
  have hhd : (hd jp e).val = 2 * jp.val + e.val := rfl
  obtain ⟨κ, hκ⟩ : ∃ κ : Fin 2, κ.val = jp.val / 2 := ⟨⟨jp.val / 2, by omega⟩, rfl⟩
  have hκ4 : (hd jp e).val / 4 = κ.val := by omega
  unfold tile
  have e1 : (⟨a.val / 128, Nat.div_lt_of_lt_mul a.isLt⟩ : Fin 2) = u := Fin.ext hu
  have e2 : (⟨b.val / 128, Nat.div_lt_of_lt_mul b.isLt⟩ : Fin 4) = jp := Fin.ext hjp
  have e3 : (⟨a.val % 128, Nat.mod_lt _ (by decide)⟩ : Fin 128) = r := Fin.ext hr
  have e4 : (⟨b.val % 128, Nat.mod_lt _ (by decide)⟩ : Fin 128) = half e l := Fin.ext hel
  show Body.piece _ _ _ _ _ _ _ _ (⟨a.val / 128, _⟩ : Fin 2) (⟨b.val / 128, _⟩ : Fin 4) (ix2 (⟨a.val % 128, _⟩ : Fin 128) (⟨b.val % 128, _⟩ : Fin 128)) = _
  rw [e1, e2, e3, e4]
  unfold Body.piece
  refine (pair_apply jp _ _ _ _ _ _ _ _ _ _ κ e hκ r l).trans ?_
  rw [sel_hd, sel_hd, blk0, blk1]
  have hic : ((grid0.coords t) 1).val = t.val := by
    obtain ⟨i00, i10, i20, i21, i30, i31, i40, i41, i50, i51, i60, i61, i70, i71, ic⟩ := idxs t
    exact ic
  have hk := two_apply t.val ht u (fun T b => (m ((c : Thread nD τ).loc main_arg0) : S4096x768.Idx → EReal) (ix2 T (⟨512 + b.val, by omega⟩ : Fin 768))) (iblk m c 3 t) (iblk m c 4 t)
    (fun a b T z hT hz => blk3 m c t a b T _ hT (congrArg (fun k => 512 + k) hz)) (fun a b T z hT hz => blk4 m c t a b T _ hT (congrArg (fun k => 512 + k) hz)) (by omega) (by decide) n hn
  have hv := two_apply t.val ht u (fun T b => (m ((c : Thread nD τ).loc main_arg1) : S4096x2304.Idx → EReal) (ix2 T (⟨640 + b.val, by omega⟩ : Fin 2304))) (iblk m c 5 t) (iblk m c 6 t)
    (fun a b T z hT hz => blk5 m c t a b T _ hT (congrArg (fun k => 640 + k) hz)) (fun a b T z hT hz => blk6 m c t a b T _ hT (congrArg (fun k => 640 + k) hz)) (by omega) (by decide) n hn
  have hS : Pay.S (okOf (grid0.coords t) u) (sub (128 * u.val) (128 * jp.val) (by omega) (by omega) (X0_2 m c t)) (sub (128 * u.val) 0 (by omega) (by decide) (iblk m c 3 t))
      (prev u (iblk m c 3 t) (iblk m c 4 t)) ((m ((c : Thread nD τ).loc main_arg2) : S8.Idx → EReal) (ix1 (hd jp e))) κ e r
      = GS (m ((c : Thread nD τ).loc main_arg0)) (m ((c : Thread nD τ).loc main_arg2)) n r (hd jp e) := by
    funext j
    unfold Pay.S GS
    rw [ok_apply _ u e r j n (by rw [hic]; exact hn), dist_apply]
    refine congrArg (fun s : EReal => Scalar.select (okw n r j) (s * _ - _) ⊥) (Finset.sum_congr rfl fun l _ => congrArg₂ (fun p q : EReal => p * q) ?_ ((hk j (half κ l)).trans ?_))
    · exact blk2 m c t _ _ _ _ (by show 128 * n.val + r.val = 256 * t.val + (128 * u.val + r.val); omega)
        (by show 64 * (hd jp e).val + l.val = 128 * jp.val + (64 * e.val + l.val); omega)
    · exact congrArg (fun z => (m ((c : Thread nD τ).loc main_arg0) : S4096x768.Idx → EReal) (ix2 (tk n j) z))
        (Fin.ext (by show 512 + (64 * κ.val + l.val) = 512 + 64 * ((hd jp e).val / 4) + l.val; omega))
  rw [hS]
  refine Finset.sum_congr rfl fun j _ => congrArg _ ((hv j (half κ l)).trans ?_)
  exact congrArg (fun z => (m ((c : Thread nD τ).loc main_arg1) : S4096x2304.Idx → EReal) (ix2 (tk n j) z))
    (Fin.ext (by show 640 + (64 * κ.val + l.val) = 640 + 64 * ((hd jp e).val / 4) + l.val; omega))

/-- The blocks' rows cover the tokens. -/
theorem covered7 (i : S4096x512.Idx) : ∃ t : Fin cfg0.N, (cfg0.win 7).flush t = true ∧ i ∈ ((cfg0.win 7).blk t).view.set := by
  have hN : cfg0.N = 16 := by decide
  have h0 : (i 0).val < 4096 := (i 0).isLt
  have h1 : (i 1).val < 512 := (i 1).isLt
  let t : Fin cfg0.N := ⟨(i 0).val / 256, by omega⟩
  refine ⟨t, (by decide +kernel : ∀ t : Fin grid0.N, win0_7.flush t = true) t, ?_⟩
  show i ∈ ((View.whole main_v0_0).slice (win0_7.rect t)).set
  rw [View.set_slice_whole, Rect.mem_set_unit]
  obtain ⟨i00, i10, i20, i21, i30, i31, i40, i41, i50, i51, i60, i61, i70, i71, ic⟩ := idxs t
  have ht : t.val = (i 0).val / 256 := rfl
  intro a
  match a with
  | ⟨0, _⟩ =>
    show win0_7.index t (0 : Fin 2) * 256 ≤ (i 0).val ∧ (i 0).val < win0_7.index t (0 : Fin 2) * 256 + 256
    rw [i70]
    omega
  | ⟨1, _⟩ =>
    show win0_7.index t (1 : Fin 2) * 512 ≤ (i 1).val ∧ (i 1).val < win0_7.index t (1 : Fin 2) * 512 + 512
    rw [i71]
    omega

theorem ofBits_8th : Ideal.ofBits .f32 0x3E000000#32 = ((1 / 8 : ℝ) : EReal) := by
  simp [Ideal.ofBits, Ideal.ieee, -EReal.coe_mul]; norm_num

/-- A score is a real, or minus infinity where the mask holds the key back. -/
theorem score_real (x0 : S4096x768.Idx → EReal) (x2 : S8.Idx → EReal) (f : S4096x768.Idx → ℝ) (s : S8.Idx → ℝ)
    (h0 : x0 = fun i => (f i : EReal)) (h2 : x2 = fun i => (s i : EReal)) (n : Fin 32) (r : Fin 128) (h : Fin 8) (j : Fin 256) :
    (okw n r j = 0#1 ∧ GS x0 x2 n r h j = ⊥) ∨ ∃ x : ℝ, GS x0 x2 n r h j = (x : EReal) := by
  subst h0 h2
  unfold GS
  by_cases hk : okw n r j = 0#1
  · refine Or.inl ⟨hk, ?_⟩
    rw [hk]
    exact select_zero _ _
  · refine Or.inr ?_
    have hk1 : okw n r j = 1#1 := by
      generalize okw n r j = b at hk ⊢
      revert b
      decide
    rw [hk1, select_one, ofBits_8th]
    have hd : FloatOps.sitofp (F := Ideal) FTy.f32 (dw r j) = (((dw r j).toInt : ℝ) : EReal) := rfl
    rw [hd]
    simp only [← EReal.coe_mul]
    rw [Cert.Reals.coe_sum, ← EReal.coe_mul, ← EReal.coe_sub]
    exact ⟨_, rfl⟩

theorem score_cases (x0 : S4096x768.Idx → EReal) (x2 : S8.Idx → EReal) (f : S4096x768.Idx → ℝ) (s : S8.Idx → ℝ)
    (h0 : x0 = fun i => (f i : EReal)) (h2 : x2 = fun i => (s i : EReal)) (n : Fin 32) (r : Fin 128) (h : Fin 8) (j : Fin 256) :
    GS x0 x2 n r h j = ⊥ ∨ ∃ x : ℝ, GS x0 x2 n r h j = (x : EReal) :=
  (score_real x0 x2 f s h0 h2 n r h j).imp And.right id

section
variable (f : S4096x768.Idx → ℝ) (s k : S8.Idx → ℝ)
  (h0 : (m ((c : Thread nD τ).loc main_arg0) : S4096x768.Idx → EReal) = fun i => (f i : EReal))
  (h2 : (m ((c : Thread nD τ).loc main_arg2) : S8.Idx → EReal) = fun i => (s i : EReal))
  (h3 : (m ((c : Thread nD τ).loc main_arg3) : S8.Idx → EReal) = fun i => (k i : EReal))

include h0 h2 h3

/-- One entry of what a point's body leaves is the result's. -/
theorem entry (t : Fin cfg0.N) (a : Fin 256) (b : Fin 512) (T : Fin 4096) (hT : T.val = 256 * t.val + a.val) :
    tile (Body.piece (grid0.coords t) (iblk m c 0 t) (iblk m c 1 t) (X0_2 m c t) (iblk m c 3 t) (iblk m c 4 t) (iblk m c 5 t) (iblk m c 6 t)) (ix2 a b)
      = G (m ((c : Thread nD τ).loc main_arg0)) (m ((c : Thread nD τ).loc main_arg1)) (m ((c : Thread nD τ).loc main_arg2)) (m ((c : Thread nD τ).loc main_arg3)) (ix2 T b) := by
  have ht : t.val < 16 := t.isLt
  have ha := a.isLt
  have hb := b.isLt
  obtain ⟨u, hu⟩ : ∃ u : Fin 2, a.val / 128 = u.val := ⟨⟨a.val / 128, by omega⟩, rfl⟩
  obtain ⟨r, hr⟩ : ∃ r : Fin 128, a.val % 128 = r.val := ⟨⟨a.val % 128, by omega⟩, rfl⟩
  obtain ⟨jp, hjp⟩ : ∃ jp : Fin 4, b.val / 128 = jp.val := ⟨⟨b.val / 128, by omega⟩, rfl⟩
  obtain ⟨e, he⟩ : ∃ e : Fin 2, b.val % 128 / 64 = e.val := ⟨⟨b.val % 128 / 64, by omega⟩, rfl⟩
  obtain ⟨l, hl⟩ : ∃ l : Fin 64, b.val % 64 = l.val := ⟨⟨b.val % 64, by omega⟩, rfl⟩
  obtain ⟨n, hn⟩ : ∃ n : Fin 32, n.val = 2 * t.val + u.val := ⟨⟨2 * t.val + u.val, by have := u.isLt; omega⟩, rfl⟩
  have hd8 : (hd jp e).val = 2 * jp.val + e.val := rfl
  refine (body_at m c t a b u r jp e l n hu hr hjp (by omega) hn).trans ?_
  have a1 : (⟨T.val / 128, Nat.div_lt_of_lt_mul T.isLt⟩ : Fin 32) = n := Fin.ext (by show T.val / 128 = n.val; omega)
  have a2 : (⟨T.val % 128, Nat.mod_lt _ (by decide)⟩ : Fin 128) = r := Fin.ext (by show T.val % 128 = r.val; omega)
  have a3 : (⟨b.val / 64, Nat.div_lt_of_lt_mul b.isLt⟩ : Fin 8) = hd jp e := Fin.ext (by show b.val / 64 = (hd jp e).val; omega)
  have a4 : (⟨b.val % 64, Nat.mod_lt _ (by decide)⟩ : Fin 64) = l := Fin.ext hl
  show _ = GO _ _ _ _ (⟨T.val / 128, _⟩ : Fin 32) (⟨T.val % 128, _⟩ : Fin 128) (⟨b.val / 64, _⟩ : Fin 8) (⟨b.val % 64, _⟩ : Fin 64)
  rw [a1, a2, a3, a4]
  unfold GO
  rw [h3]
  exact Cert.SwaReal.row_recip _ _ (score_cases _ _ f s h0 h2 n r (hd jp e)) _ _ (fun _ _ => rfl)

/-- What a point writes back is its block of the result. -/
theorem flushed7_eq (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3)) : Buf (Elt Ideal) ((c : Thread nD τ).loc main_v0_0)) := by
  rw [flushed7_A, body_eq]
  funext y
  obtain ⟨a, b, rfl⟩ : ∃ (a : Fin 256) (b : Fin 512), y = ix2 a b := ⟨_, _, eq_ix2 y⟩
  have ht : t.val < 16 := t.isLt
  refine Eq.trans ?_ ((entry m c f s k h0 h2 h3 t a b (⟨256 * t.val + a.val, by have := a.isLt; omega⟩ : Fin 4096) rfl).trans ?_)
  · rfl
  rw [View.read_apply]
  refine congrArg (G (m ((c : Thread nD τ).loc main_arg0)) (m ((c : Thread nD τ).loc main_arg1)) (m ((c : Thread nD τ).loc main_arg2)) (m ((c : Thread nD τ).loc main_arg3))) (funext fun d => Fin.ext ?_)
  obtain ⟨i00, i10, i20, i21, i30, i31, i40, i41, i50, i51, i60, i61, i70, i71, ic⟩ := idxs t
  match d with
  | ⟨0, _⟩ => show 256 * t.val + a.val = win0_7.index t (0 : Fin 2) * 256 + 1 * a.val; rw [i70]; omega
  | ⟨1, _⟩ => show b.val = win0_7.index t (1 : Fin 2) * 512 + 1 * b.val; rw [i71]; omega

theorem final7 : (dats m 0 c).arrAt 7 cfg0.N = (G (m ((c : Thread nD τ).loc main_arg0)) (m ((c : Thread nD τ).loc main_arg1))
      (m ((c : Thread nD τ).loc main_arg2)) (m ((c : Thread nD τ).loc main_arg3)) : Buf (Elt Ideal) ((c : Thread nD τ).loc main_v0_0)) :=
  (dats m 0 c).arrAt_eq_of_cover 7 _ (fun t hf => flushed7_eq m c f s k h0 h2 h3 t) covered7

end

end Cert.SwaIdeal.Closed

namespace Cert.SwaClaim

open Idealize.ShloMosaic Idealize.SL.Sem Idealize.ShloMosaic.TcCoe Cert.Reals
open Cert.SwaRefIdeal.RefValue (tk GS GO G)

/-- The reference runs, keeps its arguments, and has no semaphore to leave raised. -/
theorem frame_ref (m : (ℓ : Loc Cert.SwaRefIdeal.nD Cert.SwaRefIdeal.τ Cert.SwaRefIdeal.sig) → Buf (Elt Ideal) ℓ) (g : Dev Cert.SwaRefIdeal.nD → PrngReg) :
    θ_run (Cert.SwaRefIdeal.defs (F := Ideal)) (onTc (τ := Cert.SwaRefIdeal.τ) (Cert.SwaRefIdeal.main (F := Ideal))) ⟨m, fun _ => 0, g⟩ (fun r =>
      (∀ c : Dev Cert.SwaRefIdeal.nD,
      r.2.mem ((c : Thread Cert.SwaRefIdeal.nD Cert.SwaRefIdeal.τ).loc Cert.SwaRefIdeal.main_arg0) = m ((c : Thread Cert.SwaRefIdeal.nD Cert.SwaRefIdeal.τ).loc Cert.SwaRefIdeal.main_arg0)
      ∧ r.2.mem ((c : Thread Cert.SwaRefIdeal.nD Cert.SwaRefIdeal.τ).loc Cert.SwaRefIdeal.main_arg1) = m ((c : Thread Cert.SwaRefIdeal.nD Cert.SwaRefIdeal.τ).loc Cert.SwaRefIdeal.main_arg1)
      ∧ r.2.mem ((c : Thread Cert.SwaRefIdeal.nD Cert.SwaRefIdeal.τ).loc Cert.SwaRefIdeal.main_arg2) = m ((c : Thread Cert.SwaRefIdeal.nD Cert.SwaRefIdeal.τ).loc Cert.SwaRefIdeal.main_arg2)
      ∧ r.2.mem ((c : Thread Cert.SwaRefIdeal.nD Cert.SwaRefIdeal.τ).loc Cert.SwaRefIdeal.main_arg3) = m ((c : Thread Cert.SwaRefIdeal.nD Cert.SwaRefIdeal.τ).loc Cert.SwaRefIdeal.main_arg3))
      ∧ r.2.sem = fun _ => 0) :=
  (θ_run _ _ _).mono (fun r h => ⟨fun c => (h c).2, sem_eq_zero_of_no_sems (by decide) _⟩) (Cert.SwaRefIdeal.Value.run (F := Ideal) m g)

/-- The mask's large negative number stands for minus infinity. -/
theorem preserves : Cert.preserves_Swa_SwaIdeal := IdealRules.named_const.statement Cert.SwaIdeal.κ "mask" .f32 0xF149F2CA#32 (⊥ : EReal) rfl

/-- What the precondition says: the queries and keys, the slopes and the sinks hold reals. -/
theorem finite (x0 : FVec Ideal Cert.SwaIdeal.S4096x768 .f32) (x1 : FVec Ideal Cert.SwaIdeal.S4096x2304 .f32)
    (x2 x3 : FVec Ideal Cert.SwaIdeal.S8 .f32) (h : ∀ j, Cert.Pre_finite_swa.fn (F := Ideal) x0 x1 x2 x3 j = 1#1) :
    (∃ f : Cert.SwaIdeal.S4096x768.Idx → ℝ, x0 = fun i => (f i : EReal))
      ∧ (∃ f : Cert.SwaIdeal.S8.Idx → ℝ, x2 = fun i => (f i : EReal)) ∧ ∃ f : Cert.SwaIdeal.S8.Idx → ℝ, x3 = fun i => (f i : EReal) := by
  have h := h (fun a => a.elim0)
  dsimp only [Cert.Pre_finite_swa.fn, andi] at h
  obtain ⟨h01, h2⟩ := IntOp.andi_eq_one.mp h
  obtain ⟨h0, h1⟩ := IntOp.andi_eq_one.mp h01
  exact ⟨exists_real _ fun i => real_of_cmp (Host.reduce_andi_all _ _ _ _ _ h0 i),
    exists_real _ fun i => real_of_cmp (Host.reduce_andi_all _ _ _ _ _ h1 i),
    exists_real _ fun i => real_of_cmp (Host.reduce_andi_all _ _ _ _ _ h2 i)⟩

/-- The reference's result over the whole array. -/
theorem ref_eq (x0 : Cert.SwaIdeal.S4096x768.Idx → EReal) (x1 : Cert.SwaIdeal.S4096x2304.Idx → EReal) (x2 x3 : Cert.SwaIdeal.S8.Idx → EReal)
    (f : Cert.SwaIdeal.S4096x768.Idx → ℝ) (s k : Cert.SwaIdeal.S8.Idx → ℝ) (h0 : x0 = fun i => (f i : EReal)) (h2 : x2 = fun i => (s i : EReal)) (h3 : x3 = fun i => (k i : EReal))
    (T : Fin 4096) (q : Fin 512) : Cert.SwaRefIdeal.Read.val_main_v91 (F := Ideal) x0 x1 x2 x3 (ix2 T q) = G x0 x1 x2 x3 (ix2 T q) := by
  have hT := T.isLt
  have hq := q.isLt
  let n : Fin 32 := ⟨T.val / 128, Nat.div_lt_of_lt_mul hT⟩
  let r : Fin 128 := ⟨T.val % 128, Nat.mod_lt _ (by decide)⟩
  let κ : Fin 2 := ⟨q.val / 256, by omega⟩
  let e : Fin 4 := ⟨q.val / 64 % 4, by omega⟩
  let l : Fin 64 := ⟨q.val % 64, by omega⟩
  have hh : (⟨q.val / 64, Nat.div_lt_of_lt_mul hq⟩ : Fin 8) = Cert.SwaRefIdeal.RefValue.hd κ e := Fin.ext (by show q.val / 64 = q.val / 256 * 4 + q.val / 64 % 4; omega)
  refine (Cert.SwaRefIdeal.RefValue.result_apply x0 x1 x2 x3 T q n r κ e l rfl rfl rfl rfl rfl).trans ?_
  show _ = GO x0 x1 x2 x3 n r (⟨q.val / 64, _⟩ : Fin 8) l
  rw [hh]
  unfold GO
  rw [h3]
  have hS := Cert.SwaIdeal.Closed.score_cases x0 x2 f s h0 h2 n r (Cert.SwaRefIdeal.RefValue.hd κ e)
  refine (Cert.SwaReal.row_recip _ _ hS _ _ (fun _ _ => rfl)).symm.trans (Cert.SwaReal.row_recip _ _ hS _ _ fun j hj => ?_)
  have hb : ¬ 128 * n.val + j.val < 128 := fun hb => hj (by
    unfold GS
    rw [Cert.SwaRefIdeal.RefValue.okw_before n r j hb]
    exact Cert.SwaIdeal.Pay.select_zero _ _)
  refine (Cert.SwaRefIdeal.RefValue.values x1 n j κ l hb).trans (congrArg (fun z => x1 (ix2 (tk n j) z)) (Fin.ext ?_))
  show 640 + 64 * κ.val + l.val = 640 + 64 * ((κ.val * 4 + e.val) / 4) + l.val
  have := e.isLt
  omega

/-- The kernel and the reference agree over the extended reals, from real queries, keys, slopes and sinks. -/
theorem algebraic : Cert.algebraic_SwaIdeal_SwaRefIdeal_pre_finite_swa := by
  intro m g m' g' hpre hag
  refine ⟨fun c => (Cert.SwaIdeal.Gen.dats m 0 c).arrAt 7 Cert.SwaIdeal.cfg0.N, ?_, ?_⟩
  · exact (θ_run _ _ _).mono (fun r h c => ⟨(h c).1, (h c).2.2.2.2⟩) (Cert.SwaIdeal.Value.run_blocks m g)
  refine (θ_run _ _ _).mono (fun r h c => ?_) (Cert.SwaRefIdeal.Value.run m' g')
  obtain ⟨h1, h2⟩ := h c
  obtain ⟨⟨f, hf⟩, ⟨s, hs⟩, ⟨k, hk⟩⟩ := finite _ _ _ _ (fun j => congrFun (hpre c) j)
  obtain ⟨e0, e1, e2, e3⟩ := hag c
  refine ⟨h1.trans ?_, h2⟩
  refine Eq.trans ?_ (Cert.SwaIdeal.Closed.final7 m c f s k hf hs hk).symm
  refine (Cert.SwaRefIdeal.Read.val_main_v91_eq ..).trans ?_
  rw [e0, e1, e2, e3]
  funext i
  obtain ⟨T, q, rfl⟩ : ∃ (T : Fin 4096) (q : Fin 512), i = ix2 T q := ⟨_, _, eq_ix2 i⟩
  exact ref_eq _ _ _ _ f s k hf hs hk T q

end Cert.SwaClaim

end
-- ==== Proof.TnEvClaim.lean ====
/-
  Hand-written, untrusted. The gradient of the even mixer's input projection in its weight: the kernel adds up four products of 1024
  tokens each in its scratch and stores the sum, for each half of the
  columns; the reference takes one product over all 4096 tokens.
-/
module

public import proofs.«01_k».proof.Defs
public import proofs.«01_k».proof.Proof.Reals
public import proofs.«01_k».proof.Proof.Gen.TnEvIdeal.Value
public import proofs.«01_k».proof.Proof.Gen.TnEvRefIdeal.Run
public import proofs.«01_k».proof.Proof.Gen.TnEvRefIdeal.Read
public import Idealize.ShloMosaic.Lib.Quiescent
public import Idealize.ShloMosaic.Lib.Pointwise
public import Idealize.ShloMosaic.Lib.Pointwise.Index

@[expose] public section

set_option maxRecDepth 16384

noncomputable section

namespace Cert.TnEvIdeal.Closed

open Idealize.ShloMosaic Idealize.SL.Sem Cert.TnEvIdeal Cert.TnEvIdeal.Gen Idealize.ShloMosaic.TcCoe Cert.TnEvIdeal.Value

theorem hz2 : (![0, 0] : Fin 2 → Nat) = fun _ => 0 := funext fun a => by fin_cases a <;> rfl

section Body

variable {F : FTy → Type} [FloatOps F]
  (c : Dev nD) (i : grid0.Coords) (a3 : Memref sig .tc .vmem S1024x1024 .bf16) (h3 : a3.IsWhole) (a4 : Memref sig .tc .vmem S1024x1152 .bf16) (h4 : a4.IsWhole) (a5 : Memref sig .tc .vmem S1024x1152 .bf16) (h5 : a5.IsWhole) (a6 : Memref sig .tc .vmem S1024x1152 .f32) (h6 : a6.IsWhole)
  (x0 : Vec F S1024x1024 .bf16) (x1 : Vec F S1024x1152 .bf16) (xs : Vec F S1024x1152 .f32)

/-- First point: the scratch is zeroed, then the point's product is added. -/
theorem scr_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (fun _ => scover0_A_0 ..)]
  unfold kernelRun0_A
  dsimp only
  sl_unfold_words
  rw [View.canon_cons_unit_zero (S := S1024x1152) hz2, View.readCov_unit_zero (S := S1024x1152) _ hz2]
  simp only [View.readAt_eq_ld, h3.read_unread, h4.read_unread, h6.read_unread, View.ld_unit_zero (S := S1024x1024) hz2, View.ld_unit_zero (S := S1024x1152) hz2]

/-- Later, the point's product is added to what the scratch held. -/
theorem scr_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (fun _ => scover0_B_0 ..)]
  unfold kernelRun0_B
  dsimp only
  sl_unfold_words
  rw [View.canon_unit_zero (S := S1024x1152) hz2]
  simp only [View.readAt_eq_ld, h3.read_unread, h4.read_unread, h6.read_unread, View.ld_unit_zero (S := S1024x1024) hz2, View.ld_unit_zero (S := S1024x1152) hz2]

/-- At the last point too. -/
theorem scr_C (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (fun _ => scover0_C_0 ..)]
  unfold kernelRun0_C
  dsimp only
  sl_unfold_words
  rw [View.canon_unit_zero (S := S1024x1152) hz2]
  simp only [View.readAt_eq_ld, h3.read_unread, h4.read_unread, h6.read_unread, View.ld_unit_zero (S := S1024x1024) hz2, View.ld_unit_zero (S := S1024x1152) hz2]

/-- The last point stores the scratch. -/
theorem out2 (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (fun _ => cover0_C_2 ..)]
  unfold kernelRun0_C
  dsimp only
  sl_unfold_words
  rw [View.canon_unit_zero (S := S1024x1152) hz2, View.readCov_unit_zero (S := S1024x1152) _ hz2]
  simp only [View.readAt_eq_ld, h3.read_unread, h4.read_unread, h6.read_unread, View.ld_unit_zero (S := S1024x1024) hz2, View.ld_unit_zero (S := S1024x1152) hz2]

end Body

section Pay

variable (x0 : FVec Ideal S1024x1024 .bf16) (x1 : FVec Ideal S1024x1152 .bf16) (acc : FVec Ideal S1024x1152 .f32)

/-- One point's product. -/
def contrib (j : S1024x1152.Idx) : EReal := ∑ k : Fin 1024, x0 (ix2 k (j 0)) * x1 (ix2 k (j 1))

theorem contrib_apply (r : Fin 1024) (l : Fin 1152) : contrib x0 x1 (ix2 r l) = ∑ k : Fin 1024, x0 (ix2 k r) * x1 (ix2 k l) := rfl

theorem acc_apply (r : Fin 1024) (l : Fin 1152) : k0_pay2 (F := Ideal) acc x0 x1 (ix2 r l) = acc (ix2 r l) + contrib x0 x1 (ix2 r l) := by
  unfold_payloads
  pointwise [contrib]

theorem zero_apply (r : Fin 1024) (l : Fin 1152) : k0_pay1 (F := Ideal) (ix2 r l) = 0 := by
  unfold_payloads
  pointwise

theorem fin_apply (r : Fin 1024) (l : Fin 1152) : k0_pay3 (F := Ideal) acc (ix2 r l) = acc (ix2 r l) := by
  unfold_payloads
  pointwise [Ideal.ofBits_one_f32, mul_one]

end Pay

variable (m : (ℓ : Loc nD τ sig) → Buf (Elt Ideal) ℓ) (c : Dev nD)

/-- The two arguments, as arrays. -/
abbrev O : FVec Ideal S4096x1024 .bf16 := m ((c : Thread nD τ).loc main_arg0)
abbrev D : FVec Ideal S4096x2304 .bf16 := m ((c : Thread nD τ).loc main_arg1)

theorem idxs : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, win0_0.index t (0 : Fin 2) = t.val % 4 ∧ win0_0.index t (1 : Fin 2) = 0
    ∧ win0_1.index t (0 : Fin 2) = t.val % 4 ∧ win0_1.index t (1 : Fin 2) = t.val / 4)

/-- Block `t` of the normed stream. -/
theorem blk0 (t : Fin cfg0.N) (r : Fin 1024) (k : Fin 1024) (T : Fin 4096) (hT : T.val = 1024 * (t.val % 4) + r.val) :
    iblk m c 0 t (ix2 r k) = O m c (ix2 T k) := by
  unfold iblk
  rw [View.read_apply]
  show V m c main_arg0 _ = m ((c : Thread nD τ).loc main_arg0) _
  unfold V
  congr 1
  funext a
  apply Fin.ext
  obtain ⟨e0, e1, e2, e3⟩ := idxs t
  match a with
  | ⟨0, _⟩ => show win0_0.index t (0 : Fin 2) * 1024 + 1 * r.val = T.val; rw [e0]; omega
  | ⟨1, _⟩ => show win0_0.index t (1 : Fin 2) * 1024 + 1 * k.val = k.val; rw [e1]; omega

/-- Block `t` of the incoming gradient. -/
theorem blk1 (t : Fin cfg0.N) (r : Fin 1024) (l : Fin 1152) (T : Fin 4096) (L : Fin 2304) (hT : T.val = 1024 * (t.val % 4) + r.val)
    (hL : L.val = 1152 * (t.val / 4) + l.val) :
    iblk m c 1 t (ix2 r l) = D m c (ix2 T L) := by
  unfold iblk
  rw [View.read_apply]
  show V m c main_arg1 _ = m ((c : Thread nD τ).loc main_arg1) _
  unfold V
  congr 1
  funext a
  apply Fin.ext
  obtain ⟨e0, e1, e2, e3⟩ := idxs t
  match a with
  | ⟨0, _⟩ => show win0_1.index t (0 : Fin 2) * 1024 + 1 * r.val = T.val; rw [e2]; omega
  | ⟨1, _⟩ => show win0_1.index t (1 : Fin 2) * 1152 + 1 * l.val = L.val; rw [e3]; omega

/-- What point `n` adds to the scratch. -/
def add (n : ℕ) (j : S1024x1152.Idx) : EReal :=
  if h : n < cfg0.N then contrib (iblk m c 0 ⟨n, h⟩) (iblk m c 1 ⟨n, h⟩) j else 0

theorem step_apply (n : ℕ) (h : n < cfg0.N) (hn : ¬ n % 4 = 0) (acc : FVec Ideal S1024x1152 .f32) (j : S1024x1152.Idx) :
    scAt0_0 m c n h acc j = acc j + add m c n j := by
  unfold scAt0_0 add
  rw [dif_neg hn, dif_pos h]
  have e := eq_ix2 j
  split
  · rw [scr_C, e]; exact acc_apply ..
  · rw [scr_B, e]; exact acc_apply ..

theorem first_apply (n : ℕ) (h : n < cfg0.N) (hn : n % 4 = 0) (acc : FVec Ideal S1024x1152 .f32) (j : S1024x1152.Idx) :
    scAt0_0 m c n h acc j = 0 + add m c n j := by
  unfold scAt0_0 add
  rw [dif_pos hn, dif_neg (by omega), dif_pos h]
  have e := eq_ix2 j
  rw [scr_A, e]
  exact (acc_apply ..).trans (congrArg (· + _) (zero_apply ..))

/-- After point `t` the scratch holds the sum of its sweep's products so far. -/
theorem scr_eq (t : Fin cfg0.N) (j : S1024x1152.Idx) :
    (outsAt0 m c t.val t.isLt).2 j = 0 + ∑ s ∈ Finset.range (t.val % 4 + 1), add m c (4 * (t.val / 4) + s) j := by
  have hN : cfg0.N = 8 := N_0
  rw [soutsAt0_0_eq]
  exact Pipeline.accAt_add_apply _ _ (fun _ => 0) (add m c) (4 * (t.val / 4)) 3
    (fun h i => first_apply m c _ h (by omega) _ i)
    (fun n h acc i h1 h2 => step_apply m c n h (by omega) acc i) (t.val % 4) (by omega) _ j

/-- At the last point the window holds the scratch. -/
theorem outs (t : Fin cfg0.N) (h1 : t.val % 4 = 3) (r : Fin 1024) (l : Fin 1152) :
    (outsAt0 m c t.val t.isLt).1 (ix2 r l) = (outsAt0 m c t.val t.isLt).2 (ix2 r l) := by
  have h0 : ¬ t.val % 4 = 0 := by omega
  rw [outsAt0_C m c t h0 h1]
  dsimp only
  rw [out2, scr_C]
  exact fin_apply ..

/-- The weight's gradient: over all tokens. -/
theorem final (K : Fin 1024) (L : Fin 2304) : G2 m c (ix2 K L) = ∑ T : Fin 4096, O m c (ix2 T K) * D m c (ix2 T L) := by
  have hK := K.isLt
  have hL := L.isLt
  have hN : cfg0.N = 8 := N_0
  have hp : pt2Of (ix2 K L) = 4 * (2 * (K.val / 1024 - 0) + 1 * (L.val / 1152 - 0)) + 3 := rfl
  have hp' : pt2Of (ix2 K L) = 4 * (L.val / 1152) + 3 := by rw [hp]; omega
  have hlt : pt2Of (ix2 K L) < cfg0.N := by rw [hp', hN]; omega
  have hl : L.val % 1152 < 1152 := by omega
  have hloc : loc2Of (ix2 K L) = ix2 K (⟨L.val % 1152, hl⟩ : Fin 1152) := funext fun a => Fin.ext (by
    match a with
    | ⟨0, _⟩ => show K.val % 1024 = K.val; omega
    | ⟨1, _⟩ => rfl)
  unfold G2
  rw [dif_pos hlt, ← outsAt0_sweep m c _ hlt, hloc]
  refine (outs m c ⟨pt2Of (ix2 K L), hlt⟩ (by dsimp only; omega) _ _).trans ?_
  refine (scr_eq m c ⟨pt2Of (ix2 K L), hlt⟩ _).trans ?_
  rw [zero_add]
  dsimp only
  rw [show pt2Of (ix2 K L) % 4 + 1 = 4 by omega, show 4 * (pt2Of (ix2 K L) / 4) = 4 * (L.val / 1152) by omega]
  let f : ℕ → EReal := fun n => if h : n < 4096 then O m c (ix2 (⟨n, h⟩ : Fin 4096) K) * D m c (ix2 (⟨n, h⟩ : Fin 4096) L) else 0
  refine Eq.trans (b := ∑ p ∈ Finset.range 4, ∑ q : Fin 1024, f (1024 * p + q.val)) ?_ ?_
  · refine Finset.sum_congr rfl fun p hp => ?_
    have hp := Finset.mem_range.mp hp
    unfold add
    have hq : 4 * (L.val / 1152) + p < cfg0.N := by rw [hN]; omega
    rw [dif_pos hq, contrib_apply]
    refine Finset.sum_congr rfl fun q _ => ?_
    have hq' := q.isLt
    have hx : 1024 * p + q.val < 4096 := by omega
    show _ = dite _ _ _
    rw [dif_pos hx, blk0 m c _ q _ (⟨1024 * p + q.val, hx⟩ : Fin 4096) (by dsimp only; omega),
      blk1 m c _ q _ (⟨1024 * p + q.val, hx⟩ : Fin 4096) L (by dsimp only; omega) (by dsimp only; omega)]
  · rw [Cert.Reals.sum_runs 4 1024 f]
    exact Finset.sum_congr rfl fun T _ => dif_pos T.isLt

end Cert.TnEvIdeal.Closed

namespace Cert.TnEvClaim

open Idealize.ShloMosaic Idealize.SL.Sem Idealize.ShloMosaic.TcCoe Cert.TnEvRefIdeal Cert.TnEvRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) _⟩) (Cert.TnEvRefIdeal.Value.run m g)

theorem ref_apply (o : FVec Ideal S4096x1024 .bf16) (d : FVec Ideal S4096x2304 .bf16) (K : Fin 1024) (L : Fin 2304) :
    val_main_v6 (F := Ideal) o d (ix2 K L) = ∑ T : Fin 4096, d (ix2 T L) * o (ix2 T K) := by
  pointwise [val_main_v6, val_main_v5, val_main_v4, val_main_v3, val_main_v1]

theorem weights (m : (ℓ : Loc Cert.TnEvIdeal.nD Cert.TnEvIdeal.τ Cert.TnEvIdeal.sig) → Buf (Elt Ideal) ℓ) (c : Dev Cert.TnEvIdeal.nD) :
    (Cert.TnEvIdeal.Value.G2 m c : S1024x2304.Idx → EReal)
      = val_main_v6 (F := Ideal) (Cert.TnEvIdeal.Closed.O m c) (Cert.TnEvIdeal.Closed.D m c) := by
  funext i
  obtain ⟨K, L, rfl⟩ : ∃ (K : Fin 1024) (L : Fin 2304), i = ix2 K L := ⟨_, _, eq_ix2 i⟩
  have e : (∑ T : Fin 4096, Cert.TnEvIdeal.Closed.O m c (ix2 T K) * Cert.TnEvIdeal.Closed.D m c (ix2 T L) : EReal)
      = ∑ T : Fin 4096, Cert.TnEvIdeal.Closed.D m c (ix2 T L) * Cert.TnEvIdeal.Closed.O m c (ix2 T K) :=
    Finset.sum_congr rfl fun T _ => mul_comm (G := EReal) _ _
  exact (Cert.TnEvIdeal.Closed.final m c K L).trans (e.trans (ref_apply _ _ K L).symm)

theorem algebraic : Cert.algebraic_TnEvIdeal_TnEvRefIdeal := by
  intro m g m' g' _ hag
  refine ⟨fun c => Cert.TnEvIdeal.Value.G2 m c, Cert.TnEvIdeal.Value.run m g, ?_⟩
  refine (θ_run _ _ _).mono (fun r h c => ?_) (Cert.TnEvRefIdeal.Value.run m' g')
  obtain ⟨h1, h2⟩ := h c
  obtain ⟨e0, e1⟩ := hag c
  refine ⟨h1.trans ?_, h2⟩
  refine Eq.trans ?_ (weights m c).symm
  rw [e0, e1]
  exact val_main_v6_eq ..

end Cert.TnEvClaim

end
-- ==== Proof.TnOdClaim.lean ====
/-
  Hand-written, untrusted. The gradient of the odd mixer's input projection in its weight: for every block of 512 features by 768 columns the
  kernel adds up four products of 1024 tokens each in its scratch and stores the sum; the reference takes one product over all
  4096 tokens, cut into these blocks afterwards.
-/
module

public import proofs.«01_k».proof.Defs
public import proofs.«01_k».proof.Proof.Reals
public import proofs.«01_k».proof.Proof.Gen.TnOdIdeal.Value
public import proofs.«01_k».proof.Proof.Gen.TnOdRefIdeal.Run
public import proofs.«01_k».proof.Proof.Gen.TnOdRefIdeal.Read
public import Idealize.ShloMosaic.Lib.Quiescent
public import Idealize.ShloMosaic.Lib.Pointwise
public import Idealize.ShloMosaic.Lib.Pointwise.Index

@[expose] public section

set_option maxRecDepth 16384

noncomputable section

namespace Cert.TnOdIdeal.Closed

open Idealize.ShloMosaic Idealize.SL.Sem Cert.TnOdIdeal Cert.TnOdIdeal.Gen Idealize.ShloMosaic.TcCoe Cert.TnOdIdeal.Value

theorem hz2 : (![0, 0] : Fin 2 → Nat) = fun _ => 0 := funext fun a => by fin_cases a <;> rfl
theorem hz4 : (![0, 0, 0, 0] : Fin 4 → Nat) = fun _ => 0 := funext fun a => by fin_cases a <;> rfl

section Body

variable {F : FTy → Type} [FloatOps F]
  (c : Dev nD) (i : grid0.Coords) (a3 : Memref sig .tc .vmem S1024x512 .bf16) (h3 : a3.IsWhole) (a4 : Memref sig .tc .vmem S1024x768 .bf16) (h4 : a4.IsWhole) (a5 : Memref sig .tc .vmem S1x1x512x768 .bf16) (h5 : a5.IsWhole) (a6 : Memref sig .tc .vmem S512x768 .f32) (h6 : a6.IsWhole)
  (x0 : Vec F S1024x512 .bf16) (x1 : Vec F S1024x768 .bf16) (xs : Vec F S512x768 .f32)

/-- First point: the scratch is zeroed, then the point's product is added. -/
theorem scr_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (fun _ => scover0_A_0 ..)]
  unfold kernelRun0_A
  dsimp only
  sl_unfold_words
  rw [View.canon_cons_unit_zero (S := S512x768) hz2, View.readCov_unit_zero (S := S512x768) _ hz2]
  simp only [View.readAt_eq_ld, h3.read_unread, h4.read_unread, h6.read_unread, View.ld_unit_zero (S := S1024x512) hz2, View.ld_unit_zero (S := S1024x768) hz2, View.ld_unit_zero (S := S512x768) hz2]

/-- Later, the point's product is added to what the scratch held. -/
theorem scr_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (fun _ => scover0_B_0 ..)]
  unfold kernelRun0_B
  dsimp only
  sl_unfold_words
  rw [View.canon_unit_zero (S := S512x768) hz2]
  simp only [View.readAt_eq_ld, h3.read_unread, h4.read_unread, h6.read_unread, View.ld_unit_zero (S := S1024x512) hz2, View.ld_unit_zero (S := S1024x768) hz2, View.ld_unit_zero (S := S512x768) hz2]

/-- At the last point too. -/
theorem scr_C (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (fun _ => scover0_C_0 ..)]
  unfold kernelRun0_C
  dsimp only
  sl_unfold_words
  rw [View.canon_unit_zero (S := S512x768) hz2]
  simp only [View.readAt_eq_ld, h3.read_unread, h4.read_unread, h6.read_unread, View.ld_unit_zero (S := S1024x512) hz2, View.ld_unit_zero (S := S1024x768) hz2, View.ld_unit_zero (S := S512x768) hz2]

/-- The last point stores the scratch. -/
theorem out2 (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (fun _ => cover0_C_2 ..)]
  unfold kernelRun0_C
  dsimp only
  sl_unfold_words
  rw [View.canon_unit_zero (S := S1x1x512x768) hz4, View.readCov_unit_zero (S := S512x768) _ hz2]
  simp only [View.readAt_eq_ld, h3.read_unread, h4.read_unread, h6.read_unread, View.ld_unit_zero (S := S1024x512) hz2, View.ld_unit_zero (S := S1024x768) hz2, View.ld_unit_zero (S := S512x768) hz2]

end Body

section Pay

variable (x0 : FVec Ideal S1024x512 .bf16) (x1 : FVec Ideal S1024x768 .bf16) (acc : FVec Ideal S512x768 .f32)

/-- One point's product. -/
def contrib (j : S512x768.Idx) : EReal := ∑ k : Fin 1024, x0 (ix2 k (j 0)) * x1 (ix2 k (j 1))

theorem contrib_apply (r : Fin 512) (l : Fin 768) :
    contrib x0 x1 (ix2 r l) = ∑ k : Fin 1024, x0 (ix2 k r) * x1 (ix2 k l) := rfl

theorem acc_apply (r : Fin 512) (l : Fin 768) :
    k0_pay2 (F := Ideal) acc x0 x1 (ix2 r l) = acc (ix2 r l) + contrib x0 x1 (ix2 r l) := by
  unfold_payloads
  pointwise [contrib]

theorem zero_apply (r : Fin 512) (l : Fin 768) : k0_pay1 (F := Ideal) (ix2 r l) = 0 := by
  unfold_payloads
  pointwise

theorem fin_apply (r : Fin 512) (l : Fin 768) : k0_pay3 (F := Ideal) acc (ix4 0 0 r l) = acc (ix2 r l) := by
  unfold_payloads
  pointwise [Ideal.ofBits_one_f32, mul_one]

end Pay

variable (m : (ℓ : Loc nD τ sig) → Buf (Elt Ideal) ℓ) (c : Dev nD)

/-- The two arguments, as arrays. -/
abbrev H : FVec Ideal S4096x1024 .bf16 := m ((c : Thread nD τ).loc main_arg0)
abbrev Dg : FVec Ideal S4096x3072 .bf16 := m ((c : Thread nD τ).loc main_arg1)

theorem idxs : ∀ t : Fin cfg0.N, win0_0.index t (0 : Fin 2) = t.val % 4 ∧ win0_0.index t (1 : Fin 2) = t.val / 16
    ∧ win0_1.index t (0 : Fin 2) = t.val % 4 ∧ win0_1.index t (1 : Fin 2) = t.val / 4 % 4 :=
  (by decide +kernel : ∀ t : Fin grid0.N, win0_0.index t (0 : Fin 2) = t.val % 4 ∧ win0_0.index t (1 : Fin 2) = t.val / 16
    ∧ win0_1.index t (0 : Fin 2) = t.val % 4 ∧ win0_1.index t (1 : Fin 2) = t.val / 4 % 4)

/-- The point's block of the normed activations. -/
theorem blk0 (t : Fin cfg0.N) (r : Fin 1024) (k : Fin 512) (T : Fin 4096) (K : Fin 1024)
    (hT : T.val = 1024 * (t.val % 4) + r.val) (hK : K.val = 512 * (t.val / 16) + k.val) :
    iblk m c 0 t (ix2 r k) = H m c (ix2 T K) := by
  unfold iblk
  rw [View.read_apply]
  show V m c main_arg0 _ = m ((c : Thread nD τ).loc main_arg0) _
  unfold V
  congr 1
  funext a
  apply Fin.ext
  obtain ⟨e0, e1, e2, e3⟩ := idxs t
  match a with
  | ⟨0, _⟩ => show win0_0.index t (0 : Fin 2) * 1024 + 1 * r.val = T.val; rw [e0]; omega
  | ⟨1, _⟩ => show win0_0.index t (1 : Fin 2) * 512 + 1 * k.val = K.val; rw [e1]; omega

/-- The point's block of the incoming gradient. -/
theorem blk1 (t : Fin cfg0.N) (r : Fin 1024) (l : Fin 768) (T : Fin 4096) (N : Fin 3072)
    (hT : T.val = 1024 * (t.val % 4) + r.val) (hN : N.val = 768 * (t.val / 4 % 4) + l.val) :
    iblk m c 1 t (ix2 r l) = Dg m c (ix2 T N) := by
  unfold iblk
  rw [View.read_apply]
  show V m c main_arg1 _ = m ((c : Thread nD τ).loc main_arg1) _
  unfold V
  congr 1
  funext a
  apply Fin.ext
  obtain ⟨e0, e1, e2, e3⟩ := idxs t
  match a with
  | ⟨0, _⟩ => show win0_1.index t (0 : Fin 2) * 1024 + 1 * r.val = T.val; rw [e2]; omega
  | ⟨1, _⟩ => show win0_1.index t (1 : Fin 2) * 768 + 1 * l.val = N.val; rw [e3]; omega

/-- What point `n` adds to the scratch. -/
def add (n : ℕ) (j : S512x768.Idx) : EReal :=
  if h : n < cfg0.N then contrib (iblk m c 0 ⟨n, h⟩) (iblk m c 1 ⟨n, h⟩) j else 0

theorem step_apply (n : ℕ) (h : n < cfg0.N) (hn : ¬ n % 4 = 0) (acc : FVec Ideal S512x768 .f32) (j : S512x768.Idx) :
    scAt0_0 m c n h acc j = acc j + add m c n j := by
  unfold scAt0_0 add
  rw [dif_neg hn, dif_pos h]
  have e := eq_ix2 j
  split
  · rw [scr_C, e]; exact acc_apply ..
  · rw [scr_B, e]; exact acc_apply ..

theorem first_apply (n : ℕ) (h : n < cfg0.N) (hn : n % 4 = 0) (acc : FVec Ideal S512x768 .f32) (j : S512x768.Idx) :
    scAt0_0 m c n h acc j = 0 + add m c n j := by
  unfold scAt0_0 add
  rw [dif_pos hn, dif_neg (by omega), dif_pos h]
  have e := eq_ix2 j
  rw [scr_A, e]
  exact (acc_apply ..).trans (congrArg (· + _) (zero_apply ..))

/-- After point `t` the scratch holds the sum of its sweep's products so far. -/
theorem scr_eq (t : Fin cfg0.N) (j : S512x768.Idx) :
    (outsAt0 m c t.val t.isLt).2 j = 0 + ∑ s ∈ Finset.range (t.val % 4 + 1), add m c (4 * (t.val / 4) + s) j := by
  have hN : cfg0.N = 32 := N_0
  rw [soutsAt0_0_eq]
  exact Pipeline.accAt_add_apply _ _ (fun _ => 0) (add m c) (4 * (t.val / 4)) 3
    (fun h i => first_apply m c _ h (by omega) _ i)
    (fun n h acc i h1 h2 => step_apply m c n h (by omega) acc i) (t.val % 4) (by omega) _ j

/-- At the last point the window holds the scratch. -/
theorem outs (t : Fin cfg0.N) (h1 : t.val % 4 = 3) (r : Fin 512) (l : Fin 768) :
    (outsAt0 m c t.val t.isLt).1 (ix4 0 0 r l) = (outsAt0 m c t.val t.isLt).2 (ix2 r l) := by
  have h0 : ¬ t.val % 4 = 0 := by omega
  rw [outsAt0_C m c t h0 h1]
  dsimp only
  rw [out2, scr_C]
  exact fin_apply ..

/-- The weights' gradient: over all tokens. -/
theorem final (J : Fin 4) (I : Fin 2) (r : Fin 512) (l : Fin 768) (K : Fin 1024) (N : Fin 3072)
    (hK : K.val = 512 * I.val + r.val) (hN : N.val = 768 * J.val + l.val) :
    G2 m c (ix4 J I r l) = ∑ T : Fin 4096, H m c (ix2 T K) * Dg m c (ix2 T N) := by
  have hJ := J.isLt
  have hI := I.isLt
  have hr := r.isLt
  have hl := l.isLt
  have hN0 : cfg0.N = 32 := N_0
  have hp : pt2Of (ix4 J I r l) = 4 * (1 * (J.val / 1 - 0) + 4 * (I.val / 1 - 0) + 8 * (r.val / 512 - 0) + 8 * (l.val / 768 - 0)) + 3 := rfl
  have hp' : pt2Of (ix4 J I r l) = 4 * (J.val + 4 * I.val) + 3 := by rw [hp]; omega
  have hlt : pt2Of (ix4 J I r l) < cfg0.N := by rw [hp', hN0]; omega
  have hloc : loc2Of (ix4 J I r l) = ix4 0 0 r l := funext fun a => Fin.ext (by
    match a with
    | ⟨0, _⟩ => show J.val % 1 = 0; omega
    | ⟨1, _⟩ => show I.val % 1 = 0; omega
    | ⟨2, _⟩ => show r.val % 512 = r.val; omega
    | ⟨3, _⟩ => show l.val % 768 = l.val; omega)
  unfold G2
  rw [dif_pos hlt, ← outsAt0_sweep m c _ hlt, hloc]
  refine (outs m c ⟨pt2Of (ix4 J I r l), hlt⟩ (by dsimp only; omega) _ _).trans ?_
  refine (scr_eq m c ⟨pt2Of (ix4 J I r l), hlt⟩ _).trans ?_
  rw [zero_add]
  dsimp only
  rw [show pt2Of (ix4 J I r l) % 4 + 1 = 4 by omega, show 4 * (pt2Of (ix4 J I r l) / 4) = 4 * (J.val + 4 * I.val) by omega]
  let f : ℕ → EReal := fun n => if h : n < 4096 then H m c (ix2 (⟨n, h⟩ : Fin 4096) K) * Dg m c (ix2 (⟨n, h⟩ : Fin 4096) N) else 0
  refine Eq.trans (b := ∑ p ∈ Finset.range 4, ∑ q : Fin 1024, f (1024 * p + q.val)) ?_ ?_
  · refine Finset.sum_congr rfl fun p hp => ?_
    have hp := Finset.mem_range.mp hp
    unfold add
    have hq : 4 * (J.val + 4 * I.val) + p < cfg0.N := by rw [hN0]; omega
    rw [dif_pos hq, contrib_apply]
    refine Finset.sum_congr rfl fun q _ => ?_
    have hq' := q.isLt
    have hx : 1024 * p + q.val < 4096 := by omega
    show _ = dite _ _ _
    rw [dif_pos hx, blk0 m c _ q _ (⟨1024 * p + q.val, hx⟩ : Fin 4096) K (by dsimp only; omega) (by dsimp only; omega),
      blk1 m c _ q _ (⟨1024 * p + q.val, hx⟩ : Fin 4096) N (by dsimp only; omega) (by dsimp only; omega)]
  · rw [Cert.Reals.sum_runs 4 1024 f]
    exact Finset.sum_congr rfl fun T _ => dif_pos T.isLt

end Cert.TnOdIdeal.Closed

namespace Cert.TnOdClaim

open Idealize.ShloMosaic Idealize.SL.Sem Idealize.ShloMosaic.TcCoe Cert.TnOdRefIdeal Cert.TnOdRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) _⟩) (Cert.TnOdRefIdeal.Value.run m g)

theorem ref_apply (h : FVec Ideal S4096x1024 .bf16) (dg : FVec Ideal S4096x3072 .bf16) (J : Fin 4) (I : Fin 2) (r : Fin 512) (l : Fin 768)
    (K : Fin 1024) (N : Fin 3072) (hK : K.val = 512 * I.val + r.val) (hN : N.val = 768 * J.val + l.val) :
    val_main_v8 (F := Ideal) h dg (ix4 J I r l) = ∑ T : Fin 4096, dg (ix2 T N) * h (ix2 T K) := by
  have hJ := J.isLt
  have hI := I.isLt
  have hr := r.isLt
  have hl := l.isLt
  rw [val_main_v8_apply, val_main_v7_apply, val_main_v6_apply, val_main_v5_apply, val_main_v4_apply]
  refine Finset.sum_congr rfl fun T _ => congrArg₂ (· * · : EReal → EReal → EReal) ?_ ?_
  · rw [val_main_v3_apply]
    show dg _ = dg _
    refine congrArg dg ((eq_ix2 _).trans (congrArg (ix2 T) (Fin.ext ?_)))
    show ((((I.val * 512 + r.val) * 4 + J.val) * 768 + l.val) % 3072) = _
    omega
  · rw [val_main_v1_apply]
    show h _ = h _
    refine congrArg h ((eq_ix2 _).trans (congrArg (ix2 T) (Fin.ext ?_)))
    show ((((I.val * 512 + r.val) * 4 + J.val) * 768 + l.val) / 3072) = _
    omega

theorem weights (m : (ℓ : Loc Cert.TnOdIdeal.nD Cert.TnOdIdeal.τ Cert.TnOdIdeal.sig) → Buf (Elt Ideal) ℓ) (c : Dev Cert.TnOdIdeal.nD) :
    (Cert.TnOdIdeal.Value.G2 m c : S4x2x512x768.Idx → EReal)
      = val_main_v8 (F := Ideal) (Cert.TnOdIdeal.Closed.H m c) (Cert.TnOdIdeal.Closed.Dg m c) := by
  funext i
  obtain ⟨J, I, r, l, rfl⟩ : ∃ (J : Fin 4) (I : Fin 2) (r : Fin 512) (l : Fin 768), i = ix4 J I r l := ⟨_, _, _, _, eq_ix4 i⟩
  have hJ := J.isLt
  have hI := I.isLt
  have hr := r.isLt
  have hl := l.isLt
  have hK : 512 * I.val + r.val < 1024 := by omega
  have hN : 768 * J.val + l.val < 3072 := by omega
  have e : (∑ T : Fin 4096, Cert.TnOdIdeal.Closed.H m c (ix2 T (⟨_, hK⟩ : Fin 1024)) * Cert.TnOdIdeal.Closed.Dg m c (ix2 T (⟨_, hN⟩ : Fin 3072)) : EReal)
      = ∑ T : Fin 4096, Cert.TnOdIdeal.Closed.Dg m c (ix2 T (⟨_, hN⟩ : Fin 3072)) * Cert.TnOdIdeal.Closed.H m c (ix2 T (⟨_, hK⟩ : Fin 1024)) :=
    Finset.sum_congr rfl fun T _ => mul_comm (G := EReal) _ _
  exact (Cert.TnOdIdeal.Closed.final m c J I r l ⟨_, hK⟩ ⟨_, hN⟩ rfl rfl).trans
    (e.trans (ref_apply _ _ J I r l _ _ rfl rfl).symm)

theorem algebraic : Cert.algebraic_TnOdIdeal_TnOdRefIdeal := by
  intro m g m' g' _ hag
  refine ⟨fun c => Cert.TnOdIdeal.Value.G2 m c, Cert.TnOdIdeal.Value.run m g, ?_⟩
  refine (θ_run _ _ _).mono (fun r h c => ?_) (Cert.TnOdRefIdeal.Value.run m' g')
  obtain ⟨h1, h2⟩ := h c
  obtain ⟨e0, e1⟩ := hag c
  refine ⟨h1.trans ?_, h2⟩
  refine Eq.trans ?_ (weights m c).symm
  rw [e0, e1]
  exact val_main_v8_eq ..

end Cert.TnOdClaim

end
-- ==== Proof.TnQClaim.lean ====
/-
  Hand-written, untrusted. The gradient of a memory attention's query projection in its weight: the kernel adds up four products of 1024
  tokens each in its scratch and stores the sum; the reference takes one product over all 4096 tokens.
-/
module

public import proofs.«01_k».proof.Defs
public import proofs.«01_k».proof.Proof.Reals
public import proofs.«01_k».proof.Proof.Gen.TnQIdeal.Value
public import proofs.«01_k».proof.Proof.Gen.TnQRefIdeal.Run
public import proofs.«01_k».proof.Proof.Gen.TnQRefIdeal.Read
public import Idealize.ShloMosaic.Lib.Quiescent
public import Idealize.ShloMosaic.Lib.Pointwise
public import Idealize.ShloMosaic.Lib.Pointwise.Index

@[expose] public section

set_option maxRecDepth 16384

noncomputable section

namespace Cert.TnQIdeal.Closed

open Idealize.ShloMosaic Idealize.SL.Sem Cert.TnQIdeal Cert.TnQIdeal.Gen Idealize.ShloMosaic.TcCoe Cert.TnQIdeal.Value

theorem hz2 : (![0, 0] : Fin 2 → Nat) = fun _ => 0 := funext fun a => by fin_cases a <;> rfl

section Body

variable {F : FTy → Type} [FloatOps F]
  (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole)
  (x0 : Vec F S1024x1024 .bf16) (x1 : Vec F S1024x1024 .bf16) (xs : Vec F S1024x1024 .f32)

/-- First point: the scratch is zeroed, then the point's product is added. -/
theorem scr_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (fun _ => scover0_A_0 ..)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h6.read_unread, View.ld_unit_zero (S := S1024x1024) hz2]

/-- Later, the point's product is added to what the scratch held. -/
theorem scr_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (fun _ => scover0_B_0 ..)]
  unfold kernelRun0_B
  dsimp only
  sl_unfold_words
  rw [View.canon_unit_zero (S := S1024x1024) hz2]
  simp only [View.readAt_eq_ld, h3.read_unread, h4.read_unread, h6.read_unread, View.ld_unit_zero (S := S1024x1024) hz2]

/-- At the last point too. -/
theorem scr_C (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (fun _ => scover0_C_0 ..)]
  unfold kernelRun0_C
  dsimp only
  sl_unfold_words
  rw [View.canon_unit_zero (S := S1024x1024) hz2]
  simp only [View.readAt_eq_ld, h3.read_unread, h4.read_unread, h6.read_unread, View.ld_unit_zero (S := S1024x1024) hz2]

/-- The last point stores the scratch. -/
theorem out2 (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (fun _ => cover0_C_2 ..)]
  unfold kernelRun0_C
  dsimp only
  sl_unfold_words
  rw [View.canon_unit_zero (S := S1024x1024) hz2, View.readCov_unit_zero (S := S1024x1024) _ hz2]
  simp only [View.readAt_eq_ld, h3.read_unread, h4.read_unread, h6.read_unread, View.ld_unit_zero (S := S1024x1024) hz2]

end Body

section Pay

variable (x0 : FVec Ideal S1024x1024 .bf16) (x1 : FVec Ideal S1024x1024 .bf16) (acc : FVec Ideal S1024x1024 .f32)

/-- One point's product. -/
def contrib (j : S1024x1024.Idx) : EReal := ∑ k : Fin 1024, x0 (ix2 k (j 0)) * x1 (ix2 k (j 1))

theorem contrib_apply (r l : Fin 1024) : contrib x0 x1 (ix2 r l) = ∑ k : Fin 1024, x0 (ix2 k r) * x1 (ix2 k l) := rfl

theorem acc_apply (r l : Fin 1024) : k0_pay2 (F := Ideal) acc x0 x1 (ix2 r l) = acc (ix2 r l) + contrib x0 x1 (ix2 r l) := by
  unfold_payloads
  pointwise [contrib]

theorem zero_apply (r l : Fin 1024) : k0_pay1 (F := Ideal) (ix2 r l) = 0 := by
  unfold_payloads
  pointwise

theorem fin_apply (r l : Fin 1024) : k0_pay3 (F := Ideal) acc (ix2 r l) = acc (ix2 r l) := by
  unfold_payloads
  pointwise [Ideal.ofBits_one_f32, mul_one]

end Pay

variable (m : (ℓ : Loc nD τ sig) → Buf (Elt Ideal) ℓ) (c : Dev nD)

/-- The two arguments, as arrays. -/
abbrev O : FVec Ideal S4096x1024 .bf16 := m ((c : Thread nD τ).loc main_arg0)
abbrev D : FVec Ideal S4096x1024 .bf16 := m ((c : Thread nD τ).loc main_arg1)

theorem idxs : ∀ t : Fin cfg0.N, win0_0.index t (0 : Fin 2) = t.val % 4 ∧ win0_0.index t (1 : Fin 2) = 0
    ∧ win0_1.index t (0 : Fin 2) = t.val % 4 ∧ win0_1.index t (1 : Fin 2) = 0 :=
  (by decide +kernel : ∀ t : Fin grid0.N, win0_0.index t (0 : Fin 2) = t.val % 4 ∧ win0_0.index t (1 : Fin 2) = 0
    ∧ win0_1.index t (0 : Fin 2) = t.val % 4 ∧ win0_1.index t (1 : Fin 2) = 0)

/-- Block `t` of the normed stream. -/
theorem blk0 (t : Fin cfg0.N) (r : Fin 1024) (k : Fin 1024) (T : Fin 4096) (hT : T.val = 1024 * (t.val % 4) + r.val) :
    iblk m c 0 t (ix2 r k) = O m c (ix2 T k) := by
  unfold iblk
  rw [View.read_apply]
  show V m c main_arg0 _ = m ((c : Thread nD τ).loc main_arg0) _
  unfold V
  congr 1
  funext a
  apply Fin.ext
  obtain ⟨e0, e1, e2, e3⟩ := idxs t
  match a with
  | ⟨0, _⟩ => show win0_0.index t (0 : Fin 2) * 1024 + 1 * r.val = T.val; rw [e0]; omega
  | ⟨1, _⟩ => show win0_0.index t (1 : Fin 2) * 1024 + 1 * k.val = k.val; rw [e1]; omega

/-- Block `t` of the incoming gradient. -/
theorem blk1 (t : Fin cfg0.N) (r : Fin 1024) (k : Fin 1024) (T : Fin 4096) (hT : T.val = 1024 * (t.val % 4) + r.val) :
    iblk m c 1 t (ix2 r k) = D m c (ix2 T k) := by
  unfold iblk
  rw [View.read_apply]
  show V m c main_arg1 _ = m ((c : Thread nD τ).loc main_arg1) _
  unfold V
  congr 1
  funext a
  apply Fin.ext
  obtain ⟨e0, e1, e2, e3⟩ := idxs t
  match a with
  | ⟨0, _⟩ => show win0_1.index t (0 : Fin 2) * 1024 + 1 * r.val = T.val; rw [e2]; omega
  | ⟨1, _⟩ => show win0_1.index t (1 : Fin 2) * 1024 + 1 * k.val = k.val; rw [e3]; omega

/-- What point `n` adds to the scratch. -/
def add (n : ℕ) (j : S1024x1024.Idx) : EReal :=
  if h : n < cfg0.N then contrib (iblk m c 0 ⟨n, h⟩) (iblk m c 1 ⟨n, h⟩) j else 0

theorem step_apply (n : ℕ) (h : n < cfg0.N) (hn : ¬ n % 4 = 0) (acc : FVec Ideal S1024x1024 .f32) (j : S1024x1024.Idx) :
    scAt0_0 m c n h acc j = acc j + add m c n j := by
  unfold scAt0_0 add
  rw [dif_neg hn, dif_pos h]
  have e := eq_ix2 j
  split
  · rw [scr_C, e]; exact acc_apply ..
  · rw [scr_B, e]; exact acc_apply ..

theorem first_apply (n : ℕ) (h : n < cfg0.N) (hn : n % 4 = 0) (acc : FVec Ideal S1024x1024 .f32) (j : S1024x1024.Idx) :
    scAt0_0 m c n h acc j = 0 + add m c n j := by
  unfold scAt0_0 add
  rw [dif_pos hn, dif_neg (by omega), dif_pos h]
  have e := eq_ix2 j
  rw [scr_A, e]
  exact (acc_apply ..).trans (congrArg (· + _) (zero_apply ..))

/-- After point `t` the scratch holds the sum of its sweep's products so far. -/
theorem scr_eq (t : Fin cfg0.N) (j : S1024x1024.Idx) :
    (outsAt0 m c t.val t.isLt).2 j = 0 + ∑ s ∈ Finset.range (t.val % 4 + 1), add m c (4 * (t.val / 4) + s) j := by
  have hN : cfg0.N = 4 := N_0
  rw [soutsAt0_0_eq]
  exact Pipeline.accAt_add_apply _ _ (fun _ => 0) (add m c) (4 * (t.val / 4)) 3
    (fun h i => first_apply m c _ h (by omega) _ i)
    (fun n h acc i h1 h2 => step_apply m c n h (by omega) acc i) (t.val % 4) (by omega) _ j

/-- At the last point the window holds the scratch. -/
theorem outs (t : Fin cfg0.N) (h1 : t.val % 4 = 3) (r l : Fin 1024) :
    (outsAt0 m c t.val t.isLt).1 (ix2 r l) = (outsAt0 m c t.val t.isLt).2 (ix2 r l) := by
  have h0 : ¬ t.val % 4 = 0 := by omega
  rw [outsAt0_C m c t h0 h1]
  dsimp only
  rw [out2, scr_C]
  exact fin_apply ..

/-- The weight's gradient: over all tokens. -/
theorem final (K L : Fin 1024) : G2 m c (ix2 K L) = ∑ T : Fin 4096, O m c (ix2 T K) * D m c (ix2 T L) := by
  have hK := K.isLt
  have hL := L.isLt
  have hN : cfg0.N = 4 := N_0
  have hp : pt2Of (ix2 K L) = 4 * (1 * (K.val / 1024 - 0) + 1 * (L.val / 1024 - 0)) + 3 := rfl
  have hp' : pt2Of (ix2 K L) = 3 := by rw [hp]; omega
  have hlt : pt2Of (ix2 K L) < cfg0.N := by rw [hp', hN]; omega
  have hloc : loc2Of (ix2 K L) = ix2 K L := funext fun a => Fin.ext (by
    match a with
    | ⟨0, _⟩ => show K.val % 1024 = K.val; omega
    | ⟨1, _⟩ => show L.val % 1024 = L.val; omega)
  unfold G2
  rw [dif_pos hlt, ← outsAt0_sweep m c _ hlt, hloc]
  refine (outs m c ⟨pt2Of (ix2 K L), hlt⟩ (by dsimp only; omega) _ _).trans ?_
  refine (scr_eq m c ⟨pt2Of (ix2 K L), hlt⟩ _).trans ?_
  rw [zero_add]
  dsimp only
  rw [show pt2Of (ix2 K L) % 4 + 1 = 4 by omega, show 4 * (pt2Of (ix2 K L) / 4) = 0 by omega]
  let f : ℕ → EReal := fun n => if h : n < 4096 then O m c (ix2 (⟨n, h⟩ : Fin 4096) K) * D m c (ix2 (⟨n, h⟩ : Fin 4096) L) else 0
  refine Eq.trans (b := ∑ p ∈ Finset.range 4, ∑ q : Fin 1024, f (1024 * p + q.val)) ?_ ?_
  · refine Finset.sum_congr rfl fun p hp => ?_
    have hp := Finset.mem_range.mp hp
    unfold add
    have hq : 0 + p < cfg0.N := by rw [hN]; omega
    rw [dif_pos hq, contrib_apply]
    refine Finset.sum_congr rfl fun q _ => ?_
    have hq' := q.isLt
    have hx : 1024 * p + q.val < 4096 := by omega
    show _ = dite _ _ _
    rw [dif_pos hx, blk0 m c _ q _ (⟨1024 * p + q.val, hx⟩ : Fin 4096) (by dsimp only; omega),
      blk1 m c _ q _ (⟨1024 * p + q.val, hx⟩ : Fin 4096) (by dsimp only; omega)]
  · rw [Cert.Reals.sum_runs 4 1024 f]
    exact Finset.sum_congr rfl fun T _ => dif_pos T.isLt

end Cert.TnQIdeal.Closed

namespace Cert.TnQClaim

open Idealize.ShloMosaic Idealize.SL.Sem Idealize.ShloMosaic.TcCoe Cert.TnQRefIdeal Cert.TnQRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) _⟩) (Cert.TnQRefIdeal.Value.run m g)

theorem ref_apply (o d : FVec Ideal S4096x1024 .bf16) (K L : Fin 1024) :
    val_main_v6 (F := Ideal) o d (ix2 K L) = ∑ T : Fin 4096, d (ix2 T L) * o (ix2 T K) := by
  pointwise [val_main_v6, val_main_v5, val_main_v4, val_main_v3, val_main_v1]

theorem weights (m : (ℓ : Loc Cert.TnQIdeal.nD Cert.TnQIdeal.τ Cert.TnQIdeal.sig) → Buf (Elt Ideal) ℓ) (c : Dev Cert.TnQIdeal.nD) :
    (Cert.TnQIdeal.Value.G2 m c : S1024x1024.Idx → EReal)
      = val_main_v6 (F := Ideal) (Cert.TnQIdeal.Closed.O m c) (Cert.TnQIdeal.Closed.D m c) := by
  funext i
  obtain ⟨K, L, rfl⟩ : ∃ (K L : Fin 1024), i = ix2 K L := ⟨_, _, eq_ix2 i⟩
  have e : (∑ T : Fin 4096, Cert.TnQIdeal.Closed.O m c (ix2 T K) * Cert.TnQIdeal.Closed.D m c (ix2 T L) : EReal)
      = ∑ T : Fin 4096, Cert.TnQIdeal.Closed.D m c (ix2 T L) * Cert.TnQIdeal.Closed.O m c (ix2 T K) :=
    Finset.sum_congr rfl fun T _ => mul_comm (G := EReal) _ _
  exact (Cert.TnQIdeal.Closed.final m c K L).trans (e.trans (ref_apply _ _ K L).symm)

theorem algebraic : Cert.algebraic_TnQIdeal_TnQRefIdeal := by
  intro m g m' g' _ hag
  refine ⟨fun c => Cert.TnQIdeal.Value.G2 m c, Cert.TnQIdeal.Value.run m g, ?_⟩
  refine (θ_run _ _ _).mono (fun r h c => ?_) (Cert.TnQRefIdeal.Value.run m' g')
  obtain ⟨h1, h2⟩ := h c
  obtain ⟨e0, e1⟩ := hag c
  refine ⟨h1.trans ?_, h2⟩
  refine Eq.trans ?_ (weights m c).symm
  rw [e0, e1]
  exact val_main_v6_eq ..

end Cert.TnQClaim

end
-- ==== Proof.TnKvClaim.lean ====
/-
  Hand-written, untrusted. The gradient of the memory attention's key and value projection in its weight: for every block of 512
  features by 512 columns the kernel zeroes its scratch, adds the one product over the 256 memory tokens and stores it; the
  reference takes the whole product and cuts it into these blocks afterwards.
-/
module

public import proofs.«01_k».proof.Defs
public import proofs.«01_k».proof.Proof.Gen.TnKvIdeal.Value
public import proofs.«01_k».proof.Proof.Gen.TnKvRefIdeal.Run
public import proofs.«01_k».proof.Proof.Gen.TnKvRefIdeal.Read
public import Idealize.ShloMosaic.Lib.Quiescent
public import Idealize.ShloMosaic.Lib.Pointwise
public import Idealize.ShloMosaic.Lib.Pointwise.Index

@[expose] public section

set_option maxRecDepth 16384

noncomputable section

namespace Cert.TnKvIdeal.Closed

open Idealize.ShloMosaic Idealize.SL.Sem Cert.TnKvIdeal Cert.TnKvIdeal.Gen Idealize.ShloMosaic.TcCoe Cert.TnKvIdeal.Value

theorem hz2 : (![0, 0] : Fin 2 → Nat) = fun _ => 0 := funext fun a => by fin_cases a <;> rfl
theorem hz4 : (![0, 0, 0, 0] : Fin 4 → Nat) = fun _ => 0 := funext fun a => by fin_cases a <;> rfl

section Body

variable {F : FTy → Type} [FloatOps F]
  (c : Dev nD) (i : grid0.Coords) (a3 : Memref sig .tc .vmem S256x512 .bf16) (h3 : a3.IsWhole) (a4 : Memref sig .tc .vmem S256x512 .f32) (h4 : a4.IsWhole) (a5 : Memref sig .tc .vmem S1x1x512x512 .bf16) (h5 : a5.IsWhole) (a6 : Memref sig .tc .vmem S512x512 .f32) (h6 : a6.IsWhole)
  (x0 : Vec F S256x512 .bf16) (x1 : Vec F S256x512 .f32)

/-- The block a grid point stores, of its two input blocks. -/
def pay (x0 : Vec F S256x512 .bf16) (x1 : Vec F S256x512 .f32) : Vec F S1x1x512x512 .bf16 :=
  k0_pay3 (k0_pay2 (k0_pay1 (F := F)) x0 x1)

/-- What a grid point stores. -/
theorem out2 (hc0 : cond0_0 i) (hc1 : cond0_1 i) :
    out0_A_2 c i a3 h3 a4 h4 a5 h5 a6 h6 hc0 hc1 x0 x1 = pay x0 x1 := by
  unfold out0_A_2
  rw [View.read_writes_eq_canon _ _ _ (fun _ => cover0_A_2 ..)]
  unfold kernelRun0_A
  dsimp only
  sl_unfold_words
  rw [View.canon_unit_zero (S := S1x1x512x512) hz4, View.readCov_cons_toLoadRect, View.readCov_unit_zero (S := S512x512) _ hz2]
  simp only [View.readAt_eq_ld, h3.read_unread, h4.read_unread, View.ld_unit_zero (S := S256x512) hz2]
  rfl

end Body

/-- The stored block at an index. -/
theorem pay_apply (x0 : FVec Ideal S256x512 .bf16) (x1 : FVec Ideal S256x512 .f32) (r l : Fin 512) :
    pay (F := Ideal) x0 x1 (ix4 0 0 r l) = ∑ k, x0 (ix2 k r) * x1 (ix2 k l) := by
  unfold pay
  unfold_payloads
  pointwise [Ideal.ofBits_one_f32, mul_one, zero_add]

variable (m : (ℓ : Loc nD τ sig) → Buf (Elt Ideal) ℓ) (c : Dev nD)

/-- The two arguments, as arrays. -/
abbrev H : FVec Ideal S256x1024 .bf16 := m ((c : Thread nD τ).loc main_arg0)
abbrev Dg : FVec Ideal S256x2048 .f32 := m ((c : Thread nD τ).loc main_arg1)

theorem idxs : ∀ t : Fin cfg0.N, win0_0.index t (0 : Fin 2) = 0 ∧ win0_0.index t (1 : Fin 2) = t.val / 4
    ∧ win0_1.index t (0 : Fin 2) = 0 ∧ win0_1.index t (1 : Fin 2) = t.val % 4
    ∧ win0_2.index t (0 : Fin 4) = t.val % 4 ∧ win0_2.index t (1 : Fin 4) = t.val / 4
    ∧ win0_2.index t (2 : Fin 4) = 0 ∧ win0_2.index t (3 : Fin 4) = 0 :=
  (by decide +kernel : ∀ t : Fin grid0.N, win0_0.index t (0 : Fin 2) = 0 ∧ win0_0.index t (1 : Fin 2) = t.val / 4
    ∧ win0_1.index t (0 : Fin 2) = 0 ∧ win0_1.index t (1 : Fin 2) = t.val % 4
    ∧ win0_2.index t (0 : Fin 4) = t.val % 4 ∧ win0_2.index t (1 : Fin 4) = t.val / 4
    ∧ win0_2.index t (2 : Fin 4) = 0 ∧ win0_2.index t (3 : Fin 4) = 0)

/-- The point's block of the normed memory. -/
theorem blk0 (t : Fin cfg0.N) (k : Fin 256) (r : Fin 512) (K : Fin 1024) (hK : K.val = 512 * (t.val / 4) + r.val) :
    iblk m c 0 t (ix2 k r) = H m c (ix2 k K) := by
  unfold iblk
  rw [View.read_apply]
  show V m c main_arg0 _ = m ((c : Thread nD τ).loc main_arg0) _
  unfold V
  congr 1
  funext a
  apply Fin.ext
  obtain ⟨e0, e1, e2, e3, -⟩ := idxs t
  match a with
  | ⟨0, _⟩ => show win0_0.index t (0 : Fin 2) * 256 + 1 * k.val = k.val; rw [e0]; omega
  | ⟨1, _⟩ => show win0_0.index t (1 : Fin 2) * 512 + 1 * r.val = K.val; rw [e1]; omega

/-- The point's block of the incoming gradient. -/
theorem blk1 (t : Fin cfg0.N) (k : Fin 256) (l : Fin 512) (N : Fin 2048) (hN : N.val = 512 * (t.val % 4) + l.val) :
    iblk m c 1 t (ix2 k l) = Dg m c (ix2 k N) := by
  unfold iblk
  rw [View.read_apply]
  show V m c main_arg1 _ = m ((c : Thread nD τ).loc main_arg1) _
  unfold V
  congr 1
  funext a
  apply Fin.ext
  obtain ⟨e0, e1, e2, e3, -⟩ := idxs t
  match a with
  | ⟨0, _⟩ => show win0_1.index t (0 : Fin 2) * 256 + 1 * k.val = k.val; rw [e2]; omega
  | ⟨1, _⟩ => show win0_1.index t (1 : Fin 2) * 512 + 1 * l.val = N.val; rw [e3]; omega

/-- A feature of a block of 512, and a column of one. -/
def feat (I : Fin 2) (r : Fin 512) : Fin 1024 := ⟨512 * I.val + r.val, by have := I.isLt; have := r.isLt; omega⟩
def col (J : Fin 4) (l : Fin 512) : Fin 2048 := ⟨512 * J.val + l.val, by have := J.isLt; have := l.isLt; omega⟩

/-- The result: the whole product, in blocks. -/
def out (h : FVec Ideal S256x1024 .bf16) (d : FVec Ideal S256x2048 .f32) : FVec Ideal S4x2x512x512 .bf16 :=
  fun i => ∑ k : Fin 256, h (ix2 k (feat (i 1) (i 2))) * d (ix2 k (col (i 0) (i 3)))

/-- A point's block at an index. -/
theorem point_eq (t : Fin cfg0.N) (J : Fin 4) (I : Fin 2) (r l : Fin 512) (hJ : J.val = t.val % 4) (hI : I.val = t.val / 4) :
    pay (F := Ideal) (iblk m c 0 t) (iblk m c 1 t) (ix4 0 0 r l) = out (H m c) (Dg m c) (ix4 J I r l) := by
  refine (pay_apply _ _ _ _).trans ?_
  unfold out
  refine Finset.sum_congr rfl fun k _ => ?_
  rw [blk0 m c t k r (feat I r) (by show 512 * I.val + r.val = _; omega), blk1 m c t k l (col J l) (by show 512 * J.val + l.val = _; omega)]
  rfl

/-- What point `t` writes back is its block of the result. -/
theorem flushed_eq (t : Fin cfg0.N) :
    (dats m 0 c).flushed 2 t = ((cfg0.win 2).blk t).view.read (Elt Ideal) (out (H m c) (Dg m c)) := by
  rw [flushed2_A, out2]
  obtain ⟨-, -, -, -, e4, e5, e6, e7⟩ := idxs t
  funext y
  have hN : cfg0.N = 8 := N_0
  have ht := t.isLt
  have hy0 : (y 0).val < 1 := (y 0).isLt
  have hy1 : (y 1).val < 1 := (y 1).isLt
  have hy2 : (y 2).val < 512 := (y 2).isLt
  have hy3 : (y 3).val < 512 := (y 3).isLt
  have hb0 : (((cfg0.win 2).blk t).view.emb y 0).val = win0_2.index t (0 : Fin 4) * 1 + 1 * (y 0).val := rfl
  have hb1 : (((cfg0.win 2).blk t).view.emb y 1).val = win0_2.index t (1 : Fin 4) * 1 + 1 * (y 1).val := rfl
  have hb2 : (((cfg0.win 2).blk t).view.emb y 2).val = win0_2.index t (2 : Fin 4) * 512 + 1 * (y 2).val := rfl
  have hb3 : (((cfg0.win 2).blk t).view.emb y 3).val = win0_2.index t (3 : Fin 4) * 512 + 1 * (y 3).val := rfl
  have hl : (cfg0.win 2).xinj (grid0.coords t) y = ix4 0 0 (⟨(y 2).val, hy2⟩ : Fin 512) (⟨(y 3).val, hy3⟩ : Fin 512) :=
    funext fun a => Fin.ext (by
      match a with
      | ⟨0, _⟩ => show (y 0).val = 0; omega
      | ⟨1, _⟩ => show (y 1).val = 0; omega
      | ⟨2, _⟩ => rfl
      | ⟨3, _⟩ => rfl)
  have hr : ((cfg0.win 2).blk t).view.emb y = ix4 (⟨t.val % 4, by omega⟩ : Fin 4) (⟨t.val / 4, by omega⟩ : Fin 2) (⟨(y 2).val, hy2⟩ : Fin 512) (⟨(y 3).val, hy3⟩ : Fin 512) :=
    funext fun a => Fin.ext (by
      match a with
      | ⟨0, _⟩ => exact hb0.trans (by rw [e4]; show _ = t.val % 4; omega)
      | ⟨1, _⟩ => exact hb1.trans (by rw [e5]; show _ = t.val / 4; omega)
      | ⟨2, _⟩ => exact hb2.trans (by rw [e6]; show _ = (y 2).val; omega)
      | ⟨3, _⟩ => exact hb3.trans (by rw [e7]; show _ = (y 3).val; omega))
  show pay (F := Ideal) (iblk m c 0 t) (iblk m c 1 t) ((cfg0.win 2).xinj (grid0.coords t) y)
    = out (H m c) (Dg m c) (((cfg0.win 2).blk t).view.emb y)
  rw [hl, hr]
  exact point_eq m c t _ _ _ _ rfl rfl

/-- The points' blocks fill the result. -/
theorem covered (i : S4x2x512x512.Idx) : ∃ t : Fin cfg0.N, (cfg0.win 2).flush t = true ∧ i ∈ ((cfg0.win 2).blk t).view.set := by
  have hN : cfg0.N = 8 := N_0
  have hi0 : (i 0).val < 4 := (i 0).isLt
  have hi1 : (i 1).val < 2 := (i 1).isLt
  have hi2 : (i 2).val < 512 := (i 2).isLt
  have hi3 : (i 3).val < 512 := (i 3).isLt
  obtain ⟨t, ht⟩ : ∃ t : Fin cfg0.N, t.val = 4 * (i 1).val + (i 0).val := ⟨⟨4 * (i 1).val + (i 0).val, by omega⟩, rfl⟩
  refine ⟨t, (by decide +kernel : ∀ t : Fin grid0.N, win0_2.flush t = true) t, ?_⟩
  show i ∈ ((View.whole main_v0).slice (win0_2.rect t)).set
  rw [View.set_slice_whole, Rect.mem_set_unit]
  obtain ⟨-, -, -, -, e4, e5, e6, e7⟩ := idxs t
  intro a
  match a with
  | ⟨0, _⟩ => show win0_2.index t (0 : Fin 4) * 1 ≤ (i 0).val ∧ (i 0).val < win0_2.index t (0 : Fin 4) * 1 + 1; rw [e4]; omega
  | ⟨1, _⟩ => show win0_2.index t (1 : Fin 4) * 1 ≤ (i 1).val ∧ (i 1).val < win0_2.index t (1 : Fin 4) * 1 + 1; rw [e5]; omega
  | ⟨2, _⟩ => show win0_2.index t (2 : Fin 4) * 512 ≤ (i 2).val ∧ (i 2).val < win0_2.index t (2 : Fin 4) * 512 + 512; rw [e6]; omega
  | ⟨3, _⟩ => show win0_2.index t (3 : Fin 4) * 512 ≤ (i 3).val ∧ (i 3).val < win0_2.index t (3 : Fin 4) * 512 + 512; rw [e7]; omega

/-- The array after the run. -/
theorem final : (dats m 0 c).arrAt 2 cfg0.N = out (H m c) (Dg m c) :=
  (dats m 0 c).arrAt_eq_of_cover 2 _ (fun t _ => flushed_eq m c t) covered

end Cert.TnKvIdeal.Closed

namespace Cert.TnKvClaim

open Idealize.ShloMosaic Idealize.SL.Sem Idealize.ShloMosaic.TcCoe Cert.TnKvRefIdeal Cert.TnKvRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) _⟩) (Cert.TnKvRefIdeal.Value.run m g)

theorem ref_apply (h : FVec Ideal S256x1024 .bf16) (dg : FVec Ideal S256x2048 .f32) (J : Fin 4) (I : Fin 2) (r l : Fin 512)
    (K : Fin 1024) (N : Fin 2048) (hK : K.val = 512 * I.val + r.val) (hN : N.val = 512 * J.val + l.val) :
    val_main_v7 (F := Ideal) h dg (ix4 J I r l) = ∑ T : Fin 256, dg (ix2 T N) * h (ix2 T K) := by
  have hJ := J.isLt
  have hI := I.isLt
  have hr := r.isLt
  have hl := l.isLt
  rw [val_main_v7_apply, val_main_v6_apply, val_main_v5_apply, val_main_v4_apply, val_main_v3_apply]
  refine Finset.sum_congr rfl fun T _ => congrArg₂ (· * · : EReal → EReal → EReal) ?_ ?_
  · show dg _ = dg _
    refine congrArg dg ((eq_ix2 _).trans (congrArg (ix2 T) (Fin.ext ?_)))
    show ((((I.val * 512 + r.val) * 4 + J.val) * 512 + l.val) % 2048) = _
    omega
  · rw [val_main_v1_apply]
    show h _ = h _
    refine congrArg h ((eq_ix2 _).trans (congrArg (ix2 T) (Fin.ext ?_)))
    show ((((I.val * 512 + r.val) * 4 + J.val) * 512 + l.val) / 2048) = _
    omega

theorem weights (h : FVec Ideal S256x1024 .bf16) (dg : FVec Ideal S256x2048 .f32) :
    Cert.TnKvIdeal.Closed.out h dg = val_main_v7 (F := Ideal) h dg := by
  funext i
  obtain ⟨J, I, r, l, rfl⟩ : ∃ (J : Fin 4) (I : Fin 2) (r l : Fin 512), i = ix4 J I r l := ⟨_, _, _, _, eq_ix4 i⟩
  refine Eq.trans ?_ (ref_apply h dg J I r l (Cert.TnKvIdeal.Closed.feat I r) (Cert.TnKvIdeal.Closed.col J l) rfl rfl).symm
  unfold Cert.TnKvIdeal.Closed.out
  exact Finset.sum_congr rfl fun T _ => mul_comm (G := EReal) _ _

theorem algebraic : Cert.algebraic_TnKvIdeal_TnKvRefIdeal := by
  intro m g m' g' _ hag
  refine ⟨fun c => Cert.TnKvIdeal.Closed.out (Cert.TnKvIdeal.Closed.H m c) (Cert.TnKvIdeal.Closed.Dg m c), ?_, ?_⟩
  · exact (θ_run _ _ _).mono (fun r h c => ⟨(h c).1.trans (Cert.TnKvIdeal.Closed.final m c), (h c).2⟩) (Cert.TnKvIdeal.Value.run_blocks m g)
  refine (θ_run _ _ _).mono (fun r h c => ?_) (Cert.TnKvRefIdeal.Value.run m' g')
  obtain ⟨h1, h2⟩ := h c
  obtain ⟨e0, e1⟩ := hag c
  refine ⟨h1.trans ?_, h2⟩
  refine Eq.trans ?_ (weights _ _).symm
  rw [e0, e1]
  exact val_main_v7_eq ..

end Cert.TnKvClaim

end
-- ==== Proof.NbEvClaim.lean ====
/-
  Hand-written, untrusted. The gradient of the even mixer's input: the kernel adds up, for a block of 512 tokens, two products of
  the projection's gradient with the weights, and at the second of them goes back through the normalisation. What it stores of the
  gain's gradient is summed over the eight blocks.
-/
module

public import proofs.«01_k».proof.Defs
public import proofs.«01_k».proof.Proof.Norm
public import proofs.«01_k».proof.Proof.Gen.Pre_finite_nbev
public import proofs.«01_k».proof.Proof.Gen.NbEvIdeal.Value
public import proofs.«01_k».proof.Proof.Gen.NbEvRefIdeal.Run
public import proofs.«01_k».proof.Proof.Gen.NbEvRefIdeal.Read
public import Idealize.ShloMosaic.Lib.Quiescent
public import Idealize.ShloMosaic.Lib.Pointwise
public import Idealize.ShloMosaic.Lib.Pointwise.Index

@[expose] public section

set_option maxRecDepth 16384

noncomputable section

namespace Cert.NbEvIdeal.Closed

open Idealize.ShloMosaic Idealize.SL.Sem Cert.NbEvIdeal Cert.NbEvIdeal.Gen Idealize.ShloMosaic.TcCoe Cert.NbEvIdeal.Value Cert.Norm

theorem hz2 : (![0, 0] : Fin 2 → Nat) = fun _ => 0 := funext fun a => by fin_cases a <;> rfl
theorem hz3 : (![0, 0, 0] : Fin 3 → Nat) = fun _ => 0 := funext fun a => by fin_cases a <;> rfl

section Body

variable {F : FTy → Type} [FloatOps F]
  (c : Dev nD) (i : grid0.Coords) (a2 : Memref sig .tc .vmem S512x1152 .bf16) (h2 : a2.IsWhole) (a3 : Memref sig .tc .vmem S1024x1152 .bf16) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (a8 : Memref sig .tc .vmem S1x1024 .f32) (h8 : a8.IsWhole) (a9 : Memref sig .tc .vmem S512x1024 .f32) (h9 : a9.IsWhole)
  (x0 : Vec F S512x1152 .bf16) (x1 : Vec F S1024x1152 .bf16) (x2 : Vec F S512x1024 .f32) (x3 : Vec F S1x1024 .f32) (x4 : Vec F S512x1024 .f32) (xo : Vec F S1x1024 .f32) (xs : Vec F S512x1024 .f32)

/-- First point: the scratch is zeroed, then the point's product is added. -/
theorem scr_A (hc0 : cond0_0 i) (hc1 : ¬cond0_1 i) :
    sout0_A_0 c i a2 h2 a3 h3 a4 h4 a5 h5 a6 h6 a7 h7 a8 h8 a9 h9 hc0 hc1 x0 x1 x2 x3 x4 = k0_pay2 (k0_pay1 (F := F)) x0 x1 := by
  unfold sout0_A_0
  rw [View.read_writes_eq_canon _ _ _ (fun _ => scover0_A_0 ..)]
  unfold kernelRun0_A
  dsimp only
  sl_unfold_words
  rw [View.canon_cons_unit_zero (S := S512x1024) hz2, View.readCov_unit_zero (S := S512x1024) _ hz2]
  simp only [View.readAt_eq_ld, h2.read_unread, h3.read_unread, h8.read_unread, h9.read_unread, View.ld_unit_zero (S := S512x1152) hz2, View.ld_unit_zero (S := S1024x1152) hz2, View.ld_unit_zero (S := S512x1024) hz2]

/-- Later, the point's product is added to what the scratch held. -/
theorem scr_B (hc0 : ¬cond0_0 i) (hc1 : cond0_1 i) (hc2 : cond0_2 i) (hc3 : ¬cond0_3 i) :
    sout0_B_0 c i a2 h2 a3 h3 a4 h4 a5 h5 a6 h6 a7 h7 a8 h8 a9 h9 hc0 hc1 hc2 hc3 x0 x1 x2 x3 x4 xs = k0_pay2 xs x0 x1 := by
  unfold sout0_B_0
  rw [View.read_writes_eq_canon _ _ _ (fun _ => scover0_B_0 ..)]
  unfold kernelRun0_B
  dsimp only
  sl_unfold_words
  rw [View.canon_unit_zero (S := S512x1024) hz2]
  simp only [View.readAt_eq_ld, h2.read_unread, h3.read_unread, h8.read_unread, h9.read_unread, View.ld_unit_zero (S := S512x1152) hz2, View.ld_unit_zero (S := S1024x1152) hz2, View.ld_unit_zero (S := S512x1024) hz2]

/-- Later, the point's product is added to what the scratch held. -/
theorem scr_C (hc0 : ¬cond0_0 i) (hc1 : cond0_1 i) (hc2 : ¬cond0_2 i) (hc3 : cond0_3 i) :
    sout0_C_0 c i a2 h2 a3 h3 a4 h4 a5 h5 a6 h6 a7 h7 a8 h8 a9 h9 hc0 hc1 hc2 hc3 x0 x1 x2 x3 x4 xo xs = k0_pay2 xs x0 x1 := by
  unfold sout0_C_0
  rw [View.read_writes_eq_canon _ _ _ (fun _ => scover0_C_0 ..)]
  unfold kernelRun0_C
  dsimp only
  sl_unfold_words
  rw [View.canon_unit_zero (S := S512x1024) hz2]
  simp only [View.readAt_eq_ld, h2.read_unread, h3.read_unread, h8.read_unread, h9.read_unread, View.ld_unit_zero (S := S512x1152) hz2, View.ld_unit_zero (S := S1024x1152) hz2, View.ld_unit_zero (S := S512x1024) hz2]

/-- The last point of a block of tokens stores the gradient through the normalisation. -/
theorem out5_B (hc0 : ¬cond0_0 i) (hc1 : cond0_1 i) (hc2 : cond0_2 i) (hc3 : ¬cond0_3 i) :
    out0_B_5 c i a2 h2 a3 h3 a4 h4 a5 h5 a6 h6 a7 h7 a8 h8 a9 h9 hc0 hc1 hc2 hc3 x0 x1 x2 x3 x4 xs = k0_pay5 x2 (k0_pay2 xs x0 x1) x3 x4 := by
  unfold out0_B_5
  rw [View.read_writes_eq_canon _ _ _ (fun _ => cover0_B_5 ..)]
  unfold kernelRun0_B
  dsimp only
  sl_unfold_words
  rw [View.canon_unit_zero (S := S512x1024) hz2, View.readCov_unit_zero (S := S512x1024) _ hz2]
  simp only [View.readAt_eq_ld, h2.read_unread, h3.read_unread, h4.read_unread, h5.read_unread, h6.read_unread, h8.read_unread, h9.read_unread, View.ld_unit_zero (S := S512x1152) hz2, View.ld_unit_zero (S := S1024x1152) hz2, View.ld_unit_zero (S := S512x1024) hz2, View.ld_unit_zero (S := S1x1024) hz2]

/-- The last point of a block of tokens stores the gradient through the normalisation. -/
theorem out5_C (hc0 : ¬cond0_0 i) (hc1 : cond0_1 i) (hc2 : ¬cond0_2 i) (hc3 : cond0_3 i) :
    out0_C_5 c i a2 h2 a3 h3 a4 h4 a5 h5 a6 h6 a7 h7 a8 h8 a9 h9 hc0 hc1 hc2 hc3 x0 x1 x2 x3 x4 xo xs = k0_pay5 x2 (k0_pay2 xs x0 x1) x3 x4 := by
  unfold out0_C_5
  rw [View.read_writes_eq_canon _ _ _ (fun _ => cover0_C_5 ..)]
  unfold kernelRun0_C
  dsimp only
  sl_unfold_words
  rw [View.canon_unit_zero (S := S512x1024) hz2, View.readCov_unit_zero (S := S512x1024) _ hz2]
  simp only [View.readAt_eq_ld, h2.read_unread, h3.read_unread, h4.read_unread, h5.read_unread, h6.read_unread, h8.read_unread, h9.read_unread, View.ld_unit_zero (S := S512x1152) hz2, View.ld_unit_zero (S := S1024x1152) hz2, View.ld_unit_zero (S := S512x1024) hz2, View.ld_unit_zero (S := S1x1024) hz2]

/-- The first block's part of the gain's gradient. -/
theorem out6_B (hc0 : ¬cond0_0 i) (hc1 : cond0_1 i) (hc2 : cond0_2 i) (hc3 : ¬cond0_3 i) :
    out0_B_6 c i a2 h2 a3 h3 a4 h4 a5 h5 a6 h6 a7 h7 a8 h8 a9 h9 hc0 hc1 hc2 hc3 x0 x1 x2 x3 x4 xs = k0_pay6 x2 (k0_pay2 xs x0 x1) := by
  unfold out0_B_6
  rw [View.read_writes_eq_canon _ _ _ (fun _ => cover0_B_6 ..)]
  unfold kernelRun0_B
  dsimp only
  sl_unfold_words
  rw [View.canon_unit_zero (S := S1x1024) hz2, View.readCov_unit_zero (S := S512x1024) _ hz2]
  simp only [View.readAt_eq_ld, h2.read_unread, h3.read_unread, h4.read_unread, h5.read_unread, h6.read_unread, h8.read_unread, h9.read_unread, View.ld_unit_zero (S := S512x1152) hz2, View.ld_unit_zero (S := S1024x1152) hz2, View.ld_unit_zero (S := S512x1024) hz2, View.ld_unit_zero (S := S1x1024) hz2]

/-- Later blocks add theirs. -/
theorem out6_C (hc0 : ¬cond0_0 i) (hc1 : cond0_1 i) (hc2 : ¬cond0_2 i) (hc3 : cond0_3 i) :
    out0_C_6 c i a2 h2 a3 h3 a4 h4 a5 h5 a6 h6 a7 h7 a8 h8 a9 h9 hc0 hc1 hc2 hc3 x0 x1 x2 x3 x4 xo xs = k0_pay7 x2 (k0_pay2 xs x0 x1) xo := by
  unfold out0_C_6
  rw [View.read_writes_eq_canon _ _ _ (fun _ => cover0_C_6 ..)]
  unfold kernelRun0_C
  dsimp only
  sl_unfold_words
  rw [View.canon_unit_zero (S := S1x1024) hz2, View.readCov_unit_zero (S := S512x1024) _ hz2]
  simp only [View.readAt_eq_ld, h2.read_unread, h3.read_unread, h4.read_unread, h5.read_unread, h6.read_unread, h8.read_unread, h9.read_unread, View.ld_unit_zero (S := S512x1152) hz2, View.ld_unit_zero (S := S1024x1152) hz2, View.ld_unit_zero (S := S512x1024) hz2, View.ld_unit_zero (S := S1x1024) hz2]

end Body

section Pay

variable (x0 : FVec Ideal S512x1152 .bf16) (x1 : FVec Ideal S1024x1152 .bf16) (x d acc : FVec Ideal S512x1024 .f32) (gn prev : FVec Ideal S1x1024 .f32)

/-- One point's product. -/
def contrib (j : S512x1024.Idx) : EReal := ∑ k : Fin 1152, x0 (ix2 (j 0) k) * x1 (ix2 (j 1) k)

theorem contrib_apply (r : Fin 512) (e : Fin 1024) :
    contrib x0 x1 (ix2 r e) = ∑ k : Fin 1152, x0 (ix2 r k) * x1 (ix2 e k) := rfl

theorem acc_apply (r : Fin 512) (e : Fin 1024) :
    k0_pay2 (F := Ideal) acc x0 x1 (ix2 r e) = acc (ix2 r e) + contrib x0 x1 (ix2 r e) := by
  unfold_payloads
  pointwise [contrib]

theorem zero_apply (r : Fin 512) (e : Fin 1024) : k0_pay1 (F := Ideal) (ix2 r e) = 0 := by
  unfold_payloads
  pointwise

theorem pay5_apply (r : Fin 512) (e : Fin 1024) :
    k0_pay5 (F := Ideal) x acc gn d (ix2 r e)
      = rr (fun l => x (ix2 r l)) * (acc (ix2 r e) * gn (ix2 0 e) - x (ix2 r e) * rr (fun l => x (ix2 r l))
          * Ideal.div (∑ k, acc (ix2 r k) * gn (ix2 0 k) * (x (ix2 r k) * rr (fun l => x (ix2 r l)))) (Ideal.ofBits .f32 0x44800000#32))
        + d (ix2 r e) := by
  unfold_payloads
  pointwise [rr]

theorem pay6_apply (e : Fin 1024) :
    k0_pay6 (F := Ideal) x acc (ix2 0 e) = ∑ r : Fin 512, acc (ix2 r e) * (x (ix2 r e) * rr (fun l => x (ix2 r l))) := by
  unfold_payloads
  pointwise [rr]

theorem pay7_apply (e : Fin 1024) :
    k0_pay7 (F := Ideal) x acc prev (ix2 0 e)
      = prev (ix2 0 e) + ∑ r : Fin 512, acc (ix2 r e) * (x (ix2 r e) * rr (fun l => x (ix2 r l))) := by
  unfold_payloads
  pointwise [rr]

end Pay

variable (m : (ℓ : Loc nD τ sig) → Buf (Elt Ideal) ℓ) (c : Dev nD)

/-- The arguments, as arrays. -/
abbrev Dg : FVec Ideal S4096x2304 .bf16 := m ((c : Thread nD τ).loc main_arg0)
abbrev W : FVec Ideal S1024x2304 .bf16 := m ((c : Thread nD τ).loc main_arg1)
abbrev X : FVec Ideal S4096x1024 .f32 := m ((c : Thread nD τ).loc main_arg2)
abbrev Gn : FVec Ideal S1x1024 .f32 := m ((c : Thread nD τ).loc main_arg3)
abbrev D : FVec Ideal S4096x1024 .f32 := m ((c : Thread nD τ).loc main_arg4)

theorem idxs : ∀ t : Fin cfg0.N, win0_0.index t (0 : Fin 2) = t.val / 2
    ∧ win0_0.index t (1 : Fin 2) = t.val % 2
    ∧ win0_1.index t (0 : Fin 2) = 0
    ∧ win0_1.index t (1 : Fin 2) = t.val % 2
    ∧ win0_2.index t (0 : Fin 2) = t.val / 2
    ∧ win0_2.index t (1 : Fin 2) = 0
    ∧ win0_3.index t (0 : Fin 2) = 0
    ∧ win0_3.index t (1 : Fin 2) = 0
    ∧ win0_4.index t (0 : Fin 2) = t.val / 2
    ∧ win0_4.index t (1 : Fin 2) = 0 :=
  (by decide +kernel : ∀ t : Fin grid0.N, win0_0.index t (0 : Fin 2) = t.val / 2
    ∧ win0_0.index t (1 : Fin 2) = t.val % 2
    ∧ win0_1.index t (0 : Fin 2) = 0
    ∧ win0_1.index t (1 : Fin 2) = t.val % 2
    ∧ win0_2.index t (0 : Fin 2) = t.val / 2
    ∧ win0_2.index t (1 : Fin 2) = 0
    ∧ win0_3.index t (0 : Fin 2) = 0
    ∧ win0_3.index t (1 : Fin 2) = 0
    ∧ win0_4.index t (0 : Fin 2) = t.val / 2
    ∧ win0_4.index t (1 : Fin 2) = 0)

/-- The point's block of the projection's gradient. -/
theorem blk0 (t : Fin cfg0.N) (r : Fin 512) (l : Fin 1152) (T : Fin 4096) (N : Fin 2304)
    (hT : T.val = 512 * (t.val / 2) + r.val) (hN : N.val = 1152 * (t.val % 2) + l.val) :
    iblk m c 0 t (ix2 r l) = Dg m c (ix2 T N) := by
  unfold iblk
  rw [View.read_apply]
  show V m c main_arg0 _ = m ((c : Thread nD τ).loc main_arg0) _
  unfold V
  congr 1
  funext a
  apply Fin.ext
  obtain ⟨e0, e1, -⟩ := idxs t
  match a with
  | ⟨0, _⟩ => show win0_0.index t (0 : Fin 2) * 512 + 1 * r.val = T.val; rw [e0]; omega
  | ⟨1, _⟩ => show win0_0.index t (1 : Fin 2) * 1152 + 1 * l.val = N.val; rw [e1]; omega

/-- The point's block of the weights. -/
theorem blk1 (t : Fin cfg0.N) (e : Fin 1024) (l : Fin 1152) (N : Fin 2304) (hN : N.val = 1152 * (t.val % 2) + l.val) :
    iblk m c 1 t (ix2 e l) = W m c (ix2 e N) := by
  unfold iblk
  rw [View.read_apply]
  show V m c main_arg1 _ = m ((c : Thread nD τ).loc main_arg1) _
  unfold V
  congr 1
  funext a
  apply Fin.ext
  obtain ⟨-, -, e0, e1, -⟩ := idxs t
  match a with
  | ⟨0, _⟩ => show win0_1.index t (0 : Fin 2) * 1024 + 1 * e.val = e.val; rw [e0]; omega
  | ⟨1, _⟩ => show win0_1.index t (1 : Fin 2) * 1152 + 1 * l.val = N.val; rw [e1]; omega

/-- The point's block of the activations. -/
theorem blk2 (t : Fin cfg0.N) (r : Fin 512) (e : Fin 1024) (T : Fin 4096) (hT : T.val = 512 * (t.val / 2) + r.val) :
    iblk m c 2 t (ix2 r e) = X m c (ix2 T e) := by
  unfold iblk
  rw [View.read_apply]
  show V m c main_arg2 _ = m ((c : Thread nD τ).loc main_arg2) _
  unfold V
  congr 1
  funext a
  apply Fin.ext
  obtain ⟨-, -, -, -, e0, e1, -⟩ := idxs t
  match a with
  | ⟨0, _⟩ => show win0_2.index t (0 : Fin 2) * 512 + 1 * r.val = T.val; rw [e0]; omega
  | ⟨1, _⟩ => show win0_2.index t (1 : Fin 2) * 1024 + 1 * e.val = e.val; rw [e1]; omega

/-- The gain. -/
theorem blk3 (t : Fin cfg0.N) (e : Fin 1024) : iblk m c 3 t (ix2 0 e) = Gn m c (ix2 0 e) := by
  unfold iblk
  rw [View.read_apply]
  show V m c main_arg3 _ = m ((c : Thread nD τ).loc main_arg3) _
  unfold V
  congr 1
  funext a
  apply Fin.ext
  obtain ⟨-, -, -, -, -, -, e0, e1, -⟩ := idxs t
  match a with
  | ⟨0, _⟩ => show win0_3.index t (0 : Fin 2) * 1 + 1 * 0 = 0; rw [e0]
  | ⟨1, _⟩ => show win0_3.index t (1 : Fin 2) * 1024 + 1 * e.val = e.val; rw [e1]; omega

/-- The point's block of the gradient that comes past the mixer. -/
theorem blk4 (t : Fin cfg0.N) (r : Fin 512) (e : Fin 1024) (T : Fin 4096) (hT : T.val = 512 * (t.val / 2) + r.val) :
    iblk m c 4 t (ix2 r e) = D m c (ix2 T e) := by
  unfold iblk
  rw [View.read_apply]
  show V m c main_arg4 _ = m ((c : Thread nD τ).loc main_arg4) _
  unfold V
  congr 1
  funext a
  apply Fin.ext
  obtain ⟨-, -, -, -, -, -, -, -, e0, e1⟩ := idxs t
  match a with
  | ⟨0, _⟩ => show win0_4.index t (0 : Fin 2) * 512 + 1 * r.val = T.val; rw [e0]; omega
  | ⟨1, _⟩ => show win0_4.index t (1 : Fin 2) * 1024 + 1 * e.val = e.val; rw [e1]; omega

/-- What point `n` adds to the scratch. -/
def add (n : ℕ) (j : S512x1024.Idx) : EReal :=
  if h : n < cfg0.N then contrib (iblk m c 0 ⟨n, h⟩) (iblk m c 1 ⟨n, h⟩) j else 0

theorem step_apply (n : ℕ) (h : n < cfg0.N) (hn : ¬ n % 2 = 0) (acc : FVec Ideal S512x1024 .f32) (j : S512x1024.Idx) :
    scAt0_0 m c n h acc j = acc j + add m c n j := by
  unfold scAt0_0 add
  rw [dif_neg hn, dif_pos h]
  have e := eq_ix2 j
  rw [dif_pos (by omega)]
  split
  · rw [dif_neg (by omega), scr_B, e]; exact acc_apply ..
  · rw [dif_pos (by omega), scr_C, e]; exact acc_apply ..

theorem first_apply (n : ℕ) (h : n < cfg0.N) (hn : n % 2 = 0) (acc : FVec Ideal S512x1024 .f32) (j : S512x1024.Idx) :
    scAt0_0 m c n h acc j = 0 + add m c n j := by
  unfold scAt0_0 add
  rw [dif_pos hn, dif_neg (by omega), dif_pos h]
  have e := eq_ix2 j
  rw [scr_A, e]
  exact (acc_apply ..).trans (congrArg (· + _) (zero_apply ..))

/-- After point `t` the scratch holds the sum of its sweep's products so far. -/
theorem scr_eq (t : Fin cfg0.N) (j : S512x1024.Idx) :
    (outsAt0 m c t.val t.isLt).2.2 j = 0 + ∑ s ∈ Finset.range (t.val % 2 + 1), add m c (2 * (t.val / 2) + s) j := by
  have hN : cfg0.N = 16 := N_0
  rw [soutsAt0_0_eq]
  exact Pipeline.accAt_add_apply _ _ (fun _ => 0) (add m c) (2 * (t.val / 2)) 1
    (fun h i => first_apply m c _ h (by omega) _ i)
    (fun n h acc i h1 h2 => step_apply m c n h (by omega) acc i) (t.val % 2) (by omega) _ j

/-- The product of the projection's gradient with the weights, over all columns. -/
def dh (T : Fin 4096) (e : Fin 1024) : EReal :=
  ∑ n : Fin 2304, Dg m c (ix2 T n) * W m c (ix2 e n)

/-- At the last point of a block the scratch holds that product. -/
theorem scr_dh (t : Fin cfg0.N) (h1 : t.val % 2 = 1) (r : Fin 512) (e : Fin 1024) (T : Fin 4096) (hT : T.val = 512 * (t.val / 2) + r.val) :
    (outsAt0 m c t.val t.isLt).2.2 (ix2 r e) = dh m c T e := by
  have hN0 : cfg0.N = 16 := N_0
  have ht := t.isLt
  rw [scr_eq, zero_add, h1]
  unfold dh
  let f : ℕ → EReal := fun n => if h : n < 2304 then Dg m c (ix2 T (⟨n, h⟩ : Fin 2304)) * W m c (ix2 e (⟨n, h⟩ : Fin 2304)) else 0
  refine Eq.trans (b := ∑ p ∈ Finset.range 2, ∑ q : Fin 1152, f (1152 * p + q.val)) ?_ ?_
  · refine Finset.sum_congr rfl fun p hp => ?_
    have hp := Finset.mem_range.mp hp
    unfold add
    have hq : 2 * (t.val / 2) + p < cfg0.N := by omega
    rw [dif_pos hq, contrib_apply]
    refine Finset.sum_congr rfl fun q _ => ?_
    have hq' := q.isLt
    have hx : 1152 * p + q.val < 2304 := by omega
    show _ = dite _ _ _
    rw [dif_pos hx, blk0 m c _ r q T (⟨1152 * p + q.val, hx⟩ : Fin 2304) (by dsimp only; omega) (by dsimp only; omega),
      blk1 m c _ e q (⟨1152 * p + q.val, hx⟩ : Fin 2304) (by dsimp only; omega)]
  · rw [Cert.Reals.sum_runs 2 1152 f]
    exact Finset.sum_congr rfl fun n _ => dif_pos n.isLt

/-- What the kernel stores of the input's gradient. -/
def dxT (T : Fin 4096) (e : Fin 1024) : EReal :=
  rr (fun l => X m c (ix2 T l)) * (dh m c T e * Gn m c (ix2 0 e) - X m c (ix2 T e) * rr (fun l => X m c (ix2 T l))
      * Ideal.div (∑ k, dh m c T k * Gn m c (ix2 0 k) * (X m c (ix2 T k) * rr (fun l => X m c (ix2 T l)))) (Ideal.ofBits .f32 0x44800000#32))
    + D m c (ix2 T e)

/-- At the last point of a block, the first window. -/
theorem outs5 (t : Fin cfg0.N) (h1 : t.val % 2 = 1) (r : Fin 512) (e : Fin 1024) (T : Fin 4096) (hT : T.val = 512 * (t.val / 2) + r.val) :
    (outsAt0 m c t.val t.isLt).1 (ix2 r e) = dxT m c T e := by
  have h0 : ¬ t.val % 2 = 0 := by omega
  have key : (outsAt0 m c t.val t.isLt).1 = k0_pay5 (F := Ideal) (iblk m c 2 t) (outsAt0 m c t.val t.isLt).2.2 (iblk m c 3 t) (iblk m c 4 t) := by
    by_cases h2 : t.val < 2
    · rw [outsAt0_B m c t h0 h1 h2 (by omega)]
      dsimp only
      rw [out5_B, scr_B]
    · rw [outsAt0_C m c t h0 h1 h2 (by omega)]
      dsimp only
      rw [out5_C, scr_C]
  rw [key, pay5_apply]
  unfold dxT
  simp only [scr_dh m c t h1 r _ T hT, blk2 m c t r _ T hT, blk3, blk4 m c t r _ T hT]

/-- The point's block of the activations, as an array. -/
abbrev xB (t : Fin cfg0.N) : FVec Ideal S512x1024 .f32 := iblk m c 2 t

/-- A block's part of the gain's gradient. -/
def part (s : ℕ) (e : Fin 1024) : EReal :=
  ∑ r : Fin 512, (if h : 512 * s + r.val < 4096 then dh m c ⟨512 * s + r.val, h⟩ e * (X m c (ix2 (⟨512 * s + r.val, h⟩ : Fin 4096) e) * rr (fun l => X m c (ix2 (⟨512 * s + r.val, h⟩ : Fin 4096) l))) else 0)

theorem part_eq (t : Fin cfg0.N) (h1 : t.val % 2 = 1) (e : Fin 1024) :
    (∑ r : Fin 512, ((outsAt0 m c t.val t.isLt).2.2 (ix2 r e) : EReal) * (xB m c t (ix2 r e) * rr (fun l => xB m c t (ix2 r l))) : EReal) = part m c (t.val / 2) e := by
  have hN0 : cfg0.N = 16 := N_0
  have ht := t.isLt
  unfold part
  refine Finset.sum_congr rfl fun r _ => ?_
  have hr := r.isLt
  have hx : 512 * (t.val / 2) + r.val < 4096 := by omega
  rw [dif_pos hx, scr_dh m c t h1 r e ⟨_, hx⟩ rfl]
  simp only [xB, blk2 m c t r _ (⟨_, hx⟩ : Fin 4096) rfl]

/-- At a block's first point the second window is kept. -/
theorem keep (t : ℕ) (h : t + 1 < cfg0.N) (h0 : (t + 1) % 2 = 0) :
    (outsAt0 m c (t + 1) h).2.1 = (outsAt0 m c t (Nat.lt_of_succ_lt h)).2.1 := by
  rw [outsAt0_A m c ⟨t + 1, h⟩ h0 (by dsimp only; omega)]; rfl

/-- At the last point of block `s` the second window holds the parts so far. -/
theorem outs6 (e : Fin 1024) : ∀ (s : ℕ) (t : ℕ) (_ : t = 2 * s + 1) (h : t < cfg0.N),
    (outsAt0 m c t h).2.1 (ix2 0 e) = ∑ p ∈ Finset.range (s + 1), part m c p e := by
  intro s
  induction s with
  | zero =>
    intro t ht h
    have key := part_eq m c ⟨t, h⟩ (by dsimp only; omega) e
    dsimp only at key
    rw [show t / 2 = 0 by omega] at key
    rw [Finset.sum_range_one, ← key,
      outsAt0_B m c ⟨t, h⟩ (by dsimp only; omega) (by dsimp only; omega) (by dsimp only; omega) (by dsimp only; omega)]
    dsimp only
    rw [out6_B, scr_B]
    exact pay6_apply ..
  | succ s ih =>
    intro t ht h
    have key := part_eq m c ⟨t, h⟩ (by dsimp only; omega) e
    dsimp only at key
    obtain ⟨u, rfl⟩ : ∃ u, t = u + 1 + 1 := ⟨t - 2, by omega⟩
    have hu := ih u (by omega) (by omega)
    rw [show (u + 1 + 1) / 2 = s + 1 by omega] at key
    rw [Finset.sum_range_succ, ← key, ← hu,
      ← keep m c u (by omega) (by omega),
      outsAt0_C m c ⟨u + 1 + 1, h⟩ (by dsimp only; omega) (by dsimp only; omega) (by dsimp only; omega) (by dsimp only; omega)]
    dsimp only
    rw [out6_C, scr_C]
    exact pay7_apply ..

/-- The parts together. -/
theorem parts (e : Fin 1024) :
    (∑ p ∈ Finset.range (7 + 1), part m c p e : EReal) = ∑ T : Fin 4096, dh m c T e * (X m c (ix2 T e) * rr (fun l => X m c (ix2 T l))) := by
  unfold part
  rw [Cert.Reals.sum_runs 8 512 (fun n => if h : n < 4096 then dh m c ⟨n, h⟩ e * (X m c (ix2 (⟨n, h⟩ : Fin 4096) e) * rr (fun l => X m c (ix2 (⟨n, h⟩ : Fin 4096) l))) else 0)]
  exact Finset.sum_congr rfl fun T _ => dif_pos T.isLt

theorem final5 (T : Fin 4096) (e : Fin 1024) : G5 m c (ix2 T e) = dxT m c T e := by
  have hT := T.isLt
  have he := e.isLt
  have hN0 : cfg0.N = 16 := N_0
  have hp : pt5Of (ix2 T e) = 2 * (1 * (T.val / 512 - 0) + 1 * (e.val / 1024 - 0)) + 1 := rfl
  have hp' : pt5Of (ix2 T e) = 2 * (T.val / 512) + 1 := by rw [hp]; omega
  have hlt : pt5Of (ix2 T e) < cfg0.N := by rw [hp', hN0]; omega
  have hr : T.val % 512 < 512 := by omega
  have hloc : loc5Of (ix2 T e) = ix2 (⟨T.val % 512, hr⟩ : Fin 512) e := funext fun a => Fin.ext (by
    match a with
    | ⟨0, _⟩ => rfl
    | ⟨1, _⟩ => show e.val % 1024 = e.val; omega)
  unfold G5
  rw [dif_pos hlt, ← outsAt0_sweep m c _ hlt, hloc]
  exact outs5 m c ⟨pt5Of (ix2 T e), hlt⟩ (by dsimp only; omega) _ e T (by dsimp only; omega)

/-- The gain's gradient: over all tokens. -/
theorem final6 (e : Fin 1024) :
    (G6 m c (ix2 0 e) : EReal) = ∑ T : Fin 4096, dh m c T e * (X m c (ix2 T e) * rr (fun l => X m c (ix2 T l))) := by
  have he := e.isLt
  have hN0 : cfg0.N = 16 := N_0
  have hp : pt6Of (ix2 (0 : Fin 1) e) = 16 * (1 * (0 / 1 - 0) + 1 * (e.val / 1024 - 0)) + 15 := rfl
  have hp' : pt6Of (ix2 (0 : Fin 1) e) = 15 := by rw [hp]; omega
  have hlt : pt6Of (ix2 (0 : Fin 1) e) < cfg0.N := by rw [hp', hN0]; omega
  have hloc : loc6Of (ix2 (0 : Fin 1) e) = ix2 (0 : Fin 1) e := funext fun a => Fin.ext (by
    match a with
    | ⟨0, _⟩ => rfl
    | ⟨1, _⟩ => show e.val % 1024 = e.val; omega)
  unfold G6
  rw [dif_pos hlt, ← outsAt0_sweep m c _ hlt, hloc]
  exact (outs6 m c e 7 _ hp' hlt).trans (parts m c e)
end Cert.NbEvIdeal.Closed

namespace Cert.NbEvClaim

open Idealize.ShloMosaic Idealize.SL.Sem Idealize.ShloMosaic.TcCoe Cert.NbEvRefIdeal Cert.NbEvRefIdeal.Read Cert.Norm Cert.Reals

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems (by decide) _⟩) (Cert.NbEvRefIdeal.Value.run m g)

section Ref

variable (dg : FVec Ideal S4096x2304 .bf16) (w : FVec Ideal S1024x2304 .bf16) (x : FVec Ideal S4096x1024 .f32) (gn : FVec Ideal S1x1024 .f32) (d : FVec Ideal S4096x1024 .f32)

/-- The product over all columns. -/
def dh (T : Fin 4096) (e : Fin 1024) : EReal :=
  ∑ n : Fin 2304, dg (ix2 T n) * w (ix2 e n)

theorem dh_apply (T : Fin 4096) (e : Fin 1024) : val_main_v18 (F := Ideal) dg w (ix2 T e) = dh dg w T e := by
  unfold dh
  pointwise [val_main_v18, val_main_v17, val_main_v15]

theorem gain_apply (e : Fin 1024) :
    val_main_v21 (F := Ideal) dg w x (ix2 0 e) = ∑ T : Fin 4096, x (ix2 T e) * rr (fun l => x (ix2 T l)) * dh dg w T e := by
  have h : val_main_v21 (F := Ideal) dg w x (ix2 0 e) = ∑ T : Fin 4096, x (ix2 T e) * rr (fun l => x (ix2 T l)) * val_main_v18 (F := Ideal) dg w (ix2 T e) := by
    pointwise [rr, val_main_v21, val_main_v20, val_main_v19, val_main_v12, val_main_v11, val_main_v7, val_main_v6, val_main_v5, val_main_v4, val_main_v3, val_main_v2, val_main_v1, val_main_v0, val_main_cst, val_main_cst_0, val_main_cst_1, val_main_cst_3, Ideal.ofBits_zero_f32, zero_add]
  rw [h]
  simp only [dh_apply]

theorem dx_apply (T : Fin 4096) (e : Fin 1024) :
    val_main_v38 (F := Ideal) dg w x gn d (ix2 T e)
      = d (ix2 T e) + dh dg w T e * gn (ix2 0 e) * rr (fun l => x (ix2 T l))
        + x (ix2 T e) * side (fun l => x (ix2 T l)) (fun l => gn (ix2 0 l)) (fun l => dh dg w T l)
        + side (fun l => x (ix2 T l)) (fun l => gn (ix2 0 l)) (fun l => dh dg w T l) * x (ix2 T e) := by
  have h : val_main_v38 (F := Ideal) dg w x gn d (ix2 T e)
      = d (ix2 T e) + val_main_v18 (F := Ideal) dg w (ix2 T e) * gn (ix2 0 e) * rr (fun l => x (ix2 T l))
        + x (ix2 T e) * side (fun l => x (ix2 T l)) (fun l => gn (ix2 0 l)) (fun l => val_main_v18 (F := Ideal) dg w (ix2 T l))
        + side (fun l => x (ix2 T l)) (fun l => gn (ix2 0 l)) (fun l => val_main_v18 (F := Ideal) dg w (ix2 T l)) * x (ix2 T e) := by
    pointwise [rr, side, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, Ideal.ofBits_zero_f32, zero_add]
    simp only [Finset.univ_unique, Finset.sum_singleton]
  rw [h]
  simp only [dh_apply]

end Ref

/-- The precondition says that the five arguments are real. -/
theorem finite (x0 : FVec Ideal Cert.NbEvIdeal.S4096x2304 .bf16) (x1 : FVec Ideal Cert.NbEvIdeal.S1024x2304 .bf16)
    (x2 : FVec Ideal Cert.NbEvIdeal.S4096x1024 .f32) (x3 : FVec Ideal Cert.NbEvIdeal.S1x1024 .f32) (x4 : FVec Ideal Cert.NbEvIdeal.S4096x1024 .f32)
    (h : ∀ j, Cert.Pre_finite_nbev.fn (F := Ideal) x0 x1 x2 x3 x4 j = 1#1) :
    (∃ f : Cert.NbEvIdeal.S4096x2304.Idx → ℝ, x0 = fun i => (f i : EReal)) ∧ (∃ f : Cert.NbEvIdeal.S1024x2304.Idx → ℝ, x1 = fun i => (f i : EReal))
      ∧ (∃ f : Cert.NbEvIdeal.S4096x1024.Idx → ℝ, x2 = fun i => (f i : EReal)) ∧ (∃ f : Cert.NbEvIdeal.S1x1024.Idx → ℝ, x3 = fun i => (f i : EReal))
      ∧ ∃ f : Cert.NbEvIdeal.S4096x1024.Idx → ℝ, x4 = fun i => (f i : EReal) := by
  have h := h (fun a => a.elim0)
  dsimp only [Cert.Pre_finite_nbev.fn, Cert.Pre_finite_nbev.fn_part1, andi] at h
  obtain ⟨h0123, h4⟩ := IntOp.andi_eq_one.mp h
  obtain ⟨h012, h3⟩ := IntOp.andi_eq_one.mp h0123
  obtain ⟨h01, h2⟩ := IntOp.andi_eq_one.mp h012
  obtain ⟨h0, h1⟩ := IntOp.andi_eq_one.mp h01
  exact ⟨exists_real _ fun i => real_of_cmp (Host.reduce_andi_all _ _ _ _ _ h0 i),
    exists_real _ fun i => real_of_cmp (Host.reduce_andi_all _ _ _ _ _ h1 i),
    exists_real _ fun i => real_of_cmp (Host.reduce_andi_all _ _ _ _ _ h2 i),
    exists_real _ fun i => real_of_cmp (Host.reduce_andi_all _ _ _ _ _ h3 i),
    exists_real _ fun i => real_of_cmp (Host.reduce_andi_all _ _ _ _ _ h4 i)⟩

/-- A product of real arrays is real. -/
theorem dh_real (dg : S4096x2304.Idx → ℝ) (w : S1024x2304.Idx → ℝ) (T : Fin 4096) :
    ∃ f : Fin 1024 → ℝ, ∀ e, dh (fun i => (dg i : EReal)) (fun i => (w i : EReal)) T e = ((f e : ℝ) : EReal) := by
  refine ⟨fun e => ∑ n : Fin 2304, dg (ix2 T n) * w (ix2 e n), fun e => ?_⟩
  unfold dh
  simp only [← EReal.coe_mul, coe_sum]

variable (m : (ℓ : Loc Cert.NbEvIdeal.nD Cert.NbEvIdeal.τ Cert.NbEvIdeal.sig) → Buf (Elt Ideal) ℓ) (c : Dev Cert.NbEvIdeal.nD)

open Cert.NbEvIdeal.Closed (Dg W X Gn D)

/-- The gain's gradient. -/
theorem gain :
    (Cert.NbEvIdeal.Value.G6 m c : S1x1024.Idx → EReal) = val_main_v21 (F := Ideal) (Dg m c) (W m c) (X m c) := by
  funext i
  obtain ⟨z, e, rfl⟩ : ∃ (z : Fin 1) (e : Fin 1024), i = ix2 z e := ⟨_, _, eq_ix2 i⟩
  obtain rfl : z = 0 := Subsingleton.elim _ _
  have h : (∑ T : Fin 4096, Cert.NbEvIdeal.Closed.dh m c T e * (X m c (ix2 T e) * rr (fun l => X m c (ix2 T l))) : EReal)
      = ∑ T : Fin 4096, X m c (ix2 T e) * rr (fun l => X m c (ix2 T l)) * dh (Dg m c) (W m c) T e :=
    Finset.sum_congr rfl fun T _ => mul_comm (G := EReal) _ _
  exact (Cert.NbEvIdeal.Closed.final6 m c e).trans (h.trans (gain_apply _ _ _ e).symm)

/-- The input's gradient. -/
theorem input (dg : S4096x2304.Idx → ℝ) (w : S1024x2304.Idx → ℝ) (x : S4096x1024.Idx → ℝ) (gn : S1x1024.Idx → ℝ) (d : S4096x1024.Idx → ℝ)
    (h0 : Dg m c = fun i => (dg i : EReal)) (h1 : W m c = fun i => (w i : EReal)) (h2 : X m c = fun i => (x i : EReal))
    (h3 : Gn m c = fun i => (gn i : EReal)) (h4 : D m c = fun i => (d i : EReal)) :
    (Cert.NbEvIdeal.Value.G5 m c : S4096x1024.Idx → EReal) = val_main_v38 (F := Ideal) (Dg m c) (W m c) (X m c) (Gn m c) (D m c) := by
  funext i
  obtain ⟨T, e, rfl⟩ : ∃ (T : Fin 4096) (e : Fin 1024), i = ix2 T e := ⟨_, _, eq_ix2 i⟩
  refine (Cert.NbEvIdeal.Closed.final5 m c T e).trans (Eq.trans ?_ (dx_apply _ _ _ _ _ T e).symm)
  obtain ⟨f, hf⟩ := dh_real dg w T
  have hk : ∀ e, Cert.NbEvIdeal.Closed.dh m c T e = ((f e : ℝ) : EReal) := fun e => by
    rw [← hf e, ← h0, ← h1]; rfl
  unfold Cert.NbEvIdeal.Closed.dxT
  rw [h0, h1, h2, h3, h4]
  simp only [hk, hf]
  exact back_join (fun l => x (ix2 T l)) (fun l => gn (ix2 0 l)) f (d (ix2 T e)) e

theorem algebraic : Cert.algebraic_NbEvIdeal_NbEvRefIdeal_pre_finite_nbev := by
  intro m g m' g' hpre hag
  refine ⟨fun c => Cert.NbEvIdeal.Value.G5 m c, fun c => Cert.NbEvIdeal.Value.G6 m c, Cert.NbEvIdeal.Value.run m g, ?_⟩
  refine (θ_run _ _ _).mono (fun r h c => ?_) (Cert.NbEvRefIdeal.Value.run m' g')
  obtain ⟨h1, h2, h3⟩ := h c
  obtain ⟨⟨dg, hdg⟩, ⟨w, hw⟩, ⟨x, hx⟩, ⟨gn, hgn⟩, ⟨d, hd⟩⟩ := finite _ _ _ _ _ (fun j => congrFun (hpre c) j)
  obtain ⟨e0, e1, e2, e3, e4⟩ := hag c
  refine ⟨h1.trans ?_, h2.trans ?_, h3⟩
  · refine Eq.trans ?_ (input m c dg w x gn d hdg hw hx hgn hd).symm
    refine (val_main_v38_eq m' c).trans ?_
    rw [e0, e1, e2, e3, e4]
  · refine Eq.trans ?_ (gain m c).symm
    rw [e0, e1, e2]
    exact val_main_v21_eq ..

end Cert.NbEvClaim

end
-- ==== Proof.NbOdClaim.lean ====
/-
  Hand-written, untrusted. The gradient of the odd mixer's input: the kernel adds up, for a block of 512 tokens, four products of
  the projection's gradient with the weights, and at the last of them goes back through the normalisation. What it stores of the
  gain's gradient is summed over the eight blocks.
-/
module

public import proofs.«01_k».proof.Defs
public import proofs.«01_k».proof.Proof.Norm
public import proofs.«01_k».proof.Proof.Gen.Pre_finite_nbod
public import proofs.«01_k».proof.Proof.Gen.NbOdIdeal.Value
public import proofs.«01_k».proof.Proof.Gen.NbOdRefIdeal.Run
public import proofs.«01_k».proof.Proof.Gen.NbOdRefIdeal.Read
public import Idealize.ShloMosaic.Lib.Quiescent
public import Idealize.ShloMosaic.Lib.Pointwise
public import Idealize.ShloMosaic.Lib.Pointwise.Index

@[expose] public section

set_option maxRecDepth 16384

noncomputable section

namespace Cert.NbOdIdeal.Closed

open Idealize.ShloMosaic Idealize.SL.Sem Cert.NbOdIdeal Cert.NbOdIdeal.Gen Idealize.ShloMosaic.TcCoe Cert.NbOdIdeal.Value Cert.Norm

theorem hz2 : (![0, 0] : Fin 2 → Nat) = fun _ => 0 := funext fun a => by fin_cases a <;> rfl
theorem hz3 : (![0, 0, 0] : Fin 3 → Nat) = fun _ => 0 := funext fun a => by fin_cases a <;> rfl

section Body

variable {F : FTy → Type} [FloatOps F]
  (c : Dev nD) (i : grid0.Coords) (a2 : Memref sig .tc .vmem S512x768 .bf16) (h2 : a2.IsWhole) (a3 : Memref sig .tc .vmem S1x1024x768 .bf16) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (a8 : Memref sig .tc .vmem S1x1024 .f32) (h8 : a8.IsWhole) (a9 : Memref sig .tc .vmem S512x1024 .f32) (h9 : a9.IsWhole)
  (x0 : Vec F S512x768 .bf16) (x1 : Vec F S1x1024x768 .bf16) (x2 : Vec F S512x1024 .f32) (x3 : Vec F S1x1024 .f32) (x4 : Vec F S512x1024 .f32) (xo : Vec F S1x1024 .f32) (xs : Vec F S512x1024 .f32)

/-- First point: the scratch is zeroed, then the point's product is added. -/
theorem scr_A (hc0 : cond0_0 i) (hc1 : ¬cond0_1 i) :
    sout0_A_0 c i a2 h2 a3 h3 a4 h4 a5 h5 a6 h6 a7 h7 a8 h8 a9 h9 hc0 hc1 x0 x1 x2 x3 x4 = k0_pay2 (k0_pay1 (F := F)) x0 x1 := by
  unfold sout0_A_0
  rw [View.read_writes_eq_canon _ _ _ (fun _ => scover0_A_0 ..)]
  unfold kernelRun0_A
  dsimp only
  sl_unfold_words
  rw [View.canon_cons_unit_zero (S := S512x1024) hz2, View.readCov_unit_zero (S := S512x1024) _ hz2]
  simp only [View.readAt_eq_ld, h2.read_unread, h3.read_unread, h8.read_unread, h9.read_unread, View.ld_unit_zero (S := S512x768) hz2, View.ld_unit_zero (S := S1x1024x768) hz3, View.ld_unit_zero (S := S512x1024) hz2]

/-- Later, the point's product is added to what the scratch held. -/
theorem scr_B (hc0 : ¬cond0_0 i) (hc1 : ¬cond0_1 i) :
    sout0_B_0 c i a2 h2 a3 h3 a4 h4 a5 h5 a6 h6 a7 h7 a8 h8 a9 h9 hc0 hc1 x0 x1 x2 x3 x4 xs = k0_pay2 xs x0 x1 := by
  unfold sout0_B_0
  rw [View.read_writes_eq_canon _ _ _ (fun _ => scover0_B_0 ..)]
  unfold kernelRun0_B
  dsimp only
  sl_unfold_words
  rw [View.canon_unit_zero (S := S512x1024) hz2]
  simp only [View.readAt_eq_ld, h2.read_unread, h3.read_unread, h8.read_unread, h9.read_unread, View.ld_unit_zero (S := S512x768) hz2, View.ld_unit_zero (S := S1x1024x768) hz3, View.ld_unit_zero (S := S512x1024) hz2]

/-- Later, the point's product is added to what the scratch held. -/
theorem scr_C (hc0 : ¬cond0_0 i) (hc1 : cond0_1 i) (hc2 : cond0_2 i) (hc3 : ¬cond0_3 i) :
    sout0_C_0 c i a2 h2 a3 h3 a4 h4 a5 h5 a6 h6 a7 h7 a8 h8 a9 h9 hc0 hc1 hc2 hc3 x0 x1 x2 x3 x4 xs = k0_pay2 xs x0 x1 := by
  unfold sout0_C_0
  rw [View.read_writes_eq_canon _ _ _ (fun _ => scover0_C_0 ..)]
  unfold kernelRun0_C
  dsimp only
  sl_unfold_words
  rw [View.canon_unit_zero (S := S512x1024) hz2]
  simp only [View.readAt_eq_ld, h2.read_unread, h3.read_unread, h8.read_unread, h9.read_unread, View.ld_unit_zero (S := S512x768) hz2, View.ld_unit_zero (S := S1x1024x768) hz3, View.ld_unit_zero (S := S512x1024) hz2]

/-- Later, the point's product is added to what the scratch held. -/
theorem scr_D (hc0 : ¬cond0_0 i) (hc1 : cond0_1 i) (hc2 : ¬cond0_2 i) (hc3 : cond0_3 i) :
    sout0_D_0 c i a2 h2 a3 h3 a4 h4 a5 h5 a6 h6 a7 h7 a8 h8 a9 h9 hc0 hc1 hc2 hc3 x0 x1 x2 x3 x4 xo xs = k0_pay2 xs x0 x1 := by
  unfold sout0_D_0
  rw [View.read_writes_eq_canon _ _ _ (fun _ => scover0_D_0 ..)]
  unfold kernelRun0_D
  dsimp only
  sl_unfold_words
  rw [View.canon_unit_zero (S := S512x1024) hz2]
  simp only [View.readAt_eq_ld, h2.read_unread, h3.read_unread, h8.read_unread, h9.read_unread, View.ld_unit_zero (S := S512x768) hz2, View.ld_unit_zero (S := S1x1024x768) hz3, View.ld_unit_zero (S := S512x1024) hz2]

/-- The last point of a block of tokens stores the gradient through the normalisation. -/
theorem out5_C (hc0 : ¬cond0_0 i) (hc1 : cond0_1 i) (hc2 : cond0_2 i) (hc3 : ¬cond0_3 i) :
    out0_C_5 c i a2 h2 a3 h3 a4 h4 a5 h5 a6 h6 a7 h7 a8 h8 a9 h9 hc0 hc1 hc2 hc3 x0 x1 x2 x3 x4 xs = k0_pay5 x2 (k0_pay2 xs x0 x1) x3 x4 := by
  unfold out0_C_5
  rw [View.read_writes_eq_canon _ _ _ (fun _ => cover0_C_5 ..)]
  unfold kernelRun0_C
  dsimp only
  sl_unfold_words
  rw [View.canon_unit_zero (S := S512x1024) hz2, View.readCov_unit_zero (S := S512x1024) _ hz2]
  simp only [View.readAt_eq_ld, h2.read_unread, h3.read_unread, h4.read_unread, h5.read_unread, h6.read_unread, h8.read_unread, h9.read_unread, View.ld_unit_zero (S := S512x768) hz2, View.ld_unit_zero (S := S1x1024x768) hz3, View.ld_unit_zero (S := S512x1024) hz2, View.ld_unit_zero (S := S1x1024) hz2]

/-- The last point of a block of tokens stores the gradient through the normalisation. -/
theorem out5_D (hc0 : ¬cond0_0 i) (hc1 : cond0_1 i) (hc2 : ¬cond0_2 i) (hc3 : cond0_3 i) :
    out0_D_5 c i a2 h2 a3 h3 a4 h4 a5 h5 a6 h6 a7 h7 a8 h8 a9 h9 hc0 hc1 hc2 hc3 x0 x1 x2 x3 x4 xo xs = k0_pay5 x2 (k0_pay2 xs x0 x1) x3 x4 := by
  unfold out0_D_5
  rw [View.read_writes_eq_canon _ _ _ (fun _ => cover0_D_5 ..)]
  unfold kernelRun0_D
  dsimp only
  sl_unfold_words
  rw [View.canon_unit_zero (S := S512x1024) hz2, View.readCov_unit_zero (S := S512x1024) _ hz2]
  simp only [View.readAt_eq_ld, h2.read_unread, h3.read_unread, h4.read_unread, h5.read_unread, h6.read_unread, h8.read_unread, h9.read_unread, View.ld_unit_zero (S := S512x768) hz2, View.ld_unit_zero (S := S1x1024x768) hz3, View.ld_unit_zero (S := S512x1024) hz2, View.ld_unit_zero (S := S1x1024) hz2]

/-- The first block's part of the gain's gradient. -/
theorem out6_C (hc0 : ¬cond0_0 i) (hc1 : cond0_1 i) (hc2 : cond0_2 i) (hc3 : ¬cond0_3 i) :
    out0_C_6 c i a2 h2 a3 h3 a4 h4 a5 h5 a6 h6 a7 h7 a8 h8 a9 h9 hc0 hc1 hc2 hc3 x0 x1 x2 x3 x4 xs = k0_pay6 x2 (k0_pay2 xs x0 x1) := by
  unfold out0_C_6
  rw [View.read_writes_eq_canon _ _ _ (fun _ => cover0_C_6 ..)]
  unfold kernelRun0_C
  dsimp only
  sl_unfold_words
  rw [View.canon_unit_zero (S := S1x1024) hz2, View.readCov_unit_zero (S := S512x1024) _ hz2]
  simp only [View.readAt_eq_ld, h2.read_unread, h3.read_unread, h4.read_unread, h5.read_unread, h6.read_unread, h8.read_unread, h9.read_unread, View.ld_unit_zero (S := S512x768) hz2, View.ld_unit_zero (S := S1x1024x768) hz3, View.ld_unit_zero (S := S512x1024) hz2, View.ld_unit_zero (S := S1x1024) hz2]

/-- Later blocks add theirs. -/
theorem out6_D (hc0 : ¬cond0_0 i) (hc1 : cond0_1 i) (hc2 : ¬cond0_2 i) (hc3 : cond0_3 i) :
    out0_D_6 c i a2 h2 a3 h3 a4 h4 a5 h5 a6 h6 a7 h7 a8 h8 a9 h9 hc0 hc1 hc2 hc3 x0 x1 x2 x3 x4 xo xs = k0_pay7 x2 (k0_pay2 xs x0 x1) xo := by
  unfold out0_D_6
  rw [View.read_writes_eq_canon _ _ _ (fun _ => cover0_D_6 ..)]
  unfold kernelRun0_D
  dsimp only
  sl_unfold_words
  rw [View.canon_unit_zero (S := S1x1024) hz2, View.readCov_unit_zero (S := S512x1024) _ hz2]
  simp only [View.readAt_eq_ld, h2.read_unread, h3.read_unread, h4.read_unread, h5.read_unread, h6.read_unread, h8.read_unread, h9.read_unread, View.ld_unit_zero (S := S512x768) hz2, View.ld_unit_zero (S := S1x1024x768) hz3, View.ld_unit_zero (S := S512x1024) hz2, View.ld_unit_zero (S := S1x1024) hz2]

end Body

section Pay

variable (x0 : FVec Ideal S512x768 .bf16) (x1 : FVec Ideal S1x1024x768 .bf16) (x d acc : FVec Ideal S512x1024 .f32) (gn prev : FVec Ideal S1x1024 .f32)

/-- One point's product. -/
def contrib (j : S512x1024.Idx) : EReal := ∑ k : Fin 768, x0 (ix2 (j 0) k) * x1 (ix3 0 (j 1) k)

theorem contrib_apply (r : Fin 512) (e : Fin 1024) :
    contrib x0 x1 (ix2 r e) = ∑ k : Fin 768, x0 (ix2 r k) * x1 (ix3 0 e k) := rfl

theorem acc_apply (r : Fin 512) (e : Fin 1024) :
    k0_pay2 (F := Ideal) acc x0 x1 (ix2 r e) = acc (ix2 r e) + contrib x0 x1 (ix2 r e) := by
  unfold_payloads
  pointwise [contrib]

theorem zero_apply (r : Fin 512) (e : Fin 1024) : k0_pay1 (F := Ideal) (ix2 r e) = 0 := by
  unfold_payloads
  pointwise

theorem pay5_apply (r : Fin 512) (e : Fin 1024) :
    k0_pay5 (F := Ideal) x acc gn d (ix2 r e)
      = rr (fun l => x (ix2 r l)) * (acc (ix2 r e) * gn (ix2 0 e) - x (ix2 r e) * rr (fun l => x (ix2 r l))
          * Ideal.div (∑ k, acc (ix2 r k) * gn (ix2 0 k) * (x (ix2 r k) * rr (fun l => x (ix2 r l)))) (Ideal.ofBits .f32 0x44800000#32))
        + d (ix2 r e) := by
  unfold_payloads
  pointwise [rr]

theorem pay6_apply (e : Fin 1024) :
    k0_pay6 (F := Ideal) x acc (ix2 0 e) = ∑ r : Fin 512, acc (ix2 r e) * (x (ix2 r e) * rr (fun l => x (ix2 r l))) := by
  unfold_payloads
  pointwise [rr]

theorem pay7_apply (e : Fin 1024) :
    k0_pay7 (F := Ideal) x acc prev (ix2 0 e)
      = prev (ix2 0 e) + ∑ r : Fin 512, acc (ix2 r e) * (x (ix2 r e) * rr (fun l => x (ix2 r l))) := by
  unfold_payloads
  pointwise [rr]

end Pay

variable (m : (ℓ : Loc nD τ sig) → Buf (Elt Ideal) ℓ) (c : Dev nD)

/-- The arguments, as arrays. -/
abbrev Dg : FVec Ideal S4096x3072 .bf16 := m ((c : Thread nD τ).loc main_arg0)
abbrev W : FVec Ideal S4x1024x768 .bf16 := m ((c : Thread nD τ).loc main_arg1)
abbrev X : FVec Ideal S4096x1024 .f32 := m ((c : Thread nD τ).loc main_arg2)
abbrev Gn : FVec Ideal S1x1024 .f32 := m ((c : Thread nD τ).loc main_arg3)
abbrev D : FVec Ideal S4096x1024 .f32 := m ((c : Thread nD τ).loc main_arg4)

theorem idxs : ∀ t : Fin cfg0.N, win0_0.index t (0 : Fin 2) = t.val / 4
    ∧ win0_0.index t (1 : Fin 2) = t.val % 4
    ∧ win0_1.index t (0 : Fin 3) = t.val % 4
    ∧ win0_1.index t (1 : Fin 3) = 0
    ∧ win0_1.index t (2 : Fin 3) = 0
    ∧ win0_2.index t (0 : Fin 2) = t.val / 4
    ∧ win0_2.index t (1 : Fin 2) = 0
    ∧ win0_3.index t (0 : Fin 2) = 0
    ∧ win0_3.index t (1 : Fin 2) = 0
    ∧ win0_4.index t (0 : Fin 2) = t.val / 4
    ∧ win0_4.index t (1 : Fin 2) = 0 :=
  (by decide +kernel : ∀ t : Fin grid0.N, win0_0.index t (0 : Fin 2) = t.val / 4
    ∧ win0_0.index t (1 : Fin 2) = t.val % 4
    ∧ win0_1.index t (0 : Fin 3) = t.val % 4
    ∧ win0_1.index t (1 : Fin 3) = 0
    ∧ win0_1.index t (2 : Fin 3) = 0
    ∧ win0_2.index t (0 : Fin 2) = t.val / 4
    ∧ win0_2.index t (1 : Fin 2) = 0
    ∧ win0_3.index t (0 : Fin 2) = 0
    ∧ win0_3.index t (1 : Fin 2) = 0
    ∧ win0_4.index t (0 : Fin 2) = t.val / 4
    ∧ win0_4.index t (1 : Fin 2) = 0)

/-- The point's block of the projection's gradient. -/
theorem blk0 (t : Fin cfg0.N) (r : Fin 512) (l : Fin 768) (T : Fin 4096) (N : Fin 3072)
    (hT : T.val = 512 * (t.val / 4) + r.val) (hN : N.val = 768 * (t.val % 4) + l.val) :
    iblk m c 0 t (ix2 r l) = Dg m c (ix2 T N) := by
  unfold iblk
  rw [View.read_apply]
  show V m c main_arg0 _ = m ((c : Thread nD τ).loc main_arg0) _
  unfold V
  congr 1
  funext a
  apply Fin.ext
  obtain ⟨e0, e1, -⟩ := idxs t
  match a with
  | ⟨0, _⟩ => show win0_0.index t (0 : Fin 2) * 512 + 1 * r.val = T.val; rw [e0]; omega
  | ⟨1, _⟩ => show win0_0.index t (1 : Fin 2) * 768 + 1 * l.val = N.val; rw [e1]; omega

/-- The point's block of the weights. -/
theorem blk1 (t : Fin cfg0.N) (e : Fin 1024) (l : Fin 768) (J : Fin 4) (hJ : J.val = t.val % 4) :
    iblk m c 1 t (ix3 0 e l) = W m c (ix3 J e l) := by
  unfold iblk
  rw [View.read_apply]
  show V m c main_arg1 _ = m ((c : Thread nD τ).loc main_arg1) _
  unfold V
  congr 1
  funext a
  apply Fin.ext
  obtain ⟨-, -, e0, e1, e2, -⟩ := idxs t
  match a with
  | ⟨0, _⟩ => show win0_1.index t (0 : Fin 3) * 1 + 1 * 0 = J.val; rw [e0]; omega
  | ⟨1, _⟩ => show win0_1.index t (1 : Fin 3) * 1024 + 1 * e.val = e.val; rw [e1]; omega
  | ⟨2, _⟩ => show win0_1.index t (2 : Fin 3) * 768 + 1 * l.val = l.val; rw [e2]; omega

/-- The point's block of the activations. -/
theorem blk2 (t : Fin cfg0.N) (r : Fin 512) (e : Fin 1024) (T : Fin 4096) (hT : T.val = 512 * (t.val / 4) + r.val) :
    iblk m c 2 t (ix2 r e) = X m c (ix2 T e) := by
  unfold iblk
  rw [View.read_apply]
  show V m c main_arg2 _ = m ((c : Thread nD τ).loc main_arg2) _
  unfold V
  congr 1
  funext a
  apply Fin.ext
  obtain ⟨-, -, -, -, -, e0, e1, -⟩ := idxs t
  match a with
  | ⟨0, _⟩ => show win0_2.index t (0 : Fin 2) * 512 + 1 * r.val = T.val; rw [e0]; omega
  | ⟨1, _⟩ => show win0_2.index t (1 : Fin 2) * 1024 + 1 * e.val = e.val; rw [e1]; omega

/-- The gain. -/
theorem blk3 (t : Fin cfg0.N) (e : Fin 1024) : iblk m c 3 t (ix2 0 e) = Gn m c (ix2 0 e) := by
  unfold iblk
  rw [View.read_apply]
  show V m c main_arg3 _ = m ((c : Thread nD τ).loc main_arg3) _
  unfold V
  congr 1
  funext a
  apply Fin.ext
  obtain ⟨-, -, -, -, -, -, -, e0, e1, -⟩ := idxs t
  match a with
  | ⟨0, _⟩ => show win0_3.index t (0 : Fin 2) * 1 + 1 * 0 = 0; rw [e0]
  | ⟨1, _⟩ => show win0_3.index t (1 : Fin 2) * 1024 + 1 * e.val = e.val; rw [e1]; omega

/-- The point's block of the gradient that comes past the mixer. -/
theorem blk4 (t : Fin cfg0.N) (r : Fin 512) (e : Fin 1024) (T : Fin 4096) (hT : T.val = 512 * (t.val / 4) + r.val) :
    iblk m c 4 t (ix2 r e) = D m c (ix2 T e) := by
  unfold iblk
  rw [View.read_apply]
  show V m c main_arg4 _ = m ((c : Thread nD τ).loc main_arg4) _
  unfold V
  congr 1
  funext a
  apply Fin.ext
  obtain ⟨-, -, -, -, -, -, -, -, -, e0, e1⟩ := idxs t
  match a with
  | ⟨0, _⟩ => show win0_4.index t (0 : Fin 2) * 512 + 1 * r.val = T.val; rw [e0]; omega
  | ⟨1, _⟩ => show win0_4.index t (1 : Fin 2) * 1024 + 1 * e.val = e.val; rw [e1]; omega

/-- What point `n` adds to the scratch. -/
def add (n : ℕ) (j : S512x1024.Idx) : EReal :=
  if h : n < cfg0.N then contrib (iblk m c 0 ⟨n, h⟩) (iblk m c 1 ⟨n, h⟩) j else 0

theorem step_apply (n : ℕ) (h : n < cfg0.N) (hn : ¬ n % 4 = 0) (acc : FVec Ideal S512x1024 .f32) (j : S512x1024.Idx) :
    scAt0_0 m c n h acc j = acc j + add m c n j := by
  unfold scAt0_0 add
  rw [dif_neg hn, dif_pos h]
  have e := eq_ix2 j
  split
  · split
    · rw [dif_neg (by omega), scr_C, e]; exact acc_apply ..
    · rw [dif_pos (by omega), scr_D, e]; exact acc_apply ..
  · rw [scr_B, e]; exact acc_apply ..

theorem first_apply (n : ℕ) (h : n < cfg0.N) (hn : n % 4 = 0) (acc : FVec Ideal S512x1024 .f32) (j : S512x1024.Idx) :
    scAt0_0 m c n h acc j = 0 + add m c n j := by
  unfold scAt0_0 add
  rw [dif_pos hn, dif_neg (by omega), dif_pos h]
  have e := eq_ix2 j
  rw [scr_A, e]
  exact (acc_apply ..).trans (congrArg (· + _) (zero_apply ..))

/-- After point `t` the scratch holds the sum of its sweep's products so far. -/
theorem scr_eq (t : Fin cfg0.N) (j : S512x1024.Idx) :
    (outsAt0 m c t.val t.isLt).2.2 j = 0 + ∑ s ∈ Finset.range (t.val % 4 + 1), add m c (4 * (t.val / 4) + s) j := by
  have hN : cfg0.N = 32 := N_0
  rw [soutsAt0_0_eq]
  exact Pipeline.accAt_add_apply _ _ (fun _ => 0) (add m c) (4 * (t.val / 4)) 3
    (fun h i => first_apply m c _ h (by omega) _ i)
    (fun n h acc i h1 h2 => step_apply m c n h (by omega) acc i) (t.val % 4) (by omega) _ j

/-- The product of the projection's gradient with the weights, over all columns. -/
def dh (T : Fin 4096) (e : Fin 1024) : EReal :=
  ∑ n : Fin 3072, Dg m c (ix2 T n) * W m c (ix3 (⟨n.val / 768, by have := n.isLt; omega⟩ : Fin 4) e (⟨n.val % 768, by omega⟩ : Fin 768))

/-- At the last point of a block the scratch holds that product. -/
theorem scr_dh (t : Fin cfg0.N) (h1 : t.val % 4 = 3) (r : Fin 512) (e : Fin 1024) (T : Fin 4096) (hT : T.val = 512 * (t.val / 4) + r.val) :
    (outsAt0 m c t.val t.isLt).2.2 (ix2 r e) = dh m c T e := by
  have hN0 : cfg0.N = 32 := N_0
  have ht := t.isLt
  rw [scr_eq, zero_add, h1]
  unfold dh
  let f : ℕ → EReal := fun n => if h : n < 3072 then Dg m c (ix2 T (⟨n, h⟩ : Fin 3072)) * W m c (ix3 (⟨n / 768, by omega⟩ : Fin 4) e (⟨n % 768, by omega⟩ : Fin 768)) else 0
  refine Eq.trans (b := ∑ p ∈ Finset.range 4, ∑ q : Fin 768, f (768 * p + q.val)) ?_ ?_
  · refine Finset.sum_congr rfl fun p hp => ?_
    have hp := Finset.mem_range.mp hp
    unfold add
    have hq : 4 * (t.val / 4) + p < cfg0.N := by omega
    rw [dif_pos hq, contrib_apply]
    refine Finset.sum_congr rfl fun q _ => ?_
    have hq' := q.isLt
    have hx : 768 * p + q.val < 3072 := by omega
    show _ = dite _ _ _
    rw [dif_pos hx, blk0 m c _ r q T (⟨768 * p + q.val, hx⟩ : Fin 3072) (by dsimp only; omega) (by dsimp only; omega),
      blk1 m c _ e q (⟨(768 * p + q.val) / 768, by omega⟩ : Fin 4) (by dsimp only; omega)]
    exact congrArg (fun k => _ * W m c (ix3 _ e k)) (Fin.ext (by show q.val = (768 * p + q.val) % 768; omega))
  · rw [Cert.Reals.sum_runs 4 768 f]
    exact Finset.sum_congr rfl fun n _ => dif_pos n.isLt

/-- What the kernel stores of the input's gradient. -/
def dxT (T : Fin 4096) (e : Fin 1024) : EReal :=
  rr (fun l => X m c (ix2 T l)) * (dh m c T e * Gn m c (ix2 0 e) - X m c (ix2 T e) * rr (fun l => X m c (ix2 T l))
      * Ideal.div (∑ k, dh m c T k * Gn m c (ix2 0 k) * (X m c (ix2 T k) * rr (fun l => X m c (ix2 T l)))) (Ideal.ofBits .f32 0x44800000#32))
    + D m c (ix2 T e)

/-- At the last point of a block, the first window. -/
theorem outs5 (t : Fin cfg0.N) (h1 : t.val % 4 = 3) (r : Fin 512) (e : Fin 1024) (T : Fin 4096) (hT : T.val = 512 * (t.val / 4) + r.val) :
    (outsAt0 m c t.val t.isLt).1 (ix2 r e) = dxT m c T e := by
  have h0 : ¬ t.val % 4 = 0 := by omega
  have key : (outsAt0 m c t.val t.isLt).1 = k0_pay5 (F := Ideal) (iblk m c 2 t) (outsAt0 m c t.val t.isLt).2.2 (iblk m c 3 t) (iblk m c 4 t) := by
    by_cases h2 : t.val < 4
    · rw [outsAt0_C m c t h0 h1 h2 (by omega)]
      dsimp only
      rw [out5_C, scr_C]
    · rw [outsAt0_D m c t h0 h1 h2 (by omega)]
      dsimp only
      rw [out5_D, scr_D]
  rw [key, pay5_apply]
  unfold dxT
  simp only [scr_dh m c t h1 r _ T hT, blk2 m c t r _ T hT, blk3, blk4 m c t r _ T hT]

/-- The point's block of the activations, as an array. -/
abbrev xB (t : Fin cfg0.N) : FVec Ideal S512x1024 .f32 := iblk m c 2 t

/-- A block's part of the gain's gradient. -/
def part (s : ℕ) (e : Fin 1024) : EReal :=
  ∑ r : Fin 512, (if h : 512 * s + r.val < 4096 then dh m c ⟨512 * s + r.val, h⟩ e * (X m c (ix2 (⟨512 * s + r.val, h⟩ : Fin 4096) e) * rr (fun l => X m c (ix2 (⟨512 * s + r.val, h⟩ : Fin 4096) l))) else 0)

theorem part_eq (t : Fin cfg0.N) (h1 : t.val % 4 = 3) (e : Fin 1024) :
    (∑ r : Fin 512, ((outsAt0 m c t.val t.isLt).2.2 (ix2 r e) : EReal) * (xB m c t (ix2 r e) * rr (fun l => xB m c t (ix2 r l))) : EReal) = part m c (t.val / 4) e := by
  have hN0 : cfg0.N = 32 := N_0
  have ht := t.isLt
  unfold part
  refine Finset.sum_congr rfl fun r _ => ?_
  have hr := r.isLt
  have hx : 512 * (t.val / 4) + r.val < 4096 := by omega
  rw [dif_pos hx, scr_dh m c t h1 r e ⟨_, hx⟩ rfl]
  simp only [xB, blk2 m c t r _ (⟨_, hx⟩ : Fin 4096) rfl]

/-- Between the blocks' last points the second window is kept. -/
theorem keep (t : ℕ) (h : t + 1 < cfg0.N) (h1 : ¬ (t + 1) % 4 = 3) :
    (outsAt0 m c (t + 1) h).2.1 = (outsAt0 m c t (Nat.lt_of_succ_lt h)).2.1 := by
  by_cases h0 : (t + 1) % 4 = 0
  · rw [outsAt0_A m c ⟨t + 1, h⟩ h0 h1]; rfl
  · rw [outsAt0_B m c ⟨t + 1, h⟩ h0 h1]; rfl

/-- At the last point of block `s` the second window holds the parts so far. -/
theorem outs6 (e : Fin 1024) : ∀ (s : ℕ) (t : ℕ) (_ : t = 4 * s + 3) (h : t < cfg0.N),
    (outsAt0 m c t h).2.1 (ix2 0 e) = ∑ p ∈ Finset.range (s + 1), part m c p e := by
  intro s
  induction s with
  | zero =>
    intro t ht h
    have key := part_eq m c ⟨t, h⟩ (by dsimp only; omega) e
    dsimp only at key
    rw [show t / 4 = 0 by omega] at key
    rw [Finset.sum_range_one, ← key,
      outsAt0_C m c ⟨t, h⟩ (by dsimp only; omega) (by dsimp only; omega) (by dsimp only; omega) (by dsimp only; omega)]
    dsimp only
    rw [out6_C, scr_C]
    exact pay6_apply ..
  | succ s ih =>
    intro t ht h
    have key := part_eq m c ⟨t, h⟩ (by dsimp only; omega) e
    dsimp only at key
    obtain ⟨u, rfl⟩ : ∃ u, t = u + 1 + 1 + 1 + 1 := ⟨t - 4, by omega⟩
    have hu := ih u (by omega) (by omega)
    rw [show (u + 1 + 1 + 1 + 1) / 4 = s + 1 by omega] at key
    rw [Finset.sum_range_succ, ← key, ← hu,
      ← keep m c u (by omega) (by omega), ← keep m c (u + 1) (by omega) (by omega), ← keep m c (u + 1 + 1) (by omega) (by omega),
      outsAt0_D m c ⟨u + 1 + 1 + 1 + 1, h⟩ (by dsimp only; omega) (by dsimp only; omega) (by dsimp only; omega) (by dsimp only; omega)]
    dsimp only
    rw [out6_D, scr_D]
    exact pay7_apply ..

/-- The parts together. -/
theorem parts (e : Fin 1024) :
    (∑ p ∈ Finset.range (7 + 1), part m c p e : EReal) = ∑ T : Fin 4096, dh m c T e * (X m c (ix2 T e) * rr (fun l => X m c (ix2 T l))) := by
  unfold part
  rw [Cert.Reals.sum_runs 8 512 (fun n => if h : n < 4096 then dh m c ⟨n, h⟩ e * (X m c (ix2 (⟨n, h⟩ : Fin 4096) e) * rr (fun l => X m c (ix2 (⟨n, h⟩ : Fin 4096) l))) else 0)]
  exact Finset.sum_congr rfl fun T _ => dif_pos T.isLt

theorem final5 (T : Fin 4096) (e : Fin 1024) : G5 m c (ix2 T e) = dxT m c T e := by
  have hT := T.isLt
  have he := e.isLt
  have hN0 : cfg0.N = 32 := N_0
  have hp : pt5Of (ix2 T e) = 4 * (1 * (T.val / 512 - 0) + 1 * (e.val / 1024 - 0)) + 3 := rfl
  have hp' : pt5Of (ix2 T e) = 4 * (T.val / 512) + 3 := by rw [hp]; omega
  have hlt : pt5Of (ix2 T e) < cfg0.N := by rw [hp', hN0]; omega
  have hr : T.val % 512 < 512 := by omega
  have hloc : loc5Of (ix2 T e) = ix2 (⟨T.val % 512, hr⟩ : Fin 512) e := funext fun a => Fin.ext (by
    match a with
    | ⟨0, _⟩ => rfl
    | ⟨1, _⟩ => show e.val % 1024 = e.val; omega)
  unfold G5
  rw [dif_pos hlt, ← outsAt0_sweep m c _ hlt, hloc]
  exact outs5 m c ⟨pt5Of (ix2 T e), hlt⟩ (by dsimp only; omega) _ e T (by dsimp only; omega)

/-- The gain's gradient: over all tokens. -/
theorem final6 (e : Fin 1024) :
    (G6 m c (ix2 0 e) : EReal) = ∑ T : Fin 4096, dh m c T e * (X m c (ix2 T e) * rr (fun l => X m c (ix2 T l))) := by
  have he := e.isLt
  have hN0 : cfg0.N = 32 := N_0
  have hp : pt6Of (ix2 (0 : Fin 1) e) = 32 * (1 * (0 / 1 - 0) + 1 * (e.val / 1024 - 0)) + 31 := rfl
  have hp' : pt6Of (ix2 (0 : Fin 1) e) = 31 := by rw [hp]; omega
  have hlt : pt6Of (ix2 (0 : Fin 1) e) < cfg0.N := by rw [hp', hN0]; omega
  have hloc : loc6Of (ix2 (0 : Fin 1) e) = ix2 (0 : Fin 1) e := funext fun a => Fin.ext (by
    match a with
    | ⟨0, _⟩ => rfl
    | ⟨1, _⟩ => show e.val % 1024 = e.val; omega)
  unfold G6
  rw [dif_pos hlt, ← outsAt0_sweep m c _ hlt, hloc]
  exact (outs6 m c e 7 _ hp' hlt).trans (parts m c e)
end Cert.NbOdIdeal.Closed

namespace Cert.NbOdClaim

open Idealize.ShloMosaic Idealize.SL.Sem Idealize.ShloMosaic.TcCoe Cert.NbOdRefIdeal Cert.NbOdRefIdeal.Read Cert.Norm Cert.Reals

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems (by decide) _⟩) (Cert.NbOdRefIdeal.Value.run m g)

section Ref

variable (dg : FVec Ideal S4096x3072 .bf16) (w : FVec Ideal S4x1024x768 .bf16) (x : FVec Ideal S4096x1024 .f32) (gn : FVec Ideal S1x1024 .f32) (d : FVec Ideal S4096x1024 .f32)

/-- The weights, read at a column. -/
theorem weights_apply (e : Fin 1024) (n : Fin 3072) :
    val_main_v17 (F := Ideal) w (ix2 e n)
      = w (ix3 (⟨n.val / 768, by have := n.isLt; omega⟩ : Fin 4) e (⟨n.val % 768, by omega⟩ : Fin 768)) := by
  have hn := n.isLt
  rw [val_main_v17_apply, val_main_v16_apply, val_main_v15_apply]
  show w _ = w _
  congr 1
  funext a
  apply Fin.ext
  match a with
  | ⟨0, _⟩ => show (e.val * 3072 + n.val) / 768 % 4 = n.val / 768; omega
  | ⟨1, _⟩ => show (e.val * 3072 + n.val) / 3072 = e.val; omega
  | ⟨2, _⟩ => show (e.val * 3072 + n.val) % 768 = n.val % 768; omega

/-- The product over all columns. -/
def dh (T : Fin 4096) (e : Fin 1024) : EReal :=
  ∑ n : Fin 3072, dg (ix2 T n) * w (ix3 (⟨n.val / 768, by have := n.isLt; omega⟩ : Fin 4) e (⟨n.val % 768, by omega⟩ : Fin 768))

theorem dh_apply (T : Fin 4096) (e : Fin 1024) : val_main_v20 (F := Ideal) dg w (ix2 T e) = dh dg w T e := by
  rw [val_main_v20_apply]
  refine Finset.sum_congr rfl fun n _ => congrArg₂ (· * · : EReal → EReal → EReal) ?_ ?_
  · rw [val_main_v19_apply]
    show dg _ = dg _
    exact congrArg dg (eq_ix2 _)
  · exact Eq.trans (congrArg _ (eq_ix2 _)) (weights_apply w e n)

theorem gain_apply (e : Fin 1024) :
    val_main_v23 (F := Ideal) dg w x (ix2 0 e) = ∑ T : Fin 4096, x (ix2 T e) * rr (fun l => x (ix2 T l)) * dh dg w T e := by
  have h : val_main_v23 (F := Ideal) dg w x (ix2 0 e) = ∑ T : Fin 4096, x (ix2 T e) * rr (fun l => x (ix2 T l)) * val_main_v20 (F := Ideal) dg w (ix2 T e) := by
    pointwise [rr, val_main_v23, val_main_v22, val_main_v21, val_main_v12, val_main_v11, val_main_v7, val_main_v6, val_main_v5, val_main_v4, val_main_v3, val_main_v2, val_main_v1, val_main_v0, val_main_cst, val_main_cst_0, val_main_cst_1, val_main_cst_3, Ideal.ofBits_zero_f32, zero_add]
  rw [h]
  simp only [dh_apply]

theorem dx_apply (T : Fin 4096) (e : Fin 1024) :
    val_main_v40 (F := Ideal) dg w x gn d (ix2 T e)
      = d (ix2 T e) + dh dg w T e * gn (ix2 0 e) * rr (fun l => x (ix2 T l))
        + x (ix2 T e) * side (fun l => x (ix2 T l)) (fun l => gn (ix2 0 l)) (fun l => dh dg w T l)
        + side (fun l => x (ix2 T l)) (fun l => gn (ix2 0 l)) (fun l => dh dg w T l) * x (ix2 T e) := by
  have h : val_main_v40 (F := Ideal) dg w x gn d (ix2 T e)
      = d (ix2 T e) + val_main_v20 (F := Ideal) dg w (ix2 T e) * gn (ix2 0 e) * rr (fun l => x (ix2 T l))
        + x (ix2 T e) * side (fun l => x (ix2 T l)) (fun l => gn (ix2 0 l)) (fun l => val_main_v20 (F := Ideal) dg w (ix2 T l))
        + side (fun l => x (ix2 T l)) (fun l => gn (ix2 0 l)) (fun l => val_main_v20 (F := Ideal) dg w (ix2 T l)) * x (ix2 T e) := by
    pointwise [rr, side, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, Ideal.ofBits_zero_f32, zero_add]
    simp only [Finset.univ_unique, Finset.sum_singleton]
  rw [h]
  simp only [dh_apply]

end Ref

/-- The precondition says that the five arguments are real. -/
theorem finite (x0 : FVec Ideal Cert.NbOdIdeal.S4096x3072 .bf16) (x1 : FVec Ideal Cert.NbOdIdeal.S4x1024x768 .bf16)
    (x2 : FVec Ideal Cert.NbOdIdeal.S4096x1024 .f32) (x3 : FVec Ideal Cert.NbOdIdeal.S1x1024 .f32) (x4 : FVec Ideal Cert.NbOdIdeal.S4096x1024 .f32)
    (h : ∀ j, Cert.Pre_finite_nbod.fn (F := Ideal) x0 x1 x2 x3 x4 j = 1#1) :
    (∃ f : Cert.NbOdIdeal.S4096x3072.Idx → ℝ, x0 = fun i => (f i : EReal)) ∧ (∃ f : Cert.NbOdIdeal.S4x1024x768.Idx → ℝ, x1 = fun i => (f i : EReal))
      ∧ (∃ f : Cert.NbOdIdeal.S4096x1024.Idx → ℝ, x2 = fun i => (f i : EReal)) ∧ (∃ f : Cert.NbOdIdeal.S1x1024.Idx → ℝ, x3 = fun i => (f i : EReal))
      ∧ ∃ f : Cert.NbOdIdeal.S4096x1024.Idx → ℝ, x4 = fun i => (f i : EReal) := by
  have h := h (fun a => a.elim0)
  dsimp only [Cert.Pre_finite_nbod.fn, Cert.Pre_finite_nbod.fn_part1, andi] at h
  obtain ⟨h0123, h4⟩ := IntOp.andi_eq_one.mp h
  obtain ⟨h012, h3⟩ := IntOp.andi_eq_one.mp h0123
  obtain ⟨h01, h2⟩ := IntOp.andi_eq_one.mp h012
  obtain ⟨h0, h1⟩ := IntOp.andi_eq_one.mp h01
  exact ⟨exists_real _ fun i => real_of_cmp (Host.reduce_andi_all _ _ _ _ _ h0 i),
    exists_real _ fun i => real_of_cmp (Host.reduce_andi_all _ _ _ _ _ h1 i),
    exists_real _ fun i => real_of_cmp (Host.reduce_andi_all _ _ _ _ _ h2 i),
    exists_real _ fun i => real_of_cmp (Host.reduce_andi_all _ _ _ _ _ h3 i),
    exists_real _ fun i => real_of_cmp (Host.reduce_andi_all _ _ _ _ _ h4 i)⟩

/-- A product of real arrays is real. -/
theorem dh_real (dg : S4096x3072.Idx → ℝ) (w : S4x1024x768.Idx → ℝ) (T : Fin 4096) :
    ∃ f : Fin 1024 → ℝ, ∀ e, dh (fun i => (dg i : EReal)) (fun i => (w i : EReal)) T e = ((f e : ℝ) : EReal) := by
  refine ⟨fun e => ∑ n : Fin 3072, dg (ix2 T n) * w (ix3 (⟨n.val / 768, by have := n.isLt; omega⟩ : Fin 4) e (⟨n.val % 768, by omega⟩ : Fin 768)), fun e => ?_⟩
  unfold dh
  simp only [← EReal.coe_mul, coe_sum]

variable (m : (ℓ : Loc Cert.NbOdIdeal.nD Cert.NbOdIdeal.τ Cert.NbOdIdeal.sig) → Buf (Elt Ideal) ℓ) (c : Dev Cert.NbOdIdeal.nD)

open Cert.NbOdIdeal.Closed (Dg W X Gn D)

/-- The gain's gradient. -/
theorem gain :
    (Cert.NbOdIdeal.Value.G6 m c : S1x1024.Idx → EReal) = val_main_v23 (F := Ideal) (Dg m c) (W m c) (X m c) := by
  funext i
  obtain ⟨z, e, rfl⟩ : ∃ (z : Fin 1) (e : Fin 1024), i = ix2 z e := ⟨_, _, eq_ix2 i⟩
  obtain rfl : z = 0 := Subsingleton.elim _ _
  have h : (∑ T : Fin 4096, Cert.NbOdIdeal.Closed.dh m c T e * (X m c (ix2 T e) * rr (fun l => X m c (ix2 T l))) : EReal)
      = ∑ T : Fin 4096, X m c (ix2 T e) * rr (fun l => X m c (ix2 T l)) * dh (Dg m c) (W m c) T e :=
    Finset.sum_congr rfl fun T _ => mul_comm (G := EReal) _ _
  exact (Cert.NbOdIdeal.Closed.final6 m c e).trans (h.trans (gain_apply _ _ _ e).symm)

/-- The input's gradient. -/
theorem input (dg : S4096x3072.Idx → ℝ) (w : S4x1024x768.Idx → ℝ) (x : S4096x1024.Idx → ℝ) (gn : S1x1024.Idx → ℝ) (d : S4096x1024.Idx → ℝ)
    (h0 : Dg m c = fun i => (dg i : EReal)) (h1 : W m c = fun i => (w i : EReal)) (h2 : X m c = fun i => (x i : EReal))
    (h3 : Gn m c = fun i => (gn i : EReal)) (h4 : D m c = fun i => (d i : EReal)) :
    (Cert.NbOdIdeal.Value.G5 m c : S4096x1024.Idx → EReal) = val_main_v40 (F := Ideal) (Dg m c) (W m c) (X m c) (Gn m c) (D m c) := by
  funext i
  obtain ⟨T, e, rfl⟩ : ∃ (T : Fin 4096) (e : Fin 1024), i = ix2 T e := ⟨_, _, eq_ix2 i⟩
  refine (Cert.NbOdIdeal.Closed.final5 m c T e).trans (Eq.trans ?_ (dx_apply _ _ _ _ _ T e).symm)
  obtain ⟨f, hf⟩ := dh_real dg w T
  have hk : ∀ e, Cert.NbOdIdeal.Closed.dh m c T e = ((f e : ℝ) : EReal) := fun e => by
    rw [← hf e, ← h0, ← h1]; rfl
  unfold Cert.NbOdIdeal.Closed.dxT
  rw [h0, h1, h2, h3, h4]
  simp only [hk, hf]
  exact back_join (fun l => x (ix2 T l)) (fun l => gn (ix2 0 l)) f (d (ix2 T e)) e

theorem algebraic : Cert.algebraic_NbOdIdeal_NbOdRefIdeal_pre_finite_nbod := by
  intro m g m' g' hpre hag
  refine ⟨fun c => Cert.NbOdIdeal.Value.G5 m c, fun c => Cert.NbOdIdeal.Value.G6 m c, Cert.NbOdIdeal.Value.run m g, ?_⟩
  refine (θ_run _ _ _).mono (fun r h c => ?_) (Cert.NbOdRefIdeal.Value.run m' g')
  obtain ⟨h1, h2, h3⟩ := h c
  obtain ⟨⟨dg, hdg⟩, ⟨w, hw⟩, ⟨x, hx⟩, ⟨gn, hgn⟩, ⟨d, hd⟩⟩ := finite _ _ _ _ _ (fun j => congrFun (hpre c) j)
  obtain ⟨e0, e1, e2, e3, e4⟩ := hag c
  refine ⟨h1.trans ?_, h2.trans ?_, h3⟩
  · refine Eq.trans ?_ (input m c dg w x gn d hdg hw hx hgn hd).symm
    refine (val_main_v40_eq m' c).trans ?_
    rw [e0, e1, e2, e3, e4]
  · refine Eq.trans ?_ (gain m c).symm
    rw [e0, e1, e2]
    exact val_main_v23_eq ..

end Cert.NbOdClaim

end
-- ==== Proof.NbXaClaim.lean ====
/-
  Hand-written, untrusted. The gradient of the cross attention's input: for a block of 512 tokens the kernel multiplies the queries'
  gradient with the weights and goes back through the normalisation. What it stores of the gain's gradient is summed over the eight
  blocks.
-/
module

public import proofs.«01_k».proof.Defs
public import proofs.«01_k».proof.Proof.Norm
public import proofs.«01_k».proof.Proof.Gen.Pre_finite_nbxa
public import proofs.«01_k».proof.Proof.Gen.NbXaIdeal.Value
public import proofs.«01_k».proof.Proof.Gen.NbXaRefIdeal.Run
public import proofs.«01_k».proof.Proof.Gen.NbXaRefIdeal.Read
public import Idealize.ShloMosaic.Lib.Quiescent
public import Idealize.ShloMosaic.Lib.Pointwise
public import Idealize.ShloMosaic.Lib.Pointwise.Index

@[expose] public section

set_option maxRecDepth 16384

noncomputable section

namespace Cert.NbXaIdeal.Closed

open Idealize.ShloMosaic Idealize.SL.Sem Cert.NbXaIdeal Cert.NbXaIdeal.Gen Idealize.ShloMosaic.TcCoe Cert.NbXaIdeal.Value Cert.Norm

theorem hz2 : (![0, 0] : Fin 2 → Nat) = fun _ => 0 := funext fun a => by fin_cases a <;> rfl
theorem hz3 : (![0, 0, 0] : Fin 3 → Nat) = fun _ => 0 := funext fun a => by fin_cases a <;> rfl

section Body

variable {F : FTy → Type} [FloatOps F]
  (c : Dev nD) (i : grid0.Coords) (a2 : Memref sig .tc .vmem S512x1024 .f32) (h2 : a2.IsWhole) (a3 : Memref sig .tc .vmem S1024x1024 .bf16) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (a8 : Memref sig .tc .vmem S1x1024 .f32) (h8 : a8.IsWhole) (a9 : Memref sig .tc .vmem S512x1024 .f32) (h9 : a9.IsWhole)
  (x0 : Vec F S512x1024 .f32) (x1 : Vec F S1024x1024 .bf16) (x2 : Vec F S512x1024 .f32) (x3 : Vec F S1x1024 .f32) (x4 : Vec F S512x1024 .f32) (xo : Vec F S1x1024 .f32)

/-- The first point stores the gradient through the normalisation. -/
theorem out5_A (hc0 : cond0_0 i) (hc1 : cond0_1 i) (hc2 : cond0_2 i) (hc3 : ¬cond0_3 i) :
    out0_A_5 c i a2 h2 a3 h3 a4 h4 a5 h5 a6 h6 a7 h7 a8 h8 a9 h9 hc0 hc1 hc2 hc3 x0 x1 x2 x3 x4 = k0_pay5 x2 (k0_pay2 (k0_pay1 (F := F)) x0 x1) x3 x4 := by
  unfold out0_A_5
  rw [View.read_writes_eq_canon _ _ _ (fun _ => cover0_A_5 ..)]
  unfold kernelRun0_A
  dsimp only
  sl_unfold_words
  rw [View.canon_unit_zero (S := S512x1024) hz2]
  simp only [View.readCov_cons_toLoadRect, View.readCov_unit_zero (S := S512x1024) _ hz2, View.readAt_eq_ld, h2.read_unread, h3.read_unread, h4.read_unread, h5.read_unread, h6.read_unread, h8.read_unread, h9.read_unread, View.ld_unit_zero (S := S512x1024) hz2, View.ld_unit_zero (S := S1024x1024) hz2, View.ld_unit_zero (S := S1x1024) hz2]

/-- So does a later point. -/
theorem out5_B (hc0 : cond0_0 i) (hc1 : cond0_1 i) (hc2 : ¬cond0_2 i) (hc3 : cond0_3 i) :
    out0_B_5 c i a2 h2 a3 h3 a4 h4 a5 h5 a6 h6 a7 h7 a8 h8 a9 h9 hc0 hc1 hc2 hc3 x0 x1 x2 x3 x4 xo = k0_pay5 x2 (k0_pay2 (k0_pay1 (F := F)) x0 x1) x3 x4 := by
  unfold out0_B_5
  rw [View.read_writes_eq_canon _ _ _ (fun _ => cover0_B_5 ..)]
  unfold kernelRun0_B
  dsimp only
  sl_unfold_words
  rw [View.canon_unit_zero (S := S512x1024) hz2]
  simp only [View.readCov_cons_toLoadRect, View.readCov_unit_zero (S := S512x1024) _ hz2, View.readAt_eq_ld, h2.read_unread, h3.read_unread, h4.read_unread, h5.read_unread, h6.read_unread, h8.read_unread, h9.read_unread, View.ld_unit_zero (S := S512x1024) hz2, View.ld_unit_zero (S := S1024x1024) hz2, View.ld_unit_zero (S := S1x1024) hz2]

/-- The first block's part of the gain's gradient. -/
theorem out6_A (hc0 : cond0_0 i) (hc1 : cond0_1 i) (hc2 : cond0_2 i) (hc3 : ¬cond0_3 i) :
    out0_A_6 c i a2 h2 a3 h3 a4 h4 a5 h5 a6 h6 a7 h7 a8 h8 a9 h9 hc0 hc1 hc2 hc3 x0 x1 x2 x3 x4 = k0_pay6 x2 (k0_pay2 (k0_pay1 (F := F)) x0 x1) := by
  unfold out0_A_6
  rw [View.read_writes_eq_canon _ _ _ (fun _ => cover0_A_6 ..)]
  unfold kernelRun0_A
  dsimp only
  sl_unfold_words
  rw [View.canon_unit_zero (S := S1x1024) hz2]
  simp only [View.readCov_cons_toLoadRect, View.readCov_unit_zero (S := S512x1024) _ hz2, View.readAt_eq_ld, h2.read_unread, h3.read_unread, h4.read_unread, h5.read_unread, h6.read_unread, h8.read_unread, h9.read_unread, View.ld_unit_zero (S := S512x1024) hz2, View.ld_unit_zero (S := S1024x1024) hz2, View.ld_unit_zero (S := S1x1024) hz2]

/-- Later blocks add theirs. -/
theorem out6_B (hc0 : cond0_0 i) (hc1 : cond0_1 i) (hc2 : ¬cond0_2 i) (hc3 : cond0_3 i) :
    out0_B_6 c i a2 h2 a3 h3 a4 h4 a5 h5 a6 h6 a7 h7 a8 h8 a9 h9 hc0 hc1 hc2 hc3 x0 x1 x2 x3 x4 xo = k0_pay7 x2 (k0_pay2 (k0_pay1 (F := F)) x0 x1) xo := by
  unfold out0_B_6
  rw [View.read_writes_eq_canon _ _ _ (fun _ => cover0_B_6 ..)]
  unfold kernelRun0_B
  dsimp only
  sl_unfold_words
  rw [View.canon_unit_zero (S := S1x1024) hz2]
  simp only [View.readCov_cons_toLoadRect, View.readCov_unit_zero (S := S512x1024) _ hz2, View.readAt_eq_ld, h2.read_unread, h3.read_unread, h4.read_unread, h5.read_unread, h6.read_unread, h8.read_unread, h9.read_unread, View.ld_unit_zero (S := S512x1024) hz2, View.ld_unit_zero (S := S1024x1024) hz2, View.ld_unit_zero (S := S1x1024) hz2]

end Body

section Pay

variable (x0 : FVec Ideal S512x1024 .f32) (x1 : FVec Ideal S1024x1024 .bf16) (x d acc : FVec Ideal S512x1024 .f32) (gn prev : FVec Ideal S1x1024 .f32)

/-- One point's product. -/
def contrib (j : S512x1024.Idx) : EReal := ∑ k : Fin 1024, x0 (ix2 (j 0) k) * x1 (ix2 (j 1) k)

theorem contrib_apply (r : Fin 512) (e : Fin 1024) :
    contrib x0 x1 (ix2 r e) = ∑ k : Fin 1024, x0 (ix2 r k) * x1 (ix2 e k) := rfl

theorem acc_apply (r : Fin 512) (e : Fin 1024) :
    k0_pay2 (F := Ideal) acc x0 x1 (ix2 r e) = acc (ix2 r e) + contrib x0 x1 (ix2 r e) := by
  unfold_payloads
  pointwise [contrib]

theorem zero_apply (r : Fin 512) (e : Fin 1024) : k0_pay1 (F := Ideal) (ix2 r e) = 0 := by
  unfold_payloads
  pointwise

theorem pay5_apply (r : Fin 512) (e : Fin 1024) :
    k0_pay5 (F := Ideal) x acc gn d (ix2 r e)
      = rr (fun l => x (ix2 r l)) * (acc (ix2 r e) * gn (ix2 0 e) - x (ix2 r e) * rr (fun l => x (ix2 r l))
          * Ideal.div (∑ k, acc (ix2 r k) * gn (ix2 0 k) * (x (ix2 r k) * rr (fun l => x (ix2 r l)))) (Ideal.ofBits .f32 0x44800000#32))
        + d (ix2 r e) := by
  unfold_payloads
  pointwise [rr]

theorem pay6_apply (e : Fin 1024) :
    k0_pay6 (F := Ideal) x acc (ix2 0 e) = ∑ r : Fin 512, acc (ix2 r e) * (x (ix2 r e) * rr (fun l => x (ix2 r l))) := by
  unfold_payloads
  pointwise [rr]

theorem pay7_apply (e : Fin 1024) :
    k0_pay7 (F := Ideal) x acc prev (ix2 0 e)
      = prev (ix2 0 e) + ∑ r : Fin 512, acc (ix2 r e) * (x (ix2 r e) * rr (fun l => x (ix2 r l))) := by
  unfold_payloads
  pointwise [rr]

end Pay

variable (m : (ℓ : Loc nD τ sig) → Buf (Elt Ideal) ℓ) (c : Dev nD)

/-- The arguments, as arrays. -/
abbrev Dg : FVec Ideal S4096x1024 .f32 := m ((c : Thread nD τ).loc main_arg0)
abbrev W : FVec Ideal S1024x1024 .bf16 := m ((c : Thread nD τ).loc main_arg1)
abbrev X : FVec Ideal S4096x1024 .f32 := m ((c : Thread nD τ).loc main_arg2)
abbrev Gn : FVec Ideal S1x1024 .f32 := m ((c : Thread nD τ).loc main_arg3)
abbrev D : FVec Ideal S4096x1024 .f32 := m ((c : Thread nD τ).loc main_arg4)

theorem idxs : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = 0
    ∧ win0_6.index t (1 : Fin 2) = 0 :=
  (by decide +kernel : ∀ t : Fin grid0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = 0
    ∧ win0_6.index t (1 : Fin 2) = 0)

/-- The point's block of the queries' gradient. -/
theorem blk0 (t : Fin cfg0.N) (r : Fin 512) (l : Fin 1024) (T : Fin 4096)
    (hT : T.val = 512 * t.val + r.val) :
    iblk m c 0 t (ix2 r l) = Dg m c (ix2 T l) := by
  unfold iblk
  rw [View.read_apply]
  show V m c main_arg0 _ = m ((c : Thread nD τ).loc main_arg0) _
  unfold V
  congr 1
  funext a
  apply Fin.ext
  obtain ⟨e0, e1, -⟩ := idxs t
  match a with
  | ⟨0, _⟩ => show win0_0.index t (0 : Fin 2) * 512 + 1 * r.val = T.val; rw [e0]; omega
  | ⟨1, _⟩ => show win0_0.index t (1 : Fin 2) * 1024 + 1 * l.val = l.val; rw [e1]; omega

/-- The point's block of the weights. -/
theorem blk1 (t : Fin cfg0.N) (e : Fin 1024) (l : Fin 1024) :
    iblk m c 1 t (ix2 e l) = W m c (ix2 e l) := by
  unfold iblk
  rw [View.read_apply]
  show V m c main_arg1 _ = m ((c : Thread nD τ).loc main_arg1) _
  unfold V
  congr 1
  funext a
  apply Fin.ext
  obtain ⟨-, -, e0, e1, -⟩ := idxs t
  match a with
  | ⟨0, _⟩ => show win0_1.index t (0 : Fin 2) * 1024 + 1 * e.val = e.val; rw [e0]; omega
  | ⟨1, _⟩ => show win0_1.index t (1 : Fin 2) * 1024 + 1 * l.val = l.val; rw [e1]; omega

/-- The point's block of the activations. -/
theorem blk2 (t : Fin cfg0.N) (r : Fin 512) (e : Fin 1024) (T : Fin 4096) (hT : T.val = 512 * t.val + r.val) :
    iblk m c 2 t (ix2 r e) = X m c (ix2 T e) := by
  unfold iblk
  rw [View.read_apply]
  show V m c main_arg2 _ = m ((c : Thread nD τ).loc main_arg2) _
  unfold V
  congr 1
  funext a
  apply Fin.ext
  obtain ⟨-, -, -, -, e0, e1, -⟩ := idxs t
  match a with
  | ⟨0, _⟩ => show win0_2.index t (0 : Fin 2) * 512 + 1 * r.val = T.val; rw [e0]; omega
  | ⟨1, _⟩ => show win0_2.index t (1 : Fin 2) * 1024 + 1 * e.val = e.val; rw [e1]; omega

/-- The gain. -/
theorem blk3 (t : Fin cfg0.N) (e : Fin 1024) : iblk m c 3 t (ix2 0 e) = Gn m c (ix2 0 e) := by
  unfold iblk
  rw [View.read_apply]
  show V m c main_arg3 _ = m ((c : Thread nD τ).loc main_arg3) _
  unfold V
  congr 1
  funext a
  apply Fin.ext
  obtain ⟨-, -, -, -, -, -, e0, e1, -⟩ := idxs t
  match a with
  | ⟨0, _⟩ => show win0_3.index t (0 : Fin 2) * 1 + 1 * 0 = 0; rw [e0]
  | ⟨1, _⟩ => show win0_3.index t (1 : Fin 2) * 1024 + 1 * e.val = e.val; rw [e1]; omega

/-- The point's block of the gradient that comes past the cross attention. -/
theorem blk4 (t : Fin cfg0.N) (r : Fin 512) (e : Fin 1024) (T : Fin 4096) (hT : T.val = 512 * t.val + r.val) :
    iblk m c 4 t (ix2 r e) = D m c (ix2 T e) := by
  unfold iblk
  rw [View.read_apply]
  show V m c main_arg4 _ = m ((c : Thread nD τ).loc main_arg4) _
  unfold V
  congr 1
  funext a
  apply Fin.ext
  obtain ⟨-, -, -, -, -, -, -, -, e0, e1, -⟩ := idxs t
  match a with
  | ⟨0, _⟩ => show win0_4.index t (0 : Fin 2) * 512 + 1 * r.val = T.val; rw [e0]; omega
  | ⟨1, _⟩ => show win0_4.index t (1 : Fin 2) * 1024 + 1 * e.val = e.val; rw [e1]; omega

/-- The product of the queries' gradient with the weights. -/
def dh (T : Fin 4096) (e : Fin 1024) : EReal := ∑ n : Fin 1024, Dg m c (ix2 T n) * W m c (ix2 e n)

/-- The point's product, as an array. -/
abbrev acc (t : Fin cfg0.N) : FVec Ideal S512x1024 .f32 := k0_pay2 (F := Ideal) (k0_pay1 (F := Ideal)) (iblk m c 0 t) (iblk m c 1 t)

theorem acc_dh (t : Fin cfg0.N) (r : Fin 512) (e : Fin 1024) (T : Fin 4096) (hT : T.val = 512 * t.val + r.val) :
    acc m c t (ix2 r e) = dh m c T e := by
  unfold acc dh
  rw [acc_apply, zero_apply, zero_add, contrib_apply]
  exact Finset.sum_congr rfl fun n _ => congrArg₂ (· * · : EReal → EReal → EReal) (blk0 m c t r n T hT) (blk1 m c t e n)

/-- What the kernel stores of the input's gradient. -/
def dxT (T : Fin 4096) (e : Fin 1024) : EReal :=
  rr (fun l => X m c (ix2 T l)) * (dh m c T e * Gn m c (ix2 0 e) - X m c (ix2 T e) * rr (fun l => X m c (ix2 T l))
      * Ideal.div (∑ k, dh m c T k * Gn m c (ix2 0 k) * (X m c (ix2 T k) * rr (fun l => X m c (ix2 T l)))) (Ideal.ofBits .f32 0x44800000#32))
    + D m c (ix2 T e)

/-- What each point stores in the first window. -/
theorem outs5 (t : Fin cfg0.N) (r : Fin 512) (e : Fin 1024) (T : Fin 4096) (hT : T.val = 512 * t.val + r.val) :
    (outsAt0 m c t.val t.isLt).1 (ix2 r e) = dxT m c T e := by
  have hN0 : cfg0.N = 8 := N_0
  have ht := t.isLt
  have key : (outsAt0 m c t.val t.isLt).1 = k0_pay5 (F := Ideal) (iblk m c 2 t) (acc m c t) (iblk m c 3 t) (iblk m c 4 t) := by
    by_cases h0 : t.val % 8 = 0
    · rw [outsAt0_A m c t h0 (by omega)]
      dsimp only
      rw [out5_A]
    · rw [outsAt0_B m c t h0 (by omega)]
      dsimp only
      rw [out5_B]
  rw [key, pay5_apply]
  unfold dxT
  simp only [acc_dh m c t r _ T hT, blk2 m c t r _ T hT, blk3, blk4 m c t r _ T hT]

/-- The point's block of the activations, as an array. -/
abbrev xB (t : Fin cfg0.N) : FVec Ideal S512x1024 .f32 := iblk m c 2 t

/-- A block's part of the gain's gradient. -/
def part (s : ℕ) (e : Fin 1024) : EReal :=
  ∑ r : Fin 512, (if h : 512 * s + r.val < 4096 then dh m c ⟨512 * s + r.val, h⟩ e * (X m c (ix2 (⟨512 * s + r.val, h⟩ : Fin 4096) e) * rr (fun l => X m c (ix2 (⟨512 * s + r.val, h⟩ : Fin 4096) l))) else 0)

theorem part_eq (t : Fin cfg0.N) (e : Fin 1024) :
    (∑ r : Fin 512, (acc m c t (ix2 r e) : EReal) * (xB m c t (ix2 r e) * rr (fun l => xB m c t (ix2 r l))) : EReal) = part m c t.val e := by
  have hN0 : cfg0.N = 8 := N_0
  have ht := t.isLt
  unfold part
  refine Finset.sum_congr rfl fun r _ => ?_
  have hr := r.isLt
  have hx : 512 * t.val + r.val < 4096 := by omega
  rw [dif_pos hx, acc_dh m c t r e ⟨_, hx⟩ rfl]
  simp only [xB, blk2 m c t r _ (⟨_, hx⟩ : Fin 4096) rfl]

/-- After point `n` the second window holds the parts so far. -/
theorem outs6 (e : Fin 1024) : ∀ (n : ℕ) (h : n < cfg0.N),
    (outsAt0 m c n h).2 (ix2 0 e) = ∑ p ∈ Finset.range (n + 1), part m c p e := by
  have hN0 : cfg0.N = 8 := N_0
  intro n
  induction n with
  | zero =>
    intro h
    rw [Finset.sum_range_one, ← part_eq m c ⟨0, h⟩ e, outsAt0_A m c ⟨0, h⟩ (by dsimp only) (by dsimp only; omega)]
    dsimp only
    rw [out6_A]
    exact pay6_apply ..
  | succ n ih =>
    intro h
    rw [Finset.sum_range_succ, ← part_eq m c ⟨n + 1, h⟩ e, ← ih (Nat.lt_of_succ_lt h),
      outsAt0_B m c ⟨n + 1, h⟩ (by dsimp only; omega) (by dsimp only; omega)]
    dsimp only
    rw [out6_B]
    exact pay7_apply ..

/-- The parts together. -/
theorem parts (e : Fin 1024) :
    (∑ p ∈ Finset.range (7 + 1), part m c p e : EReal) = ∑ T : Fin 4096, dh m c T e * (X m c (ix2 T e) * rr (fun l => X m c (ix2 T l))) := by
  unfold part
  rw [Cert.Reals.sum_runs 8 512 (fun n => if h : n < 4096 then dh m c ⟨n, h⟩ e * (X m c (ix2 (⟨n, h⟩ : Fin 4096) e) * rr (fun l => X m c (ix2 (⟨n, h⟩ : Fin 4096) l))) else 0)]
  exact Finset.sum_congr rfl fun T _ => dif_pos T.isLt

/-- The two arrays after the run. -/
abbrev G5 : FVec Ideal S4096x1024 .f32 := (dats m 0 c).arrAt 5 cfg0.N
abbrev G6 : FVec Ideal S1x1024 .f32 := (dats m 0 c).arrAt 6 cfg0.N

/-- The first array in closed form. -/
def F5 : FVec Ideal S4096x1024 .f32 := fun i => dxT m c (i 0) (i 1)

theorem flushed5_eq (t : Fin cfg0.N) : (dats m 0 c).flushed 5 t = ((cfg0.win 5).blk t).view.read (Elt Ideal) (F5 m c) := by
  rw [flushed5]
  obtain ⟨-, -, -, -, -, -, -, -, -, -, e0, e1, -⟩ := idxs t
  funext y
  have hN : cfg0.N = 8 := N_0
  have ht := t.isLt
  have hy0 : (y 0).val < 512 := (y 0).isLt
  have hy1 : (y 1).val < 1024 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 1024 + 1 * (y 1).val := rfl
  have hl : (cfg0.win 5).xinj (grid0.coords t) y = ix2 (⟨(y 0).val, hy0⟩ : Fin 512) (⟨(y 1).val, hy1⟩ : Fin 1024) :=
    funext fun a => Fin.ext (by match a with | ⟨0, _⟩ => rfl | ⟨1, _⟩ => rfl)
  have hr : ((cfg0.win 5).blk t).view.emb y = ix2 (⟨512 * t.val + (y 0).val, by omega⟩ : Fin 4096) (⟨(y 1).val, hy1⟩ : Fin 1024) :=
    funext fun a => Fin.ext (by
      match a with
      | ⟨0, _⟩ => exact hb0.trans (by rw [e0]; show _ = 512 * t.val + (y 0).val; omega)
      | ⟨1, _⟩ => exact hb1.trans (by rw [e1]; show _ = (y 1).val; omega))
  show (outsAt0 m c t.val t.isLt).1 ((cfg0.win 5).xinj (grid0.coords t) y) = F5 m c (((cfg0.win 5).blk t).view.emb y)
  rw [hl, hr]
  exact outs5 m c t _ _ _ rfl

theorem covered5 (i : S4096x1024.Idx) : ∃ t : Fin cfg0.N, (cfg0.win 5).flush t = true ∧ i ∈ ((cfg0.win 5).blk t).view.set := by
  have hN : cfg0.N = 8 := N_0
  have hi0 : (i 0).val < 4096 := (i 0).isLt
  have hi1 : (i 1).val < 1024 := (i 1).isLt
  let t : Fin cfg0.N := ⟨(i 0).val / 512, by omega⟩
  refine ⟨t, flush0_5 t, ?_⟩
  show i ∈ ((View.whole main_v0_0).slice (win0_5.rect t)).set
  rw [View.set_slice_whole, Rect.mem_set_unit]
  obtain ⟨-, -, -, -, -, -, -, -, -, -, e0, e1, -⟩ := idxs t
  have ht : t.val = (i 0).val / 512 := rfl
  intro a
  match a with
  | ⟨0, _⟩ => show win0_5.index t (0 : Fin 2) * 512 ≤ (i 0).val ∧ (i 0).val < win0_5.index t (0 : Fin 2) * 512 + 512; rw [e0]; omega
  | ⟨1, _⟩ => show win0_5.index t (1 : Fin 2) * 1024 ≤ (i 1).val ∧ (i 1).val < win0_5.index t (1 : Fin 2) * 1024 + 1024; rw [e1]; omega

theorem final5 (T : Fin 4096) (e : Fin 1024) : G5 m c (ix2 T e) = dxT m c T e :=
  congrFun (show G5 m c = F5 m c from (dats m 0 c).arrAt_eq_of_cover 5 _ (fun t _ => flushed5_eq m c t) covered5) (ix2 T e)

/-- The second array in closed form. -/
def F6 : FVec Ideal S1x1024 .f32 := fun i => (∑ T : Fin 4096, dh m c T (i 1) * (X m c (ix2 T (i 1)) * rr (fun l => X m c (ix2 T l))) : EReal)

theorem flushed6_eq (t : Fin cfg0.N) (hf : (cfg0.win 6).flush t = true) :
    (dats m 0 c).flushed 6 t = ((cfg0.win 6).blk t).view.read (Elt Ideal) (F6 m c) := by
  rw [flushed6]
  obtain ⟨-, -, -, -, -, -, -, -, -, -, -, -, e0, e1⟩ := idxs t
  funext y
  have hN : cfg0.N = 8 := N_0
  have ht := t.isLt
  have h7 : t.val % 8 = 7 := (flush0_6 t).mp hf
  have hy0 : (y 0).val < 1 := (y 0).isLt
  have hy1 : (y 1).val < 1024 := (y 1).isLt
  have hb1 : (((cfg0.win 6).blk t).view.emb y 1).val = win0_6.index t (1 : Fin 2) * 1024 + 1 * (y 1).val := rfl
  have hl : (cfg0.win 6).xinj (grid0.coords t) y = ix2 (0 : Fin 1) (⟨(y 1).val, hy1⟩ : Fin 1024) :=
    funext fun a => Fin.ext (by match a with | ⟨0, _⟩ => show (y 0).val = 0; omega | ⟨1, _⟩ => rfl)
  have hr : ((cfg0.win 6).blk t).view.emb y = ix2 (0 : Fin 1) (⟨(y 1).val, hy1⟩ : Fin 1024) :=
    funext fun a => by
      match a with
      | ⟨0, _⟩ => exact Subsingleton.elim (α := Fin 1) _ _
      | ⟨1, _⟩ => exact Fin.ext (hb1.trans (by rw [e1]; show _ = (y 1).val; omega))
  show (outsAt0 m c t.val t.isLt).2 ((cfg0.win 6).xinj (grid0.coords t) y) = F6 m c (((cfg0.win 6).blk t).view.emb y)
  rw [hl, hr]
  have key : ∀ (n : ℕ) (h : n < cfg0.N), n = 7 → (outsAt0 m c n h).2 (ix2 (0 : Fin 1) (⟨(y 1).val, hy1⟩ : Fin 1024)) = F6 m c (ix2 (0 : Fin 1) (⟨(y 1).val, hy1⟩ : Fin 1024)) := by
    rintro n h rfl
    exact (outs6 m c _ 7 h).trans (parts m c _)
  exact key t.val t.isLt (by omega)

theorem covered6 (i : S1x1024.Idx) : ∃ t : Fin cfg0.N, (cfg0.win 6).flush t = true ∧ i ∈ ((cfg0.win 6).blk t).view.set := by
  have hN : cfg0.N = 8 := N_0
  have hi0 : (i 0).val < 1 := (i 0).isLt
  have hi1 : (i 1).val < 1024 := (i 1).isLt
  let t : Fin cfg0.N := ⟨7, by omega⟩
  refine ⟨t, (flush0_6 t).mpr rfl, ?_⟩
  show i ∈ ((View.whole main_v0_1).slice (win0_6.rect t)).set
  rw [View.set_slice_whole, Rect.mem_set_unit]
  obtain ⟨-, -, -, -, -, -, -, -, -, -, -, -, e0, e1⟩ := idxs t
  intro a
  match a with
  | ⟨0, _⟩ => show win0_6.index t (0 : Fin 2) * 1 ≤ (i 0).val ∧ (i 0).val < win0_6.index t (0 : Fin 2) * 1 + 1; rw [e0]; omega
  | ⟨1, _⟩ => show win0_6.index t (1 : Fin 2) * 1024 ≤ (i 1).val ∧ (i 1).val < win0_6.index t (1 : Fin 2) * 1024 + 1024; rw [e1]; omega

/-- The gain's gradient: over all tokens. -/
theorem final6 (e : Fin 1024) :
    (G6 m c (ix2 0 e) : EReal) = ∑ T : Fin 4096, dh m c T e * (X m c (ix2 T e) * rr (fun l => X m c (ix2 T l))) :=
  congrFun (show G6 m c = F6 m c from (dats m 0 c).arrAt_eq_of_cover 6 _ (fun t hf => flushed6_eq m c t hf) covered6) (ix2 0 e)

end Cert.NbXaIdeal.Closed

namespace Cert.NbXaClaim

open Idealize.ShloMosaic Idealize.SL.Sem Idealize.ShloMosaic.TcCoe Cert.NbXaRefIdeal Cert.NbXaRefIdeal.Read Cert.Norm Cert.Reals

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems (by decide) _⟩) (Cert.NbXaRefIdeal.Value.run m g)

section Ref

variable (dg : FVec Ideal S4096x1024 .f32) (w : FVec Ideal S1024x1024 .bf16) (x : FVec Ideal S4096x1024 .f32) (gn : FVec Ideal S1x1024 .f32) (d : FVec Ideal S4096x1024 .f32)

/-- The product over all columns. -/
def dh (T : Fin 4096) (e : Fin 1024) : EReal :=
  ∑ n : Fin 1024, dg (ix2 T n) * w (ix2 e n)

theorem dh_apply (T : Fin 4096) (e : Fin 1024) : val_main_v17 (F := Ideal) dg w (ix2 T e) = dh dg w T e := by
  unfold dh
  pointwise [val_main_v17, val_main_v15]

theorem gain_apply (e : Fin 1024) :
    val_main_v20 (F := Ideal) dg w x (ix2 0 e) = ∑ T : Fin 4096, x (ix2 T e) * rr (fun l => x (ix2 T l)) * dh dg w T e := by
  have h : val_main_v20 (F := Ideal) dg w x (ix2 0 e) = ∑ T : Fin 4096, x (ix2 T e) * rr (fun l => x (ix2 T l)) * val_main_v17 (F := Ideal) dg w (ix2 T e) := by
    pointwise [rr, val_main_v20, val_main_v19, val_main_v18, val_main_v12, val_main_v11, val_main_v7, val_main_v6, val_main_v5, val_main_v4, val_main_v3, val_main_v2, val_main_v1, val_main_v0, val_main_cst, val_main_cst_0, val_main_cst_1, val_main_cst_3, Ideal.ofBits_zero_f32, zero_add]
  rw [h]
  simp only [dh_apply]

theorem dx_apply (T : Fin 4096) (e : Fin 1024) :
    val_main_v37 (F := Ideal) dg w x gn d (ix2 T e)
      = d (ix2 T e) + dh dg w T e * gn (ix2 0 e) * rr (fun l => x (ix2 T l))
        + x (ix2 T e) * side (fun l => x (ix2 T l)) (fun l => gn (ix2 0 l)) (fun l => dh dg w T l)
        + side (fun l => x (ix2 T l)) (fun l => gn (ix2 0 l)) (fun l => dh dg w T l) * x (ix2 T e) := by
  have h : val_main_v37 (F := Ideal) dg w x gn d (ix2 T e)
      = d (ix2 T e) + val_main_v17 (F := Ideal) dg w (ix2 T e) * gn (ix2 0 e) * rr (fun l => x (ix2 T l))
        + x (ix2 T e) * side (fun l => x (ix2 T l)) (fun l => gn (ix2 0 l)) (fun l => val_main_v17 (F := Ideal) dg w (ix2 T l))
        + side (fun l => x (ix2 T l)) (fun l => gn (ix2 0 l)) (fun l => val_main_v17 (F := Ideal) dg w (ix2 T l)) * x (ix2 T e) := by
    pointwise [rr, side, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, Ideal.ofBits_zero_f32, zero_add]
    simp only [Finset.univ_unique, Finset.sum_singleton]
  rw [h]
  simp only [dh_apply]

end Ref

/-- The precondition says that the five arguments are real. -/
theorem finite (x0 : FVec Ideal Cert.NbXaIdeal.S4096x1024 .f32) (x1 : FVec Ideal Cert.NbXaIdeal.S1024x1024 .bf16)
    (x2 : FVec Ideal Cert.NbXaIdeal.S4096x1024 .f32) (x3 : FVec Ideal Cert.NbXaIdeal.S1x1024 .f32) (x4 : FVec Ideal Cert.NbXaIdeal.S4096x1024 .f32)
    (h : ∀ j, Cert.Pre_finite_nbxa.fn (F := Ideal) x0 x1 x2 x3 x4 j = 1#1) :
    (∃ f : Cert.NbXaIdeal.S4096x1024.Idx → ℝ, x0 = fun i => (f i : EReal)) ∧ (∃ f : Cert.NbXaIdeal.S1024x1024.Idx → ℝ, x1 = fun i => (f i : EReal))
      ∧ (∃ f : Cert.NbXaIdeal.S4096x1024.Idx → ℝ, x2 = fun i => (f i : EReal)) ∧ (∃ f : Cert.NbXaIdeal.S1x1024.Idx → ℝ, x3 = fun i => (f i : EReal))
      ∧ ∃ f : Cert.NbXaIdeal.S4096x1024.Idx → ℝ, x4 = fun i => (f i : EReal) := by
  have h := h (fun a => a.elim0)
  dsimp only [Cert.Pre_finite_nbxa.fn, Cert.Pre_finite_nbxa.fn_part1, andi] at h
  obtain ⟨h0123, h4⟩ := IntOp.andi_eq_one.mp h
  obtain ⟨h012, h3⟩ := IntOp.andi_eq_one.mp h0123
  obtain ⟨h01, h2⟩ := IntOp.andi_eq_one.mp h012
  obtain ⟨h0, h1⟩ := IntOp.andi_eq_one.mp h01
  exact ⟨exists_real _ fun i => real_of_cmp (Host.reduce_andi_all _ _ _ _ _ h0 i),
    exists_real _ fun i => real_of_cmp (Host.reduce_andi_all _ _ _ _ _ h1 i),
    exists_real _ fun i => real_of_cmp (Host.reduce_andi_all _ _ _ _ _ h2 i),
    exists_real _ fun i => real_of_cmp (Host.reduce_andi_all _ _ _ _ _ h3 i),
    exists_real _ fun i => real_of_cmp (Host.reduce_andi_all _ _ _ _ _ h4 i)⟩

/-- A product of real arrays is real. -/
theorem dh_real (dg : S4096x1024.Idx → ℝ) (w : S1024x1024.Idx → ℝ) (T : Fin 4096) :
    ∃ f : Fin 1024 → ℝ, ∀ e, dh (fun i => (dg i : EReal)) (fun i => (w i : EReal)) T e = ((f e : ℝ) : EReal) := by
  refine ⟨fun e => ∑ n : Fin 1024, dg (ix2 T n) * w (ix2 e n), fun e => ?_⟩
  unfold dh
  simp only [← EReal.coe_mul, coe_sum]

variable (m : (ℓ : Loc Cert.NbXaIdeal.nD Cert.NbXaIdeal.τ Cert.NbXaIdeal.sig) → Buf (Elt Ideal) ℓ) (c : Dev Cert.NbXaIdeal.nD)

open Cert.NbXaIdeal.Closed (Dg W X Gn D)

/-- The gain's gradient. -/
theorem gain :
    (Cert.NbXaIdeal.Closed.G6 m c : S1x1024.Idx → EReal) = val_main_v20 (F := Ideal) (Dg m c) (W m c) (X m c) := by
  funext i
  obtain ⟨z, e, rfl⟩ : ∃ (z : Fin 1) (e : Fin 1024), i = ix2 z e := ⟨_, _, eq_ix2 i⟩
  obtain rfl : z = 0 := Subsingleton.elim _ _
  have h : (∑ T : Fin 4096, Cert.NbXaIdeal.Closed.dh m c T e * (X m c (ix2 T e) * rr (fun l => X m c (ix2 T l))) : EReal)
      = ∑ T : Fin 4096, X m c (ix2 T e) * rr (fun l => X m c (ix2 T l)) * dh (Dg m c) (W m c) T e :=
    Finset.sum_congr rfl fun T _ => mul_comm (G := EReal) _ _
  exact (Cert.NbXaIdeal.Closed.final6 m c e).trans (h.trans (gain_apply _ _ _ e).symm)

/-- The input's gradient. -/
theorem input (dg : S4096x1024.Idx → ℝ) (w : S1024x1024.Idx → ℝ) (x : S4096x1024.Idx → ℝ) (gn : S1x1024.Idx → ℝ) (d : S4096x1024.Idx → ℝ)
    (h0 : Dg m c = fun i => (dg i : EReal)) (h1 : W m c = fun i => (w i : EReal)) (h2 : X m c = fun i => (x i : EReal))
    (h3 : Gn m c = fun i => (gn i : EReal)) (h4 : D m c = fun i => (d i : EReal)) :
    (Cert.NbXaIdeal.Closed.G5 m c : S4096x1024.Idx → EReal) = val_main_v37 (F := Ideal) (Dg m c) (W m c) (X m c) (Gn m c) (D m c) := by
  funext i
  obtain ⟨T, e, rfl⟩ : ∃ (T : Fin 4096) (e : Fin 1024), i = ix2 T e := ⟨_, _, eq_ix2 i⟩
  refine (Cert.NbXaIdeal.Closed.final5 m c T e).trans (Eq.trans ?_ (dx_apply _ _ _ _ _ T e).symm)
  obtain ⟨f, hf⟩ := dh_real dg w T
  have hk : ∀ e, Cert.NbXaIdeal.Closed.dh m c T e = ((f e : ℝ) : EReal) := fun e => by
    rw [← hf e, ← h0, ← h1]; rfl
  unfold Cert.NbXaIdeal.Closed.dxT
  rw [h0, h1, h2, h3, h4]
  simp only [hk, hf]
  exact back_join (fun l => x (ix2 T l)) (fun l => gn (ix2 0 l)) f (d (ix2 T e)) e

theorem algebraic : Cert.algebraic_NbXaIdeal_NbXaRefIdeal_pre_finite_nbxa := by
  intro m g m' g' hpre hag
  refine ⟨fun c => Cert.NbXaIdeal.Closed.G5 m c, fun c => Cert.NbXaIdeal.Closed.G6 m c, Cert.NbXaIdeal.Value.run_blocks m g, ?_⟩
  refine (θ_run _ _ _).mono (fun r h c => ?_) (Cert.NbXaRefIdeal.Value.run m' g')
  obtain ⟨h1, h2, h3⟩ := h c
  obtain ⟨⟨dg, hdg⟩, ⟨w, hw⟩, ⟨x, hx⟩, ⟨gn, hgn⟩, ⟨d, hd⟩⟩ := finite _ _ _ _ _ (fun j => congrFun (hpre c) j)
  obtain ⟨e0, e1, e2, e3, e4⟩ := hag c
  refine ⟨h1.trans ?_, h2.trans ?_, h3⟩
  · refine Eq.trans ?_ (input m c dg w x gn d hdg hw hx hgn hd).symm
    refine (val_main_v37_eq m' c).trans ?_
    rw [e0, e1, e2, e3, e4]
  · refine Eq.trans ?_ (gain m c).symm
    rw [e0, e1, e2]
    exact val_main_v20_eq ..

end Cert.NbXaClaim

end
-- ==== Proof.NbMemClaim.lean ====
/-
  Hand-written, untrusted. The gradient of the memory tokens' gain: the kernel adds up four products of the keys' and values'
  gradient with the weights, multiplies by the normalised memory and sums over the tokens.
-/
module

public import proofs.«01_k».proof.Defs
public import proofs.«01_k».proof.Proof.Norm
public import proofs.«01_k».proof.Proof.Gen.NbMemIdeal.Value
public import proofs.«01_k».proof.Proof.Gen.NbMemRefIdeal.Run
public import proofs.«01_k».proof.Proof.Gen.NbMemRefIdeal.Read
public import Idealize.ShloMosaic.Lib.Quiescent
public import Idealize.ShloMosaic.Lib.Pointwise
public import Idealize.ShloMosaic.Lib.Pointwise.Index

@[expose] public section

set_option maxRecDepth 16384

noncomputable section

namespace Cert.NbMemIdeal.Closed

open Idealize.ShloMosaic Idealize.SL.Sem Cert.NbMemIdeal Cert.NbMemIdeal.Gen Idealize.ShloMosaic.TcCoe Cert.NbMemIdeal.Value Cert.Norm

theorem hz2 : (![0, 0] : Fin 2 → Nat) = fun _ => 0 := funext fun a => by fin_cases a <;> rfl
theorem hz3 : (![0, 0, 0] : Fin 3 → Nat) = fun _ => 0 := funext fun a => by fin_cases a <;> rfl

section Body

variable {F : FTy → Type} [FloatOps F]
  (c : Dev nD) (i : grid0.Coords) (a2 : Memref sig .tc .vmem S256x512 .f32) (h2 : a2.IsWhole) (a3 : Memref sig .tc .vmem S1x1024x512 .bf16) (h3 : a3.IsWhole) (a4 : Memref sig .tc .vmem S256x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S256x1024 .f32) (h8 : a8.IsWhole)
  (x0 : Vec F S256x512 .f32) (x1 : Vec F S1x1024x512 .bf16) (x2 : Vec F S256x1024 .f32) (x3 : Vec F S1x1024 .f32) (xs : Vec F S256x1024 .f32)

/-- First point: the scratch is zeroed, then the point's product is added. -/
theorem scr_A (hc0 : cond0_0 i) (hc1 : ¬cond0_1 i) :
    sout0_A_0 c i a2 h2 a3 h3 a4 h4 a5 h5 a6 h6 a7 h7 a8 h8 hc0 hc1 x0 x1 x2 x3 = k0_pay2 (k0_pay1 (F := F)) x0 x1 := by
  unfold sout0_A_0
  rw [View.read_writes_eq_canon _ _ _ (fun _ => scover0_A_0 ..)]
  unfold kernelRun0_A
  dsimp only
  sl_unfold_words
  rw [View.canon_cons_unit_zero (S := S256x1024) hz2, View.readCov_unit_zero (S := S256x1024) _ hz2]
  simp only [View.readAt_eq_ld, h2.read_unread, h3.read_unread, h8.read_unread, View.ld_unit_zero (S := S256x512) hz2, View.ld_unit_zero (S := S1x1024x512) hz3, View.ld_unit_zero (S := S256x1024) hz2]

/-- Later, the point's product is added to what the scratch held. -/
theorem scr_B (hc0 : ¬cond0_0 i) (hc1 : ¬cond0_1 i) :
    sout0_B_0 c i a2 h2 a3 h3 a4 h4 a5 h5 a6 h6 a7 h7 a8 h8 hc0 hc1 x0 x1 x2 x3 xs = k0_pay2 xs x0 x1 := by
  unfold sout0_B_0
  rw [View.read_writes_eq_canon _ _ _ (fun _ => scover0_B_0 ..)]
  unfold kernelRun0_B
  dsimp only
  sl_unfold_words
  rw [View.canon_unit_zero (S := S256x1024) hz2]
  simp only [View.readAt_eq_ld, h2.read_unread, h3.read_unread, h8.read_unread, View.ld_unit_zero (S := S256x512) hz2, View.ld_unit_zero (S := S1x1024x512) hz3, View.ld_unit_zero (S := S256x1024) hz2]

/-- So too at the last point. -/
theorem scr_C (hc0 : ¬cond0_0 i) (hc1 : cond0_1 i) (hc2 : cond0_2 i) (hc3 : ¬cond0_3 i) :
    sout0_C_0 c i a2 h2 a3 h3 a4 h4 a5 h5 a6 h6 a7 h7 a8 h8 hc0 hc1 hc2 hc3 x0 x1 x2 x3 xs = k0_pay2 xs x0 x1 := by
  unfold sout0_C_0
  rw [View.read_writes_eq_canon _ _ _ (fun _ => scover0_C_0 ..)]
  unfold kernelRun0_C
  dsimp only
  sl_unfold_words
  rw [View.canon_unit_zero (S := S256x1024) hz2]
  simp only [View.readAt_eq_ld, h2.read_unread, h3.read_unread, h8.read_unread, View.ld_unit_zero (S := S256x512) hz2, View.ld_unit_zero (S := S1x1024x512) hz3, View.ld_unit_zero (S := S256x1024) hz2]

/-- The last point stores the gain's gradient. -/
theorem out5_C (hc0 : ¬cond0_0 i) (hc1 : cond0_1 i) (hc2 : cond0_2 i) (hc3 : ¬cond0_3 i) :
    out0_C_5 c i a2 h2 a3 h3 a4 h4 a5 h5 a6 h6 a7 h7 a8 h8 hc0 hc1 hc2 hc3 x0 x1 x2 x3 xs = k0_pay6 x2 (k0_pay2 xs x0 x1) := by
  unfold out0_C_5
  rw [View.read_writes_eq_canon _ _ _ (fun _ => cover0_C_5 ..)]
  unfold kernelRun0_C
  dsimp only
  sl_unfold_words
  rw [View.canon_unit_zero (S := S1x1024) hz2, View.readCov_unit_zero (S := S256x1024) _ hz2]
  simp only [View.readAt_eq_ld, h2.read_unread, h3.read_unread, h4.read_unread, h5.read_unread, h7.read_unread, h8.read_unread, View.ld_unit_zero (S := S256x512) hz2, View.ld_unit_zero (S := S1x1024x512) hz3, View.ld_unit_zero (S := S256x1024) hz2, View.ld_unit_zero (S := S1x1024) hz2]

end Body

section Pay

variable (x0 : FVec Ideal S256x512 .f32) (x1 : FVec Ideal S1x1024x512 .bf16) (x acc : FVec Ideal S256x1024 .f32)

/-- One point's product. -/
def contrib (j : S256x1024.Idx) : EReal := ∑ k : Fin 512, x0 (ix2 (j 0) k) * x1 (ix3 0 (j 1) k)

theorem contrib_apply (r : Fin 256) (e : Fin 1024) :
    contrib x0 x1 (ix2 r e) = ∑ k : Fin 512, x0 (ix2 r k) * x1 (ix3 0 e k) := rfl

theorem acc_apply (r : Fin 256) (e : Fin 1024) :
    k0_pay2 (F := Ideal) acc x0 x1 (ix2 r e) = acc (ix2 r e) + contrib x0 x1 (ix2 r e) := by
  unfold_payloads
  pointwise [contrib]

theorem zero_apply (r : Fin 256) (e : Fin 1024) : k0_pay1 (F := Ideal) (ix2 r e) = 0 := by
  unfold_payloads
  pointwise

theorem pay6_apply (e : Fin 1024) :
    k0_pay6 (F := Ideal) x acc (ix2 0 e) = ∑ r : Fin 256, acc (ix2 r e) * (x (ix2 r e) * rr (fun l => x (ix2 r l))) := by
  unfold_payloads
  pointwise [rr]

end Pay

variable (m : (ℓ : Loc nD τ sig) → Buf (Elt Ideal) ℓ) (c : Dev nD)

/-- The arguments, as arrays. -/
abbrev Dg : FVec Ideal S256x2048 .f32 := m ((c : Thread nD τ).loc main_arg0)
abbrev W : FVec Ideal S4x1024x512 .bf16 := m ((c : Thread nD τ).loc main_arg1)
abbrev X : FVec Ideal S256x1024 .f32 := m ((c : Thread nD τ).loc main_arg2)

theorem idxs : ∀ t : Fin cfg0.N, win0_0.index t (0 : Fin 2) = 0
    ∧ win0_0.index t (1 : Fin 2) = t.val
    ∧ win0_1.index t (0 : Fin 3) = t.val
    ∧ win0_1.index t (1 : Fin 3) = 0
    ∧ win0_1.index t (2 : Fin 3) = 0
    ∧ win0_2.index t (0 : Fin 2) = 0
    ∧ win0_2.index t (1 : Fin 2) = 0 :=
  (by decide +kernel : ∀ t : Fin grid0.N, win0_0.index t (0 : Fin 2) = 0
    ∧ win0_0.index t (1 : Fin 2) = t.val
    ∧ win0_1.index t (0 : Fin 3) = t.val
    ∧ win0_1.index t (1 : Fin 3) = 0
    ∧ win0_1.index t (2 : Fin 3) = 0
    ∧ win0_2.index t (0 : Fin 2) = 0
    ∧ win0_2.index t (1 : Fin 2) = 0)

/-- The point's block of the gradient. -/
theorem blk0 (t : Fin cfg0.N) (r : Fin 256) (l : Fin 512) (N : Fin 2048) (hN : N.val = 512 * t.val + l.val) : iblk m c 0 t (ix2 r l) = Dg m c (ix2 r N) := by
  unfold iblk
  rw [View.read_apply]
  show V m c main_arg0 _ = m ((c : Thread nD τ).loc main_arg0) _
  unfold V
  congr 1
  funext a
  apply Fin.ext
  obtain ⟨e0, e1, -⟩ := idxs t
  match a with
  | ⟨0, _⟩ => show win0_0.index t (0 : Fin 2) * 256 + 1 * r.val = r.val; rw [e0]; omega
  | ⟨1, _⟩ => show win0_0.index t (1 : Fin 2) * 512 + 1 * l.val = N.val; rw [e1]; omega

/-- The point's block of the weights. -/
theorem blk1 (t : Fin cfg0.N) (e : Fin 1024) (l : Fin 512) (J : Fin 4) (hJ : J.val = t.val) : iblk m c 1 t (ix3 0 e l) = W m c (ix3 J e l) := by
  unfold iblk
  rw [View.read_apply]
  show V m c main_arg1 _ = m ((c : Thread nD τ).loc main_arg1) _
  unfold V
  congr 1
  funext a
  apply Fin.ext
  obtain ⟨-, -, e0, e1, e2, -⟩ := idxs t
  match a with
  | ⟨0, _⟩ => show win0_1.index t (0 : Fin 3) * 1 + 1 * 0 = J.val; rw [e0]; omega
  | ⟨1, _⟩ => show win0_1.index t (1 : Fin 3) * 1024 + 1 * e.val = e.val; rw [e1]; omega
  | ⟨2, _⟩ => show win0_1.index t (2 : Fin 3) * 512 + 1 * l.val = l.val; rw [e2]; omega

/-- The memory tokens. -/
theorem blk2 (t : Fin cfg0.N) (r : Fin 256) (e : Fin 1024) : iblk m c 2 t (ix2 r e) = X m c (ix2 r e) := by
  unfold iblk
  rw [View.read_apply]
  show V m c main_arg2 _ = m ((c : Thread nD τ).loc main_arg2) _
  unfold V
  congr 1
  funext a
  apply Fin.ext
  obtain ⟨-, -, -, -, -, e0, e1⟩ := idxs t
  match a with
  | ⟨0, _⟩ => show win0_2.index t (0 : Fin 2) * 256 + 1 * r.val = r.val; rw [e0]; omega
  | ⟨1, _⟩ => show win0_2.index t (1 : Fin 2) * 1024 + 1 * e.val = e.val; rw [e1]; omega

/-- What point `n` adds to the scratch. -/
def add (n : ℕ) (j : S256x1024.Idx) : EReal :=
  if h : n < cfg0.N then contrib (iblk m c 0 ⟨n, h⟩) (iblk m c 1 ⟨n, h⟩) j else 0

theorem step_apply (n : ℕ) (h : n < cfg0.N) (hn : ¬ n % 4 = 0) (acc : FVec Ideal S256x1024 .f32) (j : S256x1024.Idx) :
    scAt0_0 m c n h acc j = acc j + add m c n j := by
  unfold scAt0_0 add
  rw [dif_neg hn, dif_pos h]
  have e := eq_ix2 j
  split
  · rw [scr_C, e]; exact acc_apply ..
  · rw [scr_B, e]; exact acc_apply ..

theorem first_apply (n : ℕ) (h : n < cfg0.N) (hn : n % 4 = 0) (acc : FVec Ideal S256x1024 .f32) (j : S256x1024.Idx) :
    scAt0_0 m c n h acc j = 0 + add m c n j := by
  unfold scAt0_0 add
  rw [dif_pos hn, dif_neg (by omega), dif_pos h]
  have e := eq_ix2 j
  rw [scr_A, e]
  exact (acc_apply ..).trans (congrArg (· + _) (zero_apply ..))

/-- After point `t` the scratch holds the sum of the products so far. -/
theorem scr_eq (t : Fin cfg0.N) (j : S256x1024.Idx) :
    (outsAt0 m c t.val t.isLt).2.2 j = 0 + ∑ s ∈ Finset.range (t.val % 4 + 1), add m c (4 * (t.val / 4) + s) j := by
  have hN : cfg0.N = 4 := N_0
  rw [soutsAt0_0_eq]
  exact Pipeline.accAt_add_apply _ _ (fun _ => 0) (add m c) (4 * (t.val / 4)) 3
    (fun h i => first_apply m c _ h (by omega) _ i)
    (fun n h acc i h1 h2 => step_apply m c n h (by omega) acc i) (t.val % 4) (by omega) _ j

/-- The product of the gradient with the weights, over all columns. -/
def dh (T : Fin 256) (e : Fin 1024) : EReal :=
  ∑ n : Fin 2048, Dg m c (ix2 T n) * W m c (ix3 (⟨n.val / 512, by have := n.isLt; omega⟩ : Fin 4) e (⟨n.val % 512, by omega⟩ : Fin 512))

/-- At the last point the scratch holds that product. -/
theorem scr_dh (t : Fin cfg0.N) (h1 : t.val = 3) (T : Fin 256) (e : Fin 1024) :
    (outsAt0 m c t.val t.isLt).2.2 (ix2 T e) = dh m c T e := by
  have hN0 : cfg0.N = 4 := N_0
  rw [scr_eq, zero_add, h1]
  unfold dh
  let f : ℕ → EReal := fun n => if h : n < 2048 then Dg m c (ix2 T (⟨n, h⟩ : Fin 2048)) * W m c (ix3 (⟨n / 512, by omega⟩ : Fin 4) e (⟨n % 512, by omega⟩ : Fin 512)) else 0
  refine Eq.trans (b := ∑ p ∈ Finset.range 4, ∑ q : Fin 512, f (512 * p + q.val)) ?_ ?_
  · refine Finset.sum_congr rfl fun p hp => ?_
    have hp := Finset.mem_range.mp hp
    unfold add
    have hq : 4 * (3 / 4) + p < cfg0.N := by omega
    rw [dif_pos hq, contrib_apply]
    refine Finset.sum_congr rfl fun q _ => ?_
    have hq' := q.isLt
    have hx : 512 * p + q.val < 2048 := by omega
    show _ = dite _ _ _
    rw [dif_pos hx, blk0 m c _ T q (⟨512 * p + q.val, hx⟩ : Fin 2048) (by dsimp only; omega),
      blk1 m c _ e q (⟨(512 * p + q.val) / 512, by omega⟩ : Fin 4) (by dsimp only; omega)]
    exact congrArg (fun k => _ * W m c (ix3 _ e k)) (Fin.ext (by show q.val = (512 * p + q.val) % 512; omega))
  · rw [Cert.Reals.sum_runs 4 512 f]
    exact Finset.sum_congr rfl fun n _ => dif_pos n.isLt

/-- At the last point, the second window. -/
theorem outs5 (t : Fin cfg0.N) (h1 : t.val = 3) (e : Fin 1024) :
    ((outsAt0 m c t.val t.isLt).2.1 (ix2 0 e) : EReal) = ∑ T : Fin 256, dh m c T e * (X m c (ix2 T e) * rr (fun l => X m c (ix2 T l))) := by
  have key : (outsAt0 m c t.val t.isLt).2.1 = k0_pay6 (F := Ideal) (iblk m c 2 t) (outsAt0 m c t.val t.isLt).2.2 := by
    rw [outsAt0_C m c t (by omega) (by omega)]
    dsimp only
    rw [out5_C, scr_C]
  rw [key, pay6_apply]
  simp only [scr_dh m c t h1, blk2]

/-- The gain's gradient, in the array. -/
theorem final (e : Fin 1024) :
    (G5 m c (ix2 0 e) : EReal) = ∑ T : Fin 256, dh m c T e * (X m c (ix2 T e) * rr (fun l => X m c (ix2 T l))) := by
  have hlt : 3 < cfg0.N := lt_of_lt_of_eq (by decide) N_0.symm
  rw [G5_last, ← outsAt0_sweep m c 3 hlt]
  exact outs5 m c ⟨3, hlt⟩ rfl e

end Cert.NbMemIdeal.Closed

namespace Cert.NbMemClaim

open Idealize.ShloMosaic Idealize.SL.Sem Idealize.ShloMosaic.TcCoe Cert.NbMemRefIdeal Cert.NbMemRefIdeal.Read Cert.Norm Cert.Reals

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) _⟩) (Cert.NbMemRefIdeal.Value.run m g)

section Ref

variable (dg : FVec Ideal S256x2048 .f32) (w : FVec Ideal S4x1024x512 .bf16) (x : FVec Ideal S256x1024 .f32)

/-- The weights, read at a column. -/
theorem weights_apply (e : Fin 1024) (n : Fin 2048) :
    val_main_v14 (F := Ideal) w (ix2 e n)
      = w (ix3 (⟨n.val / 512, by have := n.isLt; omega⟩ : Fin 4) e (⟨n.val % 512, by omega⟩ : Fin 512)) := by
  have hn := n.isLt
  rw [val_main_v14_apply, val_main_v13_apply, val_main_v12_apply]
  show w _ = w _
  congr 1
  funext a
  apply Fin.ext
  match a with
  | ⟨0, _⟩ => show (e.val * 2048 + n.val) / 512 % 4 = n.val / 512; omega
  | ⟨1, _⟩ => show (e.val * 2048 + n.val) / 2048 = e.val; omega
  | ⟨2, _⟩ => show (e.val * 2048 + n.val) % 512 = n.val % 512; omega

/-- The product over all columns. -/
def dh (T : Fin 256) (e : Fin 1024) : EReal :=
  ∑ n : Fin 2048, dg (ix2 T n) * w (ix3 (⟨n.val / 512, by have := n.isLt; omega⟩ : Fin 4) e (⟨n.val % 512, by omega⟩ : Fin 512))

theorem dh_apply (T : Fin 256) (e : Fin 1024) : val_main_v16 (F := Ideal) dg w (ix2 T e) = dh dg w T e := by
  rw [val_main_v16_apply]
  refine Finset.sum_congr rfl fun n _ => congrArg₂ (· * · : EReal → EReal → EReal) ?_ ?_
  · show dg _ = dg _
    exact congrArg dg (eq_ix2 _)
  · exact Eq.trans (congrArg _ (eq_ix2 _)) (weights_apply w e n)

theorem gain_apply (e : Fin 1024) :
    val_main_v19 (F := Ideal) dg w x (ix2 0 e) = ∑ T : Fin 256, x (ix2 T e) * rr (fun l => x (ix2 T l)) * dh dg w T e := by
  have h : val_main_v19 (F := Ideal) dg w x (ix2 0 e) = ∑ T : Fin 256, x (ix2 T e) * rr (fun l => x (ix2 T l)) * val_main_v16 (F := Ideal) dg w (ix2 T e) := by
    pointwise [rr, val_main_v19, val_main_v18, val_main_v17, val_main_v9, val_main_v8, val_main_v7, val_main_v6, val_main_v5, val_main_v4, val_main_v3, val_main_v2, val_main_v1, val_main_v0, val_main_cst, val_main_cst_0, val_main_cst_1, val_main_cst_2, Ideal.ofBits_zero_f32, zero_add]
  rw [h]
  simp only [dh_apply]

end Ref

variable (m : (ℓ : Loc Cert.NbMemIdeal.nD Cert.NbMemIdeal.τ Cert.NbMemIdeal.sig) → Buf (Elt Ideal) ℓ) (c : Dev Cert.NbMemIdeal.nD)

open Cert.NbMemIdeal.Closed (Dg W X)

/-- The gain's gradient. -/
theorem gain :
    (Cert.NbMemIdeal.Value.G5 m c : S1x1024.Idx → EReal) = val_main_v19 (F := Ideal) (Dg m c) (W m c) (X m c) := by
  funext i
  obtain ⟨z, e, rfl⟩ : ∃ (z : Fin 1) (e : Fin 1024), i = ix2 z e := ⟨_, _, eq_ix2 i⟩
  obtain rfl : z = 0 := Subsingleton.elim _ _
  have h : (∑ T : Fin 256, Cert.NbMemIdeal.Closed.dh m c T e * (X m c (ix2 T e) * rr (fun l => X m c (ix2 T l))) : EReal)
      = ∑ T : Fin 256, X m c (ix2 T e) * rr (fun l => X m c (ix2 T l)) * dh (Dg m c) (W m c) T e :=
    Finset.sum_congr rfl fun T _ => mul_comm (G := EReal) _ _
  exact (Cert.NbMemIdeal.Closed.final m c e).trans (h.trans (gain_apply _ _ _ e).symm)

theorem algebraic : Cert.algebraic_NbMemIdeal_NbMemRefIdeal := by
  intro m g m' g' _ hag
  refine ⟨fun c => Cert.NbMemIdeal.Value.G5 m c, (θ_run _ _ _).mono (fun r h c => (h c).2) (Cert.NbMemIdeal.Value.run m g), ?_⟩
  refine (θ_run _ _ _).mono (fun r h c => ?_) (Cert.NbMemRefIdeal.Value.run m' g')
  obtain ⟨h1, h2⟩ := h c
  obtain ⟨e0, e1, e2, e3⟩ := hag c
  refine ⟨h1.trans ?_, h2⟩
  refine Eq.trans ?_ (gain m c).symm
  rw [e0, e1, e2]
  exact val_main_v19_eq ..

end Cert.NbMemClaim

end
-- ==== Proof.AdamGuClaim.lean ====
/-
  Hand-written, untrusted. The optimiser's step on a shard of a feed-forward block's first projection: the kernel's three results are the reference's,
  entry by entry the same operations.
-/
module

public import proofs.«01_k».proof.Defs
public import proofs.«01_k».proof.Proof.Gen.AdamGuIdeal.Value
public import proofs.«01_k».proof.Proof.Gen.AdamGuRefIdeal.Run
public import proofs.«01_k».proof.Proof.Gen.AdamGuRefIdeal.Read
public import Idealize.ShloMosaic.Lib.Quiescent
public import Idealize.ShloMosaic.Lib.Pointwise

@[expose] public section

set_option maxRecDepth 16384

noncomputable section

namespace Cert.AdamGuClaim

open Idealize.ShloMosaic Idealize.SL.Sem Idealize.ShloMosaic.TcCoe Cert.AdamGuRefIdeal Cert.AdamGuRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) _⟩) (Cert.AdamGuRefIdeal.Value.run m g)

variable (w g mo ve : FVec Ideal S2048x1408 .f32)

/-- The weight's change. -/
theorem delta_eq : Cert.AdamGuIdeal.Value.G4 (F := Ideal) g mo ve w = val_main_v23 (F := Ideal) w g mo ve := by
  funext i
  pointwise [Cert.AdamGuIdeal.Value.G4, val_main_v23, val_main_v22, val_main_cst_7, val_main_v21, val_main_v20, val_main_v19, val_main_cst_6,
    val_main_v18, val_main_v17, val_main_v16, val_main_cst_5, val_main_v15, val_main_v14, val_main_v13, val_main_cst_4, val_main_v12,
    val_main_v11, val_main_cst_3, val_main_v10, val_main_v9, val_main_v8, val_main_cst_2, val_main_v7, val_main_v6, val_main_v5, val_main_cst_1,
    val_main_v4, val_main_v3, val_main_v2, val_main_cst_0, val_main_v1, val_main_v0, val_main_cst]

/-- The gradient's running mean. -/
theorem mean_eq : Cert.AdamGuIdeal.Value.G5 (F := Ideal) g mo = val_main_v4 (F := Ideal) g mo := by
  funext i
  pointwise [Cert.AdamGuIdeal.Value.G5, val_main_v4, val_main_v3, val_main_v2, val_main_cst_0, val_main_v1, val_main_v0, val_main_cst]

/-- The squared gradient's running mean. -/
theorem square_eq : Cert.AdamGuIdeal.Value.G6 (F := Ideal) g ve = val_main_v10 (F := Ideal) g ve := by
  funext i
  pointwise [Cert.AdamGuIdeal.Value.G6, val_main_v10, val_main_v9, val_main_v8, val_main_cst_2, val_main_v7, val_main_v6, val_main_v5, val_main_cst_1]

theorem algebraic : Cert.algebraic_AdamGuIdeal_AdamGuRefIdeal := by
  intro m g m' g' _ hag
  refine ⟨_, _, _, Cert.AdamGuIdeal.Value.run m g, ?_⟩
  refine (θ_run _ _ _).mono (fun r h c => ?_) (Cert.AdamGuRefIdeal.Value.run m' g')
  obtain ⟨h1, h2, h3, h4⟩ := h c
  obtain ⟨e0, e1, e2, e3⟩ := hag c
  refine ⟨h1.trans ?_, h2.trans ?_, h3.trans ?_, h4⟩
  · refine Eq.trans ?_ (delta_eq _ _ _ _).symm
    rw [e0, e1, e2, e3]
    exact val_main_v23_eq ..
  · refine Eq.trans ?_ (mean_eq _ _).symm
    rw [e1, e2]
    exact val_main_v4_eq ..
  · refine Eq.trans ?_ (square_eq _ _).symm
    rw [e1, e3]
    exact val_main_v10_eq ..

end Cert.AdamGuClaim

end
-- ==== Proof.AdamDownClaim.lean ====
/-
  Hand-written, untrusted. The optimiser's step on a shard of a feed-forward block's second projection: the kernel's three results are the reference's,
  entry by entry the same operations.
-/
module

public import proofs.«01_k».proof.Defs
public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Quiescent
public import Idealize.ShloMosaic.Lib.Pointwise

@[expose] public section

set_option maxRecDepth 16384

noncomputable section

namespace Cert.AdamDownClaim

open Idealize.ShloMosaic Idealize.SL.Sem Idealize.ShloMosaic.TcCoe Cert.AdamDownRefIdeal Cert.AdamDownRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) _⟩) (Cert.AdamDownRefIdeal.Value.run m g)

variable (w g mo ve : FVec Ideal S1408x1024 .f32)

/-- The weight's change. -/
theorem delta_eq : Cert.AdamDownIdeal.Value.G4 (F := Ideal) g mo ve w = val_main_v23 (F := Ideal) w g mo ve := by
  funext i
  pointwise [Cert.AdamDownIdeal.Value.G4, val_main_v23, val_main_v22, val_main_cst_7, val_main_v21, val_main_v20, val_main_v19, val_main_cst_6,
    val_main_v18, val_main_v17, val_main_v16, val_main_cst_5, val_main_v15, val_main_v14, val_main_v13, val_main_cst_4, val_main_v12,
    val_main_v11, val_main_cst_3, val_main_v10, val_main_v9, val_main_v8, val_main_cst_2, val_main_v7, val_main_v6, val_main_v5, val_main_cst_1,
    val_main_v4, val_main_v3, val_main_v2, val_main_cst_0, val_main_v1, val_main_v0, val_main_cst]

/-- The gradient's running mean. -/
theorem mean_eq : Cert.AdamDownIdeal.Value.G5 (F := Ideal) g mo = val_main_v4 (F := Ideal) g mo := by
  funext i
  pointwise [Cert.AdamDownIdeal.Value.G5, val_main_v4, val_main_v3, val_main_v2, val_main_cst_0, val_main_v1, val_main_v0, val_main_cst]

/-- The squared gradient's running mean. -/
theorem square_eq : Cert.AdamDownIdeal.Value.G6 (F := Ideal) g ve = val_main_v10 (F := Ideal) g ve := by
  funext i
  pointwise [Cert.AdamDownIdeal.Value.G6, val_main_v10, val_main_v9, val_main_v8, val_main_cst_2, val_main_v7, val_main_v6, val_main_v5, val_main_cst_1]

theorem algebraic : Cert.algebraic_AdamDownIdeal_AdamDownRefIdeal := by
  intro m g m' g' _ hag
  refine ⟨_, _, _, Cert.AdamDownIdeal.Value.run m g, ?_⟩
  refine (θ_run _ _ _).mono (fun r h c => ?_) (Cert.AdamDownRefIdeal.Value.run m' g')
  obtain ⟨h1, h2, h3, h4⟩ := h c
  obtain ⟨e0, e1, e2, e3⟩ := hag c
  refine ⟨h1.trans ?_, h2.trans ?_, h3.trans ?_, h4⟩
  · refine Eq.trans ?_ (delta_eq _ _ _ _).symm
    rw [e0, e1, e2, e3]
    exact val_main_v23_eq ..
  · refine Eq.trans ?_ (mean_eq _ _).symm
    rw [e1, e2]
    exact val_main_v4_eq ..
  · refine Eq.trans ?_ (square_eq _ _).symm
    rw [e1, e3]
    exact val_main_v10_eq ..

end Cert.AdamDownClaim

end
-- ==== Proof.AdamEvInClaim.lean ====
/-
  Hand-written, untrusted. The optimiser's step on a shard of the even mixer's input projection: the kernel's three results are the reference's,
  entry by entry the same operations.
-/
module

public import proofs.«01_k».proof.Defs
public import proofs.«01_k».proof.Proof.Gen.AdamEvInIdeal.Value
public import proofs.«01_k».proof.Proof.Gen.AdamEvInRefIdeal.Run
public import proofs.«01_k».proof.Proof.Gen.AdamEvInRefIdeal.Read
public import Idealize.ShloMosaic.Lib.Quiescent
public import Idealize.ShloMosaic.Lib.Pointwise

@[expose] public section

set_option maxRecDepth 16384

noncomputable section

namespace Cert.AdamEvInClaim

open Idealize.ShloMosaic Idealize.SL.Sem Idealize.ShloMosaic.TcCoe Cert.AdamEvInRefIdeal Cert.AdamEvInRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) _⟩) (Cert.AdamEvInRefIdeal.Value.run m g)

variable (w g mo ve : FVec Ideal S1024x576 .f32)

/-- The weight's change. -/
theorem delta_eq : Cert.AdamEvInIdeal.Value.G4 (F := Ideal) g mo ve w = val_main_v23 (F := Ideal) w g mo ve := by
  funext i
  pointwise [Cert.AdamEvInIdeal.Value.G4, val_main_v23, val_main_v22, val_main_cst_7, val_main_v21, val_main_v20, val_main_v19, val_main_cst_6,
    val_main_v18, val_main_v17, val_main_v16, val_main_cst_5, val_main_v15, val_main_v14, val_main_v13, val_main_cst_4, val_main_v12,
    val_main_v11, val_main_cst_3, val_main_v10, val_main_v9, val_main_v8, val_main_cst_2, val_main_v7, val_main_v6, val_main_v5, val_main_cst_1,
    val_main_v4, val_main_v3, val_main_v2, val_main_cst_0, val_main_v1, val_main_v0, val_main_cst]

/-- The gradient's running mean. -/
theorem mean_eq : Cert.AdamEvInIdeal.Value.G5 (F := Ideal) g mo = val_main_v4 (F := Ideal) g mo := by
  funext i
  pointwise [Cert.AdamEvInIdeal.Value.G5, val_main_v4, val_main_v3, val_main_v2, val_main_cst_0, val_main_v1, val_main_v0, val_main_cst]

/-- The squared gradient's running mean. -/
theorem square_eq : Cert.AdamEvInIdeal.Value.G6 (F := Ideal) g ve = val_main_v10 (F := Ideal) g ve := by
  funext i
  pointwise [Cert.AdamEvInIdeal.Value.G6, val_main_v10, val_main_v9, val_main_v8, val_main_cst_2, val_main_v7, val_main_v6, val_main_v5, val_main_cst_1]

theorem algebraic : Cert.algebraic_AdamEvInIdeal_AdamEvInRefIdeal := by
  intro m g m' g' _ hag
  refine ⟨_, _, _, Cert.AdamEvInIdeal.Value.run m g, ?_⟩
  refine (θ_run _ _ _).mono (fun r h c => ?_) (Cert.AdamEvInRefIdeal.Value.run m' g')
  obtain ⟨h1, h2, h3, h4⟩ := h c
  obtain ⟨e0, e1, e2, e3⟩ := hag c
  refine ⟨h1.trans ?_, h2.trans ?_, h3.trans ?_, h4⟩
  · refine Eq.trans ?_ (delta_eq _ _ _ _).symm
    rw [e0, e1, e2, e3]
    exact val_main_v23_eq ..
  · refine Eq.trans ?_ (mean_eq _ _).symm
    rw [e1, e2]
    exact val_main_v4_eq ..
  · refine Eq.trans ?_ (square_eq _ _).symm
    rw [e1, e3]
    exact val_main_v10_eq ..

end Cert.AdamEvInClaim

end
-- ==== Proof.AdamOutClaim.lean ====
/-
  Hand-written, untrusted. The optimiser's step on a shard of a mixer's output projection: the kernel's three results are the reference's,
  entry by entry the same operations.
-/
module

public import proofs.«01_k».proof.Defs
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Quiescent
public import Idealize.ShloMosaic.Lib.Pointwise

@[expose] public section

set_option maxRecDepth 16384

noncomputable section

namespace Cert.AdamOutClaim

open Idealize.ShloMosaic Idealize.SL.Sem Idealize.ShloMosaic.TcCoe Cert.AdamOutRefIdeal Cert.AdamOutRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) _⟩) (Cert.AdamOutRefIdeal.Value.run m g)

variable (w g mo ve : FVec Ideal S256x1024 .f32)

/-- The weight's change. -/
theorem delta_eq : Cert.AdamOutIdeal.Value.G4 (F := Ideal) g mo ve w = val_main_v23 (F := Ideal) w g mo ve := by
  funext i
  pointwise [Cert.AdamOutIdeal.Value.G4, val_main_v23, val_main_v22, val_main_cst_7, val_main_v21, val_main_v20, val_main_v19, val_main_cst_6,
    val_main_v18, val_main_v17, val_main_v16, val_main_cst_5, val_main_v15, val_main_v14, val_main_v13, val_main_cst_4, val_main_v12,
    val_main_v11, val_main_cst_3, val_main_v10, val_main_v9, val_main_v8, val_main_cst_2, val_main_v7, val_main_v6, val_main_v5, val_main_cst_1,
    val_main_v4, val_main_v3, val_main_v2, val_main_cst_0, val_main_v1, val_main_v0, val_main_cst]

/-- The gradient's running mean. -/
theorem mean_eq : Cert.AdamOutIdeal.Value.G5 (F := Ideal) g mo = val_main_v4 (F := Ideal) g mo := by
  funext i
  pointwise [Cert.AdamOutIdeal.Value.G5, val_main_v4, val_main_v3, val_main_v2, val_main_cst_0, val_main_v1, val_main_v0, val_main_cst]

/-- The squared gradient's running mean. -/
theorem square_eq : Cert.AdamOutIdeal.Value.G6 (F := Ideal) g ve = val_main_v10 (F := Ideal) g ve := by
  funext i
  pointwise [Cert.AdamOutIdeal.Value.G6, val_main_v10, val_main_v9, val_main_v8, val_main_cst_2, val_main_v7, val_main_v6, val_main_v5, val_main_cst_1]

theorem algebraic : Cert.algebraic_AdamOutIdeal_AdamOutRefIdeal := by
  intro m g m' g' _ hag
  refine ⟨_, _, _, Cert.AdamOutIdeal.Value.run m g, ?_⟩
  refine (θ_run _ _ _).mono (fun r h c => ?_) (Cert.AdamOutRefIdeal.Value.run m' g')
  obtain ⟨h1, h2, h3, h4⟩ := h c
  obtain ⟨e0, e1, e2, e3⟩ := hag c
  refine ⟨h1.trans ?_, h2.trans ?_, h3.trans ?_, h4⟩
  · refine Eq.trans ?_ (delta_eq _ _ _ _).symm
    rw [e0, e1, e2, e3]
    exact val_main_v23_eq ..
  · refine Eq.trans ?_ (mean_eq _ _).symm
    rw [e1, e2]
    exact val_main_v4_eq ..
  · refine Eq.trans ?_ (square_eq _ _).symm
    rw [e1, e3]
    exact val_main_v10_eq ..

end Cert.AdamOutClaim

end
-- ==== Proof.AdamOdInClaim.lean ====
/-
  Hand-written, untrusted. The optimiser's step on a shard of the odd mixer's input projection: the kernel's three results are the reference's,
  entry by entry the same operations.
-/
module

public import proofs.«01_k».proof.Defs
public import proofs.«01_k».proof.Proof.Gen.AdamOdInIdeal.Value
public import proofs.«01_k».proof.Proof.Gen.AdamOdInRefIdeal.Run
public import proofs.«01_k».proof.Proof.Gen.AdamOdInRefIdeal.Read
public import Idealize.ShloMosaic.Lib.Quiescent
public import Idealize.ShloMosaic.Lib.Pointwise

@[expose] public section

set_option maxRecDepth 16384

noncomputable section

namespace Cert.AdamOdInClaim

open Idealize.ShloMosaic Idealize.SL.Sem Idealize.ShloMosaic.TcCoe Cert.AdamOdInRefIdeal Cert.AdamOdInRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) _⟩) (Cert.AdamOdInRefIdeal.Value.run m g)

variable (w g mo ve : FVec Ideal S1024x768 .f32)

/-- The weight's change. -/
theorem delta_eq : Cert.AdamOdInIdeal.Value.G4 (F := Ideal) g mo ve w = val_main_v23 (F := Ideal) w g mo ve := by
  funext i
  pointwise [Cert.AdamOdInIdeal.Value.G4, val_main_v23, val_main_v22, val_main_cst_7, val_main_v21, val_main_v20, val_main_v19, val_main_cst_6,
    val_main_v18, val_main_v17, val_main_v16, val_main_cst_5, val_main_v15, val_main_v14, val_main_v13, val_main_cst_4, val_main_v12,
    val_main_v11, val_main_cst_3, val_main_v10, val_main_v9, val_main_v8, val_main_cst_2, val_main_v7, val_main_v6, val_main_v5, val_main_cst_1,
    val_main_v4, val_main_v3, val_main_v2, val_main_cst_0, val_main_v1, val_main_v0, val_main_cst]

/-- The gradient's running mean. -/
theorem mean_eq : Cert.AdamOdInIdeal.Value.G5 (F := Ideal) g mo = val_main_v4 (F := Ideal) g mo := by
  funext i
  pointwise [Cert.AdamOdInIdeal.Value.G5, val_main_v4, val_main_v3, val_main_v2, val_main_cst_0, val_main_v1, val_main_v0, val_main_cst]

/-- The squared gradient's running mean. -/
theorem square_eq : Cert.AdamOdInIdeal.Value.G6 (F := Ideal) g ve = val_main_v10 (F := Ideal) g ve := by
  funext i
  pointwise [Cert.AdamOdInIdeal.Value.G6, val_main_v10, val_main_v9, val_main_v8, val_main_cst_2, val_main_v7, val_main_v6, val_main_v5, val_main_cst_1]

theorem algebraic : Cert.algebraic_AdamOdInIdeal_AdamOdInRefIdeal := by
  intro m g m' g' _ hag
  refine ⟨_, _, _, Cert.AdamOdInIdeal.Value.run m g, ?_⟩
  refine (θ_run _ _ _).mono (fun r h c => ?_) (Cert.AdamOdInRefIdeal.Value.run m' g')
  obtain ⟨h1, h2, h3, h4⟩ := h c
  obtain ⟨e0, e1, e2, e3⟩ := hag c
  refine ⟨h1.trans ?_, h2.trans ?_, h3.trans ?_, h4⟩
  · refine Eq.trans ?_ (delta_eq _ _ _ _).symm
    rw [e0, e1, e2, e3]
    exact val_main_v23_eq ..
  · refine Eq.trans ?_ (mean_eq _ _).symm
    rw [e1, e2]
    exact val_main_v4_eq ..
  · refine Eq.trans ?_ (square_eq _ _).symm
    rw [e1, e3]
    exact val_main_v10_eq ..

end Cert.AdamOdInClaim

end
-- ==== Proof.AdamXaClaim.lean ====
/-
  Hand-written, untrusted. The optimiser's step on a shard of the memory attention's query or output projection: the kernel's three results are the reference's,
  entry by entry the same operations.
-/
module

public import proofs.«01_k».proof.Defs
public import proofs.«01_k».proof.Proof.Gen.AdamXaIdeal.Value
public import proofs.«01_k».proof.Proof.Gen.AdamXaRefIdeal.Run
public import proofs.«01_k».proof.Proof.Gen.AdamXaRefIdeal.Read
public import Idealize.ShloMosaic.Lib.Quiescent
public import Idealize.ShloMosaic.Lib.Pointwise

@[expose] public section

set_option maxRecDepth 16384

noncomputable section

namespace Cert.AdamXaClaim

open Idealize.ShloMosaic Idealize.SL.Sem Idealize.ShloMosaic.TcCoe Cert.AdamXaRefIdeal Cert.AdamXaRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) _⟩) (Cert.AdamXaRefIdeal.Value.run m g)

variable (w g mo ve : FVec Ideal S512x1024 .f32)

/-- The weight's change. -/
theorem delta_eq : Cert.AdamXaIdeal.Value.G4 (F := Ideal) g mo ve w = val_main_v23 (F := Ideal) w g mo ve := by
  funext i
  pointwise [Cert.AdamXaIdeal.Value.G4, val_main_v23, val_main_v22, val_main_cst_7, val_main_v21, val_main_v20, val_main_v19, val_main_cst_6,
    val_main_v18, val_main_v17, val_main_v16, val_main_cst_5, val_main_v15, val_main_v14, val_main_v13, val_main_cst_4, val_main_v12,
    val_main_v11, val_main_cst_3, val_main_v10, val_main_v9, val_main_v8, val_main_cst_2, val_main_v7, val_main_v6, val_main_v5, val_main_cst_1,
    val_main_v4, val_main_v3, val_main_v2, val_main_cst_0, val_main_v1, val_main_v0, val_main_cst]

/-- The gradient's running mean. -/
theorem mean_eq : Cert.AdamXaIdeal.Value.G5 (F := Ideal) g mo = val_main_v4 (F := Ideal) g mo := by
  funext i
  pointwise [Cert.AdamXaIdeal.Value.G5, val_main_v4, val_main_v3, val_main_v2, val_main_cst_0, val_main_v1, val_main_v0, val_main_cst]

/-- The squared gradient's running mean. -/
theorem square_eq : Cert.AdamXaIdeal.Value.G6 (F := Ideal) g ve = val_main_v10 (F := Ideal) g ve := by
  funext i
  pointwise [Cert.AdamXaIdeal.Value.G6, val_main_v10, val_main_v9, val_main_v8, val_main_cst_2, val_main_v7, val_main_v6, val_main_v5, val_main_cst_1]

theorem algebraic : Cert.algebraic_AdamXaIdeal_AdamXaRefIdeal := by
  intro m g m' g' _ hag
  refine ⟨_, _, _, Cert.AdamXaIdeal.Value.run m g, ?_⟩
  refine (θ_run _ _ _).mono (fun r h c => ?_) (Cert.AdamXaRefIdeal.Value.run m' g')
  obtain ⟨h1, h2, h3, h4⟩ := h c
  obtain ⟨e0, e1, e2, e3⟩ := hag c
  refine ⟨h1.trans ?_, h2.trans ?_, h3.trans ?_, h4⟩
  · refine Eq.trans ?_ (delta_eq _ _ _ _).symm
    rw [e0, e1, e2, e3]
    exact val_main_v23_eq ..
  · refine Eq.trans ?_ (mean_eq _ _).symm
    rw [e1, e2]
    exact val_main_v4_eq ..
  · refine Eq.trans ?_ (square_eq _ _).symm
    rw [e1, e3]
    exact val_main_v10_eq ..

end Cert.AdamXaClaim

end
-- ==== Proof.AdamKvClaim.lean ====
/-
  Hand-written, untrusted. The optimiser's step on a shard of the memory attention's key and value projection: the kernel's three results are the reference's,
  entry by entry the same operations.
-/
module

public import proofs.«01_k».proof.Defs
public import proofs.«01_k».proof.Proof.Gen.AdamKvIdeal.Value
public import proofs.«01_k».proof.Proof.Gen.AdamKvRefIdeal.Run
public import proofs.«01_k».proof.Proof.Gen.AdamKvRefIdeal.Read
public import Idealize.ShloMosaic.Lib.Quiescent
public import Idealize.ShloMosaic.Lib.Pointwise

@[expose] public section

set_option maxRecDepth 16384

noncomputable section

namespace Cert.AdamKvClaim

open Idealize.ShloMosaic Idealize.SL.Sem Idealize.ShloMosaic.TcCoe Cert.AdamKvRefIdeal Cert.AdamKvRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) _⟩) (Cert.AdamKvRefIdeal.Value.run m g)

variable (w g mo ve : FVec Ideal S2048x512 .f32)

/-- The weight's change. -/
theorem delta_eq : Cert.AdamKvIdeal.Value.G4 (F := Ideal) g mo ve w = val_main_v23 (F := Ideal) w g mo ve := by
  funext i
  pointwise [Cert.AdamKvIdeal.Value.G4, val_main_v23, val_main_v22, val_main_cst_7, val_main_v21, val_main_v20, val_main_v19, val_main_cst_6,
    val_main_v18, val_main_v17, val_main_v16, val_main_cst_5, val_main_v15, val_main_v14, val_main_v13, val_main_cst_4, val_main_v12,
    val_main_v11, val_main_cst_3, val_main_v10, val_main_v9, val_main_v8, val_main_cst_2, val_main_v7, val_main_v6, val_main_v5, val_main_cst_1,
    val_main_v4, val_main_v3, val_main_v2, val_main_cst_0, val_main_v1, val_main_v0, val_main_cst]

/-- The gradient's running mean. -/
theorem mean_eq : Cert.AdamKvIdeal.Value.G5 (F := Ideal) g mo = val_main_v4 (F := Ideal) g mo := by
  funext i
  pointwise [Cert.AdamKvIdeal.Value.G5, val_main_v4, val_main_v3, val_main_v2, val_main_cst_0, val_main_v1, val_main_v0, val_main_cst]

/-- The squared gradient's running mean. -/
theorem square_eq : Cert.AdamKvIdeal.Value.G6 (F := Ideal) g ve = val_main_v10 (F := Ideal) g ve := by
  funext i
  pointwise [Cert.AdamKvIdeal.Value.G6, val_main_v10, val_main_v9, val_main_v8, val_main_cst_2, val_main_v7, val_main_v6, val_main_v5, val_main_cst_1]

theorem algebraic : Cert.algebraic_AdamKvIdeal_AdamKvRefIdeal := by
  intro m g m' g' _ hag
  refine ⟨_, _, _, Cert.AdamKvIdeal.Value.run m g, ?_⟩
  refine (θ_run _ _ _).mono (fun r h c => ?_) (Cert.AdamKvRefIdeal.Value.run m' g')
  obtain ⟨h1, h2, h3, h4⟩ := h c
  obtain ⟨e0, e1, e2, e3⟩ := hag c
  refine ⟨h1.trans ?_, h2.trans ?_, h3.trans ?_, h4⟩
  · refine Eq.trans ?_ (delta_eq _ _ _ _).symm
    rw [e0, e1, e2, e3]
    exact val_main_v23_eq ..
  · refine Eq.trans ?_ (mean_eq _ _).symm
    rw [e1, e2]
    exact val_main_v4_eq ..
  · refine Eq.trans ?_ (square_eq _ _).symm
    rw [e1, e3]
    exact val_main_v10_eq ..

end Cert.AdamKvClaim

end
-- ==== Proof.AdamSmallClaim.lean ====
/-
  Hand-written, untrusted. The optimiser's step on the gains and sinks, packed into rows: the kernel's three results are the reference's,
  entry by entry the same operations.
-/
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Quiescent
public import Idealize.ShloMosaic.Lib.Pointwise

@[expose] public section

set_option maxRecDepth 16384

noncomputable section

namespace Cert.AdamSmallClaim

open Idealize.ShloMosaic Idealize.SL.Sem Idealize.ShloMosaic.TcCoe Cert.AdamSmallRefIdeal Cert.AdamSmallRefIdeal.Read

/-- The reference runs, keeps its arguments, and has no semaphore to leave raised. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) _⟩) (Cert.AdamSmallRefIdeal.Value.run m g)

variable (w g mo ve : FVec Ideal S16x1024 .f32)

/-- The weight's change. -/
theorem delta_eq : Cert.AdamSmallIdeal.Value.G4 (F := Ideal) g mo ve w = val_main_v23 (F := Ideal) w g mo ve := by
  funext i
  pointwise [Cert.AdamSmallIdeal.Value.G4, val_main_v23, val_main_v22, val_main_cst_7, val_main_v21, val_main_v20, val_main_v19, val_main_cst_6,
    val_main_v18, val_main_v17, val_main_v16, val_main_cst_5, val_main_v15, val_main_v14, val_main_v13, val_main_cst_4, val_main_v12,
    val_main_v11, val_main_cst_3, val_main_v10, val_main_v9, val_main_v8, val_main_cst_2, val_main_v7, val_main_v6, val_main_v5, val_main_cst_1,
    val_main_v4, val_main_v3, val_main_v2, val_main_cst_0, val_main_v1, val_main_v0, val_main_cst]

/-- The gradient's running mean. -/
theorem mean_eq : Cert.AdamSmallIdeal.Value.G5 (F := Ideal) g mo = val_main_v4 (F := Ideal) g mo := by
  funext i
  pointwise [Cert.AdamSmallIdeal.Value.G5, val_main_v4, val_main_v3, val_main_v2, val_main_cst_0, val_main_v1, val_main_v0, val_main_cst]

/-- The squared gradient's running mean. -/
theorem square_eq : Cert.AdamSmallIdeal.Value.G6 (F := Ideal) g ve = val_main_v10 (F := Ideal) g ve := by
  funext i
  pointwise [Cert.AdamSmallIdeal.Value.G6, val_main_v10, val_main_v9, val_main_v8, val_main_cst_2, val_main_v7, val_main_v6, val_main_v5, val_main_cst_1]

theorem algebraic : Cert.algebraic_AdamSmallIdeal_AdamSmallRefIdeal := by
  intro m g m' g' _ hag
  refine ⟨_, _, _, Cert.AdamSmallIdeal.Value.run m g, ?_⟩
  refine (θ_run _ _ _).mono (fun r h c => ?_) (Cert.AdamSmallRefIdeal.Value.run m' g')
  obtain ⟨h1, h2, h3, h4⟩ := h c
  obtain ⟨e0, e1, e2, e3⟩ := hag c
  refine ⟨h1.trans ?_, h2.trans ?_, h3.trans ?_, h4⟩
  · refine Eq.trans ?_ (delta_eq _ _ _ _).symm
    rw [e0, e1, e2, e3]
    exact val_main_v23_eq ..
  · refine Eq.trans ?_ (mean_eq _ _).symm
    rw [e1, e2]
    exact val_main_v4_eq ..
  · refine Eq.trans ?_ (square_eq _ _).symm
    rw [e1, e3]
    exact val_main_v10_eq ..

end Cert.AdamSmallClaim

end
-- ==== Proof.lean ====
/- The certificate: every claim about the calls, assembled from the modules under `Proof/`. -/
module

public import proofs.«01_k».proof.Defs
public import proofs.«01_k».proof.Proof.Gen.Kernel.Frame
public import proofs.«01_k».proof.Proof.Gen.KernelIdeal.Frame
public import proofs.«01_k».proof.Proof.AttnClaim
public import proofs.«01_k».proof.Proof.Gen.Gate.Frame
public import proofs.«01_k».proof.Proof.Gen.GateIdeal.Frame
public import proofs.«01_k».proof.Proof.GateClaim
public import proofs.«01_k».proof.Proof.Gen.Dw.Frame
public import proofs.«01_k».proof.Proof.Gen.DwIdeal.Frame
public import proofs.«01_k».proof.Proof.DwClaim
public import proofs.«01_k».proof.Proof.Gen.Dx.Frame
public import proofs.«01_k».proof.Proof.Gen.DxIdeal.Frame
public import proofs.«01_k».proof.Proof.DxClaim
public import proofs.«01_k».proof.Proof.Gen.Fwd.Frame
public import proofs.«01_k».proof.Proof.Gen.FwdIdeal.Frame
public import proofs.«01_k».proof.Proof.FwdClaim
public import proofs.«01_k».proof.Proof.Gen.Nn.Frame
public import proofs.«01_k».proof.Proof.Gen.NnIdeal.Frame
public import proofs.«01_k».proof.Proof.NnClaim
public import proofs.«01_k».proof.Proof.Gen.Nt.Frame
public import proofs.«01_k».proof.Proof.Gen.NtIdeal.Frame
public import proofs.«01_k».proof.Proof.NtClaim
public import proofs.«01_k».proof.Proof.Gen.Sq.Frame
public import proofs.«01_k».proof.Proof.Gen.SqIdeal.Frame
public import proofs.«01_k».proof.Proof.SqClaim
public import proofs.«01_k».proof.Proof.Gen.Loss.Frame
public import proofs.«01_k».proof.Proof.Gen.LossIdeal.Frame
public import proofs.«01_k».proof.Proof.LossClaim
public import proofs.«01_k».proof.Proof.Gen.Xf.Frame
public import proofs.«01_k».proof.Proof.Gen.XfIdeal.Frame
public import proofs.«01_k».proof.Proof.XfClaim
public import proofs.«01_k».proof.Proof.Gen.Swa.Frame
public import proofs.«01_k».proof.Proof.Gen.SwaIdeal.Frame
public import proofs.«01_k».proof.Proof.SwaClaim
public import proofs.«01_k».proof.Proof.Gen.TnEv.Frame
public import proofs.«01_k».proof.Proof.Gen.TnEvIdeal.Frame
public import proofs.«01_k».proof.Proof.TnEvClaim
public import proofs.«01_k».proof.Proof.Gen.TnOd.Frame
public import proofs.«01_k».proof.Proof.Gen.TnOdIdeal.Frame
public import proofs.«01_k».proof.Proof.TnOdClaim
public import proofs.«01_k».proof.Proof.Gen.TnQ.Frame
public import proofs.«01_k».proof.Proof.Gen.TnQIdeal.Frame
public import proofs.«01_k».proof.Proof.TnQClaim
public import proofs.«01_k».proof.Proof.Gen.TnKv.Frame
public import proofs.«01_k».proof.Proof.Gen.TnKvIdeal.Frame
public import proofs.«01_k».proof.Proof.TnKvClaim
public import proofs.«01_k».proof.Proof.Gen.NbEv.Frame
public import proofs.«01_k».proof.Proof.Gen.NbEvIdeal.Frame
public import proofs.«01_k».proof.Proof.NbEvClaim
public import proofs.«01_k».proof.Proof.Gen.NbOd.Frame
public import proofs.«01_k».proof.Proof.Gen.NbOdIdeal.Frame
public import proofs.«01_k».proof.Proof.NbOdClaim
public import proofs.«01_k».proof.Proof.Gen.NbXa.Frame
public import proofs.«01_k».proof.Proof.Gen.NbXaIdeal.Frame
public import proofs.«01_k».proof.Proof.NbXaClaim
public import proofs.«01_k».proof.Proof.Gen.NbMem.Frame
public import proofs.«01_k».proof.Proof.Gen.NbMemIdeal.Frame
public import proofs.«01_k».proof.Proof.NbMemClaim
public import proofs.«01_k».proof.Proof.Gen.AdamGu.Frame
public import proofs.«01_k».proof.Proof.Gen.AdamGuIdeal.Frame
public import proofs.«01_k».proof.Proof.AdamGuClaim
public import proofs.«01_k».proof.Proof.Gen.AdamDown.Frame
public import proofs.«01_k».proof.Proof.Gen.AdamDownIdeal.Frame
public import proofs.«01_k».proof.Proof.AdamDownClaim
public import proofs.«01_k».proof.Proof.Gen.AdamEvIn.Frame
public import proofs.«01_k».proof.Proof.Gen.AdamEvInIdeal.Frame
public import proofs.«01_k».proof.Proof.AdamEvInClaim
public import proofs.«01_k».proof.Proof.Gen.AdamOut.Frame
public import proofs.«01_k».proof.Proof.Gen.AdamOutIdeal.Frame
public import proofs.«01_k».proof.Proof.AdamOutClaim
public import proofs.«01_k».proof.Proof.Gen.AdamOdIn.Frame
public import proofs.«01_k».proof.Proof.Gen.AdamOdInIdeal.Frame
public import proofs.«01_k».proof.Proof.AdamOdInClaim
public import proofs.«01_k».proof.Proof.Gen.AdamXa.Frame
public import proofs.«01_k».proof.Proof.Gen.AdamXaIdeal.Frame
public import proofs.«01_k».proof.Proof.AdamXaClaim
public import proofs.«01_k».proof.Proof.Gen.AdamKv.Frame
public import proofs.«01_k».proof.Proof.Gen.AdamKvIdeal.Frame
public import proofs.«01_k».proof.Proof.AdamKvClaim
public import proofs.«01_k».proof.Proof.Gen.AdamSmall.Frame
public import proofs.«01_k».proof.Proof.Gen.AdamSmallIdeal.Frame
public import proofs.«01_k».proof.Proof.AdamSmallClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.Gate.Gen.facts,
  Cert.GateIdeal.Gen.facts,
  Cert.GateRefIdeal.Gen.facts,
  Cert.Dw.Gen.facts,
  Cert.DwIdeal.Gen.facts,
  Cert.DwRefIdeal.Gen.facts,
  Cert.Dx.Gen.facts,
  Cert.DxIdeal.Gen.facts,
  Cert.DxRefIdeal.Gen.facts,
  Cert.Fwd.Gen.facts,
  Cert.FwdIdeal.Gen.facts,
  Cert.FwdRefIdeal.Gen.facts,
  Cert.Nn.Gen.facts,
  Cert.NnIdeal.Gen.facts,
  Cert.NnRefIdeal.Gen.facts,
  Cert.Nt.Gen.facts,
  Cert.NtIdeal.Gen.facts,
  Cert.NtRefIdeal.Gen.facts,
  Cert.Sq.Gen.facts,
  Cert.SqIdeal.Gen.facts,
  Cert.SqRefIdeal.Gen.facts,
  Cert.Loss.Gen.facts,
  Cert.LossIdeal.Gen.facts,
  Cert.LossRefIdeal.Gen.facts,
  Cert.Xf.Gen.facts,
  Cert.XfIdeal.Gen.facts,
  Cert.XfRefIdeal.Gen.facts,
  Cert.Swa.Gen.facts,
  Cert.SwaIdeal.Gen.facts,
  Cert.SwaRefIdeal.Gen.facts,
  Cert.TnEv.Gen.facts,
  Cert.TnEvIdeal.Gen.facts,
  Cert.TnEvRefIdeal.Gen.facts,
  Cert.TnOd.Gen.facts,
  Cert.TnOdIdeal.Gen.facts,
  Cert.TnOdRefIdeal.Gen.facts,
  Cert.TnQ.Gen.facts,
  Cert.TnQIdeal.Gen.facts,
  Cert.TnQRefIdeal.Gen.facts,
  Cert.TnKv.Gen.facts,
  Cert.TnKvIdeal.Gen.facts,
  Cert.TnKvRefIdeal.Gen.facts,
  Cert.NbEv.Gen.facts,
  Cert.NbEvIdeal.Gen.facts,
  Cert.NbEvRefIdeal.Gen.facts,
  Cert.NbOd.Gen.facts,
  Cert.NbOdIdeal.Gen.facts,
  Cert.NbOdRefIdeal.Gen.facts,
  Cert.NbXa.Gen.facts,
  Cert.NbXaIdeal.Gen.facts,
  Cert.NbXaRefIdeal.Gen.facts,
  Cert.NbMem.Gen.facts,
  Cert.NbMemIdeal.Gen.facts,
  Cert.NbMemRefIdeal.Gen.facts,
  Cert.AdamGu.Gen.facts,
  Cert.AdamGuIdeal.Gen.facts,
  Cert.AdamGuRefIdeal.Gen.facts,
  Cert.AdamDown.Gen.facts,
  Cert.AdamDownIdeal.Gen.facts,
  Cert.AdamDownRefIdeal.Gen.facts,
  Cert.AdamEvIn.Gen.facts,
  Cert.AdamEvInIdeal.Gen.facts,
  Cert.AdamEvInRefIdeal.Gen.facts,
  Cert.AdamOut.Gen.facts,
  Cert.AdamOutIdeal.Gen.facts,
  Cert.AdamOutRefIdeal.Gen.facts,
  Cert.AdamOdIn.Gen.facts,
  Cert.AdamOdInIdeal.Gen.facts,
  Cert.AdamOdInRefIdeal.Gen.facts,
  Cert.AdamXa.Gen.facts,
  Cert.AdamXaIdeal.Gen.facts,
  Cert.AdamXaRefIdeal.Gen.facts,
  Cert.AdamKv.Gen.facts,
  Cert.AdamKvIdeal.Gen.facts,
  Cert.AdamKvRefIdeal.Gen.facts,
  Cert.AdamSmall.Gen.facts,
  Cert.AdamSmallIdeal.Gen.facts,
  Cert.AdamSmallRefIdeal.Gen.facts,
  Cert.Pre_finite_attn.Gen.facts,
  Cert.Pre_finite_gate.Gen.facts,
  Cert.Pre_finite_dx.Gen.facts,
  Cert.Pre_finite_xf.Gen.facts,
  Cert.Pre_finite_swa.Gen.facts,
  Cert.Pre_finite_nbev.Gen.facts,
  Cert.Pre_finite_nbod.Gen.facts,
  Cert.Pre_finite_nbxa.Gen.facts,
  fun m g _ => Cert.Kernel.Gen.frame m g,
  fun m g _ => Cert.KernelIdeal.Gen.frame m g,
  fun m g _ => Cert.KernelIdeal.Gen.frame m g,
  fun m g _ => Cert.AttnClaim.frame_ref m g,
  fun m g _ => Cert.AttnClaim.frame_ref m g,
  fun m g _ => Cert.Gate.Gen.frame m g,
  fun m g _ => Cert.GateIdeal.Gen.frame m g,
  fun m g _ => Cert.GateIdeal.Gen.frame m g,
  fun m g _ => Cert.GateClaim.frame_ref m g,
  fun m g _ => Cert.GateClaim.frame_ref m g,
  fun m g _ => Cert.Dw.Gen.frame m g,
  fun m g _ => Cert.DwIdeal.Gen.frame m g,
  fun m g _ => Cert.DwClaim.frame_ref m g,
  fun m g _ => Cert.Dx.Gen.frame m g,
  fun m g _ => Cert.DxIdeal.Gen.frame m g,
  fun m g _ => Cert.DxIdeal.Gen.frame m g,
  fun m g _ => Cert.DxClaim.frame_ref m g,
  fun m g _ => Cert.DxClaim.frame_ref m g,
  fun m g _ => Cert.Fwd.Gen.frame m g,
  fun m g _ => Cert.FwdIdeal.Gen.frame m g,
  fun m g _ => Cert.FwdClaim.frame_ref m g,
  fun m g _ => Cert.Nn.Gen.frame m g,
  fun m g _ => Cert.NnIdeal.Gen.frame m g,
  fun m g _ => Cert.NnClaim.frame_ref m g,
  fun m g _ => Cert.Nt.Gen.frame m g,
  fun m g _ => Cert.NtIdeal.Gen.frame m g,
  fun m g _ => Cert.NtClaim.frame_ref m g,
  fun m g _ => Cert.Sq.Gen.frame m g,
  fun m g _ => Cert.SqIdeal.Gen.frame m g,
  fun m g _ => Cert.SqClaim.frame_ref m g,
  fun m g _ => Cert.Loss.Gen.frame m g,
  fun m g _ => Cert.LossIdeal.Gen.frame m g,
  fun m g _ => Cert.LossClaim.frame_ref m g,
  fun m g _ => Cert.Xf.Gen.frame m g,
  fun m g _ => Cert.XfIdeal.Gen.frame m g,
  fun m g _ => Cert.XfIdeal.Gen.frame m g,
  fun m g _ => Cert.XfClaim.frame_ref m g,
  fun m g _ => Cert.XfClaim.frame_ref m g,
  fun m g _ => Cert.Swa.Gen.frame m g,
  fun m g _ => Cert.SwaIdeal.Gen.frame m g,
  fun m g _ => Cert.SwaIdeal.Gen.frame m g,
  fun m g _ => Cert.SwaClaim.frame_ref m g,
  fun m g _ => Cert.SwaClaim.frame_ref m g,
  fun m g _ => Cert.TnEv.Gen.frame m g,
  fun m g _ => Cert.TnEvIdeal.Gen.frame m g,
  fun m g _ => Cert.TnEvClaim.frame_ref m g,
  fun m g _ => Cert.TnOd.Gen.frame m g,
  fun m g _ => Cert.TnOdIdeal.Gen.frame m g,
  fun m g _ => Cert.TnOdClaim.frame_ref m g,
  fun m g _ => Cert.TnQ.Gen.frame m g,
  fun m g _ => Cert.TnQIdeal.Gen.frame m g,
  fun m g _ => Cert.TnQClaim.frame_ref m g,
  fun m g _ => Cert.TnKv.Gen.frame m g,
  fun m g _ => Cert.TnKvIdeal.Gen.frame m g,
  fun m g _ => Cert.TnKvClaim.frame_ref m g,
  fun m g _ => Cert.NbEv.Gen.frame m g,
  fun m g _ => Cert.NbEvIdeal.Gen.frame m g,
  fun m g _ => Cert.NbEvIdeal.Gen.frame m g,
  fun m g _ => Cert.NbEvClaim.frame_ref m g,
  fun m g _ => Cert.NbEvClaim.frame_ref m g,
  fun m g _ => Cert.NbOd.Gen.frame m g,
  fun m g _ => Cert.NbOdIdeal.Gen.frame m g,
  fun m g _ => Cert.NbOdIdeal.Gen.frame m g,
  fun m g _ => Cert.NbOdClaim.frame_ref m g,
  fun m g _ => Cert.NbOdClaim.frame_ref m g,
  fun m g _ => Cert.NbXa.Gen.frame m g,
  fun m g _ => Cert.NbXaIdeal.Gen.frame m g,
  fun m g _ => Cert.NbXaIdeal.Gen.frame m g,
  fun m g _ => Cert.NbXaClaim.frame_ref m g,
  fun m g _ => Cert.NbXaClaim.frame_ref m g,
  fun m g _ => Cert.NbMem.Gen.frame m g,
  fun m g _ => Cert.NbMemIdeal.Gen.frame m g,
  fun m g _ => Cert.NbMemClaim.frame_ref m g,
  fun m g _ => Cert.AdamGu.Gen.frame m g,
  fun m g _ => Cert.AdamGuIdeal.Gen.frame m g,
  fun m g _ => Cert.AdamGuClaim.frame_ref m g,
  fun m g _ => Cert.AdamDown.Gen.frame m g,
  fun m g _ => Cert.AdamDownIdeal.Gen.frame m g,
  fun m g _ => Cert.AdamDownClaim.frame_ref m g,
  fun m g _ => Cert.AdamEvIn.Gen.frame m g,
  fun m g _ => Cert.AdamEvInIdeal.Gen.frame m g,
  fun m g _ => Cert.AdamEvInClaim.frame_ref m g,
  fun m g _ => Cert.AdamOut.Gen.frame m g,
  fun m g _ => Cert.AdamOutIdeal.Gen.frame m g,
  fun m g _ => Cert.AdamOutClaim.frame_ref m g,
  fun m g _ => Cert.AdamOdIn.Gen.frame m g,
  fun m g _ => Cert.AdamOdInIdeal.Gen.frame m g,
  fun m g _ => Cert.AdamOdInClaim.frame_ref m g,
  fun m g _ => Cert.AdamXa.Gen.frame m g,
  fun m g _ => Cert.AdamXaIdeal.Gen.frame m g,
  fun m g _ => Cert.AdamXaClaim.frame_ref m g,
  fun m g _ => Cert.AdamKv.Gen.frame m g,
  fun m g _ => Cert.AdamKvIdeal.Gen.frame m g,
  fun m g _ => Cert.AdamKvClaim.frame_ref m g,
  fun m g _ => Cert.AdamSmall.Gen.frame m g,
  fun m g _ => Cert.AdamSmallIdeal.Gen.frame m g,
  fun m g _ => Cert.AdamSmallClaim.frame_ref m g,
  trivial,
  Cert.AttnClaim.algebraic,
  trivial,
  Cert.GateClaim.algebraic,
  trivial,
  Cert.DwClaim.algebraic,
  trivial,
  Cert.DxClaim.algebraic,
  trivial,
  Cert.FwdClaim.algebraic,
  trivial,
  Cert.NnClaim.algebraic,
  trivial,
  Cert.NtClaim.algebraic,
  trivial,
  Cert.SqClaim.algebraic,
  trivial,
  Cert.LossClaim.algebraic,
  trivial,
  Cert.XfClaim.algebraic,
  Cert.SwaClaim.preserves,
  Cert.SwaClaim.algebraic,
  trivial,
  Cert.TnEvClaim.algebraic,
  trivial,
  Cert.TnOdClaim.algebraic,
  trivial,
  Cert.TnQClaim.algebraic,
  trivial,
  Cert.TnKvClaim.algebraic,
  trivial,
  Cert.NbEvClaim.algebraic,
  trivial,
  Cert.NbOdClaim.algebraic,
  trivial,
  Cert.NbXaClaim.algebraic,
  trivial,
  Cert.NbMemClaim.algebraic,
  trivial,
  Cert.AdamGuClaim.algebraic,
  trivial,
  Cert.AdamDownClaim.algebraic,
  trivial,
  Cert.AdamEvInClaim.algebraic,
  trivial,
  Cert.AdamOutClaim.algebraic,
  trivial,
  Cert.AdamOdInClaim.algebraic,
  trivial,
  Cert.AdamXaClaim.algebraic,
  trivial,
  Cert.AdamKvClaim.algebraic,
  trivial,
  Cert.AdamSmallClaim.algebraic⟩

end Cert.Proof

end
